-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scales [hPre_finite_scales : Cert.Pre_finite_scales.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scales [hPre_finite_scales : Cert.Pre_finite_scales.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_scales [hKernelIdeal : Cert.KernelIdeal.Facts] [hPre_finite_scales : Cert.Pre_finite_scales.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scales m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_scales [hReferenceIdeal : Cert.ReferenceIdeal.Facts] [hPre_finite_scales : Cert.Pre_finite_scales.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scales m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "neg_inf" .f32 0xF149F2CA#32 ⊥

def algebraic_KernelIdeal_ReferenceIdeal_pre_finite_scales [hKernelIdeal : Cert.KernelIdeal.Facts] [hReferenceIdeal : Cert.ReferenceIdeal.Facts] [hPre_finite_scales : Cert.Pre_finite_scales.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scales m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v42)) (v1 : (c : Dev Cert.KernelIdeal.nD) → Buf (Elt Ideal) ((c.tc : Thread Cert.KernelIdeal.nD Cert.KernelIdeal.τ).loc Cert.KernelIdeal.main_v44)) (v2 : (c : Dev Cert.KernelIdeal.nD) → Buf (Elt Ideal) ((c.tc : Thread Cert.KernelIdeal.nD Cert.KernelIdeal.τ).loc Cert.KernelIdeal.main_v46)) (v3 : (c : Dev Cert.KernelIdeal.nD) → Buf (Elt Ideal) ((c.tc : Thread Cert.KernelIdeal.nD Cert.KernelIdeal.τ).loc Cert.KernelIdeal.main_v36)) (v4 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_v44) = v1 c
          ∧ r.2.mem ((c.tc : Thread Cert.KernelIdeal.nD Cert.KernelIdeal.τ).loc Cert.KernelIdeal.main_v46) = v2 c
          ∧ r.2.mem ((c.tc : Thread Cert.KernelIdeal.nD Cert.KernelIdeal.τ).loc Cert.KernelIdeal.main_v36) = v3 c
          ∧ r.2.mem ((c.tc : Thread Cert.KernelIdeal.nD Cert.KernelIdeal.τ).loc Cert.KernelIdeal.main_v40) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_v82) = v2 c
          ∧ r.2.mem ((c.tc : Thread Cert.ReferenceIdeal.nD Cert.ReferenceIdeal.τ).loc Cert.ReferenceIdeal.main_v83) = v3 c
          ∧ r.2.mem ((c.tc : Thread Cert.ReferenceIdeal.nD Cert.ReferenceIdeal.τ).loc Cert.ReferenceIdeal.main_v87) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_scales : Cert.Pre_finite_scales.Facts),
    quiescent_Kernel (hKernel := hKernel)
    ∧ quiescent_KernelIdeal (hKernelIdeal := hKernelIdeal)
    ∧ quiescent_KernelIdeal_pre_finite_scales (hKernelIdeal := hKernelIdeal) (hPre_finite_scales := hPre_finite_scales)
    ∧ quiescent_ReferenceIdeal (hReferenceIdeal := hReferenceIdeal)
    ∧ quiescent_ReferenceIdeal_pre_finite_scales (hReferenceIdeal := hReferenceIdeal) (hPre_finite_scales := hPre_finite_scales)
    ∧ preserves_Kernel_KernelIdeal
    ∧ algebraic_KernelIdeal_ReferenceIdeal_pre_finite_scales (hKernelIdeal := hKernelIdeal) (hReferenceIdeal := hReferenceIdeal) (hPre_finite_scales := hPre_finite_scales)
-- ==== Pre_finite_scales.lean ====
abbrev S3x4096x20x128 : Shape := ⟨4, ![3, 4096, 20, 128]⟩
abbrev S3x20 : Shape := ⟨2, ![3, 20]⟩
abbrev S3x4096x20 : Shape := ⟨3, ![3, 4096, 20]⟩
abbrev S_ : Shape := ⟨0, ![]⟩

class Facts : Prop where
  bcast_S_S3x4096x20 : S_.BroadcastsInDim S3x4096x20 (![] : Fin 0 → Fin S3x4096x20.rank)
  reducesTo_S3x4096x20_S_d0_1_2 : S3x4096x20.ReducesTo [0, 1, 2] S_
  h_S_ : 0 < S_.numel
  bcast_S_S3x20 : S_.BroadcastsInDim S3x20 (![] : Fin 0 → Fin S3x20.rank)
  reducesTo_S3x20_S_d0_1 : S3x20.ReducesTo [0, 1] S_

variable [Facts]

def fn_part1 {F : FTy → Type} [FloatOps F] (main_arg5 : FVec F S3x20 .f32) (main_arg7 : FVec F S3x20 .f32) (main_v13 : IVec S_ 1) (main_v15 : IVec S3x20 1) (main_cst_5 : FVec F S_ .f32) : IVec S_ 1 :=
  let main_v16 : FVec F S3x20 .f32 := broadcastInDim S3x20 ![] bcast_S_S3x20 main_cst_5
  let main_v17 : IVec S3x20 1 := cmpf .olt main_arg5 main_v16
  let main_v18 : IVec S3x20 1 := andi main_v15 main_v17
  let main_c_6 : IVec S_ 1 := constantI S_ 1 1#1
  let main_v19 : IVec S_ 1 := (fun x v => Host.reduce IntOp.andi x v reducesTo_S3x20_S_d0_1 h_S_) main_v18 main_c_6
  let main_v20 : IVec S_ 1 := andi main_v13 main_v19
  let main_cst_7 : FVec F S_ .f32 := constant S_ .f32 0x00000000#32
  let main_v21 : FVec F S3x20 .f32 := broadcastInDim S3x20 ![] bcast_S_S3x20 main_cst_7
  let main_v22 : IVec S3x20 1 := cmpf .oge main_arg7 main_v21
  let main_cst_8 : FVec F S_ .f32 := constant S_ .f32 0x7F800000#32
  let main_v23 : FVec F S3x20 .f32 := broadcastInDim S3x20 ![] bcast_S_S3x20 main_cst_8
  let main_v24 : IVec S3x20 1 := cmpf .olt main_arg7 main_v23
  let main_v25 : IVec S3x20 1 := andi main_v22 main_v24
  let main_c_9 : IVec S_ 1 := constantI S_ 1 1#1
  let main_v26 : IVec S_ 1 := (fun x v => Host.reduce IntOp.andi x v reducesTo_S3x20_S_d0_1 h_S_) main_v25 main_c_9
  let main_v27 : IVec S_ 1 := andi main_v20 main_v26
  main_v27

def fn {F : FTy → Type} [FloatOps F] (main_arg0 : FVec F S3x4096x20x128 .fp8e4m3) (main_arg1 : FVec F S3x20 .f32) (main_arg2 : FVec F S3x4096x20x128 .fp8e4m3) (main_arg3 : FVec F S3x20 .f32) (main_arg4 : FVec F S3x4096x20x128 .fp8e4m3) (main_arg5 : FVec F S3x20 .f32) (main_arg6 : FVec F S3x4096x20x128 .fp8e5m2) (main_arg7 : FVec F S3x20 .f32) (main_arg8 : FVec F S3x4096x20 .f32) : IVec S_ 1 :=
  let main_v0 : FVec F S3x4096x20 .f32 := Host.absf main_arg8
  let main_cst : FVec F S_ .f32 := constant S_ .f32 0x7F800000#32
  let main_v1 : FVec F S3x4096x20 .f32 := broadcastInDim S3x4096x20 ![] bcast_S_S3x4096x20 main_cst
  let main_v2 : IVec S3x4096x20 1 := cmpf .olt main_v0 main_v1
  let main_c : IVec S_ 1 := constantI S_ 1 1#1
  let main_v3 : IVec S_ 1 := (fun x v => Host.reduce IntOp.andi x v reducesTo_S3x4096x20_S_d0_1_2 h_S_) main_v2 main_c
  let main_v4 : FVec F S3x20 .f32 := Host.absf main_arg1
  let main_cst_0 : FVec F S_ .f32 := constant S_ .f32 0x7F800000#32
  let main_v5 : FVec F S3x20 .f32 := broadcastInDim S3x20 ![] bcast_S_S3x20 main_cst_0
  let main_v6 : IVec S3x20 1 := cmpf .olt main_v4 main_v5
  let main_c_1 : IVec S_ 1 := constantI S_ 1 1#1
  let main_v7 : IVec S_ 1 := (fun x v => Host.reduce IntOp.andi x v reducesTo_S3x20_S_d0_1 h_S_) main_v6 main_c_1
  let main_v8 : IVec S_ 1 := andi main_v3 main_v7
  let main_v9 : FVec F S3x20 .f32 := Host.absf main_arg3
  let main_cst_2 : FVec F S_ .f32 := constant S_ .f32 0x7F800000#32
  let main_v10 : FVec F S3x20 .f32 := broadcastInDim S3x20 ![] bcast_S_S3x20 main_cst_2
  let main_v11 : IVec S3x20 1 := cmpf .olt main_v9 main_v10
  let main_c_3 : IVec S_ 1 := constantI S_ 1 1#1
  let main_v12 : IVec S_ 1 := (fun x v => Host.reduce IntOp.andi x v reducesTo_S3x20_S_d0_1 h_S_) main_v11 main_c_3
  let main_v13 : IVec S_ 1 := andi main_v8 main_v12
  let main_cst_4 : FVec F S_ .f32 := constant S_ .f32 0x00000000#32
  let main_v14 : FVec F S3x20 .f32 := broadcastInDim S3x20 ![] bcast_S_S3x20 main_cst_4
  let main_v15 : IVec S3x20 1 := cmpf .oge main_arg5 main_v14
  let main_cst_5 : FVec F S_ .f32 := constant S_ .f32 0x7F800000#32
  fn_part1 (F := F) main_arg5 main_arg7 main_v13 main_v15 main_cst_5
-- ==== Kernel.lean ====
abbrev S3x4096x20x128 : Shape := ⟨4, ![3, 4096, 20, 128]⟩
abbrev S3x20 : Shape := ⟨2, ![3, 20]⟩
abbrev S3x4096x20 : Shape := ⟨3, ![3, 4096, 20]⟩
abbrev S_ : Shape := ⟨0, ![]⟩
abbrev S3x20x4096 : Shape := ⟨3, ![3, 20, 4096]⟩
abbrev S60x8x512 : Shape := ⟨3, ![60, 8, 512]⟩
abbrev S60x8x1 : Shape := ⟨3, ![60, 8, 1]⟩
abbrev S60x8 : Shape := ⟨2, ![60, 8]⟩
abbrev S3x20x1 : Shape := ⟨3, ![3, 20, 1]⟩
abbrev S3x20x6 : Shape := ⟨3, ![3, 20, 6]⟩
abbrev S60x6 : Shape := ⟨2, ![60, 6]⟩
abbrev S3x20x4096x128 : Shape := ⟨4, ![3, 20, 4096, 128]⟩
abbrev S60x4096x128 : Shape := ⟨3, ![60, 4096, 128]⟩
abbrev S1x4096x128 : Shape := ⟨3, ![1, 4096, 128]⟩
abbrev S1x8x512 : Shape := ⟨3, ![1, 8, 512]⟩
abbrev S2x8x512x512 : Shape := ⟨4, ![2, 8, 512, 512]⟩
abbrev S8x128x512 : Shape := ⟨3, ![8, 128, 512]⟩
abbrev S512x128 : Shape := ⟨2, ![512, 128]⟩
abbrev S8x8x512 : Shape := ⟨3, ![8, 8, 512]⟩
abbrev S2x128x512 : Shape := ⟨3, ![2, 128, 512]⟩
abbrev S2x512x128 : Shape := ⟨3, ![2, 512, 128]⟩
abbrev S1x1 : Shape := ⟨2, ![1, 1]⟩
abbrev S1x1x512 : Shape := ⟨3, ![1, 1, 512]⟩
abbrev S1x512 : Shape := ⟨2, ![1, 512]⟩
abbrev S1x256x128 : Shape := ⟨3, ![1, 256, 128]⟩
abbrev S256x128 : Shape := ⟨2, ![256, 128]⟩
abbrev S1x512x128 : Shape := ⟨3, ![1, 512, 128]⟩
abbrev S256x512 : Shape := ⟨2, ![256, 512]⟩
abbrev S1x128 : Shape := ⟨2, ![1, 128]⟩
abbrev S256 : Shape := ⟨1, ![256]⟩
abbrev S256x1 : Shape := ⟨2, ![256, 1]⟩
abbrev S1x1x256x512 : Shape := ⟨4, ![1, 1, 256, 512]⟩
abbrev S128x512 : Shape := ⟨2, ![128, 512]⟩
abbrev S1x128x512 : Shape := ⟨3, ![1, 128, 512]⟩
abbrev S512 : Shape := ⟨1, ![512]⟩
abbrev S512x1 : Shape := ⟨2, ![512, 1]⟩
abbrev S1 : Shape := ⟨1, ![1]⟩
abbrev S1x1x1 : Shape := ⟨3, ![1, 1, 1]⟩
abbrev S1x1x256x128 : Shape := ⟨4, ![1, 1, 256, 128]⟩
abbrev S32x8x512 : Shape := ⟨3, ![32, 8, 512]⟩
abbrev S8x512 : Shape := ⟨2, ![8, 512]⟩
abbrev S512x512 : Shape := ⟨2, ![512, 512]⟩

abbrev nBuf : Space → Nat
  | .hbm => 69
  | .vmem => 31
  | .smem => 2
  | _ => 0

abbrev bufTy : (tb : Table) → Fin (tcTables nBuf tb) → BufTy
  | .hbm, ⟨0, _⟩ => ⟨S3x4096x20x128, .fp8e4m3⟩
  | .hbm, ⟨1, _⟩ => ⟨S3x20, .f32⟩
  | .hbm, ⟨2, _⟩ => ⟨S3x4096x20x128, .fp8e4m3⟩
  | .hbm, ⟨3, _⟩ => ⟨S3x20, .f32⟩
  | .hbm, ⟨4, _⟩ => ⟨S3x4096x20x128, .fp8e4m3⟩
  | .hbm, ⟨5, _⟩ => ⟨S3x20, .f32⟩
  | .hbm, ⟨6, _⟩ => ⟨S3x4096x20x128, .fp8e5m2⟩
  | .hbm, ⟨7, _⟩ => ⟨S3x20, .f32⟩
  | .hbm, ⟨8, _⟩ => ⟨S3x4096x20, .f32⟩
  | .hbm, ⟨9, _⟩ => ⟨S_, .f32⟩
  | .hbm, ⟨10, _⟩ => ⟨S_, .f32⟩
  | .hbm, ⟨11, _⟩ => ⟨S3x4096x20, .f32⟩
  | .hbm, ⟨12, _⟩ => ⟨S3x20x4096, .f32⟩
  | .hbm, ⟨13, _⟩ => ⟨S60x8x512, .f32⟩
  | .hbm, ⟨14, _⟩ => ⟨S60x8x1, .f32⟩
  | .hbm, ⟨15, _⟩ => ⟨S60x8, .f32⟩
  | .hbm, ⟨16, _⟩ => ⟨S3x20, .f32⟩
  | .hbm, ⟨17, _⟩ => ⟨S_, .f32⟩
  | .hbm, ⟨18, _⟩ => ⟨S3x20, .f32⟩
  | .hbm, ⟨19, _⟩ => ⟨S3x20, .f32⟩
  | .hbm, ⟨20, _⟩ => ⟨S3x20, .f32⟩
  | .hbm, ⟨21, _⟩ => ⟨S_, .f32⟩
  | .hbm, ⟨22, _⟩ => ⟨S3x20, .f32⟩
  | .hbm, ⟨23, _⟩ => ⟨S3x20, .f32⟩
  | .hbm, ⟨24, _⟩ => ⟨S3x20, .f32⟩
  | .hbm, ⟨25, _⟩ => ⟨S_, .f32⟩
  | .hbm, ⟨26, _⟩ => ⟨S3x20, .f32⟩
  | .hbm, ⟨27, _⟩ => ⟨S3x20, .f32⟩
  | .hbm, ⟨28, _⟩ => ⟨S3x20, .f32⟩
  | .hbm, ⟨29, _⟩ => ⟨S_, .f32⟩
  | .hbm, ⟨30, _⟩ => ⟨S3x20, .f32⟩
  | .hbm, ⟨31, _⟩ => ⟨S3x20, .f32⟩
  | .hbm, ⟨32, _⟩ => ⟨S3x20, .f32⟩
  | .hbm, ⟨33, _⟩ => ⟨S3x20x1, .f32⟩
  | .hbm, ⟨34, _⟩ => ⟨S3x20x1, .f32⟩
  | .hbm, ⟨35, _⟩ => ⟨S3x20x1, .f32⟩
  | .hbm, ⟨36, _⟩ => ⟨S3x20x1, .f32⟩
  | .hbm, ⟨37, _⟩ => ⟨S3x20x1, .f32⟩
  | .hbm, ⟨38, _⟩ => ⟨S3x20x1, .f32⟩
  | .hbm, ⟨39, _⟩ => ⟨S3x20x6, .f32⟩
  | .hbm, ⟨40, _⟩ => ⟨S60x6, .f32⟩
  | .hbm, ⟨41, _⟩ => ⟨S3x20x4096x128, .fp8e4m3⟩
  | .hbm, ⟨42, _⟩ => ⟨S60x4096x128, .fp8e4m3⟩
  | .hbm, ⟨43, _⟩ => ⟨S3x20x4096x128, .fp8e4m3⟩
  | .hbm, ⟨44, _⟩ => ⟨S60x4096x128, .fp8e4m3⟩
  | .hbm, ⟨45, _⟩ => ⟨S3x20x4096x128, .fp8e4m3⟩
  | .hbm, ⟨46, _⟩ => ⟨S60x4096x128, .fp8e4m3⟩
  | .hbm, ⟨47, _⟩ => ⟨S3x20x4096x128, .fp8e5m2⟩
  | .hbm, ⟨48, _⟩ => ⟨S60x4096x128, .fp8e5m2⟩
  | .hbm, ⟨49, _⟩ => ⟨S60x4096x128, .bf16⟩
  | .hbm, ⟨50, _⟩ => ⟨S60x4096x128, .bf16⟩
  | .hbm, ⟨51, _⟩ => ⟨S60x4096x128, .bf16⟩
  | .hbm, ⟨52, _⟩ => ⟨S60x8x512, .f32⟩
  | .hbm, ⟨53, _⟩ => ⟨S3x20x4096, .f32⟩
  | .hbm, ⟨54, _⟩ => ⟨S3x4096x20, .f32⟩
  | .hbm, ⟨55, _⟩ => ⟨S_, .f32⟩
  | .hbm, ⟨56, _⟩ => ⟨S_, .f32⟩
  | .hbm, ⟨57, _⟩ => ⟨S3x4096x20, .f32⟩
  | .hbm, ⟨58, _⟩ => ⟨S_, .i32⟩
  | .hbm, ⟨59, _⟩ => ⟨S1, .i32⟩
  | .hbm, ⟨60, _⟩ => ⟨S_, .f32⟩
  | .hbm, ⟨61, _⟩ => ⟨S3x20, .f32⟩
  | .hbm, ⟨62, _⟩ => ⟨S3x4096x20, .f32⟩
  | .hbm, ⟨63, _⟩ => ⟨S3x20x4096x128, .bf16⟩
  | .hbm, ⟨64, _⟩ => ⟨S3x4096x20x128, .bf16⟩
  | .hbm, ⟨65, _⟩ => ⟨S3x20x4096x128, .bf16⟩
  | .hbm, ⟨66, _⟩ => ⟨S3x4096x20x128, .bf16⟩
  | .hbm, ⟨67, _⟩ => ⟨S3x20x4096x128, .bf16⟩
  | .hbm, ⟨68, _⟩ => ⟨S3x4096x20x128, .bf16⟩
  | .local _ .vmem, ⟨0, _⟩ => ⟨S1x4096x128, .fp8e4m3⟩
  | .local _ .vmem, ⟨1, _⟩ => ⟨S1x4096x128, .fp8e4m3⟩
  | .local _ .vmem, ⟨2, _⟩ => ⟨S1x4096x128, .fp8e4m3⟩
  | .local _ .vmem, ⟨3, _⟩ => ⟨S1x4096x128, .fp8e4m3⟩
  | .local _ .vmem, ⟨4, _⟩ => ⟨S1x4096x128, .fp8e4m3⟩
  | .local _ .vmem, ⟨5, _⟩ => ⟨S1x4096x128, .fp8e4m3⟩
  | .local _ .vmem, ⟨6, _⟩ => ⟨S1x4096x128, .fp8e5m2⟩
  | .local _ .vmem, ⟨7, _⟩ => ⟨S1x4096x128, .fp8e5m2⟩
  | .local _ .vmem, ⟨8, _⟩ => ⟨S1x8x512, .f32⟩
  | .local _ .vmem, ⟨9, _⟩ => ⟨S1x8x512, .f32⟩
  | .local _ .vmem, ⟨10, _⟩ => ⟨S1x4096x128, .bf16⟩
  | .local _ .vmem, ⟨11, _⟩ => ⟨S1x4096x128, .bf16⟩
  | .local _ .vmem, ⟨12, _⟩ => ⟨S1x4096x128, .bf16⟩
  | .local _ .vmem, ⟨13, _⟩ => ⟨S1x4096x128, .bf16⟩
  | .local _ .vmem, ⟨14, _⟩ => ⟨S1x4096x128, .bf16⟩
  | .local _ .vmem, ⟨15, _⟩ => ⟨S1x4096x128, .bf16⟩
  | .local _ .vmem, ⟨16, _⟩ => ⟨S1x8x512, .f32⟩
  | .local _ .vmem, ⟨17, _⟩ => ⟨S1x8x512, .f32⟩
  | .local _ .vmem, ⟨18, _⟩ => ⟨S2x8x512x512, .f32⟩
  | .local _ .vmem, ⟨19, _⟩ => ⟨S2x8x512x512, .f32⟩
  | .local _ .vmem, ⟨20, _⟩ => ⟨S8x128x512, .f32⟩
  | .local _ .vmem, ⟨21, _⟩ => ⟨S8x128x512, .f32⟩
  | .local _ .vmem, ⟨22, _⟩ => ⟨S512x128, .f32⟩
  | .local _ .vmem, ⟨23, _⟩ => ⟨S8x8x512, .f32⟩
  | .local _ .vmem, ⟨24, _⟩ => ⟨S2x128x512, .bf16⟩
  | .local _ .vmem, ⟨25, _⟩ => ⟨S2x128x512, .bf16⟩
  | .local _ .vmem, ⟨26, _⟩ => ⟨S512x128, .f32⟩
  | .local _ .vmem, ⟨27, _⟩ => ⟨S512x128, .f32⟩
  | .local _ .vmem, ⟨28, _⟩ => ⟨S512x128, .f32⟩
  | .local _ .vmem, ⟨29, _⟩ => ⟨S2x512x128, .f32⟩
  | .local _ .vmem, ⟨30, _⟩ => ⟨S2x512x128, .f32⟩
  | .local _ .smem, ⟨0, _⟩ => ⟨S60x6, .f32⟩
  | .local _ .smem, ⟨1, _⟩ => ⟨S60x8, .f32⟩
  | _, _ => ⟨S3x4096x20x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_cst : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34_0 : Ref sig .tc := ⟨.hbm, 49, rfl⟩
abbrev main_v34_1 : Ref sig .tc := ⟨.hbm, 50, rfl⟩
abbrev main_v34_2 : Ref sig .tc := ⟨.hbm, 51, rfl⟩
abbrev main_v34_3 : Ref sig .tc := ⟨.hbm, 52, rfl⟩
abbrev main_v35 : Ref sig .tc := ⟨.hbm, 53, rfl⟩
abbrev main_v36 : Ref sig .tc := ⟨.hbm, 54, rfl⟩
abbrev main_call1_cst : Ref sig .tc := ⟨.hbm, 55, rfl⟩
abbrev main_call1_v0 : Ref sig .tc := ⟨.hbm, 56, rfl⟩
abbrev main_v37 : Ref sig .tc := ⟨.hbm, 57, rfl⟩
abbrev main_c : Ref sig .tc := ⟨.hbm, 58, rfl⟩
abbrev main_v38 : Ref sig .tc := ⟨.hbm, 59, rfl⟩
abbrev main_cst_3 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_scratch6 : Ref sig .tc := ⟨.vmem, 24, rfl⟩
abbrev cc0_scratch7 : Ref sig .tc := ⟨.vmem, 25, rfl⟩
abbrev cc0_scratch8 : Ref sig .tc := ⟨.vmem, 26, rfl⟩
abbrev cc0_scratch9 : Ref sig .tc := ⟨.vmem, 27, rfl⟩
abbrev cc0_scratch10 : Ref sig .tc := ⟨.vmem, 28, rfl⟩
abbrev cc0_scratch11 : Ref sig .tc := ⟨.vmem, 29, rfl⟩
abbrev cc0_scratch12 : Ref sig .tc := ⟨.vmem, 30, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![60], ![false]⟩

def k0_off1 (i : grid0.Coords) : Fin 2 → Nat :=
  let arg0 : BitVec 32 := BitVec.ofNat 32 (i 0).val
  let v0 : Index := Scalar.indexCast arg0
  let c0 : Index := 0#32
  ![v0.toNat, 0]
def k0_off2 (i : grid0.Coords) : Fin 2 → Nat :=
  let arg0 : BitVec 32 := BitVec.ofNat 32 (i 0).val
  let v15 : Index := Scalar.indexCast arg0
  let c0_12 : Index := 0#32
  ![v15.toNat, 0]
def k0_off3 : Fin 3 → Nat :=
  let c0_155 : Index := 0#32
  let c0_i32_149 : BitVec 32 := 0#32
  let c512_i32 : BitVec 32 := 512#32
  let v316 : BitVec 32 := Scalar.muli c0_i32_149 c512_i32
  let v317 : Index := Scalar.indexCast v316
  let c0_156 : Index := 0#32
  ![0, v317.toNat, 0]
def k0_off4 (i : grid0.Coords) : Fin 2 → Nat :=
  let arg0 : BitVec 32 := BitVec.ofNat 32 (i 0).val
  let v329 : Index := Scalar.indexCast arg0
  let c5 : Index := 5#32
  ![v329.toNat, 5]
@[reducible] def k0_t1_loop : Scf.Loop 32 :=
  let c1_i32 : BitVec 32 := 1#32
  let c7_i32 : BitVec 32 := 7#32
  let v279 : BitVec 32 := Scalar.addi c1_i32 c7_i32
  let c1_i32_122 : BitVec 32 := 1#32
  ⟨c1_i32, v279, c1_i32_122⟩
def k0_off5 (i : grid0.Coords) (k0_t1 : Fin k0_t1_loop.trips) : Fin 2 → Nat :=
  let arg0 : BitVec 32 := BitVec.ofNat 32 (i 0).val
  let v296 : Index := Scalar.indexCast arg0
  let c1_i32 : BitVec 32 := 1#32
  let c1_i32_122 : BitVec 32 := 1#32
  let arg25 : BitVec 32 := Scf.iv c1_i32 c1_i32_122 k0_t1
  let v297 : Index := Scalar.indexCast arg25
  ![v296.toNat, v297.toNat]
def k0_off6 (k0_t1 : Fin k0_t1_loop.trips) : Fin 3 → Nat :=
  let c0_139 : Index := 0#32
  let c1_i32 : BitVec 32 := 1#32
  let c1_i32_122 : BitVec 32 := 1#32
  let arg25 : BitVec 32 := Scf.iv c1_i32 c1_i32_122 k0_t1
  let v299 : Index := Scalar.indexCast arg25
  let c0_140 : Index := 0#32
  ![0, v299.toNat, 0]
def k0_off7 (k0_t1 : Fin k0_t1_loop.trips) (c0_i32_142 : BitVec 32) : Fin 3 → Nat :=
  let c0_143 : Index := 0#32
  let c1_i32 : BitVec 32 := 1#32
  let c1_i32_122 : BitVec 32 := 1#32
  let arg25 : BitVec 32 := Scf.iv c1_i32 c1_i32_122 k0_t1
  let c512_i32 : BitVec 32 := 512#32
  let v306 : BitVec 32 := Scalar.muli arg25 c512_i32
  let v307 : BitVec 32 := Scalar.addi v306 c0_i32_142
  let v308 : Index := Scalar.indexCast v307
  let c0_144 : Index := 0#32
  ![0, v308.toNat, 0]
def k0_off8 (k0_t1 : Fin k0_t1_loop.trips) : Fin 3 → Nat :=
  let c0_146 : Index := 0#32
  let c1_i32 : BitVec 32 := 1#32
  let c1_i32_122 : BitVec 32 := 1#32
  let arg25 : BitVec 32 := Scf.iv c1_i32 c1_i32_122 k0_t1
  let c512_i32_145 : BitVec 32 := 512#32
  let v311 : BitVec 32 := Scalar.muli arg25 c512_i32_145
  let v312 : Index := Scalar.indexCast v311
  let c0_147 : Index := 0#32
  ![0, v312.toNat, 0]
def k0_off9 (k0_t1 : Fin k0_t1_loop.trips) : Fin 4 → Nat :=
  let c1_i32 : BitVec 32 := 1#32
  let c1_i32_122 : BitVec 32 := 1#32
  let arg25 : BitVec 32 := Scf.iv c1_i32 c1_i32_122 k0_t1
  let c1_i32_138 : BitVec 32 := 1#32
  let v295 : BitVec 32 := Scalar.andi arg25 c1_i32_138
  let v413 : Index := Scalar.indexCast v295
  let v414 : Index := Scalar.indexCast arg25
  let c0_173 : Index := 0#32
  let c0_174 : Index := 0#32
  ![v413.toNat, v414.toNat, 0, 0]
def k0_off10 (k0_t1 : Fin k0_t1_loop.trips) : Fin 4 → Nat :=
  let c1_i32 : BitVec 32 := 1#32
  let c1_i32_122 : BitVec 32 := 1#32
  let arg25 : BitVec 32 := Scf.iv c1_i32 c1_i32_122 k0_t1
  let c1_i32_138 : BitVec 32 := 1#32
  let v295 : BitVec 32 := Scalar.andi arg25 c1_i32_138
  let v530 : Index := Scalar.indexCast v295
  let v531 : Index := Scalar.indexCast arg25
  let c256_209 : Index := 256#32
  let c0_210 : Index := 0#32
  ![v530.toNat, v531.toNat, 256, 0]
def k0_off11 (k0_t1 : Fin k0_t1_loop.trips) : Fin 3 → Nat :=
  let c1_i32 : BitVec 32 := 1#32
  let c1_i32_122 : BitVec 32 := 1#32
  let arg25 : BitVec 32 := Scf.iv c1_i32 c1_i32_122 k0_t1
  let c1_i32_138 : BitVec 32 := 1#32
  let v295 : BitVec 32 := Scalar.andi arg25 c1_i32_138
  let v546 : Index := Scalar.indexCast v295
  let c0_216 : Index := 0#32
  let c0_217 : Index := 0#32
  ![v546.toNat, 0, 0]
@[reducible] def k0_t2_loop (k0_t1 : Fin k0_t1_loop.trips) : Scf.Loop 32 :=
  let c0_i32_226 : BitVec 32 := 0#32
  let c1_i32 : BitVec 32 := 1#32
  let c1_i32_122 : BitVec 32 := 1#32
  let arg25 : BitVec 32 := Scf.iv c1_i32 c1_i32_122 k0_t1
  let v564 : BitVec 32 := Scalar.subi arg25 c0_i32_226
  let c1_i32_228 : BitVec 32 := 1#32
  let v566 : BitVec 32 := Scalar.divsi v564 c1_i32_228
  let v567 : BitVec 32 := Scalar.muli v566 c1_i32_228
  let v568 : BitVec 32 := Scalar.addi c0_i32_226 v567
  let c1_i32_229 : BitVec 32 := 1#32
  ⟨c0_i32_226, v568, c1_i32_229⟩
def k0_off12 (i : grid0.Coords) (k0_t1 : Fin k0_t1_loop.trips) : Fin 2 → Nat :=
  let arg0 : BitVec 32 := BitVec.ofNat 32 (i 0).val
  let v623 : Index := Scalar.indexCast arg0
  let c1_i32 : BitVec 32 := 1#32
  let c1_i32_122 : BitVec 32 := 1#32
  let arg25 : BitVec 32 := Scf.iv c1_i32 c1_i32_122 k0_t1
  let v624 : Index := Scalar.indexCast arg25
  ![v623.toNat, v624.toNat]
def k0_off13 (k0_t1 : Fin k0_t1_loop.trips) (k0_t2 : Fin (k0_t2_loop k0_t1).trips) : Fin 3 → Nat :=
  let c0_261 : Index := 0#32
  let c0_i32_226 : BitVec 32 := 0#32
  let c1_i32_229 : BitVec 32 := 1#32
  let arg26 : BitVec 32 := Scf.iv c0_i32_226 c1_i32_229 k0_t2
  let v626 : Index := Scalar.indexCast arg26
  let c0_262 : Index := 0#32
  ![0, v626.toNat, 0]
def k0_off14 (k0_t1 : Fin k0_t1_loop.trips) (c0_i32_265 : BitVec 32) : Fin 3 → Nat :=
  let c0_266 : Index := 0#32
  let c1_i32 : BitVec 32 := 1#32
  let c1_i32_122 : BitVec 32 := 1#32
  let arg25 : BitVec 32 := Scf.iv c1_i32 c1_i32_122 k0_t1
  let c512_i32_264 : BitVec 32 := 512#32
  let v633 : BitVec 32 := Scalar.muli arg25 c512_i32_264
  let v634 : BitVec 32 := Scalar.addi v633 c0_i32_265
  let v635 : Index := Scalar.indexCast v634
  let c0_267 : Index := 0#32
  ![0, v635.toNat, 0]
def k0_off15 (k0_t1 : Fin k0_t1_loop.trips) (k0_t2 : Fin (k0_t2_loop k0_t1).trips) : Fin 3 → Nat :=
  let c0_269 : Index := 0#32
  let c0_i32_226 : BitVec 32 := 0#32
  let c1_i32_229 : BitVec 32 := 1#32
  let arg26 : BitVec 32 := Scf.iv c0_i32_226 c1_i32_229 k0_t2
  let c512_i32_268 : BitVec 32 := 512#32
  let v638 : BitVec 32 := Scalar.muli arg26 c512_i32_268
  let v639 : Index := Scalar.indexCast v638
  let c0_270 : Index := 0#32
  ![0, v639.toNat, 0]
def k0_off16 (k0_t1 : Fin k0_t1_loop.trips) (k0_t2 : Fin (k0_t2_loop k0_t1).trips) : Fin 4 → Nat :=
  let c1_i32 : BitVec 32 := 1#32
  let c1_i32_122 : BitVec 32 := 1#32
  let arg25 : BitVec 32 := Scf.iv c1_i32 c1_i32_122 k0_t1
  let c1_i32_260 : BitVec 32 := 1#32
  let v622 : BitVec 32 := Scalar.andi arg25 c1_i32_260
  let v668 : Index := Scalar.indexCast v622
  let c0_i32_226 : BitVec 32 := 0#32
  let c1_i32_229 : BitVec 32 := 1#32
  let arg26 : BitVec 32 := Scf.iv c0_i32_226 c1_i32_229 k0_t2
  let v669 : Index := Scalar.indexCast arg26
  let c0_286 : Index := 0#32
  let c0_287 : Index := 0#32
  ![v668.toNat, v669.toNat, 0, 0]
def k0_off17 (k0_t1 : Fin k0_t1_loop.trips) (k0_t2 : Fin (k0_t2_loop k0_t1).trips) : Fin 4 → Nat :=
  let c1_i32 : BitVec 32 := 1#32
  let c1_i32_122 : BitVec 32 := 1#32
  let arg25 : BitVec 32 := Scf.iv c1_i32 c1_i32_122 k0_t1
  let c1_i32_260 : BitVec 32 := 1#32
  let v622 : BitVec 32 := Scalar.andi arg25 c1_i32_260
  let v690 : Index := Scalar.indexCast v622
  let c0_i32_226 : BitVec 32 := 0#32
  let c1_i32_229 : BitVec 32 := 1#32
  let arg26 : BitVec 32 := Scf.iv c0_i32_226 c1_i32_229 k0_t2
  let v691 : Index := Scalar.indexCast arg26
  let c0_290 : Index := 0#32
  let c128 : Index := 128#32
  ![v690.toNat, v691.toNat, 0, 128]
def k0_off18 (k0_t1 : Fin k0_t1_loop.trips) (k0_t2 : Fin (k0_t2_loop k0_t1).trips) : Fin 4 → Nat :=
  let c1_i32 : BitVec 32 := 1#32
  let c1_i32_122 : BitVec 32 := 1#32
  let arg25 : BitVec 32 := Scf.iv c1_i32 c1_i32_122 k0_t1
  let c1_i32_260 : BitVec 32 := 1#32
  let v622 : BitVec 32 := Scalar.andi arg25 c1_i32_260
  let v712 : Index := Scalar.indexCast v622
  let c0_i32_226 : BitVec 32 := 0#32
  let c1_i32_229 : BitVec 32 := 1#32
  let arg26 : BitVec 32 := Scf.iv c0_i32_226 c1_i32_229 k0_t2
  let v713 : Index := Scalar.indexCast arg26
  let c0_293 : Index := 0#32
  let c256_294 : Index := 256#32
  ![v712.toNat, v713.toNat, 0, 256]
def k0_off19 (k0_t1 : Fin k0_t1_loop.trips) (k0_t2 : Fin (k0_t2_loop k0_t1).trips) : Fin 4 → Nat :=
  let c1_i32 : BitVec 32 := 1#32
  let c1_i32_122 : BitVec 32 := 1#32
  let arg25 : BitVec 32 := Scf.iv c1_i32 c1_i32_122 k0_t1
  let c1_i32_260 : BitVec 32 := 1#32
  let v622 : BitVec 32 := Scalar.andi arg25 c1_i32_260
  let v734 : Index := Scalar.indexCast v622
  let c0_i32_226 : BitVec 32 := 0#32
  let c1_i32_229 : BitVec 32 := 1#32
  let arg26 : BitVec 32 := Scf.iv c0_i32_226 c1_i32_229 k0_t2
  let v735 : Index := Scalar.indexCast arg26
  let c0_297 : Index := 0#32
  let c384 : Index := 384#32
  ![v734.toNat, v735.toNat, 0, 384]
def k0_off20 (k0_t1 : Fin k0_t1_loop.trips) (k0_t2 : Fin (k0_t2_loop k0_t1).trips) : Fin 4 → Nat :=
  let c1_i32 : BitVec 32 := 1#32
  let c1_i32_122 : BitVec 32 := 1#32
  let arg25 : BitVec 32 := Scf.iv c1_i32 c1_i32_122 k0_t1
  let c1_i32_260 : BitVec 32 := 1#32
  let v622 : BitVec 32 := Scalar.andi arg25 c1_i32_260
  let v785 : Index := Scalar.indexCast v622
  let c0_i32_226 : BitVec 32 := 0#32
  let c1_i32_229 : BitVec 32 := 1#32
  let arg26 : BitVec 32 := Scf.iv c0_i32_226 c1_i32_229 k0_t2
  let v786 : Index := Scalar.indexCast arg26
  let c256_326 : Index := 256#32
  let c0_327 : Index := 0#32
  ![v785.toNat, v786.toNat, 256, 0]
def k0_off21 (k0_t1 : Fin k0_t1_loop.trips) (k0_t2 : Fin (k0_t2_loop k0_t1).trips) : Fin 4 → Nat :=
  let c1_i32 : BitVec 32 := 1#32
  let c1_i32_122 : BitVec 32 := 1#32
  let arg25 : BitVec 32 := Scf.iv c1_i32 c1_i32_122 k0_t1
  let c1_i32_260 : BitVec 32 := 1#32
  let v622 : BitVec 32 := Scalar.andi arg25 c1_i32_260
  let v807 : Index := Scalar.indexCast v622
  let c0_i32_226 : BitVec 32 := 0#32
  let c1_i32_229 : BitVec 32 := 1#32
  let arg26 : BitVec 32 := Scf.iv c0_i32_226 c1_i32_229 k0_t2
  let v808 : Index := Scalar.indexCast arg26
  let c256_330 : Index := 256#32
  let c128_331 : Index := 128#32
  ![v807.toNat, v808.toNat, 256, 128]
def k0_off22 (k0_t1 : Fin k0_t1_loop.trips) (k0_t2 : Fin (k0_t2_loop k0_t1).trips) : Fin 4 → Nat :=
  let c1_i32 : BitVec 32 := 1#32
  let c1_i32_122 : BitVec 32 := 1#32
  let arg25 : BitVec 32 := Scf.iv c1_i32 c1_i32_122 k0_t1
  let c1_i32_260 : BitVec 32 := 1#32
  let v622 : BitVec 32 := Scalar.andi arg25 c1_i32_260
  let v829 : Index := Scalar.indexCast v622
  let c0_i32_226 : BitVec 32 := 0#32
  let c1_i32_229 : BitVec 32 := 1#32
  let arg26 : BitVec 32 := Scf.iv c0_i32_226 c1_i32_229 k0_t2
  let v830 : Index := Scalar.indexCast arg26
  let c256_334 : Index := 256#32
  let c256_335 : Index := 256#32
  ![v829.toNat, v830.toNat, 256, 256]
def k0_off23 (k0_t1 : Fin k0_t1_loop.trips) (k0_t2 : Fin (k0_t2_loop k0_t1).trips) : Fin 4 → Nat :=
  let c1_i32 : BitVec 32 := 1#32
  let c1_i32_122 : BitVec 32 := 1#32
  let arg25 : BitVec 32 := Scf.iv c1_i32 c1_i32_122 k0_t1
  let c1_i32_260 : BitVec 32 := 1#32
  let v622 : BitVec 32 := Scalar.andi arg25 c1_i32_260
  let v851 : Index := Scalar.indexCast v622
  let c0_i32_226 : BitVec 32 := 0#32
  let c1_i32_229 : BitVec 32 := 1#32
  let arg26 : BitVec 32 := Scf.iv c0_i32_226 c1_i32_229 k0_t2
  let v852 : Index := Scalar.indexCast arg26
  let c256_338 : Index := 256#32
  let c384_339 : Index := 384#32
  ![v851.toNat, v852.toNat, 256, 384]
def k0_off24 (k0_t1 : Fin k0_t1_loop.trips) : Fin 3 → Nat :=
  let c1_i32 : BitVec 32 := 1#32
  let c1_i32_122 : BitVec 32 := 1#32
  let arg25 : BitVec 32 := Scf.iv c1_i32 c1_i32_122 k0_t1
  let c1_i32_346 : BitVec 32 := 1#32
  let v867 : BitVec 32 := Scalar.subi arg25 c1_i32_346
  let c1_i32_347 : BitVec 32 := 1#32
  let v868 : BitVec 32 := Scalar.andi v867 c1_i32_347
  let v869 : Index := Scalar.indexCast v868
  let c0_348 : Index := 0#32
  let c0_349 : Index := 0#32
  ![v869.toNat, 0, 0]
def k0_off25 (k0_t1 : Fin k0_t1_loop.trips) (k0_t2 : Fin (k0_t2_loop k0_t1).trips) : Fin 4 → Nat :=
  let c1_i32 : BitVec 32 := 1#32
  let c1_i32_122 : BitVec 32 := 1#32
  let arg25 : BitVec 32 := Scf.iv c1_i32 c1_i32_122 k0_t1
  let c1_i32_346 : BitVec 32 := 1#32
  let v867 : BitVec 32 := Scalar.subi arg25 c1_i32_346
  let c1_i32_347 : BitVec 32 := 1#32
  let v868 : BitVec 32 := Scalar.andi v867 c1_i32_347
  let v875 : Index := Scalar.indexCast v868
  let c0_i32_226 : BitVec 32 := 0#32
  let c1_i32_229 : BitVec 32 := 1#32
  let arg26 : BitVec 32 := Scf.iv c0_i32_226 c1_i32_229 k0_t2
  let v876 : Index := Scalar.indexCast arg26
  let c0_352 : Index := 0#32
  let c0_353 : Index := 0#32
  ![v875.toNat, v876.toNat, 0, 0]
def k0_off26 (k0_t1 : Fin k0_t1_loop.trips) (k0_t2 : Fin (k0_t2_loop k0_t1).trips) : Fin 4 → Nat :=
  let c1_i32 : BitVec 32 := 1#32
  let c1_i32_122 : BitVec 32 := 1#32
  let arg25 : BitVec 32 := Scf.iv c1_i32 c1_i32_122 k0_t1
  let c1_i32_346 : BitVec 32 := 1#32
  let v867 : BitVec 32 := Scalar.subi arg25 c1_i32_346
  let c1_i32_347 : BitVec 32 := 1#32
  let v868 : BitVec 32 := Scalar.andi v867 c1_i32_347
  let v886 : Index := Scalar.indexCast v868
  let c0_i32_226 : BitVec 32 := 0#32
  let c1_i32_229 : BitVec 32 := 1#32
  let arg26 : BitVec 32 := Scf.iv c0_i32_226 c1_i32_229 k0_t2
  let v887 : Index := Scalar.indexCast arg26
  let c0_356 : Index := 0#32
  let c128_357 : Index := 128#32
  ![v886.toNat, v887.toNat, 0, 128]
def k0_off27 (k0_t1 : Fin k0_t1_loop.trips) (k0_t2 : Fin (k0_t2_loop k0_t1).trips) : Fin 4 → Nat :=
  let c1_i32 : BitVec 32 := 1#32
  let c1_i32_122 : BitVec 32 := 1#32
  let arg25 : BitVec 32 := Scf.iv c1_i32 c1_i32_122 k0_t1
  let c1_i32_346 : BitVec 32 := 1#32
  let v867 : BitVec 32 := Scalar.subi arg25 c1_i32_346
  let c1_i32_347 : BitVec 32 := 1#32
  let v868 : BitVec 32 := Scalar.andi v867 c1_i32_347
  let v897 : Index := Scalar.indexCast v868
  let c0_i32_226 : BitVec 32 := 0#32
  let c1_i32_229 : BitVec 32 := 1#32
  let arg26 : BitVec 32 := Scf.iv c0_i32_226 c1_i32_229 k0_t2
  let v898 : Index := Scalar.indexCast arg26
  let c0_360 : Index := 0#32
  let c256_361 : Index := 256#32
  ![v897.toNat, v898.toNat, 0, 256]
def k0_off28 (k0_t1 : Fin k0_t1_loop.trips) (k0_t2 : Fin (k0_t2_loop k0_t1).trips) : Fin 4 → Nat :=
  let c1_i32 : BitVec 32 := 1#32
  let c1_i32_122 : BitVec 32 := 1#32
  let arg25 : BitVec 32 := Scf.iv c1_i32 c1_i32_122 k0_t1
  let c1_i32_346 : BitVec 32 := 1#32
  let v867 : BitVec 32 := Scalar.subi arg25 c1_i32_346
  let c1_i32_347 : BitVec 32 := 1#32
  let v868 : BitVec 32 := Scalar.andi v867 c1_i32_347
  let v908 : Index := Scalar.indexCast v868
  let c0_i32_226 : BitVec 32 := 0#32
  let c1_i32_229 : BitVec 32 := 1#32
  let arg26 : BitVec 32 := Scf.iv c0_i32_226 c1_i32_229 k0_t2
  let v909 : Index := Scalar.indexCast arg26
  let c0_364 : Index := 0#32
  let c384_365 : Index := 384#32
  ![v908.toNat, v909.toNat, 0, 384]
def k0_off29 (k0_t1 : Fin k0_t1_loop.trips) : Fin 3 → Nat :=
  let c1_i32 : BitVec 32 := 1#32
  let c1_i32_122 : BitVec 32 := 1#32
  let arg25 : BitVec 32 := Scf.iv c1_i32 c1_i32_122 k0_t1
  let c1_i32_346 : BitVec 32 := 1#32
  let v867 : BitVec 32 := Scalar.subi arg25 c1_i32_346
  let c1_i32_347 : BitVec 32 := 1#32
  let v868 : BitVec 32 := Scalar.andi v867 c1_i32_347
  let v925 : Index := Scalar.indexCast v868
  let c256_369 : Index := 256#32
  let c0_370 : Index := 0#32
  ![v925.toNat, 256, 0]
def k0_off30 (k0_t1 : Fin k0_t1_loop.trips) (k0_t2 : Fin (k0_t2_loop k0_t1).trips) : Fin 4 → Nat :=
  let c1_i32 : BitVec 32 := 1#32
  let c1_i32_122 : BitVec 32 := 1#32
  let arg25 : BitVec 32 := Scf.iv c1_i32 c1_i32_122 k0_t1
  let c1_i32_346 : BitVec 32 := 1#32
  let v867 : BitVec 32 := Scalar.subi arg25 c1_i32_346
  let c1_i32_347 : BitVec 32 := 1#32
  let v868 : BitVec 32 := Scalar.andi v867 c1_i32_347
  let v931 : Index := Scalar.indexCast v868
  let c0_i32_226 : BitVec 32 := 0#32
  let c1_i32_229 : BitVec 32 := 1#32
  let arg26 : BitVec 32 := Scf.iv c0_i32_226 c1_i32_229 k0_t2
  let v932 : Index := Scalar.indexCast arg26
  let c256_373 : Index := 256#32
  let c0_374 : Index := 0#32
  ![v931.toNat, v932.toNat, 256, 0]
def k0_off31 (k0_t1 : Fin k0_t1_loop.trips) (k0_t2 : Fin (k0_t2_loop k0_t1).trips) : Fin 4 → Nat :=
  let c1_i32 : BitVec 32 := 1#32
  let c1_i32_122 : BitVec 32 := 1#32
  let arg25 : BitVec 32 := Scf.iv c1_i32 c1_i32_122 k0_t1
  let c1_i32_346 : BitVec 32 := 1#32
  let v867 : BitVec 32 := Scalar.subi arg25 c1_i32_346
  let c1_i32_347 : BitVec 32 := 1#32
  let v868 : BitVec 32 := Scalar.andi v867 c1_i32_347
  let v942 : Index := Scalar.indexCast v868
  let c0_i32_226 : BitVec 32 := 0#32
  let c1_i32_229 : BitVec 32 := 1#32
  let arg26 : BitVec 32 := Scf.iv c0_i32_226 c1_i32_229 k0_t2
  let v943 : Index := Scalar.indexCast arg26
  let c256_377 : Index := 256#32
  let c128_378 : Index := 128#32
  ![v942.toNat, v943.toNat, 256, 128]
def k0_off32 (k0_t1 : Fin k0_t1_loop.trips) (k0_t2 : Fin (k0_t2_loop k0_t1).trips) : Fin 4 → Nat :=
  let c1_i32 : BitVec 32 := 1#32
  let c1_i32_122 : BitVec 32 := 1#32
  let arg25 : BitVec 32 := Scf.iv c1_i32 c1_i32_122 k0_t1
  let c1_i32_346 : BitVec 32 := 1#32
  let v867 : BitVec 32 := Scalar.subi arg25 c1_i32_346
  let c1_i32_347 : BitVec 32 := 1#32
  let v868 : BitVec 32 := Scalar.andi v867 c1_i32_347
  let v953 : Index := Scalar.indexCast v868
  let c0_i32_226 : BitVec 32 := 0#32
  let c1_i32_229 : BitVec 32 := 1#32
  let arg26 : BitVec 32 := Scf.iv c0_i32_226 c1_i32_229 k0_t2
  let v954 : Index := Scalar.indexCast arg26
  let c256_381 : Index := 256#32
  let c256_382 : Index := 256#32
  ![v953.toNat, v954.toNat, 256, 256]
def k0_off33 (k0_t1 : Fin k0_t1_loop.trips) (k0_t2 : Fin (k0_t2_loop k0_t1).trips) : Fin 4 → Nat :=
  let c1_i32 : BitVec 32 := 1#32
  let c1_i32_122 : BitVec 32 := 1#32
  let arg25 : BitVec 32 := Scf.iv c1_i32 c1_i32_122 k0_t1
  let c1_i32_346 : BitVec 32 := 1#32
  let v867 : BitVec 32 := Scalar.subi arg25 c1_i32_346
  let c1_i32_347 : BitVec 32 := 1#32
  let v868 : BitVec 32 := Scalar.andi v867 c1_i32_347
  let v964 : Index := Scalar.indexCast v868
  let c0_i32_226 : BitVec 32 := 0#32
  let c1_i32_229 : BitVec 32 := 1#32
  let arg26 : BitVec 32 := Scf.iv c0_i32_226 c1_i32_229 k0_t2
  let v965 : Index := Scalar.indexCast arg26
  let c256_385 : Index := 256#32
  let c384_386 : Index := 384#32
  ![v964.toNat, v965.toNat, 256, 384]
def k0_off34 (k0_t1 : Fin k0_t1_loop.trips) (k0_t2 : Fin (k0_t2_loop k0_t1).trips) : Fin 3 → Nat :=
  let c0_i32_226 : BitVec 32 := 0#32
  let c1_i32_229 : BitVec 32 := 1#32
  let arg26 : BitVec 32 := Scf.iv c0_i32_226 c1_i32_229 k0_t2
  let v984 : Index := Scalar.indexCast arg26
  let c0_390 : Index := 0#32
  let c0_391 : Index := 0#32
  ![v984.toNat, 0, 0]
def k0_off35 (k0_t1 : Fin k0_t1_loop.trips) : Fin 3 → Nat :=
  let c1_i32 : BitVec 32 := 1#32
  let c1_i32_122 : BitVec 32 := 1#32
  let arg25 : BitVec 32 := Scf.iv c1_i32 c1_i32_122 k0_t1
  let c1_i32_346 : BitVec 32 := 1#32
  let v867 : BitVec 32 := Scalar.subi arg25 c1_i32_346
  let c1_i32_347 : BitVec 32 := 1#32
  let v868 : BitVec 32 := Scalar.andi v867 c1_i32_347
  let v987 : Index := Scalar.indexCast v868
  let c0_392 : Index := 0#32
  let c0_393 : Index := 0#32
  ![v987.toNat, 0, 0]
def k0_off36 (k0_t1 : Fin k0_t1_loop.trips) (k0_t2 : Fin (k0_t2_loop k0_t1).trips) : Fin 3 → Nat :=
  let c0_i32_226 : BitVec 32 := 0#32
  let c1_i32_229 : BitVec 32 := 1#32
  let arg26 : BitVec 32 := Scf.iv c0_i32_226 c1_i32_229 k0_t2
  let v1019 : Index := Scalar.indexCast arg26
  let c0_412 : Index := 0#32
  let c0_413 : Index := 0#32
  ![v1019.toNat, 0, 0]
@[reducible] def k0_t3_loop (k0_t1 : Fin k0_t1_loop.trips) : Scf.Loop 32 :=
  let c0_i32_226 : BitVec 32 := 0#32
  let c1_i32 : BitVec 32 := 1#32
  let c1_i32_122 : BitVec 32 := 1#32
  let arg25 : BitVec 32 := Scf.iv c1_i32 c1_i32_122 k0_t1
  let v564 : BitVec 32 := Scalar.subi arg25 c0_i32_226
  let c1_i32_228 : BitVec 32 := 1#32
  let v566 : BitVec 32 := Scalar.divsi v564 c1_i32_228
  let v567 : BitVec 32 := Scalar.muli v566 c1_i32_228
  let v568 : BitVec 32 := Scalar.addi c0_i32_226 v567
  let v565 : BitVec 32 := Scalar.addi c0_i32_226 v564
  let c1_i32_230 : BitVec 32 := 1#32
  ⟨v568, v565, c1_i32_230⟩
def k0_off37 (i : grid0.Coords) (k0_t1 : Fin k0_t1_loop.trips) : Fin 2 → Nat :=
  let arg0 : BitVec 32 := BitVec.ofNat 32 (i 0).val
  let v623 : Index := Scalar.indexCast arg0
  let c1_i32 : BitVec 32 := 1#32
  let c1_i32_122 : BitVec 32 := 1#32
  let arg25 : BitVec 32 := Scf.iv c1_i32 c1_i32_122 k0_t1
  let v624 : Index := Scalar.indexCast arg25
  ![v623.toNat, v624.toNat]
def k0_off38 (k0_t1 : Fin k0_t1_loop.trips) (k0_t3 : Fin (k0_t3_loop k0_t1).trips) : Fin 3 → Nat :=
  let c0_261 : Index := 0#32
  let c0_i32_226 : BitVec 32 := 0#32
  let c1_i32 : BitVec 32 := 1#32
  let c1_i32_122 : BitVec 32 := 1#32
  let arg25 : BitVec 32 := Scf.iv c1_i32 c1_i32_122 k0_t1
  let v564 : BitVec 32 := Scalar.subi arg25 c0_i32_226
  let c1_i32_228 : BitVec 32 := 1#32
  let v566 : BitVec 32 := Scalar.divsi v564 c1_i32_228
  let v567 : BitVec 32 := Scalar.muli v566 c1_i32_228
  let v568 : BitVec 32 := Scalar.addi c0_i32_226 v567
  let c1_i32_230 : BitVec 32 := 1#32
  let arg26 : BitVec 32 := Scf.iv v568 c1_i32_230 k0_t3
  let v626 : Index := Scalar.indexCast arg26
  let c0_262 : Index := 0#32
  ![0, v626.toNat, 0]
def k0_off39 (k0_t1 : Fin k0_t1_loop.trips) (c0_i32_265 : BitVec 32) : Fin 3 → Nat :=
  let c0_266 : Index := 0#32
  let c1_i32 : BitVec 32 := 1#32
  let c1_i32_122 : BitVec 32 := 1#32
  let arg25 : BitVec 32 := Scf.iv c1_i32 c1_i32_122 k0_t1
  let c512_i32_264 : BitVec 32 := 512#32
  let v633 : BitVec 32 := Scalar.muli arg25 c512_i32_264
  let v634 : BitVec 32 := Scalar.addi v633 c0_i32_265
  let v635 : Index := Scalar.indexCast v634
  let c0_267 : Index := 0#32
  ![0, v635.toNat, 0]
def k0_off40 (k0_t1 : Fin k0_t1_loop.trips) (k0_t3 : Fin (k0_t3_loop k0_t1).trips) : Fin 3 → Nat :=
  let c0_269 : Index := 0#32
  let c0_i32_226 : BitVec 32 := 0#32
  let c1_i32 : BitVec 32 := 1#32
  let c1_i32_122 : BitVec 32 := 1#32
  let arg25 : BitVec 32 := Scf.iv c1_i32 c1_i32_122 k0_t1
  let v564 : BitVec 32 := Scalar.subi arg25 c0_i32_226
  let c1_i32_228 : BitVec 32 := 1#32
  let v566 : BitVec 32 := Scalar.divsi v564 c1_i32_228
  let v567 : BitVec 32 := Scalar.muli v566 c1_i32_228
  let v568 : BitVec 32 := Scalar.addi c0_i32_226 v567
  let c1_i32_230 : BitVec 32 := 1#32
  let arg26 : BitVec 32 := Scf.iv v568 c1_i32_230 k0_t3
  let c512_i32_268 : BitVec 32 := 512#32
  let v638 : BitVec 32 := Scalar.muli arg26 c512_i32_268
  let v639 : Index := Scalar.indexCast v638
  let c0_270 : Index := 0#32
  ![0, v639.toNat, 0]
def k0_off41 (k0_t1 : Fin k0_t1_loop.trips) (k0_t3 : Fin (k0_t3_loop k0_t1).trips) : Fin 4 → Nat :=
  let c1_i32 : BitVec 32 := 1#32
  let c1_i32_122 : BitVec 32 := 1#32
  let arg25 : BitVec 32 := Scf.iv c1_i32 c1_i32_122 k0_t1
  let c1_i32_260 : BitVec 32 := 1#32
  let v622 : BitVec 32 := Scalar.andi arg25 c1_i32_260
  let v668 : Index := Scalar.indexCast v622
  let c0_i32_226 : BitVec 32 := 0#32
  let v564 : BitVec 32 := Scalar.subi arg25 c0_i32_226
  let c1_i32_228 : BitVec 32 := 1#32
  let v566 : BitVec 32 := Scalar.divsi v564 c1_i32_228
  let v567 : BitVec 32 := Scalar.muli v566 c1_i32_228
  let v568 : BitVec 32 := Scalar.addi c0_i32_226 v567
  let c1_i32_230 : BitVec 32 := 1#32
  let arg26 : BitVec 32 := Scf.iv v568 c1_i32_230 k0_t3
  let v669 : Index := Scalar.indexCast arg26
  let c0_286 : Index := 0#32
  let c0_287 : Index := 0#32
  ![v668.toNat, v669.toNat, 0, 0]
def k0_off42 (k0_t1 : Fin k0_t1_loop.trips) (k0_t3 : Fin (k0_t3_loop k0_t1).trips) : Fin 4 → Nat :=
  let c1_i32 : BitVec 32 := 1#32
  let c1_i32_122 : BitVec 32 := 1#32
  let arg25 : BitVec 32 := Scf.iv c1_i32 c1_i32_122 k0_t1
  let c1_i32_260 : BitVec 32 := 1#32
  let v622 : BitVec 32 := Scalar.andi arg25 c1_i32_260
  let v690 : Index := Scalar.indexCast v622
  let c0_i32_226 : BitVec 32 := 0#32
  let v564 : BitVec 32 := Scalar.subi arg25 c0_i32_226
  let c1_i32_228 : BitVec 32 := 1#32
  let v566 : BitVec 32 := Scalar.divsi v564 c1_i32_228
  let v567 : BitVec 32 := Scalar.muli v566 c1_i32_228
  let v568 : BitVec 32 := Scalar.addi c0_i32_226 v567
  let c1_i32_230 : BitVec 32 := 1#32
  let arg26 : BitVec 32 := Scf.iv v568 c1_i32_230 k0_t3
  let v691 : Index := Scalar.indexCast arg26
  let c0_290 : Index := 0#32
  let c128 : Index := 128#32
  ![v690.toNat, v691.toNat, 0, 128]
def k0_off43 (k0_t1 : Fin k0_t1_loop.trips) (k0_t3 : Fin (k0_t3_loop k0_t1).trips) : Fin 4 → Nat :=
  let c1_i32 : BitVec 32 := 1#32
  let c1_i32_122 : BitVec 32 := 1#32
  let arg25 : BitVec 32 := Scf.iv c1_i32 c1_i32_122 k0_t1
  let c1_i32_260 : BitVec 32 := 1#32
  let v622 : BitVec 32 := Scalar.andi arg25 c1_i32_260
  let v712 : Index := Scalar.indexCast v622
  let c0_i32_226 : BitVec 32 := 0#32
  let v564 : BitVec 32 := Scalar.subi arg25 c0_i32_226
  let c1_i32_228 : BitVec 32 := 1#32
  let v566 : BitVec 32 := Scalar.divsi v564 c1_i32_228
  let v567 : BitVec 32 := Scalar.muli v566 c1_i32_228
  let v568 : BitVec 32 := Scalar.addi c0_i32_226 v567
  let c1_i32_230 : BitVec 32 := 1#32
  let arg26 : BitVec 32 := Scf.iv v568 c1_i32_230 k0_t3
  let v713 : Index := Scalar.indexCast arg26
  let c0_293 : Index := 0#32
  let c256_294 : Index := 256#32
  ![v712.toNat, v713.toNat, 0, 256]
def k0_off44 (k0_t1 : Fin k0_t1_loop.trips) (k0_t3 : Fin (k0_t3_loop k0_t1).trips) : Fin 4 → Nat :=
  let c1_i32 : BitVec 32 := 1#32
  let c1_i32_122 : BitVec 32 := 1#32
  let arg25 : BitVec 32 := Scf.iv c1_i32 c1_i32_122 k0_t1
  let c1_i32_260 : BitVec 32 := 1#32
  let v622 : BitVec 32 := Scalar.andi arg25 c1_i32_260
  let v734 : Index := Scalar.indexCast v622
  let c0_i32_226 : BitVec 32 := 0#32
  let v564 : BitVec 32 := Scalar.subi arg25 c0_i32_226
  let c1_i32_228 : BitVec 32 := 1#32
  let v566 : BitVec 32 := Scalar.divsi v564 c1_i32_228
  let v567 : BitVec 32 := Scalar.muli v566 c1_i32_228
  let v568 : BitVec 32 := Scalar.addi c0_i32_226 v567
  let c1_i32_230 : BitVec 32 := 1#32
  let arg26 : BitVec 32 := Scf.iv v568 c1_i32_230 k0_t3
  let v735 : Index := Scalar.indexCast arg26
  let c0_297 : Index := 0#32
  let c384 : Index := 384#32
  ![v734.toNat, v735.toNat, 0, 384]
def k0_off45 (k0_t1 : Fin k0_t1_loop.trips) (k0_t3 : Fin (k0_t3_loop k0_t1).trips) : Fin 4 → Nat :=
  let c1_i32 : BitVec 32 := 1#32
  let c1_i32_122 : BitVec 32 := 1#32
  let arg25 : BitVec 32 := Scf.iv c1_i32 c1_i32_122 k0_t1
  let c1_i32_260 : BitVec 32 := 1#32
  let v622 : BitVec 32 := Scalar.andi arg25 c1_i32_260
  let v785 : Index := Scalar.indexCast v622
  let c0_i32_226 : BitVec 32 := 0#32
  let v564 : BitVec 32 := Scalar.subi arg25 c0_i32_226
  let c1_i32_228 : BitVec 32 := 1#32
  let v566 : BitVec 32 := Scalar.divsi v564 c1_i32_228
  let v567 : BitVec 32 := Scalar.muli v566 c1_i32_228
  let v568 : BitVec 32 := Scalar.addi c0_i32_226 v567
  let c1_i32_230 : BitVec 32 := 1#32
  let arg26 : BitVec 32 := Scf.iv v568 c1_i32_230 k0_t3
  let v786 : Index := Scalar.indexCast arg26
  let c256_326 : Index := 256#32
  let c0_327 : Index := 0#32
  ![v785.toNat, v786.toNat, 256, 0]
def k0_off46 (k0_t1 : Fin k0_t1_loop.trips) (k0_t3 : Fin (k0_t3_loop k0_t1).trips) : Fin 4 → Nat :=
  let c1_i32 : BitVec 32 := 1#32
  let c1_i32_122 : BitVec 32 := 1#32
  let arg25 : BitVec 32 := Scf.iv c1_i32 c1_i32_122 k0_t1
  let c1_i32_260 : BitVec 32 := 1#32
  let v622 : BitVec 32 := Scalar.andi arg25 c1_i32_260
  let v807 : Index := Scalar.indexCast v622
  let c0_i32_226 : BitVec 32 := 0#32
  let v564 : BitVec 32 := Scalar.subi arg25 c0_i32_226
  let c1_i32_228 : BitVec 32 := 1#32
  let v566 : BitVec 32 := Scalar.divsi v564 c1_i32_228
  let v567 : BitVec 32 := Scalar.muli v566 c1_i32_228
  let v568 : BitVec 32 := Scalar.addi c0_i32_226 v567
  let c1_i32_230 : BitVec 32 := 1#32
  let arg26 : BitVec 32 := Scf.iv v568 c1_i32_230 k0_t3
  let v808 : Index := Scalar.indexCast arg26
  let c256_330 : Index := 256#32
  let c128_331 : Index := 128#32
  ![v807.toNat, v808.toNat, 256, 128]
def k0_off47 (k0_t1 : Fin k0_t1_loop.trips) (k0_t3 : Fin (k0_t3_loop k0_t1).trips) : Fin 4 → Nat :=
  let c1_i32 : BitVec 32 := 1#32
  let c1_i32_122 : BitVec 32 := 1#32
  let arg25 : BitVec 32 := Scf.iv c1_i32 c1_i32_122 k0_t1
  let c1_i32_260 : BitVec 32 := 1#32
  let v622 : BitVec 32 := Scalar.andi arg25 c1_i32_260
  let v829 : Index := Scalar.indexCast v622
  let c0_i32_226 : BitVec 32 := 0#32
  let v564 : BitVec 32 := Scalar.subi arg25 c0_i32_226
  let c1_i32_228 : BitVec 32 := 1#32
  let v566 : BitVec 32 := Scalar.divsi v564 c1_i32_228
  let v567 : BitVec 32 := Scalar.muli v566 c1_i32_228
  let v568 : BitVec 32 := Scalar.addi c0_i32_226 v567
  let c1_i32_230 : BitVec 32 := 1#32
  let arg26 : BitVec 32 := Scf.iv v568 c1_i32_230 k0_t3
  let v830 : Index := Scalar.indexCast arg26
  let c256_334 : Index := 256#32
  let c256_335 : Index := 256#32
  ![v829.toNat, v830.toNat, 256, 256]
def k0_off48 (k0_t1 : Fin k0_t1_loop.trips) (k0_t3 : Fin (k0_t3_loop k0_t1).trips) : Fin 4 → Nat :=
  let c1_i32 : BitVec 32 := 1#32
  let c1_i32_122 : BitVec 32 := 1#32
  let arg25 : BitVec 32 := Scf.iv c1_i32 c1_i32_122 k0_t1
  let c1_i32_260 : BitVec 32 := 1#32
  let v622 : BitVec 32 := Scalar.andi arg25 c1_i32_260
  let v851 : Index := Scalar.indexCast v622
  let c0_i32_226 : BitVec 32 := 0#32
  let v564 : BitVec 32 := Scalar.subi arg25 c0_i32_226
  let c1_i32_228 : BitVec 32 := 1#32
  let v566 : BitVec 32 := Scalar.divsi v564 c1_i32_228
  let v567 : BitVec 32 := Scalar.muli v566 c1_i32_228
  let v568 : BitVec 32 := Scalar.addi c0_i32_226 v567
  let c1_i32_230 : BitVec 32 := 1#32
  let arg26 : BitVec 32 := Scf.iv v568 c1_i32_230 k0_t3
  let v852 : Index := Scalar.indexCast arg26
  let c256_338 : Index := 256#32
  let c384_339 : Index := 384#32
  ![v851.toNat, v852.toNat, 256, 384]
def k0_off49 (k0_t1 : Fin k0_t1_loop.trips) : Fin 3 → Nat :=
  let c1_i32 : BitVec 32 := 1#32
  let c1_i32_122 : BitVec 32 := 1#32
  let arg25 : BitVec 32 := Scf.iv c1_i32 c1_i32_122 k0_t1
  let c1_i32_346 : BitVec 32 := 1#32
  let v867 : BitVec 32 := Scalar.subi arg25 c1_i32_346
  let c1_i32_347 : BitVec 32 := 1#32
  let v868 : BitVec 32 := Scalar.andi v867 c1_i32_347
  let v869 : Index := Scalar.indexCast v868
  let c0_348 : Index := 0#32
  let c0_349 : Index := 0#32
  ![v869.toNat, 0, 0]
def k0_off50 (k0_t1 : Fin k0_t1_loop.trips) (k0_t3 : Fin (k0_t3_loop k0_t1).trips) : Fin 4 → Nat :=
  let c1_i32 : BitVec 32 := 1#32
  let c1_i32_122 : BitVec 32 := 1#32
  let arg25 : BitVec 32 := Scf.iv c1_i32 c1_i32_122 k0_t1
  let c1_i32_346 : BitVec 32 := 1#32
  let v867 : BitVec 32 := Scalar.subi arg25 c1_i32_346
  let c1_i32_347 : BitVec 32 := 1#32
  let v868 : BitVec 32 := Scalar.andi v867 c1_i32_347
  let v875 : Index := Scalar.indexCast v868
  let c0_i32_226 : BitVec 32 := 0#32
  let v564 : BitVec 32 := Scalar.subi arg25 c0_i32_226
  let c1_i32_228 : BitVec 32 := 1#32
  let v566 : BitVec 32 := Scalar.divsi v564 c1_i32_228
  let v567 : BitVec 32 := Scalar.muli v566 c1_i32_228
  let v568 : BitVec 32 := Scalar.addi c0_i32_226 v567
  let c1_i32_230 : BitVec 32 := 1#32
  let arg26 : BitVec 32 := Scf.iv v568 c1_i32_230 k0_t3
  let v876 : Index := Scalar.indexCast arg26
  let c0_352 : Index := 0#32
  let c0_353 : Index := 0#32
  ![v875.toNat, v876.toNat, 0, 0]
def k0_off51 (k0_t1 : Fin k0_t1_loop.trips) (k0_t3 : Fin (k0_t3_loop k0_t1).trips) : Fin 4 → Nat :=
  let c1_i32 : BitVec 32 := 1#32
  let c1_i32_122 : BitVec 32 := 1#32
  let arg25 : BitVec 32 := Scf.iv c1_i32 c1_i32_122 k0_t1
  let c1_i32_346 : BitVec 32 := 1#32
  let v867 : BitVec 32 := Scalar.subi arg25 c1_i32_346
  let c1_i32_347 : BitVec 32 := 1#32
  let v868 : BitVec 32 := Scalar.andi v867 c1_i32_347
  let v886 : Index := Scalar.indexCast v868
  let c0_i32_226 : BitVec 32 := 0#32
  let v564 : BitVec 32 := Scalar.subi arg25 c0_i32_226
  let c1_i32_228 : BitVec 32 := 1#32
  let v566 : BitVec 32 := Scalar.divsi v564 c1_i32_228
  let v567 : BitVec 32 := Scalar.muli v566 c1_i32_228
  let v568 : BitVec 32 := Scalar.addi c0_i32_226 v567
  let c1_i32_230 : BitVec 32 := 1#32
  let arg26 : BitVec 32 := Scf.iv v568 c1_i32_230 k0_t3
  let v887 : Index := Scalar.indexCast arg26
  let c0_356 : Index := 0#32
  let c128_357 : Index := 128#32
  ![v886.toNat, v887.toNat, 0, 128]
def k0_off52 (k0_t1 : Fin k0_t1_loop.trips) (k0_t3 : Fin (k0_t3_loop k0_t1).trips) : Fin 4 → Nat :=
  let c1_i32 : BitVec 32 := 1#32
  let c1_i32_122 : BitVec 32 := 1#32
  let arg25 : BitVec 32 := Scf.iv c1_i32 c1_i32_122 k0_t1
  let c1_i32_346 : BitVec 32 := 1#32
  let v867 : BitVec 32 := Scalar.subi arg25 c1_i32_346
  let c1_i32_347 : BitVec 32 := 1#32
  let v868 : BitVec 32 := Scalar.andi v867 c1_i32_347
  let v897 : Index := Scalar.indexCast v868
  let c0_i32_226 : BitVec 32 := 0#32
  let v564 : BitVec 32 := Scalar.subi arg25 c0_i32_226
  let c1_i32_228 : BitVec 32 := 1#32
  let v566 : BitVec 32 := Scalar.divsi v564 c1_i32_228
  let v567 : BitVec 32 := Scalar.muli v566 c1_i32_228
  let v568 : BitVec 32 := Scalar.addi c0_i32_226 v567
  let c1_i32_230 : BitVec 32 := 1#32
  let arg26 : BitVec 32 := Scf.iv v568 c1_i32_230 k0_t3
  let v898 : Index := Scalar.indexCast arg26
  let c0_360 : Index := 0#32
  let c256_361 : Index := 256#32
  ![v897.toNat, v898.toNat, 0, 256]
def k0_off53 (k0_t1 : Fin k0_t1_loop.trips) (k0_t3 : Fin (k0_t3_loop k0_t1).trips) : Fin 4 → Nat :=
  let c1_i32 : BitVec 32 := 1#32
  let c1_i32_122 : BitVec 32 := 1#32
  let arg25 : BitVec 32 := Scf.iv c1_i32 c1_i32_122 k0_t1
  let c1_i32_346 : BitVec 32 := 1#32
  let v867 : BitVec 32 := Scalar.subi arg25 c1_i32_346
  let c1_i32_347 : BitVec 32 := 1#32
  let v868 : BitVec 32 := Scalar.andi v867 c1_i32_347
  let v908 : Index := Scalar.indexCast v868
  let c0_i32_226 : BitVec 32 := 0#32
  let v564 : BitVec 32 := Scalar.subi arg25 c0_i32_226
  let c1_i32_228 : BitVec 32 := 1#32
  let v566 : BitVec 32 := Scalar.divsi v564 c1_i32_228
  let v567 : BitVec 32 := Scalar.muli v566 c1_i32_228
  let v568 : BitVec 32 := Scalar.addi c0_i32_226 v567
  let c1_i32_230 : BitVec 32 := 1#32
  let arg26 : BitVec 32 := Scf.iv v568 c1_i32_230 k0_t3
  let v909 : Index := Scalar.indexCast arg26
  let c0_364 : Index := 0#32
  let c384_365 : Index := 384#32
  ![v908.toNat, v909.toNat, 0, 384]
def k0_off54 (k0_t1 : Fin k0_t1_loop.trips) : Fin 3 → Nat :=
  let c1_i32 : BitVec 32 := 1#32
  let c1_i32_122 : BitVec 32 := 1#32
  let arg25 : BitVec 32 := Scf.iv c1_i32 c1_i32_122 k0_t1
  let c1_i32_346 : BitVec 32 := 1#32
  let v867 : BitVec 32 := Scalar.subi arg25 c1_i32_346
  let c1_i32_347 : BitVec 32 := 1#32
  let v868 : BitVec 32 := Scalar.andi v867 c1_i32_347
  let v925 : Index := Scalar.indexCast v868
  let c256_369 : Index := 256#32
  let c0_370 : Index := 0#32
  ![v925.toNat, 256, 0]
def k0_off55 (k0_t1 : Fin k0_t1_loop.trips) (k0_t3 : Fin (k0_t3_loop k0_t1).trips) : Fin 4 → Nat :=
  let c1_i32 : BitVec 32 := 1#32
  let c1_i32_122 : BitVec 32 := 1#32
  let arg25 : BitVec 32 := Scf.iv c1_i32 c1_i32_122 k0_t1
  let c1_i32_346 : BitVec 32 := 1#32
  let v867 : BitVec 32 := Scalar.subi arg25 c1_i32_346
  let c1_i32_347 : BitVec 32 := 1#32
  let v868 : BitVec 32 := Scalar.andi v867 c1_i32_347
  let v931 : Index := Scalar.indexCast v868
  let c0_i32_226 : BitVec 32 := 0#32
  let v564 : BitVec 32 := Scalar.subi arg25 c0_i32_226
  let c1_i32_228 : BitVec 32 := 1#32
  let v566 : BitVec 32 := Scalar.divsi v564 c1_i32_228
  let v567 : BitVec 32 := Scalar.muli v566 c1_i32_228
  let v568 : BitVec 32 := Scalar.addi c0_i32_226 v567
  let c1_i32_230 : BitVec 32 := 1#32
  let arg26 : BitVec 32 := Scf.iv v568 c1_i32_230 k0_t3
  let v932 : Index := Scalar.indexCast arg26
  let c256_373 : Index := 256#32
  let c0_374 : Index := 0#32
  ![v931.toNat, v932.toNat, 256, 0]
def k0_off56 (k0_t1 : Fin k0_t1_loop.trips) (k0_t3 : Fin (k0_t3_loop k0_t1).trips) : Fin 4 → Nat :=
  let c1_i32 : BitVec 32 := 1#32
  let c1_i32_122 : BitVec 32 := 1#32
  let arg25 : BitVec 32 := Scf.iv c1_i32 c1_i32_122 k0_t1
  let c1_i32_346 : BitVec 32 := 1#32
  let v867 : BitVec 32 := Scalar.subi arg25 c1_i32_346
  let c1_i32_347 : BitVec 32 := 1#32
  let v868 : BitVec 32 := Scalar.andi v867 c1_i32_347
  let v942 : Index := Scalar.indexCast v868
  let c0_i32_226 : BitVec 32 := 0#32
  let v564 : BitVec 32 := Scalar.subi arg25 c0_i32_226
  let c1_i32_228 : BitVec 32 := 1#32
  let v566 : BitVec 32 := Scalar.divsi v564 c1_i32_228
  let v567 : BitVec 32 := Scalar.muli v566 c1_i32_228
  let v568 : BitVec 32 := Scalar.addi c0_i32_226 v567
  let c1_i32_230 : BitVec 32 := 1#32
  let arg26 : BitVec 32 := Scf.iv v568 c1_i32_230 k0_t3
  let v943 : Index := Scalar.indexCast arg26
  let c256_377 : Index := 256#32
  let c128_378 : Index := 128#32
  ![v942.toNat, v943.toNat, 256, 128]
def k0_off57 (k0_t1 : Fin k0_t1_loop.trips) (k0_t3 : Fin (k0_t3_loop k0_t1).trips) : Fin 4 → Nat :=
  let c1_i32 : BitVec 32 := 1#32
  let c1_i32_122 : BitVec 32 := 1#32
  let arg25 : BitVec 32 := Scf.iv c1_i32 c1_i32_122 k0_t1
  let c1_i32_346 : BitVec 32 := 1#32
  let v867 : BitVec 32 := Scalar.subi arg25 c1_i32_346
  let c1_i32_347 : BitVec 32 := 1#32
  let v868 : BitVec 32 := Scalar.andi v867 c1_i32_347
  let v953 : Index := Scalar.indexCast v868
  let c0_i32_226 : BitVec 32 := 0#32
  let v564 : BitVec 32 := Scalar.subi arg25 c0_i32_226
  let c1_i32_228 : BitVec 32 := 1#32
  let v566 : BitVec 32 := Scalar.divsi v564 c1_i32_228
  let v567 : BitVec 32 := Scalar.muli v566 c1_i32_228
  let v568 : BitVec 32 := Scalar.addi c0_i32_226 v567
  let c1_i32_230 : BitVec 32 := 1#32
  let arg26 : BitVec 32 := Scf.iv v568 c1_i32_230 k0_t3
  let v954 : Index := Scalar.indexCast arg26
  let c256_381 : Index := 256#32
  let c256_382 : Index := 256#32
  ![v953.toNat, v954.toNat, 256, 256]
def k0_off58 (k0_t1 : Fin k0_t1_loop.trips) (k0_t3 : Fin (k0_t3_loop k0_t1).trips) : Fin 4 → Nat :=
  let c1_i32 : BitVec 32 := 1#32
  let c1_i32_122 : BitVec 32 := 1#32
  let arg25 : BitVec 32 := Scf.iv c1_i32 c1_i32_122 k0_t1
  let c1_i32_346 : BitVec 32 := 1#32
  let v867 : BitVec 32 := Scalar.subi arg25 c1_i32_346
  let c1_i32_347 : BitVec 32 := 1#32
  let v868 : BitVec 32 := Scalar.andi v867 c1_i32_347
  let v964 : Index := Scalar.indexCast v868
  let c0_i32_226 : BitVec 32 := 0#32
  let v564 : BitVec 32 := Scalar.subi arg25 c0_i32_226
  let c1_i32_228 : BitVec 32 := 1#32
  let v566 : BitVec 32 := Scalar.divsi v564 c1_i32_228
  let v567 : BitVec 32 := Scalar.muli v566 c1_i32_228
  let v568 : BitVec 32 := Scalar.addi c0_i32_226 v567
  let c1_i32_230 : BitVec 32 := 1#32
  let arg26 : BitVec 32 := Scf.iv v568 c1_i32_230 k0_t3
  let v965 : Index := Scalar.indexCast arg26
  let c256_385 : Index := 256#32
  let c384_386 : Index := 384#32
  ![v964.toNat, v965.toNat, 256, 384]
def k0_off59 (k0_t1 : Fin k0_t1_loop.trips) (k0_t3 : Fin (k0_t3_loop k0_t1).trips) : Fin 3 → Nat :=
  let c0_i32_226 : BitVec 32 := 0#32
  let c1_i32 : BitVec 32 := 1#32
  let c1_i32_122 : BitVec 32 := 1#32
  let arg25 : BitVec 32 := Scf.iv c1_i32 c1_i32_122 k0_t1
  let v564 : BitVec 32 := Scalar.subi arg25 c0_i32_226
  let c1_i32_228 : BitVec 32 := 1#32
  let v566 : BitVec 32 := Scalar.divsi v564 c1_i32_228
  let v567 : BitVec 32 := Scalar.muli v566 c1_i32_228
  let v568 : BitVec 32 := Scalar.addi c0_i32_226 v567
  let c1_i32_230 : BitVec 32 := 1#32
  let arg26 : BitVec 32 := Scf.iv v568 c1_i32_230 k0_t3
  let v984 : Index := Scalar.indexCast arg26
  let c0_390 : Index := 0#32
  let c0_391 : Index := 0#32
  ![v984.toNat, 0, 0]
def k0_off60 (k0_t1 : Fin k0_t1_loop.trips) : Fin 3 → Nat :=
  let c1_i32 : BitVec 32 := 1#32
  let c1_i32_122 : BitVec 32 := 1#32
  let arg25 : BitVec 32 := Scf.iv c1_i32 c1_i32_122 k0_t1
  let c1_i32_346 : BitVec 32 := 1#32
  let v867 : BitVec 32 := Scalar.subi arg25 c1_i32_346
  let c1_i32_347 : BitVec 32 := 1#32
  let v868 : BitVec 32 := Scalar.andi v867 c1_i32_347
  let v987 : Index := Scalar.indexCast v868
  let c0_392 : Index := 0#32
  let c0_393 : Index := 0#32
  ![v987.toNat, 0, 0]
def k0_off61 (k0_t1 : Fin k0_t1_loop.trips) (k0_t3 : Fin (k0_t3_loop k0_t1).trips) : Fin 3 → Nat :=
  let c0_i32_226 : BitVec 32 := 0#32
  let c1_i32 : BitVec 32 := 1#32
  let c1_i32_122 : BitVec 32 := 1#32
  let arg25 : BitVec 32 := Scf.iv c1_i32 c1_i32_122 k0_t1
  let v564 : BitVec 32 := Scalar.subi arg25 c0_i32_226
  let c1_i32_228 : BitVec 32 := 1#32
  let v566 : BitVec 32 := Scalar.divsi v564 c1_i32_228
  let v567 : BitVec 32 := Scalar.muli v566 c1_i32_228
  let v568 : BitVec 32 := Scalar.addi c0_i32_226 v567
  let c1_i32_230 : BitVec 32 := 1#32
  let arg26 : BitVec 32 := Scf.iv v568 c1_i32_230 k0_t3
  let v1019 : Index := Scalar.indexCast arg26
  let c0_412 : Index := 0#32
  let c0_413 : Index := 0#32
  ![v1019.toNat, 0, 0]
def k0_off62 (i : grid0.Coords) : Fin 2 → Nat :=
  let arg0 : BitVec 32 := BitVec.ofNat 32 (i 0).val
  let v573 : Index := Scalar.indexCast arg0
  let c1_234 : Index := 1#32
  ![v573.toNat, 1]
def k0_off63 (k0_t1 : Fin k0_t1_loop.trips) : Fin 3 → Nat :=
  let c0_236 : Index := 0#32
  let c1_i32 : BitVec 32 := 1#32
  let c1_i32_122 : BitVec 32 := 1#32
  let arg25 : BitVec 32 := Scf.iv c1_i32 c1_i32_122 k0_t1
  let c1_i32_231 : BitVec 32 := 1#32
  let v571 : BitVec 32 := Scalar.subi arg25 c1_i32_231
  let c512_i32_235 : BitVec 32 := 512#32
  let v578 : BitVec 32 := Scalar.muli v571 c512_i32_235
  let v579 : Index := Scalar.indexCast v578
  let c0_237 : Index := 0#32
  ![0, v579.toNat, 0]
def k0_off64 (k0_t1 : Fin k0_t1_loop.trips) : Fin 3 → Nat :=
  let c1_i32 : BitVec 32 := 1#32
  let c1_i32_122 : BitVec 32 := 1#32
  let arg25 : BitVec 32 := Scf.iv c1_i32 c1_i32_122 k0_t1
  let c1_i32_238 : BitVec 32 := 1#32
  let v583 : BitVec 32 := Scalar.andi arg25 c1_i32_238
  let v594 : Index := Scalar.indexCast v583
  let c0_246 : Index := 0#32
  let c0_247 : Index := 0#32
  ![v594.toNat, 0, 0]
def k0_off65 (k0_t1 : Fin k0_t1_loop.trips) : Fin 3 → Nat :=
  let c0_261 : Index := 0#32
  let c1_i32 : BitVec 32 := 1#32
  let c1_i32_122 : BitVec 32 := 1#32
  let arg25 : BitVec 32 := Scf.iv c1_i32 c1_i32_122 k0_t1
  let v623 : Index := Scalar.indexCast arg25
  let c0_262 : Index := 0#32
  ![0, v623.toNat, 0]
@[reducible] def k0_t4_loop (k0_t1 : Fin k0_t1_loop.trips) : Scf.Loop 32 :=
  let c0_i32_272 : BitVec 32 := 0#32
  let c1_i32 : BitVec 32 := 1#32
  let c1_i32_122 : BitVec 32 := 1#32
  let arg25 : BitVec 32 := Scf.iv c1_i32 c1_i32_122 k0_t1
  let c1_i32_271 : BitVec 32 := 1#32
  let v640 : BitVec 32 := Scalar.addi arg25 c1_i32_271
  let v641 : BitVec 32 := Scalar.subi v640 c0_i32_272
  let c1_i32_274 : BitVec 32 := 1#32
  let v643 : BitVec 32 := Scalar.divsi v641 c1_i32_274
  let v644 : BitVec 32 := Scalar.muli v643 c1_i32_274
  let v645 : BitVec 32 := Scalar.addi c0_i32_272 v644
  let c1_i32_275 : BitVec 32 := 1#32
  ⟨c0_i32_272, v645, c1_i32_275⟩
def k0_off66 (k0_t1 : Fin k0_t1_loop.trips) (k0_t4 : Fin (k0_t4_loop k0_t1).trips) : Fin 3 → Nat :=
  let c0_303 : Index := 0#32
  let c0_i32_272 : BitVec 32 := 0#32
  let c1_i32_275 : BitVec 32 := 1#32
  let arg26 : BitVec 32 := Scf.iv c0_i32_272 c1_i32_275 k0_t4
  let v690 : Index := Scalar.indexCast arg26
  let c0_304 : Index := 0#32
  ![0, v690.toNat, 0]
def k0_off67 (k0_t1 : Fin k0_t1_loop.trips) (c0_i32_306 : BitVec 32) : Fin 3 → Nat :=
  let c0_307 : Index := 0#32
  let c1_i32 : BitVec 32 := 1#32
  let c1_i32_122 : BitVec 32 := 1#32
  let arg25 : BitVec 32 := Scf.iv c1_i32 c1_i32_122 k0_t1
  let c512_i32_305 : BitVec 32 := 512#32
  let v693 : BitVec 32 := Scalar.muli arg25 c512_i32_305
  let v694 : BitVec 32 := Scalar.addi v693 c0_i32_306
  let v695 : Index := Scalar.indexCast v694
  let c0_308 : Index := 0#32
  ![0, v695.toNat, 0]
def k0_off68 (k0_t1 : Fin k0_t1_loop.trips) (k0_t4 : Fin (k0_t4_loop k0_t1).trips) : Fin 3 → Nat :=
  let c0_310 : Index := 0#32
  let c0_i32_272 : BitVec 32 := 0#32
  let c1_i32_275 : BitVec 32 := 1#32
  let arg26 : BitVec 32 := Scf.iv c0_i32_272 c1_i32_275 k0_t4
  let c512_i32_309 : BitVec 32 := 512#32
  let v698 : BitVec 32 := Scalar.muli arg26 c512_i32_309
  let v699 : Index := Scalar.indexCast v698
  let c0_311 : Index := 0#32
  ![0, v699.toNat, 0]
def k0_off69 (i : grid0.Coords) : Fin 2 → Nat :=
  let arg0 : BitVec 32 := BitVec.ofNat 32 (i 0).val
  let v713 : Index := Scalar.indexCast arg0
  let c5 : Index := 5#32
  ![v713.toNat, 5]
def k0_off70 (k0_t1 : Fin k0_t1_loop.trips) (k0_t4 : Fin (k0_t4_loop k0_t1).trips) : Fin 4 → Nat :=
  let c1_i32 : BitVec 32 := 1#32
  let c1_i32_122 : BitVec 32 := 1#32
  let arg25 : BitVec 32 := Scf.iv c1_i32 c1_i32_122 k0_t1
  let c1_i32_260 : BitVec 32 := 1#32
  let v622 : BitVec 32 := Scalar.andi arg25 c1_i32_260
  let v727 : Index := Scalar.indexCast v622
  let c0_i32_272 : BitVec 32 := 0#32
  let c1_i32_275 : BitVec 32 := 1#32
  let arg26 : BitVec 32 := Scf.iv c0_i32_272 c1_i32_275 k0_t4
  let v728 : Index := Scalar.indexCast arg26
  let c0_320 : Index := 0#32
  let c0_321 : Index := 0#32
  ![v727.toNat, v728.toNat, 0, 0]
def k0_off71 (k0_t1 : Fin k0_t1_loop.trips) (k0_t4 : Fin (k0_t4_loop k0_t1).trips) : Fin 4 → Nat :=
  let c1_i32 : BitVec 32 := 1#32
  let c1_i32_122 : BitVec 32 := 1#32
  let arg25 : BitVec 32 := Scf.iv c1_i32 c1_i32_122 k0_t1
  let c1_i32_260 : BitVec 32 := 1#32
  let v622 : BitVec 32 := Scalar.andi arg25 c1_i32_260
  let v752 : Index := Scalar.indexCast v622
  let c0_i32_272 : BitVec 32 := 0#32
  let c1_i32_275 : BitVec 32 := 1#32
  let arg26 : BitVec 32 := Scf.iv c0_i32_272 c1_i32_275 k0_t4
  let v753 : Index := Scalar.indexCast arg26
  let c0_331 : Index := 0#32
  let c128 : Index := 128#32
  ![v752.toNat, v753.toNat, 0, 128]
def k0_off72 (k0_t1 : Fin k0_t1_loop.trips) (k0_t4 : Fin (k0_t4_loop k0_t1).trips) : Fin 4 → Nat :=
  let c1_i32 : BitVec 32 := 1#32
  let c1_i32_122 : BitVec 32 := 1#32
  let arg25 : BitVec 32 := Scf.iv c1_i32 c1_i32_122 k0_t1
  let c1_i32_260 : BitVec 32 := 1#32
  let v622 : BitVec 32 := Scalar.andi arg25 c1_i32_260
  let v777 : Index := Scalar.indexCast v622
  let c0_i32_272 : BitVec 32 := 0#32
  let c1_i32_275 : BitVec 32 := 1#32
  let arg26 : BitVec 32 := Scf.iv c0_i32_272 c1_i32_275 k0_t4
  let v778 : Index := Scalar.indexCast arg26
  let c0_341 : Index := 0#32
  let c256_342 : Index := 256#32
  ![v777.toNat, v778.toNat, 0, 256]
def k0_off73 (k0_t1 : Fin k0_t1_loop.trips) (k0_t4 : Fin (k0_t4_loop k0_t1).trips) : Fin 4 → Nat :=
  let c1_i32 : BitVec 32 := 1#32
  let c1_i32_122 : BitVec 32 := 1#32
  let arg25 : BitVec 32 := Scf.iv c1_i32 c1_i32_122 k0_t1
  let c1_i32_260 : BitVec 32 := 1#32
  let v622 : BitVec 32 := Scalar.andi arg25 c1_i32_260
  let v802 : Index := Scalar.indexCast v622
  let c0_i32_272 : BitVec 32 := 0#32
  let c1_i32_275 : BitVec 32 := 1#32
  let arg26 : BitVec 32 := Scf.iv c0_i32_272 c1_i32_275 k0_t4
  let v803 : Index := Scalar.indexCast arg26
  let c0_352 : Index := 0#32
  let c384 : Index := 384#32
  ![v802.toNat, v803.toNat, 0, 384]
def k0_off74 (k0_t1 : Fin k0_t1_loop.trips) (k0_t4 : Fin (k0_t4_loop k0_t1).trips) : Fin 4 → Nat :=
  let c1_i32 : BitVec 32 := 1#32
  let c1_i32_122 : BitVec 32 := 1#32
  let arg25 : BitVec 32 := Scf.iv c1_i32 c1_i32_122 k0_t1
  let c1_i32_260 : BitVec 32 := 1#32
  let v622 : BitVec 32 := Scalar.andi arg25 c1_i32_260
  let v846 : Index := Scalar.indexCast v622
  let c0_i32_272 : BitVec 32 := 0#32
  let c1_i32_275 : BitVec 32 := 1#32
  let arg26 : BitVec 32 := Scf.iv c0_i32_272 c1_i32_275 k0_t4
  let v847 : Index := Scalar.indexCast arg26
  let c256_373 : Index := 256#32
  let c0_374 : Index := 0#32
  ![v846.toNat, v847.toNat, 256, 0]
def k0_off75 (k0_t1 : Fin k0_t1_loop.trips) (k0_t4 : Fin (k0_t4_loop k0_t1).trips) : Fin 4 → Nat :=
  let c1_i32 : BitVec 32 := 1#32
  let c1_i32_122 : BitVec 32 := 1#32
  let arg25 : BitVec 32 := Scf.iv c1_i32 c1_i32_122 k0_t1
  let c1_i32_260 : BitVec 32 := 1#32
  let v622 : BitVec 32 := Scalar.andi arg25 c1_i32_260
  let v871 : Index := Scalar.indexCast v622
  let c0_i32_272 : BitVec 32 := 0#32
  let c1_i32_275 : BitVec 32 := 1#32
  let arg26 : BitVec 32 := Scf.iv c0_i32_272 c1_i32_275 k0_t4
  let v872 : Index := Scalar.indexCast arg26
  let c256_384 : Index := 256#32
  let c128_385 : Index := 128#32
  ![v871.toNat, v872.toNat, 256, 128]
def k0_off76 (k0_t1 : Fin k0_t1_loop.trips) (k0_t4 : Fin (k0_t4_loop k0_t1).trips) : Fin 4 → Nat :=
  let c1_i32 : BitVec 32 := 1#32
  let c1_i32_122 : BitVec 32 := 1#32
  let arg25 : BitVec 32 := Scf.iv c1_i32 c1_i32_122 k0_t1
  let c1_i32_260 : BitVec 32 := 1#32
  let v622 : BitVec 32 := Scalar.andi arg25 c1_i32_260
  let v896 : Index := Scalar.indexCast v622
  let c0_i32_272 : BitVec 32 := 0#32
  let c1_i32_275 : BitVec 32 := 1#32
  let arg26 : BitVec 32 := Scf.iv c0_i32_272 c1_i32_275 k0_t4
  let v897 : Index := Scalar.indexCast arg26
  let c256_395 : Index := 256#32
  let c256_396 : Index := 256#32
  ![v896.toNat, v897.toNat, 256, 256]
def k0_off77 (k0_t1 : Fin k0_t1_loop.trips) (k0_t4 : Fin (k0_t4_loop k0_t1).trips) : Fin 4 → Nat :=
  let c1_i32 : BitVec 32 := 1#32
  let c1_i32_122 : BitVec 32 := 1#32
  let arg25 : BitVec 32 := Scf.iv c1_i32 c1_i32_122 k0_t1
  let c1_i32_260 : BitVec 32 := 1#32
  let v622 : BitVec 32 := Scalar.andi arg25 c1_i32_260
  let v921 : Index := Scalar.indexCast v622
  let c0_i32_272 : BitVec 32 := 0#32
  let c1_i32_275 : BitVec 32 := 1#32
  let arg26 : BitVec 32 := Scf.iv c0_i32_272 c1_i32_275 k0_t4
  let v922 : Index := Scalar.indexCast arg26
  let c256_406 : Index := 256#32
  let c384_407 : Index := 384#32
  ![v921.toNat, v922.toNat, 256, 384]
@[reducible] def k0_t5_loop (k0_t1 : Fin k0_t1_loop.trips) : Scf.Loop 32 :=
  let c0_i32_272 : BitVec 32 := 0#32
  let c1_i32 : BitVec 32 := 1#32
  let c1_i32_122 : BitVec 32 := 1#32
  let arg25 : BitVec 32 := Scf.iv c1_i32 c1_i32_122 k0_t1
  let c1_i32_271 : BitVec 32 := 1#32
  let v640 : BitVec 32 := Scalar.addi arg25 c1_i32_271
  let v641 : BitVec 32 := Scalar.subi v640 c0_i32_272
  let c1_i32_274 : BitVec 32 := 1#32
  let v643 : BitVec 32 := Scalar.divsi v641 c1_i32_274
  let v644 : BitVec 32 := Scalar.muli v643 c1_i32_274
  let v645 : BitVec 32 := Scalar.addi c0_i32_272 v644
  let v642 : BitVec 32 := Scalar.addi c0_i32_272 v641
  let c1_i32_276 : BitVec 32 := 1#32
  ⟨v645, v642, c1_i32_276⟩
def k0_off78 (k0_t1 : Fin k0_t1_loop.trips) (k0_t5 : Fin (k0_t5_loop k0_t1).trips) : Fin 3 → Nat :=
  let c0_303 : Index := 0#32
  let c0_i32_272 : BitVec 32 := 0#32
  let c1_i32 : BitVec 32 := 1#32
  let c1_i32_122 : BitVec 32 := 1#32
  let arg25 : BitVec 32 := Scf.iv c1_i32 c1_i32_122 k0_t1
  let c1_i32_271 : BitVec 32 := 1#32
  let v640 : BitVec 32 := Scalar.addi arg25 c1_i32_271
  let v641 : BitVec 32 := Scalar.subi v640 c0_i32_272
  let c1_i32_274 : BitVec 32 := 1#32
  let v643 : BitVec 32 := Scalar.divsi v641 c1_i32_274
  let v644 : BitVec 32 := Scalar.muli v643 c1_i32_274
  let v645 : BitVec 32 := Scalar.addi c0_i32_272 v644
  let c1_i32_276 : BitVec 32 := 1#32
  let arg26 : BitVec 32 := Scf.iv v645 c1_i32_276 k0_t5
  let v690 : Index := Scalar.indexCast arg26
  let c0_304 : Index := 0#32
  ![0, v690.toNat, 0]
def k0_off79 (k0_t1 : Fin k0_t1_loop.trips) (c0_i32_306 : BitVec 32) : Fin 3 → Nat :=
  let c0_307 : Index := 0#32
  let c1_i32 : BitVec 32 := 1#32
  let c1_i32_122 : BitVec 32 := 1#32
  let arg25 : BitVec 32 := Scf.iv c1_i32 c1_i32_122 k0_t1
  let c512_i32_305 : BitVec 32 := 512#32
  let v693 : BitVec 32 := Scalar.muli arg25 c512_i32_305
  let v694 : BitVec 32 := Scalar.addi v693 c0_i32_306
  let v695 : Index := Scalar.indexCast v694
  let c0_308 : Index := 0#32
  ![0, v695.toNat, 0]
def k0_off80 (k0_t1 : Fin k0_t1_loop.trips) (k0_t5 : Fin (k0_t5_loop k0_t1).trips) : Fin 3 → Nat :=
  let c0_310 : Index := 0#32
  let c0_i32_272 : BitVec 32 := 0#32
  let c1_i32 : BitVec 32 := 1#32
  let c1_i32_122 : BitVec 32 := 1#32
  let arg25 : BitVec 32 := Scf.iv c1_i32 c1_i32_122 k0_t1
  let c1_i32_271 : BitVec 32 := 1#32
  let v640 : BitVec 32 := Scalar.addi arg25 c1_i32_271
  let v641 : BitVec 32 := Scalar.subi v640 c0_i32_272
  let c1_i32_274 : BitVec 32 := 1#32
  let v643 : BitVec 32 := Scalar.divsi v641 c1_i32_274
  let v644 : BitVec 32 := Scalar.muli v643 c1_i32_274
  let v645 : BitVec 32 := Scalar.addi c0_i32_272 v644
  let c1_i32_276 : BitVec 32 := 1#32
  let arg26 : BitVec 32 := Scf.iv v645 c1_i32_276 k0_t5
  let c512_i32_309 : BitVec 32 := 512#32
  let v698 : BitVec 32 := Scalar.muli arg26 c512_i32_309
  let v699 : Index := Scalar.indexCast v698
  let c0_311 : Index := 0#32
  ![0, v699.toNat, 0]
def k0_off81 (i : grid0.Coords) : Fin 2 → Nat :=
  let arg0 : BitVec 32 := BitVec.ofNat 32 (i 0).val
  let v713 : Index := Scalar.indexCast arg0
  let c5 : Index := 5#32
  ![v713.toNat, 5]
def k0_off82 (k0_t1 : Fin k0_t1_loop.trips) (k0_t5 : Fin (k0_t5_loop k0_t1).trips) : Fin 4 → Nat :=
  let c1_i32 : BitVec 32 := 1#32
  let c1_i32_122 : BitVec 32 := 1#32
  let arg25 : BitVec 32 := Scf.iv c1_i32 c1_i32_122 k0_t1
  let c1_i32_260 : BitVec 32 := 1#32
  let v622 : BitVec 32 := Scalar.andi arg25 c1_i32_260
  let v727 : Index := Scalar.indexCast v622
  let c0_i32_272 : BitVec 32 := 0#32
  let c1_i32_271 : BitVec 32 := 1#32
  let v640 : BitVec 32 := Scalar.addi arg25 c1_i32_271
  let v641 : BitVec 32 := Scalar.subi v640 c0_i32_272
  let c1_i32_274 : BitVec 32 := 1#32
  let v643 : BitVec 32 := Scalar.divsi v641 c1_i32_274
  let v644 : BitVec 32 := Scalar.muli v643 c1_i32_274
  let v645 : BitVec 32 := Scalar.addi c0_i32_272 v644
  let c1_i32_276 : BitVec 32 := 1#32
  let arg26 : BitVec 32 := Scf.iv v645 c1_i32_276 k0_t5
  let v728 : Index := Scalar.indexCast arg26
  let c0_320 : Index := 0#32
  let c0_321 : Index := 0#32
  ![v727.toNat, v728.toNat, 0, 0]
def k0_off83 (k0_t1 : Fin k0_t1_loop.trips) (k0_t5 : Fin (k0_t5_loop k0_t1).trips) : Fin 4 → Nat :=
  let c1_i32 : BitVec 32 := 1#32
  let c1_i32_122 : BitVec 32 := 1#32
  let arg25 : BitVec 32 := Scf.iv c1_i32 c1_i32_122 k0_t1
  let c1_i32_260 : BitVec 32 := 1#32
  let v622 : BitVec 32 := Scalar.andi arg25 c1_i32_260
  let v752 : Index := Scalar.indexCast v622
  let c0_i32_272 : BitVec 32 := 0#32
  let c1_i32_271 : BitVec 32 := 1#32
  let v640 : BitVec 32 := Scalar.addi arg25 c1_i32_271
  let v641 : BitVec 32 := Scalar.subi v640 c0_i32_272
  let c1_i32_274 : BitVec 32 := 1#32
  let v643 : BitVec 32 := Scalar.divsi v641 c1_i32_274
  let v644 : BitVec 32 := Scalar.muli v643 c1_i32_274
  let v645 : BitVec 32 := Scalar.addi c0_i32_272 v644
  let c1_i32_276 : BitVec 32 := 1#32
  let arg26 : BitVec 32 := Scf.iv v645 c1_i32_276 k0_t5
  let v753 : Index := Scalar.indexCast arg26
  let c0_331 : Index := 0#32
  let c128 : Index := 128#32
  ![v752.toNat, v753.toNat, 0, 128]
def k0_off84 (k0_t1 : Fin k0_t1_loop.trips) (k0_t5 : Fin (k0_t5_loop k0_t1).trips) : Fin 4 → Nat :=
  let c1_i32 : BitVec 32 := 1#32
  let c1_i32_122 : BitVec 32 := 1#32
  let arg25 : BitVec 32 := Scf.iv c1_i32 c1_i32_122 k0_t1
  let c1_i32_260 : BitVec 32 := 1#32
  let v622 : BitVec 32 := Scalar.andi arg25 c1_i32_260
  let v777 : Index := Scalar.indexCast v622
  let c0_i32_272 : BitVec 32 := 0#32
  let c1_i32_271 : BitVec 32 := 1#32
  let v640 : BitVec 32 := Scalar.addi arg25 c1_i32_271
  let v641 : BitVec 32 := Scalar.subi v640 c0_i32_272
  let c1_i32_274 : BitVec 32 := 1#32
  let v643 : BitVec 32 := Scalar.divsi v641 c1_i32_274
  let v644 : BitVec 32 := Scalar.muli v643 c1_i32_274
  let v645 : BitVec 32 := Scalar.addi c0_i32_272 v644
  let c1_i32_276 : BitVec 32 := 1#32
  let arg26 : BitVec 32 := Scf.iv v645 c1_i32_276 k0_t5
  let v778 : Index := Scalar.indexCast arg26
  let c0_341 : Index := 0#32
  let c256_342 : Index := 256#32
  ![v777.toNat, v778.toNat, 0, 256]
def k0_off85 (k0_t1 : Fin k0_t1_loop.trips) (k0_t5 : Fin (k0_t5_loop k0_t1).trips) : Fin 4 → Nat :=
  let c1_i32 : BitVec 32 := 1#32
  let c1_i32_122 : BitVec 32 := 1#32
  let arg25 : BitVec 32 := Scf.iv c1_i32 c1_i32_122 k0_t1
  let c1_i32_260 : BitVec 32 := 1#32
  let v622 : BitVec 32 := Scalar.andi arg25 c1_i32_260
  let v802 : Index := Scalar.indexCast v622
  let c0_i32_272 : BitVec 32 := 0#32
  let c1_i32_271 : BitVec 32 := 1#32
  let v640 : BitVec 32 := Scalar.addi arg25 c1_i32_271
  let v641 : BitVec 32 := Scalar.subi v640 c0_i32_272
  let c1_i32_274 : BitVec 32 := 1#32
  let v643 : BitVec 32 := Scalar.divsi v641 c1_i32_274
  let v644 : BitVec 32 := Scalar.muli v643 c1_i32_274
  let v645 : BitVec 32 := Scalar.addi c0_i32_272 v644
  let c1_i32_276 : BitVec 32 := 1#32
  let arg26 : BitVec 32 := Scf.iv v645 c1_i32_276 k0_t5
  let v803 : Index := Scalar.indexCast arg26
  let c0_352 : Index := 0#32
  let c384 : Index := 384#32
  ![v802.toNat, v803.toNat, 0, 384]
def k0_off86 (k0_t1 : Fin k0_t1_loop.trips) (k0_t5 : Fin (k0_t5_loop k0_t1).trips) : Fin 4 → Nat :=
  let c1_i32 : BitVec 32 := 1#32
  let c1_i32_122 : BitVec 32 := 1#32
  let arg25 : BitVec 32 := Scf.iv c1_i32 c1_i32_122 k0_t1
  let c1_i32_260 : BitVec 32 := 1#32
  let v622 : BitVec 32 := Scalar.andi arg25 c1_i32_260
  let v846 : Index := Scalar.indexCast v622
  let c0_i32_272 : BitVec 32 := 0#32
  let c1_i32_271 : BitVec 32 := 1#32
  let v640 : BitVec 32 := Scalar.addi arg25 c1_i32_271
  let v641 : BitVec 32 := Scalar.subi v640 c0_i32_272
  let c1_i32_274 : BitVec 32 := 1#32
  let v643 : BitVec 32 := Scalar.divsi v641 c1_i32_274
  let v644 : BitVec 32 := Scalar.muli v643 c1_i32_274
  let v645 : BitVec 32 := Scalar.addi c0_i32_272 v644
  let c1_i32_276 : BitVec 32 := 1#32
  let arg26 : BitVec 32 := Scf.iv v645 c1_i32_276 k0_t5
  let v847 : Index := Scalar.indexCast arg26
  let c256_373 : Index := 256#32
  let c0_374 : Index := 0#32
  ![v846.toNat, v847.toNat, 256, 0]
def k0_off87 (k0_t1 : Fin k0_t1_loop.trips) (k0_t5 : Fin (k0_t5_loop k0_t1).trips) : Fin 4 → Nat :=
  let c1_i32 : BitVec 32 := 1#32
  let c1_i32_122 : BitVec 32 := 1#32
  let arg25 : BitVec 32 := Scf.iv c1_i32 c1_i32_122 k0_t1
  let c1_i32_260 : BitVec 32 := 1#32
  let v622 : BitVec 32 := Scalar.andi arg25 c1_i32_260
  let v871 : Index := Scalar.indexCast v622
  let c0_i32_272 : BitVec 32 := 0#32
  let c1_i32_271 : BitVec 32 := 1#32
  let v640 : BitVec 32 := Scalar.addi arg25 c1_i32_271
  let v641 : BitVec 32 := Scalar.subi v640 c0_i32_272
  let c1_i32_274 : BitVec 32 := 1#32
  let v643 : BitVec 32 := Scalar.divsi v641 c1_i32_274
  let v644 : BitVec 32 := Scalar.muli v643 c1_i32_274
  let v645 : BitVec 32 := Scalar.addi c0_i32_272 v644
  let c1_i32_276 : BitVec 32 := 1#32
  let arg26 : BitVec 32 := Scf.iv v645 c1_i32_276 k0_t5
  let v872 : Index := Scalar.indexCast arg26
  let c256_384 : Index := 256#32
  let c128_385 : Index := 128#32
  ![v871.toNat, v872.toNat, 256, 128]
def k0_off88 (k0_t1 : Fin k0_t1_loop.trips) (k0_t5 : Fin (k0_t5_loop k0_t1).trips) : Fin 4 → Nat :=
  let c1_i32 : BitVec 32 := 1#32
  let c1_i32_122 : BitVec 32 := 1#32
  let arg25 : BitVec 32 := Scf.iv c1_i32 c1_i32_122 k0_t1
  let c1_i32_260 : BitVec 32 := 1#32
  let v622 : BitVec 32 := Scalar.andi arg25 c1_i32_260
  let v896 : Index := Scalar.indexCast v622
  let c0_i32_272 : BitVec 32 := 0#32
  let c1_i32_271 : BitVec 32 := 1#32
  let v640 : BitVec 32 := Scalar.addi arg25 c1_i32_271
  let v641 : BitVec 32 := Scalar.subi v640 c0_i32_272
  let c1_i32_274 : BitVec 32 := 1#32
  let v643 : BitVec 32 := Scalar.divsi v641 c1_i32_274
  let v644 : BitVec 32 := Scalar.muli v643 c1_i32_274
  let v645 : BitVec 32 := Scalar.addi c0_i32_272 v644
  let c1_i32_276 : BitVec 32 := 1#32
  let arg26 : BitVec 32 := Scf.iv v645 c1_i32_276 k0_t5
  let v897 : Index := Scalar.indexCast arg26
  let c256_395 : Index := 256#32
  let c256_396 : Index := 256#32
  ![v896.toNat, v897.toNat, 256, 256]
def k0_off89 (k0_t1 : Fin k0_t1_loop.trips) (k0_t5 : Fin (k0_t5_loop k0_t1).trips) : Fin 4 → Nat :=
  let c1_i32 : BitVec 32 := 1#32
  let c1_i32_122 : BitVec 32 := 1#32
  let arg25 : BitVec 32 := Scf.iv c1_i32 c1_i32_122 k0_t1
  let c1_i32_260 : BitVec 32 := 1#32
  let v622 : BitVec 32 := Scalar.andi arg25 c1_i32_260
  let v921 : Index := Scalar.indexCast v622
  let c0_i32_272 : BitVec 32 := 0#32
  let c1_i32_271 : BitVec 32 := 1#32
  let v640 : BitVec 32 := Scalar.addi arg25 c1_i32_271
  let v641 : BitVec 32 := Scalar.subi v640 c0_i32_272
  let c1_i32_274 : BitVec 32 := 1#32
  let v643 : BitVec 32 := Scalar.divsi v641 c1_i32_274
  let v644 : BitVec 32 := Scalar.muli v643 c1_i32_274
  let v645 : BitVec 32 := Scalar.addi c0_i32_272 v644
  let c1_i32_276 : BitVec 32 := 1#32
  let arg26 : BitVec 32 := Scf.iv v645 c1_i32_276 k0_t5
  let v922 : Index := Scalar.indexCast arg26
  let c256_406 : Index := 256#32
  let c384_407 : Index := 384#32
  ![v921.toNat, v922.toNat, 256, 384]
@[reducible] def k0_t6_loop (k0_t1 : Fin k0_t1_loop.trips) : Scf.Loop 32 :=
  let c0_i32_286 : BitVec 32 := 0#32
  let c1_i32 : BitVec 32 := 1#32
  let c1_i32_122 : BitVec 32 := 1#32
  let arg25 : BitVec 32 := Scf.iv c1_i32 c1_i32_122 k0_t1
  let c1_i32_285 : BitVec 32 := 1#32
  let v660 : BitVec 32 := Scalar.addi arg25 c1_i32_285
  let v661 : BitVec 32 := Scalar.subi v660 c0_i32_286
  let c1_i32_288 : BitVec 32 := 1#32
  let v663 : BitVec 32 := Scalar.divsi v661 c1_i32_288
  let v664 : BitVec 32 := Scalar.muli v663 c1_i32_288
  let v665 : BitVec 32 := Scalar.addi c0_i32_286 v664
  let c1_i32_289 : BitVec 32 := 1#32
  ⟨c0_i32_286, v665, c1_i32_289⟩
def k0_off90 (k0_t1 : Fin k0_t1_loop.trips) (k0_t6 : Fin (k0_t6_loop k0_t1).trips) : Fin 4 → Nat :=
  let c1_i32 : BitVec 32 := 1#32
  let c1_i32_122 : BitVec 32 := 1#32
  let arg25 : BitVec 32 := Scf.iv c1_i32 c1_i32_122 k0_t1
  let c1_i32_260 : BitVec 32 := 1#32
  let v622 : BitVec 32 := Scalar.andi arg25 c1_i32_260
  let v690 : Index := Scalar.indexCast v622
  let c0_i32_286 : BitVec 32 := 0#32
  let c1_i32_289 : BitVec 32 := 1#32
  let arg26 : BitVec 32 := Scf.iv c0_i32_286 c1_i32_289 k0_t6
  let v691 : Index := Scalar.indexCast arg26
  let c0_303 : Index := 0#32
  let c0_304 : Index := 0#32
  ![v690.toNat, v691.toNat, 0, 0]
def k0_off91 (k0_t1 : Fin k0_t1_loop.trips) (k0_t6 : Fin (k0_t6_loop k0_t1).trips) : Fin 4 → Nat :=
  let c1_i32 : BitVec 32 := 1#32
  let c1_i32_122 : BitVec 32 := 1#32
  let arg25 : BitVec 32 := Scf.iv c1_i32 c1_i32_122 k0_t1
  let c1_i32_260 : BitVec 32 := 1#32
  let v622 : BitVec 32 := Scalar.andi arg25 c1_i32_260
  let v717 : Index := Scalar.indexCast v622
  let c0_i32_286 : BitVec 32 := 0#32
  let c1_i32_289 : BitVec 32 := 1#32
  let arg26 : BitVec 32 := Scf.iv c0_i32_286 c1_i32_289 k0_t6
  let v718 : Index := Scalar.indexCast arg26
  let c0_319 : Index := 0#32
  let c128 : Index := 128#32
  ![v717.toNat, v718.toNat, 0, 128]
def k0_off92 (k0_t1 : Fin k0_t1_loop.trips) (k0_t6 : Fin (k0_t6_loop k0_t1).trips) : Fin 4 → Nat :=
  let c1_i32 : BitVec 32 := 1#32
  let c1_i32_122 : BitVec 32 := 1#32
  let arg25 : BitVec 32 := Scf.iv c1_i32 c1_i32_122 k0_t1
  let c1_i32_260 : BitVec 32 := 1#32
  let v622 : BitVec 32 := Scalar.andi arg25 c1_i32_260
  let v744 : Index := Scalar.indexCast v622
  let c0_i32_286 : BitVec 32 := 0#32
  let c1_i32_289 : BitVec 32 := 1#32
  let arg26 : BitVec 32 := Scf.iv c0_i32_286 c1_i32_289 k0_t6
  let v745 : Index := Scalar.indexCast arg26
  let c0_334 : Index := 0#32
  let c256_335 : Index := 256#32
  ![v744.toNat, v745.toNat, 0, 256]
def k0_off93 (k0_t1 : Fin k0_t1_loop.trips) (k0_t6 : Fin (k0_t6_loop k0_t1).trips) : Fin 4 → Nat :=
  let c1_i32 : BitVec 32 := 1#32
  let c1_i32_122 : BitVec 32 := 1#32
  let arg25 : BitVec 32 := Scf.iv c1_i32 c1_i32_122 k0_t1
  let c1_i32_260 : BitVec 32 := 1#32
  let v622 : BitVec 32 := Scalar.andi arg25 c1_i32_260
  let v771 : Index := Scalar.indexCast v622
  let c0_i32_286 : BitVec 32 := 0#32
  let c1_i32_289 : BitVec 32 := 1#32
  let arg26 : BitVec 32 := Scf.iv c0_i32_286 c1_i32_289 k0_t6
  let v772 : Index := Scalar.indexCast arg26
  let c0_350 : Index := 0#32
  let c384 : Index := 384#32
  ![v771.toNat, v772.toNat, 0, 384]
def k0_off94 (k0_t1 : Fin k0_t1_loop.trips) (k0_t6 : Fin (k0_t6_loop k0_t1).trips) : Fin 4 → Nat :=
  let c1_i32 : BitVec 32 := 1#32
  let c1_i32_122 : BitVec 32 := 1#32
  let arg25 : BitVec 32 := Scf.iv c1_i32 c1_i32_122 k0_t1
  let c1_i32_260 : BitVec 32 := 1#32
  let v622 : BitVec 32 := Scalar.andi arg25 c1_i32_260
  let v798 : Index := Scalar.indexCast v622
  let c0_i32_286 : BitVec 32 := 0#32
  let c1_i32_289 : BitVec 32 := 1#32
  let arg26 : BitVec 32 := Scf.iv c0_i32_286 c1_i32_289 k0_t6
  let v799 : Index := Scalar.indexCast arg26
  let c256_365 : Index := 256#32
  let c0_366 : Index := 0#32
  ![v798.toNat, v799.toNat, 256, 0]
def k0_off95 (k0_t1 : Fin k0_t1_loop.trips) (k0_t6 : Fin (k0_t6_loop k0_t1).trips) : Fin 4 → Nat :=
  let c1_i32 : BitVec 32 := 1#32
  let c1_i32_122 : BitVec 32 := 1#32
  let arg25 : BitVec 32 := Scf.iv c1_i32 c1_i32_122 k0_t1
  let c1_i32_260 : BitVec 32 := 1#32
  let v622 : BitVec 32 := Scalar.andi arg25 c1_i32_260
  let v825 : Index := Scalar.indexCast v622
  let c0_i32_286 : BitVec 32 := 0#32
  let c1_i32_289 : BitVec 32 := 1#32
  let arg26 : BitVec 32 := Scf.iv c0_i32_286 c1_i32_289 k0_t6
  let v826 : Index := Scalar.indexCast arg26
  let c256_381 : Index := 256#32
  let c128_382 : Index := 128#32
  ![v825.toNat, v826.toNat, 256, 128]
def k0_off96 (k0_t1 : Fin k0_t1_loop.trips) (k0_t6 : Fin (k0_t6_loop k0_t1).trips) : Fin 4 → Nat :=
  let c1_i32 : BitVec 32 := 1#32
  let c1_i32_122 : BitVec 32 := 1#32
  let arg25 : BitVec 32 := Scf.iv c1_i32 c1_i32_122 k0_t1
  let c1_i32_260 : BitVec 32 := 1#32
  let v622 : BitVec 32 := Scalar.andi arg25 c1_i32_260
  let v852 : Index := Scalar.indexCast v622
  let c0_i32_286 : BitVec 32 := 0#32
  let c1_i32_289 : BitVec 32 := 1#32
  let arg26 : BitVec 32 := Scf.iv c0_i32_286 c1_i32_289 k0_t6
  let v853 : Index := Scalar.indexCast arg26
  let c256_397 : Index := 256#32
  let c256_398 : Index := 256#32
  ![v852.toNat, v853.toNat, 256, 256]
def k0_off97 (k0_t1 : Fin k0_t1_loop.trips) (k0_t6 : Fin (k0_t6_loop k0_t1).trips) : Fin 4 → Nat :=
  let c1_i32 : BitVec 32 := 1#32
  let c1_i32_122 : BitVec 32 := 1#32
  let arg25 : BitVec 32 := Scf.iv c1_i32 c1_i32_122 k0_t1
  let c1_i32_260 : BitVec 32 := 1#32
  let v622 : BitVec 32 := Scalar.andi arg25 c1_i32_260
  let v879 : Index := Scalar.indexCast v622
  let c0_i32_286 : BitVec 32 := 0#32
  let c1_i32_289 : BitVec 32 := 1#32
  let arg26 : BitVec 32 := Scf.iv c0_i32_286 c1_i32_289 k0_t6
  let v880 : Index := Scalar.indexCast arg26
  let c256_413 : Index := 256#32
  let c384_414 : Index := 384#32
  ![v879.toNat, v880.toNat, 256, 384]
@[reducible] def k0_t7_loop (k0_t1 : Fin k0_t1_loop.trips) : Scf.Loop 32 :=
  let c0_i32_286 : BitVec 32 := 0#32
  let c1_i32 : BitVec 32 := 1#32
  let c1_i32_122 : BitVec 32 := 1#32
  let arg25 : BitVec 32 := Scf.iv c1_i32 c1_i32_122 k0_t1
  let c1_i32_285 : BitVec 32 := 1#32
  let v660 : BitVec 32 := Scalar.addi arg25 c1_i32_285
  let v661 : BitVec 32 := Scalar.subi v660 c0_i32_286
  let c1_i32_288 : BitVec 32 := 1#32
  let v663 : BitVec 32 := Scalar.divsi v661 c1_i32_288
  let v664 : BitVec 32 := Scalar.muli v663 c1_i32_288
  let v665 : BitVec 32 := Scalar.addi c0_i32_286 v664
  let v662 : BitVec 32 := Scalar.addi c0_i32_286 v661
  let c1_i32_290 : BitVec 32 := 1#32
  ⟨v665, v662, c1_i32_290⟩
def k0_off98 (k0_t1 : Fin k0_t1_loop.trips) (k0_t7 : Fin (k0_t7_loop k0_t1).trips) : Fin 4 → Nat :=
  let c1_i32 : BitVec 32 := 1#32
  let c1_i32_122 : BitVec 32 := 1#32
  let arg25 : BitVec 32 := Scf.iv c1_i32 c1_i32_122 k0_t1
  let c1_i32_260 : BitVec 32 := 1#32
  let v622 : BitVec 32 := Scalar.andi arg25 c1_i32_260
  let v690 : Index := Scalar.indexCast v622
  let c0_i32_286 : BitVec 32 := 0#32
  let c1_i32_285 : BitVec 32 := 1#32
  let v660 : BitVec 32 := Scalar.addi arg25 c1_i32_285
  let v661 : BitVec 32 := Scalar.subi v660 c0_i32_286
  let c1_i32_288 : BitVec 32 := 1#32
  let v663 : BitVec 32 := Scalar.divsi v661 c1_i32_288
  let v664 : BitVec 32 := Scalar.muli v663 c1_i32_288
  let v665 : BitVec 32 := Scalar.addi c0_i32_286 v664
  let c1_i32_290 : BitVec 32 := 1#32
  let arg26 : BitVec 32 := Scf.iv v665 c1_i32_290 k0_t7
  let v691 : Index := Scalar.indexCast arg26
  let c0_303 : Index := 0#32
  let c0_304 : Index := 0#32
  ![v690.toNat, v691.toNat, 0, 0]
def k0_off99 (k0_t1 : Fin k0_t1_loop.trips) (k0_t7 : Fin (k0_t7_loop k0_t1).trips) : Fin 4 → Nat :=
  let c1_i32 : BitVec 32 := 1#32
  let c1_i32_122 : BitVec 32 := 1#32
  let arg25 : BitVec 32 := Scf.iv c1_i32 c1_i32_122 k0_t1
  let c1_i32_260 : BitVec 32 := 1#32
  let v622 : BitVec 32 := Scalar.andi arg25 c1_i32_260
  let v717 : Index := Scalar.indexCast v622
  let c0_i32_286 : BitVec 32 := 0#32
  let c1_i32_285 : BitVec 32 := 1#32
  let v660 : BitVec 32 := Scalar.addi arg25 c1_i32_285
  let v661 : BitVec 32 := Scalar.subi v660 c0_i32_286
  let c1_i32_288 : BitVec 32 := 1#32
  let v663 : BitVec 32 := Scalar.divsi v661 c1_i32_288
  let v664 : BitVec 32 := Scalar.muli v663 c1_i32_288
  let v665 : BitVec 32 := Scalar.addi c0_i32_286 v664
  let c1_i32_290 : BitVec 32 := 1#32
  let arg26 : BitVec 32 := Scf.iv v665 c1_i32_290 k0_t7
  let v718 : Index := Scalar.indexCast arg26
  let c0_319 : Index := 0#32
  let c128 : Index := 128#32
  ![v717.toNat, v718.toNat, 0, 128]
def k0_off100 (k0_t1 : Fin k0_t1_loop.trips) (k0_t7 : Fin (k0_t7_loop k0_t1).trips) : Fin 4 → Nat :=
  let c1_i32 : BitVec 32 := 1#32
  let c1_i32_122 : BitVec 32 := 1#32
  let arg25 : BitVec 32 := Scf.iv c1_i32 c1_i32_122 k0_t1
  let c1_i32_260 : BitVec 32 := 1#32
  let v622 : BitVec 32 := Scalar.andi arg25 c1_i32_260
  let v744 : Index := Scalar.indexCast v622
  let c0_i32_286 : BitVec 32 := 0#32
  let c1_i32_285 : BitVec 32 := 1#32
  let v660 : BitVec 32 := Scalar.addi arg25 c1_i32_285
  let v661 : BitVec 32 := Scalar.subi v660 c0_i32_286
  let c1_i32_288 : BitVec 32 := 1#32
  let v663 : BitVec 32 := Scalar.divsi v661 c1_i32_288
  let v664 : BitVec 32 := Scalar.muli v663 c1_i32_288
  let v665 : BitVec 32 := Scalar.addi c0_i32_286 v664
  let c1_i32_290 : BitVec 32 := 1#32
  let arg26 : BitVec 32 := Scf.iv v665 c1_i32_290 k0_t7
  let v745 : Index := Scalar.indexCast arg26
  let c0_334 : Index := 0#32
  let c256_335 : Index := 256#32
  ![v744.toNat, v745.toNat, 0, 256]
def k0_off101 (k0_t1 : Fin k0_t1_loop.trips) (k0_t7 : Fin (k0_t7_loop k0_t1).trips) : Fin 4 → Nat :=
  let c1_i32 : BitVec 32 := 1#32
  let c1_i32_122 : BitVec 32 := 1#32
  let arg25 : BitVec 32 := Scf.iv c1_i32 c1_i32_122 k0_t1
  let c1_i32_260 : BitVec 32 := 1#32
  let v622 : BitVec 32 := Scalar.andi arg25 c1_i32_260
  let v771 : Index := Scalar.indexCast v622
  let c0_i32_286 : BitVec 32 := 0#32
  let c1_i32_285 : BitVec 32 := 1#32
  let v660 : BitVec 32 := Scalar.addi arg25 c1_i32_285
  let v661 : BitVec 32 := Scalar.subi v660 c0_i32_286
  let c1_i32_288 : BitVec 32 := 1#32
  let v663 : BitVec 32 := Scalar.divsi v661 c1_i32_288
  let v664 : BitVec 32 := Scalar.muli v663 c1_i32_288
  let v665 : BitVec 32 := Scalar.addi c0_i32_286 v664
  let c1_i32_290 : BitVec 32 := 1#32
  let arg26 : BitVec 32 := Scf.iv v665 c1_i32_290 k0_t7
  let v772 : Index := Scalar.indexCast arg26
  let c0_350 : Index := 0#32
  let c384 : Index := 384#32
  ![v771.toNat, v772.toNat, 0, 384]
def k0_off102 (k0_t1 : Fin k0_t1_loop.trips) (k0_t7 : Fin (k0_t7_loop k0_t1).trips) : Fin 4 → Nat :=
  let c1_i32 : BitVec 32 := 1#32
  let c1_i32_122 : BitVec 32 := 1#32
  let arg25 : BitVec 32 := Scf.iv c1_i32 c1_i32_122 k0_t1
  let c1_i32_260 : BitVec 32 := 1#32
  let v622 : BitVec 32 := Scalar.andi arg25 c1_i32_260
  let v798 : Index := Scalar.indexCast v622
  let c0_i32_286 : BitVec 32 := 0#32
  let c1_i32_285 : BitVec 32 := 1#32
  let v660 : BitVec 32 := Scalar.addi arg25 c1_i32_285
  let v661 : BitVec 32 := Scalar.subi v660 c0_i32_286
  let c1_i32_288 : BitVec 32 := 1#32
  let v663 : BitVec 32 := Scalar.divsi v661 c1_i32_288
  let v664 : BitVec 32 := Scalar.muli v663 c1_i32_288
  let v665 : BitVec 32 := Scalar.addi c0_i32_286 v664
  let c1_i32_290 : BitVec 32 := 1#32
  let arg26 : BitVec 32 := Scf.iv v665 c1_i32_290 k0_t7
  let v799 : Index := Scalar.indexCast arg26
  let c256_365 : Index := 256#32
  let c0_366 : Index := 0#32
  ![v798.toNat, v799.toNat, 256, 0]
def k0_off103 (k0_t1 : Fin k0_t1_loop.trips) (k0_t7 : Fin (k0_t7_loop k0_t1).trips) : Fin 4 → Nat :=
  let c1_i32 : BitVec 32 := 1#32
  let c1_i32_122 : BitVec 32 := 1#32
  let arg25 : BitVec 32 := Scf.iv c1_i32 c1_i32_122 k0_t1
  let c1_i32_260 : BitVec 32 := 1#32
  let v622 : BitVec 32 := Scalar.andi arg25 c1_i32_260
  let v825 : Index := Scalar.indexCast v622
  let c0_i32_286 : BitVec 32 := 0#32
  let c1_i32_285 : BitVec 32 := 1#32
  let v660 : BitVec 32 := Scalar.addi arg25 c1_i32_285
  let v661 : BitVec 32 := Scalar.subi v660 c0_i32_286
  let c1_i32_288 : BitVec 32 := 1#32
  let v663 : BitVec 32 := Scalar.divsi v661 c1_i32_288
  let v664 : BitVec 32 := Scalar.muli v663 c1_i32_288
  let v665 : BitVec 32 := Scalar.addi c0_i32_286 v664
  let c1_i32_290 : BitVec 32 := 1#32
  let arg26 : BitVec 32 := Scf.iv v665 c1_i32_290 k0_t7
  let v826 : Index := Scalar.indexCast arg26
  let c256_381 : Index := 256#32
  let c128_382 : Index := 128#32
  ![v825.toNat, v826.toNat, 256, 128]
def k0_off104 (k0_t1 : Fin k0_t1_loop.trips) (k0_t7 : Fin (k0_t7_loop k0_t1).trips) : Fin 4 → Nat :=
  let c1_i32 : BitVec 32 := 1#32
  let c1_i32_122 : BitVec 32 := 1#32
  let arg25 : BitVec 32 := Scf.iv c1_i32 c1_i32_122 k0_t1
  let c1_i32_260 : BitVec 32 := 1#32
  let v622 : BitVec 32 := Scalar.andi arg25 c1_i32_260
  let v852 : Index := Scalar.indexCast v622
  let c0_i32_286 : BitVec 32 := 0#32
  let c1_i32_285 : BitVec 32 := 1#32
  let v660 : BitVec 32 := Scalar.addi arg25 c1_i32_285
  let v661 : BitVec 32 := Scalar.subi v660 c0_i32_286
  let c1_i32_288 : BitVec 32 := 1#32
  let v663 : BitVec 32 := Scalar.divsi v661 c1_i32_288
  let v664 : BitVec 32 := Scalar.muli v663 c1_i32_288
  let v665 : BitVec 32 := Scalar.addi c0_i32_286 v664
  let c1_i32_290 : BitVec 32 := 1#32
  let arg26 : BitVec 32 := Scf.iv v665 c1_i32_290 k0_t7
  let v853 : Index := Scalar.indexCast arg26
  let c256_397 : Index := 256#32
  let c256_398 : Index := 256#32
  ![v852.toNat, v853.toNat, 256, 256]
def k0_off105 (k0_t1 : Fin k0_t1_loop.trips) (k0_t7 : Fin (k0_t7_loop k0_t1).trips) : Fin 4 → Nat :=
  let c1_i32 : BitVec 32 := 1#32
  let c1_i32_122 : BitVec 32 := 1#32
  let arg25 : BitVec 32 := Scf.iv c1_i32 c1_i32_122 k0_t1
  let c1_i32_260 : BitVec 32 := 1#32
  let v622 : BitVec 32 := Scalar.andi arg25 c1_i32_260
  let v879 : Index := Scalar.indexCast v622
  let c0_i32_286 : BitVec 32 := 0#32
  let c1_i32_285 : BitVec 32 := 1#32
  let v660 : BitVec 32 := Scalar.addi arg25 c1_i32_285
  let v661 : BitVec 32 := Scalar.subi v660 c0_i32_286
  let c1_i32_288 : BitVec 32 := 1#32
  let v663 : BitVec 32 := Scalar.divsi v661 c1_i32_288
  let v664 : BitVec 32 := Scalar.muli v663 c1_i32_288
  let v665 : BitVec 32 := Scalar.addi c0_i32_286 v664
  let c1_i32_290 : BitVec 32 := 1#32
  let arg26 : BitVec 32 := Scf.iv v665 c1_i32_290 k0_t7
  let v880 : Index := Scalar.indexCast arg26
  let c256_413 : Index := 256#32
  let c384_414 : Index := 384#32
  ![v879.toNat, v880.toNat, 256, 384]
def k0_off106 (k0_t1 : Fin k0_t1_loop.trips) : Fin 3 → Nat :=
  let c1_i32 : BitVec 32 := 1#32
  let c1_i32_122 : BitVec 32 := 1#32
  let arg25 : BitVec 32 := Scf.iv c1_i32 c1_i32_122 k0_t1
  let c1_i32_260 : BitVec 32 := 1#32
  let v622 : BitVec 32 := Scalar.andi arg25 c1_i32_260
  let v677 : Index := Scalar.indexCast v622
  let c0_296 : Index := 0#32
  let c0_297 : Index := 0#32
  ![v677.toNat, 0, 0]
@[reducible] def k0_t8_loop : Scf.Loop 32 :=
  let c0_i32_127 : BitVec 32 := 0#32
  let c8_i32 : BitVec 32 := 8#32
  let v284 : BitVec 32 := Scalar.addi c0_i32_127 c8_i32
  let c1_i32_128 : BitVec 32 := 1#32
  ⟨c0_i32_127, v284, c1_i32_128⟩
def k0_off107 (k0_t8 : Fin k0_t8_loop.trips) : Fin 4 → Nat :=
  let c1_144 : Index := 1#32
  let c0_i32_127 : BitVec 32 := 0#32
  let c1_i32_128 : BitVec 32 := 1#32
  let arg25 : BitVec 32 := Scf.iv c0_i32_127 c1_i32_128 k0_t8
  let v299 : Index := Scalar.indexCast arg25
  let c0_145 : Index := 0#32
  let c0_146 : Index := 0#32
  ![1, v299.toNat, 0, 0]
def k0_off108 (k0_t8 : Fin k0_t8_loop.trips) : Fin 4 → Nat :=
  let c1_150 : Index := 1#32
  let c0_i32_127 : BitVec 32 := 0#32
  let c1_i32_128 : BitVec 32 := 1#32
  let arg25 : BitVec 32 := Scf.iv c0_i32_127 c1_i32_128 k0_t8
  let v308 : Index := Scalar.indexCast arg25
  let c0_151 : Index := 0#32
  let c128 : Index := 128#32
  ![1, v308.toNat, 0, 128]
def k0_off109 (k0_t8 : Fin k0_t8_loop.trips) : Fin 4 → Nat :=
  let c1_155 : Index := 1#32
  let c0_i32_127 : BitVec 32 := 0#32
  let c1_i32_128 : BitVec 32 := 1#32
  let arg25 : BitVec 32 := Scf.iv c0_i32_127 c1_i32_128 k0_t8
  let v317 : Index := Scalar.indexCast arg25
  let c0_156 : Index := 0#32
  let c256_157 : Index := 256#32
  ![1, v317.toNat, 0, 256]
def k0_off110 (k0_t8 : Fin k0_t8_loop.trips) : Fin 4 → Nat :=
  let c1_161 : Index := 1#32
  let c0_i32_127 : BitVec 32 := 0#32
  let c1_i32_128 : BitVec 32 := 1#32
  let arg25 : BitVec 32 := Scf.iv c0_i32_127 c1_i32_128 k0_t8
  let v326 : Index := Scalar.indexCast arg25
  let c0_162 : Index := 0#32
  let c384 : Index := 384#32
  ![1, v326.toNat, 0, 384]
def k0_off111 (k0_t8 : Fin k0_t8_loop.trips) : Fin 4 → Nat :=
  let c1_173 : Index := 1#32
  let c0_i32_127 : BitVec 32 := 0#32
  let c1_i32_128 : BitVec 32 := 1#32
  let arg25 : BitVec 32 := Scf.iv c0_i32_127 c1_i32_128 k0_t8
  let v345 : Index := Scalar.indexCast arg25
  let c256_174 : Index := 256#32
  let c0_175 : Index := 0#32
  ![1, v345.toNat, 256, 0]
def k0_off112 (k0_t8 : Fin k0_t8_loop.trips) : Fin 4 → Nat :=
  let c1_179 : Index := 1#32
  let c0_i32_127 : BitVec 32 := 0#32
  let c1_i32_128 : BitVec 32 := 1#32
  let arg25 : BitVec 32 := Scf.iv c0_i32_127 c1_i32_128 k0_t8
  let v354 : Index := Scalar.indexCast arg25
  let c256_180 : Index := 256#32
  let c128_181 : Index := 128#32
  ![1, v354.toNat, 256, 128]
def k0_off113 (k0_t8 : Fin k0_t8_loop.trips) : Fin 4 → Nat :=
  let c1_185 : Index := 1#32
  let c0_i32_127 : BitVec 32 := 0#32
  let c1_i32_128 : BitVec 32 := 1#32
  let arg25 : BitVec 32 := Scf.iv c0_i32_127 c1_i32_128 k0_t8
  let v363 : Index := Scalar.indexCast arg25
  let c256_186 : Index := 256#32
  let c256_187 : Index := 256#32
  ![1, v363.toNat, 256, 256]
def k0_off114 (k0_t8 : Fin k0_t8_loop.trips) : Fin 4 → Nat :=
  let c1_191 : Index := 1#32
  let c0_i32_127 : BitVec 32 := 0#32
  let c1_i32_128 : BitVec 32 := 1#32
  let arg25 : BitVec 32 := Scf.iv c0_i32_127 c1_i32_128 k0_t8
  let v372 : Index := Scalar.indexCast arg25
  let c256_192 : Index := 256#32
  let c384_193 : Index := 384#32
  ![1, v372.toNat, 256, 384]
def k0_off115 (k0_t8 : Fin k0_t8_loop.trips) : Fin 3 → Nat :=
  let c0_i32_127 : BitVec 32 := 0#32
  let c1_i32_128 : BitVec 32 := 1#32
  let arg25 : BitVec 32 := Scf.iv c0_i32_127 c1_i32_128 k0_t8
  let v390 : Index := Scalar.indexCast arg25
  let c0_198 : Index := 0#32
  let c0_199 : Index := 0#32
  ![v390.toNat, 0, 0]
def k0_off116 (k0_t8 : Fin k0_t8_loop.trips) : Fin 3 → Nat :=
  let c0_214 : Index := 0#32
  let c0_i32_127 : BitVec 32 := 0#32
  let c1_i32_128 : BitVec 32 := 1#32
  let arg25 : BitVec 32 := Scf.iv c0_i32_127 c1_i32_128 k0_t8
  let c512_i32 : BitVec 32 := 512#32
  let v412 : BitVec 32 := Scalar.muli arg25 c512_i32
  let v413 : Index := Scalar.indexCast v412
  let c0_215 : Index := 0#32
  ![0, v413.toNat, 0]
def k0_off117 (k0_t8 : Fin k0_t8_loop.trips) : Fin 3 → Nat :=
  let c0_i32_127 : BitVec 32 := 0#32
  let c1_i32_128 : BitVec 32 := 1#32
  let arg25 : BitVec 32 := Scf.iv c0_i32_127 c1_i32_128 k0_t8
  let v423 : Index := Scalar.indexCast arg25
  let c0_221 : Index := 0#32
  let c0_222 : Index := 0#32
  ![v423.toNat, 0, 0]
def k0_off118 (i : grid0.Coords) : Fin 2 → Nat :=
  let arg0 : BitVec 32 := BitVec.ofNat 32 (i 0).val
  let v286 : Index := Scalar.indexCast arg0
  let c1 : Index := 1#32
  ![v286.toNat, 1]
@[reducible] def k0_t9_loop : Scf.Loop 32 :=
  let c0_i32_134 : BitVec 32 := 0#32
  let c8_i32_135 : BitVec 32 := 8#32
  let v294 : BitVec 32 := Scalar.addi c0_i32_134 c8_i32_135
  let c1_i32_136 : BitVec 32 := 1#32
  ⟨c0_i32_134, v294, c1_i32_136⟩
def k0_off119 (k0_t9 : Fin k0_t9_loop.trips) : Fin 3 → Nat :=
  let c0_i32_134 : BitVec 32 := 0#32
  let c1_i32_136 : BitVec 32 := 1#32
  let arg25 : BitVec 32 := Scf.iv c0_i32_134 c1_i32_136 k0_t9
  let v295 : Index := Scalar.indexCast arg25
  let c0_138 : Index := 0#32
  let c0_139 : Index := 0#32
  ![v295.toNat, 0, 0]
def k0_off120 (i : grid0.Coords) : Fin 2 → Nat :=
  let arg0 : BitVec 32 := BitVec.ofNat 32 (i 0).val
  let v299 : Index := Scalar.indexCast arg0
  let c2 : Index := 2#32
  ![v299.toNat, 2]
def k0_off121 (k0_t9 : Fin k0_t9_loop.trips) : Fin 3 → Nat :=
  let c0_140 : Index := 0#32
  let c0_i32_134 : BitVec 32 := 0#32
  let c1_i32_136 : BitVec 32 := 1#32
  let arg25 : BitVec 32 := Scf.iv c0_i32_134 c1_i32_136 k0_t9
  let c512_i32 : BitVec 32 := 512#32
  let v304 : BitVec 32 := Scalar.muli arg25 c512_i32
  let v305 : Index := Scalar.indexCast v304
  let c0_141 : Index := 0#32
  ![0, v305.toNat, 0]
def k0_off122 (i : grid0.Coords) : Fin 2 → Nat :=
  let arg0 : BitVec 32 := BitVec.ofNat 32 (i 0).val
  let v313 : Index := Scalar.indexCast arg0
  let c3 : Index := 3#32
  ![v313.toNat, 3]
def k0_off123 (k0_t9 : Fin k0_t9_loop.trips) : Fin 3 → Nat :=
  let c0_i32_134 : BitVec 32 := 0#32
  let c1_i32_136 : BitVec 32 := 1#32
  let arg25 : BitVec 32 := Scf.iv c0_i32_134 c1_i32_136 k0_t9
  let v323 : Index := Scalar.indexCast arg25
  let c0_147 : Index := 0#32
  let c0_148 : Index := 0#32
  ![v323.toNat, 0, 0]
def k0_off124 (i : grid0.Coords) : Fin 2 → Nat :=
  let arg0 : BitVec 32 := BitVec.ofNat 32 (i 0).val
  let v330 : Index := Scalar.indexCast arg0
  let c4 : Index := 4#32
  ![v330.toNat, 4]
def k0_off125 (k0_t9 : Fin k0_t9_loop.trips) : Fin 3 → Nat :=
  let c0_151 : Index := 0#32
  let c0_i32_134 : BitVec 32 := 0#32
  let c1_i32_136 : BitVec 32 := 1#32
  let arg25 : BitVec 32 := Scf.iv c0_i32_134 c1_i32_136 k0_t9
  let v334 : Index := Scalar.indexCast arg25
  let c0_152 : Index := 0#32
  ![0, v334.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S60x6 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S60x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x4096x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4096x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4096x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4096x128 .fp8e5m2 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x4096x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x4096x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== KernelIdeal.lean ====
variable {F : FTy → Type} [FloatOps F] [Named F]
def κ : String → Option EReal := fun
  | "log2e" => some (((Real.log 2)⁻¹ : ℝ) : EReal)
  | "neg_inf" => some ⊥
  | _ => none
-- ==== ReferenceIdeal.lean ====
abbrev S3x4096x20x128 : Shape := ⟨4, ![3, 4096, 20, 128]⟩
abbrev S3x20 : Shape := ⟨2, ![3, 20]⟩
abbrev S3x4096x20 : Shape := ⟨3, ![3, 4096, 20]⟩
abbrev S_ : Shape := ⟨0, ![]⟩
abbrev S3x20x4096 : Shape := ⟨3, ![3, 20, 4096]⟩
abbrev S3x20x1x1 : Shape := ⟨4, ![3, 20, 1, 1]⟩
abbrev S3x20x4096x128 : Shape := ⟨4, ![3, 20, 4096, 128]⟩
abbrev S3x20x4096x4096 : Shape := ⟨4, ![3, 20, 4096, 4096]⟩
abbrev S3x20x4096x1 : Shape := ⟨4, ![3, 20, 4096, 1]⟩
abbrev S3x20x1x4096 : Shape := ⟨4, ![3, 20, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x1x4096x4096 : Shape := ⟨4, ![1, 1, 4096, 4096]⟩
abbrev S1 : Shape := ⟨1, ![1]⟩

abbrev nBuf : Space → Nat
  | .hbm => 121
  | .vmem => 8
  | .smem => 0
  | _ => 0

abbrev bufTy : (tb : Table) → Fin (tcTables nBuf tb) → BufTy
  | .hbm, ⟨0, _⟩ => ⟨S3x4096x20x128, .fp8e4m3⟩
  | .hbm, ⟨1, _⟩ => ⟨S3x20, .f32⟩
  | .hbm, ⟨2, _⟩ => ⟨S3x4096x20x128, .fp8e4m3⟩
  | .hbm, ⟨3, _⟩ => ⟨S3x20, .f32⟩
  | .hbm, ⟨4, _⟩ => ⟨S3x4096x20x128, .fp8e4m3⟩
  | .hbm, ⟨5, _⟩ => ⟨S3x20, .f32⟩
  | .hbm, ⟨6, _⟩ => ⟨S3x4096x20x128, .fp8e5m2⟩
  | .hbm, ⟨7, _⟩ => ⟨S3x20, .f32⟩
  | .hbm, ⟨8, _⟩ => ⟨S3x4096x20, .f32⟩
  | .hbm, ⟨9, _⟩ => ⟨S3x4096x20x128, .bf16⟩
  | .hbm, ⟨10, _⟩ => ⟨S3x4096x20x128, .bf16⟩
  | .hbm, ⟨11, _⟩ => ⟨S3x4096x20x128, .bf16⟩
  | .hbm, ⟨12, _⟩ => ⟨S3x4096x20x128, .bf16⟩
  | .hbm, ⟨13, _⟩ => ⟨S_, .f32⟩
  | .hbm, ⟨14, _⟩ => ⟨S_, .f32⟩
  | .hbm, ⟨15, _⟩ => ⟨S3x4096x20, .f32⟩
  | .hbm, ⟨16, _⟩ => ⟨S3x20x4096, .f32⟩
  | .hbm, ⟨17, _⟩ => ⟨S_, .f32⟩
  | .hbm, ⟨18, _⟩ => ⟨S3x20, .f32⟩
  | .hbm, ⟨19, _⟩ => ⟨S3x20, .f32⟩
  | .hbm, ⟨20, _⟩ => ⟨S3x20, .f32⟩
  | .hbm, ⟨21, _⟩ => ⟨S3x20x1x1, .f32⟩
  | .hbm, ⟨22, _⟩ => ⟨S3x20, .f32⟩
  | .hbm, ⟨23, _⟩ => ⟨S3x20x1x1, .f32⟩
  | .hbm, ⟨24, _⟩ => ⟨S_, .f32⟩
  | .hbm, ⟨25, _⟩ => ⟨S3x20, .f32⟩
  | .hbm, ⟨26, _⟩ => ⟨S3x20, .f32⟩
  | .hbm, ⟨27, _⟩ => ⟨S3x20x1x1, .f32⟩
  | .hbm, ⟨28, _⟩ => ⟨S_, .f32⟩
  | .hbm, ⟨29, _⟩ => ⟨S3x20, .f32⟩
  | .hbm, ⟨30, _⟩ => ⟨S3x20, .f32⟩
  | .hbm, ⟨31, _⟩ => ⟨S3x20x1x1, .f32⟩
  | .hbm, ⟨32, _⟩ => ⟨S3x20x1x1, .f32⟩
  | .hbm, ⟨33, _⟩ => ⟨S3x20x4096x128, .bf16⟩
  | .hbm, ⟨34, _⟩ => ⟨S3x20x4096x128, .bf16⟩
  | .hbm, ⟨35, _⟩ => ⟨S3x20x4096x128, .bf16⟩
  | .hbm, ⟨36, _⟩ => ⟨S3x20x4096x128, .bf16⟩
  | .hbm, ⟨37, _⟩ => ⟨S3x20x4096x4096, .f32⟩
  | .hbm, ⟨38, _⟩ => ⟨S3x20x4096x4096, .f32⟩
  | .hbm, ⟨39, _⟩ => ⟨S3x20x4096x4096, .f32⟩
  | .hbm, ⟨40, _⟩ => ⟨S3x20x4096x1, .f32⟩
  | .hbm, ⟨41, _⟩ => ⟨S3x20x4096x4096, .f32⟩
  | .hbm, ⟨42, _⟩ => ⟨S3x20x4096x4096, .f32⟩
  | .hbm, ⟨43, _⟩ => ⟨S3x20x1x4096, .f32⟩
  | .hbm, ⟨44, _⟩ => ⟨S3x20x4096x4096, .f32⟩
  | .hbm, ⟨45, _⟩ => ⟨S3x20x4096x4096, .f32⟩
  | .hbm, ⟨46, _⟩ => ⟨S4096, .i32⟩
  | .hbm, ⟨47, _⟩ => ⟨S1x4096, .i32⟩
  | .hbm, ⟨48, _⟩ => ⟨S4096, .i32⟩
  | .hbm, ⟨49, _⟩ => ⟨S4096x1, .i32⟩
  | .hbm, ⟨50, _⟩ => ⟨S4096x4096, .i32⟩
  | .hbm, ⟨51, _⟩ => ⟨S4096x4096, .i32⟩
  | .hbm, ⟨52, _⟩ => ⟨S4096x4096, .i1⟩
  | .hbm, ⟨53, _⟩ => ⟨S1x1x4096x4096, .i1⟩
  | .hbm, ⟨54, _⟩ => ⟨S_, .f32⟩
  | .hbm, ⟨55, _⟩ => ⟨S_, .f32⟩
  | .hbm, ⟨56, _⟩ => ⟨S3x20x4096x4096, .i1⟩
  | .hbm, ⟨57, _⟩ => ⟨S3x20x4096x4096, .f32⟩
  | .hbm, ⟨58, _⟩ => ⟨S3x20x4096x4096, .f32⟩
  | .hbm, ⟨59, _⟩ => ⟨S_, .f32⟩
  | .hbm, ⟨60, _⟩ => ⟨S3x20x4096, .f32⟩
  | .hbm, ⟨61, _⟩ => ⟨S3x20x4096, .f32⟩
  | .hbm, ⟨62, _⟩ => ⟨S_, .f32⟩
  | .hbm, ⟨63, _⟩ => ⟨S3x20x4096, .f32⟩
  | .hbm, ⟨64, _⟩ => ⟨S3x20x4096, .i1⟩
  | .hbm, ⟨65, _⟩ => ⟨S_, .f32⟩
  | .hbm, ⟨66, _⟩ => ⟨S_, .f32⟩
  | .hbm, ⟨67, _⟩ => ⟨S3x20x4096, .f32⟩
  | .hbm, ⟨68, _⟩ => ⟨S3x20x4096, .f32⟩
  | .hbm, ⟨69, _⟩ => ⟨S3x20x4096x1, .f32⟩
  | .hbm, ⟨70, _⟩ => ⟨S3x20x4096x4096, .f32⟩
  | .hbm, ⟨71, _⟩ => ⟨S3x20x4096x4096, .f32⟩
  | .hbm, ⟨72, _⟩ => ⟨S3x20x4096x4096, .f32⟩
  | .hbm, ⟨73, _⟩ => ⟨S_, .f32⟩
  | .hbm, ⟨74, _⟩ => ⟨S3x20x4096, .f32⟩
  | .hbm, ⟨75, _⟩ => ⟨S3x20x4096, .f32⟩
  | .hbm, ⟨76, _⟩ => ⟨S3x20x4096, .f32⟩
  | .hbm, ⟨77, _⟩ => ⟨S3x20x4096x1, .f32⟩
  | .hbm, ⟨78, _⟩ => ⟨S3x20x4096x4096, .f32⟩
  | .hbm, ⟨79, _⟩ => ⟨S3x20x4096x4096, .f32⟩
  | .hbm, ⟨80, _⟩ => ⟨S3x20x4096x4096, .f32⟩
  | .hbm, ⟨81, _⟩ => ⟨S3x20x4096x4096, .f32⟩
  | .hbm, ⟨82, _⟩ => ⟨S3x20x4096x4096, .f32⟩
  | .hbm, ⟨83, _⟩ => ⟨S3x20x4096x4096, .f32⟩
  | .hbm, ⟨84, _⟩ => ⟨S3x20x4096x4096, .f32⟩
  | .hbm, ⟨85, _⟩ => ⟨S_, .f32⟩
  | .hbm, ⟨86, _⟩ => ⟨S3x20x4096, .f32⟩
  | .hbm, ⟨87, _⟩ => ⟨S3x20x4096x1, .f32⟩
  | .hbm, ⟨88, _⟩ => ⟨S3x20x4096x4096, .f32⟩
  | .hbm, ⟨89, _⟩ => ⟨S3x20x4096x4096, .f32⟩
  | .hbm, ⟨90, _⟩ => ⟨S3x20x4096x4096, .f32⟩
  | .hbm, ⟨91, _⟩ => ⟨S3x20x4096x4096, .bf16⟩
  | .hbm, ⟨92, _⟩ => ⟨S3x20x4096x128, .f32⟩
  | .hbm, ⟨93, _⟩ => ⟨S3x20x4096x128, .f32⟩
  | .hbm, ⟨94, _⟩ => ⟨S3x20x4096x128, .f32⟩
  | .hbm, ⟨95, _⟩ => ⟨S3x20x4096x128, .bf16⟩
  | .hbm, ⟨96, _⟩ => ⟨S3x20x4096x4096, .bf16⟩
  | .hbm, ⟨97, _⟩ => ⟨S3x20x4096x128, .f32⟩
  | .hbm, ⟨98, _⟩ => ⟨S3x20x4096x128, .f32⟩
  | .hbm, ⟨99, _⟩ => ⟨S3x20x4096x128, .f32⟩
  | .hbm, ⟨100, _⟩ => ⟨S3x20x4096x128, .bf16⟩
  | .hbm, ⟨101, _⟩ => ⟨S3x20x4096x4096, .bf16⟩
  | .hbm, ⟨102, _⟩ => ⟨S3x20x4096x128, .f32⟩
  | .hbm, ⟨103, _⟩ => ⟨S3x20x4096x128, .f32⟩
  | .hbm, ⟨104, _⟩ => ⟨S3x20x4096x128, .f32⟩
  | .hbm, ⟨105, _⟩ => ⟨S3x20x4096x128, .bf16⟩
  | .hbm, ⟨106, _⟩ => ⟨S_, .f32⟩
  | .hbm, ⟨107, _⟩ => ⟨S3x20x4096, .f32⟩
  | .hbm, ⟨108, _⟩ => ⟨S3x4096x20, .f32⟩
  | .hbm, ⟨109, _⟩ => ⟨S3x4096x20x128, .bf16⟩
  | .hbm, ⟨110, _⟩ => ⟨S3x4096x20x128, .bf16⟩
  | .hbm, ⟨111, _⟩ => ⟨S3x4096x20x128, .bf16⟩
  | .hbm, ⟨112, _⟩ => ⟨S3x4096x20, .f32⟩
  | .hbm, ⟨113, _⟩ => ⟨S_, .f32⟩
  | .hbm, ⟨114, _⟩ => ⟨S_, .f32⟩
  | .hbm, ⟨115, _⟩ => ⟨S3x4096x20, .f32⟩
  | .hbm, ⟨116, _⟩ => ⟨S_, .i32⟩
  | .hbm, ⟨117, _⟩ => ⟨S1, .i32⟩
  | .hbm, ⟨118, _⟩ => ⟨S_, .f32⟩
  | .hbm, ⟨119, _⟩ => ⟨S3x20, .f32⟩
  | .hbm, ⟨120, _⟩ => ⟨S3x4096x20, .f32⟩
  | .local _ .vmem, ⟨0, _⟩ => ⟨S3x4096x20x128, .fp8e4m3⟩
  | .local _ .vmem, ⟨1, _⟩ => ⟨S3x4096x20x128, .fp8e4m3⟩
  | .local _ .vmem, ⟨2, _⟩ => ⟨S3x4096x20x128, .fp8e4m3⟩
  | .local _ .vmem, ⟨3, _⟩ => ⟨S3x4096x20x128, .fp8e5m2⟩
  | .local _ .vmem, ⟨4, _⟩ => ⟨S3x4096x20x128, .bf16⟩
  | .local _ .vmem, ⟨5, _⟩ => ⟨S3x4096x20x128, .bf16⟩
  | .local _ .vmem, ⟨6, _⟩ => ⟨S3x4096x20x128, .bf16⟩
  | .local _ .vmem, ⟨7, _⟩ => ⟨S3x4096x20x128, .bf16⟩
  | _, _ => ⟨S3x4096x20x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_call0_cst : Ref sig .tc := ⟨.hbm, 13, rfl⟩
abbrev main_call0_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_2 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v37 : Ref sig .tc := ⟨.hbm, 58, rfl⟩
abbrev main_cst_3 : Ref sig .tc := ⟨.hbm, 59, rfl⟩
abbrev main_v38 : Ref sig .tc := ⟨.hbm, 60, rfl⟩
abbrev main_v39 : Ref sig .tc := ⟨.hbm, 61, rfl⟩
abbrev main_cst_4 : Ref sig .tc := ⟨.hbm, 62, rfl⟩
abbrev main_v40 : Ref sig .tc := ⟨.hbm, 63, rfl⟩
abbrev main_v41 : Ref sig .tc := ⟨.hbm, 64, rfl⟩
abbrev main_cst_5 : Ref sig .tc := ⟨.hbm, 65, rfl⟩
abbrev main_call2_v0 : Ref sig .tc := ⟨.hbm, 66, rfl⟩
abbrev main_call2_v1 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_6 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_7 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_cst_8 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_call3_cst : Ref sig .tc := ⟨.hbm, 113, rfl⟩
abbrev main_call3_v0 : Ref sig .tc := ⟨.hbm, 114, rfl⟩
abbrev main_v84 : Ref sig .tc := ⟨.hbm, 115, rfl⟩
abbrev main_c : Ref sig .tc := ⟨.hbm, 116, rfl⟩
abbrev main_v85 : Ref sig .tc := ⟨.hbm, 117, rfl⟩
abbrev main_cst_9 : Ref sig .tc := ⟨.hbm, 118, rfl⟩
abbrev main_v86 : Ref sig .tc := ⟨.hbm, 119, rfl⟩
abbrev main_v87 : Ref sig .tc := ⟨.hbm, 120, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S3x4096x20x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x4096x20x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x4096x20x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x4096x20x128 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x4096x20x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x4096x20x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x4096x20x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x4096x20x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Hoare.lean ====
/-
  A small program logic for a kernel body that only loads from and stores into buffers it holds whole.

  `St` is a record of what the buffers hold, `O s` the ownership of all of them at `s`, and `Acc O M get set` says that
  the memref `M` is one of them (its contents are `get s`, and it may be given back at any contents `X`, which makes
  the record `set s X`). `Wp p s Q`: from the buffers at `s` the program `p` runs without a fault to some value `a` and
  to buffers at some `s'` with `Q a s'`. The rules below walk through a program: return, sequence, load, store, loop.
-/
module

public import Idealize.ShloMosaic.Lib.Pipeline.FrameBody
public import Idealize.ShloMosaic.Lib.Scf
public import Idealize.ShloMosaic.Lib.Tactic

@[expose] public section

noncomputable section

namespace Cert.Hoare

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type} {Λ : Labels}

variable (defs : Defs nD τ sig Val Λ) (c : Dev nD) {St : Type} (O : St → sProp (MT nD τ sig Unit Val ℕ (UR sig nD τ) ℕ))

/-- `M` is one of the buffers `O` holds: contents `get`, put back by `set`. -/
def Acc {sp : Space} {S : Shape} {e : EltTy} (M : Memref sig .tc sp S e) (get : St → (S.Idx → Val e))
    (set : St → (S.Idx → Val e) → St) : Prop :=
  ∀ s, O s ⊢ iprop(owns (c : Thread nD τ) M fullShare (get s) ∗ (∀ X, owns (c : Thread nD τ) M fullShare X -∗ O (set s X)))

/-- From the buffers at `s`, `p` runs to some `a` and the buffers at some `s'` with `Q a s'`. -/
def Wp {α : Type} (p : Prog (TpuEff nD τ sig Val Λ .tc) α) (s : St) (Q : α → St → Prop) : Prop :=
  O s ⊢ wp frame (wpE (Ix := Unit) (Name := ℕ) (U := UR sig nD τ) (Lvl := ℕ) defs Variants.none (c : Thread nD τ) none) Set.univ p fun a => iprop(∃ s', ⌜Q a s'⌝ ∗ O s')

variable {defs c O}
variable {α β : Type}

theorem Wp.ret {a : α} {s : St} {Q : α → St → Prop} (h : Q a s) : Wp defs c O (.ret a) s Q := by
  unfold Wp
  rw [wp_ret]
  refine BIBase.Entails.trans ?_ (fupd_intro (PROP := sProp (MT nD τ sig Unit Val ℕ (UR sig nD τ) ℕ)))
  iintro H
  iexists s
  isplitr
  · ipureintro; exact h
  · iexact H

theorem Wp.pure {a : α} {s : St} {Q : α → St → Prop} (h : Q a s) : Wp defs c O (Pure.pure a) s Q := Wp.ret h

theorem Wp.mono {p : Prog (TpuEff nD τ sig Val Λ .tc) α} {s : St} {Q Q' : α → St → Prop} (h : Wp defs c O p s Q)
    (hQ : ∀ a s', Q a s' → Q' a s') : Wp defs c O p s Q' := by
  unfold Wp at *
  refine h.trans (wp_mono _ _ _ fun a => ?_)
  iintro ⟨%s', %hq, H⟩
  iexists s'
  isplitr
  · ipureintro; exact hQ a s' hq
  · iexact H

theorem Wp.bind {p : Prog (TpuEff nD τ sig Val Λ .tc) α} {k : α → Prog (TpuEff nD τ sig Val Λ .tc) β} {s : St}
    {Q : β → St → Prop} (h : Wp defs c O p s fun a s' => Wp defs c O (k a) s' Q) : Wp defs c O (p >>= k) s Q := by
  unfold Wp at *
  rw [wp_bind]
  refine h.trans (wp_mono _ _ _ fun a => ?_)
  iintro ⟨%s', %hq, H⟩
  iapply hq
  iexact H

theorem Wp.bind' {p : Prog (TpuEff nD τ sig Val Λ .tc) α} {k : α → Prog (TpuEff nD τ sig Val Λ .tc) β} {s : St}
    {R : α → St → Prop} {Q : β → St → Prop} (h : Wp defs c O p s R) (hk : ∀ a s', R a s' → Wp defs c O (k a) s' Q) :
    Wp defs c O (p >>= k) s Q := Wp.bind (h.mono hk)

theorem Wp.load {sp : CoreSpace} {S : Shape} {e : EltTy} {M : Memref sig .tc sp S e} {get : St → (S.Idx → Val e)}
    {set : St → (S.Idx → Val e) → St} (hA : Acc c O M get set) (hset : ∀ s, set s (get s) = s) {r : LoadRect S} {hl : M.view.LoadsAt r}
    {s : St} {Q : (r.shape.Idx → Val e) → St → Prop} (h : Q (fun x => get s (r.idx x)) s) :
    Wp defs c O (Prog.lift (.load M r hl)) s Q := by
  unfold Wp
  refine (hA s).trans ?_
  unfold owns
  iintro ⟨⟨%f, %hf, H⟩, Hk⟩
  iapply (wp_load Variants.none (c : Thread nD τ) none Set.univ (m := M) (r := r) (hl := hl) (S := M.view.set) (f := f) (M.view.setOn_subset_set _)) $$ H
  iintro H
  rw [wp_ret]
  iapply (fupd_intro (PROP := sProp (MT nD τ sig Unit Val ℕ (UR sig nD τ) ℕ)))
  iexists s
  isplitr
  · ipureintro
    have : (M.view.readAt Val r f) = fun x => get s (r.idx x) := by rw [← hf]; rfl
    rw [this]; exact h
  · have e1 : O s = O (set s (get s)) := by rw [hset]
    rw [e1]
    iapply Hk
    iexists f
    isplitr
    · ipureintro; exact hf
    · iexact H

theorem read_write_slice {sp : Space} {S : Shape} {e : EltTy} (v : View sig .tc sp S e) (r : Rect S) (f : v.ty.Contents Val)
    (w : r.shape.Idx → Val e) : v.read Val ((v.slice r).write Val f w Finset.univ) = r.overlay (v.read Val f) w := by
  funext y
  by_cases hy : y ∈ r.set
  · obtain ⟨x, rfl⟩ : ∃ x, r.emb x = y := r.exists_idx_of_mem hy
    rw [Rect.overlay_emb]
    exact View.read_writes_cons_emb v f r w [] x
  · rw [Rect.overlay_of_not_mem _ _ _ hy]
    have hy' : y ∉ Finset.univ.map r.emb := by rwa [Rect.map_emb_univ]
    exact View.read_slice_write_of_not_mem r _ _ _ hy'

theorem Wp.store {sp : CoreSpace} {S : Shape} {e : EltTy} {M : Memref sig .tc sp S e} {get : St → (S.Idx → Val e)}
    {set : St → (S.Idx → Val e) → St} (hA : Acc c O M get set) {r : Rect S} {w : r.shape.Idx → Val e}
    {hx : (M.access r).Stores Finset.univ} {hm : Finset.univ = Finset.univ ∨ ∀ a, r.stride a = 1}
    {s : St} {Q : PUnit → St → Prop} (h : Q ⟨⟩ (set s (r.overlay (get s) w))) :
    Wp defs c O (Prog.lift (.store M r w Finset.univ hx hm)) s Q := by
  unfold Wp
  refine (hA s).trans ?_
  unfold owns
  iintro ⟨⟨%f, %hf, H⟩, Hk⟩
  have hS : (M.access r).setOn Finset.univ ⊆ M.view.set :=
    ((M.access r).setOn_subset_set _).trans (M.view.set_slice_subset r)
  iapply (wp_store Variants.none (c : Thread nD τ) none Set.univ (m := M) (r := r) (w := w) (hx := hx) (hm := hm) (S := M.view.set) (f := f) hS) $$ H
  iintro H
  rw [wp_ret]
  iapply (fupd_intro (PROP := sProp (MT nD τ sig Unit Val ℕ (UR sig nD τ) ℕ)))
  iexists (set s (r.overlay (get s) w))
  isplitr
  · ipureintro; exact h
  · iapply Hk
    iexists _
    isplitr; swap
    · iexact H
    · ipureintro
      rw [← hf]
      exact read_write_slice M.view r f w

theorem Wp.smemLoad {S : Shape} {e : EltTy} {M : Memref sig .tc .smem S e} {get : St → (S.Idx → Val e)}
    {set : St → (S.Idx → Val e) → St} (hA : Acc c O M get set) (hset : ∀ s, set s (get s) = s) {r : Rect S} {h1 : r.shape.numel = 1}
    {hp : e.packing = 1} {s : St} {Q : Val e → St → Prop}
    (h : Q (get s (r.idx (Shape.Idx.first (h1.symm ▸ Nat.one_pos)))) s) :
    Wp defs c O (smemLoad M r h1 hp) s Q := by
  have := Wp.load (defs := defs) (c := c) (O := O) hA hset (r := r.toLoadRect)
    (hl := View.loadsAt_rect (View.loads_smem_one hp h1)) (s := s)
    (Q := fun f s' => Wp defs c O (.ret (f (Shape.Idx.first (h1.symm ▸ Nat.one_pos)))) s' Q) (Wp.ret h)
  exact Wp.bind this

theorem Wp.for {σ : Type} {w : Nat} {lb ub st : BitVec w} {hok : Scf.OK lb ub st} {init : σ}
    {body : Fin (Scf.trips lb ub st) → σ → Prog (TpuEff nD τ sig Val Λ .tc) σ} {s : St} {Q : σ → St → Prop}
    (I : Nat → σ → St → Prop) (h0 : I 0 init s)
    (hb : ∀ (k : Fin (Scf.trips lb ub st)) (acc : σ) (s' : St), I k acc s' → Wp defs c O (body k acc) s' (I (k.val + 1)))
    (hQ : ∀ acc s', I (Scf.trips lb ub st) acc s' → Q acc s') :
    Wp defs c O (Scf.for lb ub st hok init body) s Q := by
  unfold Wp
  iintro H
  iapply (Scf.wp_for frame _ Set.univ lb ub st hok init body (fun k acc => iprop(∃ s', ⌜I k acc s'⌝ ∗ O s')) (fun k acc => by
    iintro ⟨%s', %hi, H⟩
    have hw := hb k acc s' hi
    unfold Wp at hw
    iapply hw
    iexact H))
  isplitl [H]
  · iexists s
    isplitr
    · ipureintro; exact h0
    · iexact H
  · iintro %acc ⟨%s', %hi, H⟩
    iexists s'
    isplitr
    · ipureintro; exact hQ acc s' hi
    · iexact H

/-! ## Running at all

`Fr p`: from the buffers at any contents `p` runs, to the buffers at some contents. -/

/-- `M` is one of the buffers held, at some contents that may be replaced. -/
def Has (c : Dev nD) (O : St → sProp (MT nD τ sig Unit Val ℕ (UR sig nD τ) ℕ)) {sp : Space} {S : Shape} {e : EltTy}
    (M : Memref sig .tc sp S e) : Prop :=
  ∃ (get : St → (S.Idx → Val e)) (set : St → (S.Idx → Val e) → St), Acc c O M get set ∧ ∀ s, set s (get s) = s

theorem Acc.has {sp : Space} {S : Shape} {e : EltTy} {M : Memref sig .tc sp S e} {get : St → (S.Idx → Val e)}
    {set : St → (S.Idx → Val e) → St} (h : Acc c O M get set) (hs : ∀ s, set s (get s) = s) : Has c O M := ⟨get, set, h, hs⟩

structure Fr (defs : Defs nD τ sig Val Λ) (c : Dev nD) (O : St → sProp (MT nD τ sig Unit Val ℕ (UR sig nD τ) ℕ))
    (p : Prog (TpuEff nD τ sig Val Λ .tc) α) : Prop where
  run : ∀ s, Wp defs c O p s fun _ _ => True

theorem Fr.ret (a : α) : Fr defs c O (.ret a) := ⟨fun _ => Wp.ret trivial⟩
theorem Fr.pure (a : α) : Fr defs c O (Pure.pure a) := ⟨fun _ => Wp.ret trivial⟩
theorem Fr.bind {p : Prog (TpuEff nD τ sig Val Λ .tc) α} {k : α → Prog (TpuEff nD τ sig Val Λ .tc) β}
    (h : Fr defs c O p) (hk : ∀ a, Fr defs c O (k a)) : Fr defs c O (p >>= k) :=
  ⟨fun s => Wp.bind' (h.run s) fun a s' _ => (hk a).run s'⟩
theorem Fr.load {sp : CoreSpace} {S : Shape} {e : EltTy} {M : Memref sig .tc sp S e} (hA : Has c O M) {r : LoadRect S}
    {hl : M.view.LoadsAt r} : Fr defs c O (Prog.lift (.load M r hl)) := ⟨fun _ => by
  obtain ⟨g, t, h, hs⟩ := hA; exact Wp.load h hs trivial⟩
theorem Fr.store {sp : CoreSpace} {S : Shape} {e : EltTy} {M : Memref sig .tc sp S e} (hA : Has c O M) {r : Rect S}
    {w : r.shape.Idx → Val e} {hx : (M.access r).Stores Finset.univ} {hm : Finset.univ = Finset.univ ∨ ∀ a, r.stride a = 1} :
    Fr defs c O (Prog.lift (.store M r w Finset.univ hx hm)) := ⟨fun _ => by
  obtain ⟨g, t, h, hs⟩ := hA; exact Wp.store h trivial⟩
theorem Fr.smemLoad {S : Shape} {e : EltTy} {M : Memref sig .tc .smem S e} (hA : Has c O M) {r : Rect S}
    {h1 : r.shape.numel = 1} {hp : e.packing = 1} : Fr defs c O (smemLoad M r h1 hp) := ⟨fun _ => by
  obtain ⟨g, t, h, hs⟩ := hA; exact Wp.smemLoad h hs trivial⟩
theorem Fr.for {σ : Type} {w : Nat} {lb ub st : BitVec w} {hok : Scf.OK lb ub st} {init : σ}
    {body : Fin (Scf.trips lb ub st) → σ → Prog (TpuEff nD τ sig Val Λ .tc) σ}
    (hb : ∀ k acc, Fr defs c O (body k acc)) : Fr defs c O (Scf.for lb ub st hok init body) :=
  ⟨fun _ => Wp.for (fun _ _ _ => True) trivial (fun k acc s' _ => (hb k acc).run s') fun _ _ _ => trivial⟩
theorem Fr.ite {P : Prop} [Decidable P] {p q : Prog (TpuEff nD τ sig Val Λ .tc) α} (hp : Fr defs c O p)
    (hq : Fr defs c O q) : Fr defs c O (if P then p else q) := by
  split
  · exact hp
  · exact hq

/-! ## Which buffer a memref is, in a chain of them -/

theorem Acc.head {sp : Space} {S : Shape} {e : EltTy} {M : Memref sig .tc sp S e} {get : St → (S.Idx → Val e)}
    {set : St → (S.Idx → Val e) → St} {R : St → sProp (MT nD τ sig Unit Val ℕ (UR sig nD τ) ℕ)}
    (hg : ∀ s X, get (set s X) = X) (hR : ∀ s X, R (set s X) = R s) :
    Acc c (fun s => iprop(owns (c : Thread nD τ) M fullShare (get s) ∗ R s)) M get set := by
  intro s
  iintro ⟨H, HR⟩
  isplitl [H]
  · iexact H
  · iintro %X HX
    simp only [hg, hR]
    isplitl [HX]
    · iexact HX
    · iexact HR

theorem Acc.last {sp : Space} {S : Shape} {e : EltTy} {M : Memref sig .tc sp S e} {get : St → (S.Idx → Val e)}
    {set : St → (S.Idx → Val e) → St} (hg : ∀ s X, get (set s X) = X) :
    Acc c (fun s => (owns (c : Thread nD τ) M fullShare (get s) : sProp (MT nD τ sig Unit Val ℕ (UR sig nD τ) ℕ))) M get set := by
  intro s
  iintro H
  isplitl [H]
  · iexact H
  · iintro %X HX
    simp only [hg]
    iexact HX

theorem Acc.tail {sp : Space} {S : Shape} {e : EltTy} {M : Memref sig .tc sp S e} {get : St → (S.Idx → Val e)}
    {set : St → (S.Idx → Val e) → St} {P R : St → sProp (MT nD τ sig Unit Val ℕ (UR sig nD τ) ℕ)}
    (hP : ∀ s X, P (set s X) = P s) (h : Acc c R M get set) : Acc c (fun s => iprop(P s ∗ R s)) M get set := by
  intro s
  iintro ⟨HP, HR⟩
  ihave HR := (h s) $$ HR
  icases HR with ⟨H, HR⟩
  isplitl [H]
  · iexact H
  · iintro %X HX
    simp only [hP]
    isplitl [HP]
    · iexact HP
    · iapply HR
      iexact HX

end Cert.Hoare

end
-- ==== Proof.State.lean ====
/-
  The 24 buffers the body works on as one record, and its ownership, whichever program the buffers belong to.
-/
module

public import proofs.«01_k».proof.Proof.Hoare
public import proofs.«01_k».proof.KernelIdeal

@[expose] public section

set_option maxRecDepth 16384

noncomputable section

namespace Cert.Proof

open Cert.KernelIdeal (S60x6 S60x8 S1x4096x128 S1x8x512 S2x8x512x512 S8x128x512 S512x128 S8x8x512 S2x128x512 S2x512x128)
open Cert.Hoare
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} {nD : Nat} {τ : Topo} {sig : RefSig}

/-- What the body's 24 buffers hold. -/
structure St (F : FTy → Type) where
  a1 : S60x6.Idx → Elt F .f32
  a2 : S60x8.Idx → Elt F .f32
  a3 : S1x4096x128.Idx → Elt F .fp8e4m3
  a4 : S1x4096x128.Idx → Elt F .fp8e4m3
  a5 : S1x4096x128.Idx → Elt F .fp8e4m3
  a6 : S1x4096x128.Idx → Elt F .fp8e5m2
  a7 : S1x8x512.Idx → Elt F .f32
  a8 : S1x4096x128.Idx → Elt F .bf16
  a9 : S1x4096x128.Idx → Elt F .bf16
  a10 : S1x4096x128.Idx → Elt F .bf16
  a11 : S1x8x512.Idx → Elt F .f32
  a12 : S2x8x512x512.Idx → Elt F .f32
  a13 : S2x8x512x512.Idx → Elt F .f32
  a14 : S8x128x512.Idx → Elt F .f32
  a15 : S8x128x512.Idx → Elt F .f32
  a16 : S512x128.Idx → Elt F .f32
  a17 : S8x8x512.Idx → Elt F .f32
  a18 : S2x128x512.Idx → Elt F .bf16
  a19 : S2x128x512.Idx → Elt F .bf16
  a20 : S512x128.Idx → Elt F .f32
  a21 : S512x128.Idx → Elt F .f32
  a22 : S512x128.Idx → Elt F .f32
  a23 : S2x512x128.Idx → Elt F .f32
  a24 : S2x512x128.Idx → Elt F .f32

/-- All 24 buffers held whole, at the contents `s`. -/
def OO (c : Dev nD) (arg1 : Memref sig .tc .smem S60x6 .f32) (arg2 : Memref sig .tc .smem S60x8 .f32) (arg3 : Memref sig .tc .vmem S1x4096x128 .fp8e4m3) (arg4 : Memref sig .tc .vmem S1x4096x128 .fp8e4m3) (arg5 : Memref sig .tc .vmem S1x4096x128 .fp8e4m3) (arg6 : Memref sig .tc .vmem S1x4096x128 .fp8e5m2) (arg7 : Memref sig .tc .vmem S1x8x512 .f32) (arg8 : Memref sig .tc .vmem S1x4096x128 .bf16) (arg9 : Memref sig .tc .vmem S1x4096x128 .bf16) (arg10 : Memref sig .tc .vmem S1x4096x128 .bf16) (arg11 : Memref sig .tc .vmem S1x8x512 .f32) (arg12 : Memref sig .tc .vmem S2x8x512x512 .f32) (arg13 : Memref sig .tc .vmem S2x8x512x512 .f32) (arg14 : Memref sig .tc .vmem S8x128x512 .f32) (arg15 : Memref sig .tc .vmem S8x128x512 .f32) (arg16 : Memref sig .tc .vmem S512x128 .f32) (arg17 : Memref sig .tc .vmem S8x8x512 .f32) (arg18 : Memref sig .tc .vmem S2x128x512 .bf16) (arg19 : Memref sig .tc .vmem S2x128x512 .bf16) (arg20 : Memref sig .tc .vmem S512x128 .f32) (arg21 : Memref sig .tc .vmem S512x128 .f32) (arg22 : Memref sig .tc .vmem S512x128 .f32) (arg23 : Memref sig .tc .vmem S2x512x128 .f32) (arg24 : Memref sig .tc .vmem S2x512x128 .f32)
    (s : St F) : sProp (MT nD τ sig Unit (Elt F) ℕ (UR sig nD τ) ℕ) :=
  iprop(owns (c : Thread nD τ) arg1 fullShare s.a1
    ∗ owns (c : Thread nD τ) arg2 fullShare s.a2
    ∗ owns (c : Thread nD τ) arg3 fullShare s.a3
    ∗ owns (c : Thread nD τ) arg4 fullShare s.a4
    ∗ owns (c : Thread nD τ) arg5 fullShare s.a5
    ∗ owns (c : Thread nD τ) arg6 fullShare s.a6
    ∗ owns (c : Thread nD τ) arg7 fullShare s.a7
    ∗ owns (c : Thread nD τ) arg8 fullShare s.a8
    ∗ owns (c : Thread nD τ) arg9 fullShare s.a9
    ∗ owns (c : Thread nD τ) arg10 fullShare s.a10
    ∗ owns (c : Thread nD τ) arg11 fullShare s.a11
    ∗ owns (c : Thread nD τ) arg12 fullShare s.a12
    ∗ owns (c : Thread nD τ) arg13 fullShare s.a13
    ∗ owns (c : Thread nD τ) arg14 fullShare s.a14
    ∗ owns (c : Thread nD τ) arg15 fullShare s.a15
    ∗ owns (c : Thread nD τ) arg16 fullShare s.a16
    ∗ owns (c : Thread nD τ) arg17 fullShare s.a17
    ∗ owns (c : Thread nD τ) arg18 fullShare s.a18
    ∗ owns (c : Thread nD τ) arg19 fullShare s.a19
    ∗ owns (c : Thread nD τ) arg20 fullShare s.a20
    ∗ owns (c : Thread nD τ) arg21 fullShare s.a21
    ∗ owns (c : Thread nD τ) arg22 fullShare s.a22
    ∗ owns (c : Thread nD τ) arg23 fullShare s.a23
    ∗ owns (c : Thread nD τ) arg24 fullShare s.a24)

section

variable {c : Dev nD} {arg1 : Memref sig .tc .smem S60x6 .f32} {arg2 : Memref sig .tc .smem S60x8 .f32} {arg3 : Memref sig .tc .vmem S1x4096x128 .fp8e4m3} {arg4 : Memref sig .tc .vmem S1x4096x128 .fp8e4m3} {arg5 : Memref sig .tc .vmem S1x4096x128 .fp8e4m3} {arg6 : Memref sig .tc .vmem S1x4096x128 .fp8e5m2} {arg7 : Memref sig .tc .vmem S1x8x512 .f32} {arg8 : Memref sig .tc .vmem S1x4096x128 .bf16} {arg9 : Memref sig .tc .vmem S1x4096x128 .bf16} {arg10 : Memref sig .tc .vmem S1x4096x128 .bf16} {arg11 : Memref sig .tc .vmem S1x8x512 .f32} {arg12 : Memref sig .tc .vmem S2x8x512x512 .f32} {arg13 : Memref sig .tc .vmem S2x8x512x512 .f32} {arg14 : Memref sig .tc .vmem S8x128x512 .f32} {arg15 : Memref sig .tc .vmem S8x128x512 .f32} {arg16 : Memref sig .tc .vmem S512x128 .f32} {arg17 : Memref sig .tc .vmem S8x8x512 .f32} {arg18 : Memref sig .tc .vmem S2x128x512 .bf16} {arg19 : Memref sig .tc .vmem S2x128x512 .bf16} {arg20 : Memref sig .tc .vmem S512x128 .f32} {arg21 : Memref sig .tc .vmem S512x128 .f32} {arg22 : Memref sig .tc .vmem S512x128 .f32} {arg23 : Memref sig .tc .vmem S2x512x128 .f32} {arg24 : Memref sig .tc .vmem S2x512x128 .f32}

theorem acc1 : Acc c (OO (F := F) (τ := τ) c arg1 arg2 arg3 arg4 arg5 arg6 arg7 arg8 arg9 arg10 arg11 arg12 arg13 arg14 arg15 arg16 arg17 arg18 arg19 arg20 arg21 arg22 arg23 arg24) arg1 St.a1 (fun s X => { s with a1 := X }) := by
  unfold OO
  repeat' first | exact Acc.head (fun _ _ => rfl) (fun _ _ => rfl) | exact Acc.last (fun _ _ => rfl) | refine Acc.tail (fun _ _ => rfl) ?_
theorem acc2 : Acc c (OO (F := F) (τ := τ) c arg1 arg2 arg3 arg4 arg5 arg6 arg7 arg8 arg9 arg10 arg11 arg12 arg13 arg14 arg15 arg16 arg17 arg18 arg19 arg20 arg21 arg22 arg23 arg24) arg2 St.a2 (fun s X => { s with a2 := X }) := by
  unfold OO
  repeat' first | exact Acc.head (fun _ _ => rfl) (fun _ _ => rfl) | exact Acc.last (fun _ _ => rfl) | refine Acc.tail (fun _ _ => rfl) ?_
theorem acc3 : Acc c (OO (F := F) (τ := τ) c arg1 arg2 arg3 arg4 arg5 arg6 arg7 arg8 arg9 arg10 arg11 arg12 arg13 arg14 arg15 arg16 arg17 arg18 arg19 arg20 arg21 arg22 arg23 arg24) arg3 St.a3 (fun s X => { s with a3 := X }) := by
  unfold OO
  repeat' first | exact Acc.head (fun _ _ => rfl) (fun _ _ => rfl) | exact Acc.last (fun _ _ => rfl) | refine Acc.tail (fun _ _ => rfl) ?_
theorem acc4 : Acc c (OO (F := F) (τ := τ) c arg1 arg2 arg3 arg4 arg5 arg6 arg7 arg8 arg9 arg10 arg11 arg12 arg13 arg14 arg15 arg16 arg17 arg18 arg19 arg20 arg21 arg22 arg23 arg24) arg4 St.a4 (fun s X => { s with a4 := X }) := by
  unfold OO
  repeat' first | exact Acc.head (fun _ _ => rfl) (fun _ _ => rfl) | exact Acc.last (fun _ _ => rfl) | refine Acc.tail (fun _ _ => rfl) ?_
theorem acc5 : Acc c (OO (F := F) (τ := τ) c arg1 arg2 arg3 arg4 arg5 arg6 arg7 arg8 arg9 arg10 arg11 arg12 arg13 arg14 arg15 arg16 arg17 arg18 arg19 arg20 arg21 arg22 arg23 arg24) arg5 St.a5 (fun s X => { s with a5 := X }) := by
  unfold OO
  repeat' first | exact Acc.head (fun _ _ => rfl) (fun _ _ => rfl) | exact Acc.last (fun _ _ => rfl) | refine Acc.tail (fun _ _ => rfl) ?_
theorem acc6 : Acc c (OO (F := F) (τ := τ) c arg1 arg2 arg3 arg4 arg5 arg6 arg7 arg8 arg9 arg10 arg11 arg12 arg13 arg14 arg15 arg16 arg17 arg18 arg19 arg20 arg21 arg22 arg23 arg24) arg6 St.a6 (fun s X => { s with a6 := X }) := by
  unfold OO
  repeat' first | exact Acc.head (fun _ _ => rfl) (fun _ _ => rfl) | exact Acc.last (fun _ _ => rfl) | refine Acc.tail (fun _ _ => rfl) ?_
theorem acc7 : Acc c (OO (F := F) (τ := τ) c arg1 arg2 arg3 arg4 arg5 arg6 arg7 arg8 arg9 arg10 arg11 arg12 arg13 arg14 arg15 arg16 arg17 arg18 arg19 arg20 arg21 arg22 arg23 arg24) arg7 St.a7 (fun s X => { s with a7 := X }) := by
  unfold OO
  repeat' first | exact Acc.head (fun _ _ => rfl) (fun _ _ => rfl) | exact Acc.last (fun _ _ => rfl) | refine Acc.tail (fun _ _ => rfl) ?_
theorem acc8 : Acc c (OO (F := F) (τ := τ) c arg1 arg2 arg3 arg4 arg5 arg6 arg7 arg8 arg9 arg10 arg11 arg12 arg13 arg14 arg15 arg16 arg17 arg18 arg19 arg20 arg21 arg22 arg23 arg24) arg8 St.a8 (fun s X => { s with a8 := X }) := by
  unfold OO
  repeat' first | exact Acc.head (fun _ _ => rfl) (fun _ _ => rfl) | exact Acc.last (fun _ _ => rfl) | refine Acc.tail (fun _ _ => rfl) ?_
theorem acc9 : Acc c (OO (F := F) (τ := τ) c arg1 arg2 arg3 arg4 arg5 arg6 arg7 arg8 arg9 arg10 arg11 arg12 arg13 arg14 arg15 arg16 arg17 arg18 arg19 arg20 arg21 arg22 arg23 arg24) arg9 St.a9 (fun s X => { s with a9 := X }) := by
  unfold OO
  repeat' first | exact Acc.head (fun _ _ => rfl) (fun _ _ => rfl) | exact Acc.last (fun _ _ => rfl) | refine Acc.tail (fun _ _ => rfl) ?_
theorem acc10 : Acc c (OO (F := F) (τ := τ) c arg1 arg2 arg3 arg4 arg5 arg6 arg7 arg8 arg9 arg10 arg11 arg12 arg13 arg14 arg15 arg16 arg17 arg18 arg19 arg20 arg21 arg22 arg23 arg24) arg10 St.a10 (fun s X => { s with a10 := X }) := by
  unfold OO
  repeat' first | exact Acc.head (fun _ _ => rfl) (fun _ _ => rfl) | exact Acc.last (fun _ _ => rfl) | refine Acc.tail (fun _ _ => rfl) ?_
theorem acc11 : Acc c (OO (F := F) (τ := τ) c arg1 arg2 arg3 arg4 arg5 arg6 arg7 arg8 arg9 arg10 arg11 arg12 arg13 arg14 arg15 arg16 arg17 arg18 arg19 arg20 arg21 arg22 arg23 arg24) arg11 St.a11 (fun s X => { s with a11 := X }) := by
  unfold OO
  repeat' first | exact Acc.head (fun _ _ => rfl) (fun _ _ => rfl) | exact Acc.last (fun _ _ => rfl) | refine Acc.tail (fun _ _ => rfl) ?_
theorem acc12 : Acc c (OO (F := F) (τ := τ) c arg1 arg2 arg3 arg4 arg5 arg6 arg7 arg8 arg9 arg10 arg11 arg12 arg13 arg14 arg15 arg16 arg17 arg18 arg19 arg20 arg21 arg22 arg23 arg24) arg12 St.a12 (fun s X => { s with a12 := X }) := by
  unfold OO
  repeat' first | exact Acc.head (fun _ _ => rfl) (fun _ _ => rfl) | exact Acc.last (fun _ _ => rfl) | refine Acc.tail (fun _ _ => rfl) ?_
theorem acc13 : Acc c (OO (F := F) (τ := τ) c arg1 arg2 arg3 arg4 arg5 arg6 arg7 arg8 arg9 arg10 arg11 arg12 arg13 arg14 arg15 arg16 arg17 arg18 arg19 arg20 arg21 arg22 arg23 arg24) arg13 St.a13 (fun s X => { s with a13 := X }) := by
  unfold OO
  repeat' first | exact Acc.head (fun _ _ => rfl) (fun _ _ => rfl) | exact Acc.last (fun _ _ => rfl) | refine Acc.tail (fun _ _ => rfl) ?_
theorem acc14 : Acc c (OO (F := F) (τ := τ) c arg1 arg2 arg3 arg4 arg5 arg6 arg7 arg8 arg9 arg10 arg11 arg12 arg13 arg14 arg15 arg16 arg17 arg18 arg19 arg20 arg21 arg22 arg23 arg24) arg14 St.a14 (fun s X => { s with a14 := X }) := by
  unfold OO
  repeat' first | exact Acc.head (fun _ _ => rfl) (fun _ _ => rfl) | exact Acc.last (fun _ _ => rfl) | refine Acc.tail (fun _ _ => rfl) ?_
theorem acc15 : Acc c (OO (F := F) (τ := τ) c arg1 arg2 arg3 arg4 arg5 arg6 arg7 arg8 arg9 arg10 arg11 arg12 arg13 arg14 arg15 arg16 arg17 arg18 arg19 arg20 arg21 arg22 arg23 arg24) arg15 St.a15 (fun s X => { s with a15 := X }) := by
  unfold OO
  repeat' first | exact Acc.head (fun _ _ => rfl) (fun _ _ => rfl) | exact Acc.last (fun _ _ => rfl) | refine Acc.tail (fun _ _ => rfl) ?_
theorem acc16 : Acc c (OO (F := F) (τ := τ) c arg1 arg2 arg3 arg4 arg5 arg6 arg7 arg8 arg9 arg10 arg11 arg12 arg13 arg14 arg15 arg16 arg17 arg18 arg19 arg20 arg21 arg22 arg23 arg24) arg16 St.a16 (fun s X => { s with a16 := X }) := by
  unfold OO
  repeat' first | exact Acc.head (fun _ _ => rfl) (fun _ _ => rfl) | exact Acc.last (fun _ _ => rfl) | refine Acc.tail (fun _ _ => rfl) ?_
theorem acc17 : Acc c (OO (F := F) (τ := τ) c arg1 arg2 arg3 arg4 arg5 arg6 arg7 arg8 arg9 arg10 arg11 arg12 arg13 arg14 arg15 arg16 arg17 arg18 arg19 arg20 arg21 arg22 arg23 arg24) arg17 St.a17 (fun s X => { s with a17 := X }) := by
  unfold OO
  repeat' first | exact Acc.head (fun _ _ => rfl) (fun _ _ => rfl) | exact Acc.last (fun _ _ => rfl) | refine Acc.tail (fun _ _ => rfl) ?_
theorem acc18 : Acc c (OO (F := F) (τ := τ) c arg1 arg2 arg3 arg4 arg5 arg6 arg7 arg8 arg9 arg10 arg11 arg12 arg13 arg14 arg15 arg16 arg17 arg18 arg19 arg20 arg21 arg22 arg23 arg24) arg18 St.a18 (fun s X => { s with a18 := X }) := by
  unfold OO
  repeat' first | exact Acc.head (fun _ _ => rfl) (fun _ _ => rfl) | exact Acc.last (fun _ _ => rfl) | refine Acc.tail (fun _ _ => rfl) ?_
theorem acc19 : Acc c (OO (F := F) (τ := τ) c arg1 arg2 arg3 arg4 arg5 arg6 arg7 arg8 arg9 arg10 arg11 arg12 arg13 arg14 arg15 arg16 arg17 arg18 arg19 arg20 arg21 arg22 arg23 arg24) arg19 St.a19 (fun s X => { s with a19 := X }) := by
  unfold OO
  repeat' first | exact Acc.head (fun _ _ => rfl) (fun _ _ => rfl) | exact Acc.last (fun _ _ => rfl) | refine Acc.tail (fun _ _ => rfl) ?_
theorem acc20 : Acc c (OO (F := F) (τ := τ) c arg1 arg2 arg3 arg4 arg5 arg6 arg7 arg8 arg9 arg10 arg11 arg12 arg13 arg14 arg15 arg16 arg17 arg18 arg19 arg20 arg21 arg22 arg23 arg24) arg20 St.a20 (fun s X => { s with a20 := X }) := by
  unfold OO
  repeat' first | exact Acc.head (fun _ _ => rfl) (fun _ _ => rfl) | exact Acc.last (fun _ _ => rfl) | refine Acc.tail (fun _ _ => rfl) ?_
theorem acc21 : Acc c (OO (F := F) (τ := τ) c arg1 arg2 arg3 arg4 arg5 arg6 arg7 arg8 arg9 arg10 arg11 arg12 arg13 arg14 arg15 arg16 arg17 arg18 arg19 arg20 arg21 arg22 arg23 arg24) arg21 St.a21 (fun s X => { s with a21 := X }) := by
  unfold OO
  repeat' first | exact Acc.head (fun _ _ => rfl) (fun _ _ => rfl) | exact Acc.last (fun _ _ => rfl) | refine Acc.tail (fun _ _ => rfl) ?_
theorem acc22 : Acc c (OO (F := F) (τ := τ) c arg1 arg2 arg3 arg4 arg5 arg6 arg7 arg8 arg9 arg10 arg11 arg12 arg13 arg14 arg15 arg16 arg17 arg18 arg19 arg20 arg21 arg22 arg23 arg24) arg22 St.a22 (fun s X => { s with a22 := X }) := by
  unfold OO
  repeat' first | exact Acc.head (fun _ _ => rfl) (fun _ _ => rfl) | exact Acc.last (fun _ _ => rfl) | refine Acc.tail (fun _ _ => rfl) ?_
theorem acc23 : Acc c (OO (F := F) (τ := τ) c arg1 arg2 arg3 arg4 arg5 arg6 arg7 arg8 arg9 arg10 arg11 arg12 arg13 arg14 arg15 arg16 arg17 arg18 arg19 arg20 arg21 arg22 arg23 arg24) arg23 St.a23 (fun s X => { s with a23 := X }) := by
  unfold OO
  repeat' first | exact Acc.head (fun _ _ => rfl) (fun _ _ => rfl) | exact Acc.last (fun _ _ => rfl) | refine Acc.tail (fun _ _ => rfl) ?_
theorem acc24 : Acc c (OO (F := F) (τ := τ) c arg1 arg2 arg3 arg4 arg5 arg6 arg7 arg8 arg9 arg10 arg11 arg12 arg13 arg14 arg15 arg16 arg17 arg18 arg19 arg20 arg21 arg22 arg23 arg24) arg24 St.a24 (fun s X => { s with a24 := X }) := by
  unfold OO
  repeat' first | exact Acc.head (fun _ _ => rfl) (fun _ _ => rfl) | exact Acc.last (fun _ _ => rfl) | refine Acc.tail (fun _ _ => rfl) ?_

end

end Cert.Proof
-- ==== Proof.KernelRuns.lean ====
/-
  The body of `Cert.Kernel` runs from its 24 buffers at any contents: every step is a load from or a store into one
  of them, in bounds by the program's own evidence. One statement per loop body, innermost first, then the whole body.
-/
module

public import proofs.«01_k».proof.Proof.Hoare
public import proofs.«01_k».proof.Proof.Gen.Kernel.Skeleton

@[expose] public section

set_option maxRecDepth 65536

noncomputable section

namespace Cert.Proof.Kernel

open Cert.Kernel Cert.Kernel.Gen Cert.Hoare
open Idealize.ShloMosaic Idealize.ShloMosaic.TcCoe Idealize.ShloMosaic.Tactic
open Idealize.SL Idealize.SL.RA Idealize.SL.BI
open Idealize.SL.Sem
open Idealize.ShloMosaic.Rounds

variable {F : FTy → Type} [FloatOps F]
variable {c : Dev nD} {St : Type} {O : St → sProp (MT nD τ sig Unit (Elt F) ℕ (UR sig nD τ) ℕ)}
variable {i : grid0.Coords} {arg1 : Memref sig .tc .smem S60x6 .f32} {harg1 : arg1.IsWhole} {arg2 : Memref sig .tc .smem S60x8 .f32} {harg2 : arg2.IsWhole} {arg3 : Memref sig .tc .vmem S1x4096x128 .fp8e4m3} {harg3 : arg3.IsWhole} {arg4 : Memref sig .tc .vmem S1x4096x128 .fp8e4m3} {harg4 : arg4.IsWhole} {arg5 : Memref sig .tc .vmem S1x4096x128 .fp8e4m3} {harg5 : arg5.IsWhole} {arg6 : Memref sig .tc .vmem S1x4096x128 .fp8e5m2} {harg6 : arg6.IsWhole} {arg7 : Memref sig .tc .vmem S1x8x512 .f32} {harg7 : arg7.IsWhole} {arg8 : Memref sig .tc .vmem S1x4096x128 .bf16} {harg8 : arg8.IsWhole} {arg9 : Memref sig .tc .vmem S1x4096x128 .bf16} {harg9 : arg9.IsWhole} {arg10 : Memref sig .tc .vmem S1x4096x128 .bf16} {harg10 : arg10.IsWhole} {arg11 : Memref sig .tc .vmem S1x8x512 .f32} {harg11 : arg11.IsWhole} {arg12 : Memref sig .tc .vmem S2x8x512x512 .f32} {harg12 : arg12.IsWhole} {arg13 : Memref sig .tc .vmem S2x8x512x512 .f32} {harg13 : arg13.IsWhole} {arg14 : Memref sig .tc .vmem S8x128x512 .f32} {harg14 : arg14.IsWhole} {arg15 : Memref sig .tc .vmem S8x128x512 .f32} {harg15 : arg15.IsWhole} {arg16 : Memref sig .tc .vmem S512x128 .f32} {harg16 : arg16.IsWhole} {arg17 : Memref sig .tc .vmem S8x8x512 .f32} {harg17 : arg17.IsWhole} {arg18 : Memref sig .tc .vmem S2x128x512 .bf16} {harg18 : arg18.IsWhole} {arg19 : Memref sig .tc .vmem S2x128x512 .bf16} {harg19 : arg19.IsWhole} {arg20 : Memref sig .tc .vmem S512x128 .f32} {harg20 : arg20.IsWhole} {arg21 : Memref sig .tc .vmem S512x128 .f32} {harg21 : arg21.IsWhole} {arg22 : Memref sig .tc .vmem S512x128 .f32} {harg22 : arg22.IsWhole} {arg23 : Memref sig .tc .vmem S2x512x128 .f32} {harg23 : arg23.IsWhole} {arg24 : Memref sig .tc .vmem S2x512x128 .f32} {harg24 : arg24.IsWhole}
variable (H1 : Has c O arg1) (H2 : Has c O arg2) (H3 : Has c O arg3) (H4 : Has c O arg4) (H5 : Has c O arg5) (H6 : Has c O arg6) (H7 : Has c O arg7) (H8 : Has c O arg8) (H9 : Has c O arg9) (H10 : Has c O arg10) (H11 : Has c O arg11) (H12 : Has c O arg12) (H13 : Has c O arg13) (H14 : Has c O arg14) (H15 : Has c O arg15) (H16 : Has c O arg16) (H17 : Has c O arg17) (H18 : Has c O arg18) (H19 : Has c O arg19) (H20 : Has c O arg20) (H21 : Has c O arg21) (H22 : Has c O arg22) (H23 : Has c O arg23) (H24 : Has c O arg24)

include H1 H2 H3 H4 H5 H6 H7 H8 H9 H10 H11 H12 H13 H14 H15 H16 H17 H18 H19 H20 H21 H22 H23 H24 in
theorem t2_fr {arg0 : BitVec 32} {v2 : F .f32} {k0_t1 : Fin k0_t1_loop.trips} {arg25 : BitVec 32} {v555 : FVec F S128x512 .bf16} (k : Fin (k0_t2_loop k0_t1).trips) (acc : BitVec 32) :
    Fr (defs₀ (F := F)) c O (k0_t2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 v2 k0_t1 arg25 v555 k acc) := by
  unfold k0_t2_body
  repeat' first
    | with_reducible exact Fr.load (by assumption)
    | with_reducible exact Fr.store (by assumption)
    | with_reducible exact Fr.smemLoad (by assumption)
    | with_reducible apply Fr.bind
    | with_reducible exact Fr.ret _
    | with_reducible exact Fr.pure _
    | with_reducible apply Fr.ite
    | intro _
    | (rw [k0_part14_eq_skeleton]; unfold k0_part14_skel)
    | (rw [k0_part15_eq_skeleton]; unfold k0_part15_skel)
    | (rw [k0_part16_eq_skeleton]; unfold k0_part16_skel)
    | (rw [k0_part17_eq_skeleton]; unfold k0_part17_skel)
    | (rw [k0_part18_eq_skeleton]; unfold k0_part18_skel)
    | (rw [k0_part19_eq_skeleton]; unfold k0_part19_skel)
    | (rw [k0_part20_eq_skeleton]; unfold k0_part20_skel)
    | (rw [k0_part21_eq_skeleton]; unfold k0_part21_skel)
    | (rw [k0_part22_eq_skeleton]; unfold k0_part22_skel)
    | exact Fr.smemLoad H1
    | exact Fr.smemLoad H2

include H1 H2 H3 H4 H5 H6 H7 H8 H9 H10 H11 H12 H13 H14 H15 H16 H17 H18 H19 H20 H21 H22 H23 H24 in
theorem t3_fr {arg0 : BitVec 32} {v2 : F .f32} {k0_t1 : Fin k0_t1_loop.trips} {arg25 : BitVec 32} {v555 : FVec F S128x512 .bf16} {v568 : BitVec 32} (k : Fin (k0_t3_loop k0_t1).trips) (acc : BitVec 32) :
    Fr (defs₀ (F := F)) c O (k0_t3_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 v2 k0_t1 arg25 v555 v568 k acc) := by
  unfold k0_t3_body
  repeat' first
    | with_reducible exact Fr.load (by assumption)
    | with_reducible exact Fr.store (by assumption)
    | with_reducible exact Fr.smemLoad (by assumption)
    | with_reducible apply Fr.bind
    | with_reducible exact Fr.ret _
    | with_reducible exact Fr.pure _
    | with_reducible apply Fr.ite
    | intro _
    | (rw [k0_part23_eq_skeleton]; unfold k0_part23_skel)
    | (rw [k0_part24_eq_skeleton]; unfold k0_part24_skel)
    | (rw [k0_part25_eq_skeleton]; unfold k0_part25_skel)
    | (rw [k0_part26_eq_skeleton]; unfold k0_part26_skel)
    | (rw [k0_part27_eq_skeleton]; unfold k0_part27_skel)
    | (rw [k0_part28_eq_skeleton]; unfold k0_part28_skel)
    | (rw [k0_part29_eq_skeleton]; unfold k0_part29_skel)
    | (rw [k0_part30_eq_skeleton]; unfold k0_part30_skel)
    | (rw [k0_part31_eq_skeleton]; unfold k0_part31_skel)
    | exact Fr.smemLoad H1
    | exact Fr.smemLoad H2

include H1 H2 H3 H4 H5 H6 H7 H8 H9 H10 H11 H12 H13 H14 H15 H16 H17 H18 H19 H20 H21 H22 H23 H24 in
theorem t4_fr {arg0 : BitVec 32} {k0_t1 : Fin k0_t1_loop.trips} {arg25 : BitVec 32} {v622 : BitVec 32} (k : Fin (k0_t4_loop k0_t1).trips) (acc : BitVec 32) :
    Fr (defs₀ (F := F)) c O (k0_t4_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 k0_t1 arg25 v622 k acc) := by
  unfold k0_t4_body
  repeat' first
    | with_reducible exact Fr.load (by assumption)
    | with_reducible exact Fr.store (by assumption)
    | with_reducible exact Fr.smemLoad (by assumption)
    | with_reducible apply Fr.bind
    | with_reducible exact Fr.ret _
    | with_reducible exact Fr.pure _
    | with_reducible apply Fr.ite
    | intro _
    | (rw [k0_part32_eq_skeleton]; unfold k0_part32_skel)
    | (rw [k0_part33_eq_skeleton]; unfold k0_part33_skel)
    | (rw [k0_part34_eq_skeleton]; unfold k0_part34_skel)
    | (rw [k0_part35_eq_skeleton]; unfold k0_part35_skel)
    | (rw [k0_part36_eq_skeleton]; unfold k0_part36_skel)
    | (rw [k0_part37_eq_skeleton]; unfold k0_part37_skel)
    | exact Fr.smemLoad H1
    | exact Fr.smemLoad H2

include H1 H2 H3 H4 H5 H6 H7 H8 H9 H10 H11 H12 H13 H14 H15 H16 H17 H18 H19 H20 H21 H22 H23 H24 in
theorem t5_fr {arg0 : BitVec 32} {k0_t1 : Fin k0_t1_loop.trips} {arg25 : BitVec 32} {v622 : BitVec 32} {v645 : BitVec 32} (k : Fin (k0_t5_loop k0_t1).trips) (acc : BitVec 32) :
    Fr (defs₀ (F := F)) c O (k0_t5_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 k0_t1 arg25 v622 v645 k acc) := by
  unfold k0_t5_body
  repeat' first
    | with_reducible exact Fr.load (by assumption)
    | with_reducible exact Fr.store (by assumption)
    | with_reducible exact Fr.smemLoad (by assumption)
    | with_reducible apply Fr.bind
    | with_reducible exact Fr.ret _
    | with_reducible exact Fr.pure _
    | with_reducible apply Fr.ite
    | intro _
    | (rw [k0_part38_eq_skeleton]; unfold k0_part38_skel)
    | (rw [k0_part39_eq_skeleton]; unfold k0_part39_skel)
    | (rw [k0_part40_eq_skeleton]; unfold k0_part40_skel)
    | (rw [k0_part41_eq_skeleton]; unfold k0_part41_skel)
    | (rw [k0_part42_eq_skeleton]; unfold k0_part42_skel)
    | (rw [k0_part43_eq_skeleton]; unfold k0_part43_skel)
    | exact Fr.smemLoad H1
    | exact Fr.smemLoad H2

include H1 H2 H3 H4 H5 H6 H7 H8 H9 H10 H11 H12 H13 H14 H15 H16 H17 H18 H19 H20 H21 H22 H23 H24 in
theorem t6_fr {k0_t1 : Fin k0_t1_loop.trips} {v622 : BitVec 32} (k : Fin (k0_t6_loop k0_t1).trips) (acc : BitVec 32) :
    Fr (defs₀ (F := F)) c O (k0_t6_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 k0_t1 v622 k acc) := by
  unfold k0_t6_body
  repeat' first
    | with_reducible exact Fr.load (by assumption)
    | with_reducible exact Fr.store (by assumption)
    | with_reducible exact Fr.smemLoad (by assumption)
    | with_reducible apply Fr.bind
    | with_reducible exact Fr.ret _
    | with_reducible exact Fr.pure _
    | with_reducible apply Fr.ite
    | intro _
    | (rw [k0_part44_eq_skeleton]; unfold k0_part44_skel)
    | (rw [k0_part45_eq_skeleton]; unfold k0_part45_skel)
    | (rw [k0_part46_eq_skeleton]; unfold k0_part46_skel)
    | (rw [k0_part47_eq_skeleton]; unfold k0_part47_skel)
    | (rw [k0_part48_eq_skeleton]; unfold k0_part48_skel)
    | (rw [k0_part49_eq_skeleton]; unfold k0_part49_skel)
    | exact Fr.smemLoad H1
    | exact Fr.smemLoad H2

include H1 H2 H3 H4 H5 H6 H7 H8 H9 H10 H11 H12 H13 H14 H15 H16 H17 H18 H19 H20 H21 H22 H23 H24 in
theorem t7_fr {k0_t1 : Fin k0_t1_loop.trips} {v622 : BitVec 32} {v665 : BitVec 32} (k : Fin (k0_t7_loop k0_t1).trips) (acc : BitVec 32) :
    Fr (defs₀ (F := F)) c O (k0_t7_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 k0_t1 v622 v665 k acc) := by
  unfold k0_t7_body
  repeat' first
    | with_reducible exact Fr.load (by assumption)
    | with_reducible exact Fr.store (by assumption)
    | with_reducible exact Fr.smemLoad (by assumption)
    | with_reducible apply Fr.bind
    | with_reducible exact Fr.ret _
    | with_reducible exact Fr.pure _
    | with_reducible apply Fr.ite
    | intro _
    | (rw [k0_part50_eq_skeleton]; unfold k0_part50_skel)
    | (rw [k0_part51_eq_skeleton]; unfold k0_part51_skel)
    | (rw [k0_part52_eq_skeleton]; unfold k0_part52_skel)
    | (rw [k0_part53_eq_skeleton]; unfold k0_part53_skel)
    | (rw [k0_part54_eq_skeleton]; unfold k0_part54_skel)
    | (rw [k0_part55_eq_skeleton]; unfold k0_part55_skel)
    | exact Fr.smemLoad H1
    | exact Fr.smemLoad H2

include H1 H2 H3 H4 H5 H6 H7 H8 H9 H10 H11 H12 H13 H14 H15 H16 H17 H18 H19 H20 H21 H22 H23 H24 in
theorem t1_fr {arg0 : BitVec 32} {v2 : F .f32} (k : Fin k0_t1_loop.trips) (acc : Unit) :
    Fr (defs₀ (F := F)) c O (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 v2 k acc) := by
  unfold k0_t1_body
  repeat' first
    | with_reducible exact Fr.load (by assumption)
    | with_reducible exact Fr.store (by assumption)
    | with_reducible exact Fr.smemLoad (by assumption)
    | with_reducible apply Fr.bind
    | with_reducible exact Fr.ret _
    | with_reducible exact Fr.pure _
    | with_reducible apply Fr.ite
    | intro _
    | with_reducible exact Fr.for fun k acc => t2_fr H1 H2 H3 H4 H5 H6 H7 H8 H9 H10 H11 H12 H13 H14 H15 H16 H17 H18 H19 H20 H21 H22 H23 H24 k acc
    | with_reducible exact Fr.for fun k acc => t3_fr H1 H2 H3 H4 H5 H6 H7 H8 H9 H10 H11 H12 H13 H14 H15 H16 H17 H18 H19 H20 H21 H22 H23 H24 k acc
    | with_reducible exact Fr.for fun k acc => t4_fr H1 H2 H3 H4 H5 H6 H7 H8 H9 H10 H11 H12 H13 H14 H15 H16 H17 H18 H19 H20 H21 H22 H23 H24 k acc
    | with_reducible exact Fr.for fun k acc => t5_fr H1 H2 H3 H4 H5 H6 H7 H8 H9 H10 H11 H12 H13 H14 H15 H16 H17 H18 H19 H20 H21 H22 H23 H24 k acc
    | with_reducible exact Fr.for fun k acc => t6_fr H1 H2 H3 H4 H5 H6 H7 H8 H9 H10 H11 H12 H13 H14 H15 H16 H17 H18 H19 H20 H21 H22 H23 H24 k acc
    | with_reducible exact Fr.for fun k acc => t7_fr H1 H2 H3 H4 H5 H6 H7 H8 H9 H10 H11 H12 H13 H14 H15 H16 H17 H18 H19 H20 H21 H22 H23 H24 k acc
    | (rw [k0_part56_eq_skeleton]; unfold k0_part56_skel)
    | (rw [k0_part57_eq_skeleton]; unfold k0_part57_skel)
    | (rw [k0_part58_eq_skeleton]; unfold k0_part58_skel)
    | (rw [k0_part59_eq_skeleton]; unfold k0_part59_skel)
    | (rw [k0_part60_eq_skeleton]; unfold k0_part60_skel)
    | (rw [k0_part61_eq_skeleton]; unfold k0_part61_skel)
    | (rw [k0_part62_eq_skeleton]; unfold k0_part62_skel)
    | (rw [k0_part63_eq_skeleton]; unfold k0_part63_skel)
    | exact Fr.smemLoad H1
    | exact Fr.smemLoad H2

include H1 H2 H3 H4 H5 H6 H7 H8 H9 H10 H11 H12 H13 H14 H15 H16 H17 H18 H19 H20 H21 H22 H23 H24 in
theorem t8_fr  (k : Fin k0_t8_loop.trips) (acc : Unit) :
    Fr (defs₀ (F := F)) c O (k0_t8_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24  k acc) := by
  unfold k0_t8_body
  repeat' first
    | with_reducible exact Fr.load (by assumption)
    | with_reducible exact Fr.store (by assumption)
    | with_reducible exact Fr.smemLoad (by assumption)
    | with_reducible apply Fr.bind
    | with_reducible exact Fr.ret _
    | with_reducible exact Fr.pure _
    | with_reducible apply Fr.ite
    | intro _
    | (rw [k0_part64_eq_skeleton]; unfold k0_part64_skel)
    | (rw [k0_part65_eq_skeleton]; unfold k0_part65_skel)
    | (rw [k0_part66_eq_skeleton]; unfold k0_part66_skel)
    | exact Fr.smemLoad H1
    | exact Fr.smemLoad H2

include H1 H2 H3 H4 H5 H6 H7 H8 H9 H10 H11 H12 H13 H14 H15 H16 H17 H18 H19 H20 H21 H22 H23 H24 in
theorem t9_fr {arg0 : BitVec 32} (k : Fin k0_t9_loop.trips) (acc : Unit) :
    Fr (defs₀ (F := F)) c O (k0_t9_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 k acc) := by
  unfold k0_t9_body
  repeat' first
    | with_reducible exact Fr.load (by assumption)
    | with_reducible exact Fr.store (by assumption)
    | with_reducible exact Fr.smemLoad (by assumption)
    | with_reducible apply Fr.bind
    | with_reducible exact Fr.ret _
    | with_reducible exact Fr.pure _
    | with_reducible apply Fr.ite
    | intro _
    | (rw [k0_part67_eq_skeleton]; unfold k0_part67_skel)
    | exact Fr.smemLoad H1
    | exact Fr.smemLoad H2

include H1 H2 H3 H4 H5 H6 H7 H8 H9 H10 H11 H12 H13 H14 H15 H16 H17 H18 H19 H20 H21 H22 H23 H24 in
theorem body_fr : Fr (defs₀ (F := F)) c O (cc0_fox_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) := by
  rw [cc0_fox_bwd_eq_skeleton]
  unfold cc0_fox_bwd_skel
  repeat' first
    | with_reducible exact Fr.load (by assumption)
    | with_reducible exact Fr.store (by assumption)
    | with_reducible exact Fr.smemLoad (by assumption)
    | with_reducible apply Fr.bind
    | with_reducible exact Fr.ret _
    | with_reducible exact Fr.pure _
    | with_reducible apply Fr.ite
    | intro _
    | with_reducible exact Fr.for fun k acc => t1_fr H1 H2 H3 H4 H5 H6 H7 H8 H9 H10 H11 H12 H13 H14 H15 H16 H17 H18 H19 H20 H21 H22 H23 H24 k acc
    | with_reducible exact Fr.for fun k acc => t8_fr H1 H2 H3 H4 H5 H6 H7 H8 H9 H10 H11 H12 H13 H14 H15 H16 H17 H18 H19 H20 H21 H22 H23 H24 k acc
    | with_reducible exact Fr.for fun k acc => t9_fr H1 H2 H3 H4 H5 H6 H7 H8 H9 H10 H11 H12 H13 H14 H15 H16 H17 H18 H19 H20 H21 H22 H23 H24 k acc
    | (rw [k0_part1_eq_skeleton]; unfold k0_part1_skel)
    | (rw [k0_part2_eq_skeleton]; unfold k0_part2_skel)
    | (rw [k0_part3_eq_skeleton]; unfold k0_part3_skel)
    | (rw [k0_part4_eq_skeleton]; unfold k0_part4_skel)
    | (rw [k0_part5_eq_skeleton]; unfold k0_part5_skel)
    | (rw [k0_part6_eq_skeleton]; unfold k0_part6_skel)
    | (rw [k0_part7_eq_skeleton]; unfold k0_part7_skel)
    | (rw [k0_part8_eq_skeleton]; unfold k0_part8_skel)
    | (rw [k0_part9_eq_skeleton]; unfold k0_part9_skel)
    | (rw [k0_part10_eq_skeleton]; unfold k0_part10_skel)
    | (rw [k0_part11_eq_skeleton]; unfold k0_part11_skel)
    | (rw [k0_part12_eq_skeleton]; unfold k0_part12_skel)
    | (rw [k0_part13_eq_skeleton]; unfold k0_part13_skel)
    | (rw [k0_part68_eq_skeleton]; unfold k0_part68_skel)
    | (rw [k0_part69_eq_skeleton]; unfold k0_part69_skel)
    | (rw [k0_part70_eq_skeleton]; unfold k0_part70_skel)
    | (rw [k0_part71_eq_skeleton]; unfold k0_part71_skel)
    | (rw [k0_part72_eq_skeleton]; unfold k0_part72_skel)
    | (rw [k0_part73_eq_skeleton]; unfold k0_part73_skel)
    | (rw [k0_part74_eq_skeleton]; unfold k0_part74_skel)
    | exact Fr.smemLoad H1
    | exact Fr.smemLoad H2

end Cert.Proof.Kernel

end
-- ==== Proof.KernelState.lean ====
/-
  The 24 buffers the body of `Cert.Kernel` works on at a grid point, and the body obligation of the pipeline's
  frame: at every grid point the body runs from all its buffers at any contents.
-/
module

public import proofs.«01_k».proof.Proof.State
public import proofs.«01_k».proof.Proof.KernelRuns
public import proofs.«01_k».proof.Proof.Gen.Kernel.Frame

@[expose] public section

set_option maxRecDepth 16384

noncomputable section

namespace Cert.Proof.Kernel

open Cert.Kernel Cert.Kernel.Gen Cert.Hoare
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

/-- The buffers at grid point `t`: the windows' current staging buffers and the scratch. -/
abbrev Ot (c : Dev nD) (t : Fin cfg0.N) : St F → sProp (MT nD τ sig Unit (Elt F) ℕ (UR sig nD τ) ℕ) :=
  OO c (st0_0 t) (st0_1 t) (st0_2 t) (st0_3 t) (st0_4 t) (st0_5 t) (st0_6 t) (st0_7 t) (st0_8 t) (st0_9 t) (st0_10 t) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9) (Memref.whole cc0_scratch10) (Memref.whole cc0_scratch11) (Memref.whole cc0_scratch12)

theorem body_run (c : Dev nD) (t : Fin cfg0.N) : Fr (defs₀ (F := F)) c (Ot c t) (bodyAt0 t) :=
  body_fr (acc1.has fun _ => rfl) (acc2.has fun _ => rfl) (acc3.has fun _ => rfl) (acc4.has fun _ => rfl) (acc5.has fun _ => rfl) (acc6.has fun _ => rfl) (acc7.has fun _ => rfl) (acc8.has fun _ => rfl) (acc9.has fun _ => rfl) (acc10.has fun _ => rfl) (acc11.has fun _ => rfl) (acc12.has fun _ => rfl) (acc13.has fun _ => rfl) (acc14.has fun _ => rfl) (acc15.has fun _ => rfl) (acc16.has fun _ => rfl) (acc17.has fun _ => rfl) (acc18.has fun _ => rfl) (acc19.has fun _ => rfl) (acc20.has fun _ => rfl) (acc21.has fun _ => rfl) (acc22.has fun _ => rfl) (acc23.has fun _ => rfl) (acc24.has fun _ => rfl)

/-- The windows' buffers at point `t`, window by window. -/
abbrev Win (c : Dev nD) (t : Fin cfg0.N) (s : St F) : sProp (MT nD τ sig Unit (Elt F) ℕ (UR sig nD τ) ℕ) :=
  iprop(owns (c : Thread nD τ) (st0_0 t) fullShare s.a1
    ∗ owns (c : Thread nD τ) (st0_1 t) fullShare s.a2
    ∗ owns (c : Thread nD τ) (st0_2 t) fullShare s.a3
    ∗ owns (c : Thread nD τ) (st0_3 t) fullShare s.a4
    ∗ owns (c : Thread nD τ) (st0_4 t) fullShare s.a5
    ∗ owns (c : Thread nD τ) (st0_5 t) fullShare s.a6
    ∗ owns (c : Thread nD τ) (st0_6 t) fullShare s.a7
    ∗ owns (c : Thread nD τ) (st0_7 t) fullShare s.a8
    ∗ owns (c : Thread nD τ) (st0_8 t) fullShare s.a9
    ∗ owns (c : Thread nD τ) (st0_9 t) fullShare s.a10
    ∗ owns (c : Thread nD τ) (st0_10 t) fullShare s.a11)

theorem pack (c : Dev nD) (t : Fin cfg0.N) (s : St F) :
    iprop(Pipeline.ΦA spec0 c ∗ Win c t s)
      ⊢ (iprop(∃ s' : St F, ⌜s'.a1 = s.a1 ∧ s'.a2 = s.a2 ∧ s'.a3 = s.a3 ∧ s'.a4 = s.a4 ∧ s'.a5 = s.a5 ∧ s'.a6 = s.a6 ∧ s'.a7 = s.a7 ∧ s'.a8 = s.a8 ∧ s'.a9 = s.a9 ∧ s'.a10 = s.a10 ∧ s'.a11 = s.a11⌝ ∗ Ot c t s' ∗ ∃ r, prngReg c r) : sProp (MT nD τ sig Unit (Elt F) ℕ (UR sig nD τ) ℕ)) := by
  unfold Pipeline.ΦA
  rw [scopedRest0_eq]
  iintro ⟨⟨⟨⟨%f0, H12⟩, ⟨%f1, H13⟩, ⟨%f2, H14⟩, ⟨%f3, H15⟩, ⟨%f4, H16⟩, ⟨%f5, H17⟩, ⟨%f6, H18⟩, ⟨%f7, H19⟩, ⟨%f8, H20⟩, ⟨%f9, H21⟩, ⟨%f10, H22⟩, ⟨%f11, H23⟩, ⟨%f12, H24⟩⟩, Hp⟩, H1, H2, H3, H4, H5, H6, H7, H8, H9, H10, H11⟩
  iexists (⟨s.a1, s.a2, s.a3, s.a4, s.a5, s.a6, s.a7, s.a8, s.a9, s.a10, s.a11, f0, f1, f2, f3, f4, f5, f6, f7, f8, f9, f10, f11, f12⟩ : St F)
  isplitr
  · ipureintro
    exact ⟨rfl, rfl, rfl, rfl, rfl, rfl, rfl, rfl, rfl, rfl, rfl⟩
  isplitr [Hp]
  · unfold Ot OO
    simp only [owns_whole]
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    isplitl [H18]
    · iexact H18
    isplitl [H19]
    · iexact H19
    isplitl [H20]
    · iexact H20
    isplitl [H21]
    · iexact H21
    isplitl [H22]
    · iexact H22
    isplitl [H23]
    · iexact H23
    iexact H24
  · iexact Hp

theorem unpack (c : Dev nD) (t : Fin cfg0.N) (s : St F) :
    (iprop(Ot c t s ∗ ∃ r, prngReg c r) : sProp (MT nD τ sig Unit (Elt F) ℕ (UR sig nD τ) ℕ))
      ⊢ iprop(Pipeline.ΦA spec0 c ∗ Win c t s) := by
  unfold Pipeline.ΦA
  rw [scopedRest0_eq]
  unfold Ot OO
  simp only [owns_whole]
  iintro ⟨⟨H1, H2, H3, H4, H5, H6, H7, H8, H9, H10, H11, H12, H13, H14, H15, H16, H17, H18, H19, H20, H21, H22, H23, H24⟩, Hp⟩
  isplitl [H12 H13 H14 H15 H16 H17 H18 H19 H20 H21 H22 H23 H24 Hp]
  · isplitr [Hp]
    · isplitl [H12]
      · iexists _; iexact H12
      isplitl [H13]
      · iexists _; iexact H13
      isplitl [H14]
      · iexists _; iexact H14
      isplitl [H15]
      · iexists _; iexact H15
      isplitl [H16]
      · iexists _; iexact H16
      isplitl [H17]
      · iexists _; iexact H17
      isplitl [H18]
      · iexists _; iexact H18
      isplitl [H19]
      · iexists _; iexact H19
      isplitl [H20]
      · iexists _; iexact H20
      isplitl [H21]
      · iexists _; iexact H21
      isplitl [H22]
      · iexists _; iexact H22
      isplitl [H23]
      · iexists _; iexact H23
      iexists _; iexact H24
    · iexact Hp
  · unfold Win
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    iexact H11

/-- A run of the body at point `t` from the windows at `s`, in the pipeline's terms: what it leaves satisfies `Q`. -/
theorem body_wp (c : Dev nD) (t : Fin cfg0.N) (s : St F) (Q : St F → Prop)
    (h : ∀ s' : St F, s'.a1 = s.a1 → s'.a2 = s.a2 → s'.a3 = s.a3 → s'.a4 = s.a4 → s'.a5 = s.a5 → s'.a6 = s.a6 → s'.a7 = s.a7 → s'.a8 = s.a8 → s'.a9 = s.a9 → s'.a10 = s.a10 → s'.a11 = s.a11 → Wp (defs₀ (F := F)) c (Ot c t) (bodyAt0 t) s' fun _ => Q) :
    (iprop(Pipeline.ΦA spec0 c ∗ Win c t s) : sProp (MT nD τ sig Unit (Elt F) ℕ (UR sig nD τ) ℕ))
      ⊢ wp frame (wpE (Ix := Unit) (Name := ℕ) (U := UR sig nD τ) (Lvl := ℕ) (defs₀ (F := F)) Variants.none (c : Thread nD τ) none) Set.univ (bodyAt0 t) fun _ =>
        iprop(∃ s' : St F, ⌜Q s'⌝ ∗ Pipeline.ΦA spec0 c ∗ Win c t s') := by
  refine BIBase.Entails.trans (pack c t s) ?_
  iintro ⟨%s', %hs, HO, Hp⟩
  obtain ⟨h1, h2, h3, h4, h5, h6, h7, h8, h9, h10, h11⟩ := hs
  have hw := h s' h1 h2 h3 h4 h5 h6 h7 h8 h9 h10 h11
  unfold Wp at hw
  iapply (wp_wand_r frame _ Set.univ)
  isplitl [HO]
  · iapply hw
    iexact HO
  · iintro %_ ⟨%s2, %hq, HO⟩
    iexists s2
    isplitr
    · ipureintro; exact hq
    · iapply (unpack c t s2)
      isplitl [HO]
      · iexact HO
      · iexact Hp

end Cert.Proof.Kernel

end
-- ==== Proof.KernelFrame.lean ====
/-
  The frame of `Cert.Kernel`: the program runs to its end from any arguments and leaves the arguments as they were.
  Every window's contents are forgotten here; the body obligation is `body_run` at every grid point.
-/
module

public import proofs.«01_k».proof.Proof.KernelState

@[expose] public section

set_option maxRecDepth 16384

noncomputable section

namespace Cert.Proof.Kernel

open Cert.Kernel Cert.Kernel.Gen Cert.Hoare
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]
variable (m : (ℓ : Loc nD τ sig) → Buf (Elt F) ℓ) (ρ : Dev nD → PrngReg)

/-- The proof data of the frame: the arrays as the region finds them, nothing said of what the body leaves. -/
def dat (c : Dev nD) : Dat τ (Elt F) Unit ℕ (UR sig nD τ) ℕ cfg0 c where
  A w := V m c (Pipeline.arrRef spec0 w)
  after := Dat.unnamed
  Φ _ := Pipeline.ΦA spec0 c
  q _ := fullShare
  owed _ := 0

def dats : (p : Fin 1) → (c : Dev nD) → Dat τ (Elt F) Unit ℕ (UR sig nD τ) ℕ (cfgs p) c := fun | 0 => fun c => dat m c

theorem hbody (c : Dev nD) : BodyObligationLoose (dat m c) (defs₀ (F := F)) Variants.none () Set.univ (fun _ => true) := fun t => by
  change iprop(Pipeline.ΦA spec0 c ∗ (dat m c).owesAt () t.castSucc
        ∗ bigSep (Finset.univ : Finset (Fin 11)) fun w => iprop(∃ X, owns (c : Thread nD τ) ((cfg0.win w).stage (cfg0.slots t w)) fullShare X))
      ⊢ wp frame (wpE (defs₀ (F := F)) Variants.none (c : Thread nD τ) none) Set.univ (bodyAt0 t) fun _ =>
        iprop(Pipeline.ΦA spec0 c ∗ (dat m c).owesAt () t.castSucc
          ∗ bigSep (Finset.univ : Finset (Fin 11)) fun w => iprop(∃ X, owns (c : Thread nD τ) ((cfg0.win w).stage (cfg0.slots t w)) fullShare X))
  rw [bigSep_W0]
  iintro ⟨HΦ, Ho, ⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩⟩
  iapply (wp_wand_r frame _ Set.univ)
  isplitr [Ho]
  · iapply (body_wp c t (⟨f0, f1, f2, f3, f4, f5, f6, f7, f8, f9, f10, constant S2x8x512x512 .f32 0, constant S2x8x512x512 .f32 0, constant S8x128x512 .f32 0, constant S8x128x512 .f32 0, constant S512x128 .f32 0, constant S8x8x512 .f32 0, constant S2x128x512 .bf16 0, constant S2x128x512 .bf16 0, constant S512x128 .f32 0, constant S512x128 .f32 0, constant S512x128 .f32 0, constant S2x512x128 .f32 0, constant S2x512x128 .f32 0⟩ : St F) (fun _ => True)
      (fun s' _ _ _ _ _ _ _ _ _ _ _ => (body_run c t).run s'))
    isplitl [HΦ]
    · iexact HΦ
    · unfold Win
      isplitl [H0]
      · iexact H0
      isplitl [H1]
      · iexact H1
      isplitl [H2]
      · iexact H2
      isplitl [H3]
      · iexact H3
      isplitl [H4]
      · iexact H4
      isplitl [H5]
      · iexact H5
      isplitl [H6]
      · iexact H6
      isplitl [H7]
      · iexact H7
      isplitl [H8]
      · iexact H8
      isplitl [H9]
      · iexact H9
      iexact H10
  · iintro %_ ⟨%s2, -, HΦ, H0, H1, H2, H3, H4, H5, H6, H7, H8, H9, H10⟩
    isplitl [HΦ]
    · iexact HΦ
    isplitl [Ho]
    · iexact Ho
    isplitl [H0]
    · iexists _; iexact H0
    isplitl [H1]
    · iexists _; iexact H1
    isplitl [H2]
    · iexists _; iexact H2
    isplitl [H3]
    · iexists _; iexact H3
    isplitl [H4]
    · iexists _; iexact H4
    isplitl [H5]
    · iexists _; iexact H5
    isplitl [H6]
    · iexists _; iexact H6
    isplitl [H7]
    · iexists _; iexact H7
    isplitl [H8]
    · iexists _; iexact H8
    isplitl [H9]
    · iexists _; iexact H9
    iexists _; iexact H10

/-- The buffers the host operations after the region write. -/
def T : Finset (Ref sig .tc) := {main_v35, main_v36, main_call1_cst, main_call1_v0, main_v37, main_c, main_v38, main_cst_3, main_v39, main_v40, main_v41, main_v42, main_v43, main_v44, main_v45, main_v46}

theorem sfx_T : ∀ ops ∈ ([hostOps1, hostOps1_1, hostOps1_2] : List (List (HloOp τ sig (Elt F)))), ∀ op ∈ ops,
    ∀ b : Ref sig .tc, Proc.devRef .tc b ∈ op.writes → b ∈ T := by
  intro ops hops op hop b hb
  simp only [List.mem_cons, List.mem_nil_iff, or_false] at hops
  rcases hops with rfl | rfl | rfl
  · simp only [hostOps1, List.mem_cons, List.mem_nil_iff, or_false] at hop
    rcases hop with rfl | rfl
    all_goals simp only [StableHlo.nullary_writes, StableHlo.unary_writes, StableHlo.binary_writes, StableHlo.ternary_writes, StableHlo.reshape_writes, Finset.mem_singleton] at hb; obtain rfl := Proc.devRef_injective _ hb; decide
  · simp only [hostOps1_1, List.mem_cons, List.mem_nil_iff, or_false] at hop
    rcases hop with rfl | rfl | rfl
    all_goals simp only [StableHlo.nullary_writes, StableHlo.unary_writes, StableHlo.binary_writes, StableHlo.ternary_writes, StableHlo.reshape_writes, Finset.mem_singleton] at hb; obtain rfl := Proc.devRef_injective _ hb; decide
  · simp only [hostOps1_2, List.mem_cons, List.mem_nil_iff, or_false] at hop
    rcases hop with rfl | rfl | rfl | rfl | rfl | rfl | rfl | rfl | rfl | rfl | rfl
    all_goals simp only [StableHlo.nullary_writes, StableHlo.unary_writes, StableHlo.binary_writes, StableHlo.ternary_writes, StableHlo.reshape_writes, Finset.mem_singleton] at hb; obtain rfl := Proc.devRef_injective _ hb; decide

/-- The frame: the program runs, and its nine arguments end as they were, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c),
      ((h.1 c).2 main_arg3 (Finset.mem_sdiff.mpr ⟨Pipeline.mem_restRefs_of main_arg3 (by decide) (by decide), by decide⟩)).trans (V_main_arg3 m c),
      ((h.1 c).2 main_arg4 (Finset.mem_sdiff.mpr ⟨Pipeline.mem_restRefs_of main_arg4 (by decide) (by decide), by decide⟩)).trans (V_main_arg4 m c),
      ((h.1 c).2 main_arg5 (Finset.mem_sdiff.mpr ⟨Pipeline.mem_restRefs_of main_arg5 (by decide) (by decide), by decide⟩)).trans (V_main_arg5 m c),
      ((h.1 c).2 main_arg6 (Finset.mem_sdiff.mpr ⟨Pipeline.mem_restRefs_of main_arg6 (by decide) (by decide), by decide⟩)).trans (V_main_arg6 m c),
      ((h.1 c).2 main_arg7 (Finset.mem_sdiff.mpr ⟨Pipeline.mem_restRefs_of main_arg7 (by decide) (by decide), by decide⟩)).trans (V_main_arg7 m c),
      ((h.1 c).2 main_arg8 (Finset.mem_sdiff.mpr ⟨Pipeline.mem_restRefs_of main_arg8 (by decide) (by decide), by decide⟩)).trans (V_main_arg8 m c)⟩, h.2⟩)
    (Pipeline.θ_run_frame_around_T_forget cfgs (dats m) 0 launch0 defs₀ Variants.none (fun _ => true) T m ρ main (fun c => hbody m c)
      (fun c w => (dat m c).share_full (fun _ => rfl) w) (fun _ _ => rfl) (V0 m) [hostOps1, hostOps1_1, hostOps1_2] sfx_sub sfx_fresh sfx_keeps sfx_T (hmain m Variants.none)
      (fun _ _ => rfl) (fun _ _ => rfl)
      (fun r => Pipeline.RDat.FramePostR cfg0 (fun c => (dats m 0 c).toRForget (fun _ => true)) T (fun c b => V0 m c (Proc.devRef .tc b)) r ∧ r.2.sem = fun _ => 0)
      (fun _ h => h))

end Cert.Proof.Kernel

end
-- ==== Proof.Grid.lean ====
/-
  Arrays of ideal numbers read at natural-number coordinates (zero outside the array), and what the vector operations,
  loads and stores do to them in these terms.
-/
module

public import Idealize.ShloMosaic.Lib.ValueIdx
public import Idealize.ShloMosaic.Lib.ValueLayout
public import Idealize.ShloMosaic.Lib.ValueLayoutCasts
public import Idealize.ShloMosaic.Lib.MatmulPlain
public import Idealize.ShloMosaic.Lib.Memref
public import Idealize.ShloMosaic.Lib.Pipeline.Value
public import Idealize.ShloMosaic.Lib.Pointwise.SelectCore

@[expose] public section

noncomputable section

namespace Cert.Grid

open Idealize.ShloMosaic hiding ix1 ix2 ix3 ix4 eq_ix1 eq_ix2 eq_ix3 eq_ix4
open Idealize.ShloMosaic.ValueIdx

/-! ## Reading at natural-number coordinates -/

def g1 {a : ℕ} (X : (⟨1, ![a]⟩ : Shape).Idx → EReal) (i : ℕ) : EReal := if h : i < a then X (ix1 ⟨i, h⟩) else 0
def g2 {a b : ℕ} (X : (⟨2, ![a, b]⟩ : Shape).Idx → EReal) (i j : ℕ) : EReal :=
  if h : i < a ∧ j < b then X (ix2 ⟨i, h.1⟩ ⟨j, h.2⟩) else 0
def g3 {a b c : ℕ} (X : (⟨3, ![a, b, c]⟩ : Shape).Idx → EReal) (i j k : ℕ) : EReal :=
  if h : i < a ∧ j < b ∧ k < c then X (ix3 ⟨i, h.1⟩ ⟨j, h.2.1⟩ ⟨k, h.2.2⟩) else 0
def g4 {a b c d : ℕ} (X : (⟨4, ![a, b, c, d]⟩ : Shape).Idx → EReal) (i j k l : ℕ) : EReal :=
  if h : i < a ∧ j < b ∧ k < c ∧ l < d then X (ix4 ⟨i, h.1⟩ ⟨j, h.2.1⟩ ⟨k, h.2.2.1⟩ ⟨l, h.2.2.2⟩) else 0

variable {a b c d : ℕ}

theorem g1_of (X : (⟨1, ![a]⟩ : Shape).Idx → EReal) {i : ℕ} (hi : i < a) : g1 X i = X (ix1 ⟨i, hi⟩) := dif_pos hi
theorem g2_of (X : (⟨2, ![a, b]⟩ : Shape).Idx → EReal) {i j : ℕ} (hi : i < a) (hj : j < b) :
    g2 X i j = X (ix2 ⟨i, hi⟩ ⟨j, hj⟩) := dif_pos ⟨hi, hj⟩
theorem g3_of (X : (⟨3, ![a, b, c]⟩ : Shape).Idx → EReal) {i j k : ℕ} (hi : i < a) (hj : j < b) (hk : k < c) :
    g3 X i j k = X (ix3 ⟨i, hi⟩ ⟨j, hj⟩ ⟨k, hk⟩) := dif_pos ⟨hi, hj, hk⟩
theorem g4_of (X : (⟨4, ![a, b, c, d]⟩ : Shape).Idx → EReal) {i j k l : ℕ} (hi : i < a) (hj : j < b) (hk : k < c) (hl : l < d) :
    g4 X i j k l = X (ix4 ⟨i, hi⟩ ⟨j, hj⟩ ⟨k, hk⟩ ⟨l, hl⟩) := dif_pos ⟨hi, hj, hk, hl⟩

theorem g1_val (X : (⟨1, ![a]⟩ : Shape).Idx → EReal) (y : (⟨1, ![a]⟩ : Shape).Idx) : X y = g1 X (y 0).val := by
  rw [g1_of X (y 0).isLt]; exact congrArg X (eq_ix1 y)
theorem g2_val (X : (⟨2, ![a, b]⟩ : Shape).Idx → EReal) (y : (⟨2, ![a, b]⟩ : Shape).Idx) :
    X y = g2 X (y 0).val (y 1).val := by rw [g2_of X (y 0).isLt (y 1).isLt]; exact congrArg X (eq_ix2 y)
theorem g3_val (X : (⟨3, ![a, b, c]⟩ : Shape).Idx → EReal) (y : (⟨3, ![a, b, c]⟩ : Shape).Idx) :
    X y = g3 X (y 0).val (y 1).val (y 2).val := by
  rw [g3_of X (y 0).isLt (y 1).isLt (y 2).isLt]; exact congrArg X (eq_ix3 y)
theorem g4_val (X : (⟨4, ![a, b, c, d]⟩ : Shape).Idx → EReal) (y : (⟨4, ![a, b, c, d]⟩ : Shape).Idx) :
    X y = g4 X (y 0).val (y 1).val (y 2).val (y 3).val := by
  rw [g4_of X (y 0).isLt (y 1).isLt (y 2).isLt (y 3).isLt]; exact congrArg X (eq_ix4 y)

/-! ## Loads and stores -/

section Access
variable {off size : Fin 2 → ℕ} {s0 s1 s2 s3 : ℕ}

theorem overlay_val {s : Shape} {α : Type} {off size : Fin s.rank → ℕ} (inb : ∀ a, off a + size a ≤ s.size a)
    (f : s.Idx → α) (w : (Rect.unit off size inb).shape.Idx → α) (y : s.Idx) (h : ∀ a, off a ≤ (y a).val ∧ (y a).val < off a + size a) :
    (Rect.unit off size inb).overlay f w y = w (fun a => ⟨(y a).val - off a, by have := h a; show _ < size a; omega⟩) := by
  have : y = (Rect.unit off size inb).emb (fun a => ⟨(y a).val - off a, by have := h a; show _ < size a; omega⟩) := by
    funext a; apply Fin.ext
    have := h a
    show (y a).val = off a + 1 * ((y a).val - off a)
    omega
  exact (congrArg _ this).trans (Rect.overlay_emb _ f w _)

theorem g2_store {o0 o1 : ℕ} {off : Fin 2 → ℕ} (ho : off = ![o0, o1])
    (inb : ∀ x, off x + (![s0, s1] : Fin 2 → ℕ) x ≤ (⟨2, ![a, b]⟩ : Shape).size x)
    (f : (⟨2, ![a, b]⟩ : Shape).Idx → EReal) (w : (⟨2, ![s0, s1]⟩ : Shape).Idx → EReal) (i j : ℕ) :
    g2 ((Rect.unit (s := ⟨2, ![a, b]⟩) off ![s0, s1] inb).overlay f w) i j
      = if o0 ≤ i ∧ i < o0 + s0 ∧ o1 ≤ j ∧ j < o1 + s1 then g2 w (i - o0) (j - o1) else g2 f i j := by
  subst ho
  have b0 : o0 + s0 ≤ a := inb 0
  have b1 : o1 + s1 ≤ b := inb 1
  split_ifs with h
  · rw [g2_of _ (by omega) (by omega), g2_of _ (by omega) (by omega)]
    refine (overlay_val inb f w _ ?_).trans ?_
    · intro x
      match x with
      | ⟨0, _⟩ => exact ⟨h.1, h.2.1⟩
      | ⟨1, _⟩ => exact ⟨h.2.2.1, h.2.2.2⟩
    · refine congrArg w (funext fun x => Fin.ext ?_)
      match x with
      | ⟨0, _⟩ => rfl
      | ⟨1, _⟩ => rfl
  · by_cases hb : i < a ∧ j < b
    · rw [g2_of _ hb.1 hb.2, g2_of _ hb.1 hb.2, Rect.overlay_of_not_mem]
      rw [Rect.mem_set_unit]
      intro hm
      have m0 : o0 ≤ i ∧ i < o0 + s0 := hm 0
      have m1 : o1 ≤ j ∧ j < o1 + s1 := hm 1
      omega
    · simp only [g2, dif_neg hb]

theorem g3_store {o0 o1 o2 : ℕ} {off : Fin 3 → ℕ} (ho : off = ![o0, o1, o2])
    (inb : ∀ x, off x + (![s0, s1, s2] : Fin 3 → ℕ) x ≤ (⟨3, ![a, b, c]⟩ : Shape).size x)
    (f : (⟨3, ![a, b, c]⟩ : Shape).Idx → EReal) (w : (⟨3, ![s0, s1, s2]⟩ : Shape).Idx → EReal) (i j k : ℕ) :
    g3 ((Rect.unit (s := ⟨3, ![a, b, c]⟩) off ![s0, s1, s2] inb).overlay f w) i j k
      = if o0 ≤ i ∧ i < o0 + s0 ∧ o1 ≤ j ∧ j < o1 + s1 ∧ o2 ≤ k ∧ k < o2 + s2 then g3 w (i - o0) (j - o1) (k - o2) else g3 f i j k := by
  subst ho
  have b0 : o0 + s0 ≤ a := inb 0
  have b1 : o1 + s1 ≤ b := inb 1
  have b2 : o2 + s2 ≤ c := inb 2
  split_ifs with h
  · rw [g3_of _ (by omega) (by omega) (by omega), g3_of _ (by omega) (by omega) (by omega)]
    refine (overlay_val inb f w _ ?_).trans ?_
    · intro x
      match x with
      | ⟨0, _⟩ => exact ⟨h.1, h.2.1⟩
      | ⟨1, _⟩ => exact ⟨h.2.2.1, h.2.2.2.1⟩
      | ⟨2, _⟩ => exact ⟨h.2.2.2.2.1, h.2.2.2.2.2⟩
    · refine congrArg w (funext fun x => Fin.ext ?_)
      match x with
      | ⟨0, _⟩ => rfl
      | ⟨1, _⟩ => rfl
      | ⟨2, _⟩ => rfl
  · by_cases hb : i < a ∧ j < b ∧ k < c
    · rw [g3_of _ hb.1 hb.2.1 hb.2.2, g3_of _ hb.1 hb.2.1 hb.2.2, Rect.overlay_of_not_mem]
      rw [Rect.mem_set_unit]
      intro hm
      have m0 : o0 ≤ i ∧ i < o0 + s0 := hm 0
      have m1 : o1 ≤ j ∧ j < o1 + s1 := hm 1
      have m2 : o2 ≤ k ∧ k < o2 + s2 := hm 2
      omega
    · simp only [g3, dif_neg hb]

theorem g4_store {o0 o1 o2 o3 : ℕ} {off : Fin 4 → ℕ} (ho : off = ![o0, o1, o2, o3])
    (inb : ∀ x, off x + (![s0, s1, s2, s3] : Fin 4 → ℕ) x ≤ (⟨4, ![a, b, c, d]⟩ : Shape).size x)
    (f : (⟨4, ![a, b, c, d]⟩ : Shape).Idx → EReal) (w : (⟨4, ![s0, s1, s2, s3]⟩ : Shape).Idx → EReal) (i j k l : ℕ) :
    g4 ((Rect.unit (s := ⟨4, ![a, b, c, d]⟩) off ![s0, s1, s2, s3] inb).overlay f w) i j k l
      = if o0 ≤ i ∧ i < o0 + s0 ∧ o1 ≤ j ∧ j < o1 + s1 ∧ o2 ≤ k ∧ k < o2 + s2 ∧ o3 ≤ l ∧ l < o3 + s3
        then g4 w (i - o0) (j - o1) (k - o2) (l - o3) else g4 f i j k l := by
  subst ho
  have b0 : o0 + s0 ≤ a := inb 0
  have b1 : o1 + s1 ≤ b := inb 1
  have b2 : o2 + s2 ≤ c := inb 2
  have b3 : o3 + s3 ≤ d := inb 3
  split_ifs with h
  · rw [g4_of _ (by omega) (by omega) (by omega) (by omega), g4_of _ (by omega) (by omega) (by omega) (by omega)]
    refine (overlay_val inb f w _ ?_).trans ?_
    · intro x
      match x with
      | ⟨0, _⟩ => exact ⟨h.1, h.2.1⟩
      | ⟨1, _⟩ => exact ⟨h.2.2.1, h.2.2.2.1⟩
      | ⟨2, _⟩ => exact ⟨h.2.2.2.2.1, h.2.2.2.2.2.1⟩
      | ⟨3, _⟩ => exact ⟨h.2.2.2.2.2.2.1, h.2.2.2.2.2.2.2⟩
    · refine congrArg w (funext fun x => Fin.ext ?_)
      match x with
      | ⟨0, _⟩ => rfl
      | ⟨1, _⟩ => rfl
      | ⟨2, _⟩ => rfl
      | ⟨3, _⟩ => rfl
  · by_cases hb : i < a ∧ j < b ∧ k < c ∧ l < d
    · rw [g4_of _ hb.1 hb.2.1 hb.2.2.1 hb.2.2.2, g4_of _ hb.1 hb.2.1 hb.2.2.1 hb.2.2.2, Rect.overlay_of_not_mem]
      rw [Rect.mem_set_unit]
      intro hm
      have m0 : o0 ≤ i ∧ i < o0 + s0 := hm 0
      have m1 : o1 ≤ j ∧ j < o1 + s1 := hm 1
      have m2 : o2 ≤ k ∧ k < o2 + s2 := hm 2
      have m3 : o3 ≤ l ∧ l < o3 + s3 := hm 3
      omega
    · simp only [g4, dif_neg hb]

theorem g2_load {o0 o1 : ℕ} {off : Fin 2 → ℕ} (ho : off = ![o0, o1])
    (inb : ∀ x, off x + (![s0, s1] : Fin 2 → ℕ) x ≤ (⟨2, ![a, b]⟩ : Shape).size x)
    (f : (⟨2, ![a, b]⟩ : Shape).Idx → EReal) {i j : ℕ} (hi : i < s0) (hj : j < s1) :
    g2 (a := s0) (b := s1) (fun x => f ((Rect.unit (s := ⟨2, ![a, b]⟩) off ![s0, s1] inb).toLoadRect.idx x)) i j = g2 f (o0 + i) (o1 + j) := by
  subst ho
  have b0 : o0 + s0 ≤ a := inb 0
  have b1 : o1 + s1 ≤ b := inb 1
  rw [g2_of _ hi hj, g2_of _ (by omega) (by omega)]
  congr 1; funext x; apply Fin.ext
  match x with
  | ⟨0, _⟩ => show o0 + 1 * i = _; simp
  | ⟨1, _⟩ => show o1 + 1 * j = _; simp

theorem g3_load {o0 o1 o2 : ℕ} {off : Fin 3 → ℕ} (ho : off = ![o0, o1, o2])
    (inb : ∀ x, off x + (![s0, s1, s2] : Fin 3 → ℕ) x ≤ (⟨3, ![a, b, c]⟩ : Shape).size x)
    (f : (⟨3, ![a, b, c]⟩ : Shape).Idx → EReal) {i j k : ℕ} (hi : i < s0) (hj : j < s1) (hk : k < s2) :
    g3 (a := s0) (b := s1) (c := s2) (fun x => f ((Rect.unit (s := ⟨3, ![a, b, c]⟩) off ![s0, s1, s2] inb).toLoadRect.idx x)) i j k
      = g3 f (o0 + i) (o1 + j) (o2 + k) := by
  subst ho
  have b0 : o0 + s0 ≤ a := inb 0
  have b1 : o1 + s1 ≤ b := inb 1
  have b2 : o2 + s2 ≤ c := inb 2
  rw [g3_of _ hi hj hk, g3_of _ (by omega) (by omega) (by omega)]
  congr 1; funext x; apply Fin.ext
  match x with
  | ⟨0, _⟩ => show o0 + 1 * i = _; simp
  | ⟨1, _⟩ => show o1 + 1 * j = _; simp
  | ⟨2, _⟩ => show o2 + 1 * k = _; simp

theorem g4_load {o0 o1 o2 o3 : ℕ} {off : Fin 4 → ℕ} (ho : off = ![o0, o1, o2, o3])
    (inb : ∀ x, off x + (![s0, s1, s2, s3] : Fin 4 → ℕ) x ≤ (⟨4, ![a, b, c, d]⟩ : Shape).size x)
    (f : (⟨4, ![a, b, c, d]⟩ : Shape).Idx → EReal) {i j k l : ℕ} (hi : i < s0) (hj : j < s1) (hk : k < s2) (hl : l < s3) :
    g4 (a := s0) (b := s1) (c := s2) (d := s3) (fun x => f ((Rect.unit (s := ⟨4, ![a, b, c, d]⟩) off ![s0, s1, s2, s3] inb).toLoadRect.idx x)) i j k l
      = g4 f (o0 + i) (o1 + j) (o2 + k) (o3 + l) := by
  subst ho
  have b0 : o0 + s0 ≤ a := inb 0
  have b1 : o1 + s1 ≤ b := inb 1
  have b2 : o2 + s2 ≤ c := inb 2
  have b3 : o3 + s3 ≤ d := inb 3
  rw [g4_of _ hi hj hk hl, g4_of _ (by omega) (by omega) (by omega) (by omega)]
  congr 1; funext x; apply Fin.ext
  match x with
  | ⟨0, _⟩ => show o0 + 1 * i = _; simp
  | ⟨1, _⟩ => show o1 + 1 * j = _; simp
  | ⟨2, _⟩ => show o2 + 1 * k = _; simp
  | ⟨3, _⟩ => show o3 + 1 * l = _; simp

end Access

/-! ## The vector operations -/

section Ops
variable {φ ψ : FTy} {i j k l : ℕ}

theorem g2_mulf (x y : FVec Ideal ⟨2, ![a, b]⟩ φ) (hi : i < a) (hj : j < b) : g2 (mulf x y) i j = g2 x i j * g2 y i j := by
  rw [g2_of _ hi hj, g2_of _ hi hj, g2_of _ hi hj]; rfl
theorem g2_addf (x y : FVec Ideal ⟨2, ![a, b]⟩ φ) (hi : i < a) (hj : j < b) : g2 (addf x y) i j = g2 x i j + g2 y i j := by
  rw [g2_of _ hi hj, g2_of _ hi hj, g2_of _ hi hj]; rfl
theorem g2_subf (x y : FVec Ideal ⟨2, ![a, b]⟩ φ) (hi : i < a) (hj : j < b) : g2 (subf x y) i j = g2 x i j - g2 y i j := by
  rw [g2_of _ hi hj, g2_of _ hi hj, g2_of _ hi hj]; rfl
theorem g2_divf (x y : FVec Ideal ⟨2, ![a, b]⟩ φ) (hi : i < a) (hj : j < b) :
    g2 (divf x y) i j = Ideal.div (g2 x i j) (g2 y i j) := by
  rw [g2_of _ hi hj, g2_of _ hi hj, g2_of _ hi hj]; rfl
theorem g2_maximumf (x y : FVec Ideal ⟨2, ![a, b]⟩ φ) (hi : i < a) (hj : j < b) :
    g2 (maximumf x y) i j = max (g2 x i j) (g2 y i j) := by
  rw [g2_of _ hi hj, g2_of _ hi hj, g2_of _ hi hj]; rfl
theorem g2_exp2 (x : FVec Ideal ⟨2, ![a, b]⟩ φ) (hi : i < a) (hj : j < b) : g2 (exp2 x) i j = Ideal.exp2 (g2 x i j) := by
  rw [g2_of _ hi hj, g2_of _ hi hj]; rfl
theorem g2_exp (x : FVec Ideal ⟨2, ![a, b]⟩ φ) (hi : i < a) (hj : j < b) : g2 (exp x) i j = Ideal.exp (g2 x i j) := by
  rw [g2_of _ hi hj, g2_of _ hi hj]; rfl
theorem g2_log (x : FVec Ideal ⟨2, ![a, b]⟩ φ) (hi : i < a) (hj : j < b) : g2 (log x) i j = Ideal.log (g2 x i j) := by
  rw [g2_of _ hi hj, g2_of _ hi hj]; rfl
theorem g2_truncf (x : FVec Ideal ⟨2, ![a, b]⟩ φ) (h : ψ.bits < φ.bits) : g2 (truncf ψ x h) i j = g2 x i j := rfl
theorem g2_extf (x : FVec Ideal ⟨2, ![a, b]⟩ φ) (h : φ.bits < ψ.bits) : g2 (extf ψ x h) i j = g2 x i j := rfl
theorem g2_broadcast (x : EReal) (hi : i < a) (hj : j < b) : g2 (broadcast ⟨2, ![a, b]⟩ x) i j = x := by
  rw [g2_of _ hi hj]; rfl
theorem g2_constant (w : BitVec φ.bits) (hi : i < a) (hj : j < b) :
    g2 (constant (F := Ideal) ⟨2, ![a, b]⟩ φ w) i j = Ideal.ofBits φ w := by rw [g2_of _ hi hj]; rfl
theorem g2_select (m : IVec ⟨2, ![a, b]⟩ 1) (x y : (⟨2, ![a, b]⟩ : Shape).Idx → EReal) (hi : i < a) (hj : j < b) :
    g2 (select m x y) i j = if m (ix2 ⟨i, hi⟩ ⟨j, hj⟩) = 1#1 then g2 x i j else g2 y i j := by
  rw [g2_of _ hi hj, g2_of _ hi hj, g2_of _ hi hj]; rfl
theorem g2_row (x : (⟨2, ![1, b]⟩ : Shape).Idx → EReal) (h : (⟨2, ![1, b]⟩ : Shape).Broadcasts ⟨2, ![a, b]⟩) (hi : i < a) (hj : j < b) :
    g2 (broadcastTo ⟨2, ![a, b]⟩ x h) i j = g2 x 0 j := by
  rw [g2_of _ hi hj, g2_of _ (by omega) hj, broadcastTo_1b_ab_apply]; rfl
theorem g2_col (x : (⟨2, ![a, 1]⟩ : Shape).Idx → EReal) (h : (⟨2, ![a, 1]⟩ : Shape).Broadcasts ⟨2, ![a, b]⟩) (hi : i < a) (hj : j < b) :
    g2 (broadcastTo ⟨2, ![a, b]⟩ x h) i j = g2 x i 0 := by
  rw [g2_of _ hi hj, g2_of _ hi (by omega)]
  refine broadcastTo_apply x h _ _ fun ax => ?_
  match ax with
  | ⟨0, _⟩ =>
    by_cases h1 : a = 1
    · subst h1
      have : i = 0 := by omega
      subst this
      rfl
    · simp [h1]
  | ⟨1, _⟩ => rfl
theorem g2_slice (x : (⟨2, ![c, d]⟩ : Shape).Idx → EReal) {o0 o1 : ℕ} (h : (⟨2, ![c, d]⟩ : Shape).Slices ![o0, o1] ⟨2, ![a, b]⟩)
    (hi : i < a) (hj : j < b) : g2 (extractStridedSlice ⟨2, ![a, b]⟩ ![o0, o1] x h) i j = g2 x (o0 + i) (o1 + j) := by
  have h0 : o0 + a ≤ c := h.2 0
  have h1 : o1 + b ≤ d := h.2 1
  rw [g2_of _ hi hj, g2_of _ (by omega) (by omega)]
  refine extractStridedSlice_apply _ x h _ _ fun ax => ?_
  match ax with
  | ⟨0, _⟩ => rfl
  | ⟨1, _⟩ => rfl

theorem g2_cast32 (x : (⟨3, ![1, a, b]⟩ : Shape).Idx → EReal) (h : (⟨3, ![1, a, b]⟩ : Shape).ShapeCasts ⟨2, ![a, b]⟩)
    (hi : i < a) (hj : j < b) : g2 (shapeCast ⟨2, ![a, b]⟩ x h) i j = g3 x 0 i j := by
  rw [g2_of _ hi hj, g3_of _ (by omega) hi hj, shapeCast_1ab_ab_apply]; rfl
theorem g3_cast23 (x : (⟨2, ![a, b]⟩ : Shape).Idx → EReal) (h : (⟨2, ![a, b]⟩ : Shape).ShapeCasts ⟨3, ![1, a, b]⟩)
    (hk : k < 1) (hi : i < a) (hj : j < b) : g3 (shapeCast ⟨3, ![1, a, b]⟩ x h) k i j = g2 x i j := by
  rw [g2_of _ hi hj, g3_of _ hk hi hj, shapeCast_ab_1ab_apply]
theorem g2_cast22 (x : (⟨2, ![a, b]⟩ : Shape).Idx → EReal) (h : (⟨2, ![a, b]⟩ : Shape).ShapeCasts ⟨2, ![a, b]⟩) :
    g2 (shapeCast ⟨2, ![a, b]⟩ x h) i j = g2 x i j := by
  have : shapeCast ⟨2, ![a, b]⟩ x h = x := funext fun y => shapeCast_apply x h y y rfl
  rw [this]
theorem g2_cast42 (x : (⟨4, ![1, 1, a, b]⟩ : Shape).Idx → EReal) (h : (⟨4, ![1, 1, a, b]⟩ : Shape).ShapeCasts ⟨2, ![a, b]⟩)
    (hi : i < a) (hj : j < b) : g2 (shapeCast ⟨2, ![a, b]⟩ x h) i j = g4 x 0 0 i j := by
  rw [g2_of _ hi hj, g4_of _ (by omega) (by omega) hi hj]
  refine shapeCast_apply x h _ _ ?_
  rw [Shape.rowMajor_val_four, Shape.rowMajor_val_two]
  show ((0 * 1 + 0) * a + i) * b + j = i * b + j
  simp
theorem g4_cast24 (x : (⟨2, ![a, b]⟩ : Shape).Idx → EReal) (h : (⟨2, ![a, b]⟩ : Shape).ShapeCasts ⟨4, ![1, 1, a, b]⟩)
    (hk : k < 1) (hl : l < 1) (hi : i < a) (hj : j < b) : g4 (shapeCast ⟨4, ![1, 1, a, b]⟩ x h) k l i j = g2 x i j := by
  obtain rfl : k = 0 := by omega
  obtain rfl : l = 0 := by omega
  rw [g2_of _ hi hj, g4_of _ hk hl hi hj]
  refine shapeCast_apply x h _ _ ?_
  rw [Shape.rowMajor_val_four, Shape.rowMajor_val_two]
  show i * b + j = ((0 * 1 + 0) * a + i) * b + j
  simp
theorem g2_cast12 (x : (⟨1, ![a]⟩ : Shape).Idx → EReal) (h : (⟨1, ![a]⟩ : Shape).ShapeCasts ⟨2, ![a, 1]⟩) (hi : i < a) (hj : j < 1) :
    g2 (shapeCast ⟨2, ![a, 1]⟩ x h) i j = g1 x i := by
  rw [g2_of _ hi hj, g1_of _ hi, shapeCast_a_a1_apply]
theorem g2_cast12r (x : (⟨1, ![b]⟩ : Shape).Idx → EReal) (h : (⟨1, ![b]⟩ : Shape).ShapeCasts ⟨2, ![1, b]⟩) (hi : i < 1) (hj : j < b) :
    g2 (shapeCast ⟨2, ![1, b]⟩ x h) i j = g1 x j := by
  rw [g2_of _ hi hj, g1_of _ hj, shapeCast_a_1a_apply]
theorem g2_transpose (x : (⟨2, ![a, b]⟩ : Shape).Idx → EReal) (h : (⟨2, ![a, b]⟩ : Shape).Transposes [1, 0] ⟨2, ![b, a]⟩)
    (hi : i < b) (hj : j < a) : g2 (transpose ⟨2, ![b, a]⟩ [1, 0] x h) i j = g2 x j i := by
  rw [g2_of _ hi hj, g2_of _ hj hi, transpose_ix2_apply]

open Finset in
theorem g2_matmul_nt {M K N : ℕ} (p : Option ContractPrecision) (x : FVec Ideal ⟨2, ![M, K]⟩ φ) (y : FVec Ideal ⟨2, ![N, K]⟩ ψ)
    (z : FVec Ideal ⟨2, ![M, N]⟩ .f32) (hi : i < M) (hj : j < N) :
    g2 (matmul (DotDims.transposedRhs M K N) p x y z) i j = g2 z i j + ∑ q ∈ range K, g2 x i q * g2 y j q := by
  rw [g2_of _ hi hj, g2_of _ hi hj]
  refine (Ideal.matmul_transposedRhs_apply p x y z _ _).trans ?_
  rw [← Fin.sum_univ_eq_sum_range (fun q => g2 x i q * g2 y j q)]
  congr 1
  refine Finset.sum_congr rfl fun q _ => ?_
  rw [g2_of _ hi q.isLt, g2_of _ hj q.isLt]
open Finset in
theorem g2_matmul_nn {M K N : ℕ} (p : Option ContractPrecision) (x : FVec Ideal ⟨2, ![M, K]⟩ φ) (y : FVec Ideal ⟨2, ![K, N]⟩ ψ)
    (z : FVec Ideal ⟨2, ![M, N]⟩ .f32) (hi : i < M) (hj : j < N) :
    g2 (matmul (DotDims.plain M K N) p x y z) i j = g2 z i j + ∑ q ∈ range K, g2 x i q * g2 y q j := by
  rw [g2_of _ hi hj, g2_of _ hi hj]
  refine (Ideal.matmul_plain_apply p x y z _ _).trans ?_
  rw [← Fin.sum_univ_eq_sum_range (fun q => g2 x i q * g2 y q j)]
  congr 1
  refine Finset.sum_congr rfl fun q _ => ?_
  rw [g2_of _ hi q.isLt, g2_of _ q.isLt hj]

end Ops

/-! ## Joins and reductions -/

section Joins
variable {i j k n m : ℕ} {φ : FTy}

theorem cat1_cons {x : (⟨2, ![a, n]⟩ : Shape).Idx → EReal} {q : (s : Shape) × (s.Idx → EReal)}
    {xs : List ((s : Shape) × (s.Idx → EReal))} (hi : i < a) (hj : j < b)
    (hs : ∀ s' ∈ (⟨⟨2, ![a, n]⟩, x⟩ :: q :: xs : List ((s : Shape) × (s.Idx → EReal))).map (·.1), s'.FitsOff ⟨2, ![a, b]⟩ 1) (c : ℕ)
    (hc : c < (axisSizes ⟨2, ![a, b]⟩ 1 (⟨⟨2, ![a, n]⟩, x⟩ :: q :: xs)).sum) :
    concatenateAt ⟨2, ![a, b]⟩ 1 (ix2 ⟨i, hi⟩ ⟨j, hj⟩) (⟨⟨2, ![a, n]⟩, x⟩ :: q :: xs) hs c hc
      = if hlt : c < n then g2 x i c else
        concatenateAt ⟨2, ![a, b]⟩ 1 (ix2 ⟨i, hi⟩ ⟨j, hj⟩) (q :: xs) (fun s' h => hs s' (List.mem_cons_of_mem _ h)) (c - n)
          (by rw [axisSizes_cons _ _ _ _ (hs _ List.mem_cons_self), List.sum_cons] at hc
              have h0 : c < n + (axisSizes ⟨2, ![a, b]⟩ 1 (q :: xs)).sum := hc
              have h1 : ¬ c < n := hlt
              omega) := by
  rw [concatenateAt_cons]
  by_cases h : c < n
  · refine (dif_pos h).trans (Eq.trans ?_ (dif_pos h).symm)
    rw [g2_of _ hi h]
    refine congrArg x (funext fun x => Fin.ext ?_)
    match x with
    | ⟨0, _⟩ => rfl
    | ⟨1, _⟩ => rfl
  · refine (dif_neg h).trans ?_
    rw [dif_neg h]; rfl

theorem cat1_one {x : (⟨2, ![a, n]⟩ : Shape).Idx → EReal} (hi : i < a) (hj : j < b)
    (hs : ∀ s' ∈ ([⟨⟨2, ![a, n]⟩, x⟩] : List ((s : Shape) × (s.Idx → EReal))).map (·.1), s'.FitsOff ⟨2, ![a, b]⟩ 1) (c : ℕ)
    (hc : c < (axisSizes ⟨2, ![a, b]⟩ 1 [⟨⟨2, ![a, n]⟩, x⟩]).sum) (h : c < n) :
    concatenateAt ⟨2, ![a, b]⟩ 1 (ix2 ⟨i, hi⟩ ⟨j, hj⟩) [⟨⟨2, ![a, n]⟩, x⟩] hs c hc = g2 x i c := by
  rw [concatenateAt_singleton, g2_of _ hi h]
  refine congrArg x (funext fun x => Fin.ext ?_)
  match x with
  | ⟨0, _⟩ => rfl
  | ⟨1, _⟩ => rfl

theorem cat0_cons {x : (⟨2, ![n, b]⟩ : Shape).Idx → EReal} {q : (s : Shape) × (s.Idx → EReal)}
    {xs : List ((s : Shape) × (s.Idx → EReal))} (hi : i < a) (hj : j < b)
    (hs : ∀ s' ∈ (⟨⟨2, ![n, b]⟩, x⟩ :: q :: xs : List ((s : Shape) × (s.Idx → EReal))).map (·.1), s'.FitsOff ⟨2, ![a, b]⟩ 0) (c : ℕ)
    (hc : c < (axisSizes ⟨2, ![a, b]⟩ 0 (⟨⟨2, ![n, b]⟩, x⟩ :: q :: xs)).sum) :
    concatenateAt ⟨2, ![a, b]⟩ 0 (ix2 ⟨i, hi⟩ ⟨j, hj⟩) (⟨⟨2, ![n, b]⟩, x⟩ :: q :: xs) hs c hc
      = if hlt : c < n then g2 x c j else
        concatenateAt ⟨2, ![a, b]⟩ 0 (ix2 ⟨i, hi⟩ ⟨j, hj⟩) (q :: xs) (fun s' h => hs s' (List.mem_cons_of_mem _ h)) (c - n)
          (by rw [axisSizes_cons _ _ _ _ (hs _ List.mem_cons_self), List.sum_cons] at hc
              have h0 : c < n + (axisSizes ⟨2, ![a, b]⟩ 0 (q :: xs)).sum := hc
              have h1 : ¬ c < n := hlt
              omega) := by
  rw [concatenateAt_cons]
  by_cases h : c < n
  · refine (dif_pos h).trans (Eq.trans ?_ (dif_pos h).symm)
    rw [g2_of _ h hj]
    refine congrArg x (funext fun x => Fin.ext ?_)
    match x with
    | ⟨0, _⟩ => rfl
    | ⟨1, _⟩ => rfl
  · refine (dif_neg h).trans ?_
    rw [dif_neg h]; rfl

theorem cat0_one {x : (⟨2, ![n, b]⟩ : Shape).Idx → EReal} (hi : i < a) (hj : j < b)
    (hs : ∀ s' ∈ ([⟨⟨2, ![n, b]⟩, x⟩] : List ((s : Shape) × (s.Idx → EReal))).map (·.1), s'.FitsOff ⟨2, ![a, b]⟩ 0) (c : ℕ)
    (hc : c < (axisSizes ⟨2, ![a, b]⟩ 0 [⟨⟨2, ![n, b]⟩, x⟩]).sum) (h : c < n) :
    concatenateAt ⟨2, ![a, b]⟩ 0 (ix2 ⟨i, hi⟩ ⟨j, hj⟩) [⟨⟨2, ![n, b]⟩, x⟩] hs c hc = g2 x c j := by
  rw [concatenateAt_singleton, g2_of _ h hj]
  refine congrArg x (funext fun x => Fin.ext ?_)
  match x with
  | ⟨0, _⟩ => rfl
  | ⟨1, _⟩ => rfl

theorem g2_concat4 (x0 x1 x2 x3 : (⟨2, ![a, 128]⟩ : Shape).Idx → EReal)
    (h : Shape.Concatenates (([⟨⟨2, ![a, 128]⟩, x0⟩, ⟨⟨2, ![a, 128]⟩, x1⟩, ⟨⟨2, ![a, 128]⟩, x2⟩, ⟨⟨2, ![a, 128]⟩, x3⟩] :
      List ((s : Shape) × (s.Idx → EReal))).map (·.1)) ⟨2, ![a, 512]⟩ 1) (hi : i < a) (hj : j < 512) :
    g2 (concatenate ⟨2, ![a, 512]⟩ 1 [⟨⟨2, ![a, 128]⟩, x0⟩, ⟨⟨2, ![a, 128]⟩, x1⟩, ⟨⟨2, ![a, 128]⟩, x2⟩, ⟨⟨2, ![a, 128]⟩, x3⟩] h) i j
      = if j < 128 then g2 x0 i j else if j < 256 then g2 x1 i (j - 128) else if j < 384 then g2 x2 i (j - 256) else g2 x3 i (j - 384) := by
  rw [g2_of _ hi hj, concatenate_apply, cat1_cons]
  show (if hlt : j < 128 then _ else _) = _
  by_cases h0 : j < 128
  · simp only [h0, dite_true, if_true]; rfl
  rw [dif_neg h0, if_neg h0, cat1_cons]
  by_cases h1 : j < 256
  · rw [if_pos h1, dif_pos (show _ - 128 < 128 by show j - 128 < 128; omega)]; rfl
  rw [if_neg h1, dif_neg (show ¬ _ - 128 < 128 by show ¬ j - 128 < 128; omega), cat1_cons]
  by_cases h2 : j < 384
  · rw [if_pos h2, dif_pos (show _ - 128 - 128 < 128 by show j - 128 - 128 < 128; omega)]
    exact congrArg (g2 x2 i) (show j - 128 - 128 = j - 256 by omega)
  rw [if_neg h2, dif_neg (show ¬ _ - 128 - 128 < 128 by show ¬ j - 128 - 128 < 128; omega), cat1_one _ _ _ _ _ (by show j - 128 - 128 - 128 < 128; omega)]
  exact congrArg (g2 x3 i) (show j - 128 - 128 - 128 = j - 384 by omega)

theorem g2_concat2 (x0 x1 : (⟨2, ![256, b]⟩ : Shape).Idx → EReal)
    (h : Shape.Concatenates (([⟨⟨2, ![256, b]⟩, x0⟩, ⟨⟨2, ![256, b]⟩, x1⟩] :
      List ((s : Shape) × (s.Idx → EReal))).map (·.1)) ⟨2, ![512, b]⟩ 0) (hi : i < 512) (hj : j < b) :
    g2 (concatenate ⟨2, ![512, b]⟩ 0 [⟨⟨2, ![256, b]⟩, x0⟩, ⟨⟨2, ![256, b]⟩, x1⟩] h) i j
      = if i < 256 then g2 x0 i j else g2 x1 (i - 256) j := by
  rw [g2_of _ hi hj, concatenate_apply, cat0_cons]
  show (if hlt : i < 256 then _ else _) = _
  by_cases h0 : i < 256
  · simp only [h0, dite_true, if_true]; rfl
  rw [dif_neg h0, if_neg h0, cat0_one _ _ _ _ _ (by show i - 256 < 256; omega)]
  rfl

open Finset in
theorem g1_rowsum (x : FVec Ideal ⟨2, ![a, b]⟩ φ) (w : BitVec φ.bits) (h : (⟨2, ![a, b]⟩ : Shape).Reduces [1] ⟨1, ![a]⟩) (hφ) (hw) (hi : i < a) :
    g1 (multiReduction .add [1] ⟨1, ![a]⟩ x w h hφ hw) i = ∑ q ∈ range b, g2 x i q := by
  rw [g1_of _ hi, ← Fin.sum_univ_eq_sum_range (fun q => g2 x i q)]
  show ∑ y ∈ univ.filter (fun y => h.drop y = _), x y = _
  refine Finset.sum_bij' (fun y _ => y 1) (fun q _ => ix2 ⟨i, hi⟩ q) (fun _ _ => mem_univ _) ?_ ?_ ?_ ?_
  · intro q _
    rw [mem_filter]
    refine ⟨mem_univ _, ?_⟩
    funext z; apply Fin.ext
    match z with
    | ⟨0, _⟩ => rfl
  · intro y hy
    rw [mem_filter] at hy
    have e : (y 0).val = i := congrArg (fun z : (⟨1, ![a]⟩ : Shape).Idx => (z 0).val) hy.2
    funext z; apply Fin.ext
    match z with
    | ⟨0, _⟩ => exact e.symm
    | ⟨1, _⟩ => rfl
  · intro q _; rfl
  · intro y hy
    rw [mem_filter] at hy
    have e : (y 0).val = i := congrArg (fun z : (⟨1, ![a]⟩ : Shape).Idx => (z 0).val) hy.2
    rw [g2_val x y, e]

open Finset in
theorem g1_colsum (x : FVec Ideal ⟨2, ![a, b]⟩ φ) (w : BitVec φ.bits) (h : (⟨2, ![a, b]⟩ : Shape).Reduces [0] ⟨1, ![b]⟩) (hφ) (hw) (hi : i < b) :
    g1 (multiReduction .add [0] ⟨1, ![b]⟩ x w h hφ hw) i = ∑ q ∈ range a, g2 x q i := by
  rw [g1_of _ hi, ← Fin.sum_univ_eq_sum_range (fun q => g2 x q i)]
  show ∑ y ∈ univ.filter (fun y => h.drop y = _), x y = _
  refine Finset.sum_bij' (fun y _ => y 0) (fun q _ => ix2 q ⟨i, hi⟩) (fun _ _ => mem_univ _) ?_ ?_ ?_ ?_
  · intro q _
    rw [mem_filter]
    refine ⟨mem_univ _, ?_⟩
    funext z; apply Fin.ext
    match z with
    | ⟨0, _⟩ => rfl
  · intro y hy
    rw [mem_filter] at hy
    have e : (y 1).val = i := congrArg (fun z : (⟨1, ![b]⟩ : Shape).Idx => (z 0).val) hy.2
    funext z; apply Fin.ext
    match z with
    | ⟨0, _⟩ => rfl
    | ⟨1, _⟩ => exact e.symm
  · intro q _; rfl
  · intro y hy
    rw [mem_filter] at hy
    have e : (y 1).val = i := congrArg (fun z : (⟨1, ![b]⟩ : Shape).Idx => (z 0).val) hy.2
    rw [g2_val x y, e]

open Finset in
theorem g2_slabsum (x : FVec Ideal ⟨3, ![m, a, b]⟩ φ) (w : BitVec φ.bits) (h : (⟨3, ![m, a, b]⟩ : Shape).Reduces [0] ⟨2, ![a, b]⟩) (hφ) (hw)
    (hi : i < a) (hj : j < b) :
    g2 (multiReduction .add [0] ⟨2, ![a, b]⟩ x w h hφ hw) i j = ∑ q ∈ range m, g3 x q i j := by
  rw [g2_of _ hi hj, ← Fin.sum_univ_eq_sum_range (fun q => g3 x q i j)]
  show ∑ y ∈ univ.filter (fun y => h.drop y = _), x y = _
  refine Finset.sum_bij' (fun y _ => y 0) (fun q _ => ix3 q ⟨i, hi⟩ ⟨j, hj⟩) (fun _ _ => mem_univ _) ?_ ?_ ?_ ?_
  · intro q _
    rw [mem_filter]
    refine ⟨mem_univ _, ?_⟩
    funext z; apply Fin.ext
    match z with
    | ⟨0, _⟩ => rfl
    | ⟨1, _⟩ => rfl
  · intro y hy
    rw [mem_filter] at hy
    have e : (y 1).val = i := congrArg (fun z : (⟨2, ![a, b]⟩ : Shape).Idx => (z 0).val) hy.2
    have e' : (y 2).val = j := congrArg (fun z : (⟨2, ![a, b]⟩ : Shape).Idx => (z 1).val) hy.2
    funext z; apply Fin.ext
    match z with
    | ⟨0, _⟩ => rfl
    | ⟨1, _⟩ => exact e.symm
    | ⟨2, _⟩ => exact e'.symm
  · intro q _; rfl
  · intro y hy
    rw [mem_filter] at hy
    have e : (y 1).val = i := congrArg (fun z : (⟨2, ![a, b]⟩ : Shape).Idx => (z 0).val) hy.2
    have e' : (y 2).val = j := congrArg (fun z : (⟨2, ![a, b]⟩ : Shape).Idx => (z 1).val) hy.2
    rw [g3_val x y, e, e']

theorem g3_reshape8 (x : (⟨2, ![256, b]⟩ : Shape).Idx → EReal) (h : (⟨2, ![256, b]⟩ : Shape).ShapeCasts ⟨3, ![32, 8, b]⟩)
    (hk : k < 32) (hi : i < 8) (hj : j < b) : g3 (shapeCast ⟨3, ![32, 8, b]⟩ x h) k i j = g2 x (8 * k + i) j := by
  rw [g3_of _ hk hi hj, g2_of _ (by omega) hj]
  refine shapeCast_apply x h _ _ ?_
  rw [Shape.rowMajor_val_three, Shape.rowMajor_val_two]
  show (8 * k + i) * b + j = (k * 8 + i) * b + j
  rw [Nat.mul_comm 8 k]

theorem ofBits_neginf : Ideal.ofBits .f32 0xFF800000#32 = ⊥ := by
  unfold Ideal.ofBits Ideal.ieee
  simp

open Finset in
theorem g1_rowmax (x : FVec Ideal ⟨2, ![a, b]⟩ .f32) (h : (⟨2, ![a, b]⟩ : Shape).Reduces [1] ⟨1, ![a]⟩) (hφ) (hw) (hi : i < a) :
    g1 (multiReduction .maximumf [1] ⟨1, ![a]⟩ x 0xFF800000#32 h hφ hw) i = (range b).sup (fun q => g2 x i q) := by
  rw [g1_of _ hi]
  show reduceFold h (fun u v : EReal => max u v) (Ideal.ofBits .f32 0xFF800000#32) x _ = _
  rw [reduceFold_eq_fold, ofBits_neginf]
  show Finset.sup (univ.filter (fun y => h.drop y = _)) x = _
  apply le_antisymm
  · refine Finset.sup_le fun y hy => ?_
    rw [mem_filter] at hy
    have e : (y 0).val = i := congrArg (fun z : (⟨1, ![a]⟩ : Shape).Idx => (z 0).val) hy.2
    rw [g2_val x y, e]
    exact Finset.le_sup (f := fun q => g2 x i q) (mem_range.2 (y 1).isLt)
  · refine Finset.sup_le fun q hq => ?_
    rw [g2_of _ hi (mem_range.1 hq)]
    refine Finset.le_sup (f := x) ?_
    rw [mem_filter]
    refine ⟨mem_univ _, ?_⟩
    funext z; apply Fin.ext
    match z with
    | ⟨0, _⟩ => rfl

open Finset in
/-- Every element is at most the maximum over the whole array. -/
theorem le_wholemax (x : FVec Ideal ⟨2, ![a, b]⟩ .f32) (hc : (⟨2, ![a, b]⟩ : Shape).ShapeCasts ⟨3, ![1, a, b]⟩)
    (h : (⟨3, ![1, a, b]⟩ : Shape).Reduces [1, 2] ⟨1, ![1]⟩) (hφ) (hw) (hi : i < a) (hj : j < b)
    (hd : (⟨1, ![1]⟩ : Shape).ShapeCasts ⟨3, ![1, 1, 1]⟩) (hp) :
    g2 x i j ≤ extractAt ![0, 0, 0] (shapeCast ⟨3, ![1, 1, 1]⟩
      (multiReduction .maximumf [1, 2] ⟨1, ![1]⟩ (shapeCast ⟨3, ![1, a, b]⟩ x hc) 0xFF800000#32 h hφ hw) hd) hp := by
  have e1 : ∀ y : (⟨1, ![1]⟩ : Shape).Idx → EReal, extractAt ![0, 0, 0] (shapeCast ⟨3, ![1, 1, 1]⟩ y hd) hp = y (ix1 (0 : Fin 1)) := fun y =>
    shapeCast_apply y hd _ _ rfl
  rw [e1]
  show _ ≤ reduceFold h (fun u v : EReal => max u v) (Ideal.ofBits .f32 0xFF800000#32) _ _
  rw [reduceFold_eq_fold, ofBits_neginf, ← g3_cast23 x hc (k := 0) (by omega) hi hj, g3_of _ (by omega) hi hj]
  refine Finset.le_sup (f := shapeCast ⟨3, ![1, a, b]⟩ x hc) ?_
  rw [mem_filter]
  refine ⟨mem_univ _, ?_⟩
  funext z; apply Fin.ext
  match z with
  | ⟨0, _⟩ =>
    have h1 := (h.drop (ix3 (⟨0, by omega⟩ : Fin 1) (⟨i, hi⟩ : Fin a) (⟨j, hj⟩ : Fin b)) ⟨0, by decide⟩).isLt
    have h2 : (h.drop (ix3 (⟨0, by omega⟩ : Fin 1) (⟨i, hi⟩ : Fin a) (⟨j, hj⟩ : Fin b)) ⟨0, by decide⟩).val < 1 := h1
    show (h.drop (ix3 (⟨0, by omega⟩ : Fin 1) (⟨i, hi⟩ : Fin a) (⟨j, hj⟩ : Fin b)) ⟨0, by decide⟩).val = 0
    omega

end Joins

end Cert.Grid

end
-- ==== Proof.Walk.lean ====
/-
  Steps of a walk through the kernel's text: a load binds a fresh array known by its entries, a store leaves a fresh
  array known by its entries.
-/
module

public import proofs.«01_k».proof.Proof.Hoare
public import proofs.«01_k».proof.Proof.Grid

@[expose] public section

noncomputable section

namespace Cert.Grid

open Idealize.ShloMosaic hiding ix1 ix2 ix3 ix4 eq_ix1 eq_ix2 eq_ix3 eq_ix4
open Idealize.ShloMosaic.ValueIdx

/-- `v` is the block of `X` that starts at `o0, o1`. -/
abbrev R2 {a b s0 s1 : ℕ} (v : (⟨2, ![s0, s1]⟩ : Shape).Idx → EReal) (X : (⟨2, ![a, b]⟩ : Shape).Idx → EReal) (o0 o1 : ℕ) : Prop :=
  ∀ i j, i < s0 → j < s1 → g2 v i j = g2 X (o0 + i) (o1 + j)

abbrev R3 {a b c s0 s1 s2 : ℕ} (v : (⟨3, ![s0, s1, s2]⟩ : Shape).Idx → EReal) (X : (⟨3, ![a, b, c]⟩ : Shape).Idx → EReal) (o0 o1 o2 : ℕ) : Prop :=
  ∀ i j k, i < s0 → j < s1 → k < s2 → g3 v i j k = g3 X (o0 + i) (o1 + j) (o2 + k)

abbrev R4 {a b c d s0 s1 s2 s3 : ℕ} (v : (⟨4, ![s0, s1, s2, s3]⟩ : Shape).Idx → EReal) (X : (⟨4, ![a, b, c, d]⟩ : Shape).Idx → EReal)
    (o0 o1 o2 o3 : ℕ) : Prop :=
  ∀ i j k l, i < s0 → j < s1 → k < s2 → l < s3 → g4 v i j k l = g4 X (o0 + i) (o1 + j) (o2 + k) (o3 + l)

/-- `Y` is `X` with the block `w` written at `o0, o1`. -/
abbrev W2 {a b s0 s1 : ℕ} (Y X : (⟨2, ![a, b]⟩ : Shape).Idx → EReal) (w : (⟨2, ![s0, s1]⟩ : Shape).Idx → EReal) (o0 o1 : ℕ) : Prop :=
  ∀ i j, g2 Y i j = if o0 ≤ i ∧ i < o0 + s0 ∧ o1 ≤ j ∧ j < o1 + s1 then g2 w (i - o0) (j - o1) else g2 X i j

abbrev W3 {a b c s0 s1 s2 : ℕ} (Y X : (⟨3, ![a, b, c]⟩ : Shape).Idx → EReal) (w : (⟨3, ![s0, s1, s2]⟩ : Shape).Idx → EReal) (o0 o1 o2 : ℕ) : Prop :=
  ∀ i j k, g3 Y i j k = if o0 ≤ i ∧ i < o0 + s0 ∧ o1 ≤ j ∧ j < o1 + s1 ∧ o2 ≤ k ∧ k < o2 + s2
    then g3 w (i - o0) (j - o1) (k - o2) else g3 X i j k

abbrev W4 {a b c d s0 s1 s2 s3 : ℕ} (Y X : (⟨4, ![a, b, c, d]⟩ : Shape).Idx → EReal) (w : (⟨4, ![s0, s1, s2, s3]⟩ : Shape).Idx → EReal)
    (o0 o1 o2 o3 : ℕ) : Prop :=
  ∀ i j k l, g4 Y i j k l = if o0 ≤ i ∧ i < o0 + s0 ∧ o1 ≤ j ∧ j < o1 + s1 ∧ o2 ≤ k ∧ k < o2 + s2 ∧ o3 ≤ l ∧ l < o3 + s3
    then g4 w (i - o0) (j - o1) (k - o2) (l - o3) else g4 X i j k l

theorem r2 {a b s0 s1 o0 o1 : ℕ} {off : Fin 2 → ℕ} (ho : off = ![o0, o1])
    {inb : ∀ x, off x + (![s0, s1] : Fin 2 → ℕ) x ≤ (⟨2, ![a, b]⟩ : Shape).size x} {f : (⟨2, ![a, b]⟩ : Shape).Idx → EReal} :
    R2 (a := a) (b := b) (s0 := s0) (s1 := s1) (fun x => f ((Rect.unit (s := ⟨2, ![a, b]⟩) off ![s0, s1] inb).toLoadRect.idx x)) f o0 o1 :=
  fun _ _ hi hj => g2_load ho inb f hi hj

theorem w2 {a b s0 s1 o0 o1 : ℕ} {off : Fin 2 → ℕ} (ho : off = ![o0, o1])
    {inb : ∀ x, off x + (![s0, s1] : Fin 2 → ℕ) x ≤ (⟨2, ![a, b]⟩ : Shape).size x} {f : (⟨2, ![a, b]⟩ : Shape).Idx → EReal}
    {v : (⟨2, ![s0, s1]⟩ : Shape).Idx → EReal} :
    W2 (a := a) (b := b) (s0 := s0) (s1 := s1) ((Rect.unit (s := ⟨2, ![a, b]⟩) off ![s0, s1] inb).overlay f v) f v o0 o1 :=
  fun i j => g2_store ho inb f v i j

theorem r3 {a b c s0 s1 s2 o0 o1 o2 : ℕ} {off : Fin 3 → ℕ} (ho : off = ![o0, o1, o2])
    {inb : ∀ x, off x + (![s0, s1, s2] : Fin 3 → ℕ) x ≤ (⟨3, ![a, b, c]⟩ : Shape).size x} {f : (⟨3, ![a, b, c]⟩ : Shape).Idx → EReal} :
    R3 (a := a) (b := b) (c := c) (s0 := s0) (s1 := s1) (s2 := s2) (fun x => f ((Rect.unit (s := ⟨3, ![a, b, c]⟩) off ![s0, s1, s2] inb).toLoadRect.idx x)) f o0 o1 o2 :=
  fun _ _ _ hi hj hk => g3_load ho inb f hi hj hk

theorem w3 {a b c s0 s1 s2 o0 o1 o2 : ℕ} {off : Fin 3 → ℕ} (ho : off = ![o0, o1, o2])
    {inb : ∀ x, off x + (![s0, s1, s2] : Fin 3 → ℕ) x ≤ (⟨3, ![a, b, c]⟩ : Shape).size x} {f : (⟨3, ![a, b, c]⟩ : Shape).Idx → EReal}
    {v : (⟨3, ![s0, s1, s2]⟩ : Shape).Idx → EReal} :
    W3 (a := a) (b := b) (c := c) (s0 := s0) (s1 := s1) (s2 := s2) ((Rect.unit (s := ⟨3, ![a, b, c]⟩) off ![s0, s1, s2] inb).overlay f v) f v o0 o1 o2 :=
  fun i j k => g3_store ho inb f v i j k

theorem r4 {a b c d s0 s1 s2 s3 o0 o1 o2 o3 : ℕ} {off : Fin 4 → ℕ} (ho : off = ![o0, o1, o2, o3])
    {inb : ∀ x, off x + (![s0, s1, s2, s3] : Fin 4 → ℕ) x ≤ (⟨4, ![a, b, c, d]⟩ : Shape).size x} {f : (⟨4, ![a, b, c, d]⟩ : Shape).Idx → EReal} :
    R4 (a := a) (b := b) (c := c) (d := d) (s0 := s0) (s1 := s1) (s2 := s2) (s3 := s3) (fun x => f ((Rect.unit (s := ⟨4, ![a, b, c, d]⟩) off ![s0, s1, s2, s3] inb).toLoadRect.idx x)) f o0 o1 o2 o3 :=
  fun _ _ _ _ hi hj hk hl => g4_load ho inb f hi hj hk hl

theorem w4 {a b c d s0 s1 s2 s3 o0 o1 o2 o3 : ℕ} {off : Fin 4 → ℕ} (ho : off = ![o0, o1, o2, o3])
    {inb : ∀ x, off x + (![s0, s1, s2, s3] : Fin 4 → ℕ) x ≤ (⟨4, ![a, b, c, d]⟩ : Shape).size x} {f : (⟨4, ![a, b, c, d]⟩ : Shape).Idx → EReal}
    {v : (⟨4, ![s0, s1, s2, s3]⟩ : Shape).Idx → EReal} :
    W4 (a := a) (b := b) (c := c) (d := d) (s0 := s0) (s1 := s1) (s2 := s2) (s3 := s3) ((Rect.unit (s := ⟨4, ![a, b, c, d]⟩) off ![s0, s1, s2, s3] inb).overlay f v) f v o0 o1 o2 o3 :=
  fun i j k l => g4_store ho inb f v i j k l

theorem g2_cell {a b o0 o1 : ℕ} {off : Fin 2 → ℕ} (ho : off = ![o0, o1])
    (inb : ∀ x, off x + (![1, 1] : Fin 2 → ℕ) x ≤ (⟨2, ![a, b]⟩ : Shape).size x)
    (f : (⟨2, ![a, b]⟩ : Shape).Idx → EReal) (x : (⟨2, ![1, 1]⟩ : Shape).Idx) :
    f ((Rect.unit (s := ⟨2, ![a, b]⟩) off ![1, 1] inb).idx x) = g2 f o0 o1 := by
  have h := g2_load ho inb f (i := (x 0).val) (j := (x 1).val) (x 0).isLt (x 1).isLt
  have h0 : (x 0).val = 0 := by have : (x 0).val < 1 := (x 0).isLt; omega
  have h1 : (x 1).val = 0 := by have : (x 1).val < 1 := (x 1).isLt; omega
  rw [h0, h1] at h
  simp only [Nat.add_zero] at h
  rw [← h, g2_of _ (by omega) (by omega)]
  show f _ = f _
  congr 1
  show _ = (Rect.unit (s := ⟨2, ![a, b]⟩) off ![1, 1] inb).idx _
  congr 1
  funext y
  match y with
  | ⟨0, _⟩ => exact Fin.ext h0
  | ⟨1, _⟩ => exact Fin.ext h1

end Cert.Grid

namespace Cert.Hoare

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type} {Λ : Labels}
variable {defs : Defs nD τ sig Val Λ} {c : Dev nD} {St : Type} {O : St → sProp (MT nD τ sig Unit Val ℕ (UR sig nD τ) ℕ)}

theorem Wp.load' {sp : CoreSpace} {S : Shape} {e : EltTy} {M : Memref sig .tc sp S e} {get : St → (S.Idx → Val e)}
    {set : St → (S.Idx → Val e) → St} (hA : Acc c O M get set) (hset : ∀ s, set s (get s) = s) {r : LoadRect S} {hl : M.view.LoadsAt r}
    {s : St} {Q : (r.shape.Idx → Val e) → St → Prop} (P : (r.shape.Idx → Val e) → Prop) (hP : P (fun x => get s (r.idx x)))
    (h : ∀ v, P v → Q v s) : Wp defs c O (Prog.lift (.load M r hl)) s Q := Wp.load hA hset (h _ hP)

theorem Wp.smemLoad' {S : Shape} {e : EltTy} {M : Memref sig .tc .smem S e} {get : St → (S.Idx → Val e)}
    {set : St → (S.Idx → Val e) → St} (hA : Acc c O M get set) (hset : ∀ s, set s (get s) = s) {r : Rect S} {h1 : r.shape.numel = 1}
    {hp : e.packing = 1} {s : St} {Q : Val e → St → Prop} (P : Val e → Prop) (hP : ∀ x, P (get s (r.idx x)))
    (h : ∀ v, P v → Q v s) : Wp defs c O (_root_.Idealize.ShloMosaic.smemLoad M r h1 hp) s Q := Wp.smemLoad hA hset (h _ (hP _))

theorem Wp.store' {sp : CoreSpace} {S : Shape} {e : EltTy} {M : Memref sig .tc sp S e} {get : St → (S.Idx → Val e)}
    {set : St → (S.Idx → Val e) → St} (hA : Acc c O M get set) {r : Rect S} {w : r.shape.Idx → Val e}
    {hx : (M.access r).Stores Finset.univ} {hm : Finset.univ = Finset.univ ∨ ∀ a, r.stride a = 1}
    {s : St} {Q : PUnit → St → Prop} (P : (S.Idx → Val e) → Prop) (hP : P (r.overlay (get s) w)) (h : ∀ X, P X → Q ⟨⟩ (set s X)) :
    Wp defs c O (Prog.lift (.store M r w Finset.univ hx hm)) s Q := Wp.store hA (h _ hP)

/-! The same steps with the text that follows. -/

theorem Wp.ld {α : Type} {sp : CoreSpace} {S : Shape} {e : EltTy} {M : Memref sig .tc sp S e} {get : St → (S.Idx → Val e)}
    {set : St → (S.Idx → Val e) → St} (hA : Acc c O M get set) {r : LoadRect S} {hl : M.view.LoadsAt r} {s : St}
    {k : (r.shape.Idx → Val e) → Prog (TpuEff nD τ sig Val Λ .tc) α} {Q : α → St → Prop} (P : (r.shape.Idx → Val e) → Prop)
    (hP : P (fun x => get s (r.idx x))) (h : ∀ v, P v → Wp defs c O (k v) s Q) (hset : ∀ s, set s (get s) = s := by exact fun _ => rfl) :
    Wp defs c O (Prog.lift (.load M r hl) >>= k) s Q := Wp.bind (Wp.load' hA hset P hP h)

theorem Wp.st {α : Type} {sp : CoreSpace} {S : Shape} {e : EltTy} {M : Memref sig .tc sp S e} {get : St → (S.Idx → Val e)}
    {set : St → (S.Idx → Val e) → St} (hA : Acc c O M get set) {r : Rect S} {w : r.shape.Idx → Val e}
    {hx : (M.access r).Stores Finset.univ} {hm : Finset.univ = Finset.univ ∨ ∀ a, r.stride a = 1} {s : St}
    {k : PUnit → Prog (TpuEff nD τ sig Val Λ .tc) α} {Q : α → St → Prop} (P : (S.Idx → Val e) → Prop) (hP : P (r.overlay (get s) w))
    (h : ∀ X, P X → Wp defs c O (k ⟨⟩) (set s X) Q) :
    Wp defs c O (Prog.lift (.store M r w Finset.univ hx hm) >>= k) s Q := Wp.bind (Wp.store' hA P hP h)

end Cert.Hoare
-- ==== Proof.KernelIdealState.lean ====
/-
  The 24 buffers the body of `Cert.KernelIdeal` works on at a grid point, and the body obligation of the pipeline's
  frame: at every grid point the body runs from all its buffers at any contents.
-/
module

public import proofs.«01_k».proof.Proof.State
public import proofs.«01_k».proof.Proof.Gen.KernelIdeal.Skeleton
public import proofs.«01_k».proof.Proof.Gen.KernelIdeal.Frame

@[expose] public section

set_option maxRecDepth 16384

noncomputable section

namespace Cert.Proof.KernelIdeal

open Cert.KernelIdeal Cert.KernelIdeal.Gen Cert.Hoare
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F] [Named F]

/-- The buffers at grid point `t`: the windows' current staging buffers and the scratch. -/
abbrev Ot (c : Dev nD) (t : Fin cfg0.N) : St F → sProp (MT nD τ sig Unit (Elt F) ℕ (UR sig nD τ) ℕ) :=
  OO c (st0_0 t) (st0_1 t) (st0_2 t) (st0_3 t) (st0_4 t) (st0_5 t) (st0_6 t) (st0_7 t) (st0_8 t) (st0_9 t) (st0_10 t) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9) (Memref.whole cc0_scratch10) (Memref.whole cc0_scratch11) (Memref.whole cc0_scratch12)

/-- The windows' buffers at point `t`, window by window. -/
abbrev Win (c : Dev nD) (t : Fin cfg0.N) (s : St F) : sProp (MT nD τ sig Unit (Elt F) ℕ (UR sig nD τ) ℕ) :=
  iprop(owns (c : Thread nD τ) (st0_0 t) fullShare s.a1
    ∗ owns (c : Thread nD τ) (st0_1 t) fullShare s.a2
    ∗ owns (c : Thread nD τ) (st0_2 t) fullShare s.a3
    ∗ owns (c : Thread nD τ) (st0_3 t) fullShare s.a4
    ∗ owns (c : Thread nD τ) (st0_4 t) fullShare s.a5
    ∗ owns (c : Thread nD τ) (st0_5 t) fullShare s.a6
    ∗ owns (c : Thread nD τ) (st0_6 t) fullShare s.a7
    ∗ owns (c : Thread nD τ) (st0_7 t) fullShare s.a8
    ∗ owns (c : Thread nD τ) (st0_8 t) fullShare s.a9
    ∗ owns (c : Thread nD τ) (st0_9 t) fullShare s.a10
    ∗ owns (c : Thread nD τ) (st0_10 t) fullShare s.a11)

theorem pack (c : Dev nD) (t : Fin cfg0.N) (s : St F) :
    iprop(Pipeline.ΦA spec0 c ∗ Win c t s)
      ⊢ (iprop(∃ s' : St F, ⌜s'.a1 = s.a1 ∧ s'.a2 = s.a2 ∧ s'.a3 = s.a3 ∧ s'.a4 = s.a4 ∧ s'.a5 = s.a5 ∧ s'.a6 = s.a6 ∧ s'.a7 = s.a7 ∧ s'.a8 = s.a8 ∧ s'.a9 = s.a9 ∧ s'.a10 = s.a10 ∧ s'.a11 = s.a11⌝ ∗ Ot c t s' ∗ ∃ r, prngReg c r) : sProp (MT nD τ sig Unit (Elt F) ℕ (UR sig nD τ) ℕ)) := by
  unfold Pipeline.ΦA
  rw [scopedRest0_eq]
  iintro ⟨⟨⟨⟨%f0, H12⟩, ⟨%f1, H13⟩, ⟨%f2, H14⟩, ⟨%f3, H15⟩, ⟨%f4, H16⟩, ⟨%f5, H17⟩, ⟨%f6, H18⟩, ⟨%f7, H19⟩, ⟨%f8, H20⟩, ⟨%f9, H21⟩, ⟨%f10, H22⟩, ⟨%f11, H23⟩, ⟨%f12, H24⟩⟩, Hp⟩, H1, H2, H3, H4, H5, H6, H7, H8, H9, H10, H11⟩
  iexists (⟨s.a1, s.a2, s.a3, s.a4, s.a5, s.a6, s.a7, s.a8, s.a9, s.a10, s.a11, f0, f1, f2, f3, f4, f5, f6, f7, f8, f9, f10, f11, f12⟩ : St F)
  isplitr
  · ipureintro
    exact ⟨rfl, rfl, rfl, rfl, rfl, rfl, rfl, rfl, rfl, rfl, rfl⟩
  isplitr [Hp]
  · unfold Ot OO
    simp only [owns_whole]
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    isplitl [H18]
    · iexact H18
    isplitl [H19]
    · iexact H19
    isplitl [H20]
    · iexact H20
    isplitl [H21]
    · iexact H21
    isplitl [H22]
    · iexact H22
    isplitl [H23]
    · iexact H23
    iexact H24
  · iexact Hp

theorem unpack (c : Dev nD) (t : Fin cfg0.N) (s : St F) :
    (iprop(Ot c t s ∗ ∃ r, prngReg c r) : sProp (MT nD τ sig Unit (Elt F) ℕ (UR sig nD τ) ℕ))
      ⊢ iprop(Pipeline.ΦA spec0 c ∗ Win c t s) := by
  unfold Pipeline.ΦA
  rw [scopedRest0_eq]
  unfold Ot OO
  simp only [owns_whole]
  iintro ⟨⟨H1, H2, H3, H4, H5, H6, H7, H8, H9, H10, H11, H12, H13, H14, H15, H16, H17, H18, H19, H20, H21, H22, H23, H24⟩, Hp⟩
  isplitl [H12 H13 H14 H15 H16 H17 H18 H19 H20 H21 H22 H23 H24 Hp]
  · isplitr [Hp]
    · isplitl [H12]
      · iexists _; iexact H12
      isplitl [H13]
      · iexists _; iexact H13
      isplitl [H14]
      · iexists _; iexact H14
      isplitl [H15]
      · iexists _; iexact H15
      isplitl [H16]
      · iexists _; iexact H16
      isplitl [H17]
      · iexists _; iexact H17
      isplitl [H18]
      · iexists _; iexact H18
      isplitl [H19]
      · iexists _; iexact H19
      isplitl [H20]
      · iexists _; iexact H20
      isplitl [H21]
      · iexists _; iexact H21
      isplitl [H22]
      · iexists _; iexact H22
      isplitl [H23]
      · iexists _; iexact H23
      iexists _; iexact H24
    · iexact Hp
  · unfold Win
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    iexact H11

/-- A run of the body at point `t` from the windows at `s`, in the pipeline's terms: what it leaves satisfies `Q`. -/
theorem body_wp (c : Dev nD) (t : Fin cfg0.N) (s : St F) (Q : St F → Prop)
    (h : ∀ s' : St F, s'.a1 = s.a1 → s'.a2 = s.a2 → s'.a3 = s.a3 → s'.a4 = s.a4 → s'.a5 = s.a5 → s'.a6 = s.a6 → s'.a7 = s.a7 → s'.a8 = s.a8 → s'.a9 = s.a9 → s'.a10 = s.a10 → s'.a11 = s.a11 → Wp (defs₀ (F := F)) c (Ot c t) (bodyAt0 t) s' fun _ => Q) :
    (iprop(Pipeline.ΦA spec0 c ∗ Win c t s) : sProp (MT nD τ sig Unit (Elt F) ℕ (UR sig nD τ) ℕ))
      ⊢ wp frame (wpE (Ix := Unit) (Name := ℕ) (U := UR sig nD τ) (Lvl := ℕ) (defs₀ (F := F)) Variants.none (c : Thread nD τ) none) Set.univ (bodyAt0 t) fun _ =>
        iprop(∃ s' : St F, ⌜Q s'⌝ ∗ Pipeline.ΦA spec0 c ∗ Win c t s') := by
  refine BIBase.Entails.trans (pack c t s) ?_
  iintro ⟨%s', %hs, HO, Hp⟩
  obtain ⟨h1, h2, h3, h4, h5, h6, h7, h8, h9, h10, h11⟩ := hs
  have hw := h s' h1 h2 h3 h4 h5 h6 h7 h8 h9 h10 h11
  unfold Wp at hw
  iapply (wp_wand_r frame _ Set.univ)
  isplitl [HO]
  · iapply hw
    iexact HO
  · iintro %_ ⟨%s2, %hq, HO⟩
    iexists s2
    isplitr
    · ipureintro; exact hq
    · iapply (unpack c t s2)
      isplitl [HO]
      · iexact HO
      · iexact Hp

end Cert.Proof.KernelIdeal

end
-- ==== Proof.Reduce.lean ====
/-
  The reductions of the kernel: each names its result, and the payloads that reduce are restated with these names.
-/
module

public import proofs.«01_k».proof.Proof.Walk
public import proofs.«01_k».proof.Proof.KernelIdealState

@[expose] public section

set_option maxRecDepth 65536

noncomputable section

namespace Cert.Proof.KernelIdeal

open Cert.KernelIdeal Cert.KernelIdeal.Gen Cert.Hoare Cert.Grid
open Idealize.ShloMosaic hiding ix1 ix2 ix3 ix4 eq_ix1 eq_ix2 eq_ix3 eq_ix4
open Idealize.ShloMosaic.TcCoe Idealize.ShloMosaic.Tactic
open Idealize.SL Idealize.SL.RA Idealize.SL.BI
open Idealize.SL.Sem
open Idealize.ShloMosaic.Rounds

/-- The sum over the 32 slabs. -/
def Slab32 (v : FVec Ideal S32x8x512 .f32) : FVec Ideal S8x512 .f32 := multiReduction .add [0] S8x512 v 0x00000000#32 reduces_S32x8x512_S8x512 (.inl rfl) rfl
/-- Row sums. -/
def RowSum (v : FVec Ideal S512x128 .f32) : FVec Ideal S512 .f32 := multiReduction .add [1] S512 v 0x00000000#32 reduces_S512x128_S512 (.inl rfl) rfl
/-- Column sums of eight rows. -/
def ColSum8 (v : FVec Ideal S8x512 .f32) : FVec Ideal S512 .f32 := multiReduction .add [0] S512 v 0x00000000#32 reduces_S8x512_S512 (.inl rfl) rfl
/-- Row maxima, 512 rows. -/
def RowMax512 (v : FVec Ideal S512x128 .f32) : FVec Ideal S512 .f32 := multiReduction .maximumf [1] S512 v 0xFF800000#32 reduces_S512x128_S512 (.inl rfl) rfl
/-- Row maxima, 256 rows. -/
def RowMax256 (v : FVec Ideal S256x128 .f32) : FVec Ideal S256 .f32 := multiReduction .maximumf [1] S256 v 0xFF800000#32 reduces_S256x128_S256 (.inl rfl) rfl
/-- The maximum of a whole array. -/
def AllMax (v : FVec Ideal S1x512x128 .f32) : FVec Ideal S1 .f32 := multiReduction .maximumf [1, 2] S1 v 0xFF800000#32 reduces_S1x512x128_S1 (.inl rfl) rfl

theorem slab32 (v : FVec Ideal S32x8x512 .f32) {z c : ℕ} (hz : z < 8) (hc : c < 512) :
    g2 (a := 8) (b := 512) (Slab32 v) z c = ∑ a ∈ Finset.range 32, g3 (a := 32) (b := 8) (c := 512) v a z c := g2_slabsum v _ _ _ _ hz hc
theorem rowsum512 (v : FVec Ideal S512x128 .f32) {r : ℕ} (hr : r < 512) :
    g1 (a := 512) (RowSum v) r = ∑ z ∈ Finset.range 128, g2 (a := 512) (b := 128) v r z := g1_rowsum v _ _ _ _ hr
theorem colsum8 (v : FVec Ideal S8x512 .f32) {c : ℕ} (hc : c < 512) :
    g1 (a := 512) (ColSum8 v) c = ∑ z ∈ Finset.range 8, g2 (a := 8) (b := 512) v z c := g1_colsum v _ _ _ _ hc
theorem rowmax512 (v : FVec Ideal S512x128 .f32) {r : ℕ} (hr : r < 512) :
    g1 (a := 512) (RowMax512 v) r = (Finset.range 128).sup fun z => g2 (a := 512) (b := 128) v r z := g1_rowmax v _ _ _ hr
theorem rowmax256 (v : FVec Ideal S256x128 .f32) {r : ℕ} (hr : r < 256) :
    g1 (a := 256) (RowMax256 v) r = (Finset.range 128).sup fun z => g2 (a := 256) (b := 128) v r z := g1_rowmax v _ _ _ hr

theorem red1 (v738 : Vec Ideal S512x128 .f32) (v739 : Vec Ideal S512x128 .f32) :
    k0_pay1 (F := Ideal) v738 v739 =
    (have v740 : FVec Ideal S512 .f32 := RowSum v739
      have v741 : FVec Ideal S512x1 .f32 := shapeCast S512x1 v740 shapeCasts_S512_S512x1
      have v742 : FVec Ideal S512x1 .f32 := log v741
      have v743 : FVec Ideal S512x128 .f32 := broadcastTo S512x128 v742 broadcasts_S512x1_S512x128
      have v744 : FVec Ideal S512x128 .f32 := addf v738 v743
      have v745 : FVec Ideal S512x128 .f32 := subf v738 v744
      have v746 : FVec Ideal S512x128 .f32 := exp v745
      v746) := rfl

theorem red3 (v738 : Vec Ideal S512x128 .f32) (v739 : Vec Ideal S512x128 .f32) (v750 : Vec Ideal S512x128 .f32) :
    k0_pay3 (F := Ideal) v738 v739 v750 =
    (have v751 : FVec Ideal S512 .f32 := RowSum v750
      have v752 : FVec Ideal S512x1 .f32 := shapeCast S512x1 v751 shapeCasts_S512_S512x1
      have v753 : FVec Ideal S512x128 .f32 := broadcastTo S512x128 v752 broadcasts_S512x1_S512x128
      have v754 : FVec Ideal S512x128 .f32 := mulf (k0_pay1 (F := Ideal) v738 v739) v753
      have v757 : FVec Ideal S1x512x128 .f32 := shapeCast S1x512x128 v754 shapeCasts_S512x128_S1x512x128
      v757) := rfl

theorem red7 (v605 : Vec Ideal S512x128 .f32) :
    k0_pay7 (F := Ideal) v605 =
    (have v606 : FVec Ideal S1x512x128 .f32 := shapeCast S1x512x128 v605 shapeCasts_S512x128_S1x512x128
      have v607 : FVec Ideal S1 .f32 := AllMax v606
      have v608 : FVec Ideal S1x1x1 .f32 := shapeCast S1x1x1 v607 shapeCasts_S1_S1x1x1
      have v609 : Ideal .f32 := extractAt ![0, 0, 0] v608 inpos_S1x1x1_p0_0_0
      v609) := rfl

theorem red8 (v611 : Vec Ideal S512x128 .f32) :
    k0_pay8 (F := Ideal) v611 =
    (have v612 : FVec Ideal S512x128 .f32 := absf v611
      have v613 : FVec Ideal S1x512x128 .f32 := shapeCast S1x512x128 v612 shapeCasts_S512x128_S1x512x128
      have v614 : FVec Ideal S1 .f32 := AllMax v613
      have v615 : FVec Ideal S1x1x1 .f32 := shapeCast S1x1x1 v614 shapeCasts_S1_S1x1x1
      have v616 : Ideal .f32 := extractAt ![0, 0, 0] v615 inpos_S1x1x1_p0_0_0
      v616) := rfl

theorem red12 (v668 : Vec Ideal S512x128 .f32) (v669 : Vec Ideal S512x128 .f32) :
    k0_pay12 (F := Ideal) v668 v669 =
    (have v670 : FVec Ideal S512 .f32 := RowSum v669
      have v671 : FVec Ideal S512x1 .f32 := shapeCast S512x1 v670 shapeCasts_S512_S512x1
      have v672 : FVec Ideal S512x1 .f32 := log v671
      have v673 : FVec Ideal S512x128 .f32 := broadcastTo S512x128 v672 broadcasts_S512x1_S512x128
      have v674 : FVec Ideal S512x128 .f32 := addf v668 v673
      have v675 : FVec Ideal S512x128 .f32 := subf v668 v674
      have v676 : FVec Ideal S512x128 .f32 := exp v675
      v676) := rfl

theorem red14 (v668 : Vec Ideal S512x128 .f32) (v669 : Vec Ideal S512x128 .f32) (v681 : Vec Ideal S512x128 .f32) :
    k0_pay14 (F := Ideal) v668 v669 v681 =
    (have v682 : FVec Ideal S512 .f32 := RowSum v681
      have v683 : FVec Ideal S512x1 .f32 := shapeCast S512x1 v682 shapeCasts_S512_S512x1
      have v684 : FVec Ideal S512x128 .f32 := broadcastTo S512x128 v683 broadcasts_S512x1_S512x128
      have v685 : FVec Ideal S512x128 .f32 := mulf (k0_pay12 (F := Ideal) v668 v669) v684
      have v689 : FVec Ideal S1x512x128 .f32 := shapeCast S1x512x128 v685 shapeCasts_S512x128_S1x512x128
      v689) := rfl

theorem red60 (v534 : Vec Ideal S512x128 .f32) :
    k0_pay60 (F := Ideal) v534 =
    (have v535 : FVec Ideal S512 .f32 := RowMax512 v534
      have v536 : FVec Ideal S512x1 .f32 := shapeCast S512x1 v535 shapeCasts_S512_S512x1
      have v537 : FVec Ideal S512x1 .f32 := shapeCast S512x1 v536 shapeCasts_S512x1_S512x1
      have v538 : FVec Ideal S512x128 .f32 := broadcastTo S512x128 v537 broadcasts_S512x1_S512x128
      have v541 : FVec Ideal S512x128 .f32 := shapeCast S512x128 v538 shapeCasts_S512x128_S512x128
      v541) := rfl

theorem red156 (v874 : FVec Ideal S256x128 .f32) (v885 : FVec Ideal S256x128 .f32) (v896 : FVec Ideal S256x128 .f32) (v907 : FVec Ideal S256x128 .f32) (v912 : FVec Ideal S256x128 .f32) (v915 : Vec Ideal S1x1x256x128 .f32) :
    k0_pay156 (F := Ideal) v874 v885 v896 v907 v912 v915 =
    (have v921 : FVec Ideal S32x8x512 .f32 := shapeCast S32x8x512 (k0_pay155 (F := Ideal) v874 v885 v896 v907 v912 v915) shapeCasts_S256x512_S32x8x512
      have v922 : FVec Ideal S8x512 .f32 := Slab32 v921
      v922) := rfl

theorem red168 (v922 : FVec Ideal S8x512 .f32) (v927 : FVec Ideal S256x128 .f32) (v930 : FVec Ideal S256x128 .f32) (v941 : FVec Ideal S256x128 .f32) (v952 : FVec Ideal S256x128 .f32) (v955 : Vec Ideal S1x1x256x128 .f32) (v960 : Vec Ideal S1x1x256x128 .f32) (v966 : Vec Ideal S1x1x256x128 .f32) (v971 : Vec Ideal S1x1x256x128 .f32) :
    k0_pay168 (F := Ideal) v922 v927 v930 v941 v952 v955 v960 v966 v971 =
    (have v977 : FVec Ideal S32x8x512 .f32 := shapeCast S32x8x512 (k0_pay167 (F := Ideal) v927 v930 v941 v952 v955 v960 v966 v971) shapeCasts_S256x512_S32x8x512
      have v978 : FVec Ideal S8x512 .f32 := Slab32 v977
      have v979 : FVec Ideal S8x512 .f32 := addf v922 v978
      v979) := rfl

theorem red230 (v874 : FVec Ideal S256x128 .f32) (v885 : FVec Ideal S256x128 .f32) (v896 : FVec Ideal S256x128 .f32) (v907 : FVec Ideal S256x128 .f32) (v912 : FVec Ideal S256x128 .f32) (v915 : Vec Ideal S1x1x256x128 .f32) :
    k0_pay230 (F := Ideal) v874 v885 v896 v907 v912 v915 =
    (have v921 : FVec Ideal S32x8x512 .f32 := shapeCast S32x8x512 (k0_pay229 (F := Ideal) v874 v885 v896 v907 v912 v915) shapeCasts_S256x512_S32x8x512
      have v922 : FVec Ideal S8x512 .f32 := Slab32 v921
      v922) := rfl

theorem red242 (v922 : FVec Ideal S8x512 .f32) (v927 : FVec Ideal S256x128 .f32) (v930 : FVec Ideal S256x128 .f32) (v941 : FVec Ideal S256x128 .f32) (v952 : FVec Ideal S256x128 .f32) (v955 : Vec Ideal S1x1x256x128 .f32) (v960 : Vec Ideal S1x1x256x128 .f32) (v966 : Vec Ideal S1x1x256x128 .f32) (v971 : Vec Ideal S1x1x256x128 .f32) :
    k0_pay242 (F := Ideal) v922 v927 v930 v941 v952 v955 v960 v966 v971 =
    (have v977 : FVec Ideal S32x8x512 .f32 := shapeCast S32x8x512 (k0_pay241 (F := Ideal) v927 v930 v941 v952 v955 v960 v966 v971) shapeCasts_S256x512_S32x8x512
      have v978 : FVec Ideal S8x512 .f32 := Slab32 v977
      have v979 : FVec Ideal S8x512 .f32 := addf v922 v978
      v979) := rfl

theorem red385 (v648 : Vec Ideal S512x128 .f32) :
    k0_pay385 (F := Ideal) v648 =
    (have v649 : FVec Ideal S512 .f32 := RowMax512 v648
      have v650 : FVec Ideal S512x1 .f32 := shapeCast S512x1 v649 shapeCasts_S512_S512x1
      have v651 : FVec Ideal S512x1 .f32 := shapeCast S512x1 v650 shapeCasts_S512x1_S512x1
      have v652 : FVec Ideal S512x128 .f32 := broadcastTo S512x128 v651 broadcasts_S512x1_S512x128
      have v655 : FVec Ideal S512x128 .f32 := shapeCast S512x128 v652 shapeCasts_S512x128_S512x128
      v655) := rfl

theorem red395 (v2 : Ideal .f32) (v305 : FVec Ideal S1x512 .f32) (v315 : FVec Ideal S256x512 .f32) (v328 : IVec S256x128 32) (v329 : IVec S256x128 32) (v332 : FVec Ideal S256x128 .f32) :
    k0_pay395 (F := Ideal) v2 v305 v315 v328 v329 v332 =
    (have v374 : FVec Ideal S256x128 .f32 := maximumf (k0_pay391 (F := Ideal) v305 v328 v329 v332) (k0_pay392 (F := Ideal) v2 v305 v315 v328 v329)
      have v375 : FVec Ideal S256x128 .f32 := maximumf v374 (k0_pay393 (F := Ideal) v2 v305 v315 v328 v329)
      have v376 : FVec Ideal S256x128 .f32 := maximumf v375 (k0_pay394 (F := Ideal) v2 v305 v315 v328 v329)
      have v377 : FVec Ideal S256 .f32 := RowMax256 v376
      have v378 : FVec Ideal S256x1 .f32 := shapeCast S256x1 v377 shapeCasts_S256_S256x1
      have v379 : FVec Ideal S256x1 .f32 := shapeCast S256x1 v378 shapeCasts_S256x1_S256x1
      have v380 : FVec Ideal S256x128 .f32 := broadcastTo S256x128 v379 broadcasts_S256x1_S256x128
      v380) := rfl

theorem red415 (v2 : Ideal .f32) (v305 : FVec Ideal S1x512 .f32) (v432 : FVec Ideal S256x512 .f32) (v445 : IVec S256x128 32) (v446 : IVec S256x128 32) (v457 : FVec Ideal S256x128 .f32) (v463 : FVec Ideal S256x128 .f32) (v466 : IVec S256x128 1) (v467 : FVec Ideal S256x128 .f32) :
    k0_pay415 (F := Ideal) v2 v305 v432 v445 v446 v457 v463 v466 v467 =
    (have v491 : FVec Ideal S256x128 .f32 := maximumf v457 (k0_pay412 (F := Ideal) v463 v466 v467)
      have v492 : FVec Ideal S256x128 .f32 := maximumf v491 (k0_pay413 (F := Ideal) v2 v305 v432 v445 v446)
      have v493 : FVec Ideal S256x128 .f32 := maximumf v492 (k0_pay414 (F := Ideal) v2 v305 v432 v445 v446)
      have v494 : FVec Ideal S256 .f32 := RowMax256 v493
      have v495 : FVec Ideal S256x1 .f32 := shapeCast S256x1 v494 shapeCasts_S256_S256x1
      have v496 : FVec Ideal S256x1 .f32 := shapeCast S256x1 v495 shapeCasts_S256x1_S256x1
      have v497 : FVec Ideal S256x128 .f32 := broadcastTo S256x128 v496 broadcasts_S256x1_S256x128
      v497) := rfl

theorem red437 (v584 : Vec Ideal S512x128 .f32) :
    k0_pay437 (F := Ideal) v584 =
    (have v585 : FVec Ideal S512 .f32 := RowSum v584
      have v586 : FVec Ideal S512x1 .f32 := shapeCast S512x1 v585 shapeCasts_S512_S512x1
      v586) := rfl

theorem red438 (v587 : Vec Ideal S512x128 .f32) :
    k0_pay438 (F := Ideal) v587 =
    (have v588 : FVec Ideal S512 .f32 := RowSum v587
      have v589 : FVec Ideal S512x1 .f32 := shapeCast S512x1 v588 shapeCasts_S512_S512x1
      v589) := rfl

theorem red450 (v296 : FVec Ideal S256x128 .f32) (v298 : FVec Ideal S256x128 .f32) (v307 : FVec Ideal S256x128 .f32) (v316 : FVec Ideal S256x128 .f32) (v325 : FVec Ideal S256x128 .f32) (v327 : Vec Ideal S1x1x256x128 .f32) (v331 : Vec Ideal S1x1x256x128 .f32) :
    k0_pay450 (F := Ideal) v296 v298 v307 v316 v325 v327 v331 =
    (have v337 : FVec Ideal S32x8x512 .f32 := shapeCast S32x8x512 (k0_pay449 (F := Ideal) v296 v298 v307 v316 v325 v327 v331) shapeCasts_S256x512_S32x8x512
      have v338 : FVec Ideal S8x512 .f32 := Slab32 v337
      v338) := rfl

theorem red462 (v338 : FVec Ideal S8x512 .f32) (v342 : FVec Ideal S256x128 .f32) (v344 : FVec Ideal S256x128 .f32) (v353 : FVec Ideal S256x128 .f32) (v362 : FVec Ideal S256x128 .f32) (v364 : Vec Ideal S1x1x256x128 .f32) (v368 : Vec Ideal S1x1x256x128 .f32) (v373 : Vec Ideal S1x1x256x128 .f32) (v377 : Vec Ideal S1x1x256x128 .f32) :
    k0_pay462 (F := Ideal) v338 v342 v344 v353 v362 v364 v368 v373 v377 =
    (have v383 : FVec Ideal S32x8x512 .f32 := shapeCast S32x8x512 (k0_pay461 (F := Ideal) v342 v344 v353 v362 v364 v368 v373 v377) shapeCasts_S256x512_S32x8x512
      have v384 : FVec Ideal S8x512 .f32 := Slab32 v383
      have v385 : FVec Ideal S8x512 .f32 := addf v338 v384
      v385) := rfl

theorem red467 (v324 : Vec Ideal S1x8x512 .f32) (v331 : Elt Ideal .f32) :
    k0_pay467 (F := Ideal) v324 v331 =
    (have v325 : FVec Ideal S8x512 .f32 := shapeCast S8x512 v324 shapeCasts_S1x8x512_S8x512
      have v326 : FVec Ideal S512 .f32 := ColSum8 v325
      have v327 : FVec Ideal S1x512 .f32 := shapeCast S1x512 v326 shapeCasts_S512_S1x512
      have cst_150 : Ideal .f32 := Scalar.ofBits .f32 0x00000000#32
      have v328 : FVec Ideal S1x512 .f32 := broadcast S1x512 cst_150
      have v329 : FVec Ideal S1x512 .f32 := subf v328 v327
      have v332 : FVec Ideal S1x512 .f32 := broadcast S1x512 v331
      have v333 : FVec Ideal S1x512 .f32 := mulf v329 v332
      v333) := rfl

theorem red481 (v35 : IVec S256x128 32) (v36 : IVec S256x128 32) (v47 : FVec Ideal S256x128 .f32) (v58 : FVec Ideal S256x128 .f32) (v69 : FVec Ideal S256x128 .f32) (v75 : FVec Ideal S256x128 .f32) :
    k0_pay481 (F := Ideal) v35 v36 v47 v58 v69 v75 =
    (have v81 : FVec Ideal S256x128 .f32 := maximumf v47 v58
      have v82 : FVec Ideal S256x128 .f32 := maximumf v81 v69
      have v83 : FVec Ideal S256x128 .f32 := maximumf v82 (k0_pay480 (F := Ideal) v35 v36 v75)
      have v84 : FVec Ideal S256 .f32 := RowMax256 v83
      have v85 : FVec Ideal S256x1 .f32 := shapeCast S256x1 v84 shapeCasts_S256_S256x1
      have v86 : FVec Ideal S256x1 .f32 := shapeCast S256x1 v85 shapeCasts_S256x1_S256x1
      have v87 : FVec Ideal S256x128 .f32 := broadcastTo S256x128 v86 broadcasts_S256x1_S256x128
      v87) := rfl

theorem red500 (v2 : Ideal .f32) (v22 : FVec Ideal S1x512 .f32) (v130 : FVec Ideal S256x512 .f32) (v138 : IVec S256x128 32) (v139 : IVec S256x128 32) (v150 : FVec Ideal S256x128 .f32) (v156 : FVec Ideal S256x128 .f32) :
    k0_pay500 (F := Ideal) v2 v22 v130 v138 v139 v150 v156 =
    (have v184 : FVec Ideal S256x128 .f32 := maximumf v150 (k0_pay497 (F := Ideal) v138 v139 v156)
      have v185 : FVec Ideal S256x128 .f32 := maximumf v184 (k0_pay498 (F := Ideal) v2 v22 v130 v138 v139)
      have v186 : FVec Ideal S256x128 .f32 := maximumf v185 (k0_pay499 (F := Ideal) v2 v22 v130 v138 v139)
      have v187 : FVec Ideal S256 .f32 := RowMax256 v186
      have v188 : FVec Ideal S256x1 .f32 := shapeCast S256x1 v187 shapeCasts_S256_S256x1
      have v189 : FVec Ideal S256x1 .f32 := shapeCast S256x1 v188 shapeCasts_S256x1_S256x1
      have v190 : FVec Ideal S256x128 .f32 := broadcastTo S256x128 v189 broadcasts_S256x1_S256x128
      v190) := rfl

theorem red514 (v243 : Vec Ideal S512x128 .f32) :
    k0_pay514 (F := Ideal) v243 =
    (have v244 : FVec Ideal S512 .f32 := RowSum v243
      have v245 : FVec Ideal S512x1 .f32 := shapeCast S512x1 v244 shapeCasts_S512_S512x1
      have cst_106 : Ideal .f32 := Scalar.ofBits .f32 0x3F800000#32
      have v249 : FVec Ideal S512x1 .f32 := broadcast S512x1 cst_106
      have v250 : FVec Ideal S512x1 .f32 := divf v249 v245
      v250) := rfl

theorem red516 (v243 : Vec Ideal S512x128 .f32) (v246 : Vec Ideal S512x128 .f32) :
    k0_pay516 (F := Ideal) v243 v246 =
    (have v247 : FVec Ideal S512 .f32 := RowSum v246
      have v248 : FVec Ideal S512x1 .f32 := shapeCast S512x1 v247 shapeCasts_S512_S512x1
      have v256 : FVec Ideal S512x1 .f32 := mulf v248 (k0_pay514 (F := Ideal) v243)
      have v257 : FVec Ideal S512x1 .f32 := shapeCast S512x1 v256 shapeCasts_S512x1_S512x1
      have v258 : FVec Ideal S512x128 .f32 := broadcastTo S512x128 v257 broadcasts_S512x1_S512x128
      have v261 : FVec Ideal S1x512x128 .f32 := shapeCast S1x512x128 v258 shapeCasts_S512x128_S1x512x128
      v261) := rfl

theorem red517 (v262 : Vec Ideal S512x128 .f32) :
    k0_pay517 (F := Ideal) v262 =
    (have v263 : FVec Ideal S1x512x128 .f32 := shapeCast S1x512x128 v262 shapeCasts_S512x128_S1x512x128
      have v264 : FVec Ideal S1 .f32 := AllMax v263
      have v265 : FVec Ideal S1x1x1 .f32 := shapeCast S1x1x1 v264 shapeCasts_S1_S1x1x1
      have v266 : Ideal .f32 := extractAt ![0, 0, 0] v265 inpos_S1x1x1_p0_0_0
      v266) := rfl

theorem red518 (v268 : Vec Ideal S512x128 .f32) :
    k0_pay518 (F := Ideal) v268 =
    (have v269 : FVec Ideal S512x128 .f32 := absf v268
      have v270 : FVec Ideal S1x512x128 .f32 := shapeCast S1x512x128 v269 shapeCasts_S512x128_S1x512x128
      have v271 : FVec Ideal S1 .f32 := AllMax v270
      have v272 : FVec Ideal S1x1x1 .f32 := shapeCast S1x1x1 v271 shapeCasts_S1_S1x1x1
      have v273 : Ideal .f32 := extractAt ![0, 0, 0] v272 inpos_S1x1x1_p0_0_0
      v273) := rfl

end Cert.Proof.KernelIdeal
-- ==== Proof.Tile.lean ====
/-
  The score and gradient tiles of one step, as sums over the staged arrays.
-/
module

public import proofs.«01_k».proof.Proof.Walk
public import proofs.«01_k».proof.Proof.KernelIdealState
public import proofs.«01_k».proof.Proof.Reduce

@[expose] public section

noncomputable section

namespace Cert.Proof.KernelIdeal

open Cert.KernelIdeal Cert.KernelIdeal.Gen Cert.Hoare Cert.Grid
open Idealize.ShloMosaic hiding ix1 ix2 ix3 ix4 eq_ix1 eq_ix2 eq_ix3 eq_ix4

/-- `1 / ln 2`. -/
def LG : EReal := Named.named (F := Ideal) (φ := .f32) κ "log2e" 0x3FB8AA3B#32

theorem zero_bits : Ideal.ofBits .f32 0x00000000#32 = 0 := Idealize.ShloMosaic.Ideal.ofBits_zero_f32

@[congr] theorem sumc {n : ℕ} {f g : ℕ → EReal} (h : ∀ q, q < n → f q = g q) :
    (∑ q ∈ Finset.range n, f q) = ∑ q ∈ Finset.range n, g q := Finset.sum_congr rfl fun q hq => h q (Finset.mem_range.mp hq)

theorem cE {x y : EReal} (h : x = y) : Ideal.exp2 x = Ideal.exp2 y := h ▸ rfl
theorem cA {x y z w : EReal} (h : x = y) (k : z = w) : x + z = y + w := h ▸ k ▸ rfl
theorem cM {x y z w : EReal} (h : x = y) (k : z = w) : x * z = y * w := h ▸ k ▸ rfl
theorem cB {x y z w : EReal} (h : x = y) (k : z = w) : x - z = y - w := h ▸ k ▸ rfl
theorem c2 {a b : ℕ} {X : (⟨2, ![a, b]⟩ : Shape).Idx → EReal} {i j i' j' : ℕ} (h : i = i') (k : j = j') : g2 X i j = g2 X i' j' := h ▸ k ▸ rfl
theorem c3 {a b c : ℕ} {X : (⟨3, ![a, b, c]⟩ : Shape).Idx → EReal} {i j k i' j' k' : ℕ} (h : i = i') (h' : j = j') (h'' : k = k') :
    g3 X i j k = g3 X i' j' k' := h ▸ h' ▸ h'' ▸ rfl
theorem c4 {a b c d : ℕ} {X : (⟨4, ![a, b, c, d]⟩ : Shape).Idx → EReal} {i j k l i' j' k' l' : ℕ} (h : i = i') (h' : j = j') (h'' : k = k')
    (h3 : l = l') : g4 X i j k l = g4 X i' j' k' l' := h ▸ h' ▸ h'' ▸ h3 ▸ rfl

theorem dot_s : dot_S256x128_S512x128_S256x512_1_1_0_0_n_n = DotDims.transposedRhs 256 128 512 := rfl
theorem dot_v : dot_S128x512_S512x512_S128x512_1_0_0_1_n_n = DotDims.plain 128 512 512 := rfl
theorem dot_q : dot_S512x512_S512x128_S512x128_1_0_0_1_n_n = DotDims.plain 512 512 128 := rfl

/-- What each vector operation of the usual passes reads at an entry, as one statement to rewrite with. -/
def readsB :=
  And.intro @g2_mulf <| And.intro @g2_addf <| And.intro @g2_subf <| And.intro @g2_exp2 <| And.intro @g2_broadcast <|
  And.intro @g2_row <| And.intro @g2_col <| And.intro @g2_slice <| And.intro @g2_cast32 <| And.intro @g2_cast42 <|
  And.intro @g3_cast23 <| And.intro @g4_cast24 <| And.intro @g2_cast22 <| And.intro @g2_truncf <| And.intro @g2_extf
  <| And.intro @dot_s <| And.intro @dot_v <| And.intro @dot_q <| And.intro @g2_matmul_nt <| And.intro @g2_matmul_nn <|
  And.intro @g2_concat4 <| And.intro @g2_concat2 <| And.intro @slab32 <| And.intro @g3_reshape8 <| And.intro
  @g2_constant <| And.intro @zero_bits <| (@zero_add EReal _)

/-- Query row `r` against key row `t`. -/
def Sc (s : St Ideal) (r t : ℕ) : EReal :=
  ∑ q ∈ Finset.range 128, g3 (a := 1) (b := 4096) (c := 128) s.a3 0 r q * g3 (a := 1) (b := 4096) (c := 128) s.a4 0 t q

/-- Output-gradient row `r` against value row `t`. -/
def Dp (s : St Ideal) (r t : ℕ) : EReal :=
  ∑ q ∈ Finset.range 128, g3 (a := 1) (b := 4096) (c := 128) s.a6 0 r q * g3 (a := 1) (b := 4096) (c := 128) s.a5 0 t q

/-- The base-two exponent of row tile `i`, row `r`, column tile `j`, column `c`. -/
def Xs (s : St Ideal) (v2 : EReal) (b i r j c : ℕ) : EReal :=
  Sc s (512 * i + r) (512 * j + c) * v2 + (g2 (a := 60) (b := 8) s.a2 b i - g3 (a := 1) (b := 8) (c := 512) s.a7 0 j c) * LG

/-- Tile entry of the weights before normalisation. -/
def En (s : St Ideal) (v2 : EReal) (b i r j c : ℕ) : EReal :=
  Ideal.exp2 (Xs s v2 b i r j c - g2 (a := 512) (b := 128) s.a20 r (c % 128))

/-- A weight read back from the saved tiles. -/
def Pw (s : St Ideal) (p j r c : ℕ) : EReal :=
  g4 (a := 2) (b := 8) (c := 512) (d := 512) s.a12 p j r c * g3 (a := 2) (b := 512) (c := 128) s.a23 p r (c % 128)

/-- The gradient of a score, from the saved tiles. -/
def Ds (s : St Ideal) (p j r c : ℕ) : EReal :=
  Pw s p j r c * (g4 (a := 2) (b := 8) (c := 512) (d := 512) s.a13 p j r c - g3 (a := 2) (b := 512) (c := 128) s.a24 p r (c % 128))

/-- The part of the state that the score pass writes: row tile `i`, column tile `j`, slot `p`. -/
structure FwdPost (v2 : EReal) (b p i j : ℕ) (s s' : St Ideal) : Prop where
  e : ∀ p' j' r c, r < 512 → c < 512 → g4 (a := 2) (b := 8) (c := 512) (d := 512) s'.a12 p' j' r c
    = if p' = p ∧ j' = j then En s v2 b i r j c else g4 (a := 2) (b := 8) (c := 512) (d := 512) s.a12 p' j' r c
  d : ∀ p' j' r c, r < 512 → c < 512 → g4 (a := 2) (b := 8) (c := 512) (d := 512) s'.a13 p' j' r c
    = if p' = p ∧ j' = j then Dp s (512 * i + r) (512 * j + c) else g4 (a := 2) (b := 8) (c := 512) (d := 512) s.a13 p' j' r c
  l : ∀ r z, r < 512 → z < 128 → g2 (a := 512) (b := 128) s'.a21 r z
    = g2 (a := 512) (b := 128) s.a21 r z + En s v2 b i r j z + En s v2 b i r j (128 + z) + En s v2 b i r j (256 + z) + En s v2 b i r j (384 + z)
  dl : ∀ r z, r < 512 → z < 128 → g2 (a := 512) (b := 128) s'.a22 r z
    = g2 (a := 512) (b := 128) s.a22 r z + En s v2 b i r j z * Dp s (512 * i + r) (512 * j + z)
      + En s v2 b i r j (128 + z) * Dp s (512 * i + r) (512 * j + (128 + z))
      + En s v2 b i r j (256 + z) * Dp s (512 * i + r) (512 * j + (256 + z))
      + En s v2 b i r j (384 + z) * Dp s (512 * i + r) (512 * j + (384 + z))

/-- The part of the state that the gradient pass writes, from slot `p`, column tile `j`. -/
structure BwdPost (p j : ℕ) (s s' : St Ideal) : Prop where
  v : ∀ j' d c, d < 128 → c < 512 → g3 (a := 8) (b := 128) (c := 512) s'.a15 j' d c
    = if j' = j then g3 (a := 8) (b := 128) (c := 512) s.a15 j d c
        + ∑ r ∈ Finset.range 512, g3 (a := 2) (b := 128) (c := 512) s.a19 p d r * Pw s p j r c
      else g3 (a := 8) (b := 128) (c := 512) s.a15 j' d c
  k : ∀ j' d c, d < 128 → c < 512 → g3 (a := 8) (b := 128) (c := 512) s'.a14 j' d c
    = if j' = j then g3 (a := 8) (b := 128) (c := 512) s.a14 j d c
        + ∑ r ∈ Finset.range 512, g3 (a := 2) (b := 128) (c := 512) s.a18 p d r * Ds s p j r c
      else g3 (a := 8) (b := 128) (c := 512) s.a14 j' d c
  q : ∀ r d, r < 512 → d < 128 → g2 (a := 512) (b := 128) s'.a16 r d
    = g2 (a := 512) (b := 128) s.a16 r d
        + ∑ c ∈ Finset.range 512, Ds s p j r c * g3 (a := 1) (b := 4096) (c := 128) s.a4 0 (512 * j + c) d
  cs : ∀ j' u c, u < 8 → c < 512 → g3 (a := 8) (b := 8) (c := 512) s'.a17 j' u c
    = if j' = j then g3 (a := 8) (b := 8) (c := 512) s.a17 j u c
        + ((∑ a ∈ Finset.range 32, Ds s p j (8 * a + u) c) + ∑ a ∈ Finset.range 32, Ds s p j (256 + (8 * a + u)) c)
      else g3 (a := 8) (b := 8) (c := 512) s.a17 j' u c

/-- The arrays that neither pass writes. -/
structure Keep (s s' : St Ideal) : Prop where
  k1 : s'.a1 = s.a1
  k2 : s'.a2 = s.a2
  k3 : s'.a3 = s.a3
  k4 : s'.a4 = s.a4
  k5 : s'.a5 = s.a5
  k6 : s'.a6 = s.a6
  k7 : s'.a7 = s.a7
  k18 : s'.a18 = s.a18
  k19 : s'.a19 = s.a19
  k20 : s'.a20 = s.a20
  k23 : s'.a23 = s.a23
  k24 : s'.a24 = s.a24

end Cert.Proof.KernelIdeal
-- ==== Proof.Mask.lean ====
/-
  The causal mask of a tile, and the constants of the kernel.
-/
module

public import proofs.«01_k».proof.Proof.Tile
public import Idealize.ShloMosaic.Lib.IdealHost

@[expose] public section

noncomputable section

namespace Cert.Proof.KernelIdeal

open Cert.KernelIdeal Cert.KernelIdeal.Gen Cert.Hoare Cert.Grid
open Idealize.ShloMosaic hiding ix1 ix2 ix3 ix4 eq_ix1 eq_ix2 eq_ix3 eq_ix4
open Idealize.ShloMosaic.ValueIdx

theorem neg_named : (Named.named (F := Ideal) (φ := .f32) κ "neg_inf" 0xF149F2CA#32 : EReal) = ⊥ := by
  show (κ "neg_inf").getD _ = ⊥
  rfl

theorem ninf_bits : (Scalar.ofBits (F := Ideal) .f32 0xFF800000#32 : EReal) = ⊥ := ofBits_neginf

theorem zero_bits' : (Scalar.ofBits (F := Ideal) .f32 0x00000000#32 : EReal) = 0 := zero_bits

theorem one_bits : (Scalar.ofBits (F := Ideal) .f32 0x3F800000#32 : EReal) = 1 := Ideal.ofBits_one_f32

theorem sle_nat {m n : ℕ} (hm : m < 2 ^ 30) (hn : n < 2 ^ 30) :
    (BitVec.ofBool ((BitVec.ofNat 32 m).sle (BitVec.ofNat 32 n)) = 1#1) ↔ m ≤ n := by
  have e : (BitVec.ofNat 32 m).sle (BitVec.ofNat 32 n) = decide (m ≤ n) := by
    rw [BitVec.sle, BitVec.toInt_eq_toNat_of_lt (by rw [BitVec.toNat_ofNat]; omega), BitVec.toInt_eq_toNat_of_lt (by rw [BitVec.toNat_ofNat]; omega),
      BitVec.toNat_ofNat, BitVec.toNat_ofNat, Nat.mod_eq_of_lt (by omega), Nat.mod_eq_of_lt (by omega)]
    simp
  rw [e]
  by_cases h : m ≤ n
  · simp [h]
  · simp [h]

/-- One mask of a tile: column `n + z` against row `k + r`. -/
theorem g2_mask {h1 h0} {n k : ℕ} (x y : FVec Ideal S256x128 .f32) {r z : ℕ} (hr : r < 256) (hz : z < 128)
    (hn : n < 2 ^ 20) (hk : k < 2 ^ 20) :
    g2 (a := 256) (b := 128) (select (s := S256x128) (α := Ideal .f32) (cmpi .sle (addi (iota .tc S256x128 32 [1] h1) (broadcast S256x128 (BitVec.ofNat 32 n)))
        (addi (iota .tc S256x128 32 [0] h0) (broadcast S256x128 (BitVec.ofNat 32 k)))) x y) r z
      = if n + z ≤ k + r then g2 (a := 256) (b := 128) x r z else g2 (a := 256) (b := 128) y r z := by
  rw [g2_select _ _ _ hr hz]
  have e : (cmpi .sle (addi (iota .tc S256x128 32 [1] h1) (broadcast S256x128 (BitVec.ofNat 32 n)))
        (addi (iota .tc S256x128 32 [0] h0) (broadcast S256x128 (BitVec.ofNat 32 k)))) (ix2 ⟨r, hr⟩ ⟨z, hz⟩) = 1#1 ↔ n + z ≤ k + r := by
    have h1' : (iota .tc S256x128 32 [1] h1) (ix2 ⟨r, hr⟩ ⟨z, hz⟩) = BitVec.ofNat 32 z := by
      show BitVec.ofNat 32 _ = _
      congr 1
      show 0 * 128 + z = z
      omega
    have h0' : (iota .tc S256x128 32 [0] h0) (ix2 ⟨r, hr⟩ ⟨z, hz⟩) = BitVec.ofNat 32 r := by
      show BitVec.ofNat 32 _ = _
      congr 1
      show 0 * 256 + r = r
      omega
    show BitVec.ofBool (((iota .tc S256x128 32 [1] h1) (ix2 ⟨r, hr⟩ ⟨z, hz⟩) + BitVec.ofNat 32 n).sle
      ((iota .tc S256x128 32 [0] h0) (ix2 ⟨r, hr⟩ ⟨z, hz⟩) + BitVec.ofNat 32 k)) = 1#1 ↔ _
    rw [h1', h0', ← BitVec.ofNat_add, ← BitVec.ofNat_add, sle_nat (by omega) (by omega), Nat.add_comm z, Nat.add_comm r]
  by_cases h : n + z ≤ k + r
  · rw [if_pos (e.2 h), if_pos h]
  · rw [if_neg (fun q => h (e.1 q)), if_neg h]

/-- The same with both offsets in two pieces. -/
theorem g2_mask2 {h1 h0} {n n' k : ℕ} {A B : BitVec 32} (hA : A = BitVec.ofNat 32 n') (hB : B = BitVec.ofNat 32 k)
    (x y : FVec Ideal S256x128 .f32) {r z : ℕ} (hr : r < 256) (hz : z < 128)
    (hn : n < 2 ^ 19) (hn' : n' < 2 ^ 19) (hk : k < 2 ^ 20) :
    g2 (a := 256) (b := 128) (select (s := S256x128) (α := Ideal .f32) (cmpi .sle (addi (addi (iota .tc S256x128 32 [1] h1) (broadcast S256x128 A)) (broadcast S256x128 (BitVec.ofNat 32 n)))
        (addi (iota .tc S256x128 32 [0] h0) (broadcast S256x128 B))) x y) r z
      = if n' + n + z ≤ k + r then g2 (a := 256) (b := 128) x r z else g2 (a := 256) (b := 128) y r z := by
  subst hA hB
  rw [← g2_mask (h1 := h1) (h0 := h0) (n := n' + n) (k := k) x y hr hz (by omega) hk]
  congr 3
  funext q
  show (_ + _) + _ = _ + _
  rw [BitVec.add_assoc, BitVec.ofNat_add]
  rfl

theorem g2_mask3 {h1 h0} {n n' k : ℕ}
    (x y : FVec Ideal S256x128 .f32) {r z : ℕ} (hr : r < 256) (hz : z < 128)
    (hn : n < 2 ^ 19) (hn' : n' < 2 ^ 19) (hk : k < 2 ^ 20) :
    g2 (a := 256) (b := 128) (select (s := S256x128) (α := Ideal .f32) (cmpi .sle (addi (addi (iota .tc S256x128 32 [1] h1) (broadcast S256x128 (BitVec.ofNat 32 n'))) (broadcast S256x128 (BitVec.ofNat 32 n)))
        (addi (iota .tc S256x128 32 [0] h0) (broadcast S256x128 (BitVec.ofNat 32 k)))) x y) r z
      = if n' + n + z ≤ k + r then g2 (a := 256) (b := 128) x r z else g2 (a := 256) (b := 128) y r z :=
  g2_mask2 rfl rfl x y hr hz hn hn' hk

end Cert.Proof.KernelIdeal
-- ==== Proof.Offsets.lean ====
/-
  Where each access of the kernel starts.
-/
module

public import proofs.«01_k».proof.Proof.Gen.KernelIdeal.Skeleton

@[expose] public section

set_option maxRecDepth 65536

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open Idealize.SL.Sem
open Idealize.ShloMosaic.Rounds

/-- The trips of the outer loop over tiles, and of the loops inside it. -/
abbrev L1 := Fin k0_t1_loop.trips
abbrev L2 (k : L1) := Fin (k0_t2_loop k).trips
abbrev L4 (k : L1) := Fin (k0_t4_loop k).trips
abbrev L6 (k : L1) := Fin (k0_t6_loop k).trips

theorem o1 (i : grid0.Coords) : k0_off1 i = ![(i 0).val, 0] := k0_off1_eq i
theorem o2 (i : grid0.Coords) : k0_off2 i = ![(i 0).val, 0] := k0_off2_eq i
theorem o4 (i : grid0.Coords) : k0_off4 i = ![(i 0).val, 5] := k0_off4_eq i
theorem o5 (i : grid0.Coords) (k : L1) : k0_off5 i k = ![(i 0).val, k.val + 1] := k0_off5_eq i k
theorem o6 : ∀ (k : L1), k0_off6 k = ![0, k.val + 1, 0] := by decide +kernel
theorem o7_0 : ∀ (k : L1), k0_off7 k 0#32 = ![0, 512 * k.val + 512, 0] := by decide +kernel
theorem o7_256 : ∀ (k : L1), k0_off7 k 256#32 = ![0, 512 * k.val + 768, 0] := by decide +kernel
theorem o8 : ∀ (k : L1), k0_off8 k = ![0, 512 * k.val + 512, 0] := by decide +kernel
theorem o9 : ∀ (k : L1), k0_off9 k = ![((k.val + 1) % 2), k.val + 1, 0, 0] := by decide +kernel
theorem o10 : ∀ (k : L1), k0_off10 k = ![((k.val + 1) % 2), k.val + 1, 256, 0] := by decide +kernel
theorem o11 : ∀ (k : L1), k0_off11 k = ![((k.val + 1) % 2), 0, 0] := by decide +kernel
theorem o12 (i : grid0.Coords) (k : L1) : k0_off12 i k = ![(i 0).val, k.val + 1] := k0_off12_eq i k
theorem o13 : ∀ (k : L1) (j : L2 k), k0_off13 k j = ![0, j.val, 0] := by decide +kernel
theorem o14_0 : ∀ (k : L1), k0_off14 k 0#32 = ![0, 512 * k.val + 512, 0] := by decide +kernel
theorem o14_256 : ∀ (k : L1), k0_off14 k 256#32 = ![0, 512 * k.val + 768, 0] := by decide +kernel
theorem o15 : ∀ (k : L1) (j : L2 k), k0_off15 k j = ![0, 512 * j.val, 0] := by decide +kernel
theorem o16 : ∀ (k : L1) (j : L2 k), k0_off16 k j = ![((k.val + 1) % 2), j.val, 0, 0] := by decide +kernel
theorem o17 : ∀ (k : L1) (j : L2 k), k0_off17 k j = ![((k.val + 1) % 2), j.val, 0, 128] := by decide +kernel
theorem o18 : ∀ (k : L1) (j : L2 k), k0_off18 k j = ![((k.val + 1) % 2), j.val, 0, 256] := by decide +kernel
theorem o19 : ∀ (k : L1) (j : L2 k), k0_off19 k j = ![((k.val + 1) % 2), j.val, 0, 384] := by decide +kernel
theorem o20 : ∀ (k : L1) (j : L2 k), k0_off20 k j = ![((k.val + 1) % 2), j.val, 256, 0] := by decide +kernel
theorem o21 : ∀ (k : L1) (j : L2 k), k0_off21 k j = ![((k.val + 1) % 2), j.val, 256, 128] := by decide +kernel
theorem o22 : ∀ (k : L1) (j : L2 k), k0_off22 k j = ![((k.val + 1) % 2), j.val, 256, 256] := by decide +kernel
theorem o23 : ∀ (k : L1) (j : L2 k), k0_off23 k j = ![((k.val + 1) % 2), j.val, 256, 384] := by decide +kernel
theorem o24 : ∀ (k : L1), k0_off24 k = ![(k.val % 2), 0, 0] := by decide +kernel
theorem o25 : ∀ (k : L1) (j : L2 k), k0_off25 k j = ![(k.val % 2), j.val, 0, 0] := by decide +kernel
theorem o26 : ∀ (k : L1) (j : L2 k), k0_off26 k j = ![(k.val % 2), j.val, 0, 128] := by decide +kernel
theorem o27 : ∀ (k : L1) (j : L2 k), k0_off27 k j = ![(k.val % 2), j.val, 0, 256] := by decide +kernel
theorem o28 : ∀ (k : L1) (j : L2 k), k0_off28 k j = ![(k.val % 2), j.val, 0, 384] := by decide +kernel
theorem o29 : ∀ (k : L1), k0_off29 k = ![(k.val % 2), 256, 0] := by decide +kernel
theorem o30 : ∀ (k : L1) (j : L2 k), k0_off30 k j = ![(k.val % 2), j.val, 256, 0] := by decide +kernel
theorem o31 : ∀ (k : L1) (j : L2 k), k0_off31 k j = ![(k.val % 2), j.val, 256, 128] := by decide +kernel
theorem o32 : ∀ (k : L1) (j : L2 k), k0_off32 k j = ![(k.val % 2), j.val, 256, 256] := by decide +kernel
theorem o33 : ∀ (k : L1) (j : L2 k), k0_off33 k j = ![(k.val % 2), j.val, 256, 384] := by decide +kernel
theorem o34 : ∀ (k : L1) (j : L2 k), k0_off34 k j = ![j.val, 0, 0] := by decide +kernel
theorem o35 : ∀ (k : L1), k0_off35 k = ![(k.val % 2), 0, 0] := by decide +kernel
theorem o36 : ∀ (k : L1) (j : L2 k), k0_off36 k j = ![j.val, 0, 0] := by decide +kernel
theorem o62 (i : grid0.Coords) : k0_off62 i = ![(i 0).val, 1] := k0_off62_eq i
theorem o63 : ∀ (k : L1), k0_off63 k = ![0, 512 * k.val, 0] := by decide +kernel
theorem o64 : ∀ (k : L1), k0_off64 k = ![((k.val + 1) % 2), 0, 0] := by decide +kernel
theorem o65 : ∀ (k : L1), k0_off65 k = ![0, k.val + 1, 0] := by decide +kernel
theorem o66 : ∀ (k : L1) (j : L4 k), k0_off66 k j = ![0, j.val, 0] := by decide +kernel
theorem o67_0 : ∀ (k : L1), k0_off67 k 0#32 = ![0, 512 * k.val + 512, 0] := by decide +kernel
theorem o67_256 : ∀ (k : L1), k0_off67 k 256#32 = ![0, 512 * k.val + 768, 0] := by decide +kernel
theorem o68 : ∀ (k : L1) (j : L4 k), k0_off68 k j = ![0, 512 * j.val, 0] := by decide +kernel
theorem o69 (i : grid0.Coords) : k0_off69 i = ![(i 0).val, 5] := k0_off69_eq i
theorem o70 : ∀ (k : L1) (j : L4 k), k0_off70 k j = ![((k.val + 1) % 2), j.val, 0, 0] := by decide +kernel
theorem o71 : ∀ (k : L1) (j : L4 k), k0_off71 k j = ![((k.val + 1) % 2), j.val, 0, 128] := by decide +kernel
theorem o72 : ∀ (k : L1) (j : L4 k), k0_off72 k j = ![((k.val + 1) % 2), j.val, 0, 256] := by decide +kernel
theorem o73 : ∀ (k : L1) (j : L4 k), k0_off73 k j = ![((k.val + 1) % 2), j.val, 0, 384] := by decide +kernel
theorem o74 : ∀ (k : L1) (j : L4 k), k0_off74 k j = ![((k.val + 1) % 2), j.val, 256, 0] := by decide +kernel
theorem o75 : ∀ (k : L1) (j : L4 k), k0_off75 k j = ![((k.val + 1) % 2), j.val, 256, 128] := by decide +kernel
theorem o76 : ∀ (k : L1) (j : L4 k), k0_off76 k j = ![((k.val + 1) % 2), j.val, 256, 256] := by decide +kernel
theorem o77 : ∀ (k : L1) (j : L4 k), k0_off77 k j = ![((k.val + 1) % 2), j.val, 256, 384] := by decide +kernel
theorem o90 : ∀ (k : L1) (j : L6 k), k0_off90 k j = ![((k.val + 1) % 2), j.val, 0, 0] := by decide +kernel
theorem o91 : ∀ (k : L1) (j : L6 k), k0_off91 k j = ![((k.val + 1) % 2), j.val, 0, 128] := by decide +kernel
theorem o92 : ∀ (k : L1) (j : L6 k), k0_off92 k j = ![((k.val + 1) % 2), j.val, 0, 256] := by decide +kernel
theorem o93 : ∀ (k : L1) (j : L6 k), k0_off93 k j = ![((k.val + 1) % 2), j.val, 0, 384] := by decide +kernel
theorem o94 : ∀ (k : L1) (j : L6 k), k0_off94 k j = ![((k.val + 1) % 2), j.val, 256, 0] := by decide +kernel
theorem o95 : ∀ (k : L1) (j : L6 k), k0_off95 k j = ![((k.val + 1) % 2), j.val, 256, 128] := by decide +kernel
theorem o96 : ∀ (k : L1) (j : L6 k), k0_off96 k j = ![((k.val + 1) % 2), j.val, 256, 256] := by decide +kernel
theorem o97 : ∀ (k : L1) (j : L6 k), k0_off97 k j = ![((k.val + 1) % 2), j.val, 256, 384] := by decide +kernel
theorem o106 : ∀ (k : L1), k0_off106 k = ![((k.val + 1) % 2), 0, 0] := by decide +kernel
theorem o107 : ∀ (k0_t8 : Fin k0_t8_loop.trips), k0_off107 k0_t8 = ![1, k0_t8.val, 0, 0] := by decide +kernel
theorem o108 : ∀ (k0_t8 : Fin k0_t8_loop.trips), k0_off108 k0_t8 = ![1, k0_t8.val, 0, 128] := by decide +kernel
theorem o109 : ∀ (k0_t8 : Fin k0_t8_loop.trips), k0_off109 k0_t8 = ![1, k0_t8.val, 0, 256] := by decide +kernel
theorem o110 : ∀ (k0_t8 : Fin k0_t8_loop.trips), k0_off110 k0_t8 = ![1, k0_t8.val, 0, 384] := by decide +kernel
theorem o111 : ∀ (k0_t8 : Fin k0_t8_loop.trips), k0_off111 k0_t8 = ![1, k0_t8.val, 256, 0] := by decide +kernel
theorem o112 : ∀ (k0_t8 : Fin k0_t8_loop.trips), k0_off112 k0_t8 = ![1, k0_t8.val, 256, 128] := by decide +kernel
theorem o113 : ∀ (k0_t8 : Fin k0_t8_loop.trips), k0_off113 k0_t8 = ![1, k0_t8.val, 256, 256] := by decide +kernel
theorem o114 : ∀ (k0_t8 : Fin k0_t8_loop.trips), k0_off114 k0_t8 = ![1, k0_t8.val, 256, 384] := by decide +kernel
theorem o115 : ∀ (k0_t8 : Fin k0_t8_loop.trips), k0_off115 k0_t8 = ![k0_t8.val, 0, 0] := by decide +kernel
theorem o116 : ∀ (k0_t8 : Fin k0_t8_loop.trips), k0_off116 k0_t8 = ![0, 512 * k0_t8.val, 0] := by decide +kernel
theorem o117 : ∀ (k0_t8 : Fin k0_t8_loop.trips), k0_off117 k0_t8 = ![k0_t8.val, 0, 0] := by decide +kernel
theorem o118 (i : grid0.Coords) : k0_off118 i = ![(i 0).val, 1] := k0_off118_eq i
theorem o119 : ∀ (k0_t9 : Fin k0_t9_loop.trips), k0_off119 k0_t9 = ![k0_t9.val, 0, 0] := by decide +kernel
theorem o120 (i : grid0.Coords) : k0_off120 i = ![(i 0).val, 2] := k0_off120_eq i
theorem o121 : ∀ (k0_t9 : Fin k0_t9_loop.trips), k0_off121 k0_t9 = ![0, 512 * k0_t9.val, 0] := by decide +kernel
theorem o122 (i : grid0.Coords) : k0_off122 i = ![(i 0).val, 3] := k0_off122_eq i
theorem o123 : ∀ (k0_t9 : Fin k0_t9_loop.trips), k0_off123 k0_t9 = ![k0_t9.val, 0, 0] := by decide +kernel
theorem o124 (i : grid0.Coords) : k0_off124 i = ![(i 0).val, 4] := k0_off124_eq i
theorem o125 : ∀ (k0_t9 : Fin k0_t9_loop.trips), k0_off125 k0_t9 = ![0, k0_t9.val, 0] := by decide +kernel

end Cert.Proof.KernelIdeal
-- ==== Proof.Rel.lean ====
/-
  What each stage of the kernel does to its buffers, as relations between the buffers before and after.
-/
module

public import proofs.«01_k».proof.Proof.Mask
public import proofs.«01_k».proof.Proof.Offsets

@[expose] public section

noncomputable section

namespace Cert.Hoare

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type} {Λ : Labels}
variable {defs : Defs nD τ sig Val Λ} {c : Dev nD} {St : Type} {O : St → sProp (MT nD τ sig Unit Val ℕ (UR sig nD τ) ℕ)}

/-- `n` steps related by `R`, from `s` to `s'`. -/
def Chain (R : ℕ → St → St → Prop) (n : ℕ) (s s' : St) : Prop := ∃ f : ℕ → St, f 0 = s ∧ f n = s' ∧ ∀ j, j < n → R j (f j) (f (j + 1))

theorem Chain.zero (R : ℕ → St → St → Prop) (s : St) : Chain R 0 s s := ⟨fun _ => s, rfl, rfl, fun _ h => absurd h (Nat.not_lt_zero _)⟩

theorem Chain.succ {R : ℕ → St → St → Prop} {n : ℕ} {s s' s'' : St} (h : Chain R n s s') (h' : R n s' s'') : Chain R (n + 1) s s'' := by
  obtain ⟨f, h0, hn, hR⟩ := h
  refine ⟨fun j => if j ≤ n then f j else s'', ?_, ?_, ?_⟩
  · simp [h0]
  · simp
  · intro j hj
    rcases Nat.lt_or_ge j n with hl | hl
    · simp only [show j ≤ n by omega, show j + 1 ≤ n by omega, if_true]
      exact hR j hl
    · have e : j = n := by omega
      subst e
      simp only [le_refl, if_true, show ¬ j + 1 ≤ j by omega, if_false, hn]
      exact h'

/-- A chain keeps an invariant. -/
theorem Chain.ind {R : ℕ → St → St → Prop} {n : ℕ} {s s' : St} (h : Chain R n s s') (I : ℕ → St → Prop) (h0 : I 0 s)
    (hs : ∀ j a b, j < n → I j a → R j a b → I (j + 1) b) : I n s' := by
  obtain ⟨f, f0, fn, hR⟩ := h
  have : ∀ j, j ≤ n → I j (f j) := by
    intro j
    induction j with
    | zero => intro _; rw [f0]; exact h0
    | succ j ih => intro hj; exact hs j _ _ (by omega) (ih (by omega)) (hR j (by omega))
  rw [← fn]
  exact this n le_rfl

theorem Wp.forChain {σ : Type} {w : Nat} {L : Scf.Loop w} {hok : L.OK} {init : σ}
    {body : Fin L.trips → σ → Prog (TpuEff nD τ sig Val Λ .tc) σ} {s : St} {Q : σ → St → Prop}
    (R : ℕ → St → St → Prop)
    (hb : ∀ (k : Fin L.trips) (acc : σ) (s' : St), Wp defs c O (body k acc) s' fun _ s'' => R k.val s' s'')
    (hQ : ∀ acc s', Chain R L.trips s s' → Q acc s') : Wp defs c O (Scf.Loop.for L hok init body) s Q :=
  Wp.for (fun k _ s' => Chain R k s s') (Chain.zero R s)
    (fun k acc s' h => Wp.mono (hb k acc s') fun _ s'' h' => h.succ h') hQ

theorem Wp.forNone {σ : Type} {w : Nat} {L : Scf.Loop w} {hok : L.OK} {init : σ}
    {body : Fin L.trips → σ → Prog (TpuEff nD τ sig Val Λ .tc) σ} {s : St} {Q : σ → St → Prop}
    (h0 : L.trips = 0) (hQ : ∀ acc, Q acc s) : Wp defs c O (Scf.Loop.for L hok init body) s Q :=
  Wp.for (fun k _ s' => s' = s) rfl
    (fun k acc s' h => absurd k.isLt (by show ¬ k.val < L.trips; omega)) fun acc s' h => h ▸ hQ acc

/-- Forget everything about the buffers but `P`. -/
theorem Wp.rebase {α : Type} {p : Prog (TpuEff nD τ sig Val Λ .tc) α} {s : St} {Q : α → St → Prop} (P : St → Prop) (h : P s)
    (k : ∀ s', P s' → Wp defs c O p s' Q) : Wp defs c O p s Q := k s h

end Cert.Hoare

namespace Cert.Proof.KernelIdeal

open Cert.KernelIdeal Cert.KernelIdeal.Gen Cert.Hoare Cert.Grid
open Idealize.ShloMosaic hiding ix1 ix2 ix3 ix4 eq_ix1 eq_ix2 eq_ix3 eq_ix4

@[congr] theorem supc {n : ℕ} {f g : ℕ → EReal} (h : ∀ q, q < n → f q = g q) :
    ((Finset.range n).sup fun q => f q) = (Finset.range n).sup fun q => g q :=
  Finset.sup_congr rfl fun q hq => h q (Finset.mem_range.mp hq)
theorem cX {x y z w : EReal} (h : x = y) (k : z = w) : max x z = max y w := h ▸ k ▸ rfl
theorem cP {x y : EReal} (h : x = y) : Ideal.exp x = Ideal.exp y := h ▸ rfl
theorem cL {x y : EReal} (h : x = y) : Ideal.log x = Ideal.log y := h ▸ rfl
theorem cD {x y z w : EReal} (h : x = y) (k : z = w) : Ideal.div x z = Ideal.div y w := h ▸ k ▸ rfl
theorem cI {p q : Prop} [Decidable p] [Decidable q] {x y z w : EReal} (h : p ↔ q) (h1 : x = y) (h2 : z = w) :
    (if p then x else z) = if q then y else w := by
  subst h1 h2
  by_cases hp : p
  · rw [if_pos hp, if_pos (h.1 hp)]
  · rw [if_neg hp, if_neg fun hq => hp (h.2 hq)]

theorem ivA {n : ℕ} : Scalar.muli (Scf.iv 0#32 1#32 n) 512#32 = BitVec.ofNat 32 (512 * n) := by
  show (0#32 + BitVec.ofNat 32 n * 1#32) * 512#32 = _
  rw [BitVec.zero_add, BitVec.mul_one, Nat.mul_comm, BitVec.ofNat_mul]
theorem ivB {n m : ℕ} : Scalar.addi (Scalar.muli (Scf.iv 1#32 1#32 n) 512#32) (BitVec.ofNat 32 m) = BitVec.ofNat 32 (512 * (n + 1) + m) := by
  show (1#32 + BitVec.ofNat 32 n * 1#32) * 512#32 + BitVec.ofNat 32 m = _
  rw [BitVec.mul_one, BitVec.ofNat_add, Nat.mul_comm, BitVec.ofNat_mul, BitVec.ofNat_add, BitVec.add_comm 1#32]
theorem ivC : Scalar.muli 0#32 512#32 = BitVec.ofNat 32 0 := rfl

/-- The masked exponents of the diagonal tile of row tile `i`. -/
def Xd (s : St Ideal) (v2 : EReal) (b i r c : ℕ) : EReal := if c ≤ r then Xs s v2 b i r i c else ⊥

/-- The largest of them in a row. -/
def Mx (s : St Ideal) (v2 : EReal) (b i r : ℕ) : EReal :=
  (Finset.range 128).sup fun z => max (max (max (Xd s v2 b i r z) (Xd s v2 b i r (128 + z))) (Xd s v2 b i r (256 + z))) (Xd s v2 b i r (384 + z))

def Ed (s : St Ideal) (v2 : EReal) (b i r c : ℕ) : EReal := Ideal.exp2 (Xd s v2 b i r c - Mx s v2 b i r)

/-- The diagonal tile of row tile `i`, in slot `p`. -/
structure DiagPost (v2 : EReal) (b p i : ℕ) (s s' : St Ideal) : Prop where
  m : ∀ r z, r < 512 → z < 128 → g2 (a := 512) (b := 128) s'.a20 r z = Mx s v2 b i r
  e : ∀ p' j' r c, r < 512 → c < 512 → g4 (a := 2) (b := 8) (c := 512) (d := 512) s'.a12 p' j' r c
    = if p' = p ∧ j' = i then Ed s v2 b i r c else g4 (a := 2) (b := 8) (c := 512) (d := 512) s.a12 p' j' r c
  d : ∀ p' j' r c, r < 512 → c < 512 → g4 (a := 2) (b := 8) (c := 512) (d := 512) s'.a13 p' j' r c
    = if p' = p ∧ j' = i then Dp s (512 * i + r) (512 * i + c) else g4 (a := 2) (b := 8) (c := 512) (d := 512) s.a13 p' j' r c
  l : ∀ r z, r < 512 → z < 128 → g2 (a := 512) (b := 128) s'.a21 r z
    = Ed s v2 b i r z + Ed s v2 b i r (128 + z) + Ed s v2 b i r (256 + z) + Ed s v2 b i r (384 + z)
  dl : ∀ r z, r < 512 → z < 128 → g2 (a := 512) (b := 128) s'.a22 r z
    = Ed s v2 b i r z * Dp s (512 * i + r) (512 * i + z)
      + Ed s v2 b i r (128 + z) * Dp s (512 * i + r) (512 * i + (128 + z))
      + Ed s v2 b i r (256 + z) * Dp s (512 * i + r) (512 * i + (256 + z))
      + Ed s v2 b i r (384 + z) * Dp s (512 * i + r) (512 * i + (384 + z))
  qt : ∀ p' d r, d < 128 → r < 512 → g3 (a := 2) (b := 128) (c := 512) s'.a18 p' d r
    = if p' = p then g3 (a := 1) (b := 4096) (c := 128) s.a3 0 (512 * i + r) d else g3 (a := 2) (b := 128) (c := 512) s.a18 p' d r
  dt : ∀ p' d r, d < 128 → r < 512 → g3 (a := 2) (b := 128) (c := 512) s'.a19 p' d r
    = if p' = p then g3 (a := 1) (b := 4096) (c := 128) s.a6 0 (512 * i + r) d else g3 (a := 2) (b := 128) (c := 512) s.a19 p' d r
  fr : s' = { s with a12 := s'.a12, a13 := s'.a13, a18 := s'.a18, a19 := s'.a19, a20 := s'.a20, a21 := s'.a21, a22 := s'.a22 }

/-- The query-gradient accumulator is cleared. -/
structure ZeroPost (s s' : St Ideal) : Prop where
  z : ∀ r d, r < 512 → d < 128 → g2 (a := 512) (b := 128) s'.a16 r d = 0
  fr : s' = { s with a16 := s'.a16 }

/-- The query gradient of row tile `i` is written out. -/
structure DqPost (b i : ℕ) (s s' : St Ideal) : Prop where
  q : ∀ t d, t < 4096 → d < 128 → g3 (a := 1) (b := 4096) (c := 128) s'.a8 0 t d
    = if 512 * i ≤ t ∧ t < 512 * i + 512 then g2 (a := 512) (b := 128) s.a16 (t - 512 * i) d * g2 (a := 60) (b := 6) s.a1 b 1
      else g3 (a := 1) (b := 4096) (c := 128) s.a8 0 t d
  fr : s' = { s with a8 := s'.a8 }

/-- The normalisers of slot `p`, from the row sums. -/
structure FinPost (p : ℕ) (s s' : St Ideal) : Prop where
  r : ∀ p' r z, r < 512 → z < 128 → g3 (a := 2) (b := 512) (c := 128) s'.a23 p' r z
    = if p' = p then Ideal.div 1 (∑ u ∈ Finset.range 128, g2 (a := 512) (b := 128) s.a21 r u)
      else g3 (a := 2) (b := 512) (c := 128) s.a23 p' r z
  d : ∀ p' r z, r < 512 → z < 128 → g3 (a := 2) (b := 512) (c := 128) s'.a24 p' r z
    = if p' = p then (∑ u ∈ Finset.range 128, g2 (a := 512) (b := 128) s.a22 r u)
        * Ideal.div 1 (∑ u ∈ Finset.range 128, g2 (a := 512) (b := 128) s.a21 r u)
      else g3 (a := 2) (b := 512) (c := 128) s.a24 p' r z
  fr : s' = { s with a23 := s'.a23, a24 := s'.a24 }

/-- The row statistics are in the range the fast pass is meant for. -/
def Usual (s : St Ideal) : Prop :=
  (∀ r z, r < 512 → z < 128 → g2 (a := 512) (b := 128) s.a21 r z < ⊤) ∧
    ∀ r z, r < 512 → z < 128 → g2 (a := 512) (b := 128) s.a20 r z < ⊤ ∧ ⊥ < g2 (a := 512) (b := 128) s.a20 r z

/-- The careful pass starts. -/
structure CInit (i : ℕ) (s s' : St Ideal) : Prop where
  c : ∀ r z, r < 512 → z < 128 → g2 (a := 512) (b := 128) s'.a20 r z = g3 (a := 1) (b := 8) (c := 512) s.a7 0 i r
  m : ∀ r z, r < 512 → z < 128 → g2 (a := 512) (b := 128) s'.a21 r z = ⊥
  d : ∀ r z, r < 512 → z < 128 → g2 (a := 512) (b := 128) s'.a22 r z = 0
  fr : s' = { s with a20 := s'.a20, a21 := s'.a21, a22 := s'.a22 }

/-- A masked score of the careful pass. -/
def Xc (s : St Ideal) (b i r j c : ℕ) : EReal :=
  if 512 * j + c ≤ 512 * i + r then
    Sc s (512 * i + r) (512 * j + c) * g2 (a := 60) (b := 6) s.a1 b 5 + g2 (a := 512) (b := 128) s.a20 r (c % 128)
      - g3 (a := 1) (b := 8) (c := 512) s.a7 0 j c
  else ⊥

/-- One score tile of the careful pass. -/
structure CScore (b p i j : ℕ) (s s' : St Ideal) : Prop where
  e : ∀ p' j' r c, r < 512 → c < 512 → g4 (a := 2) (b := 8) (c := 512) (d := 512) s'.a12 p' j' r c
    = if p' = p ∧ j' = j then Xc s b i r j c else g4 (a := 2) (b := 8) (c := 512) (d := 512) s.a12 p' j' r c
  m : ∀ r z, r < 512 → z < 128 → g2 (a := 512) (b := 128) s'.a21 r z
    = max (max (max (max (g2 (a := 512) (b := 128) s.a21 r z) (Xc s b i r j z)) (Xc s b i r j (128 + z))) (Xc s b i r j (256 + z))) (Xc s b i r j (384 + z))
  fr : s' = { s with a12 := s'.a12, a21 := s'.a21 }

/-- Row maxima are spread, and the sum is cleared. -/
structure CMid (s s' : St Ideal) : Prop where
  m : ∀ r z, r < 512 → z < 128 → g2 (a := 512) (b := 128) s'.a21 r z = (Finset.range 128).sup fun u => g2 (a := 512) (b := 128) s.a21 r u
  l : ∀ r z, r < 512 → z < 128 → g2 (a := 512) (b := 128) s'.a20 r z = 0
  fr : s' = { s with a20 := s'.a20, a21 := s'.a21 }

/-- An exponential of the careful pass. -/
def Ec (s : St Ideal) (p j r c : ℕ) : EReal :=
  Ideal.exp (g4 (a := 2) (b := 8) (c := 512) (d := 512) s.a12 p j r c - g2 (a := 512) (b := 128) s.a21 r (c % 128))

def Fc (s : St Ideal) (p j r c : ℕ) : EReal := Ec s p j r c * g4 (a := 2) (b := 8) (c := 512) (d := 512) s.a13 p j r c

/-- One tile of exponentials of the careful pass. -/
structure CExp (p j : ℕ) (s s' : St Ideal) : Prop where
  e : ∀ p' j' r c, r < 512 → c < 512 → g4 (a := 2) (b := 8) (c := 512) (d := 512) s'.a12 p' j' r c
    = if p' = p ∧ j' = j then Ec s p j r c else g4 (a := 2) (b := 8) (c := 512) (d := 512) s.a12 p' j' r c
  l : ∀ r z, r < 512 → z < 128 → g2 (a := 512) (b := 128) s'.a20 r z
    = g2 (a := 512) (b := 128) s.a20 r z + Ec s p j r z + Ec s p j r (128 + z) + Ec s p j r (256 + z) + Ec s p j r (384 + z)
  dl : ∀ r z, r < 512 → z < 128 → g2 (a := 512) (b := 128) s'.a22 r z
    = g2 (a := 512) (b := 128) s.a22 r z + Fc s p j r z + Fc s p j r (128 + z) + Fc s p j r (256 + z) + Fc s p j r (384 + z)
  fr : s' = { s with a12 := s'.a12, a20 := s'.a20, a22 := s'.a22 }

/-- The normalisers of slot `p`, from the careful statistics. -/
structure CFin (p : ℕ) (s s' : St Ideal) : Prop where
  r : ∀ p' r z, r < 512 → z < 128 → g3 (a := 2) (b := 512) (c := 128) s'.a23 p' r z
    = if p' = p then Ideal.exp (g2 (a := 512) (b := 128) s.a21 r z - (g2 (a := 512) (b := 128) s.a21 r z
        + Ideal.log (∑ u ∈ Finset.range 128, g2 (a := 512) (b := 128) s.a20 r u)))
      else g3 (a := 2) (b := 512) (c := 128) s.a23 p' r z
  d : ∀ p' r z, r < 512 → z < 128 → g3 (a := 2) (b := 512) (c := 128) s'.a24 p' r z
    = if p' = p then Ideal.exp (g2 (a := 512) (b := 128) s.a21 r z - (g2 (a := 512) (b := 128) s.a21 r z
        + Ideal.log (∑ u ∈ Finset.range 128, g2 (a := 512) (b := 128) s.a20 r u))) * ∑ u ∈ Finset.range 128, g2 (a := 512) (b := 128) s.a22 r u
      else g3 (a := 2) (b := 512) (c := 128) s.a24 p' r z
  fr : s' = { s with a23 := s'.a23, a24 := s'.a24 }

/-- The careful pass of row tile `i`. -/
def Careful (b p i : ℕ) (s s' : St Ideal) : Prop :=
  ∃ s1 s2 s3 s4, CInit i s s1 ∧ Chain (CScore b p i) (i + 1) s1 s2 ∧ CMid s2 s3 ∧ Chain (CExp p) (i + 1) s3 s4 ∧ CFin p s4 s'

/-- The end of row tile `i`: the fast normalisers, and the careful pass if they are not usable. -/
def Finish (b p i : ℕ) (s s' : St Ideal) : Prop := ∃ s1, FinPost p s s1 ∧ (Usual s ∧ s' = s1 ∨ Careful b p i s1 s')

def FwdBwd (v2 : EReal) (b p i q j : ℕ) (s s' : St Ideal) : Prop :=
  FwdPost v2 b p i j s s' ∧ BwdPost q j s s' ∧
    s' = { s with a12 := s'.a12, a13 := s'.a13, a14 := s'.a14, a15 := s'.a15, a16 := s'.a16, a17 := s'.a17, a21 := s'.a21, a22 := s'.a22 }

/-- One trip of the main loop: row tile `n + 1` forward, row tile `n` backward. -/
def Step (v2 : EReal) (b n : ℕ) (s s' : St Ideal) : Prop :=
  ∃ s1 s2 s3 s4, DiagPost v2 b ((n + 1) % 2) (n + 1) s s1 ∧ ZeroPost s1 s2 ∧
    Chain (FwdBwd v2 b ((n + 1) % 2) (n + 1) (n % 2)) (n + 1) s2 s3 ∧ DqPost b n s3 s4 ∧ Finish b ((n + 1) % 2) (n + 1) s4 s'

/-- The accumulators are cleared. -/
structure ClearPost (s s' : St Ideal) : Prop where
  k : ∀ j d c, j < 8 → d < 128 → c < 512 → g3 (a := 8) (b := 128) (c := 512) s'.a14 j d c = 0
  v : ∀ j d c, j < 8 → d < 128 → c < 512 → g3 (a := 8) (b := 128) (c := 512) s'.a15 j d c = 0
  c : ∀ j z c, j < 8 → z < 8 → c < 512 → g3 (a := 8) (b := 8) (c := 512) s'.a17 j z c = 0
  fr : s' = { s with a14 := s'.a14, a15 := s'.a15, a17 := s'.a17 }

def LastBwd (j : ℕ) (s s' : St Ideal) : Prop :=
  BwdPost 1 j s s' ∧ s' = { s with a14 := s'.a14, a15 := s'.a15, a16 := s'.a16, a17 := s'.a17 }

/-- What one trip of the output loop writes. -/
structure OutPost (b j : ℕ) (s s' : St Ideal) : Prop where
  k : ∀ t d, t < 4096 → d < 128 → g3 (a := 1) (b := 4096) (c := 128) s'.a9 0 t d
    = if 512 * j ≤ t ∧ t < 512 * j + 512 then g3 (a := 8) (b := 128) (c := 512) s.a14 j d (t - 512 * j) * g2 (a := 60) (b := 6) s.a1 b 2
      else g3 (a := 1) (b := 4096) (c := 128) s.a9 0 t d
  v : ∀ t d, t < 4096 → d < 128 → g3 (a := 1) (b := 4096) (c := 128) s'.a10 0 t d
    = if 512 * j ≤ t ∧ t < 512 * j + 512 then g3 (a := 8) (b := 128) (c := 512) s.a15 j d (t - 512 * j) * g2 (a := 60) (b := 6) s.a1 b 3
      else g3 (a := 1) (b := 4096) (c := 128) s.a10 0 t d
  c : ∀ j' c, j' < 8 → c < 512 → g3 (a := 1) (b := 8) (c := 512) s'.a11 0 j' c
    = if j' = j then (0 - ∑ z ∈ Finset.range 8, g3 (a := 8) (b := 8) (c := 512) s.a17 j z c) * g2 (a := 60) (b := 6) s.a1 b 4
      else g3 (a := 1) (b := 8) (c := 512) s.a11 0 j' c
  fr : s' = { s with a9 := s'.a9, a10 := s'.a10, a11 := s'.a11 }

/-- The whole kernel at one grid point. -/
def Whole (b : ℕ) (s s' : St Ideal) : Prop :=
  ∃ v2, v2 = g2 (a := 60) (b := 6) s.a1 b 0 * LG ∧
  ∃ s1 s2 s3 s4 s5 s6 s7, ClearPost s s1 ∧ DiagPost v2 b 0 0 s1 s2 ∧ Finish b 0 0 s2 s3 ∧ Chain (Step v2 b) 7 s3 s4 ∧ ZeroPost s4 s5 ∧
    Chain LastBwd 8 s5 s6 ∧ DqPost b 7 s6 s7 ∧ Chain (OutPost b) 8 s7 s'

end Cert.Proof.KernelIdeal
-- ==== Proof.Rel2.lean ====
/-
  Transposes between the two shapes the kernel uses, trip counts, and the test that picks the careful pass.
-/
module

public import proofs.«01_k».proof.Proof.Rel
public import proofs.«01_k».proof.Proof.Walk

@[expose] public section

noncomputable section

namespace Cert.Hoare

open Idealize.ShloMosaic Idealize.ShloMosaic.TcCoe Idealize.ShloMosaic.Tactic
open Idealize.SL Idealize.SL.RA Idealize.SL.BI
open Idealize.SL.BI.BIBase Idealize.SL.Sem
open Idealize.ShloMosaic.Rounds

variable {nD : Nat} {τ : Topo} {sig : RefSig} {Val : EltTy → Type} {Λ : Labels}
variable {defs : Defs nD τ sig Val Λ} {c : Dev nD} {St : Type} {O : St → sProp (MT nD τ sig Unit Val ℕ (UR sig nD τ) ℕ)}

theorem Chain.one {St : Type} {R : ℕ → St → St → Prop} {s s' : St} (h : R 0 s s') : Chain R (0 + 1) s s' := (Chain.zero R s).succ h

theorem Wp.ite {α : Type} {C : Prop} [Decidable C] {p q : Prog (TpuEff nD τ sig Val Λ .tc) α} {s : St} {Q : α → St → Prop}
    (h1 : C → Wp defs c O p s Q) (h2 : ¬C → Wp defs c O q s Q) : Wp defs c O (if C then p else q) s Q := by
  by_cases h : C
  · rw [if_pos h]; exact h1 h
  · rw [if_neg h]; exact h2 h

end Cert.Hoare

namespace Cert.Proof.KernelIdeal

open Cert.KernelIdeal Cert.KernelIdeal.Gen Cert.Hoare Cert.Grid
open Idealize.ShloMosaic hiding ix1 ix2 ix3 ix4 eq_ix1 eq_ix2 eq_ix3 eq_ix4

theorem tr_a (x : S512x128.Idx → EReal) (h : S512x128.Transposes [1, 0] S128x512) {i j : ℕ} (hi : i < 128) (hj : j < 512) :
    g2 (a := 128) (b := 512) (transpose S128x512 [1, 0] x h) i j = g2 (a := 512) (b := 128) x j i := g2_transpose _ _ hi hj
theorem tr_b (x : S128x512.Idx → EReal) (h : S128x512.Transposes [1, 0] S512x128) {i j : ℕ} (hi : i < 512) (hj : j < 128) :
    g2 (a := 512) (b := 128) (transpose S512x128 [1, 0] x h) i j = g2 (a := 128) (b := 512) x j i := g2_transpose _ _ hi hj

theorem g3_fill1 {v : EReal} (h : S8x128x512.ShapeCasts S8x128x512) {i j k : ℕ} (hi : i < 8) (hj : j < 128) (hk : k < 512) :
    g3 (a := 8) (b := 128) (c := 512) (shapeCast S8x128x512 (broadcast S8x128x512 v) h) i j k = v := by
  unfold g3
  rw [dif_pos ⟨hi, hj, hk⟩]
  rfl
theorem g3_fill2 {v : EReal} (h : S8x8x512.ShapeCasts S8x8x512) {i j k : ℕ} (hi : i < 8) (hj : j < 8) (hk : k < 512) :
    g3 (a := 8) (b := 8) (c := 512) (shapeCast S8x8x512 (broadcast S8x8x512 v) h) i j k = v := by
  unfold g3
  rw [dif_pos ⟨hi, hj, hk⟩]
  rfl

/-- What each vector operation of the careful passes reads at an entry, as one statement to rewrite with. -/
def readsA :=
  And.intro @g2_mulf <| And.intro @g2_addf <| And.intro @g2_subf <| And.intro @g2_divf <| And.intro @g2_maximumf <|
  And.intro @g2_exp2 <| And.intro @g2_exp <| And.intro @g2_log <| And.intro @g2_broadcast <| And.intro @g2_row <|
  And.intro @g2_col <| And.intro @g2_slice <| And.intro @g2_cast32 <| And.intro @g2_cast42 <| And.intro @g3_cast23 <|
  And.intro @g4_cast24 <| And.intro @g2_cast22 <| And.intro @g2_cast12 <| And.intro @g2_cast12r <| And.intro
  @g2_truncf <| And.intro @g2_extf <| And.intro @tr_a <| And.intro @tr_b <| And.intro @dot_s <| And.intro
  @g2_matmul_nt <| And.intro @g2_concat4 <| And.intro @g2_constant <| And.intro @rowmax256 <| And.intro @rowmax512 <|
  And.intro @rowsum512 <| And.intro @g2_mask <| And.intro @g2_mask3 <| And.intro @ivA <| And.intro @ivB <| And.intro
  @ivC <| And.intro @neg_named <| And.intro @ninf_bits <| And.intro @one_bits <| And.intro @zero_bits' <| And.intro
  @zero_bits <| (@zero_add EReal _)

theorem none3 : ∀ k0_t1, (k0_t3_loop k0_t1).trips = 0 := by decide +kernel
theorem none5 : ∀ k0_t1, (k0_t5_loop k0_t1).trips = 0 := by decide +kernel
theorem none7 : ∀ k0_t1, (k0_t7_loop k0_t1).trips = 0 := by decide +kernel
theorem trips2 : ∀ k0_t1 : Fin k0_t1_loop.trips, (k0_t2_loop k0_t1).trips = k0_t1.val + 1 := by decide +kernel
theorem trips4 : ∀ k0_t1 : Fin k0_t1_loop.trips, (k0_t4_loop k0_t1).trips = k0_t1.val + 1 + 1 := by decide +kernel
theorem trips6 : ∀ k0_t1 : Fin k0_t1_loop.trips, (k0_t6_loop k0_t1).trips = k0_t1.val + 1 + 1 := by decide +kernel

theorem bits_and (a b : BitVec 1)
    (h : ¬ Scalar.cmpi .ne (Scalar.extui (Scalar.xori (Scalar.andi a b) 1#1) : BitVec 32) 0#32 = 1#1) : a = 1#1 ∧ b = 1#1 := by
  revert h
  revert a b
  decide

theorem abs_lt_top {x : EReal} (h : max x (-x) < ⊤) : x < ⊤ ∧ ⊥ < x := by
  refine ⟨lt_of_le_of_lt (le_max_left _ _) h, bot_lt_iff_ne_bot.2 fun e => ?_⟩
  subst e
  simp at h

/-- Not taking the careful pass says that the sums and the maxima are finite. -/
theorem usual_of (x y : Vec Ideal S512x128 .f32)
    (h : ¬ Scalar.cmpi .ne (Scalar.extui (Scalar.xori (Scalar.andi (Scalar.cmpf .olt (k0_pay7 x) (Scalar.ofBits (F := Ideal) .f32 0x67800000#32))
      (Scalar.cmpf .olt (k0_pay8 y) (Scalar.ofBits (F := Ideal) .f32 0x45000000#32))) 1#1) : BitVec 32) 0#32 = 1#1) :
    (∀ r z, r < 512 → z < 128 → g2 (a := 512) (b := 128) x r z < ⊤) ∧
      ∀ r z, r < 512 → z < 128 → g2 (a := 512) (b := 128) y r z < ⊤ ∧ ⊥ < g2 (a := 512) (b := 128) y r z := by
  obtain ⟨h1, h2⟩ := bits_and _ _ h
  have lt_of : ∀ {u v : EReal}, Scalar.cmpf (F := Ideal) (φ := .f32) .olt u v = 1#1 → u < v := by
    intro u v h
    by_contra hn
    have e : Scalar.cmpf (F := Ideal) (φ := .f32) .olt u v = 0#1 := by
      show BitVec.ofBool (decide (u < v)) = 0#1
      rw [decide_eq_false hn]; rfl
    rw [e] at h
    exact absurd h (by decide)
  refine ⟨fun r z hr hz => ?_, fun r z hr hz => ?_⟩
  · exact lt_of_le_of_lt (le_wholemax x _ _ _ _ hr hz _ _) (lt_of_lt_of_le (lt_of h1) le_top)
  · have := lt_of_le_of_lt (le_wholemax (absf y) _ _ _ _ hr hz _ _) (lt_of_lt_of_le (lt_of h2) le_top)
    refine abs_lt_top (x := g2 (a := 512) (b := 128) y r z) ?_
    rw [g2_of _ hr hz] at this ⊢
    exact this

theorem usual_rd {s : St Ideal} (x y : Vec Ideal S512x128 .f32)
    (hx : R2 (s0 := 512) (s1 := 128) x s.a21 0 0) (hy : R2 (s0 := 512) (s1 := 128) y s.a20 0 0)
    (h : ¬ Scalar.cmpi .ne (Scalar.extui (Scalar.xori (Scalar.andi (Scalar.cmpf .olt (k0_pay7 x) (Scalar.ofBits (F := Ideal) .f32 0x67800000#32))
      (Scalar.cmpf .olt (k0_pay8 y) (Scalar.ofBits (F := Ideal) .f32 0x45000000#32))) 1#1) : BitVec 32) 0#32 = 1#1) : Usual s := by
  obtain ⟨h1, h2⟩ := usual_of x y h
  refine ⟨fun r z hr hz => ?_, fun r z hr hz => ?_⟩
  · have := h1 r z hr hz
    rw [hx r z hr hz, Nat.zero_add, Nat.zero_add] at this
    exact this
  · have := h2 r z hr hz
    rw [hy r z hr hz, Nat.zero_add, Nat.zero_add] at this
    exact this

theorem pay468 {s : St Ideal} {b : ℕ} {v1 v2 : EReal} (h1 : v1 = g2 (a := 60) (b := 6) s.a1 b 0) (h2 : k0_pay468 (F := Ideal) v1 = v2) :
    v2 = g2 (a := 60) (b := 6) s.a1 b 0 * LG := by
  rw [← h2, ← h1]; rfl

theorem trips1 : k0_t1_loop.trips = 7 := by decide +kernel
theorem trips8 : k0_t8_loop.trips = 8 := by decide +kernel
theorem trips9 : k0_t9_loop.trips = 8 := by decide +kernel

end Cert.Proof.KernelIdeal
-- ==== Proof.T0Vals.lean ====
/-
  The buffers after each part of the kernel outside its loops, entry by entry.
-/
module

public import proofs.«01_k».proof.Proof.Rel2

@[expose] public section

set_option maxRecDepth 65536
set_option maxHeartbeats 1000000

noncomputable section

namespace Cert.Proof.KernelIdeal

open Cert.KernelIdeal Cert.KernelIdeal.Gen Cert.Hoare Cert.Grid
open Idealize.ShloMosaic hiding ix1 ix2 ix3 ix4 eq_ix1 eq_ix2 eq_ix3 eq_ix4
open Idealize.ShloMosaic.TcCoe Idealize.ShloMosaic.Tactic
open Idealize.SL Idealize.SL.RA Idealize.SL.BI
open Idealize.SL.Sem
open Idealize.ShloMosaic.Rounds

section

variable {s : St Ideal} {i : grid0.Coords} {v2 : EReal} (X14_1 : S8x128x512.Idx → EReal) (hX14_1 : W3 X14_1 s.a14 (k0_pay469 (F := Ideal)) 0 0 0) (X15_1 : S8x128x512.Idx → EReal) (hX15_1 : W3 X15_1 s.a15 (k0_pay470 (F := Ideal)) 0 0 0) (X17_1 : S8x8x512.Idx → EReal) (hX17_1 : W3 X17_1 s.a17 (k0_pay471 (F := Ideal)) 0 0 0) (v16 : EReal) (hv16 : v16 = g2 s.a2 ((i 0).val) 0) (v17 : S1x1x512.Idx → EReal) (hv17 : R3 v17 s.a7 0 0 0) (v23 : S1x256x128.Idx → EReal) (hv23 : R3 v23 s.a3 0 0 0) (v25 : S1x512x128.Idx → EReal) (hv25 : R3 v25 s.a4 0 0 0) (X20_1 : S512x128.Idx → EReal) (hX20_1 : W2 X20_1 s.a20 (k0_pay482 (F := Ideal) k0_pay475 (iota .tc S256x128 32 [1] iota_S256x128_d1_w32) (k0_pay476 (F := Ideal) v2 (k0_pay472 (F := Ideal) v16 v17) (k0_pay473 (F := Ideal) v23 v25)) (k0_pay477 (F := Ideal) v2 (k0_pay472 (F := Ideal) v16 v17) (k0_pay473 (F := Ideal) v23 v25)) (k0_pay478 (F := Ideal) v2 (k0_pay472 (F := Ideal) v16 v17) (k0_pay473 (F := Ideal) v23 v25)) (k0_pay479 (F := Ideal) v2 (k0_pay472 (F := Ideal) v16 v17) (k0_pay473 (F := Ideal) v23 v25))) 0 0) (X12_1 : S2x8x512x512.Idx → EReal) (hX12_1 : W4 X12_1 s.a12 (k0_pay490 (F := Ideal) (k0_pay489 (F := Ideal) k0_pay475 (iota .tc S256x128 32 [1] iota_S256x128_d1_w32) (k0_pay476 (F := Ideal) v2 (k0_pay472 (F := Ideal) v16 v17) (k0_pay473 (F := Ideal) v23 v25)) (k0_pay477 (F := Ideal) v2 (k0_pay472 (F := Ideal) v16 v17) (k0_pay473 (F := Ideal) v23 v25)) (k0_pay478 (F := Ideal) v2 (k0_pay472 (F := Ideal) v16 v17) (k0_pay473 (F := Ideal) v23 v25)) (k0_pay479 (F := Ideal) v2 (k0_pay472 (F := Ideal) v16 v17) (k0_pay473 (F := Ideal) v23 v25)))) 0 0 0 0) (v28 : S1x256x128.Idx → EReal) (hv28 : R3 v28 s.a6 0 0 0) (v30 : S1x512x128.Idx → EReal) (hv30 : R3 v30 s.a5 0 0 0) (X13_1 : S2x8x512x512.Idx → EReal) (hX13_1 : W4 X13_1 s.a13 (k0_pay491 (F := Ideal) (k0_pay474 (F := Ideal) v28 v30)) 0 0 0 0) (X21_1 : S512x128.Idx → EReal) (hX21_1 : W2 X21_1 s.a21 (k0_pay487 (F := Ideal) k0_pay475 (iota .tc S256x128 32 [1] iota_S256x128_d1_w32) (k0_pay476 (F := Ideal) v2 (k0_pay472 (F := Ideal) v16 v17) (k0_pay473 (F := Ideal) v23 v25)) (k0_pay477 (F := Ideal) v2 (k0_pay472 (F := Ideal) v16 v17) (k0_pay473 (F := Ideal) v23 v25)) (k0_pay478 (F := Ideal) v2 (k0_pay472 (F := Ideal) v16 v17) (k0_pay473 (F := Ideal) v23 v25)) (k0_pay479 (F := Ideal) v2 (k0_pay472 (F := Ideal) v16 v17) (k0_pay473 (F := Ideal) v23 v25))) 0 0) (X22_1 : S512x128.Idx → EReal) (hX22_1 : W2 X22_1 s.a22 (k0_pay488 (F := Ideal) (k0_pay474 (F := Ideal) v28 v30) k0_pay475 (iota .tc S256x128 32 [1] iota_S256x128_d1_w32) (k0_pay476 (F := Ideal) v2 (k0_pay472 (F := Ideal) v16 v17) (k0_pay473 (F := Ideal) v23 v25)) (k0_pay477 (F := Ideal) v2 (k0_pay472 (F := Ideal) v16 v17) (k0_pay473 (F := Ideal) v23 v25)) (k0_pay478 (F := Ideal) v2 (k0_pay472 (F := Ideal) v16 v17) (k0_pay473 (F := Ideal) v23 v25)) (k0_pay479 (F := Ideal) v2 (k0_pay472 (F := Ideal) v16 v17) (k0_pay473 (F := Ideal) v23 v25))) 0 0) (v126 : S1x256x128.Idx → EReal) (hv126 : R3 v126 s.a3 0 256 0) (v128 : S1x512x128.Idx → EReal) (hv128 : R3 v128 s.a4 0 0 0) (X20_2 : S512x128.Idx → EReal) (hX20_2 : W2 X20_2 X20_1 (k0_pay501 (F := Ideal) v2 (k0_pay472 (F := Ideal) v16 v17) (k0_pay492 (F := Ideal) v126 v128) k0_pay494 (iota .tc S256x128 32 [1] iota_S256x128_d1_w32) (k0_pay495 (F := Ideal) v2 (k0_pay472 (F := Ideal) v16 v17) v126 v128) (k0_pay496 (F := Ideal) v2 (k0_pay472 (F := Ideal) v16 v17) v126 v128)) 256 0) (X12_2 : S2x8x512x512.Idx → EReal) (hX12_2 : W4 X12_2 X12_1 (k0_pay509 (F := Ideal) (k0_pay502 (F := Ideal) v2 (k0_pay472 (F := Ideal) v16 v17) (k0_pay492 (F := Ideal) v126 v128) k0_pay494 (iota .tc S256x128 32 [1] iota_S256x128_d1_w32) (k0_pay495 (F := Ideal) v2 (k0_pay472 (F := Ideal) v16 v17) v126 v128) (k0_pay496 (F := Ideal) v2 (k0_pay472 (F := Ideal) v16 v17) v126 v128)) (k0_pay503 (F := Ideal) v2 (k0_pay472 (F := Ideal) v16 v17) (k0_pay492 (F := Ideal) v126 v128) k0_pay494 (iota .tc S256x128 32 [1] iota_S256x128_d1_w32) (k0_pay495 (F := Ideal) v2 (k0_pay472 (F := Ideal) v16 v17) v126 v128) (k0_pay496 (F := Ideal) v2 (k0_pay472 (F := Ideal) v16 v17) v126 v128)) (k0_pay504 (F := Ideal) v2 (k0_pay472 (F := Ideal) v16 v17) (k0_pay492 (F := Ideal) v126 v128) k0_pay494 (iota .tc S256x128 32 [1] iota_S256x128_d1_w32) (k0_pay495 (F := Ideal) v2 (k0_pay472 (F := Ideal) v16 v17) v126 v128) (k0_pay496 (F := Ideal) v2 (k0_pay472 (F := Ideal) v16 v17) v126 v128)) (k0_pay505 (F := Ideal) v2 (k0_pay472 (F := Ideal) v16 v17) (k0_pay492 (F := Ideal) v126 v128) k0_pay494 (iota .tc S256x128 32 [1] iota_S256x128_d1_w32) (k0_pay495 (F := Ideal) v2 (k0_pay472 (F := Ideal) v16 v17) v126 v128) (k0_pay496 (F := Ideal) v2 (k0_pay472 (F := Ideal) v16 v17) v126 v128))) 0 0 256 0) (v131 : S1x256x128.Idx → EReal) (hv131 : R3 v131 s.a6 0 256 0) (v133 : S1x512x128.Idx → EReal) (hv133 : R3 v133 s.a5 0 0 0) (X13_2 : S2x8x512x512.Idx → EReal) (hX13_2 : W4 X13_2 X13_1 (k0_pay510 (F := Ideal) (k0_pay493 (F := Ideal) v131 v133)) 0 0 256 0) (X21_2 : S512x128.Idx → EReal) (hX21_2 : W2 X21_2 X21_1 (k0_pay507 (F := Ideal) (k0_pay506 (F := Ideal) v2 (k0_pay472 (F := Ideal) v16 v17) (k0_pay492 (F := Ideal) v126 v128) k0_pay494 (iota .tc S256x128 32 [1] iota_S256x128_d1_w32) (k0_pay495 (F := Ideal) v2 (k0_pay472 (F := Ideal) v16 v17) v126 v128) (k0_pay496 (F := Ideal) v2 (k0_pay472 (F := Ideal) v16 v17) v126 v128))) 256 0) (X22_2 : S512x128.Idx → EReal) (hX22_2 : W2 X22_2 X22_1 (k0_pay508 (F := Ideal) (k0_pay493 (F := Ideal) v131 v133) (k0_pay502 (F := Ideal) v2 (k0_pay472 (F := Ideal) v16 v17) (k0_pay492 (F := Ideal) v126 v128) k0_pay494 (iota .tc S256x128 32 [1] iota_S256x128_d1_w32) (k0_pay495 (F := Ideal) v2 (k0_pay472 (F := Ideal) v16 v17) v126 v128) (k0_pay496 (F := Ideal) v2 (k0_pay472 (F := Ideal) v16 v17) v126 v128)) (k0_pay503 (F := Ideal) v2 (k0_pay472 (F := Ideal) v16 v17) (k0_pay492 (F := Ideal) v126 v128) k0_pay494 (iota .tc S256x128 32 [1] iota_S256x128_d1_w32) (k0_pay495 (F := Ideal) v2 (k0_pay472 (F := Ideal) v16 v17) v126 v128) (k0_pay496 (F := Ideal) v2 (k0_pay472 (F := Ideal) v16 v17) v126 v128)) (k0_pay504 (F := Ideal) v2 (k0_pay472 (F := Ideal) v16 v17) (k0_pay492 (F := Ideal) v126 v128) k0_pay494 (iota .tc S256x128 32 [1] iota_S256x128_d1_w32) (k0_pay495 (F := Ideal) v2 (k0_pay472 (F := Ideal) v16 v17) v126 v128) (k0_pay496 (F := Ideal) v2 (k0_pay472 (F := Ideal) v16 v17) v126 v128)) (k0_pay505 (F := Ideal) v2 (k0_pay472 (F := Ideal) v16 v17) (k0_pay492 (F := Ideal) v126 v128) k0_pay494 (iota .tc S256x128 32 [1] iota_S256x128_d1_w32) (k0_pay495 (F := Ideal) v2 (k0_pay472 (F := Ideal) v16 v17) v126 v128) (k0_pay496 (F := Ideal) v2 (k0_pay472 (F := Ideal) v16 v17) v126 v128))) 256 0) (v229 : S1x512x128.Idx → EReal) (hv229 : R3 v229 s.a3 0 0 0) (X18_1 : S2x128x512.Idx → EReal) (hX18_1 : W3 X18_1 s.a18 (k0_pay511 (F := Ideal) v229) 0 0 0) (v236 : S1x512x128.Idx → EReal) (hv236 : R3 v236 s.a6 0 0 0) (X19_1 : S2x128x512.Idx → EReal) (hX19_1 : W3 X19_1 s.a19 (k0_pay513 (F := Ideal) (k0_pay512 (F := Ideal) v236)) 0 0 0) (v243 : S512x128.Idx → EReal) (hv243 : R2 v243 s.a21 0 0) (X23_1 : S2x512x128.Idx → EReal) (hX23_1 : W3 X23_1 s.a23 (k0_pay515 (F := Ideal) v243) 0 0 0) (v246 : S512x128.Idx → EReal) (hv246 : R2 v246 s.a22 0 0) (X24_1 : S2x512x128.Idx → EReal) (hX24_1 : W3 X24_1 s.a24 (k0_pay516 (F := Ideal) v243 v246) 0 0 0) (v295 : S1x1x512.Idx → EReal) (hv295 : R3 v295 s.a7 0 0 0) (X20_3 : S512x128.Idx → EReal) (hX20_3 : W2 X20_3 s.a20 (k0_pay21 (F := Ideal) v295) 0 0) (X21_3 : S512x128.Idx → EReal) (hX21_3 : W2 X21_3 s.a21 (k0_pay22 (F := Ideal)) 0 0) (X22_3 : S512x128.Idx → EReal) (hX22_3 : W2 X22_3 s.a22 (k0_pay23 (F := Ideal)) 0 0) (v312 : S1x1x512.Idx → EReal) (hv312 : R3 v312 s.a7 0 0 0) (v314 : S1x256x128.Idx → EReal) (hv314 : R3 v314 s.a3 0 0 0) (v318 : S1x512x128.Idx → EReal) (hv318 : R3 v318 s.a4 0 0 0) (v330 : EReal) (hv330 : v330 = g2 s.a1 ((i 0).val) 5) (v333 : S256x128.Idx → EReal) (hv333 : R2 v333 s.a20 0 0) (X12_3 : S2x8x512x512.Idx → EReal) (hX12_3 : W4 X12_3 s.a12 (k0_pay30 (F := Ideal) (k0_pay24 (F := Ideal) v312) k0_pay26 k0_pay27 (k0_pay28 (F := Ideal) v314 v318) v330 v333) 0 0 0 0) (v347 : S256x128.Idx → EReal) (hv347 : R2 v347 s.a21 0 0) (X21_4 : S512x128.Idx → EReal) (hX21_4 : W2 X21_4 s.a21 (k0_pay31 (F := Ideal) (k0_pay24 (F := Ideal) v312) k0_pay26 k0_pay27 (k0_pay28 (F := Ideal) v314 v318) v330 v333 v347) 0 0) (v354 : EReal) (hv354 : v354 = g2 s.a1 ((i 0).val) 5) (v357 : S256x128.Idx → EReal) (hv357 : R2 v357 s.a20 0 0) (X12_4 : S2x8x512x512.Idx → EReal) (hX12_4 : W4 X12_4 X12_3 (k0_pay33 (F := Ideal) (k0_pay32 (F := Ideal) (k0_pay24 (F := Ideal) v312) (k0_pay25 (F := Ideal) v314 v318) k0_pay26 k0_pay27 v354 v357)) 0 0 0 128) (v371 : S256x128.Idx → EReal) (hv371 : R2 v371 X21_4 0 0) (X21_5 : S512x128.Idx → EReal) (hX21_5 : W2 X21_5 X21_4 (k0_pay34 (F := Ideal) (k0_pay32 (F := Ideal) (k0_pay24 (F := Ideal) v312) (k0_pay25 (F := Ideal) v314 v318) k0_pay26 k0_pay27 v354 v357) v371) 0 0) (v378 : EReal) (hv378 : v378 = g2 s.a1 ((i 0).val) 5) (v381 : S256x128.Idx → EReal) (hv381 : R2 v381 s.a20 0 0) (X12_5 : S2x8x512x512.Idx → EReal) (hX12_5 : W4 X12_5 X12_4 (k0_pay36 (F := Ideal) (k0_pay24 (F := Ideal) v312) (k0_pay25 (F := Ideal) v314 v318) k0_pay26 k0_pay27 v378 v381) 0 0 0 256) (v395 : S256x128.Idx → EReal) (hv395 : R2 v395 X21_5 0 0) (X21_6 : S512x128.Idx → EReal) (hX21_6 : W2 X21_6 X21_5 (k0_pay37 (F := Ideal) (k0_pay24 (F := Ideal) v312) (k0_pay25 (F := Ideal) v314 v318) k0_pay26 k0_pay27 v378 v381 v395) 0 0) (v402 : EReal) (hv402 : v402 = g2 s.a1 ((i 0).val) 5) (v405 : S256x128.Idx → EReal) (hv405 : R2 v405 s.a20 0 0) (X12_6 : S2x8x512x512.Idx → EReal) (hX12_6 : W4 X12_6 X12_5 (k0_pay40 (F := Ideal) (k0_pay24 (F := Ideal) v312) k0_pay26 k0_pay27 (k0_pay38 (F := Ideal) (k0_pay25 (F := Ideal) v314 v318) v402) v405) 0 0 0 384) (v419 : S256x128.Idx → EReal) (hv419 : R2 v419 X21_6 0 0) (X21_7 : S512x128.Idx → EReal) (hX21_7 : W2 X21_7 X21_6 (k0_pay41 (F := Ideal) (k0_pay24 (F := Ideal) v312) k0_pay26 k0_pay27 (k0_pay38 (F := Ideal) (k0_pay25 (F := Ideal) v314 v318) v402) v405 v419) 0 0) (v424 : S1x256x128.Idx → EReal) (hv424 : R3 v424 s.a3 0 256 0) (v428 : S1x512x128.Idx → EReal) (hv428 : R3 v428 s.a4 0 0 0) (v440 : EReal) (hv440 : v440 = g2 s.a1 ((i 0).val) 5) (v443 : S256x128.Idx → EReal) (hv443 : R2 v443 s.a20 256 0) (X12_7 : S2x8x512x512.Idx → EReal) (hX12_7 : W4 X12_7 X12_6 (k0_pay47 (F := Ideal) (k0_pay24 (F := Ideal) v312) k0_pay43 (k0_pay44 0#32) (k0_pay45 (F := Ideal) v424 v428 v440) v443) 0 0 256 0) (v457 : S256x128.Idx → EReal) (hv457 : R2 v457 X21_7 256 0) (X21_8 : S512x128.Idx → EReal) (hX21_8 : W2 X21_8 X21_7 (k0_pay48 (F := Ideal) (k0_pay24 (F := Ideal) v312) k0_pay43 (k0_pay44 0#32) (k0_pay45 (F := Ideal) v424 v428 v440) v443 v457) 256 0) (v464 : EReal) (hv464 : v464 = g2 s.a1 ((i 0).val) 5) (v467 : S256x128.Idx → EReal) (hv467 : R2 v467 s.a20 256 0) (X12_8 : S2x8x512x512.Idx → EReal) (hX12_8 : W4 X12_8 X12_7 (k0_pay50 (F := Ideal) (k0_pay24 (F := Ideal) v312) (k0_pay42 (F := Ideal) v424 v428) k0_pay43 (k0_pay44 0#32) v464 v467) 0 0 256 128) (v481 : S256x128.Idx → EReal) (hv481 : R2 v481 X21_8 256 0) (X21_9 : S512x128.Idx → EReal) (hX21_9 : W2 X21_9 X21_8 (k0_pay51 (F := Ideal) (k0_pay49 (F := Ideal) (k0_pay24 (F := Ideal) v312) (k0_pay42 (F := Ideal) v424 v428) k0_pay43 (k0_pay44 0#32) v464 v467) v481) 256 0) (v488 : EReal) (hv488 : v488 = g2 s.a1 ((i 0).val) 5) (v491 : S256x128.Idx → EReal) (hv491 : R2 v491 s.a20 256 0) (X12_9 : S2x8x512x512.Idx → EReal) (hX12_9 : W4 X12_9 X12_8 (k0_pay53 (F := Ideal) (k0_pay24 (F := Ideal) v312) (k0_pay42 (F := Ideal) v424 v428) k0_pay43 (k0_pay44 0#32) v488 v491) 0 0 256 256) (v505 : S256x128.Idx → EReal) (hv505 : R2 v505 X21_9 256 0) (X21_10 : S512x128.Idx → EReal) (hX21_10 : W2 X21_10 X21_9 (k0_pay54 (F := Ideal) (k0_pay24 (F := Ideal) v312) (k0_pay42 (F := Ideal) v424 v428) k0_pay43 (k0_pay44 0#32) v488 v491 v505) 256 0) (v512 : EReal) (hv512 : v512 = g2 s.a1 ((i 0).val) 5) (v515 : S256x128.Idx → EReal) (hv515 : R2 v515 s.a20 256 0) (X12_10 : S2x8x512x512.Idx → EReal) (hX12_10 : W4 X12_10 X12_9 (k0_pay58 (F := Ideal) k0_pay43 (k0_pay44 0#32) (k0_pay55 (F := Ideal) (k0_pay42 (F := Ideal) v424 v428) v512 v515) (k0_pay56 (F := Ideal) (k0_pay24 (F := Ideal) v312))) 0 0 256 384) (v529 : S256x128.Idx → EReal) (hv529 : R2 v529 X21_10 256 0) (X21_11 : S512x128.Idx → EReal) (hX21_11 : W2 X21_11 X21_10 (k0_pay59 (F := Ideal) k0_pay43 (k0_pay44 0#32) (k0_pay55 (F := Ideal) (k0_pay42 (F := Ideal) v424 v428) v512 v515) (k0_pay56 (F := Ideal) (k0_pay24 (F := Ideal) v312)) v529) 256 0) (v534 : S512x128.Idx → EReal) (hv534 : R2 v534 s.a21 0 0) (X21_12 : S512x128.Idx → EReal) (hX21_12 : W2 X21_12 s.a21 (k0_pay60 (F := Ideal) v534) 0 0) (X20_4 : S512x128.Idx → EReal) (hX20_4 : W2 X20_4 s.a20 (k0_pay61 (F := Ideal)) 0 0) (v547 : S1x1x256x128.Idx → EReal) (hv547 : R4 v547 s.a12 0 0 0 0) (v549 : S256x128.Idx → EReal) (hv549 : R2 v549 s.a21 0 0) (X12_11 : S2x8x512x512.Idx → EReal) (hX12_11 : W4 X12_11 s.a12 (k0_pay64 (F := Ideal) (k0_pay62 (F := Ideal) v547 v549)) 0 0 0 0) (v556 : S256x128.Idx → EReal) (hv556 : R2 v556 s.a20 0 0) (X20_5 : S512x128.Idx → EReal) (hX20_5 : W2 X20_5 s.a20 (k0_pay65 (F := Ideal) (k0_pay62 (F := Ideal) v547 v549) v556) 0 0) (v561 : S256x128.Idx → EReal) (hv561 : R2 v561 s.a22 0 0) (v563 : S1x1x256x128.Idx → EReal) (hv563 : R4 v563 s.a13 0 0 0 0) (X22_4 : S512x128.Idx → EReal) (hX22_4 : W2 X22_4 s.a22 (k0_pay66 (F := Ideal) (k0_pay62 (F := Ideal) v547 v549) v561 v563) 0 0) (v571 : S1x1x256x128.Idx → EReal) (hv571 : R4 v571 X12_11 0 0 0 128) (v573 : S256x128.Idx → EReal) (hv573 : R2 v573 s.a21 0 0) (X12_12 : S2x8x512x512.Idx → EReal) (hX12_12 : W4 X12_12 X12_11 (k0_pay68 (F := Ideal) v571 v573) 0 0 0 128) (v580 : S256x128.Idx → EReal) (hv580 : R2 v580 X20_5 0 0) (X20_6 : S512x128.Idx → EReal) (hX20_6 : W2 X20_6 X20_5 (k0_pay70 (F := Ideal) (k0_pay69 (F := Ideal) v571 v573 v580)) 0 0) (v585 : S256x128.Idx → EReal) (hv585 : R2 v585 X22_4 0 0) (v587 : S1x1x256x128.Idx → EReal) (hv587 : R4 v587 s.a13 0 0 0 128) (X22_5 : S512x128.Idx → EReal) (hX22_5 : W2 X22_5 X22_4 (k0_pay71 (F := Ideal) (k0_pay67 (F := Ideal) v571 v573) v585 v587) 0 0) (v595 : S1x1x256x128.Idx → EReal) (hv595 : R4 v595 X12_12 0 0 0 256) (v597 : S256x128.Idx → EReal) (hv597 : R2 v597 s.a21 0 0) (X12_13 : S2x8x512x512.Idx → EReal) (hX12_13 : W4 X12_13 X12_12 (k0_pay73 (F := Ideal) v595 v597) 0 0 0 256) (v604 : S256x128.Idx → EReal) (hv604 : R2 v604 X20_6 0 0) (X20_7 : S512x128.Idx → EReal) (hX20_7 : W2 X20_7 X20_6 (k0_pay74 (F := Ideal) v595 v597 v604) 0 0) (v609 : S256x128.Idx → EReal) (hv609 : R2 v609 X22_5 0 0) (v611 : S1x1x256x128.Idx → EReal) (hv611 : R4 v611 s.a13 0 0 0 256) (X22_6 : S512x128.Idx → EReal) (hX22_6 : W2 X22_6 X22_5 (k0_pay76 (F := Ideal) (k0_pay72 (F := Ideal) v595 v597) v609 (k0_pay75 (F := Ideal) v611)) 0 0) (v619 : S1x1x256x128.Idx → EReal) (hv619 : R4 v619 X12_13 0 0 0 384) (v621 : S256x128.Idx → EReal) (hv621 : R2 v621 s.a21 0 0) (X12_14 : S2x8x512x512.Idx → EReal) (hX12_14 : W4 X12_14 X12_13 (k0_pay78 (F := Ideal) v619 v621) 0 0 0 384) (v628 : S256x128.Idx → EReal) (hv628 : R2 v628 X20_7 0 0) (X20_8 : S512x128.Idx → EReal) (hX20_8 : W2 X20_8 X20_7 (k0_pay79 (F := Ideal) v619 v621 v628) 0 0) (v633 : S256x128.Idx → EReal) (hv633 : R2 v633 X22_6 0 0) (v635 : S1x1x256x128.Idx → EReal) (hv635 : R4 v635 s.a13 0 0 0 384) (X22_7 : S512x128.Idx → EReal) (hX22_7 : W2 X22_7 X22_6 (k0_pay80 (F := Ideal) v619 v621 v633 v635) 0 0) (v643 : S1x1x256x128.Idx → EReal) (hv643 : R4 v643 X12_14 0 0 256 0) (v645 : S256x128.Idx → EReal) (hv645 : R2 v645 s.a21 256 0) (X12_15 : S2x8x512x512.Idx → EReal) (hX12_15 : W4 X12_15 X12_14 (k0_pay83 (F := Ideal) (k0_pay81 (F := Ideal) v643) v645) 0 0 256 0) (v652 : S256x128.Idx → EReal) (hv652 : R2 v652 X20_8 256 0) (X20_9 : S512x128.Idx → EReal) (hX20_9 : W2 X20_9 X20_8 (k0_pay84 (F := Ideal) (k0_pay81 (F := Ideal) v643) v645 v652) 256 0) (v657 : S256x128.Idx → EReal) (hv657 : R2 v657 X22_7 256 0) (v659 : S1x1x256x128.Idx → EReal) (hv659 : R4 v659 s.a13 0 0 256 0) (X22_8 : S512x128.Idx → EReal) (hX22_8 : W2 X22_8 X22_7 (k0_pay85 (F := Ideal) (k0_pay81 (F := Ideal) v643) v645 v657 v659) 256 0) (v667 : S1x1x256x128.Idx → EReal) (hv667 : R4 v667 X12_15 0 0 256 128) (v669 : S256x128.Idx → EReal) (hv669 : R2 v669 s.a21 256 0) (X12_16 : S2x8x512x512.Idx → EReal) (hX12_16 : W4 X12_16 X12_15 (k0_pay87 (F := Ideal) v667 v669) 0 0 256 128) (v676 : S256x128.Idx → EReal) (hv676 : R2 v676 X20_9 256 0) (X20_10 : S512x128.Idx → EReal) (hX20_10 : W2 X20_10 X20_9 (k0_pay88 (F := Ideal) (k0_pay86 (F := Ideal) v667 v669) v676) 256 0) (v681 : S256x128.Idx → EReal) (hv681 : R2 v681 X22_8 256 0) (v683 : S1x1x256x128.Idx → EReal) (hv683 : R4 v683 s.a13 0 0 256 128) (X22_9 : S512x128.Idx → EReal) (hX22_9 : W2 X22_9 X22_8 (k0_pay89 (F := Ideal) (k0_pay86 (F := Ideal) v667 v669) v681 v683) 256 0) (v691 : S1x1x256x128.Idx → EReal) (hv691 : R4 v691 X12_16 0 0 256 256) (v693 : S256x128.Idx → EReal) (hv693 : R2 v693 s.a21 256 0) (X12_17 : S2x8x512x512.Idx → EReal) (hX12_17 : W4 X12_17 X12_16 (k0_pay91 (F := Ideal) v691 v693) 0 0 256 256) (v700 : S256x128.Idx → EReal) (hv700 : R2 v700 X20_10 256 0) (X20_11 : S512x128.Idx → EReal) (hX20_11 : W2 X20_11 X20_10 (k0_pay92 (F := Ideal) v691 v693 v700) 256 0) (v705 : S256x128.Idx → EReal) (hv705 : R2 v705 X22_9 256 0) (v707 : S1x1x256x128.Idx → EReal) (hv707 : R4 v707 s.a13 0 0 256 256) (X22_10 : S512x128.Idx → EReal) (hX22_10 : W2 X22_10 X22_9 (k0_pay93 (F := Ideal) (k0_pay90 (F := Ideal) v691 v693) v705 v707) 256 0) (v715 : S1x1x256x128.Idx → EReal) (hv715 : R4 v715 X12_17 0 0 256 384) (v717 : S256x128.Idx → EReal) (hv717 : R2 v717 s.a21 256 0) (X12_18 : S2x8x512x512.Idx → EReal) (hX12_18 : W4 X12_18 X12_17 (k0_pay95 (F := Ideal) v715 v717) 0 0 256 384) (v724 : S256x128.Idx → EReal) (hv724 : R2 v724 X20_11 256 0) (X20_12 : S512x128.Idx → EReal) (hX20_12 : W2 X20_12 X20_11 (k0_pay96 (F := Ideal) v715 v717 v724) 256 0) (v729 : S256x128.Idx → EReal) (hv729 : R2 v729 X22_10 256 0) (v731 : S1x1x256x128.Idx → EReal) (hv731 : R4 v731 s.a13 0 0 256 384) (X22_11 : S512x128.Idx → EReal) (hX22_11 : W2 X22_11 X22_10 (k0_pay97 (F := Ideal) v715 v717 v729 v731) 256 0) (v738 : S512x128.Idx → EReal) (hv738 : R2 v738 s.a21 0 0) (v739 : S512x128.Idx → EReal) (hv739 : R2 v739 s.a20 0 0) (X23_2 : S2x512x128.Idx → EReal) (hX23_2 : W3 X23_2 s.a23 (k0_pay2 (F := Ideal) v738 v739) 0 0 0) (v750 : S512x128.Idx → EReal) (hv750 : R2 v750 s.a22 0 0) (X24_2 : S2x512x128.Idx → EReal) (hX24_2 : W3 X24_2 s.a24 (k0_pay3 (F := Ideal) v738 v739 v750) 0 0 0) (X16_1 : S512x128.Idx → EReal) (hX16_1 : W2 X16_1 s.a16 (k0_pay15 (F := Ideal)) 0 0) (v285 : S512x128.Idx → EReal) (hv285 : R2 v285 s.a16 0 0) (v287 : EReal) (hv287 : v287 = g2 s.a1 ((i 0).val) 1) (X8_1 : S1x4096x128.Idx → EReal) (hX8_1 : W3 X8_1 s.a8 (k0_pay19 (F := Ideal) v285 v287) 0 3584 0)
include s i v2

include hX14_1 in
theorem t0_ck (j d c : ℕ) (hj : j < 8) (hd : d < 128) (hc : c < 512) :
    g3 X14_1 j d c
      = 0 := by
  try simp (disch := omega) only [hX14_1, if_pos, if_neg]
  iterate 1 ((try simp (disch := omega) only [k0_pay469]); (try simp (disch := omega) only [readsA, if_pos, if_neg]); (try simp (disch := omega) only [hX14_1, if_pos, if_neg]))
  (with_reducible repeat' first | rfl | refine sumc fun _ _ => ?_ | refine supc fun _ _ => ?_ | apply cE | apply cA | apply cM | apply cB | apply cX | apply cP | apply cL | apply cD | refine cI ?_ ?_ ?_ | apply c2 | apply c3 | apply c4 | omega)
  all_goals first | with_reducible rfl | (first | rw [g3_fill1] | rw [g3_fill2] | rw [tr_a] | rw [tr_b] | rw [g2_mask3] | rw [g2_mask]) <;> try omega
  all_goals (try simp (disch := omega) only [readsA, if_pos, if_neg])
  all_goals (try simp (disch := omega) only [hX14_1, if_pos, if_neg])
  all_goals (with_reducible repeat' first | rfl | refine sumc fun _ _ => ?_ | refine supc fun _ _ => ?_ | apply cE | apply cA | apply cM | apply cB | apply cX | apply cP | apply cL | apply cD | refine cI ?_ ?_ ?_ | apply c2 | apply c3 | apply c4 | omega)

include hX15_1 in
theorem t0_cv (j d c : ℕ) (hj : j < 8) (hd : d < 128) (hc : c < 512) :
    g3 X15_1 j d c
      = 0 := by
  try simp (disch := omega) only [hX15_1, if_pos, if_neg]
  iterate 1 ((try simp (disch := omega) only [k0_pay470]); (try simp (disch := omega) only [readsA, if_pos, if_neg]); (try simp (disch := omega) only [hX15_1, if_pos, if_neg]))
  (with_reducible repeat' first | rfl | refine sumc fun _ _ => ?_ | refine supc fun _ _ => ?_ | apply cE | apply cA | apply cM | apply cB | apply cX | apply cP | apply cL | apply cD | refine cI ?_ ?_ ?_ | apply c2 | apply c3 | apply c4 | omega)
  all_goals first | with_reducible rfl | (first | rw [g3_fill1] | rw [g3_fill2] | rw [tr_a] | rw [tr_b] | rw [g2_mask3] | rw [g2_mask]) <;> try omega
  all_goals (try simp (disch := omega) only [readsA, if_pos, if_neg])
  all_goals (try simp (disch := omega) only [hX15_1, if_pos, if_neg])
  all_goals (with_reducible repeat' first | rfl | refine sumc fun _ _ => ?_ | refine supc fun _ _ => ?_ | apply cE | apply cA | apply cM | apply cB | apply cX | apply cP | apply cL | apply cD | refine cI ?_ ?_ ?_ | apply c2 | apply c3 | apply c4 | omega)

include hX17_1 in
theorem t0_cc (j z c : ℕ) (hj : j < 8) (hd : z < 8) (hc : c < 512) :
    g3 X17_1 j z c
      = 0 := by
  try simp (disch := omega) only [hX17_1, if_pos, if_neg]
  iterate 1 ((try simp (disch := omega) only [k0_pay471]); (try simp (disch := omega) only [readsA, if_pos, if_neg]); (try simp (disch := omega) only [hX17_1, if_pos, if_neg]))
  (with_reducible repeat' first | rfl | refine sumc fun _ _ => ?_ | refine supc fun _ _ => ?_ | apply cE | apply cA | apply cM | apply cB | apply cX | apply cP | apply cL | apply cD | refine cI ?_ ?_ ?_ | apply c2 | apply c3 | apply c4 | omega)
  all_goals first | with_reducible rfl | (first | rw [g3_fill1] | rw [g3_fill2] | rw [tr_a] | rw [tr_b] | rw [g2_mask3] | rw [g2_mask]) <;> try omega
  all_goals (try simp (disch := omega) only [readsA, if_pos, if_neg])
  all_goals (try simp (disch := omega) only [hX17_1, if_pos, if_neg])
  all_goals (with_reducible repeat' first | rfl | refine sumc fun _ _ => ?_ | refine supc fun _ _ => ?_ | apply cE | apply cA | apply cM | apply cB | apply cX | apply cP | apply cL | apply cD | refine cI ?_ ?_ ?_ | apply c2 | apply c3 | apply c4 | omega)

include hv16 hv17 hv23 hv25 hX20_1 hv126 hv128 hX20_2 in
theorem t0_m (r z : ℕ) (hr : r < 512) (hz : z < 128) :
    g2 X20_2 r z
      = Mx s v2 (i 0).val 0 r := by
  unfold Mx Xd Xs Sc LG
  have h2 : r < 256 ∨ 256 ≤ r := by omega
  rcases h2 with h2 | h2
  all_goals
    try simp (disch := omega) only [hX20_1, hX20_2, if_pos, if_neg]
    iterate 1 ((try simp (disch := omega) only [k0_pay472, k0_pay473, k0_pay475, k0_pay476, k0_pay477, k0_pay478, k0_pay479, k0_pay480, red481, k0_pay482, k0_pay492, k0_pay494, k0_pay495, k0_pay496, k0_pay497, k0_pay498, k0_pay499, red500, k0_pay501]); (try simp (disch := omega) only [readsA, if_pos, if_neg]); (try simp (disch := omega) only [hv16, hv17, hv23, hv25, hX20_1, hv126, hv128, hX20_2, if_pos, if_neg]))
    (with_reducible repeat' first | rfl | refine sumc fun _ _ => ?_ | refine supc fun _ _ => ?_ | apply cE | apply cA | apply cM | apply cB | apply cX | apply cP | apply cL | apply cD | refine cI ?_ ?_ ?_ | apply c2 | apply c3 | apply c4 | omega)
    all_goals first | with_reducible rfl | (first | rw [g3_fill1] | rw [g3_fill2] | rw [tr_a] | rw [tr_b] | rw [g2_mask3] | rw [g2_mask]) <;> try omega
    all_goals (try simp (disch := omega) only [readsA, if_pos, if_neg])
    all_goals (try simp (disch := omega) only [hv16, hv17, hv23, hv25, hX20_1, hv126, hv128, hX20_2, if_pos, if_neg])
    all_goals (with_reducible repeat' first | rfl | refine sumc fun _ _ => ?_ | refine supc fun _ _ => ?_ | apply cE | apply cA | apply cM | apply cB | apply cX | apply cP | apply cL | apply cD | refine cI ?_ ?_ ?_ | apply c2 | apply c3 | apply c4 | omega)

set_option maxHeartbeats 1600000 in
include hv16 hv17 hv23 hv25 hX12_1 hv126 hv128 hX12_2 in
theorem t0_e (p' j' r c : ℕ) (hr : r < 512) (hc : c < 512) :
    g4 X12_2 p' j' r c
      = if p' = 0 ∧ j' = 0 then Ed s v2 (i 0).val 0 r c
        else g4 s.a12 p' j' r c := by
  by_cases hp : p' = 0 ∧ j' = 0
  · rw [if_pos hp]
    obtain ⟨rfl, rfl⟩ := hp
    unfold Ed Mx Xd Xs Sc LG
    have h2 : r < 256 ∨ 256 ≤ r := by omega
    have h4 : c < 128 ∨ (128 ≤ c ∧ c < 256) ∨ (256 ≤ c ∧ c < 384) ∨ 384 ≤ c := by omega
    rcases h2 with h2 | h2 <;> rcases h4 with h4 | h4 | h4 | h4
    all_goals
      try simp (disch := omega) only [hX12_1, hX12_2, if_pos, if_neg]
      iterate 1 ((try simp (disch := omega) only [k0_pay472, k0_pay473, k0_pay475, k0_pay476, k0_pay477, k0_pay478, k0_pay479, k0_pay480, red481, k0_pay483, k0_pay484, k0_pay485, k0_pay486, k0_pay489, k0_pay490, k0_pay492, k0_pay494, k0_pay495, k0_pay496, k0_pay497, k0_pay498, k0_pay499, red500, k0_pay502, k0_pay503, k0_pay504, k0_pay505, k0_pay509]); (try simp (disch := omega) only [readsA, if_pos, if_neg]); (try simp (disch := omega) only [hv16, hv17, hv23, hv25, hX12_1, hv126, hv128, hX12_2, if_pos, if_neg]))
      (with_reducible repeat' first | rfl | refine sumc fun _ _ => ?_ | refine supc fun _ _ => ?_ | apply cE | apply cA | apply cM | apply cB | apply cX | apply cP | apply cL | apply cD | refine cI ?_ ?_ ?_ | apply c2 | apply c3 | apply c4 | omega)
      all_goals first | with_reducible rfl | (first | rw [g3_fill1] | rw [g3_fill2] | rw [tr_a] | rw [tr_b] | rw [g2_mask3] | rw [g2_mask]) <;> try omega
      all_goals (try simp (disch := omega) only [readsA, if_pos, if_neg])
      all_goals (try simp (disch := omega) only [hv16, hv17, hv23, hv25, hX12_1, hv126, hv128, hX12_2, if_pos, if_neg])
      all_goals (with_reducible repeat' first | rfl | refine sumc fun _ _ => ?_ | refine supc fun _ _ => ?_ | apply cE | apply cA | apply cM | apply cB | apply cX | apply cP | apply cL | apply cD | refine cI ?_ ?_ ?_ | apply c2 | apply c3 | apply c4 | omega)
  · rw [if_neg hp]
    simp (disch := omega) only [hX12_1, hX12_2, if_neg]

include hv28 hv30 hX13_1 hv131 hv133 hX13_2 in
theorem t0_d (p' j' r c : ℕ) (hr : r < 512) (hc : c < 512) :
    g4 X13_2 p' j' r c
      = if p' = 0 ∧ j' = 0 then Dp s (512 * 0 + r) (512 * 0 + c)
        else g4 s.a13 p' j' r c := by
  by_cases hp : p' = 0 ∧ j' = 0
  · rw [if_pos hp]
    obtain ⟨rfl, rfl⟩ := hp
    unfold Dp
    have h2 : r < 256 ∨ 256 ≤ r := by omega
    rcases h2 with h2 | h2
    all_goals
      try simp (disch := omega) only [hX13_1, hX13_2, if_pos, if_neg]
      iterate 1 ((try simp (disch := omega) only [k0_pay474, k0_pay491, k0_pay493, k0_pay510]); (try simp (disch := omega) only [readsA, if_pos, if_neg]); (try simp (disch := omega) only [hv28, hv30, hX13_1, hv131, hv133, hX13_2, if_pos, if_neg]))
      (with_reducible repeat' first | rfl | refine sumc fun _ _ => ?_ | refine supc fun _ _ => ?_ | apply cE | apply cA | apply cM | apply cB | apply cX | apply cP | apply cL | apply cD | refine cI ?_ ?_ ?_ | apply c2 | apply c3 | apply c4 | omega)
  · rw [if_neg hp]
    simp (disch := omega) only [hX13_1, hX13_2, if_neg]

include hv16 hv17 hv23 hv25 hX21_1 hv126 hv128 hX21_2 in
theorem t0_l (r z : ℕ) (hr : r < 512) (hz : z < 128) :
    g2 X21_2 r z
      = Ed s v2 (i 0).val 0 r z + Ed s v2 (i 0).val 0 r (128 + z) + Ed s v2 (i 0).val 0 r (256 + z) + Ed s v2 (i 0).val 0 r (384 + z) := by
  unfold Ed Mx Xd Xs Sc LG
  have h2 : r < 256 ∨ 256 ≤ r := by omega
  rcases h2 with h2 | h2
  all_goals
    try simp (disch := omega) only [hX21_1, hX21_2, if_pos, if_neg]
    iterate 1 ((try simp (disch := omega) only [k0_pay472, k0_pay473, k0_pay475, k0_pay476, k0_pay477, k0_pay478, k0_pay479, k0_pay480, red481, k0_pay483, k0_pay484, k0_pay485, k0_pay486, k0_pay487, k0_pay492, k0_pay494, k0_pay495, k0_pay496, k0_pay497, k0_pay498, k0_pay499, red500, k0_pay502, k0_pay503, k0_pay504, k0_pay505, k0_pay506, k0_pay507]); (try simp (disch := omega) only [readsA, if_pos, if_neg]); (try simp (disch := omega) only [hv16, hv17, hv23, hv25, hX21_1, hv126, hv128, hX21_2, if_pos, if_neg]))
    (with_reducible repeat' first | rfl | refine sumc fun _ _ => ?_ | refine supc fun _ _ => ?_ | apply cE | apply cA | apply cM | apply cB | apply cX | apply cP | apply cL | apply cD | refine cI ?_ ?_ ?_ | apply c2 | apply c3 | apply c4 | omega)
    all_goals first | with_reducible rfl | (first | rw [g3_fill1] | rw [g3_fill2] | rw [tr_a] | rw [tr_b] | rw [g2_mask3] | rw [g2_mask]) <;> try omega
    all_goals (try simp (disch := omega) only [readsA, if_pos, if_neg])
    all_goals (try simp (disch := omega) only [hv16, hv17, hv23, hv25, hX21_1, hv126, hv128, hX21_2, if_pos, if_neg])
    all_goals (with_reducible repeat' first | rfl | refine sumc fun _ _ => ?_ | refine supc fun _ _ => ?_ | apply cE | apply cA | apply cM | apply cB | apply cX | apply cP | apply cL | apply cD | refine cI ?_ ?_ ?_ | apply c2 | apply c3 | apply c4 | omega)

include hv16 hv17 hv23 hv25 hv28 hv30 hX22_1 hv126 hv128 hv131 hv133 hX22_2 in
theorem t0_dl (r z : ℕ) (hr : r < 512) (hz : z < 128) :
    g2 X22_2 r z
      = Ed s v2 (i 0).val 0 r z * Dp s (512 * 0 + r) (512 * 0 + z) + Ed s v2 (i 0).val 0 r (128 + z) * Dp s (512 * 0 + r) (512 * 0 + (128 + z)) + Ed s v2 (i 0).val 0 r (256 + z) * Dp s (512 * 0 + r) (512 * 0 + (256 + z)) + Ed s v2 (i 0).val 0 r (384 + z) * Dp s (512 * 0 + r) (512 * 0 + (384 + z)) := by
  unfold Ed Mx Xd Xs Sc LG Dp
  have h2 : r < 256 ∨ 256 ≤ r := by omega
  rcases h2 with h2 | h2
  all_goals
    try simp (disch := omega) only [hX22_1, hX22_2, if_pos, if_neg]
    iterate 1 ((try simp (disch := omega) only [k0_pay472, k0_pay473, k0_pay474, k0_pay475, k0_pay476, k0_pay477, k0_pay478, k0_pay479, k0_pay480, red481, k0_pay483, k0_pay484, k0_pay485, k0_pay486, k0_pay488, k0_pay492, k0_pay493, k0_pay494, k0_pay495, k0_pay496, k0_pay497, k0_pay498, k0_pay499, red500, k0_pay502, k0_pay503, k0_pay504, k0_pay505, k0_pay508]); (try simp (disch := omega) only [readsA, if_pos, if_neg]); (try simp (disch := omega) only [hv16, hv17, hv23, hv25, hv28, hv30, hX22_1, hv126, hv128, hv131, hv133, hX22_2, if_pos, if_neg]))
    (with_reducible repeat' first | rfl | refine sumc fun _ _ => ?_ | refine supc fun _ _ => ?_ | apply cE | apply cA | apply cM | apply cB | apply cX | apply cP | apply cL | apply cD | refine cI ?_ ?_ ?_ | apply c2 | apply c3 | apply c4 | omega)
    all_goals first | with_reducible rfl | (first | rw [g3_fill1] | rw [g3_fill2] | rw [tr_a] | rw [tr_b] | rw [g2_mask3] | rw [g2_mask]) <;> try omega
    all_goals (try simp (disch := omega) only [readsA, if_pos, if_neg])
    all_goals (try simp (disch := omega) only [hv16, hv17, hv23, hv25, hv28, hv30, hX22_1, hv126, hv128, hv131, hv133, hX22_2, if_pos, if_neg])
    all_goals (with_reducible repeat' first | rfl | refine sumc fun _ _ => ?_ | refine supc fun _ _ => ?_ | apply cE | apply cA | apply cM | apply cB | apply cX | apply cP | apply cL | apply cD | refine cI ?_ ?_ ?_ | apply c2 | apply c3 | apply c4 | omega)

include hv229 hX18_1 in
theorem t0_qt (p' d r : ℕ) (hd : d < 128) (hr : r < 512) :
    g3 X18_1 p' d r
      = if p' = 0 then g3 s.a3 0 (512 * 0 + r) d
        else g3 s.a18 p' d r := by
  by_cases hp : p' = 0
  · rw [if_pos hp]
    subst hp
    try simp (disch := omega) only [hX18_1, if_pos, if_neg]
    iterate 1 ((try simp (disch := omega) only [k0_pay511]); (try simp (disch := omega) only [readsA, if_pos, if_neg]); (try simp (disch := omega) only [hv229, hX18_1, if_pos, if_neg]))
    (with_reducible repeat' first | rfl | refine sumc fun _ _ => ?_ | refine supc fun _ _ => ?_ | apply cE | apply cA | apply cM | apply cB | apply cX | apply cP | apply cL | apply cD | refine cI ?_ ?_ ?_ | apply c2 | apply c3 | apply c4 | omega)
    all_goals first | with_reducible rfl | (first | rw [g3_fill1] | rw [g3_fill2] | rw [tr_a] | rw [tr_b] | rw [g2_mask3] | rw [g2_mask]) <;> try omega
    all_goals (try simp (disch := omega) only [readsA, if_pos, if_neg])
    all_goals (try simp (disch := omega) only [hv229, hX18_1, if_pos, if_neg])
    all_goals (with_reducible repeat' first | rfl | refine sumc fun _ _ => ?_ | refine supc fun _ _ => ?_ | apply cE | apply cA | apply cM | apply cB | apply cX | apply cP | apply cL | apply cD | refine cI ?_ ?_ ?_ | apply c2 | apply c3 | apply c4 | omega)
  · rw [if_neg hp]
    simp (disch := omega) only [hX18_1, if_neg]

include hv236 hX19_1 in
theorem t0_dt (p' d r : ℕ) (hd : d < 128) (hr : r < 512) :
    g3 X19_1 p' d r
      = if p' = 0 then g3 s.a6 0 (512 * 0 + r) d
        else g3 s.a19 p' d r := by
  by_cases hp : p' = 0
  · rw [if_pos hp]
    subst hp
    try simp (disch := omega) only [hX19_1, if_pos, if_neg]
    iterate 1 ((try simp (disch := omega) only [k0_pay512, k0_pay513]); (try simp (disch := omega) only [readsA, if_pos, if_neg]); (try simp (disch := omega) only [hv236, hX19_1, if_pos, if_neg]))
    (with_reducible repeat' first | rfl | refine sumc fun _ _ => ?_ | refine supc fun _ _ => ?_ | apply cE | apply cA | apply cM | apply cB | apply cX | apply cP | apply cL | apply cD | refine cI ?_ ?_ ?_ | apply c2 | apply c3 | apply c4 | omega)
    all_goals first | with_reducible rfl | (first | rw [g3_fill1] | rw [g3_fill2] | rw [tr_a] | rw [tr_b] | rw [g2_mask3] | rw [g2_mask]) <;> try omega
    all_goals (try simp (disch := omega) only [readsA, if_pos, if_neg])
    all_goals (try simp (disch := omega) only [hv236, hX19_1, if_pos, if_neg])
    all_goals (with_reducible repeat' first | rfl | refine sumc fun _ _ => ?_ | refine supc fun _ _ => ?_ | apply cE | apply cA | apply cM | apply cB | apply cX | apply cP | apply cL | apply cD | refine cI ?_ ?_ ?_ | apply c2 | apply c3 | apply c4 | omega)
  · rw [if_neg hp]
    simp (disch := omega) only [hX19_1, if_neg]

include hv243 hX23_1 in
theorem t0_fin_r (p' r z : ℕ) (hr : r < 512) (hz : z < 128) :
    g3 X23_1 p' r z
      = if p' = 0 then Ideal.div 1 (∑ u ∈ Finset.range 128, g2 s.a21 r u)
        else g3 s.a23 p' r z := by
  by_cases hp : p' = 0
  · rw [if_pos hp]
    subst hp
    try simp (disch := omega) only [hX23_1, if_pos, if_neg]
    iterate 1 ((try simp (disch := omega) only [red514, k0_pay515]); (try simp (disch := omega) only [readsA, if_pos, if_neg]); (try simp (disch := omega) only [hv243, hX23_1, if_pos, if_neg]))
    (with_reducible repeat' first | rfl | refine sumc fun _ _ => ?_ | refine supc fun _ _ => ?_ | apply cE | apply cA | apply cM | apply cB | apply cX | apply cP | apply cL | apply cD | refine cI ?_ ?_ ?_ | apply c2 | apply c3 | apply c4 | omega)
  · rw [if_neg hp]
    simp (disch := omega) only [hX23_1, if_neg]

include hv243 hv246 hX24_1 in
theorem t0_fin_d (p' r z : ℕ) (hr : r < 512) (hz : z < 128) :
    g3 X24_1 p' r z
      = if p' = 0 then (∑ u ∈ Finset.range 128, g2 s.a22 r u) * Ideal.div 1 (∑ u ∈ Finset.range 128, g2 s.a21 r u)
        else g3 s.a24 p' r z := by
  by_cases hp : p' = 0
  · rw [if_pos hp]
    subst hp
    try simp (disch := omega) only [hX24_1, if_pos, if_neg]
    iterate 1 ((try simp (disch := omega) only [red514, red516]); (try simp (disch := omega) only [readsA, if_pos, if_neg]); (try simp (disch := omega) only [hv243, hv246, hX24_1, if_pos, if_neg]))
    (with_reducible repeat' first | rfl | refine sumc fun _ _ => ?_ | refine supc fun _ _ => ?_ | apply cE | apply cA | apply cM | apply cB | apply cX | apply cP | apply cL | apply cD | refine cI ?_ ?_ ?_ | apply c2 | apply c3 | apply c4 | omega)
  · rw [if_neg hp]
    simp (disch := omega) only [hX24_1, if_neg]

include hv295 hX20_3 in
theorem t0_ci_c (r z : ℕ) (hr : r < 512) (hz : z < 128) :
    g2 X20_3 r z
      = g3 s.a7 0 0 r := by
  try simp (disch := omega) only [hX20_3, if_pos, if_neg]
  iterate 1 ((try simp (disch := omega) only [k0_pay21]); (try simp (disch := omega) only [readsA, if_pos, if_neg]); (try simp (disch := omega) only [hv295, hX20_3, if_pos, if_neg]))
  (with_reducible repeat' first | rfl | refine sumc fun _ _ => ?_ | refine supc fun _ _ => ?_ | apply cE | apply cA | apply cM | apply cB | apply cX | apply cP | apply cL | apply cD | refine cI ?_ ?_ ?_ | apply c2 | apply c3 | apply c4 | omega)
  all_goals first | with_reducible rfl | (first | rw [g3_fill1] | rw [g3_fill2] | rw [tr_a] | rw [tr_b] | rw [g2_mask3] | rw [g2_mask]) <;> try omega
  all_goals (try simp (disch := omega) only [readsA, if_pos, if_neg])
  all_goals (try simp (disch := omega) only [hv295, hX20_3, if_pos, if_neg])
  all_goals (with_reducible repeat' first | rfl | refine sumc fun _ _ => ?_ | refine supc fun _ _ => ?_ | apply cE | apply cA | apply cM | apply cB | apply cX | apply cP | apply cL | apply cD | refine cI ?_ ?_ ?_ | apply c2 | apply c3 | apply c4 | omega)

include hX21_3 in
theorem t0_ci_m (r z : ℕ) (hr : r < 512) (hz : z < 128) :
    g2 X21_3 r z
      = ⊥ := by
  try simp (disch := omega) only [hX21_3, if_pos, if_neg]
  iterate 1 ((try simp (disch := omega) only [k0_pay22]); (try simp (disch := omega) only [readsA, if_pos, if_neg]); (try simp (disch := omega) only [hX21_3, if_pos, if_neg]))
  (with_reducible repeat' first | rfl | refine sumc fun _ _ => ?_ | refine supc fun _ _ => ?_ | apply cE | apply cA | apply cM | apply cB | apply cX | apply cP | apply cL | apply cD | refine cI ?_ ?_ ?_ | apply c2 | apply c3 | apply c4 | omega)

include hX22_3 in
theorem t0_ci_d (r z : ℕ) (hr : r < 512) (hz : z < 128) :
    g2 X22_3 r z
      = 0 := by
  try simp (disch := omega) only [hX22_3, if_pos, if_neg]
  iterate 1 ((try simp (disch := omega) only [k0_pay23]); (try simp (disch := omega) only [readsA, if_pos, if_neg]); (try simp (disch := omega) only [hX22_3, if_pos, if_neg]))
  (with_reducible repeat' first | rfl | refine sumc fun _ _ => ?_ | refine supc fun _ _ => ?_ | apply cE | apply cA | apply cM | apply cB | apply cX | apply cP | apply cL | apply cD | refine cI ?_ ?_ ?_ | apply c2 | apply c3 | apply c4 | omega)

include hv312 hv314 hv318 hv330 hv333 hX12_3 hv354 hv357 hX12_4 hv378 hv381 hX12_5 hv402 hv405 hX12_6 hv424 hv428 hv440 hv443 hX12_7 hv464 hv467 hX12_8 hv488 hv491 hX12_9 hv512 hv515 hX12_10 in
theorem t0_cs_e (p' j' r c : ℕ) (hr : r < 512) (hc : c < 512) :
    g4 X12_10 p' j' r c
      = if p' = 0 ∧ j' = 0 then Xc s (i 0).val 0 r 0 c
        else g4 s.a12 p' j' r c := by
  by_cases hp : p' = 0 ∧ j' = 0
  · rw [if_pos hp]
    obtain ⟨rfl, rfl⟩ := hp
    unfold Xc Sc
    have h2 : r < 256 ∨ 256 ≤ r := by omega
    have h4 : c < 128 ∨ (128 ≤ c ∧ c < 256) ∨ (256 ≤ c ∧ c < 384) ∨ 384 ≤ c := by omega
    rcases h2 with h2 | h2 <;> rcases h4 with h4 | h4 | h4 | h4
    all_goals
      try simp (disch := omega) only [hX12_3, hX12_4, hX12_5, hX12_6, hX12_7, hX12_8, hX12_9, hX12_10, if_pos, if_neg]
      iterate 1 ((try simp (disch := omega) only [k0_pay24, k0_pay25, k0_pay26, k0_pay27, k0_pay28, k0_pay29, k0_pay30, k0_pay32, k0_pay33, k0_pay35, k0_pay36, k0_pay38, k0_pay39, k0_pay40, k0_pay42, k0_pay43, k0_pay44, k0_pay45, k0_pay46, k0_pay47, k0_pay49, k0_pay50, k0_pay52, k0_pay53, k0_pay55, k0_pay56, k0_pay57, k0_pay58]); (try simp (disch := omega) only [readsA, if_pos, if_neg]); (try simp (disch := omega) only [hv312, hv314, hv318, hv330, hv333, hX12_3, hv354, hv357, hX12_4, hv378, hv381, hX12_5, hv402, hv405, hX12_6, hv424, hv428, hv440, hv443, hX12_7, hv464, hv467, hX12_8, hv488, hv491, hX12_9, hv512, hv515, hX12_10, if_pos, if_neg]))
      (with_reducible repeat' first | rfl | refine sumc fun _ _ => ?_ | refine supc fun _ _ => ?_ | apply cE | apply cA | apply cM | apply cB | apply cX | apply cP | apply cL | apply cD | refine cI ?_ ?_ ?_ | apply c2 | apply c3 | apply c4 | omega)
      all_goals first | with_reducible rfl | (first | rw [g3_fill1] | rw [g3_fill2] | rw [tr_a] | rw [tr_b] | rw [g2_mask3] | rw [g2_mask]) <;> try omega
      all_goals (try simp (disch := omega) only [readsA, if_pos, if_neg])
      all_goals (try simp (disch := omega) only [hv312, hv314, hv318, hv330, hv333, hX12_3, hv354, hv357, hX12_4, hv378, hv381, hX12_5, hv402, hv405, hX12_6, hv424, hv428, hv440, hv443, hX12_7, hv464, hv467, hX12_8, hv488, hv491, hX12_9, hv512, hv515, hX12_10, if_pos, if_neg])
      all_goals (with_reducible repeat' first | rfl | refine sumc fun _ _ => ?_ | refine supc fun _ _ => ?_ | apply cE | apply cA | apply cM | apply cB | apply cX | apply cP | apply cL | apply cD | refine cI ?_ ?_ ?_ | apply c2 | apply c3 | apply c4 | omega)
  · rw [if_neg hp]
    simp (disch := omega) only [hX12_3, hX12_4, hX12_5, hX12_6, hX12_7, hX12_8, hX12_9, hX12_10, if_neg]

include hv312 hv314 hv318 hv330 hv333 hv347 hX21_4 hv354 hv357 hv371 hX21_5 hv378 hv381 hv395 hX21_6 hv402 hv405 hv419 hX21_7 hv424 hv428 hv440 hv443 hv457 hX21_8 hv464 hv467 hv481 hX21_9 hv488 hv491 hv505 hX21_10 hv512 hv515 hv529 hX21_11 in
theorem t0_cs_m (r z : ℕ) (hr : r < 512) (hz : z < 128) :
    g2 X21_11 r z
      = max (max (max (max (g2 s.a21 r z) (Xc s (i 0).val 0 r 0 z)) (Xc s (i 0).val 0 r 0 (128 + z))) (Xc s (i 0).val 0 r 0 (256 + z))) (Xc s (i 0).val 0 r 0 (384 + z)) := by
  unfold Xc Sc
  have h2 : r < 256 ∨ 256 ≤ r := by omega
  rcases h2 with h2 | h2
  all_goals
    try simp (disch := omega) only [hX21_4, hX21_5, hX21_6, hX21_7, hX21_8, hX21_9, hX21_10, hX21_11, if_pos, if_neg]
    iterate 5 ((try simp (disch := omega) only [k0_pay24, k0_pay25, k0_pay26, k0_pay27, k0_pay28, k0_pay29, k0_pay31, k0_pay32, k0_pay34, k0_pay35, k0_pay37, k0_pay38, k0_pay39, k0_pay41, k0_pay42, k0_pay43, k0_pay44, k0_pay45, k0_pay46, k0_pay48, k0_pay49, k0_pay51, k0_pay52, k0_pay54, k0_pay55, k0_pay56, k0_pay57, k0_pay59]); (try simp (disch := omega) only [readsA, if_pos, if_neg]); (try simp (disch := omega) only [hv312, hv314, hv318, hv330, hv333, hv347, hX21_4, hv354, hv357, hv371, hX21_5, hv378, hv381, hv395, hX21_6, hv402, hv405, hv419, hX21_7, hv424, hv428, hv440, hv443, hv457, hX21_8, hv464, hv467, hv481, hX21_9, hv488, hv491, hv505, hX21_10, hv512, hv515, hv529, hX21_11, if_pos, if_neg]))
    (with_reducible repeat' first | rfl | refine sumc fun _ _ => ?_ | refine supc fun _ _ => ?_ | apply cE | apply cA | apply cM | apply cB | apply cX | apply cP | apply cL | apply cD | refine cI ?_ ?_ ?_ | apply c2 | apply c3 | apply c4 | omega)
    all_goals first | with_reducible rfl | (first | rw [g3_fill1] | rw [g3_fill2] | rw [tr_a] | rw [tr_b] | rw [g2_mask3] | rw [g2_mask]) <;> try omega
    all_goals (try simp (disch := omega) only [readsA, if_pos, if_neg])
    all_goals (try simp (disch := omega) only [hv312, hv314, hv318, hv330, hv333, hv347, hX21_4, hv354, hv357, hv371, hX21_5, hv378, hv381, hv395, hX21_6, hv402, hv405, hv419, hX21_7, hv424, hv428, hv440, hv443, hv457, hX21_8, hv464, hv467, hv481, hX21_9, hv488, hv491, hv505, hX21_10, hv512, hv515, hv529, hX21_11, if_pos, if_neg])
    all_goals (with_reducible repeat' first | rfl | refine sumc fun _ _ => ?_ | refine supc fun _ _ => ?_ | apply cE | apply cA | apply cM | apply cB | apply cX | apply cP | apply cL | apply cD | refine cI ?_ ?_ ?_ | apply c2 | apply c3 | apply c4 | omega)

include hv534 hX21_12 in
theorem t0_cm_m (r z : ℕ) (hr : r < 512) (hz : z < 128) :
    g2 X21_12 r z
      = (Finset.range 128).sup fun u => g2 s.a21 r u := by
  try simp (disch := omega) only [hX21_12, if_pos, if_neg]
  iterate 1 ((try simp (disch := omega) only [red60]); (try simp (disch := omega) only [readsA, if_pos, if_neg]); (try simp (disch := omega) only [hv534, hX21_12, if_pos, if_neg]))
  (with_reducible repeat' first | rfl | refine sumc fun _ _ => ?_ | refine supc fun _ _ => ?_ | apply cE | apply cA | apply cM | apply cB | apply cX | apply cP | apply cL | apply cD | refine cI ?_ ?_ ?_ | apply c2 | apply c3 | apply c4 | omega)

include hX20_4 in
theorem t0_cm_l (r z : ℕ) (hr : r < 512) (hz : z < 128) :
    g2 X20_4 r z
      = 0 := by
  try simp (disch := omega) only [hX20_4, if_pos, if_neg]
  iterate 1 ((try simp (disch := omega) only [k0_pay61]); (try simp (disch := omega) only [readsA, if_pos, if_neg]); (try simp (disch := omega) only [hX20_4, if_pos, if_neg]))
  (with_reducible repeat' first | rfl | refine sumc fun _ _ => ?_ | refine supc fun _ _ => ?_ | apply cE | apply cA | apply cM | apply cB | apply cX | apply cP | apply cL | apply cD | refine cI ?_ ?_ ?_ | apply c2 | apply c3 | apply c4 | omega)

include hv547 hv549 hX12_11 hv571 hv573 hX12_12 hv595 hv597 hX12_13 hv619 hv621 hX12_14 hv643 hv645 hX12_15 hv667 hv669 hX12_16 hv691 hv693 hX12_17 hv715 hv717 hX12_18 in
theorem t0_ce_e (p' j' r c : ℕ) (hr : r < 512) (hc : c < 512) :
    g4 X12_18 p' j' r c
      = if p' = 0 ∧ j' = 0 then Ec s 0 0 r c
        else g4 s.a12 p' j' r c := by
  by_cases hp : p' = 0 ∧ j' = 0
  · rw [if_pos hp]
    obtain ⟨rfl, rfl⟩ := hp
    unfold Ec
    have h2 : r < 256 ∨ 256 ≤ r := by omega
    have h4 : c < 128 ∨ (128 ≤ c ∧ c < 256) ∨ (256 ≤ c ∧ c < 384) ∨ 384 ≤ c := by omega
    rcases h2 with h2 | h2 <;> rcases h4 with h4 | h4 | h4 | h4
    all_goals
      try simp (disch := omega) only [hX12_11, hX12_12, hX12_13, hX12_14, hX12_15, hX12_16, hX12_17, hX12_18, if_pos, if_neg]
      iterate 1 ((try simp (disch := omega) only [k0_pay62, k0_pay63, k0_pay64, k0_pay67, k0_pay68, k0_pay72, k0_pay73, k0_pay77, k0_pay78, k0_pay81, k0_pay82, k0_pay83, k0_pay86, k0_pay87, k0_pay90, k0_pay91, k0_pay94, k0_pay95]); (try simp (disch := omega) only [readsA, if_pos, if_neg]); (try simp (disch := omega) only [hv547, hv549, hX12_11, hv571, hv573, hX12_12, hv595, hv597, hX12_13, hv619, hv621, hX12_14, hv643, hv645, hX12_15, hv667, hv669, hX12_16, hv691, hv693, hX12_17, hv715, hv717, hX12_18, if_pos, if_neg]))
      (with_reducible repeat' first | rfl | refine sumc fun _ _ => ?_ | refine supc fun _ _ => ?_ | apply cE | apply cA | apply cM | apply cB | apply cX | apply cP | apply cL | apply cD | refine cI ?_ ?_ ?_ | apply c2 | apply c3 | apply c4 | omega)
  · rw [if_neg hp]
    simp (disch := omega) only [hX12_11, hX12_12, hX12_13, hX12_14, hX12_15, hX12_16, hX12_17, hX12_18, if_neg]

include hv547 hv549 hX12_11 hv556 hX20_5 hv571 hv573 hX12_12 hv580 hX20_6 hv595 hv597 hX12_13 hv604 hX20_7 hv619 hv621 hX12_14 hv628 hX20_8 hv643 hv645 hX12_15 hv652 hX20_9 hv667 hv669 hX12_16 hv676 hX20_10 hv691 hv693 hX12_17 hv700 hX20_11 hv715 hv717 hv724 hX20_12 in
theorem t0_ce_l (r z : ℕ) (hr : r < 512) (hz : z < 128) :
    g2 X20_12 r z
      = g2 s.a20 r z + Ec s 0 0 r z + Ec s 0 0 r (128 + z) + Ec s 0 0 r (256 + z) + Ec s 0 0 r (384 + z) := by
  unfold Ec
  have h2 : r < 256 ∨ 256 ≤ r := by omega
  rcases h2 with h2 | h2
  all_goals
    try simp (disch := omega) only [hX12_11, hX20_5, hX12_12, hX20_6, hX12_13, hX20_7, hX12_14, hX20_8, hX12_15, hX20_9, hX12_16, hX20_10, hX12_17, hX20_11, hX20_12, if_pos, if_neg]
    iterate 5 ((try simp (disch := omega) only [k0_pay62, k0_pay63, k0_pay64, k0_pay65, k0_pay67, k0_pay68, k0_pay69, k0_pay70, k0_pay72, k0_pay73, k0_pay74, k0_pay77, k0_pay78, k0_pay79, k0_pay81, k0_pay82, k0_pay83, k0_pay84, k0_pay86, k0_pay87, k0_pay88, k0_pay90, k0_pay91, k0_pay92, k0_pay94, k0_pay96]); (try simp (disch := omega) only [readsA, if_pos, if_neg]); (try simp (disch := omega) only [hv547, hv549, hX12_11, hv556, hX20_5, hv571, hv573, hX12_12, hv580, hX20_6, hv595, hv597, hX12_13, hv604, hX20_7, hv619, hv621, hX12_14, hv628, hX20_8, hv643, hv645, hX12_15, hv652, hX20_9, hv667, hv669, hX12_16, hv676, hX20_10, hv691, hv693, hX12_17, hv700, hX20_11, hv715, hv717, hv724, hX20_12, if_pos, if_neg]))
    (with_reducible repeat' first | rfl | refine sumc fun _ _ => ?_ | refine supc fun _ _ => ?_ | apply cE | apply cA | apply cM | apply cB | apply cX | apply cP | apply cL | apply cD | refine cI ?_ ?_ ?_ | apply c2 | apply c3 | apply c4 | omega)

include hv547 hv549 hX12_11 hv561 hv563 hX22_4 hv571 hv573 hX12_12 hv585 hv587 hX22_5 hv595 hv597 hX12_13 hv609 hv611 hX22_6 hv619 hv621 hX12_14 hv633 hv635 hX22_7 hv643 hv645 hX12_15 hv657 hv659 hX22_8 hv667 hv669 hX12_16 hv681 hv683 hX22_9 hv691 hv693 hX12_17 hv705 hv707 hX22_10 hv715 hv717 hv729 hv731 hX22_11 in
theorem t0_ce_d (r z : ℕ) (hr : r < 512) (hz : z < 128) :
    g2 X22_11 r z
      = g2 s.a22 r z + Fc s 0 0 r z + Fc s 0 0 r (128 + z) + Fc s 0 0 r (256 + z) + Fc s 0 0 r (384 + z) := by
  unfold Fc Ec
  have h2 : r < 256 ∨ 256 ≤ r := by omega
  rcases h2 with h2 | h2
  all_goals
    try simp (disch := omega) only [hX12_11, hX22_4, hX12_12, hX22_5, hX12_13, hX22_6, hX12_14, hX22_7, hX12_15, hX22_8, hX12_16, hX22_9, hX12_17, hX22_10, hX22_11, if_pos, if_neg]
    iterate 5 ((try simp (disch := omega) only [k0_pay62, k0_pay63, k0_pay64, k0_pay66, k0_pay67, k0_pay68, k0_pay71, k0_pay72, k0_pay73, k0_pay75, k0_pay76, k0_pay77, k0_pay78, k0_pay80, k0_pay81, k0_pay82, k0_pay83, k0_pay85, k0_pay86, k0_pay87, k0_pay89, k0_pay90, k0_pay91, k0_pay93, k0_pay94, k0_pay97]); (try simp (disch := omega) only [readsA, if_pos, if_neg]); (try simp (disch := omega) only [hv547, hv549, hX12_11, hv561, hv563, hX22_4, hv571, hv573, hX12_12, hv585, hv587, hX22_5, hv595, hv597, hX12_13, hv609, hv611, hX22_6, hv619, hv621, hX12_14, hv633, hv635, hX22_7, hv643, hv645, hX12_15, hv657, hv659, hX22_8, hv667, hv669, hX12_16, hv681, hv683, hX22_9, hv691, hv693, hX12_17, hv705, hv707, hX22_10, hv715, hv717, hv729, hv731, hX22_11, if_pos, if_neg]))
    (with_reducible repeat' first | rfl | refine sumc fun _ _ => ?_ | refine supc fun _ _ => ?_ | apply cE | apply cA | apply cM | apply cB | apply cX | apply cP | apply cL | apply cD | refine cI ?_ ?_ ?_ | apply c2 | apply c3 | apply c4 | omega)

include hv738 hv739 hX23_2 in
theorem t0_cf_r (p' r z : ℕ) (hr : r < 512) (hz : z < 128) :
    g3 X23_2 p' r z
      = if p' = 0 then Ideal.exp (g2 s.a21 r z - (g2 s.a21 r z + Ideal.log (∑ u ∈ Finset.range 128, g2 s.a20 r u)))
        else g3 s.a23 p' r z := by
  by_cases hp : p' = 0
  · rw [if_pos hp]
    subst hp
    try simp (disch := omega) only [hX23_2, if_pos, if_neg]
    iterate 1 ((try simp (disch := omega) only [red1, k0_pay2]); (try simp (disch := omega) only [readsA, if_pos, if_neg]); (try simp (disch := omega) only [hv738, hv739, hX23_2, if_pos, if_neg]))
    (with_reducible repeat' first | rfl | refine sumc fun _ _ => ?_ | refine supc fun _ _ => ?_ | apply cE | apply cA | apply cM | apply cB | apply cX | apply cP | apply cL | apply cD | refine cI ?_ ?_ ?_ | apply c2 | apply c3 | apply c4 | omega)
  · rw [if_neg hp]
    simp (disch := omega) only [hX23_2, if_neg]

include hv738 hv739 hv750 hX24_2 in
theorem t0_cf_d (p' r z : ℕ) (hr : r < 512) (hz : z < 128) :
    g3 X24_2 p' r z
      = if p' = 0 then Ideal.exp (g2 s.a21 r z - (g2 s.a21 r z + Ideal.log (∑ u ∈ Finset.range 128, g2 s.a20 r u))) * ∑ u ∈ Finset.range 128, g2 s.a22 r u
        else g3 s.a24 p' r z := by
  by_cases hp : p' = 0
  · rw [if_pos hp]
    subst hp
    try simp (disch := omega) only [hX24_2, if_pos, if_neg]
    iterate 1 ((try simp (disch := omega) only [red1, red3]); (try simp (disch := omega) only [readsA, if_pos, if_neg]); (try simp (disch := omega) only [hv738, hv739, hv750, hX24_2, if_pos, if_neg]))
    (with_reducible repeat' first | rfl | refine sumc fun _ _ => ?_ | refine supc fun _ _ => ?_ | apply cE | apply cA | apply cM | apply cB | apply cX | apply cP | apply cL | apply cD | refine cI ?_ ?_ ?_ | apply c2 | apply c3 | apply c4 | omega)
  · rw [if_neg hp]
    simp (disch := omega) only [hX24_2, if_neg]

include hX16_1 in
theorem t0_z0 (r d : ℕ) (hr : r < 512) (hd : d < 128) :
    g2 X16_1 r d
      = 0 := by
  try simp (disch := omega) only [hX16_1, if_pos, if_neg]
  iterate 1 ((try simp (disch := omega) only [k0_pay15]); (try simp (disch := omega) only [readsA, if_pos, if_neg]); (try simp (disch := omega) only [hX16_1, if_pos, if_neg]))
  (with_reducible repeat' first | rfl | refine sumc fun _ _ => ?_ | refine supc fun _ _ => ?_ | apply cE | apply cA | apply cM | apply cB | apply cX | apply cP | apply cL | apply cD | refine cI ?_ ?_ ?_ | apply c2 | apply c3 | apply c4 | omega)

include hv285 hv287 hX8_1 in
theorem t0_dq (t d : ℕ) (ht : t < 4096) (hd : d < 128) :
    g3 X8_1 0 t d
      = if 512 * 7 ≤ t ∧ t < 512 * 7 + 512 then g2 s.a16 (t - 512 * 7) d * g2 s.a1 (i 0).val 1
        else g3 s.a8 0 t d := by
  by_cases hp : 512 * 7 ≤ t ∧ t < 512 * 7 + 512
  · rw [if_pos hp]
    try simp (disch := omega) only [hX8_1, if_pos, if_neg]
    iterate 1 ((try simp (disch := omega) only [k0_pay19]); (try simp (disch := omega) only [readsA, if_pos, if_neg]); (try simp (disch := omega) only [hv285, hv287, hX8_1, if_pos, if_neg]))
    (with_reducible repeat' first | rfl | refine sumc fun _ _ => ?_ | refine supc fun _ _ => ?_ | apply cE | apply cA | apply cM | apply cB | apply cX | apply cP | apply cL | apply cD | refine cI ?_ ?_ ?_ | apply c2 | apply c3 | apply c4 | omega)
  · rw [if_neg hp]
    simp (disch := omega) only [hX8_1, if_neg]

end

end Cert.Proof.KernelIdeal
-- ==== Proof.T1Vals.lean ====
/-
  The buffers after each part of one trip of the main loop, entry by entry.
-/
module

public import proofs.«01_k».proof.Proof.Rel2

@[expose] public section

set_option maxRecDepth 65536
set_option maxHeartbeats 1000000

noncomputable section

namespace Cert.Proof.KernelIdeal

open Cert.KernelIdeal Cert.KernelIdeal.Gen Cert.Hoare Cert.Grid
open Idealize.ShloMosaic hiding ix1 ix2 ix3 ix4 eq_ix1 eq_ix2 eq_ix3 eq_ix4
open Idealize.ShloMosaic.TcCoe Idealize.ShloMosaic.Tactic
open Idealize.SL Idealize.SL.RA Idealize.SL.BI
open Idealize.SL.Sem
open Idealize.ShloMosaic.Rounds

section

variable {s : St Ideal} {i : grid0.Coords} {v2 : EReal} {k0_t1 : Fin k0_t1_loop.trips} (v298 : EReal) (hv298 : v298 = g2 s.a2 ((i 0).val) (k0_t1.val + 1)) (v300 : S1x1x512.Idx → EReal) (hv300 : R3 v300 s.a7 0 (k0_t1.val + 1) 0) (v309 : S1x256x128.Idx → EReal) (hv309 : R3 v309 s.a3 0 (512 * k0_t1.val + 512) 0) (v313 : S1x512x128.Idx → EReal) (hv313 : R3 v313 s.a4 0 (512 * k0_t1.val + 512) 0) (X20_1 : S512x128.Idx → EReal) (hX20_1 : W2 X20_1 s.a20 (k0_pay396 (F := Ideal) (k0_pay395 (F := Ideal) v2 (k0_pay386 (F := Ideal) v298 v300) (k0_pay387 (F := Ideal) v309 v313) k0_pay389 (iota .tc S256x128 32 [1] iota_S256x128_d1_w32) (k0_pay390 (F := Ideal) v2 v309 v313))) 0 0) (X12_1 : S2x8x512x512.Idx → EReal) (hX12_1 : W4 X12_1 s.a12 (k0_pay403 (F := Ideal) (k0_pay391 (F := Ideal) (k0_pay386 (F := Ideal) v298 v300) k0_pay389 (iota .tc S256x128 32 [1] iota_S256x128_d1_w32) (k0_pay390 (F := Ideal) v2 v309 v313)) (k0_pay392 (F := Ideal) v2 (k0_pay386 (F := Ideal) v298 v300) (k0_pay387 (F := Ideal) v309 v313) k0_pay389 (iota .tc S256x128 32 [1] iota_S256x128_d1_w32)) (k0_pay393 (F := Ideal) v2 (k0_pay386 (F := Ideal) v298 v300) (k0_pay387 (F := Ideal) v309 v313) k0_pay389 (iota .tc S256x128 32 [1] iota_S256x128_d1_w32)) (k0_pay394 (F := Ideal) v2 (k0_pay386 (F := Ideal) v298 v300) (k0_pay387 (F := Ideal) v309 v313) k0_pay389 (iota .tc S256x128 32 [1] iota_S256x128_d1_w32)) (k0_pay395 (F := Ideal) v2 (k0_pay386 (F := Ideal) v298 v300) (k0_pay387 (F := Ideal) v309 v313) k0_pay389 (iota .tc S256x128 32 [1] iota_S256x128_d1_w32) (k0_pay390 (F := Ideal) v2 v309 v313))) (((k0_t1.val + 1) % 2)) (k0_t1.val + 1) 0 0) (v319 : S1x256x128.Idx → EReal) (hv319 : R3 v319 s.a6 0 (512 * k0_t1.val + 512) 0) (v323 : S1x512x128.Idx → EReal) (hv323 : R3 v323 s.a5 0 (512 * k0_t1.val + 512) 0) (X13_1 : S2x8x512x512.Idx → EReal) (hX13_1 : W4 X13_1 s.a13 (k0_pay404 (F := Ideal) (k0_pay388 (F := Ideal) v319 v323)) (((k0_t1.val + 1) % 2)) (k0_t1.val + 1) 0 0) (X21_1 : S512x128.Idx → EReal) (hX21_1 : W2 X21_1 s.a21 (k0_pay401 (F := Ideal) (k0_pay391 (F := Ideal) (k0_pay386 (F := Ideal) v298 v300) k0_pay389 (iota .tc S256x128 32 [1] iota_S256x128_d1_w32) (k0_pay390 (F := Ideal) v2 v309 v313)) (k0_pay392 (F := Ideal) v2 (k0_pay386 (F := Ideal) v298 v300) (k0_pay387 (F := Ideal) v309 v313) k0_pay389 (iota .tc S256x128 32 [1] iota_S256x128_d1_w32)) (k0_pay393 (F := Ideal) v2 (k0_pay386 (F := Ideal) v298 v300) (k0_pay387 (F := Ideal) v309 v313) k0_pay389 (iota .tc S256x128 32 [1] iota_S256x128_d1_w32)) (k0_pay394 (F := Ideal) v2 (k0_pay386 (F := Ideal) v298 v300) (k0_pay387 (F := Ideal) v309 v313) k0_pay389 (iota .tc S256x128 32 [1] iota_S256x128_d1_w32)) (k0_pay395 (F := Ideal) v2 (k0_pay386 (F := Ideal) v298 v300) (k0_pay387 (F := Ideal) v309 v313) k0_pay389 (iota .tc S256x128 32 [1] iota_S256x128_d1_w32) (k0_pay390 (F := Ideal) v2 v309 v313))) 0 0) (X22_1 : S512x128.Idx → EReal) (hX22_1 : W2 X22_1 s.a22 (k0_pay402 (F := Ideal) (k0_pay388 (F := Ideal) v319 v323) (k0_pay391 (F := Ideal) (k0_pay386 (F := Ideal) v298 v300) k0_pay389 (iota .tc S256x128 32 [1] iota_S256x128_d1_w32) (k0_pay390 (F := Ideal) v2 v309 v313)) (k0_pay392 (F := Ideal) v2 (k0_pay386 (F := Ideal) v298 v300) (k0_pay387 (F := Ideal) v309 v313) k0_pay389 (iota .tc S256x128 32 [1] iota_S256x128_d1_w32)) (k0_pay393 (F := Ideal) v2 (k0_pay386 (F := Ideal) v298 v300) (k0_pay387 (F := Ideal) v309 v313) k0_pay389 (iota .tc S256x128 32 [1] iota_S256x128_d1_w32)) (k0_pay394 (F := Ideal) v2 (k0_pay386 (F := Ideal) v298 v300) (k0_pay387 (F := Ideal) v309 v313) k0_pay389 (iota .tc S256x128 32 [1] iota_S256x128_d1_w32)) (k0_pay395 (F := Ideal) v2 (k0_pay386 (F := Ideal) v298 v300) (k0_pay387 (F := Ideal) v309 v313) k0_pay389 (iota .tc S256x128 32 [1] iota_S256x128_d1_w32) (k0_pay390 (F := Ideal) v2 v309 v313))) 0 0) (v426 : S1x256x128.Idx → EReal) (hv426 : R3 v426 s.a3 0 (512 * k0_t1.val + 768) 0) (v430 : S1x512x128.Idx → EReal) (hv430 : R3 v430 s.a4 0 (512 * k0_t1.val + 512) 0) (X20_2 : S512x128.Idx → EReal) (hX20_2 : W2 X20_2 X20_1 (k0_pay416 (F := Ideal) v2 (k0_pay386 (F := Ideal) v298 v300) (k0_pay405 (F := Ideal) v426 v430) k0_pay407 (iota .tc S256x128 32 [1] iota_S256x128_d1_w32) (k0_pay408 (F := Ideal) v2 (k0_pay386 (F := Ideal) v298 v300) v426 v430) (k0_pay409 (F := Ideal) v2 (k0_pay386 (F := Ideal) v298 v300) v426 v430) k0_pay410 (k0_pay411 (F := Ideal))) 256 0) (X12_2 : S2x8x512x512.Idx → EReal) (hX12_2 : W4 X12_2 X12_1 (k0_pay424 (F := Ideal) (k0_pay417 (F := Ideal) v2 (k0_pay386 (F := Ideal) v298 v300) (k0_pay405 (F := Ideal) v426 v430) k0_pay407 (iota .tc S256x128 32 [1] iota_S256x128_d1_w32) (k0_pay408 (F := Ideal) v2 (k0_pay386 (F := Ideal) v298 v300) v426 v430) (k0_pay409 (F := Ideal) v2 (k0_pay386 (F := Ideal) v298 v300) v426 v430) k0_pay410 (k0_pay411 (F := Ideal))) (k0_pay418 (F := Ideal) v2 (k0_pay386 (F := Ideal) v298 v300) (k0_pay405 (F := Ideal) v426 v430) k0_pay407 (iota .tc S256x128 32 [1] iota_S256x128_d1_w32) (k0_pay408 (F := Ideal) v2 (k0_pay386 (F := Ideal) v298 v300) v426 v430) (k0_pay409 (F := Ideal) v2 (k0_pay386 (F := Ideal) v298 v300) v426 v430) k0_pay410 (k0_pay411 (F := Ideal))) (k0_pay419 (F := Ideal) v2 (k0_pay386 (F := Ideal) v298 v300) (k0_pay405 (F := Ideal) v426 v430) k0_pay407 (iota .tc S256x128 32 [1] iota_S256x128_d1_w32) (k0_pay408 (F := Ideal) v2 (k0_pay386 (F := Ideal) v298 v300) v426 v430) (k0_pay409 (F := Ideal) v2 (k0_pay386 (F := Ideal) v298 v300) v426 v430) k0_pay410 (k0_pay411 (F := Ideal))) (k0_pay420 (F := Ideal) v2 (k0_pay386 (F := Ideal) v298 v300) (k0_pay405 (F := Ideal) v426 v430) k0_pay407 (iota .tc S256x128 32 [1] iota_S256x128_d1_w32) (k0_pay408 (F := Ideal) v2 (k0_pay386 (F := Ideal) v298 v300) v426 v430) (k0_pay409 (F := Ideal) v2 (k0_pay386 (F := Ideal) v298 v300) v426 v430) k0_pay410 (k0_pay411 (F := Ideal)))) (((k0_t1.val + 1) % 2)) (k0_t1.val + 1) 256 0) (v436 : S1x256x128.Idx → EReal) (hv436 : R3 v436 s.a6 0 (512 * k0_t1.val + 768) 0) (v440 : S1x512x128.Idx → EReal) (hv440 : R3 v440 s.a5 0 (512 * k0_t1.val + 512) 0) (X13_2 : S2x8x512x512.Idx → EReal) (hX13_2 : W4 X13_2 X13_1 (k0_pay425 (F := Ideal) (k0_pay406 (F := Ideal) v436 v440)) (((k0_t1.val + 1) % 2)) (k0_t1.val + 1) 256 0) (X21_2 : S512x128.Idx → EReal) (hX21_2 : W2 X21_2 X21_1 (k0_pay421 (F := Ideal) v2 (k0_pay386 (F := Ideal) v298 v300) (k0_pay405 (F := Ideal) v426 v430) k0_pay407 (iota .tc S256x128 32 [1] iota_S256x128_d1_w32) (k0_pay408 (F := Ideal) v2 (k0_pay386 (F := Ideal) v298 v300) v426 v430) (k0_pay409 (F := Ideal) v2 (k0_pay386 (F := Ideal) v298 v300) v426 v430) k0_pay410 (k0_pay411 (F := Ideal))) 256 0) (X22_2 : S512x128.Idx → EReal) (hX22_2 : W2 X22_2 X22_1 (k0_pay423 (F := Ideal) (k0_pay406 (F := Ideal) v436 v440) (k0_pay418 (F := Ideal) v2 (k0_pay386 (F := Ideal) v298 v300) (k0_pay405 (F := Ideal) v426 v430) k0_pay407 (iota .tc S256x128 32 [1] iota_S256x128_d1_w32) (k0_pay408 (F := Ideal) v2 (k0_pay386 (F := Ideal) v298 v300) v426 v430) (k0_pay409 (F := Ideal) v2 (k0_pay386 (F := Ideal) v298 v300) v426 v430) k0_pay410 (k0_pay411 (F := Ideal))) (k0_pay419 (F := Ideal) v2 (k0_pay386 (F := Ideal) v298 v300) (k0_pay405 (F := Ideal) v426 v430) k0_pay407 (iota .tc S256x128 32 [1] iota_S256x128_d1_w32) (k0_pay408 (F := Ideal) v2 (k0_pay386 (F := Ideal) v298 v300) v426 v430) (k0_pay409 (F := Ideal) v2 (k0_pay386 (F := Ideal) v298 v300) v426 v430) k0_pay410 (k0_pay411 (F := Ideal))) (k0_pay420 (F := Ideal) v2 (k0_pay386 (F := Ideal) v298 v300) (k0_pay405 (F := Ideal) v426 v430) k0_pay407 (iota .tc S256x128 32 [1] iota_S256x128_d1_w32) (k0_pay408 (F := Ideal) v2 (k0_pay386 (F := Ideal) v298 v300) v426 v430) (k0_pay409 (F := Ideal) v2 (k0_pay386 (F := Ideal) v298 v300) v426 v430) k0_pay410 (k0_pay411 (F := Ideal))) (k0_pay422 (F := Ideal) v2 (k0_pay386 (F := Ideal) v298 v300) (k0_pay405 (F := Ideal) v426 v430) (k0_pay406 (F := Ideal) v436 v440) k0_pay407 (iota .tc S256x128 32 [1] iota_S256x128_d1_w32) (k0_pay408 (F := Ideal) v2 (k0_pay386 (F := Ideal) v298 v300) v426 v430) (k0_pay409 (F := Ideal) v2 (k0_pay386 (F := Ideal) v298 v300) v426 v430) k0_pay410 (k0_pay411 (F := Ideal)))) 256 0) (v542 : S1x512x128.Idx → EReal) (hv542 : R3 v542 s.a3 0 (512 * k0_t1.val + 512) 0) (X18_1 : S2x128x512.Idx → EReal) (hX18_1 : W3 X18_1 s.a18 (k0_pay426 (F := Ideal) v542) (((k0_t1.val + 1) % 2)) 0 0) (v552 : S1x512x128.Idx → EReal) (hv552 : R3 v552 s.a6 0 (512 * k0_t1.val + 512) 0) (X19_1 : S2x128x512.Idx → EReal) (hX19_1 : W3 X19_1 s.a19 (k0_pay428 (F := Ideal) (k0_pay427 (F := Ideal) v552)) (((k0_t1.val + 1) % 2)) 0 0) (X16_1 : S512x128.Idx → EReal) (hX16_1 : W2 X16_1 s.a16 (k0_pay429 (F := Ideal)) 0 0) (v572 : S512x128.Idx → EReal) (hv572 : R2 v572 s.a16 0 0) (v574 : EReal) (hv574 : v574 = g2 s.a1 ((i 0).val) 1) (X8_1 : S1x4096x128.Idx → EReal) (hX8_1 : W3 X8_1 s.a8 (k0_pay436 (F := Ideal) v572 v574) 0 (512 * k0_t1.val) 0) (v584 : S512x128.Idx → EReal) (hv584 : R2 v584 s.a21 0 0) (X23_1 : S2x512x128.Idx → EReal) (hX23_1 : W3 X23_1 s.a23 (k0_pay5 (F := Ideal) (k0_pay437 (F := Ideal) v584) (k0_pay439 (F := Ideal))) (((k0_t1.val + 1) % 2)) 0 0) (v587 : S512x128.Idx → EReal) (hv587 : R2 v587 s.a22 0 0) (X24_1 : S2x512x128.Idx → EReal) (hX24_1 : W3 X24_1 s.a24 (k0_pay6 (F := Ideal) (k0_pay437 (F := Ideal) v584) (k0_pay438 (F := Ideal) v587) (k0_pay439 (F := Ideal))) (((k0_t1.val + 1) % 2)) 0 0) (v624 : S1x1x512.Idx → EReal) (hv624 : R3 v624 s.a7 0 (k0_t1.val + 1) 0) (X20_3 : S512x128.Idx → EReal) (hX20_3 : W2 X20_3 s.a20 (k0_pay380 (F := Ideal) v624) 0 0) (X21_3 : S512x128.Idx → EReal) (hX21_3 : W2 X21_3 s.a21 (k0_pay381 (F := Ideal)) 0 0) (X22_3 : S512x128.Idx → EReal) (hX22_3 : W2 X22_3 s.a22 (k0_pay382 (F := Ideal)) 0 0) (v648 : S512x128.Idx → EReal) (hv648 : R2 v648 s.a21 0 0) (X21_4 : S512x128.Idx → EReal) (hX21_4 : W2 X21_4 s.a21 (k0_pay385 (F := Ideal) v648) 0 0) (X20_4 : S512x128.Idx → EReal) (hX20_4 : W2 X20_4 s.a20 (k0_pay9 (F := Ideal)) 0 0) (v668 : S512x128.Idx → EReal) (hv668 : R2 v668 s.a21 0 0) (v669 : S512x128.Idx → EReal) (hv669 : R2 v669 s.a20 0 0) (X23_2 : S2x512x128.Idx → EReal) (hX23_2 : W3 X23_2 s.a23 (k0_pay13 (F := Ideal) v668 v669) (((k0_t1.val + 1) % 2)) 0 0) (v681 : S512x128.Idx → EReal) (hv681 : R2 v681 s.a22 0 0) (X24_2 : S2x512x128.Idx → EReal) (hX24_2 : W3 X24_2 s.a24 (k0_pay14 (F := Ideal) v668 v669 v681) (((k0_t1.val + 1) % 2)) 0 0)
include s i v2 k0_t1

include hv298 hv300 hv309 hv313 hX20_1 hv426 hv430 hX20_2 in
theorem t1_m (r z : ℕ) (hr : r < 512) (hz : z < 128) :
    g2 X20_2 r z
      = Mx s v2 (i 0).val (k0_t1.val + 1) r := by
  unfold Mx Xd Xs Sc LG
  have h2 : r < 256 ∨ 256 ≤ r := by omega
  rcases h2 with h2 | h2
  all_goals
    try simp (disch := omega) only [hX20_1, hX20_2, if_pos, if_neg]
    iterate 1 ((try simp (disch := omega) only [k0_pay386, k0_pay387, k0_pay389, k0_pay390, k0_pay391, k0_pay392, k0_pay393, k0_pay394, red395, k0_pay396, k0_pay405, k0_pay407, k0_pay408, k0_pay409, k0_pay410, k0_pay411, k0_pay412, k0_pay413, k0_pay414, red415, k0_pay416]); (try simp (disch := omega) only [readsA, if_pos, if_neg]); (try simp (disch := omega) only [hv298, hv300, hv309, hv313, hX20_1, hv426, hv430, hX20_2, if_pos, if_neg]))
    (with_reducible repeat' first | rfl | refine sumc fun _ _ => ?_ | refine supc fun _ _ => ?_ | apply cE | apply cA | apply cM | apply cB | apply cX | apply cP | apply cL | apply cD | refine cI ?_ ?_ ?_ | apply c2 | apply c3 | apply c4 | omega)
    all_goals first | with_reducible rfl | (first | rw [g3_fill1] | rw [g3_fill2] | rw [tr_a] | rw [tr_b] | rw [g2_mask3] | rw [g2_mask]) <;> try omega
    all_goals (try simp (disch := omega) only [readsA, if_pos, if_neg])
    all_goals (try simp (disch := omega) only [hv298, hv300, hv309, hv313, hX20_1, hv426, hv430, hX20_2, if_pos, if_neg])
    all_goals (with_reducible repeat' first | rfl | refine sumc fun _ _ => ?_ | refine supc fun _ _ => ?_ | apply cE | apply cA | apply cM | apply cB | apply cX | apply cP | apply cL | apply cD | refine cI ?_ ?_ ?_ | apply c2 | apply c3 | apply c4 | omega)

set_option maxHeartbeats 1600000 in
include hv298 hv300 hv309 hv313 hX12_1 hv426 hv430 hX12_2 in
theorem t1_e (p' j' r c : ℕ) (hr : r < 512) (hc : c < 512) :
    g4 X12_2 p' j' r c
      = if p' = ((k0_t1.val + 1) % 2) ∧ j' = (k0_t1.val + 1) then Ed s v2 (i 0).val (k0_t1.val + 1) r c
        else g4 s.a12 p' j' r c := by
  by_cases hp : p' = ((k0_t1.val + 1) % 2) ∧ j' = (k0_t1.val + 1)
  · rw [if_pos hp]
    obtain ⟨rfl, rfl⟩ := hp
    unfold Ed Mx Xd Xs Sc LG
    have h2 : r < 256 ∨ 256 ≤ r := by omega
    have h4 : c < 128 ∨ (128 ≤ c ∧ c < 256) ∨ (256 ≤ c ∧ c < 384) ∨ 384 ≤ c := by omega
    rcases h2 with h2 | h2 <;> rcases h4 with h4 | h4 | h4 | h4
    all_goals
      try simp (disch := omega) only [hX12_1, hX12_2, if_pos, if_neg]
      iterate 1 ((try simp (disch := omega) only [k0_pay386, k0_pay387, k0_pay389, k0_pay390, k0_pay391, k0_pay392, k0_pay393, k0_pay394, red395, k0_pay397, k0_pay398, k0_pay399, k0_pay400, k0_pay403, k0_pay405, k0_pay407, k0_pay408, k0_pay409, k0_pay410, k0_pay411, k0_pay412, k0_pay413, k0_pay414, red415, k0_pay417, k0_pay418, k0_pay419, k0_pay420, k0_pay424]); (try simp (disch := omega) only [readsA, if_pos, if_neg]); (try simp (disch := omega) only [hv298, hv300, hv309, hv313, hX12_1, hv426, hv430, hX12_2, if_pos, if_neg]))
      (with_reducible repeat' first | rfl | refine sumc fun _ _ => ?_ | refine supc fun _ _ => ?_ | apply cE | apply cA | apply cM | apply cB | apply cX | apply cP | apply cL | apply cD | refine cI ?_ ?_ ?_ | apply c2 | apply c3 | apply c4 | omega)
      all_goals first | with_reducible rfl | (first | rw [g3_fill1] | rw [g3_fill2] | rw [tr_a] | rw [tr_b] | rw [g2_mask3] | rw [g2_mask]) <;> try omega
      all_goals (try simp (disch := omega) only [readsA, if_pos, if_neg])
      all_goals (try simp (disch := omega) only [hv298, hv300, hv309, hv313, hX12_1, hv426, hv430, hX12_2, if_pos, if_neg])
      all_goals (with_reducible repeat' first | rfl | refine sumc fun _ _ => ?_ | refine supc fun _ _ => ?_ | apply cE | apply cA | apply cM | apply cB | apply cX | apply cP | apply cL | apply cD | refine cI ?_ ?_ ?_ | apply c2 | apply c3 | apply c4 | omega)
  · rw [if_neg hp]
    simp (disch := omega) only [hX12_1, hX12_2, if_neg]

include hv319 hv323 hX13_1 hv436 hv440 hX13_2 in
theorem t1_d (p' j' r c : ℕ) (hr : r < 512) (hc : c < 512) :
    g4 X13_2 p' j' r c
      = if p' = ((k0_t1.val + 1) % 2) ∧ j' = (k0_t1.val + 1) then Dp s (512 * (k0_t1.val + 1) + r) (512 * (k0_t1.val + 1) + c)
        else g4 s.a13 p' j' r c := by
  by_cases hp : p' = ((k0_t1.val + 1) % 2) ∧ j' = (k0_t1.val + 1)
  · rw [if_pos hp]
    obtain ⟨rfl, rfl⟩ := hp
    unfold Dp
    have h2 : r < 256 ∨ 256 ≤ r := by omega
    rcases h2 with h2 | h2
    all_goals
      try simp (disch := omega) only [hX13_1, hX13_2, if_pos, if_neg]
      iterate 1 ((try simp (disch := omega) only [k0_pay388, k0_pay404, k0_pay406, k0_pay425]); (try simp (disch := omega) only [readsA, if_pos, if_neg]); (try simp (disch := omega) only [hv319, hv323, hX13_1, hv436, hv440, hX13_2, if_pos, if_neg]))
      (with_reducible repeat' first | rfl | refine sumc fun _ _ => ?_ | refine supc fun _ _ => ?_ | apply cE | apply cA | apply cM | apply cB | apply cX | apply cP | apply cL | apply cD | refine cI ?_ ?_ ?_ | apply c2 | apply c3 | apply c4 | omega)
  · rw [if_neg hp]
    simp (disch := omega) only [hX13_1, hX13_2, if_neg]

include hv298 hv300 hv309 hv313 hX21_1 hv426 hv430 hX21_2 in
theorem t1_l (r z : ℕ) (hr : r < 512) (hz : z < 128) :
    g2 X21_2 r z
      = Ed s v2 (i 0).val (k0_t1.val + 1) r z + Ed s v2 (i 0).val (k0_t1.val + 1) r (128 + z) + Ed s v2 (i 0).val (k0_t1.val + 1) r (256 + z) + Ed s v2 (i 0).val (k0_t1.val + 1) r (384 + z) := by
  unfold Ed Mx Xd Xs Sc LG
  have h2 : r < 256 ∨ 256 ≤ r := by omega
  rcases h2 with h2 | h2
  all_goals
    try simp (disch := omega) only [hX21_1, hX21_2, if_pos, if_neg]
    iterate 1 ((try simp (disch := omega) only [k0_pay386, k0_pay387, k0_pay389, k0_pay390, k0_pay391, k0_pay392, k0_pay393, k0_pay394, red395, k0_pay397, k0_pay398, k0_pay399, k0_pay400, k0_pay401, k0_pay405, k0_pay407, k0_pay408, k0_pay409, k0_pay410, k0_pay411, k0_pay412, k0_pay413, k0_pay414, red415, k0_pay417, k0_pay418, k0_pay419, k0_pay420, k0_pay421]); (try simp (disch := omega) only [readsA, if_pos, if_neg]); (try simp (disch := omega) only [hv298, hv300, hv309, hv313, hX21_1, hv426, hv430, hX21_2, if_pos, if_neg]))
    (with_reducible repeat' first | rfl | refine sumc fun _ _ => ?_ | refine supc fun _ _ => ?_ | apply cE | apply cA | apply cM | apply cB | apply cX | apply cP | apply cL | apply cD | refine cI ?_ ?_ ?_ | apply c2 | apply c3 | apply c4 | omega)
    all_goals first | with_reducible rfl | (first | rw [g3_fill1] | rw [g3_fill2] | rw [tr_a] | rw [tr_b] | rw [g2_mask3] | rw [g2_mask]) <;> try omega
    all_goals (try simp (disch := omega) only [readsA, if_pos, if_neg])
    all_goals (try simp (disch := omega) only [hv298, hv300, hv309, hv313, hX21_1, hv426, hv430, hX21_2, if_pos, if_neg])
    all_goals (with_reducible repeat' first | rfl | refine sumc fun _ _ => ?_ | refine supc fun _ _ => ?_ | apply cE | apply cA | apply cM | apply cB | apply cX | apply cP | apply cL | apply cD | refine cI ?_ ?_ ?_ | apply c2 | apply c3 | apply c4 | omega)

include hv298 hv300 hv309 hv313 hv319 hv323 hX22_1 hv426 hv430 hv436 hv440 hX22_2 in
theorem t1_dl (r z : ℕ) (hr : r < 512) (hz : z < 128) :
    g2 X22_2 r z
      = Ed s v2 (i 0).val (k0_t1.val + 1) r z * Dp s (512 * (k0_t1.val + 1) + r) (512 * (k0_t1.val + 1) + z) + Ed s v2 (i 0).val (k0_t1.val + 1) r (128 + z) * Dp s (512 * (k0_t1.val + 1) + r) (512 * (k0_t1.val + 1) + (128 + z)) + Ed s v2 (i 0).val (k0_t1.val + 1) r (256 + z) * Dp s (512 * (k0_t1.val + 1) + r) (512 * (k0_t1.val + 1) + (256 + z)) + Ed s v2 (i 0).val (k0_t1.val + 1) r (384 + z) * Dp s (512 * (k0_t1.val + 1) + r) (512 * (k0_t1.val + 1) + (384 + z)) := by
  unfold Ed Mx Xd Xs Sc LG Dp
  have h2 : r < 256 ∨ 256 ≤ r := by omega
  rcases h2 with h2 | h2
  all_goals
    try simp (disch := omega) only [hX22_1, hX22_2, if_pos, if_neg]
    iterate 1 ((try simp (disch := omega) only [k0_pay386, k0_pay387, k0_pay388, k0_pay389, k0_pay390, k0_pay391, k0_pay392, k0_pay393, k0_pay394, red395, k0_pay397, k0_pay398, k0_pay399, k0_pay400, k0_pay402, k0_pay405, k0_pay406, k0_pay407, k0_pay408, k0_pay409, k0_pay410, k0_pay411, k0_pay412, k0_pay413, k0_pay414, red415, k0_pay417, k0_pay418, k0_pay419, k0_pay420, k0_pay422, k0_pay423]); (try simp (disch := omega) only [readsA, if_pos, if_neg]); (try simp (disch := omega) only [hv298, hv300, hv309, hv313, hv319, hv323, hX22_1, hv426, hv430, hv436, hv440, hX22_2, if_pos, if_neg]))
    (with_reducible repeat' first | rfl | refine sumc fun _ _ => ?_ | refine supc fun _ _ => ?_ | apply cE | apply cA | apply cM | apply cB | apply cX | apply cP | apply cL | apply cD | refine cI ?_ ?_ ?_ | apply c2 | apply c3 | apply c4 | omega)
    all_goals first | with_reducible rfl | (first | rw [g3_fill1] | rw [g3_fill2] | rw [tr_a] | rw [tr_b] | rw [g2_mask3] | rw [g2_mask]) <;> try omega
    all_goals (try simp (disch := omega) only [readsA, if_pos, if_neg])
    all_goals (try simp (disch := omega) only [hv298, hv300, hv309, hv313, hv319, hv323, hX22_1, hv426, hv430, hv436, hv440, hX22_2, if_pos, if_neg])
    all_goals (with_reducible repeat' first | rfl | refine sumc fun _ _ => ?_ | refine supc fun _ _ => ?_ | apply cE | apply cA | apply cM | apply cB | apply cX | apply cP | apply cL | apply cD | refine cI ?_ ?_ ?_ | apply c2 | apply c3 | apply c4 | omega)

include hv542 hX18_1 in
theorem t1_qt (p' d r : ℕ) (hd : d < 128) (hr : r < 512) :
    g3 X18_1 p' d r
      = if p' = ((k0_t1.val + 1) % 2) then g3 s.a3 0 (512 * (k0_t1.val + 1) + r) d
        else g3 s.a18 p' d r := by
  by_cases hp : p' = ((k0_t1.val + 1) % 2)
  · rw [if_pos hp]
    subst hp
    try simp (disch := omega) only [hX18_1, if_pos, if_neg]
    iterate 1 ((try simp (disch := omega) only [k0_pay426]); (try simp (disch := omega) only [readsA, if_pos, if_neg]); (try simp (disch := omega) only [hv542, hX18_1, if_pos, if_neg]))
    (with_reducible repeat' first | rfl | refine sumc fun _ _ => ?_ | refine supc fun _ _ => ?_ | apply cE | apply cA | apply cM | apply cB | apply cX | apply cP | apply cL | apply cD | refine cI ?_ ?_ ?_ | apply c2 | apply c3 | apply c4 | omega)
    all_goals first | with_reducible rfl | (first | rw [g3_fill1] | rw [g3_fill2] | rw [tr_a] | rw [tr_b] | rw [g2_mask3] | rw [g2_mask]) <;> try omega
    all_goals (try simp (disch := omega) only [readsA, if_pos, if_neg])
    all_goals (try simp (disch := omega) only [hv542, hX18_1, if_pos, if_neg])
    all_goals (with_reducible repeat' first | rfl | refine sumc fun _ _ => ?_ | refine supc fun _ _ => ?_ | apply cE | apply cA | apply cM | apply cB | apply cX | apply cP | apply cL | apply cD | refine cI ?_ ?_ ?_ | apply c2 | apply c3 | apply c4 | omega)
  · rw [if_neg hp]
    simp (disch := omega) only [hX18_1, if_neg]

include hv552 hX19_1 in
theorem t1_dt (p' d r : ℕ) (hd : d < 128) (hr : r < 512) :
    g3 X19_1 p' d r
      = if p' = ((k0_t1.val + 1) % 2) then g3 s.a6 0 (512 * (k0_t1.val + 1) + r) d
        else g3 s.a19 p' d r := by
  by_cases hp : p' = ((k0_t1.val + 1) % 2)
  · rw [if_pos hp]
    subst hp
    try simp (disch := omega) only [hX19_1, if_pos, if_neg]
    iterate 1 ((try simp (disch := omega) only [k0_pay427, k0_pay428]); (try simp (disch := omega) only [readsA, if_pos, if_neg]); (try simp (disch := omega) only [hv552, hX19_1, if_pos, if_neg]))
    (with_reducible repeat' first | rfl | refine sumc fun _ _ => ?_ | refine supc fun _ _ => ?_ | apply cE | apply cA | apply cM | apply cB | apply cX | apply cP | apply cL | apply cD | refine cI ?_ ?_ ?_ | apply c2 | apply c3 | apply c4 | omega)
    all_goals first | with_reducible rfl | (first | rw [g3_fill1] | rw [g3_fill2] | rw [tr_a] | rw [tr_b] | rw [g2_mask3] | rw [g2_mask]) <;> try omega
    all_goals (try simp (disch := omega) only [readsA, if_pos, if_neg])
    all_goals (try simp (disch := omega) only [hv552, hX19_1, if_pos, if_neg])
    all_goals (with_reducible repeat' first | rfl | refine sumc fun _ _ => ?_ | refine supc fun _ _ => ?_ | apply cE | apply cA | apply cM | apply cB | apply cX | apply cP | apply cL | apply cD | refine cI ?_ ?_ ?_ | apply c2 | apply c3 | apply c4 | omega)
  · rw [if_neg hp]
    simp (disch := omega) only [hX19_1, if_neg]

include hX16_1 in
theorem t1_z (r d : ℕ) (hr : r < 512) (hd : d < 128) :
    g2 X16_1 r d
      = 0 := by
  try simp (disch := omega) only [hX16_1, if_pos, if_neg]
  iterate 1 ((try simp (disch := omega) only [k0_pay429]); (try simp (disch := omega) only [readsA, if_pos, if_neg]); (try simp (disch := omega) only [hX16_1, if_pos, if_neg]))
  (with_reducible repeat' first | rfl | refine sumc fun _ _ => ?_ | refine supc fun _ _ => ?_ | apply cE | apply cA | apply cM | apply cB | apply cX | apply cP | apply cL | apply cD | refine cI ?_ ?_ ?_ | apply c2 | apply c3 | apply c4 | omega)

include hv572 hv574 hX8_1 in
theorem t1_dq (t d : ℕ) (ht : t < 4096) (hd : d < 128) :
    g3 X8_1 0 t d
      = if 512 * k0_t1.val ≤ t ∧ t < 512 * k0_t1.val + 512 then g2 s.a16 (t - 512 * k0_t1.val) d * g2 s.a1 (i 0).val 1
        else g3 s.a8 0 t d := by
  by_cases hp : 512 * k0_t1.val ≤ t ∧ t < 512 * k0_t1.val + 512
  · rw [if_pos hp]
    try simp (disch := omega) only [hX8_1, if_pos, if_neg]
    iterate 1 ((try simp (disch := omega) only [k0_pay436]); (try simp (disch := omega) only [readsA, if_pos, if_neg]); (try simp (disch := omega) only [hv572, hv574, hX8_1, if_pos, if_neg]))
    (with_reducible repeat' first | rfl | refine sumc fun _ _ => ?_ | refine supc fun _ _ => ?_ | apply cE | apply cA | apply cM | apply cB | apply cX | apply cP | apply cL | apply cD | refine cI ?_ ?_ ?_ | apply c2 | apply c3 | apply c4 | omega)
  · rw [if_neg hp]
    simp (disch := omega) only [hX8_1, if_neg]

include hv584 hX23_1 in
theorem t1_fin_r (p' r z : ℕ) (hr : r < 512) (hz : z < 128) :
    g3 X23_1 p' r z
      = if p' = ((k0_t1.val + 1) % 2) then Ideal.div 1 (∑ u ∈ Finset.range 128, g2 s.a21 r u)
        else g3 s.a23 p' r z := by
  by_cases hp : p' = ((k0_t1.val + 1) % 2)
  · rw [if_pos hp]
    subst hp
    try simp (disch := omega) only [hX23_1, if_pos, if_neg]
    iterate 1 ((try simp (disch := omega) only [k0_pay4, k0_pay5, red437, k0_pay439]); (try simp (disch := omega) only [readsA, if_pos, if_neg]); (try simp (disch := omega) only [hv584, hX23_1, if_pos, if_neg]))
    (with_reducible repeat' first | rfl | refine sumc fun _ _ => ?_ | refine supc fun _ _ => ?_ | apply cE | apply cA | apply cM | apply cB | apply cX | apply cP | apply cL | apply cD | refine cI ?_ ?_ ?_ | apply c2 | apply c3 | apply c4 | omega)
  · rw [if_neg hp]
    simp (disch := omega) only [hX23_1, if_neg]

include hv584 hv587 hX24_1 in
theorem t1_fin_d (p' r z : ℕ) (hr : r < 512) (hz : z < 128) :
    g3 X24_1 p' r z
      = if p' = ((k0_t1.val + 1) % 2) then (∑ u ∈ Finset.range 128, g2 s.a22 r u) * Ideal.div 1 (∑ u ∈ Finset.range 128, g2 s.a21 r u)
        else g3 s.a24 p' r z := by
  by_cases hp : p' = ((k0_t1.val + 1) % 2)
  · rw [if_pos hp]
    subst hp
    try simp (disch := omega) only [hX24_1, if_pos, if_neg]
    iterate 1 ((try simp (disch := omega) only [k0_pay4, k0_pay6, red437, red438, k0_pay439]); (try simp (disch := omega) only [readsA, if_pos, if_neg]); (try simp (disch := omega) only [hv584, hv587, hX24_1, if_pos, if_neg]))
    (with_reducible repeat' first | rfl | refine sumc fun _ _ => ?_ | refine supc fun _ _ => ?_ | apply cE | apply cA | apply cM | apply cB | apply cX | apply cP | apply cL | apply cD | refine cI ?_ ?_ ?_ | apply c2 | apply c3 | apply c4 | omega)
  · rw [if_neg hp]
    simp (disch := omega) only [hX24_1, if_neg]

include hv624 hX20_3 in
theorem t1_ci_c (r z : ℕ) (hr : r < 512) (hz : z < 128) :
    g2 X20_3 r z
      = g3 s.a7 0 (k0_t1.val + 1) r := by
  try simp (disch := omega) only [hX20_3, if_pos, if_neg]
  iterate 1 ((try simp (disch := omega) only [k0_pay380]); (try simp (disch := omega) only [readsA, if_pos, if_neg]); (try simp (disch := omega) only [hv624, hX20_3, if_pos, if_neg]))
  (with_reducible repeat' first | rfl | refine sumc fun _ _ => ?_ | refine supc fun _ _ => ?_ | apply cE | apply cA | apply cM | apply cB | apply cX | apply cP | apply cL | apply cD | refine cI ?_ ?_ ?_ | apply c2 | apply c3 | apply c4 | omega)
  all_goals first | with_reducible rfl | (first | rw [g3_fill1] | rw [g3_fill2] | rw [tr_a] | rw [tr_b] | rw [g2_mask3] | rw [g2_mask]) <;> try omega
  all_goals (try simp (disch := omega) only [readsA, if_pos, if_neg])
  all_goals (try simp (disch := omega) only [hv624, hX20_3, if_pos, if_neg])
  all_goals (with_reducible repeat' first | rfl | refine sumc fun _ _ => ?_ | refine supc fun _ _ => ?_ | apply cE | apply cA | apply cM | apply cB | apply cX | apply cP | apply cL | apply cD | refine cI ?_ ?_ ?_ | apply c2 | apply c3 | apply c4 | omega)

include hX21_3 in
theorem t1_ci_m (r z : ℕ) (hr : r < 512) (hz : z < 128) :
    g2 X21_3 r z
      = ⊥ := by
  try simp (disch := omega) only [hX21_3, if_pos, if_neg]
  iterate 1 ((try simp (disch := omega) only [k0_pay381]); (try simp (disch := omega) only [readsA, if_pos, if_neg]); (try simp (disch := omega) only [hX21_3, if_pos, if_neg]))
  (with_reducible repeat' first | rfl | refine sumc fun _ _ => ?_ | refine supc fun _ _ => ?_ | apply cE | apply cA | apply cM | apply cB | apply cX | apply cP | apply cL | apply cD | refine cI ?_ ?_ ?_ | apply c2 | apply c3 | apply c4 | omega)

include hX22_3 in
theorem t1_ci_d (r z : ℕ) (hr : r < 512) (hz : z < 128) :
    g2 X22_3 r z
      = 0 := by
  try simp (disch := omega) only [hX22_3, if_pos, if_neg]
  iterate 1 ((try simp (disch := omega) only [k0_pay382]); (try simp (disch := omega) only [readsA, if_pos, if_neg]); (try simp (disch := omega) only [hX22_3, if_pos, if_neg]))
  (with_reducible repeat' first | rfl | refine sumc fun _ _ => ?_ | refine supc fun _ _ => ?_ | apply cE | apply cA | apply cM | apply cB | apply cX | apply cP | apply cL | apply cD | refine cI ?_ ?_ ?_ | apply c2 | apply c3 | apply c4 | omega)

include hv648 hX21_4 in
theorem t1_cm_m (r z : ℕ) (hr : r < 512) (hz : z < 128) :
    g2 X21_4 r z
      = (Finset.range 128).sup fun u => g2 s.a21 r u := by
  try simp (disch := omega) only [hX21_4, if_pos, if_neg]
  iterate 1 ((try simp (disch := omega) only [red385]); (try simp (disch := omega) only [readsA, if_pos, if_neg]); (try simp (disch := omega) only [hv648, hX21_4, if_pos, if_neg]))
  (with_reducible repeat' first | rfl | refine sumc fun _ _ => ?_ | refine supc fun _ _ => ?_ | apply cE | apply cA | apply cM | apply cB | apply cX | apply cP | apply cL | apply cD | refine cI ?_ ?_ ?_ | apply c2 | apply c3 | apply c4 | omega)

include hX20_4 in
theorem t1_cm_l (r z : ℕ) (hr : r < 512) (hz : z < 128) :
    g2 X20_4 r z
      = 0 := by
  try simp (disch := omega) only [hX20_4, if_pos, if_neg]
  iterate 1 ((try simp (disch := omega) only [k0_pay9]); (try simp (disch := omega) only [readsA, if_pos, if_neg]); (try simp (disch := omega) only [hX20_4, if_pos, if_neg]))
  (with_reducible repeat' first | rfl | refine sumc fun _ _ => ?_ | refine supc fun _ _ => ?_ | apply cE | apply cA | apply cM | apply cB | apply cX | apply cP | apply cL | apply cD | refine cI ?_ ?_ ?_ | apply c2 | apply c3 | apply c4 | omega)

include hv668 hv669 hX23_2 in
theorem t1_cf_r (p' r z : ℕ) (hr : r < 512) (hz : z < 128) :
    g3 X23_2 p' r z
      = if p' = ((k0_t1.val + 1) % 2) then Ideal.exp (g2 s.a21 r z - (g2 s.a21 r z + Ideal.log (∑ u ∈ Finset.range 128, g2 s.a20 r u)))
        else g3 s.a23 p' r z := by
  by_cases hp : p' = ((k0_t1.val + 1) % 2)
  · rw [if_pos hp]
    subst hp
    try simp (disch := omega) only [hX23_2, if_pos, if_neg]
    iterate 1 ((try simp (disch := omega) only [red12, k0_pay13]); (try simp (disch := omega) only [readsA, if_pos, if_neg]); (try simp (disch := omega) only [hv668, hv669, hX23_2, if_pos, if_neg]))
    (with_reducible repeat' first | rfl | refine sumc fun _ _ => ?_ | refine supc fun _ _ => ?_ | apply cE | apply cA | apply cM | apply cB | apply cX | apply cP | apply cL | apply cD | refine cI ?_ ?_ ?_ | apply c2 | apply c3 | apply c4 | omega)
  · rw [if_neg hp]
    simp (disch := omega) only [hX23_2, if_neg]

include hv668 hv669 hv681 hX24_2 in
theorem t1_cf_d (p' r z : ℕ) (hr : r < 512) (hz : z < 128) :
    g3 X24_2 p' r z
      = if p' = ((k0_t1.val + 1) % 2) then Ideal.exp (g2 s.a21 r z - (g2 s.a21 r z + Ideal.log (∑ u ∈ Finset.range 128, g2 s.a20 r u))) * ∑ u ∈ Finset.range 128, g2 s.a22 r u
        else g3 s.a24 p' r z := by
  by_cases hp : p' = ((k0_t1.val + 1) % 2)
  · rw [if_pos hp]
    subst hp
    try simp (disch := omega) only [hX24_2, if_pos, if_neg]
    iterate 1 ((try simp (disch := omega) only [red12, red14]); (try simp (disch := omega) only [readsA, if_pos, if_neg]); (try simp (disch := omega) only [hv668, hv669, hv681, hX24_2, if_pos, if_neg]))
    (with_reducible repeat' first | rfl | refine sumc fun _ _ => ?_ | refine supc fun _ _ => ?_ | apply cE | apply cA | apply cM | apply cB | apply cX | apply cP | apply cL | apply cD | refine cI ?_ ?_ ?_ | apply c2 | apply c3 | apply c4 | omega)
  · rw [if_neg hp]
    simp (disch := omega) only [hX24_2, if_neg]

end

end Cert.Proof.KernelIdeal
-- ==== Proof.T2Fwd.lean ====
/-
  The score pass of the main loop, entry by entry.
-/
module

public import proofs.«01_k».proof.Proof.Tile

@[expose] public section

set_option maxRecDepth 65536

noncomputable section

namespace Cert.Proof.KernelIdeal

open Cert.KernelIdeal Cert.KernelIdeal.Gen Cert.Hoare Cert.Grid
open Idealize.ShloMosaic hiding ix1 ix2 ix3 ix4 eq_ix1 eq_ix2 eq_ix3 eq_ix4
open Idealize.ShloMosaic.TcCoe Idealize.ShloMosaic.Tactic
open Idealize.SL Idealize.SL.RA Idealize.SL.BI
open Idealize.SL.Sem
open Idealize.ShloMosaic.Rounds

section

variable {s : St Ideal} {v2 : EReal} {i : grid0.Coords} {k0_t1 : Fin k0_t1_loop.trips} {k0_t2 : Fin (k0_t2_loop k0_t1).trips} (v625 : EReal) (hv625 : v625 = g2 s.a2 ((i 0).val) (k0_t1.val + 1)) (v627 : S1x1x512.Idx → EReal) (hv627 : R3 v627 s.a7 0 k0_t2.val 0) (v636 : S1x256x128.Idx → EReal) (hv636 : R3 v636 s.a3 0 (512 * k0_t1.val + 512) 0) (v640 : S1x512x128.Idx → EReal) (hv640 : R3 v640 s.a4 0 (512 * k0_t2.val) 0) (v646 : S1x256x128.Idx → EReal) (hv646 : R3 v646 s.a6 0 (512 * k0_t1.val + 512) 0) (v650 : S1x512x128.Idx → EReal) (hv650 : R3 v650 s.a5 0 (512 * k0_t2.val) 0) (v653 : S256x128.Idx → EReal) (hv653 : R2 v653 s.a20 0 0) (X12_1 : S2x8x512x512.Idx → EReal) (hX12_1 : W4 X12_1 s.a12 (k0_pay103 (F := Ideal) v2 (k0_pay98 (F := Ideal) v625 v627) (k0_pay99 (F := Ideal) v636 v640) v653) (((k0_t1.val + 1) % 2)) k0_t2.val 0 0) (X12_2 : S2x8x512x512.Idx → EReal) (hX12_2 : W4 X12_2 X12_1 (k0_pay109 (F := Ideal) v2 (k0_pay98 (F := Ideal) v625 v627) (k0_pay99 (F := Ideal) v636 v640) v653) (((k0_t1.val + 1) % 2)) k0_t2.val 0 128) (X12_3 : S2x8x512x512.Idx → EReal) (hX12_3 : W4 X12_3 X12_2 (k0_pay114 (F := Ideal) (k0_pay98 (F := Ideal) v625 v627) v653 (k0_pay111 (F := Ideal) v2 (k0_pay99 (F := Ideal) v636 v640))) (((k0_t1.val + 1) % 2)) k0_t2.val 0 256) (X12_4 : S2x8x512x512.Idx → EReal) (hX12_4 : W4 X12_4 X12_3 (k0_pay119 (F := Ideal) v2 (k0_pay98 (F := Ideal) v625 v627) (k0_pay99 (F := Ideal) v636 v640) v653) (((k0_t1.val + 1) % 2)) k0_t2.val 0 384) (X13_1 : S2x8x512x512.Idx → EReal) (hX13_1 : W4 X13_1 s.a13 (k0_pay104 (F := Ideal) (k0_pay100 (F := Ideal) v646 v650)) (((k0_t1.val + 1) % 2)) k0_t2.val 0 0) (X13_2 : S2x8x512x512.Idx → EReal) (hX13_2 : W4 X13_2 X13_1 (k0_pay110 (F := Ideal) (k0_pay100 (F := Ideal) v646 v650)) (((k0_t1.val + 1) % 2)) k0_t2.val 0 128) (X13_3 : S2x8x512x512.Idx → EReal) (hX13_3 : W4 X13_3 X13_2 (k0_pay115 (F := Ideal) (k0_pay100 (F := Ideal) v646 v650)) (((k0_t1.val + 1) % 2)) k0_t2.val 0 256) (X13_4 : S2x8x512x512.Idx → EReal) (hX13_4 : W4 X13_4 X13_3 (k0_pay120 (F := Ideal) (k0_pay100 (F := Ideal) v646 v650)) (((k0_t1.val + 1) % 2)) k0_t2.val 0 384) (v654 : S256x128.Idx → EReal) (hv654 : R2 v654 s.a21 0 0) (X21_1 : S512x128.Idx → EReal) (hX21_1 : W2 X21_1 s.a21 (k0_pay121 (F := Ideal) v2 (k0_pay98 (F := Ideal) v625 v627) (k0_pay99 (F := Ideal) v636 v640) v653 (k0_pay107 (F := Ideal) v2 (k0_pay98 (F := Ideal) v625 v627) (k0_pay99 (F := Ideal) v636 v640) v653 v654) (k0_pay111 (F := Ideal) v2 (k0_pay99 (F := Ideal) v636 v640))) 0 0) (v655 : S256x128.Idx → EReal) (hv655 : R2 v655 s.a22 0 0) (X22_1 : S512x128.Idx → EReal) (hX22_1 : W2 X22_1 s.a22 (k0_pay122 (F := Ideal) (k0_pay118 (F := Ideal) v2 (k0_pay98 (F := Ideal) v625 v627) (k0_pay99 (F := Ideal) v636 v640) (k0_pay100 (F := Ideal) v646 v650) v653 (k0_pay108 (F := Ideal) v2 (k0_pay98 (F := Ideal) v625 v627) (k0_pay99 (F := Ideal) v636 v640) (k0_pay100 (F := Ideal) v646 v650) v653 v655) (k0_pay111 (F := Ideal) v2 (k0_pay99 (F := Ideal) v636 v640)))) 0 0) (v753 : S1x256x128.Idx → EReal) (hv753 : R3 v753 s.a3 0 (512 * k0_t1.val + 768) 0) (v757 : S1x512x128.Idx → EReal) (hv757 : R3 v757 s.a4 0 (512 * k0_t2.val) 0) (v763 : S1x256x128.Idx → EReal) (hv763 : R3 v763 s.a6 0 (512 * k0_t1.val + 768) 0) (v767 : S1x512x128.Idx → EReal) (hv767 : R3 v767 s.a5 0 (512 * k0_t2.val) 0) (v770 : S256x128.Idx → EReal) (hv770 : R2 v770 s.a20 256 0) (X12_5 : S2x8x512x512.Idx → EReal) (hX12_5 : W4 X12_5 X12_4 (k0_pay128 (F := Ideal) (k0_pay125 (F := Ideal) v2 (k0_pay98 (F := Ideal) v625 v627) v753 v757 v770)) (((k0_t1.val + 1) % 2)) k0_t2.val 256 0) (X12_6 : S2x8x512x512.Idx → EReal) (hX12_6 : W4 X12_6 X12_5 (k0_pay132 (F := Ideal) v2 (k0_pay98 (F := Ideal) v625 v627) (k0_pay123 (F := Ideal) v753 v757) v770) (((k0_t1.val + 1) % 2)) k0_t2.val 256 128) (X12_7 : S2x8x512x512.Idx → EReal) (hX12_7 : W4 X12_7 X12_6 (k0_pay138 (F := Ideal) (k0_pay134 (F := Ideal) v2 (k0_pay98 (F := Ideal) v625 v627) (k0_pay123 (F := Ideal) v753 v757) v770)) (((k0_t1.val + 1) % 2)) k0_t2.val 256 256) (X12_8 : S2x8x512x512.Idx → EReal) (hX12_8 : W4 X12_8 X12_7 (k0_pay142 (F := Ideal) v2 (k0_pay98 (F := Ideal) v625 v627) (k0_pay123 (F := Ideal) v753 v757) v770) (((k0_t1.val + 1) % 2)) k0_t2.val 256 384) (X13_5 : S2x8x512x512.Idx → EReal) (hX13_5 : W4 X13_5 X13_4 (k0_pay129 (F := Ideal) (k0_pay126 (F := Ideal) v763 v767)) (((k0_t1.val + 1) % 2)) k0_t2.val 256 0) (X13_6 : S2x8x512x512.Idx → EReal) (hX13_6 : W4 X13_6 X13_5 (k0_pay133 (F := Ideal) (k0_pay124 (F := Ideal) v763 v767)) (((k0_t1.val + 1) % 2)) k0_t2.val 256 128) (X13_7 : S2x8x512x512.Idx → EReal) (hX13_7 : W4 X13_7 X13_6 (k0_pay139 (F := Ideal) (k0_pay135 (F := Ideal) (k0_pay124 (F := Ideal) v763 v767))) (((k0_t1.val + 1) % 2)) k0_t2.val 256 256) (X13_8 : S2x8x512x512.Idx → EReal) (hX13_8 : W4 X13_8 X13_7 (k0_pay143 (F := Ideal) (k0_pay124 (F := Ideal) v763 v767)) (((k0_t1.val + 1) % 2)) k0_t2.val 256 384) (v771 : S256x128.Idx → EReal) (hv771 : R2 v771 X21_1 256 0) (X21_2 : S512x128.Idx → EReal) (hX21_2 : W2 X21_2 X21_1 (k0_pay144 (F := Ideal) v2 (k0_pay98 (F := Ideal) v625 v627) (k0_pay123 (F := Ideal) v753 v757) v770 (k0_pay136 (F := Ideal) v2 (k0_pay98 (F := Ideal) v625 v627) (k0_pay123 (F := Ideal) v753 v757) v770 (k0_pay127 (F := Ideal) v2 (k0_pay98 (F := Ideal) v625 v627) v753 v757 v770 v771))) 256 0) (v772 : S256x128.Idx → EReal) (hv772 : R2 v772 X22_1 256 0) (X22_2 : S512x128.Idx → EReal) (hX22_2 : W2 X22_2 X22_1 (k0_pay145 (F := Ideal) v2 (k0_pay98 (F := Ideal) v625 v627) (k0_pay123 (F := Ideal) v753 v757) (k0_pay124 (F := Ideal) v763 v767) v770 (k0_pay137 (F := Ideal) v2 (k0_pay98 (F := Ideal) v625 v627) (k0_pay123 (F := Ideal) v753 v757) (k0_pay124 (F := Ideal) v763 v767) v770 v772 (k0_pay125 (F := Ideal) v2 (k0_pay98 (F := Ideal) v625 v627) v753 v757 v770) (k0_pay126 (F := Ideal) v763 v767))) 256 0)
include s v2 i k0_t1 k0_t2

include hv625 hv627 hv636 hv640 hv653 hX12_1 hX12_2 hX12_3 hX12_4 hv753 hv757 hv770 hX12_5 hX12_6 hX12_7 hX12_8 in
theorem t2_e (p' j' r c : ℕ) (hr : r < 512) (hc : c < 512) :
    g4 X12_8 p' j' r c
      = if p' = (k0_t1.val + 1) % 2 ∧ j' = k0_t2.val then En s v2 (i 0).val (k0_t1.val + 1) r k0_t2.val c
        else g4 s.a12 p' j' r c := by
  by_cases hp : p' = (k0_t1.val + 1) % 2 ∧ j' = k0_t2.val
  · rw [if_pos hp]
    obtain ⟨rfl, rfl⟩ := hp
    unfold En Xs Sc LG
    have h4 : c < 128 ∨ (128 ≤ c ∧ c < 256) ∨ (256 ≤ c ∧ c < 384) ∨ 384 ≤ c := by omega
    have h2 : r < 256 ∨ 256 ≤ r := by omega
    rcases h2 with h2 | h2 <;> rcases h4 with h4 | h4 | h4 | h4
    all_goals
      simp (disch := omega) only [hX12_1, hX12_2, hX12_3, hX12_4, hX12_5, hX12_6, hX12_7, hX12_8, if_pos, if_neg]
      simp (disch := omega) only [k0_pay98, k0_pay99, k0_pay101, k0_pay103, k0_pay105, k0_pay109, k0_pay111, k0_pay112, k0_pay114, k0_pay116, k0_pay119, k0_pay123, k0_pay125, k0_pay128, k0_pay130, k0_pay132, k0_pay134, k0_pay138, k0_pay140, k0_pay142]
      simp (disch := omega) only [readsB]
      simp (disch := omega) only [hv625, hv627, hv636, hv640, hv653, hv753, hv757, hv770]
      (with_reducible repeat' first | rfl | refine sumc fun _ _ => ?_ | apply cE | apply cA | apply cM | apply cB | apply c2 | apply c3 | apply c4 | omega)
  · rw [if_neg hp]
    simp (disch := omega) only [hX12_1, hX12_2, hX12_3, hX12_4, hX12_5, hX12_6, hX12_7, hX12_8, if_neg]

include hv646 hv650 hX13_1 hX13_2 hX13_3 hX13_4 hv763 hv767 hX13_5 hX13_6 hX13_7 hX13_8 in
theorem t2_d (p' j' r c : ℕ) (hr : r < 512) (hc : c < 512) :
    g4 X13_8 p' j' r c
      = if p' = (k0_t1.val + 1) % 2 ∧ j' = k0_t2.val then Dp s (512 * (k0_t1.val + 1) + r) (512 * k0_t2.val + c)
        else g4 s.a13 p' j' r c := by
  by_cases hp : p' = (k0_t1.val + 1) % 2 ∧ j' = k0_t2.val
  · rw [if_pos hp]
    obtain ⟨rfl, rfl⟩ := hp
    unfold Dp
    have h4 : c < 128 ∨ (128 ≤ c ∧ c < 256) ∨ (256 ≤ c ∧ c < 384) ∨ 384 ≤ c := by omega
    have h2 : r < 256 ∨ 256 ≤ r := by omega
    rcases h2 with h2 | h2 <;> rcases h4 with h4 | h4 | h4 | h4
    all_goals
      simp (disch := omega) only [hX13_1, hX13_2, hX13_3, hX13_4, hX13_5, hX13_6, hX13_7, hX13_8, if_pos, if_neg]
      simp (disch := omega) only [k0_pay100, k0_pay102, k0_pay104, k0_pay106, k0_pay110, k0_pay113, k0_pay115, k0_pay117, k0_pay120, k0_pay124, k0_pay126, k0_pay129, k0_pay131, k0_pay133, k0_pay135, k0_pay139, k0_pay141, k0_pay143]
      simp (disch := omega) only [readsB]
      simp (disch := omega) only [hv646, hv650, hv763, hv767]
      (with_reducible repeat' first | rfl | refine sumc fun _ _ => ?_ | apply cE | apply cA | apply cM | apply cB | apply c2 | apply c3 | apply c4 | omega)
  · rw [if_neg hp]
    simp (disch := omega) only [hX13_1, hX13_2, hX13_3, hX13_4, hX13_5, hX13_6, hX13_7, hX13_8, if_neg]

include hv625 hv627 hv636 hv640 hv653 hv654 hX21_1 hv753 hv757 hv770 hv771 hX21_2 in
theorem t2_l (r z : ℕ) (hr : r < 512) (hz : z < 128) :
    g2 X21_2 r z
      = g2 s.a21 r z + En s v2 (i 0).val (k0_t1.val + 1) r k0_t2.val z + En s v2 (i 0).val (k0_t1.val + 1) r k0_t2.val (128 + z) + En s v2 (i 0).val (k0_t1.val + 1) r k0_t2.val (256 + z) + En s v2 (i 0).val (k0_t1.val + 1) r k0_t2.val (384 + z) := by
  unfold En Xs Sc LG
  have h2 : r < 256 ∨ 256 ≤ r := by omega
  rcases h2 with h2 | h2
  all_goals
    simp (disch := omega) only [hX21_1, hX21_2, if_pos, if_neg]
    simp (disch := omega) only [k0_pay98, k0_pay99, k0_pay101, k0_pay105, k0_pay107, k0_pay111, k0_pay112, k0_pay116, k0_pay121, k0_pay123, k0_pay125, k0_pay127, k0_pay130, k0_pay134, k0_pay136, k0_pay140, k0_pay144]
    simp (disch := omega) only [readsB]
    simp (disch := omega) only [hv625, hv627, hv636, hv640, hv653, hv654, hX21_1, hv753, hv757, hv770, hv771, hX21_2, if_neg]
    (with_reducible repeat' first | rfl | refine sumc fun _ _ => ?_ | apply cE | apply cA | apply cM | apply cB | apply c2 | apply c3 | apply c4 | omega)

include hv625 hv627 hv636 hv640 hv646 hv650 hv653 hv655 hX22_1 hv753 hv757 hv763 hv767 hv770 hv772 hX22_2 in
theorem t2_dl (r z : ℕ) (hr : r < 512) (hz : z < 128) :
    g2 X22_2 r z
      = g2 s.a22 r z + En s v2 (i 0).val (k0_t1.val + 1) r k0_t2.val z * Dp s (512 * (k0_t1.val + 1) + r) (512 * k0_t2.val + z) + En s v2 (i 0).val (k0_t1.val + 1) r k0_t2.val (128 + z) * Dp s (512 * (k0_t1.val + 1) + r) (512 * k0_t2.val + (128 + z)) + En s v2 (i 0).val (k0_t1.val + 1) r k0_t2.val (256 + z) * Dp s (512 * (k0_t1.val + 1) + r) (512 * k0_t2.val + (256 + z)) + En s v2 (i 0).val (k0_t1.val + 1) r k0_t2.val (384 + z) * Dp s (512 * (k0_t1.val + 1) + r) (512 * k0_t2.val + (384 + z)) := by
  unfold En Xs Sc Dp LG
  have h2 : r < 256 ∨ 256 ≤ r := by omega
  rcases h2 with h2 | h2
  all_goals
    simp (disch := omega) only [hX22_1, hX22_2, if_pos, if_neg]
    simp (disch := omega) only [k0_pay98, k0_pay99, k0_pay100, k0_pay101, k0_pay102, k0_pay105, k0_pay106, k0_pay108, k0_pay111, k0_pay112, k0_pay113, k0_pay116, k0_pay117, k0_pay118, k0_pay122, k0_pay123, k0_pay124, k0_pay125, k0_pay126, k0_pay130, k0_pay131, k0_pay134, k0_pay135, k0_pay137, k0_pay140, k0_pay141, k0_pay145]
    simp (disch := omega) only [readsB]
    simp (disch := omega) only [hv625, hv627, hv636, hv640, hv646, hv650, hv653, hv655, hX22_1, hv753, hv757, hv763, hv767, hv770, hv772, hX22_2, if_neg]
    (with_reducible repeat' first | rfl | refine sumc fun _ _ => ?_ | apply cE | apply cA | apply cM | apply cB | apply c2 | apply c3 | apply c4 | omega)

end

end Cert.Proof.KernelIdeal
-- ==== Proof.T2Bwd.lean ====
/-
  The gradient pass of the main loop, entry by entry.
-/
module

public import proofs.«01_k».proof.Proof.Tile

@[expose] public section

set_option maxRecDepth 65536

noncomputable section

namespace Cert.Proof.KernelIdeal

open Cert.KernelIdeal Cert.KernelIdeal.Gen Cert.Hoare Cert.Grid
open Idealize.ShloMosaic hiding ix1 ix2 ix3 ix4 eq_ix1 eq_ix2 eq_ix3 eq_ix4
open Idealize.ShloMosaic.TcCoe Idealize.ShloMosaic.Tactic
open Idealize.SL Idealize.SL.RA Idealize.SL.BI
open Idealize.SL.Sem
open Idealize.ShloMosaic.Rounds

section

variable {s : St Ideal} {v2 : EReal} {i : grid0.Coords} {k0_t1 : Fin k0_t1_loop.trips} {k0_t2 : Fin (k0_t2_loop k0_t1).trips} (X12_8 : S2x8x512x512.Idx → EReal) (hX12_8 : ∀ p' j' r c, p' = (k0_t1.val % 2) → r < 512 → c < 512 → g4 X12_8 p' j' r c = g4 s.a12 p' j' r c) (X13_8 : S2x8x512x512.Idx → EReal) (hX13_8 : ∀ p' j' r c, p' = (k0_t1.val % 2) → r < 512 → c < 512 → g4 X13_8 p' j' r c = g4 s.a13 p' j' r c) (v870 : S1x256x128.Idx → EReal) (hv870 : R3 v870 s.a23 ((k0_t1.val % 2)) 0 0) (v873 : S1x256x128.Idx → EReal) (hv873 : R3 v873 s.a24 ((k0_t1.val % 2)) 0 0) (v877 : S1x1x256x128.Idx → EReal) (hv877 : R4 v877 X12_8 ((k0_t1.val % 2)) k0_t2.val 0 0) (v882 : S1x1x256x128.Idx → EReal) (hv882 : R4 v882 X13_8 ((k0_t1.val % 2)) k0_t2.val 0 0) (v888 : S1x1x256x128.Idx → EReal) (hv888 : R4 v888 X12_8 ((k0_t1.val % 2)) k0_t2.val 0 128) (v893 : S1x1x256x128.Idx → EReal) (hv893 : R4 v893 X13_8 ((k0_t1.val % 2)) k0_t2.val 0 128) (v899 : S1x1x256x128.Idx → EReal) (hv899 : R4 v899 X12_8 ((k0_t1.val % 2)) k0_t2.val 0 256) (v904 : S1x1x256x128.Idx → EReal) (hv904 : R4 v904 X13_8 ((k0_t1.val % 2)) k0_t2.val 0 256) (v910 : S1x1x256x128.Idx → EReal) (hv910 : R4 v910 X12_8 ((k0_t1.val % 2)) k0_t2.val 0 384) (v915 : S1x1x256x128.Idx → EReal) (hv915 : R4 v915 X13_8 ((k0_t1.val % 2)) k0_t2.val 0 384) (v926 : S1x256x128.Idx → EReal) (hv926 : R3 v926 s.a23 ((k0_t1.val % 2)) 256 0) (v929 : S1x256x128.Idx → EReal) (hv929 : R3 v929 s.a24 ((k0_t1.val % 2)) 256 0) (v933 : S1x1x256x128.Idx → EReal) (hv933 : R4 v933 X12_8 ((k0_t1.val % 2)) k0_t2.val 256 0) (v938 : S1x1x256x128.Idx → EReal) (hv938 : R4 v938 X13_8 ((k0_t1.val % 2)) k0_t2.val 256 0) (v944 : S1x1x256x128.Idx → EReal) (hv944 : R4 v944 X12_8 ((k0_t1.val % 2)) k0_t2.val 256 128) (v949 : S1x1x256x128.Idx → EReal) (hv949 : R4 v949 X13_8 ((k0_t1.val % 2)) k0_t2.val 256 128) (v955 : S1x1x256x128.Idx → EReal) (hv955 : R4 v955 X12_8 ((k0_t1.val % 2)) k0_t2.val 256 256) (v960 : S1x1x256x128.Idx → EReal) (hv960 : R4 v960 X13_8 ((k0_t1.val % 2)) k0_t2.val 256 256) (v966 : S1x1x256x128.Idx → EReal) (hv966 : R4 v966 X12_8 ((k0_t1.val % 2)) k0_t2.val 256 384) (v985 : S1x128x512.Idx → EReal) (hv985 : R3 v985 s.a15 k0_t2.val 0 0) (v988 : S1x128x512.Idx → EReal) (hv988 : R3 v988 s.a19 ((k0_t1.val % 2)) 0 0) (X15_1 : S8x128x512.Idx → EReal) (hX15_1 : W3 X15_1 s.a15 (k0_pay170 (F := Ideal) (k0_pay157 (F := Ideal) (k0_pay148 (F := Ideal) v870 v877) (k0_pay150 (F := Ideal) v870 v888) (k0_pay152 (F := Ideal) v870 v899) (k0_pay154 (F := Ideal) v870 v910)) (k0_pay159 (F := Ideal) v926) (k0_pay161 (F := Ideal) v926 v933) (k0_pay163 (F := Ideal) v926 v944) v955 v966 v985 v988) k0_t2.val 0 0) (v971 : S1x1x256x128.Idx → EReal) (hv971 : R4 v971 X13_8 ((k0_t1.val % 2)) k0_t2.val 256 384) (v997 : S1x128x512.Idx → EReal) (hv997 : R3 v997 s.a14 k0_t2.val 0 0) (v1000 : S1x128x512.Idx → EReal) (hv1000 : R3 v1000 s.a18 ((k0_t1.val % 2)) 0 0) (X14_1 : S8x128x512.Idx → EReal) (hX14_1 : W3 X14_1 s.a14 (k0_pay430 (F := Ideal) (k0_pay169 (F := Ideal) (k0_pay158 (F := Ideal) (k0_pay147 (F := Ideal) v873) (k0_pay149 (F := Ideal) v870 v873 v877 v882) (k0_pay151 (F := Ideal) v870 v873 v888 v893) (k0_pay153 (F := Ideal) v870 v873 v899 v904) (k0_pay154 (F := Ideal) v870 v910) v915) (k0_pay159 (F := Ideal) v926) (k0_pay160 (F := Ideal) v929) (k0_pay162 (F := Ideal) v926 v929 v933 v938) (k0_pay164 (F := Ideal) v926 v929 v944 v949) v955 v960 v966 v971) (k0_pay171 (F := Ideal) v997) v1000) k0_t2.val 0 0) (v1010 : S1x512x128.Idx → EReal) (hv1010 : R3 v1010 s.a4 0 (512 * k0_t2.val) 0) (v1013 : S512x128.Idx → EReal) (hv1013 : R2 v1013 s.a16 0 0) (X16_1 : S512x128.Idx → EReal) (hX16_1 : W2 X16_1 s.a16 (k0_pay431 (F := Ideal) (k0_pay169 (F := Ideal) (k0_pay158 (F := Ideal) (k0_pay147 (F := Ideal) v873) (k0_pay149 (F := Ideal) v870 v873 v877 v882) (k0_pay151 (F := Ideal) v870 v873 v888 v893) (k0_pay153 (F := Ideal) v870 v873 v899 v904) (k0_pay154 (F := Ideal) v870 v910) v915) (k0_pay159 (F := Ideal) v926) (k0_pay160 (F := Ideal) v929) (k0_pay162 (F := Ideal) v926 v929 v933 v938) (k0_pay164 (F := Ideal) v926 v929 v944 v949) v955 v960 v966 v971) v1010 v1013) 0 0) (v1020 : S1x8x512.Idx → EReal) (hv1020 : R3 v1020 s.a17 k0_t2.val 0 0) (X17_1 : S8x8x512.Idx → EReal) (hX17_1 : W3 X17_1 s.a17 (k0_pay432 (F := Ideal) (k0_pay168 (F := Ideal) (k0_pay156 (F := Ideal) (k0_pay147 (F := Ideal) v873) (k0_pay149 (F := Ideal) v870 v873 v877 v882) (k0_pay151 (F := Ideal) v870 v873 v888 v893) (k0_pay153 (F := Ideal) v870 v873 v899 v904) (k0_pay154 (F := Ideal) v870 v910) v915) (k0_pay159 (F := Ideal) v926) (k0_pay160 (F := Ideal) v929) (k0_pay162 (F := Ideal) v926 v929 v933 v938) (k0_pay164 (F := Ideal) v926 v929 v944 v949) v955 v960 v966 v971) v1020) k0_t2.val 0 0)
include s v2 i k0_t1 k0_t2

include hX12_8 hv870 hv877 hv888 hv899 hv910 hv926 hv933 hv944 hv955 hv966 hv985 hv988 hX15_1 in
theorem t2_v (j' d c : ℕ) (hd : d < 128) (hc : c < 512) :
    g3 X15_1 j' d c
      = if j' = k0_t2.val then g3 s.a15 k0_t2.val d c
          + ∑ r ∈ Finset.range 512, g3 s.a19 (k0_t1.val % 2) d r * Pw s (k0_t1.val % 2) k0_t2.val r c
        else g3 s.a15 j' d c := by
  by_cases hp : j' = k0_t2.val
  · rw [if_pos hp]
    subst hp
    have h4 : c < 128 ∨ (128 ≤ c ∧ c < 256) ∨ (256 ≤ c ∧ c < 384) ∨ 384 ≤ c := by omega
    rcases h4 with h4 | h4 | h4 | h4
    all_goals
      simp (disch := omega) only [hX15_1, if_pos, if_neg]
      simp (disch := omega) only [k0_pay146, k0_pay148, k0_pay150, k0_pay152, k0_pay154, k0_pay157, k0_pay159, k0_pay161, k0_pay163, k0_pay165, k0_pay166, k0_pay170]
      simp (disch := omega) only [readsB, if_pos, if_neg]
      refine cA ?_ (sumc fun r hr => ?_)
      · simp (disch := omega) only [hv870, hv877, hv888, hv899, hv910, hv926, hv933, hv944, hv955, hv966, hv985, hv988, hX15_1, if_neg, hX12_8]
        (with_reducible repeat' first | rfl | refine sumc fun _ _ => ?_ | apply cE | apply cA | apply cM | apply cB | apply c2 | apply c3 | apply c4 | omega)
      · have h2 : r < 256 ∨ 256 ≤ r := by omega
        unfold Pw
        rcases h2 with h2 | h2
        all_goals
          simp (disch := omega) only [readsB, if_pos, if_neg]
          simp (disch := omega) only [hv870, hv877, hv888, hv899, hv910, hv926, hv933, hv944, hv955, hv966, hv985, hv988, hX15_1, if_neg, hX12_8]
          (with_reducible repeat' first | rfl | refine sumc fun _ _ => ?_ | apply cE | apply cA | apply cM | apply cB | apply c2 | apply c3 | apply c4 | omega)
  · rw [if_neg hp]
    simp (disch := omega) only [hX15_1, if_pos, if_neg]

include hX12_8 hX13_8 hv870 hv873 hv877 hv882 hv888 hv893 hv899 hv904 hv910 hv915 hv926 hv929 hv933 hv938 hv944 hv949 hv955 hv960 hv966 hv971 hv997 hv1000 hX14_1 in
theorem t2_k (j' d c : ℕ) (hd : d < 128) (hc : c < 512) :
    g3 X14_1 j' d c
      = if j' = k0_t2.val then g3 s.a14 k0_t2.val d c
          + ∑ r ∈ Finset.range 512, g3 s.a18 (k0_t1.val % 2) d r * Ds s (k0_t1.val % 2) k0_t2.val r c
        else g3 s.a14 j' d c := by
  by_cases hp : j' = k0_t2.val
  · rw [if_pos hp]
    subst hp
    have h4 : c < 128 ∨ (128 ≤ c ∧ c < 256) ∨ (256 ≤ c ∧ c < 384) ∨ 384 ≤ c := by omega
    rcases h4 with h4 | h4 | h4 | h4
    all_goals
      simp (disch := omega) only [hX14_1, if_pos, if_neg]
      simp (disch := omega) only [k0_pay146, k0_pay147, k0_pay148, k0_pay149, k0_pay150, k0_pay151, k0_pay152, k0_pay153, k0_pay154, k0_pay155, k0_pay158, k0_pay159, k0_pay160, k0_pay161, k0_pay162, k0_pay163, k0_pay164, k0_pay165, k0_pay166, k0_pay167, k0_pay169, k0_pay171, k0_pay430]
      simp (disch := omega) only [readsB, if_pos, if_neg]
      refine cA ?_ (sumc fun r hr => ?_)
      · simp (disch := omega) only [hv870, hv873, hv877, hv882, hv888, hv893, hv899, hv904, hv910, hv915, hv926, hv929, hv933, hv938, hv944, hv949, hv955, hv960, hv966, hv971, hv997, hv1000, hX14_1, if_neg, hX12_8, hX13_8]
        (with_reducible repeat' first | rfl | refine sumc fun _ _ => ?_ | apply cE | apply cA | apply cM | apply cB | apply c2 | apply c3 | apply c4 | omega)
      · have h2 : r < 256 ∨ 256 ≤ r := by omega
        unfold Ds Pw
        rcases h2 with h2 | h2
        all_goals
          simp (disch := omega) only [readsB, if_pos, if_neg]
          simp (disch := omega) only [hv870, hv873, hv877, hv882, hv888, hv893, hv899, hv904, hv910, hv915, hv926, hv929, hv933, hv938, hv944, hv949, hv955, hv960, hv966, hv971, hv997, hv1000, hX14_1, if_neg, hX12_8, hX13_8]
          (with_reducible repeat' first | rfl | refine sumc fun _ _ => ?_ | apply cE | apply cA | apply cM | apply cB | apply c2 | apply c3 | apply c4 | omega)
  · rw [if_neg hp]
    simp (disch := omega) only [hX14_1, if_pos, if_neg]

include hX12_8 hX13_8 hv870 hv873 hv877 hv882 hv888 hv893 hv899 hv904 hv910 hv915 hv926 hv929 hv933 hv938 hv944 hv949 hv955 hv960 hv966 hv971 hv1010 hv1013 hX16_1 in
theorem t2_q (r d : ℕ) (hr : r < 512) (hd : d < 128) :
    g2 X16_1 r d
      = g2 s.a16 r d
          + ∑ c ∈ Finset.range 512, Ds s (k0_t1.val % 2) k0_t2.val r c * g3 s.a4 0 (512 * k0_t2.val + c) d := by
  have h2 : r < 256 ∨ 256 ≤ r := by omega
  rcases h2 with h2 | h2
  all_goals
    simp (disch := omega) only [hX16_1, if_pos, if_neg]
    simp (disch := omega) only [k0_pay146, k0_pay147, k0_pay148, k0_pay149, k0_pay150, k0_pay151, k0_pay152, k0_pay153, k0_pay154, k0_pay155, k0_pay158, k0_pay159, k0_pay160, k0_pay161, k0_pay162, k0_pay163, k0_pay164, k0_pay165, k0_pay166, k0_pay167, k0_pay169, k0_pay431]
    simp (disch := omega) only [readsB, if_pos, if_neg]
    refine cA ?_ (sumc fun c hc => ?_)
    · simp (disch := omega) only [hv870, hv873, hv877, hv882, hv888, hv893, hv899, hv904, hv910, hv915, hv926, hv929, hv933, hv938, hv944, hv949, hv955, hv960, hv966, hv971, hv1010, hv1013, hX16_1, if_neg, hX12_8, hX13_8]
      (with_reducible repeat' first | rfl | refine sumc fun _ _ => ?_ | apply cE | apply cA | apply cM | apply cB | apply c2 | apply c3 | apply c4 | omega)
    · have h4 : c < 128 ∨ (128 ≤ c ∧ c < 256) ∨ (256 ≤ c ∧ c < 384) ∨ 384 ≤ c := by omega
      unfold Ds Pw
      rcases h4 with h4 | h4 | h4 | h4
      all_goals
        simp (disch := omega) only [readsB, if_pos, if_neg]
        simp (disch := omega) only [hv870, hv873, hv877, hv882, hv888, hv893, hv899, hv904, hv910, hv915, hv926, hv929, hv933, hv938, hv944, hv949, hv955, hv960, hv966, hv971, hv1010, hv1013, hX16_1, if_neg, hX12_8, hX13_8]
        (with_reducible repeat' first | rfl | refine sumc fun _ _ => ?_ | apply cE | apply cA | apply cM | apply cB | apply c2 | apply c3 | apply c4 | omega)

include hX12_8 hX13_8 hv870 hv873 hv877 hv882 hv888 hv893 hv899 hv904 hv910 hv915 hv926 hv929 hv933 hv938 hv944 hv949 hv955 hv960 hv966 hv971 hv1020 hX17_1 in
theorem t2_cs (j' z c : ℕ) (hz : z < 8) (hc : c < 512) :
    g3 X17_1 j' z c
      = if j' = k0_t2.val then g3 s.a17 k0_t2.val z c
          + ((∑ a ∈ Finset.range 32, Ds s (k0_t1.val % 2) k0_t2.val (8 * a + z) c) + ∑ a ∈ Finset.range 32, Ds s (k0_t1.val % 2) k0_t2.val (256 + (8 * a + z)) c)
        else g3 s.a17 j' z c := by
  by_cases hp : j' = k0_t2.val
  · rw [if_pos hp]
    subst hp
    unfold Ds Pw
    have h4 : c < 128 ∨ (128 ≤ c ∧ c < 256) ∨ (256 ≤ c ∧ c < 384) ∨ 384 ≤ c := by omega
    rcases h4 with h4 | h4 | h4 | h4
    all_goals
      simp (disch := omega) only [hX17_1, if_pos, if_neg]
      simp (disch := omega) only [k0_pay146, k0_pay147, k0_pay148, k0_pay149, k0_pay150, k0_pay151, k0_pay152, k0_pay153, k0_pay154, k0_pay155, red156, k0_pay159, k0_pay160, k0_pay161, k0_pay162, k0_pay163, k0_pay164, k0_pay165, k0_pay166, k0_pay167, red168, k0_pay432]
      simp (disch := omega) only [readsB, if_pos, if_neg]
      simp (disch := omega) only [hv870, hv873, hv877, hv882, hv888, hv893, hv899, hv904, hv910, hv915, hv926, hv929, hv933, hv938, hv944, hv949, hv955, hv960, hv966, hv971, hv1020, hX17_1, if_neg, hX12_8, hX13_8]
      (with_reducible repeat' first | rfl | refine sumc fun _ _ => ?_ | apply cE | apply cA | apply cM | apply cB | apply c2 | apply c3 | apply c4 | omega)
  · rw [if_neg hp]
    simp (disch := omega) only [hX17_1, if_pos, if_neg]

end

end Cert.Proof.KernelIdeal
-- ==== Proof.T4.lean ====
/-
  One score tile of the careful pass.
-/
module

public import proofs.«01_k».proof.Proof.Rel2

@[expose] public section

set_option maxRecDepth 65536

noncomputable section

namespace Cert.Proof.KernelIdeal

open Cert.KernelIdeal Cert.KernelIdeal.Gen Cert.Hoare Cert.Grid
open Idealize.ShloMosaic hiding ix1 ix2 ix3 ix4 eq_ix1 eq_ix2 eq_ix3 eq_ix4
open Idealize.ShloMosaic.TcCoe Idealize.ShloMosaic.Tactic
open Idealize.SL Idealize.SL.RA Idealize.SL.BI
open Idealize.SL.Sem
open Idealize.ShloMosaic.Rounds

section

variable {s : St Ideal} {i : grid0.Coords} {k0_t1 : Fin k0_t1_loop.trips} {k0_t4 : Fin (k0_t4_loop k0_t1).trips} (v691 : S1x1x512.Idx → EReal) (hv691 : R3 v691 s.a7 0 k0_t4.val 0) (v696 : S1x256x128.Idx → EReal) (hv696 : R3 v696 s.a3 0 (512 * k0_t1.val + 512) 0) (v700 : S1x512x128.Idx → EReal) (hv700 : R3 v700 s.a4 0 (512 * k0_t4.val) 0) (v714 : EReal) (hv714 : v714 = g2 s.a1 ((i 0).val) 5) (v717 : S256x128.Idx → EReal) (hv717 : R2 v717 s.a20 0 0) (X12_1 : S2x8x512x512.Idx → EReal) (hX12_1 : W4 X12_1 s.a12 (k0_pay251 (F := Ideal) (k0_pay250 (F := Ideal) k0_t1 (Scf.iv 1#32 1#32 k0_t1) 0#32 1#32 k0_t4 v691 v696 v700 v714 v717)) (((k0_t1.val + 1) % 2)) k0_t4.val 0 0) (v732 : S256x128.Idx → EReal) (hv732 : R2 v732 s.a21 0 0) (X21_1 : S512x128.Idx → EReal) (hX21_1 : W2 X21_1 s.a21 (k0_pay252 (F := Ideal) (k0_pay250 (F := Ideal) k0_t1 (Scf.iv 1#32 1#32 k0_t1) 0#32 1#32 k0_t4 v691 v696 v700 v714 v717) v732) 0 0) (v739 : EReal) (hv739 : v739 = g2 s.a1 ((i 0).val) 5) (v742 : S256x128.Idx → EReal) (hv742 : R2 v742 s.a20 0 0) (X12_2 : S2x8x512x512.Idx → EReal) (hX12_2 : W4 X12_2 X12_1 (k0_pay254 (F := Ideal) (k0_pay246 (F := Ideal) v691) (k0_pay247 (F := Ideal) v696 v700) (k0_pay248 (Scf.iv 1#32 1#32 k0_t1)) (k0_pay249 k0_t1 0#32 1#32 k0_t4) v739 v742) (((k0_t1.val + 1) % 2)) k0_t4.val 0 128) (v757 : S256x128.Idx → EReal) (hv757 : R2 v757 X21_1 0 0) (X21_2 : S512x128.Idx → EReal) (hX21_2 : W2 X21_2 X21_1 (k0_pay255 (F := Ideal) (k0_pay246 (F := Ideal) v691) (k0_pay247 (F := Ideal) v696 v700) (k0_pay248 (Scf.iv 1#32 1#32 k0_t1)) (k0_pay249 k0_t1 0#32 1#32 k0_t4) v739 v742 v757) 0 0) (v764 : EReal) (hv764 : v764 = g2 s.a1 ((i 0).val) 5) (v767 : S256x128.Idx → EReal) (hv767 : R2 v767 s.a20 0 0) (X12_3 : S2x8x512x512.Idx → EReal) (hX12_3 : W4 X12_3 X12_2 (k0_pay258 (F := Ideal) (k0_pay246 (F := Ideal) v691) (k0_pay248 (Scf.iv 1#32 1#32 k0_t1)) (k0_pay249 k0_t1 0#32 1#32 k0_t4) (k0_pay256 (F := Ideal) (k0_pay247 (F := Ideal) v696 v700) v764) v767) (((k0_t1.val + 1) % 2)) k0_t4.val 0 256) (v782 : S256x128.Idx → EReal) (hv782 : R2 v782 X21_2 0 0) (X21_3 : S512x128.Idx → EReal) (hX21_3 : W2 X21_3 X21_2 (k0_pay259 (F := Ideal) (k0_pay246 (F := Ideal) v691) (k0_pay248 (Scf.iv 1#32 1#32 k0_t1)) (k0_pay249 k0_t1 0#32 1#32 k0_t4) (k0_pay256 (F := Ideal) (k0_pay247 (F := Ideal) v696 v700) v764) v767 v782) 0 0) (v789 : EReal) (hv789 : v789 = g2 s.a1 ((i 0).val) 5) (v792 : S256x128.Idx → EReal) (hv792 : R2 v792 s.a20 0 0) (X12_4 : S2x8x512x512.Idx → EReal) (hX12_4 : W4 X12_4 X12_3 (k0_pay261 (F := Ideal) (k0_pay246 (F := Ideal) v691) (k0_pay247 (F := Ideal) v696 v700) (k0_pay248 (Scf.iv 1#32 1#32 k0_t1)) (k0_pay249 k0_t1 0#32 1#32 k0_t4) v789 v792) (((k0_t1.val + 1) % 2)) k0_t4.val 0 384) (v807 : S256x128.Idx → EReal) (hv807 : R2 v807 X21_3 0 0) (X21_4 : S512x128.Idx → EReal) (hX21_4 : W2 X21_4 X21_3 (k0_pay262 (F := Ideal) (k0_pay260 (F := Ideal) (k0_pay246 (F := Ideal) v691) (k0_pay247 (F := Ideal) v696 v700) (k0_pay248 (Scf.iv 1#32 1#32 k0_t1)) (k0_pay249 k0_t1 0#32 1#32 k0_t4) v789 v792) v807) 0 0) (v815 : S1x256x128.Idx → EReal) (hv815 : R3 v815 s.a3 0 (512 * k0_t1.val + 768) 0) (v819 : S1x512x128.Idx → EReal) (hv819 : R3 v819 s.a4 0 (512 * k0_t4.val) 0) (v833 : EReal) (hv833 : v833 = g2 s.a1 ((i 0).val) 5) (v836 : S256x128.Idx → EReal) (hv836 : R2 v836 s.a20 256 0) (X12_5 : S2x8x512x512.Idx → EReal) (hX12_5 : W4 X12_5 X12_4 (k0_pay267 (F := Ideal) (k0_pay266 (F := Ideal) (Scf.iv 1#32 1#32 k0_t1) (Scf.iv 0#32 1#32 k0_t4) (k0_pay246 (F := Ideal) v691) v815 v819 v833 v836)) (((k0_t1.val + 1) % 2)) k0_t4.val 256 0) (v851 : S256x128.Idx → EReal) (hv851 : R2 v851 X21_4 256 0) (X21_5 : S512x128.Idx → EReal) (hX21_5 : W2 X21_5 X21_4 (k0_pay268 (F := Ideal) (k0_pay266 (F := Ideal) (Scf.iv 1#32 1#32 k0_t1) (Scf.iv 0#32 1#32 k0_t4) (k0_pay246 (F := Ideal) v691) v815 v819 v833 v836) v851) 256 0) (v858 : EReal) (hv858 : v858 = g2 s.a1 ((i 0).val) 5) (v861 : S256x128.Idx → EReal) (hv861 : R2 v861 s.a20 256 0) (X12_6 : S2x8x512x512.Idx → EReal) (hX12_6 : W4 X12_6 X12_5 (k0_pay270 (F := Ideal) (k0_pay246 (F := Ideal) v691) (k0_pay263 (F := Ideal) v815 v819) (k0_pay264 (Scf.iv 1#32 1#32 k0_t1)) (k0_pay265 (Scf.iv 0#32 1#32 k0_t4)) v858 v861) (((k0_t1.val + 1) % 2)) k0_t4.val 256 128) (v876 : S256x128.Idx → EReal) (hv876 : R2 v876 X21_5 256 0) (X21_6 : S512x128.Idx → EReal) (hX21_6 : W2 X21_6 X21_5 (k0_pay271 (F := Ideal) (k0_pay246 (F := Ideal) v691) (k0_pay263 (F := Ideal) v815 v819) (k0_pay264 (Scf.iv 1#32 1#32 k0_t1)) (k0_pay265 (Scf.iv 0#32 1#32 k0_t4)) v858 v861 v876) 256 0) (v883 : EReal) (hv883 : v883 = g2 s.a1 ((i 0).val) 5) (v886 : S256x128.Idx → EReal) (hv886 : R2 v886 s.a20 256 0) (X12_7 : S2x8x512x512.Idx → EReal) (hX12_7 : W4 X12_7 X12_6 (k0_pay274 (F := Ideal) (k0_pay246 (F := Ideal) v691) (k0_pay264 (Scf.iv 1#32 1#32 k0_t1)) (k0_pay265 (Scf.iv 0#32 1#32 k0_t4)) (k0_pay272 (F := Ideal) (k0_pay263 (F := Ideal) v815 v819) v883) v886) (((k0_t1.val + 1) % 2)) k0_t4.val 256 256) (v901 : S256x128.Idx → EReal) (hv901 : R2 v901 X21_6 256 0) (X21_7 : S512x128.Idx → EReal) (hX21_7 : W2 X21_7 X21_6 (k0_pay275 (F := Ideal) (k0_pay246 (F := Ideal) v691) (k0_pay264 (Scf.iv 1#32 1#32 k0_t1)) (k0_pay265 (Scf.iv 0#32 1#32 k0_t4)) (k0_pay272 (F := Ideal) (k0_pay263 (F := Ideal) v815 v819) v883) v886 v901) 256 0) (v908 : EReal) (hv908 : v908 = g2 s.a1 ((i 0).val) 5) (v911 : S256x128.Idx → EReal) (hv911 : R2 v911 s.a20 256 0) (X12_8 : S2x8x512x512.Idx → EReal) (hX12_8 : W4 X12_8 X12_7 (k0_pay277 (F := Ideal) (k0_pay246 (F := Ideal) v691) (k0_pay263 (F := Ideal) v815 v819) (k0_pay264 (Scf.iv 1#32 1#32 k0_t1)) (k0_pay265 (Scf.iv 0#32 1#32 k0_t4)) v908 v911) (((k0_t1.val + 1) % 2)) k0_t4.val 256 384) (v926 : S256x128.Idx → EReal) (hv926 : R2 v926 X21_7 256 0) (X21_8 : S512x128.Idx → EReal) (hX21_8 : W2 X21_8 X21_7 (k0_pay383 (F := Ideal) (k0_pay276 (F := Ideal) (k0_pay246 (F := Ideal) v691) (k0_pay263 (F := Ideal) v815 v819) (k0_pay264 (Scf.iv 1#32 1#32 k0_t1)) (k0_pay265 (Scf.iv 0#32 1#32 k0_t4)) v908 v911) v926) 256 0)

theorem t4lt : ∀ (k0_t1 : Fin k0_t1_loop.trips) (k0_t4 : Fin (k0_t4_loop k0_t1).trips), k0_t4.val ≤ k0_t1.val + 1 ∧ k0_t1.val < 7 := by decide +kernel

include s i k0_t1 k0_t4 hv691 hv696 hv700 hv714 hv717 hX12_1 hv739 hv742 hX12_2 hv764 hv767 hX12_3 hv789 hv792 hX12_4 hv815 hv819 hv833 hv836 hX12_5 hv858 hv861 hX12_6 hv883 hv886 hX12_7 hv908 hv911 hX12_8 in
theorem t4_cs_e (p' j' r c : ℕ) (hr : r < 512) (hc : c < 512) :
    g4 X12_8 p' j' r c
      = if p' = ((k0_t1.val + 1) % 2) ∧ j' = k0_t4.val then Xc s (i 0).val (k0_t1.val + 1) r k0_t4.val c
        else g4 s.a12 p' j' r c := by
  have hb := t4lt k0_t1 k0_t4
  by_cases hp : p' = ((k0_t1.val + 1) % 2) ∧ j' = k0_t4.val
  · rw [if_pos hp]
    obtain ⟨rfl, rfl⟩ := hp
    unfold Xc Sc
    have h2 : r < 256 ∨ 256 ≤ r := by omega
    have h4 : c < 128 ∨ (128 ≤ c ∧ c < 256) ∨ (256 ≤ c ∧ c < 384) ∨ 384 ≤ c := by omega
    rcases h2 with h2 | h2 <;> rcases h4 with h4 | h4 | h4 | h4
    all_goals
      try simp (disch := omega) only [hX12_1, hX12_2, hX12_3, hX12_4, hX12_5, hX12_6, hX12_7, hX12_8, if_pos, if_neg]
      iterate 1 ((try simp (disch := omega) only [k0_pay246, k0_pay247, k0_pay248, k0_pay249, k0_pay250, k0_pay251, k0_pay253, k0_pay254, k0_pay256, k0_pay257, k0_pay258, k0_pay260, k0_pay261, k0_pay263, k0_pay264, k0_pay265, k0_pay266, k0_pay267, k0_pay269, k0_pay270, k0_pay272, k0_pay273, k0_pay274, k0_pay276, k0_pay277]); (try simp (disch := omega) only [readsA, if_pos, if_neg]); (try simp (disch := omega) only [hv691, hv696, hv700, hv714, hv717, hX12_1, hv739, hv742, hX12_2, hv764, hv767, hX12_3, hv789, hv792, hX12_4, hv815, hv819, hv833, hv836, hX12_5, hv858, hv861, hX12_6, hv883, hv886, hX12_7, hv908, hv911, hX12_8, if_pos, if_neg]))
      (with_reducible repeat' first | rfl | refine sumc fun _ _ => ?_ | refine supc fun _ _ => ?_ | apply cE | apply cA | apply cM | apply cB | apply cX | apply cP | apply cL | apply cD | refine cI ?_ ?_ ?_ | apply c2 | apply c3 | apply c4 | omega)
      all_goals first | with_reducible rfl | rw [g3_fill1 _ (by omega) (by omega) (by omega)] | rw [g3_fill2 _ (by omega) (by omega) (by omega)] | rw [tr_a _ _ (by omega) (by omega)] | rw [tr_b _ _ (by omega) (by omega)] | rw [g2_mask3 _ _ (by omega) (by omega) (by omega) (by omega) (by omega)] | rw [g2_mask _ _ (by omega) (by omega) (by omega) (by omega)]
      all_goals (try simp (disch := omega) only [readsA, if_pos, if_neg])
      all_goals (try simp (disch := omega) only [hv691, hv696, hv700, hv714, hv717, hX12_1, hv739, hv742, hX12_2, hv764, hv767, hX12_3, hv789, hv792, hX12_4, hv815, hv819, hv833, hv836, hX12_5, hv858, hv861, hX12_6, hv883, hv886, hX12_7, hv908, hv911, hX12_8, if_pos, if_neg])
      all_goals (with_reducible repeat' first | rfl | refine sumc fun _ _ => ?_ | refine supc fun _ _ => ?_ | apply cE | apply cA | apply cM | apply cB | apply cX | apply cP | apply cL | apply cD | refine cI ?_ ?_ ?_ | apply c2 | apply c3 | apply c4 | omega)
  · rw [if_neg hp]
    simp (disch := omega) only [hX12_1, hX12_2, hX12_3, hX12_4, hX12_5, hX12_6, hX12_7, hX12_8, if_neg]

include s i k0_t1 k0_t4 hv691 hv696 hv700 hv714 hv717 hv732 hX21_1 hv739 hv742 hv757 hX21_2 hv764 hv767 hv782 hX21_3 hv789 hv792 hv807 hX21_4 hv815 hv819 hv833 hv836 hv851 hX21_5 hv858 hv861 hv876 hX21_6 hv883 hv886 hv901 hX21_7 hv908 hv911 hv926 hX21_8 in
theorem t4_cs_m (r z : ℕ) (hr : r < 512) (hz : z < 128) :
    g2 X21_8 r z
      = max (max (max (max (g2 s.a21 r z) (Xc s (i 0).val (k0_t1.val + 1) r k0_t4.val z)) (Xc s (i 0).val (k0_t1.val + 1) r k0_t4.val (128 + z))) (Xc s (i 0).val (k0_t1.val + 1) r k0_t4.val (256 + z))) (Xc s (i 0).val (k0_t1.val + 1) r k0_t4.val (384 + z)) := by
  have hb := t4lt k0_t1 k0_t4
  unfold Xc Sc
  have h2 : r < 256 ∨ 256 ≤ r := by omega
  rcases h2 with h2 | h2
  all_goals
    try simp (disch := omega) only [hX21_1, hX21_2, hX21_3, hX21_4, hX21_5, hX21_6, hX21_7, hX21_8, if_pos, if_neg]
    iterate 5 ((try simp (disch := omega) only [k0_pay246, k0_pay247, k0_pay248, k0_pay249, k0_pay250, k0_pay252, k0_pay253, k0_pay255, k0_pay256, k0_pay257, k0_pay259, k0_pay260, k0_pay262, k0_pay263, k0_pay264, k0_pay265, k0_pay266, k0_pay268, k0_pay269, k0_pay271, k0_pay272, k0_pay273, k0_pay275, k0_pay276, k0_pay383]); (try simp (disch := omega) only [readsA, if_pos, if_neg]); (try simp (disch := omega) only [hv691, hv696, hv700, hv714, hv717, hv732, hX21_1, hv739, hv742, hv757, hX21_2, hv764, hv767, hv782, hX21_3, hv789, hv792, hv807, hX21_4, hv815, hv819, hv833, hv836, hv851, hX21_5, hv858, hv861, hv876, hX21_6, hv883, hv886, hv901, hX21_7, hv908, hv911, hv926, hX21_8, if_pos, if_neg]))
    (with_reducible repeat' first | rfl | refine sumc fun _ _ => ?_ | refine supc fun _ _ => ?_ | apply cE | apply cA | apply cM | apply cB | apply cX | apply cP | apply cL | apply cD | refine cI ?_ ?_ ?_ | apply c2 | apply c3 | apply c4 | omega)
    all_goals first | with_reducible rfl | rw [g3_fill1 _ (by omega) (by omega) (by omega)] | rw [g3_fill2 _ (by omega) (by omega) (by omega)] | rw [tr_a _ _ (by omega) (by omega)] | rw [tr_b _ _ (by omega) (by omega)] | rw [g2_mask3 _ _ (by omega) (by omega) (by omega) (by omega) (by omega)] | rw [g2_mask _ _ (by omega) (by omega) (by omega) (by omega)]
    all_goals (try simp (disch := omega) only [readsA, if_pos, if_neg])
    all_goals (try simp (disch := omega) only [hv691, hv696, hv700, hv714, hv717, hv732, hX21_1, hv739, hv742, hv757, hX21_2, hv764, hv767, hv782, hX21_3, hv789, hv792, hv807, hX21_4, hv815, hv819, hv833, hv836, hv851, hX21_5, hv858, hv861, hv876, hX21_6, hv883, hv886, hv901, hX21_7, hv908, hv911, hv926, hX21_8, if_pos, if_neg])
    all_goals (with_reducible repeat' first | rfl | refine sumc fun _ _ => ?_ | refine supc fun _ _ => ?_ | apply cE | apply cA | apply cM | apply cB | apply cX | apply cP | apply cL | apply cD | refine cI ?_ ?_ ?_ | apply c2 | apply c3 | apply c4 | omega)

end

end Cert.Proof.KernelIdeal
-- ==== Proof.T6.lean ====
/-
  One tile of exponentials of the careful pass.
-/
module

public import proofs.«01_k».proof.Proof.Rel2

@[expose] public section

set_option maxRecDepth 65536

noncomputable section

namespace Cert.Proof.KernelIdeal

open Cert.KernelIdeal Cert.KernelIdeal.Gen Cert.Hoare Cert.Grid
open Idealize.ShloMosaic hiding ix1 ix2 ix3 ix4 eq_ix1 eq_ix2 eq_ix3 eq_ix4
open Idealize.ShloMosaic.TcCoe Idealize.ShloMosaic.Tactic
open Idealize.SL Idealize.SL.RA Idealize.SL.BI
open Idealize.SL.Sem
open Idealize.ShloMosaic.Rounds

section

variable {s : St Ideal} {k0_t1 : Fin k0_t1_loop.trips} {k0_t6 : Fin (k0_t6_loop k0_t1).trips} (v692 : S1x1x256x128.Idx → EReal) (hv692 : R4 v692 s.a12 (((k0_t1.val + 1) % 2)) k0_t6.val 0 0) (v694 : S256x128.Idx → EReal) (hv694 : R2 v694 s.a21 0 0) (X12_1 : S2x8x512x512.Idx → EReal) (hX12_1 : W4 X12_1 s.a12 (k0_pay311 (F := Ideal) v692 v694) (((k0_t1.val + 1) % 2)) k0_t6.val 0 0) (v702 : S256x128.Idx → EReal) (hv702 : R2 v702 s.a20 0 0) (X20_1 : S512x128.Idx → EReal) (hX20_1 : W2 X20_1 s.a20 (k0_pay312 (F := Ideal) v692 v694 v702) 0 0) (v707 : S256x128.Idx → EReal) (hv707 : R2 v707 s.a22 0 0) (v710 : S1x1x256x128.Idx → EReal) (hv710 : R4 v710 s.a13 (((k0_t1.val + 1) % 2)) k0_t6.val 0 0) (X22_1 : S512x128.Idx → EReal) (hX22_1 : W2 X22_1 s.a22 (k0_pay313 (F := Ideal) v692 v694 v707 v710) 0 0) (v719 : S1x1x256x128.Idx → EReal) (hv719 : R4 v719 X12_1 (((k0_t1.val + 1) % 2)) k0_t6.val 0 128) (v721 : S256x128.Idx → EReal) (hv721 : R2 v721 s.a21 0 0) (X12_2 : S2x8x512x512.Idx → EReal) (hX12_2 : W4 X12_2 X12_1 (k0_pay315 (F := Ideal) (k0_pay314 (F := Ideal) v719 v721)) (((k0_t1.val + 1) % 2)) k0_t6.val 0 128) (v729 : S256x128.Idx → EReal) (hv729 : R2 v729 X20_1 0 0) (X20_2 : S512x128.Idx → EReal) (hX20_2 : W2 X20_2 X20_1 (k0_pay316 (F := Ideal) (k0_pay314 (F := Ideal) v719 v721) v729) 0 0) (v734 : S256x128.Idx → EReal) (hv734 : R2 v734 X22_1 0 0) (v737 : S1x1x256x128.Idx → EReal) (hv737 : R4 v737 s.a13 (((k0_t1.val + 1) % 2)) k0_t6.val 0 128) (X22_2 : S512x128.Idx → EReal) (hX22_2 : W2 X22_2 X22_1 (k0_pay317 (F := Ideal) (k0_pay314 (F := Ideal) v719 v721) v734 v737) 0 0) (v746 : S1x1x256x128.Idx → EReal) (hv746 : R4 v746 X12_2 (((k0_t1.val + 1) % 2)) k0_t6.val 0 256) (v748 : S256x128.Idx → EReal) (hv748 : R2 v748 s.a21 0 0) (X12_3 : S2x8x512x512.Idx → EReal) (hX12_3 : W4 X12_3 X12_2 (k0_pay319 (F := Ideal) v746 v748) (((k0_t1.val + 1) % 2)) k0_t6.val 0 256) (v756 : S256x128.Idx → EReal) (hv756 : R2 v756 X20_2 0 0) (X20_3 : S512x128.Idx → EReal) (hX20_3 : W2 X20_3 X20_2 (k0_pay321 (F := Ideal) (k0_pay320 (F := Ideal) v746 v748 v756)) 0 0) (v761 : S256x128.Idx → EReal) (hv761 : R2 v761 X22_2 0 0) (v764 : S1x1x256x128.Idx → EReal) (hv764 : R4 v764 s.a13 (((k0_t1.val + 1) % 2)) k0_t6.val 0 256) (X22_3 : S512x128.Idx → EReal) (hX22_3 : W2 X22_3 X22_2 (k0_pay322 (F := Ideal) (k0_pay318 (F := Ideal) v746 v748) v761 v764) 0 0) (v773 : S1x1x256x128.Idx → EReal) (hv773 : R4 v773 X12_3 (((k0_t1.val + 1) % 2)) k0_t6.val 0 384) (v775 : S256x128.Idx → EReal) (hv775 : R2 v775 s.a21 0 0) (X12_4 : S2x8x512x512.Idx → EReal) (hX12_4 : W4 X12_4 X12_3 (k0_pay324 (F := Ideal) v773 v775) (((k0_t1.val + 1) % 2)) k0_t6.val 0 384) (v783 : S256x128.Idx → EReal) (hv783 : R2 v783 X20_3 0 0) (X20_4 : S512x128.Idx → EReal) (hX20_4 : W2 X20_4 X20_3 (k0_pay325 (F := Ideal) v773 v775 v783) 0 0) (v788 : S256x128.Idx → EReal) (hv788 : R2 v788 X22_3 0 0) (v791 : S1x1x256x128.Idx → EReal) (hv791 : R4 v791 s.a13 (((k0_t1.val + 1) % 2)) k0_t6.val 0 384) (X22_4 : S512x128.Idx → EReal) (hX22_4 : W2 X22_4 X22_3 (k0_pay327 (F := Ideal) (k0_pay326 (F := Ideal) v773 v775 v788 v791)) 0 0) (v800 : S1x1x256x128.Idx → EReal) (hv800 : R4 v800 X12_4 (((k0_t1.val + 1) % 2)) k0_t6.val 256 0) (v802 : S256x128.Idx → EReal) (hv802 : R2 v802 s.a21 256 0) (X12_5 : S2x8x512x512.Idx → EReal) (hX12_5 : W4 X12_5 X12_4 (k0_pay329 (F := Ideal) v800 v802) (((k0_t1.val + 1) % 2)) k0_t6.val 256 0) (v810 : S256x128.Idx → EReal) (hv810 : R2 v810 X20_4 256 0) (X20_5 : S512x128.Idx → EReal) (hX20_5 : W2 X20_5 X20_4 (k0_pay330 (F := Ideal) v800 v802 v810) 256 0) (v815 : S256x128.Idx → EReal) (hv815 : R2 v815 X22_4 256 0) (v818 : S1x1x256x128.Idx → EReal) (hv818 : R4 v818 s.a13 (((k0_t1.val + 1) % 2)) k0_t6.val 256 0) (X22_5 : S512x128.Idx → EReal) (hX22_5 : W2 X22_5 X22_4 (k0_pay331 (F := Ideal) v800 v802 v815 v818) 256 0) (v827 : S1x1x256x128.Idx → EReal) (hv827 : R4 v827 X12_5 (((k0_t1.val + 1) % 2)) k0_t6.val 256 128) (v829 : S256x128.Idx → EReal) (hv829 : R2 v829 s.a21 256 0) (X12_6 : S2x8x512x512.Idx → EReal) (hX12_6 : W4 X12_6 X12_5 (k0_pay334 (F := Ideal) (k0_pay332 (F := Ideal) v827) v829) (((k0_t1.val + 1) % 2)) k0_t6.val 256 128) (v837 : S256x128.Idx → EReal) (hv837 : R2 v837 X20_5 256 0) (X20_6 : S512x128.Idx → EReal) (hX20_6 : W2 X20_6 X20_5 (k0_pay335 (F := Ideal) (k0_pay332 (F := Ideal) v827) v829 v837) 256 0) (v842 : S256x128.Idx → EReal) (hv842 : R2 v842 X22_5 256 0) (v845 : S1x1x256x128.Idx → EReal) (hv845 : R4 v845 s.a13 (((k0_t1.val + 1) % 2)) k0_t6.val 256 128) (X22_6 : S512x128.Idx → EReal) (hX22_6 : W2 X22_6 X22_5 (k0_pay336 (F := Ideal) (k0_pay332 (F := Ideal) v827) v829 v842 v845) 256 0) (v854 : S1x1x256x128.Idx → EReal) (hv854 : R4 v854 X12_6 (((k0_t1.val + 1) % 2)) k0_t6.val 256 256) (v856 : S256x128.Idx → EReal) (hv856 : R2 v856 s.a21 256 0) (X12_7 : S2x8x512x512.Idx → EReal) (hX12_7 : W4 X12_7 X12_6 (k0_pay338 (F := Ideal) v854 v856) (((k0_t1.val + 1) % 2)) k0_t6.val 256 256) (v864 : S256x128.Idx → EReal) (hv864 : R2 v864 X20_6 256 0) (X20_7 : S512x128.Idx → EReal) (hX20_7 : W2 X20_7 X20_6 (k0_pay340 (F := Ideal) (k0_pay339 (F := Ideal) v854 v856 v864)) 256 0) (v869 : S256x128.Idx → EReal) (hv869 : R2 v869 X22_6 256 0) (v872 : S1x1x256x128.Idx → EReal) (hv872 : R4 v872 s.a13 (((k0_t1.val + 1) % 2)) k0_t6.val 256 256) (X22_7 : S512x128.Idx → EReal) (hX22_7 : W2 X22_7 X22_6 (k0_pay341 (F := Ideal) (k0_pay337 (F := Ideal) v854 v856) v869 v872) 256 0) (v881 : S1x1x256x128.Idx → EReal) (hv881 : R4 v881 X12_7 (((k0_t1.val + 1) % 2)) k0_t6.val 256 384) (v883 : S256x128.Idx → EReal) (hv883 : R2 v883 s.a21 256 0) (X12_8 : S2x8x512x512.Idx → EReal) (hX12_8 : W4 X12_8 X12_7 (k0_pay343 (F := Ideal) v881 v883) (((k0_t1.val + 1) % 2)) k0_t6.val 256 384) (v891 : S256x128.Idx → EReal) (hv891 : R2 v891 X20_7 256 0) (X20_8 : S512x128.Idx → EReal) (hX20_8 : W2 X20_8 X20_7 (k0_pay344 (F := Ideal) v881 v883 v891) 256 0) (v896 : S256x128.Idx → EReal) (hv896 : R2 v896 X22_7 256 0) (v899 : S1x1x256x128.Idx → EReal) (hv899 : R4 v899 s.a13 (((k0_t1.val + 1) % 2)) k0_t6.val 256 384) (X22_8 : S512x128.Idx → EReal) (hX22_8 : W2 X22_8 X22_7 (k0_pay10 (F := Ideal) (k0_pay342 (F := Ideal) v881 v883) v896 v899) 256 0)
include s k0_t1 k0_t6

include hv692 hv694 hX12_1 hv719 hv721 hX12_2 hv746 hv748 hX12_3 hv773 hv775 hX12_4 hv800 hv802 hX12_5 hv827 hv829 hX12_6 hv854 hv856 hX12_7 hv881 hv883 hX12_8 in
theorem t6_ce_e (p' j' r c : ℕ) (hr : r < 512) (hc : c < 512) :
    g4 X12_8 p' j' r c
      = if p' = ((k0_t1.val + 1) % 2) ∧ j' = k0_t6.val then Ec s ((k0_t1.val + 1) % 2) k0_t6.val r c
        else g4 s.a12 p' j' r c := by
  by_cases hp : p' = ((k0_t1.val + 1) % 2) ∧ j' = k0_t6.val
  · rw [if_pos hp]
    obtain ⟨rfl, rfl⟩ := hp
    unfold Ec
    have h2 : r < 256 ∨ 256 ≤ r := by omega
    have h4 : c < 128 ∨ (128 ≤ c ∧ c < 256) ∨ (256 ≤ c ∧ c < 384) ∨ 384 ≤ c := by omega
    rcases h2 with h2 | h2 <;> rcases h4 with h4 | h4 | h4 | h4
    all_goals
      try simp (disch := omega) only [hX12_1, hX12_2, hX12_3, hX12_4, hX12_5, hX12_6, hX12_7, hX12_8, if_pos, if_neg]
      iterate 1 ((try simp (disch := omega) only [k0_pay310, k0_pay311, k0_pay314, k0_pay315, k0_pay318, k0_pay319, k0_pay323, k0_pay324, k0_pay328, k0_pay329, k0_pay332, k0_pay333, k0_pay334, k0_pay337, k0_pay338, k0_pay342, k0_pay343]); (try simp (disch := omega) only [readsA, if_pos, if_neg]); (try simp (disch := omega) only [hv692, hv694, hX12_1, hv719, hv721, hX12_2, hv746, hv748, hX12_3, hv773, hv775, hX12_4, hv800, hv802, hX12_5, hv827, hv829, hX12_6, hv854, hv856, hX12_7, hv881, hv883, hX12_8, if_pos, if_neg]))
      (with_reducible repeat' first | rfl | refine sumc fun _ _ => ?_ | refine supc fun _ _ => ?_ | apply cE | apply cA | apply cM | apply cB | apply cX | apply cP | apply cL | apply cD | refine cI ?_ ?_ ?_ | apply c2 | apply c3 | apply c4 | omega)
  · rw [if_neg hp]
    simp (disch := omega) only [hX12_1, hX12_2, hX12_3, hX12_4, hX12_5, hX12_6, hX12_7, hX12_8, if_neg]

include hv692 hv694 hX12_1 hv702 hX20_1 hv719 hv721 hX12_2 hv729 hX20_2 hv746 hv748 hX12_3 hv756 hX20_3 hv773 hv775 hX12_4 hv783 hX20_4 hv800 hv802 hX12_5 hv810 hX20_5 hv827 hv829 hX12_6 hv837 hX20_6 hv854 hv856 hX12_7 hv864 hX20_7 hv881 hv883 hv891 hX20_8 in
theorem t6_ce_l (r z : ℕ) (hr : r < 512) (hz : z < 128) :
    g2 X20_8 r z
      = g2 s.a20 r z + Ec s ((k0_t1.val + 1) % 2) k0_t6.val r z + Ec s ((k0_t1.val + 1) % 2) k0_t6.val r (128 + z) + Ec s ((k0_t1.val + 1) % 2) k0_t6.val r (256 + z) + Ec s ((k0_t1.val + 1) % 2) k0_t6.val r (384 + z) := by
  unfold Ec
  have h2 : r < 256 ∨ 256 ≤ r := by omega
  rcases h2 with h2 | h2
  all_goals
    try simp (disch := omega) only [hX12_1, hX20_1, hX12_2, hX20_2, hX12_3, hX20_3, hX12_4, hX20_4, hX12_5, hX20_5, hX12_6, hX20_6, hX12_7, hX20_7, hX20_8, if_pos, if_neg]
    iterate 5 ((try simp (disch := omega) only [k0_pay310, k0_pay311, k0_pay312, k0_pay314, k0_pay315, k0_pay316, k0_pay318, k0_pay319, k0_pay320, k0_pay321, k0_pay323, k0_pay324, k0_pay325, k0_pay328, k0_pay329, k0_pay330, k0_pay332, k0_pay333, k0_pay334, k0_pay335, k0_pay337, k0_pay338, k0_pay339, k0_pay340, k0_pay342, k0_pay344]); (try simp (disch := omega) only [readsA, if_pos, if_neg]); (try simp (disch := omega) only [hv692, hv694, hX12_1, hv702, hX20_1, hv719, hv721, hX12_2, hv729, hX20_2, hv746, hv748, hX12_3, hv756, hX20_3, hv773, hv775, hX12_4, hv783, hX20_4, hv800, hv802, hX12_5, hv810, hX20_5, hv827, hv829, hX12_6, hv837, hX20_6, hv854, hv856, hX12_7, hv864, hX20_7, hv881, hv883, hv891, hX20_8, if_pos, if_neg]))
    (with_reducible repeat' first | rfl | refine sumc fun _ _ => ?_ | refine supc fun _ _ => ?_ | apply cE | apply cA | apply cM | apply cB | apply cX | apply cP | apply cL | apply cD | refine cI ?_ ?_ ?_ | apply c2 | apply c3 | apply c4 | omega)

include hv692 hv694 hX12_1 hv707 hv710 hX22_1 hv719 hv721 hX12_2 hv734 hv737 hX22_2 hv746 hv748 hX12_3 hv761 hv764 hX22_3 hv773 hv775 hX12_4 hv788 hv791 hX22_4 hv800 hv802 hX12_5 hv815 hv818 hX22_5 hv827 hv829 hX12_6 hv842 hv845 hX22_6 hv854 hv856 hX12_7 hv869 hv872 hX22_7 hv881 hv883 hv896 hv899 hX22_8 in
theorem t6_ce_d (r z : ℕ) (hr : r < 512) (hz : z < 128) :
    g2 X22_8 r z
      = g2 s.a22 r z + Fc s ((k0_t1.val + 1) % 2) k0_t6.val r z + Fc s ((k0_t1.val + 1) % 2) k0_t6.val r (128 + z) + Fc s ((k0_t1.val + 1) % 2) k0_t6.val r (256 + z) + Fc s ((k0_t1.val + 1) % 2) k0_t6.val r (384 + z) := by
  unfold Fc Ec
  have h2 : r < 256 ∨ 256 ≤ r := by omega
  rcases h2 with h2 | h2
  all_goals
    try simp (disch := omega) only [hX12_1, hX22_1, hX12_2, hX22_2, hX12_3, hX22_3, hX12_4, hX22_4, hX12_5, hX22_5, hX12_6, hX22_6, hX12_7, hX22_7, hX22_8, if_pos, if_neg]
    iterate 5 ((try simp (disch := omega) only [k0_pay10, k0_pay310, k0_pay311, k0_pay313, k0_pay314, k0_pay315, k0_pay317, k0_pay318, k0_pay319, k0_pay322, k0_pay323, k0_pay324, k0_pay326, k0_pay327, k0_pay328, k0_pay329, k0_pay331, k0_pay332, k0_pay333, k0_pay334, k0_pay336, k0_pay337, k0_pay338, k0_pay341, k0_pay342]); (try simp (disch := omega) only [readsA, if_pos, if_neg]); (try simp (disch := omega) only [hv692, hv694, hX12_1, hv707, hv710, hX22_1, hv719, hv721, hX12_2, hv734, hv737, hX22_2, hv746, hv748, hX12_3, hv761, hv764, hX22_3, hv773, hv775, hX12_4, hv788, hv791, hX22_4, hv800, hv802, hX12_5, hv815, hv818, hX22_5, hv827, hv829, hX12_6, hv842, hv845, hX22_6, hv854, hv856, hX12_7, hv869, hv872, hX22_7, hv881, hv883, hv896, hv899, hX22_8, if_pos, if_neg]))
    (with_reducible repeat' first | rfl | refine sumc fun _ _ => ?_ | refine supc fun _ _ => ?_ | apply cE | apply cA | apply cM | apply cB | apply cX | apply cP | apply cL | apply cD | refine cI ?_ ?_ ?_ | apply c2 | apply c3 | apply c4 | omega)

end

end Cert.Proof.KernelIdeal
-- ==== Proof.T8.lean ====
/-
  One trip of the last gradient loop.
-/
module

public import proofs.«01_k».proof.Proof.Tile
public import proofs.«01_k».proof.Proof.Offsets

@[expose] public section

set_option maxRecDepth 65536

noncomputable section

namespace Cert.Proof.KernelIdeal

open Cert.KernelIdeal Cert.KernelIdeal.Gen Cert.Hoare Cert.Grid
open Idealize.ShloMosaic hiding ix1 ix2 ix3 ix4 eq_ix1 eq_ix2 eq_ix3 eq_ix4
open Idealize.ShloMosaic.TcCoe Idealize.ShloMosaic.Tactic
open Idealize.SL Idealize.SL.RA Idealize.SL.BI
open Idealize.SL.Sem
open Idealize.ShloMosaic.Rounds

section

variable {s : St Ideal} {i : grid0.Coords} {k0_t8 : Fin k0_t8_loop.trips} (v295 : S1x256x128.Idx → EReal) (hv295 : R3 v295 s.a23 1 0 0) (v297 : S1x256x128.Idx → EReal) (hv297 : R3 v297 s.a24 1 0 0) (v300 : S1x1x256x128.Idx → EReal) (hv300 : R4 v300 s.a12 1 k0_t8.val 0 0) (v304 : S1x1x256x128.Idx → EReal) (hv304 : R4 v304 s.a13 1 k0_t8.val 0 0) (v309 : S1x1x256x128.Idx → EReal) (hv309 : R4 v309 s.a12 1 k0_t8.val 0 128) (v313 : S1x1x256x128.Idx → EReal) (hv313 : R4 v313 s.a13 1 k0_t8.val 0 128) (v318 : S1x1x256x128.Idx → EReal) (hv318 : R4 v318 s.a12 1 k0_t8.val 0 256) (v322 : S1x1x256x128.Idx → EReal) (hv322 : R4 v322 s.a13 1 k0_t8.val 0 256) (v327 : S1x1x256x128.Idx → EReal) (hv327 : R4 v327 s.a12 1 k0_t8.val 0 384) (v331 : S1x1x256x128.Idx → EReal) (hv331 : R4 v331 s.a13 1 k0_t8.val 0 384) (v341 : S1x256x128.Idx → EReal) (hv341 : R3 v341 s.a23 1 256 0) (v343 : S1x256x128.Idx → EReal) (hv343 : R3 v343 s.a24 1 256 0) (v346 : S1x1x256x128.Idx → EReal) (hv346 : R4 v346 s.a12 1 k0_t8.val 256 0) (v350 : S1x1x256x128.Idx → EReal) (hv350 : R4 v350 s.a13 1 k0_t8.val 256 0) (v355 : S1x1x256x128.Idx → EReal) (hv355 : R4 v355 s.a12 1 k0_t8.val 256 128) (v359 : S1x1x256x128.Idx → EReal) (hv359 : R4 v359 s.a13 1 k0_t8.val 256 128) (v364 : S1x1x256x128.Idx → EReal) (hv364 : R4 v364 s.a12 1 k0_t8.val 256 256) (v368 : S1x1x256x128.Idx → EReal) (hv368 : R4 v368 s.a13 1 k0_t8.val 256 256) (v373 : S1x1x256x128.Idx → EReal) (hv373 : R4 v373 s.a12 1 k0_t8.val 256 384) (v391 : S1x128x512.Idx → EReal) (hv391 : R3 v391 s.a15 k0_t8.val 0 0) (v393 : S1x128x512.Idx → EReal) (hv393 : R3 v393 s.a19 1 0 0) (X15_1 : S8x128x512.Idx → EReal) (hX15_1 : W3 X15_1 s.a15 (k0_pay464 (F := Ideal) (k0_pay451 (F := Ideal) (k0_pay440 (F := Ideal) v295) (k0_pay442 (F := Ideal) v295 v300) (k0_pay444 (F := Ideal) v295 v309) (k0_pay446 (F := Ideal) v295 v318) v327) (k0_pay453 (F := Ideal) v341) (k0_pay455 (F := Ideal) v341 v346) (k0_pay457 (F := Ideal) v341 v355) v364 v373 v391 v393) k0_t8.val 0 0) (v377 : S1x1x256x128.Idx → EReal) (hv377 : R4 v377 s.a13 1 k0_t8.val 256 384) (v402 : S1x128x512.Idx → EReal) (hv402 : R3 v402 s.a14 k0_t8.val 0 0) (v404 : S1x128x512.Idx → EReal) (hv404 : R3 v404 s.a18 1 0 0) (X14_1 : S8x128x512.Idx → EReal) (hX14_1 : W3 X14_1 s.a14 (k0_pay16 (F := Ideal) (k0_pay463 (F := Ideal) (k0_pay452 (F := Ideal) (k0_pay440 (F := Ideal) v295) (k0_pay441 (F := Ideal) v297) (k0_pay443 (F := Ideal) v295 v297 v300 v304) (k0_pay445 (F := Ideal) v295 v297 v309 v313) (k0_pay447 (F := Ideal) v295 v297 v318 v322) v327 v331) (k0_pay453 (F := Ideal) v341) (k0_pay454 (F := Ideal) v343) (k0_pay456 (F := Ideal) v341 v343 v346 v350) (k0_pay458 (F := Ideal) v341 v343 v355 v359) v364 v368 v373 v377) v402 v404) k0_t8.val 0 0) (v414 : S1x512x128.Idx → EReal) (hv414 : R3 v414 s.a4 0 (512 * k0_t8.val) 0) (v417 : S512x128.Idx → EReal) (hv417 : R2 v417 s.a16 0 0) (X16_1 : S512x128.Idx → EReal) (hX16_1 : W2 X16_1 s.a16 (k0_pay17 (F := Ideal) (k0_pay463 (F := Ideal) (k0_pay452 (F := Ideal) (k0_pay440 (F := Ideal) v295) (k0_pay441 (F := Ideal) v297) (k0_pay443 (F := Ideal) v295 v297 v300 v304) (k0_pay445 (F := Ideal) v295 v297 v309 v313) (k0_pay447 (F := Ideal) v295 v297 v318 v322) v327 v331) (k0_pay453 (F := Ideal) v341) (k0_pay454 (F := Ideal) v343) (k0_pay456 (F := Ideal) v341 v343 v346 v350) (k0_pay458 (F := Ideal) v341 v343 v355 v359) v364 v368 v373 v377) v414 v417) 0 0) (v424 : S1x8x512.Idx → EReal) (hv424 : R3 v424 s.a17 k0_t8.val 0 0) (X17_1 : S8x8x512.Idx → EReal) (hX17_1 : W3 X17_1 s.a17 (k0_pay18 (F := Ideal) (k0_pay462 (F := Ideal) (k0_pay450 (F := Ideal) (k0_pay440 (F := Ideal) v295) (k0_pay441 (F := Ideal) v297) (k0_pay443 (F := Ideal) v295 v297 v300 v304) (k0_pay445 (F := Ideal) v295 v297 v309 v313) (k0_pay447 (F := Ideal) v295 v297 v318 v322) v327 v331) (k0_pay453 (F := Ideal) v341) (k0_pay454 (F := Ideal) v343) (k0_pay456 (F := Ideal) v341 v343 v346 v350) (k0_pay458 (F := Ideal) v341 v343 v355 v359) v364 v368 v373 v377) v424) k0_t8.val 0 0)
include s i k0_t8

include hv295 hv300 hv309 hv318 hv327 hv341 hv346 hv355 hv364 hv373 hv391 hv393 hX15_1 in
theorem t8_v (j' d c : ℕ) (hd : d < 128) (hc : c < 512) :
    g3 X15_1 j' d c
      = if j' = k0_t8.val then g3 s.a15 k0_t8.val d c
          + ∑ r ∈ Finset.range 512, g3 s.a19 1 d r * Pw s 1 k0_t8.val r c
        else g3 s.a15 j' d c := by
  by_cases hp : j' = k0_t8.val
  · rw [if_pos hp]
    subst hp
    have h4 : c < 128 ∨ (128 ≤ c ∧ c < 256) ∨ (256 ≤ c ∧ c < 384) ∨ 384 ≤ c := by omega
    rcases h4 with h4 | h4 | h4 | h4
    all_goals
      simp (disch := omega) only [hX15_1, if_pos, if_neg]
      simp (disch := omega) only [k0_pay440, k0_pay442, k0_pay444, k0_pay446, k0_pay448, k0_pay451, k0_pay453, k0_pay455, k0_pay457, k0_pay459, k0_pay460, k0_pay464]
      simp (disch := omega) only [readsB, if_pos, if_neg]
      refine cA ?_ (sumc fun r hr => ?_)
      · simp (disch := omega) only [hv295, hv300, hv309, hv318, hv327, hv341, hv346, hv355, hv364, hv373, hv391, hv393, hX15_1, if_neg]
        (with_reducible repeat' first | rfl | refine sumc fun _ _ => ?_ | apply cE | apply cA | apply cM | apply cB | apply c2 | apply c3 | apply c4 | omega)
      · have h2 : r < 256 ∨ 256 ≤ r := by omega
        unfold Pw
        rcases h2 with h2 | h2
        all_goals
          simp (disch := omega) only [readsB, if_pos, if_neg]
          simp (disch := omega) only [hv295, hv300, hv309, hv318, hv327, hv341, hv346, hv355, hv364, hv373, hv391, hv393, hX15_1, if_neg]
          (with_reducible repeat' first | rfl | refine sumc fun _ _ => ?_ | apply cE | apply cA | apply cM | apply cB | apply c2 | apply c3 | apply c4 | omega)
  · rw [if_neg hp]
    simp (disch := omega) only [hX15_1, if_pos, if_neg]

include hv295 hv297 hv300 hv304 hv309 hv313 hv318 hv322 hv327 hv331 hv341 hv343 hv346 hv350 hv355 hv359 hv364 hv368 hv373 hv377 hv402 hv404 hX14_1 in
theorem t8_k (j' d c : ℕ) (hd : d < 128) (hc : c < 512) :
    g3 X14_1 j' d c
      = if j' = k0_t8.val then g3 s.a14 k0_t8.val d c
          + ∑ r ∈ Finset.range 512, g3 s.a18 1 d r * Ds s 1 k0_t8.val r c
        else g3 s.a14 j' d c := by
  by_cases hp : j' = k0_t8.val
  · rw [if_pos hp]
    subst hp
    have h4 : c < 128 ∨ (128 ≤ c ∧ c < 256) ∨ (256 ≤ c ∧ c < 384) ∨ 384 ≤ c := by omega
    rcases h4 with h4 | h4 | h4 | h4
    all_goals
      simp (disch := omega) only [hX14_1, if_pos, if_neg]
      simp (disch := omega) only [k0_pay16, k0_pay440, k0_pay441, k0_pay442, k0_pay443, k0_pay444, k0_pay445, k0_pay446, k0_pay447, k0_pay448, k0_pay449, k0_pay452, k0_pay453, k0_pay454, k0_pay455, k0_pay456, k0_pay457, k0_pay458, k0_pay459, k0_pay460, k0_pay461, k0_pay463]
      simp (disch := omega) only [readsB, if_pos, if_neg]
      refine cA ?_ (sumc fun r hr => ?_)
      · simp (disch := omega) only [hv295, hv297, hv300, hv304, hv309, hv313, hv318, hv322, hv327, hv331, hv341, hv343, hv346, hv350, hv355, hv359, hv364, hv368, hv373, hv377, hv402, hv404, hX14_1, if_neg]
        (with_reducible repeat' first | rfl | refine sumc fun _ _ => ?_ | apply cE | apply cA | apply cM | apply cB | apply c2 | apply c3 | apply c4 | omega)
      · have h2 : r < 256 ∨ 256 ≤ r := by omega
        unfold Ds Pw
        rcases h2 with h2 | h2
        all_goals
          simp (disch := omega) only [readsB, if_pos, if_neg]
          simp (disch := omega) only [hv295, hv297, hv300, hv304, hv309, hv313, hv318, hv322, hv327, hv331, hv341, hv343, hv346, hv350, hv355, hv359, hv364, hv368, hv373, hv377, hv402, hv404, hX14_1, if_neg]
          (with_reducible repeat' first | rfl | refine sumc fun _ _ => ?_ | apply cE | apply cA | apply cM | apply cB | apply c2 | apply c3 | apply c4 | omega)
  · rw [if_neg hp]
    simp (disch := omega) only [hX14_1, if_pos, if_neg]

include hv295 hv297 hv300 hv304 hv309 hv313 hv318 hv322 hv327 hv331 hv341 hv343 hv346 hv350 hv355 hv359 hv364 hv368 hv373 hv377 hv414 hv417 hX16_1 in
theorem t8_q (r d : ℕ) (hr : r < 512) (hd : d < 128) :
    g2 X16_1 r d
      = g2 s.a16 r d
          + ∑ c ∈ Finset.range 512, Ds s 1 k0_t8.val r c * g3 s.a4 0 (512 * k0_t8.val + c) d := by
  have h2 : r < 256 ∨ 256 ≤ r := by omega
  rcases h2 with h2 | h2
  all_goals
    simp (disch := omega) only [hX16_1, if_pos, if_neg]
    simp (disch := omega) only [k0_pay17, k0_pay440, k0_pay441, k0_pay442, k0_pay443, k0_pay444, k0_pay445, k0_pay446, k0_pay447, k0_pay448, k0_pay449, k0_pay452, k0_pay453, k0_pay454, k0_pay455, k0_pay456, k0_pay457, k0_pay458, k0_pay459, k0_pay460, k0_pay461, k0_pay463]
    simp (disch := omega) only [readsB, if_pos, if_neg]
    refine cA ?_ (sumc fun c hc => ?_)
    · simp (disch := omega) only [hv295, hv297, hv300, hv304, hv309, hv313, hv318, hv322, hv327, hv331, hv341, hv343, hv346, hv350, hv355, hv359, hv364, hv368, hv373, hv377, hv414, hv417, hX16_1, if_neg]
      (with_reducible repeat' first | rfl | refine sumc fun _ _ => ?_ | apply cE | apply cA | apply cM | apply cB | apply c2 | apply c3 | apply c4 | omega)
    · have h4 : c < 128 ∨ (128 ≤ c ∧ c < 256) ∨ (256 ≤ c ∧ c < 384) ∨ 384 ≤ c := by omega
      unfold Ds Pw
      rcases h4 with h4 | h4 | h4 | h4
      all_goals
        simp (disch := omega) only [readsB, if_pos, if_neg]
        simp (disch := omega) only [hv295, hv297, hv300, hv304, hv309, hv313, hv318, hv322, hv327, hv331, hv341, hv343, hv346, hv350, hv355, hv359, hv364, hv368, hv373, hv377, hv414, hv417, hX16_1, if_neg]
        (with_reducible repeat' first | rfl | refine sumc fun _ _ => ?_ | apply cE | apply cA | apply cM | apply cB | apply c2 | apply c3 | apply c4 | omega)

include hv295 hv297 hv300 hv304 hv309 hv313 hv318 hv322 hv327 hv331 hv341 hv343 hv346 hv350 hv355 hv359 hv364 hv368 hv373 hv377 hv424 hX17_1 in
theorem t8_cs (j' z c : ℕ) (hz : z < 8) (hc : c < 512) :
    g3 X17_1 j' z c
      = if j' = k0_t8.val then g3 s.a17 k0_t8.val z c
          + ((∑ a ∈ Finset.range 32, Ds s 1 k0_t8.val (8 * a + z) c) + ∑ a ∈ Finset.range 32, Ds s 1 k0_t8.val (256 + (8 * a + z)) c)
        else g3 s.a17 j' z c := by
  by_cases hp : j' = k0_t8.val
  · rw [if_pos hp]
    subst hp
    unfold Ds Pw
    have h4 : c < 128 ∨ (128 ≤ c ∧ c < 256) ∨ (256 ≤ c ∧ c < 384) ∨ 384 ≤ c := by omega
    rcases h4 with h4 | h4 | h4 | h4
    all_goals
      simp (disch := omega) only [hX17_1, if_pos, if_neg]
      simp (disch := omega) only [k0_pay18, k0_pay440, k0_pay441, k0_pay442, k0_pay443, k0_pay444, k0_pay445, k0_pay446, k0_pay447, k0_pay448, k0_pay449, red450, k0_pay453, k0_pay454, k0_pay455, k0_pay456, k0_pay457, k0_pay458, k0_pay459, k0_pay460, k0_pay461, red462]
      simp (disch := omega) only [readsB, if_pos, if_neg]
      simp (disch := omega) only [hv295, hv297, hv300, hv304, hv309, hv313, hv318, hv322, hv327, hv331, hv341, hv343, hv346, hv350, hv355, hv359, hv364, hv368, hv373, hv377, hv424, hX17_1, if_neg]
      (with_reducible repeat' first | rfl | refine sumc fun _ _ => ?_ | apply cE | apply cA | apply cM | apply cB | apply c2 | apply c3 | apply c4 | omega)
  · rw [if_neg hp]
    simp (disch := omega) only [hX17_1, if_pos, if_neg]

end

end Cert.Proof.KernelIdeal
-- ==== Proof.T9.lean ====
/-
  One trip of the output loop.
-/
module

public import proofs.«01_k».proof.Proof.Rel

@[expose] public section

set_option maxRecDepth 65536

noncomputable section

namespace Cert.Proof.KernelIdeal

open Cert.KernelIdeal Cert.KernelIdeal.Gen Cert.Hoare Cert.Grid
open Idealize.ShloMosaic hiding ix1 ix2 ix3 ix4 eq_ix1 eq_ix2 eq_ix3 eq_ix4
open Idealize.ShloMosaic.TcCoe Idealize.ShloMosaic.Tactic
open Idealize.SL Idealize.SL.RA Idealize.SL.BI
open Idealize.SL.Sem
open Idealize.ShloMosaic.Rounds

section

variable {s : St Ideal} {i : grid0.Coords} {k0_t9 : Fin k0_t9_loop.trips} (v296 : S1x128x512.Idx → EReal) (hv296 : R3 v296 s.a14 k0_t9.val 0 0) (v300 : EReal) (hv300 : v300 = g2 s.a1 ((i 0).val) 2) (X9_1 : S1x4096x128.Idx → EReal) (hX9_1 : W3 X9_1 s.a9 (k0_pay465 (F := Ideal) v296 v300) 0 (512 * k0_t9.val) 0) (v310 : S1x128x512.Idx → EReal) (hv310 : R3 v310 s.a15 k0_t9.val 0 0) (v314 : EReal) (hv314 : v314 = g2 s.a1 ((i 0).val) 3) (X10_1 : S1x4096x128.Idx → EReal) (hX10_1 : W3 X10_1 s.a10 (k0_pay466 (F := Ideal) v310 v314) 0 (512 * k0_t9.val) 0) (v324 : S1x8x512.Idx → EReal) (hv324 : R3 v324 s.a17 k0_t9.val 0 0) (v331 : EReal) (hv331 : v331 = g2 s.a1 ((i 0).val) 4) (X11_1 : S1x8x512.Idx → EReal) (hX11_1 : W3 X11_1 s.a11 (k0_pay20 (F := Ideal) (k0_pay467 (F := Ideal) v324 v331)) 0 k0_t9.val 0)
include s i k0_t9

include hv296 hv300 hX9_1 in
theorem t9_k (t d : ℕ) (ht : t < 4096) (hd : d < 128) :
    g3 X9_1 0 t d
      = if 512 * k0_t9.val ≤ t ∧ t < 512 * k0_t9.val + 512 then
          g3 s.a14 k0_t9.val d (t - 512 * k0_t9.val) * g2 s.a1 (i 0).val 2
        else g3 s.a9 0 t d := by
  by_cases hp : 512 * k0_t9.val ≤ t ∧ t < 512 * k0_t9.val + 512
  · rw [if_pos hp]
    simp (disch := omega) only [hX9_1, if_pos, if_neg]
    simp (disch := omega) only [k0_pay465]
    simp (disch := omega) only [readsB]
    rw [g2_transpose _ _ (by omega) (by omega)]
    simp (disch := omega) only [readsB]
    simp (disch := omega) only [hv296, hv300]
    (with_reducible repeat' first | rfl | refine sumc fun _ _ => ?_ | apply cE | apply cA | apply cM | apply cB | apply c2 | apply c3 | apply c4 | omega)
  · rw [if_neg hp]
    simp (disch := omega) only [hX9_1, if_neg]

include hv310 hv314 hX10_1 in
theorem t9_v (t d : ℕ) (ht : t < 4096) (hd : d < 128) :
    g3 X10_1 0 t d
      = if 512 * k0_t9.val ≤ t ∧ t < 512 * k0_t9.val + 512 then
          g3 s.a15 k0_t9.val d (t - 512 * k0_t9.val) * g2 s.a1 (i 0).val 3
        else g3 s.a10 0 t d := by
  by_cases hp : 512 * k0_t9.val ≤ t ∧ t < 512 * k0_t9.val + 512
  · rw [if_pos hp]
    simp (disch := omega) only [hX10_1, if_pos, if_neg]
    simp (disch := omega) only [k0_pay466]
    simp (disch := omega) only [readsB]
    rw [g2_transpose _ _ (by omega) (by omega)]
    simp (disch := omega) only [readsB]
    simp (disch := omega) only [hv310, hv314]
    (with_reducible repeat' first | rfl | refine sumc fun _ _ => ?_ | apply cE | apply cA | apply cM | apply cB | apply c2 | apply c3 | apply c4 | omega)
  · rw [if_neg hp]
    simp (disch := omega) only [hX10_1, if_neg]

include hv324 hv331 hX11_1 in
theorem t9_c (j c : ℕ) (hj : j < 8) (hc : c < 512) :
    g3 X11_1 0 j c
      = if j = k0_t9.val then
          (0 - ∑ z ∈ Finset.range 8, g3 s.a17 k0_t9.val z c) * g2 s.a1 (i 0).val 4
        else g3 s.a11 0 j c := by
  by_cases hp : j = k0_t9.val
  · rw [if_pos hp]
    simp (disch := omega) only [hX11_1, if_pos, if_neg]
    simp (disch := omega) only [k0_pay20, red467]
    simp (disch := omega) only [readsB, g2_cast12r, zero_bits', colsum8]
    simp (disch := omega) only [hv324, hv331]
    (with_reducible repeat' first | rfl | refine sumc fun _ _ => ?_ | apply cE | apply cA | apply cM | apply cB | apply c2 | apply c3 | apply c4 | omega)
  · rw [if_neg hp]
    simp (disch := omega) only [hX11_1, if_neg]

end

end Cert.Proof.KernelIdeal
-- ==== Proof.Walks.lean ====
/-
  The walks through the kernel's text over the reals: from any buffers each loop body, innermost first, and then the
  whole body run to the end, and what they leave is said entry by entry.
-/
module

public import proofs.«01_k».proof.Proof.T0Vals
public import proofs.«01_k».proof.Proof.T1Vals
public import proofs.«01_k».proof.Proof.T2Fwd
public import proofs.«01_k».proof.Proof.T2Bwd
public import proofs.«01_k».proof.Proof.T4
public import proofs.«01_k».proof.Proof.T6
public import proofs.«01_k».proof.Proof.T8
public import proofs.«01_k».proof.Proof.T9
public import proofs.«01_k».proof.Proof.Offsets

@[expose] public section

set_option maxRecDepth 65536

noncomputable section

namespace Cert.Proof.KernelIdeal

open Cert.KernelIdeal Cert.KernelIdeal.Gen Cert.Hoare Cert.Grid
open Idealize.ShloMosaic hiding ix1 ix2 ix3 ix4 eq_ix1 eq_ix2 eq_ix3 eq_ix4
open Idealize.ShloMosaic.TcCoe Idealize.ShloMosaic.Tactic
open Idealize.SL Idealize.SL.RA Idealize.SL.BI
open Idealize.SL.Sem
open Idealize.ShloMosaic.Rounds

variable {c : Dev nD} {O : St Ideal → sProp (MT nD τ sig Unit (Elt Ideal) ℕ (UR sig nD τ) ℕ)}
variable {i : grid0.Coords} {arg1 : Memref sig .tc .smem S60x6 .f32} {harg1 : arg1.IsWhole} {arg2 : Memref sig .tc .smem S60x8 .f32} {harg2 : arg2.IsWhole} {arg3 : Memref sig .tc .vmem S1x4096x128 .fp8e4m3} {harg3 : arg3.IsWhole} {arg4 : Memref sig .tc .vmem S1x4096x128 .fp8e4m3} {harg4 : arg4.IsWhole} {arg5 : Memref sig .tc .vmem S1x4096x128 .fp8e4m3} {harg5 : arg5.IsWhole} {arg6 : Memref sig .tc .vmem S1x4096x128 .fp8e5m2} {harg6 : arg6.IsWhole} {arg7 : Memref sig .tc .vmem S1x8x512 .f32} {harg7 : arg7.IsWhole} {arg8 : Memref sig .tc .vmem S1x4096x128 .bf16} {harg8 : arg8.IsWhole} {arg9 : Memref sig .tc .vmem S1x4096x128 .bf16} {harg9 : arg9.IsWhole} {arg10 : Memref sig .tc .vmem S1x4096x128 .bf16} {harg10 : arg10.IsWhole} {arg11 : Memref sig .tc .vmem S1x8x512 .f32} {harg11 : arg11.IsWhole} {arg12 : Memref sig .tc .vmem S2x8x512x512 .f32} {harg12 : arg12.IsWhole} {arg13 : Memref sig .tc .vmem S2x8x512x512 .f32} {harg13 : arg13.IsWhole} {arg14 : Memref sig .tc .vmem S8x128x512 .f32} {harg14 : arg14.IsWhole} {arg15 : Memref sig .tc .vmem S8x128x512 .f32} {harg15 : arg15.IsWhole} {arg16 : Memref sig .tc .vmem S512x128 .f32} {harg16 : arg16.IsWhole} {arg17 : Memref sig .tc .vmem S8x8x512 .f32} {harg17 : arg17.IsWhole} {arg18 : Memref sig .tc .vmem S2x128x512 .bf16} {harg18 : arg18.IsWhole} {arg19 : Memref sig .tc .vmem S2x128x512 .bf16} {harg19 : arg19.IsWhole} {arg20 : Memref sig .tc .vmem S512x128 .f32} {harg20 : arg20.IsWhole} {arg21 : Memref sig .tc .vmem S512x128 .f32} {harg21 : arg21.IsWhole} {arg22 : Memref sig .tc .vmem S512x128 .f32} {harg22 : arg22.IsWhole} {arg23 : Memref sig .tc .vmem S2x512x128 .f32} {harg23 : arg23.IsWhole} {arg24 : Memref sig .tc .vmem S2x512x128 .f32} {harg24 : arg24.IsWhole}
variable (H1 : Acc c O arg1 St.a1 (fun s X => { s with a1 := X })) (H2 : Acc c O arg2 St.a2 (fun s X => { s with a2 := X })) (H3 : Acc c O arg3 St.a3 (fun s X => { s with a3 := X })) (H4 : Acc c O arg4 St.a4 (fun s X => { s with a4 := X })) (H5 : Acc c O arg5 St.a5 (fun s X => { s with a5 := X })) (H6 : Acc c O arg6 St.a6 (fun s X => { s with a6 := X })) (H7 : Acc c O arg7 St.a7 (fun s X => { s with a7 := X })) (H8 : Acc c O arg8 St.a8 (fun s X => { s with a8 := X })) (H9 : Acc c O arg9 St.a9 (fun s X => { s with a9 := X })) (H10 : Acc c O arg10 St.a10 (fun s X => { s with a10 := X })) (H11 : Acc c O arg11 St.a11 (fun s X => { s with a11 := X })) (H12 : Acc c O arg12 St.a12 (fun s X => { s with a12 := X })) (H13 : Acc c O arg13 St.a13 (fun s X => { s with a13 := X })) (H14 : Acc c O arg14 St.a14 (fun s X => { s with a14 := X })) (H15 : Acc c O arg15 St.a15 (fun s X => { s with a15 := X })) (H16 : Acc c O arg16 St.a16 (fun s X => { s with a16 := X })) (H17 : Acc c O arg17 St.a17 (fun s X => { s with a17 := X })) (H18 : Acc c O arg18 St.a18 (fun s X => { s with a18 := X })) (H19 : Acc c O arg19 St.a19 (fun s X => { s with a19 := X })) (H20 : Acc c O arg20 St.a20 (fun s X => { s with a20 := X })) (H21 : Acc c O arg21 St.a21 (fun s X => { s with a21 := X })) (H22 : Acc c O arg22 St.a22 (fun s X => { s with a22 := X })) (H23 : Acc c O arg23 St.a23 (fun s X => { s with a23 := X })) (H24 : Acc c O arg24 St.a24 (fun s X => { s with a24 := X }))
include H1 H2 H3 H4 H5 H6 H7 H8 H9 H10 H11 H12 H13 H14 H15 H16 H17 H18 H19 H20 H21 H22 H23 H24

theorem t9_wp {arg0 : BitVec 32} (k0_t9 : Fin k0_t9_loop.trips) (s : St Ideal) :
    Wp (defs₀ (F := Ideal)) c O (k0_t9_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 k0_t9 ⟨⟩) s fun _ s' =>
      OutPost (i 0).val k0_t9.val s s' := by
  unfold k0_t9_body
  try dsimp only
  refine Wp.bind ?_
  rw [k0_part67_eq_skeleton]; unfold k0_part67_skel; try dsimp only
  refine Wp.ld H14 (R3 · s.a14 k0_t9.val 0 0) (r3 (o119 k0_t9)) fun v296 hv296 => ?_
  refine Wp.bind (Wp.smemLoad' H1 (fun _ => rfl) (fun v => v = g2 s.a1 ((i 0).val) 2) (fun x => g2_cell (o120 i) _ _ x) fun v300 hv300 => ?_)
  refine Wp.ld H9 (R3 · s.a9 0 (512 * k0_t9.val) 0) (r3 (o121 k0_t9)) fun v306 hv306 => ?_
  refine Wp.st H9 (W3 · s.a9 (k0_pay465 (F := Ideal) v296 v300) 0 (512 * k0_t9.val) 0) (w3 (o121 k0_t9)) fun X9_1 hX9_1 => ?_
  try dsimp only
  refine Wp.ld H15 (R3 · s.a15 k0_t9.val 0 0) (r3 (o119 k0_t9)) fun v310 hv310 => ?_
  refine Wp.bind (Wp.smemLoad' H1 (fun _ => rfl) (fun v => v = g2 s.a1 ((i 0).val) 3) (fun x => g2_cell (o122 i) _ _ x) fun v314 hv314 => ?_)
  refine Wp.ld H10 (R3 · s.a10 0 (512 * k0_t9.val) 0) (r3 (o121 k0_t9)) fun v320 hv320 => ?_
  refine Wp.st H10 (W3 · s.a10 (k0_pay466 (F := Ideal) v310 v314) 0 (512 * k0_t9.val) 0) (w3 (o121 k0_t9)) fun X10_1 hX10_1 => ?_
  try dsimp only
  refine Wp.ld H17 (R3 · s.a17 k0_t9.val 0 0) (r3 (o123 k0_t9)) fun v324 hv324 => ?_
  refine Wp.bind (Wp.smemLoad' H1 (fun _ => rfl) (fun v => v = g2 s.a1 ((i 0).val) 4) (fun x => g2_cell (o124 i) _ _ x) fun v331 hv331 => ?_)
  refine Wp.pure ?_
  try dsimp only
  refine Wp.ld H11 (R3 · s.a11 0 k0_t9.val 0) (r3 (o125 k0_t9)) fun v335 hv335 => ?_
  refine Wp.st H11 (W3 · s.a11 (k0_pay20 (F := Ideal) (k0_pay467 (F := Ideal) v324 v331)) 0 k0_t9.val 0) (w3 (o125 k0_t9)) fun X11_1 hX11_1 => ?_
  try dsimp only
  refine Wp.pure ?_
  try dsimp only
  refine ⟨?_, ?_, ?_, rfl⟩
  · first | exact t9_k (s := s) (i := i) (k0_t9 := k0_t9) v296 hv296 v300 hv300 X9_1 hX9_1 | fail "k"
  · first | exact t9_v (s := s) (i := i) (k0_t9 := k0_t9) v310 hv310 v314 hv314 X10_1 hX10_1 | fail "v"
  · first | exact t9_c (s := s) (i := i) (k0_t9 := k0_t9) v324 hv324 v331 hv331 X11_1 hX11_1 | fail "c"

theorem t8_wp (k0_t8 : Fin k0_t8_loop.trips) (s : St Ideal) :
    Wp (defs₀ (F := Ideal)) c O (k0_t8_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 k0_t8 ⟨⟩) s fun _ s' =>
      Keep s s' ∧ BwdPost 1 k0_t8.val s s' ∧ s' = { s with a14 := s'.a14, a15 := s'.a15, a16 := s'.a16, a17 := s'.a17 } := by
  unfold k0_t8_body
  try dsimp only
  refine Wp.bind ?_
  rw [k0_part64_eq_skeleton]; unfold k0_part64_skel; try dsimp only
  refine Wp.ld H23 (R3 · s.a23 1 0 0) (r3 rfl) fun v295 hv295 => ?_
  refine Wp.ld H24 (R3 · s.a24 1 0 0) (r3 rfl) fun v297 hv297 => ?_
  refine Wp.ld H12 (R4 · s.a12 1 k0_t8.val 0 0) (r4 (o107 k0_t8)) fun v300 hv300 => ?_
  refine Wp.ld H13 (R4 · s.a13 1 k0_t8.val 0 0) (r4 (o107 k0_t8)) fun v304 hv304 => ?_
  refine Wp.ld H12 (R4 · s.a12 1 k0_t8.val 0 128) (r4 (o108 k0_t8)) fun v309 hv309 => ?_
  refine Wp.ld H13 (R4 · s.a13 1 k0_t8.val 0 128) (r4 (o108 k0_t8)) fun v313 hv313 => ?_
  refine Wp.ld H12 (R4 · s.a12 1 k0_t8.val 0 256) (r4 (o109 k0_t8)) fun v318 hv318 => ?_
  refine Wp.ld H13 (R4 · s.a13 1 k0_t8.val 0 256) (r4 (o109 k0_t8)) fun v322 hv322 => ?_
  refine Wp.pure ?_
  try dsimp only
  refine Wp.bind ?_
  rw [k0_part65_eq_skeleton]; unfold k0_part65_skel; try dsimp only
  refine Wp.ld H12 (R4 · s.a12 1 k0_t8.val 0 384) (r4 (o110 k0_t8)) fun v327 hv327 => ?_
  refine Wp.ld H13 (R4 · s.a13 1 k0_t8.val 0 384) (r4 (o110 k0_t8)) fun v331 hv331 => ?_
  refine Wp.ld H23 (R3 · s.a23 1 256 0) (r3 rfl) fun v341 hv341 => ?_
  refine Wp.ld H24 (R3 · s.a24 1 256 0) (r3 rfl) fun v343 hv343 => ?_
  refine Wp.ld H12 (R4 · s.a12 1 k0_t8.val 256 0) (r4 (o111 k0_t8)) fun v346 hv346 => ?_
  refine Wp.ld H13 (R4 · s.a13 1 k0_t8.val 256 0) (r4 (o111 k0_t8)) fun v350 hv350 => ?_
  refine Wp.ld H12 (R4 · s.a12 1 k0_t8.val 256 128) (r4 (o112 k0_t8)) fun v355 hv355 => ?_
  refine Wp.ld H13 (R4 · s.a13 1 k0_t8.val 256 128) (r4 (o112 k0_t8)) fun v359 hv359 => ?_
  refine Wp.pure ?_
  try dsimp only
  refine Wp.bind ?_
  rw [k0_part66_eq_skeleton]; unfold k0_part66_skel; try dsimp only
  refine Wp.ld H12 (R4 · s.a12 1 k0_t8.val 256 256) (r4 (o113 k0_t8)) fun v364 hv364 => ?_
  refine Wp.ld H13 (R4 · s.a13 1 k0_t8.val 256 256) (r4 (o113 k0_t8)) fun v368 hv368 => ?_
  refine Wp.ld H12 (R4 · s.a12 1 k0_t8.val 256 384) (r4 (o114 k0_t8)) fun v373 hv373 => ?_
  refine Wp.ld H13 (R4 · s.a13 1 k0_t8.val 256 384) (r4 (o114 k0_t8)) fun v377 hv377 => ?_
  refine Wp.ld H15 (R3 · s.a15 k0_t8.val 0 0) (r3 (o115 k0_t8)) fun v391 hv391 => ?_
  refine Wp.ld H19 (R3 · s.a19 1 0 0) (r3 rfl) fun v393 hv393 => ?_
  refine Wp.ld H15 (R3 · s.a15 k0_t8.val 0 0) (r3 (o115 k0_t8)) fun v398 hv398 => ?_
  refine Wp.st H15 (W3 · s.a15 (k0_pay464 (F := Ideal) (k0_pay451 (F := Ideal) (k0_pay440 (F := Ideal) v295) (k0_pay442 (F := Ideal) v295 v300) (k0_pay444 (F := Ideal) v295 v309) (k0_pay446 (F := Ideal) v295 v318) v327) (k0_pay453 (F := Ideal) v341) (k0_pay455 (F := Ideal) v341 v346) (k0_pay457 (F := Ideal) v341 v355) v364 v373 v391 v393) k0_t8.val 0 0) (w3 (o115 k0_t8)) fun X15_1 hX15_1 => ?_
  try dsimp only
  refine Wp.pure ?_
  try dsimp only
  refine Wp.ld H14 (R3 · s.a14 k0_t8.val 0 0) (r3 (o115 k0_t8)) fun v402 hv402 => ?_
  refine Wp.ld H18 (R3 · s.a18 1 0 0) (r3 rfl) fun v404 hv404 => ?_
  refine Wp.ld H14 (R3 · s.a14 k0_t8.val 0 0) (r3 (o115 k0_t8)) fun v409 hv409 => ?_
  refine Wp.st H14 (W3 · s.a14 (k0_pay16 (F := Ideal) (k0_pay463 (F := Ideal) (k0_pay452 (F := Ideal) (k0_pay440 (F := Ideal) v295) (k0_pay441 (F := Ideal) v297) (k0_pay443 (F := Ideal) v295 v297 v300 v304) (k0_pay445 (F := Ideal) v295 v297 v309 v313) (k0_pay447 (F := Ideal) v295 v297 v318 v322) v327 v331) (k0_pay453 (F := Ideal) v341) (k0_pay454 (F := Ideal) v343) (k0_pay456 (F := Ideal) v341 v343 v346 v350) (k0_pay458 (F := Ideal) v341 v343 v355 v359) v364 v368 v373 v377) v402 v404) k0_t8.val 0 0) (w3 (o115 k0_t8)) fun X14_1 hX14_1 => ?_
  try dsimp only
  refine Wp.ld H4 (R3 · s.a4 0 (512 * k0_t8.val) 0) (r3 (o116 k0_t8)) fun v414 hv414 => ?_
  refine Wp.ld H16 (R2 · s.a16 0 0) (r2 rfl) fun v417 hv417 => ?_
  refine Wp.ld H16 (R2 · s.a16 0 0) (r2 rfl) fun v420 hv420 => ?_
  refine Wp.st H16 (W2 · s.a16 (k0_pay17 (F := Ideal) (k0_pay463 (F := Ideal) (k0_pay452 (F := Ideal) (k0_pay440 (F := Ideal) v295) (k0_pay441 (F := Ideal) v297) (k0_pay443 (F := Ideal) v295 v297 v300 v304) (k0_pay445 (F := Ideal) v295 v297 v309 v313) (k0_pay447 (F := Ideal) v295 v297 v318 v322) v327 v331) (k0_pay453 (F := Ideal) v341) (k0_pay454 (F := Ideal) v343) (k0_pay456 (F := Ideal) v341 v343 v346 v350) (k0_pay458 (F := Ideal) v341 v343 v355 v359) v364 v368 v373 v377) v414 v417) 0 0) (w2 rfl) fun X16_1 hX16_1 => ?_
  try dsimp only
  refine Wp.ld H17 (R3 · s.a17 k0_t8.val 0 0) (r3 (o117 k0_t8)) fun v424 hv424 => ?_
  refine Wp.ld H17 (R3 · s.a17 k0_t8.val 0 0) (r3 (o117 k0_t8)) fun v428 hv428 => ?_
  refine Wp.st H17 (W3 · s.a17 (k0_pay18 (F := Ideal) (k0_pay462 (F := Ideal) (k0_pay450 (F := Ideal) (k0_pay440 (F := Ideal) v295) (k0_pay441 (F := Ideal) v297) (k0_pay443 (F := Ideal) v295 v297 v300 v304) (k0_pay445 (F := Ideal) v295 v297 v309 v313) (k0_pay447 (F := Ideal) v295 v297 v318 v322) v327 v331) (k0_pay453 (F := Ideal) v341) (k0_pay454 (F := Ideal) v343) (k0_pay456 (F := Ideal) v341 v343 v346 v350) (k0_pay458 (F := Ideal) v341 v343 v355 v359) v364 v368 v373 v377) v424) k0_t8.val 0 0) (w3 (o117 k0_t8)) fun X17_1 hX17_1 => ?_
  try dsimp only
  refine Wp.pure ?_
  try dsimp only
  refine ⟨⟨rfl, rfl, rfl, rfl, rfl, rfl, rfl, rfl, rfl, rfl, rfl, rfl⟩, ⟨?_, ?_, ?_, ?_⟩, rfl⟩
  · first | exact t8_v (s := s) (i := i) (k0_t8 := k0_t8) v295 hv295 v300 hv300 v309 hv309 v318 hv318 v327 hv327 v341 hv341 v346 hv346 v355 hv355 v364 hv364 v373 hv373 v391 hv391 v393 hv393 X15_1 hX15_1 | fail "v"
  · first | exact t8_k (s := s) (i := i) (k0_t8 := k0_t8) v295 hv295 v297 hv297 v300 hv300 v304 hv304 v309 hv309 v313 hv313 v318 hv318 v322 hv322 v327 hv327 v331 hv331 v341 hv341 v343 hv343 v346 hv346 v350 hv350 v355 hv355 v359 hv359 v364 hv364 v368 hv368 v373 hv373 v377 hv377 v402 hv402 v404 hv404 X14_1 hX14_1 | fail "k"
  · first | exact t8_q (s := s) (i := i) (k0_t8 := k0_t8) v295 hv295 v297 hv297 v300 hv300 v304 hv304 v309 hv309 v313 hv313 v318 hv318 v322 hv322 v327 hv327 v331 hv331 v341 hv341 v343 hv343 v346 hv346 v350 hv350 v355 hv355 v359 hv359 v364 hv364 v368 hv368 v373 hv373 v377 hv377 v414 hv414 v417 hv417 X16_1 hX16_1 | fail "q"
  · first | exact t8_cs (s := s) (i := i) (k0_t8 := k0_t8) v295 hv295 v297 hv297 v300 hv300 v304 hv304 v309 hv309 v313 hv313 v318 hv318 v322 hv322 v327 hv327 v331 hv331 v341 hv341 v343 hv343 v346 hv346 v350 hv350 v355 hv355 v359 hv359 v364 hv364 v368 hv368 v373 hv373 v377 hv377 v424 hv424 X17_1 hX17_1 | fail "cs"

theorem t6_wp {k0_t1 : Fin k0_t1_loop.trips} {v622 : BitVec 32} (k0_t6 : Fin (k0_t6_loop k0_t1).trips) (acc : BitVec 32) (s : St Ideal) :
    Wp (defs₀ (F := Ideal)) c O (k0_t6_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 k0_t1 v622 k0_t6 acc) s fun _ s' => CExp ((k0_t1.val + 1) % 2) k0_t6.val s s' := by
  unfold k0_t6_body
  try dsimp only
  refine Wp.bind ?_
  rw [k0_part44_eq_skeleton]; unfold k0_part44_skel; try dsimp only
  refine Wp.ld H12 (R4 · s.a12 ((k0_t1.val + 1) % 2) k0_t6.val 0 0) (r4 (o90 k0_t1 k0_t6)) fun v692 hv692 => ?_
  refine Wp.ld H21 (R2 · s.a21 0 0) (r2 rfl) fun v694 hv694 => ?_
  refine Wp.ld H12 (R4 · s.a12 ((k0_t1.val + 1) % 2) k0_t6.val 0 0) (r4 (o90 k0_t1 k0_t6)) fun v699 hv699 => ?_
  refine Wp.st H12 (W4 · s.a12 (k0_pay311 (F := Ideal) v692 v694) ((k0_t1.val + 1) % 2) k0_t6.val 0 0) (w4 (o90 k0_t1 k0_t6)) fun X12_1 hX12_1 => ?_
  try dsimp only
  refine Wp.ld H20 (R2 · s.a20 0 0) (r2 rfl) fun v702 hv702 => ?_
  refine Wp.ld H20 (R2 · s.a20 0 0) (r2 rfl) fun v704 hv704 => ?_
  refine Wp.st H20 (W2 · s.a20 (k0_pay312 (F := Ideal) v692 v694 v702) 0 0) (w2 rfl) fun X20_1 hX20_1 => ?_
  try dsimp only
  refine Wp.ld H22 (R2 · s.a22 0 0) (r2 rfl) fun v707 hv707 => ?_
  refine Wp.ld H13 (R4 · s.a13 ((k0_t1.val + 1) % 2) k0_t6.val 0 0) (r4 (o90 k0_t1 k0_t6)) fun v710 hv710 => ?_
  refine Wp.ld H22 (R2 · s.a22 0 0) (r2 rfl) fun v714 hv714 => ?_
  refine Wp.st H22 (W2 · s.a22 (k0_pay313 (F := Ideal) v692 v694 v707 v710) 0 0) (w2 rfl) fun X22_1 hX22_1 => ?_
  try dsimp only
  refine Wp.ld H12 (R4 · X12_1 ((k0_t1.val + 1) % 2) k0_t6.val 0 128) (r4 (o91 k0_t1 k0_t6)) fun v719 hv719 => ?_
  refine Wp.ld H21 (R2 · s.a21 0 0) (r2 rfl) fun v721 hv721 => ?_
  refine Wp.pure ?_
  try dsimp only
  refine Wp.bind ?_
  rw [k0_part45_eq_skeleton]; unfold k0_part45_skel; try dsimp only
  refine Wp.ld H12 (R4 · X12_1 ((k0_t1.val + 1) % 2) k0_t6.val 0 128) (r4 (o91 k0_t1 k0_t6)) fun v726 hv726 => ?_
  refine Wp.st H12 (W4 · X12_1 (k0_pay315 (F := Ideal) (k0_pay314 (F := Ideal) v719 v721)) ((k0_t1.val + 1) % 2) k0_t6.val 0 128) (w4 (o91 k0_t1 k0_t6)) fun X12_2 hX12_2 => ?_
  try dsimp only
  refine Wp.ld H20 (R2 · X20_1 0 0) (r2 rfl) fun v729 hv729 => ?_
  refine Wp.ld H20 (R2 · X20_1 0 0) (r2 rfl) fun v731 hv731 => ?_
  refine Wp.st H20 (W2 · X20_1 (k0_pay316 (F := Ideal) (k0_pay314 (F := Ideal) v719 v721) v729) 0 0) (w2 rfl) fun X20_2 hX20_2 => ?_
  try dsimp only
  refine Wp.ld H22 (R2 · X22_1 0 0) (r2 rfl) fun v734 hv734 => ?_
  refine Wp.ld H13 (R4 · s.a13 ((k0_t1.val + 1) % 2) k0_t6.val 0 128) (r4 (o91 k0_t1 k0_t6)) fun v737 hv737 => ?_
  refine Wp.ld H22 (R2 · X22_1 0 0) (r2 rfl) fun v741 hv741 => ?_
  refine Wp.st H22 (W2 · X22_1 (k0_pay317 (F := Ideal) (k0_pay314 (F := Ideal) v719 v721) v734 v737) 0 0) (w2 rfl) fun X22_2 hX22_2 => ?_
  try dsimp only
  refine Wp.ld H12 (R4 · X12_2 ((k0_t1.val + 1) % 2) k0_t6.val 0 256) (r4 (o92 k0_t1 k0_t6)) fun v746 hv746 => ?_
  refine Wp.ld H21 (R2 · s.a21 0 0) (r2 rfl) fun v748 hv748 => ?_
  refine Wp.ld H12 (R4 · X12_2 ((k0_t1.val + 1) % 2) k0_t6.val 0 256) (r4 (o92 k0_t1 k0_t6)) fun v753 hv753 => ?_
  refine Wp.st H12 (W4 · X12_2 (k0_pay319 (F := Ideal) v746 v748) ((k0_t1.val + 1) % 2) k0_t6.val 0 256) (w4 (o92 k0_t1 k0_t6)) fun X12_3 hX12_3 => ?_
  try dsimp only
  refine Wp.ld H20 (R2 · X20_2 0 0) (r2 rfl) fun v756 hv756 => ?_
  refine Wp.ld H20 (R2 · X20_2 0 0) (r2 rfl) fun v758 hv758 => ?_
  refine Wp.pure ?_
  try dsimp only
  refine Wp.bind ?_
  rw [k0_part46_eq_skeleton]; unfold k0_part46_skel; try dsimp only
  refine Wp.st H20 (W2 · X20_2 (k0_pay321 (F := Ideal) (k0_pay320 (F := Ideal) v746 v748 v756)) 0 0) (w2 rfl) fun X20_3 hX20_3 => ?_
  try dsimp only
  refine Wp.ld H22 (R2 · X22_2 0 0) (r2 rfl) fun v761 hv761 => ?_
  refine Wp.ld H13 (R4 · s.a13 ((k0_t1.val + 1) % 2) k0_t6.val 0 256) (r4 (o92 k0_t1 k0_t6)) fun v764 hv764 => ?_
  refine Wp.ld H22 (R2 · X22_2 0 0) (r2 rfl) fun v768 hv768 => ?_
  refine Wp.st H22 (W2 · X22_2 (k0_pay322 (F := Ideal) (k0_pay318 (F := Ideal) v746 v748) v761 v764) 0 0) (w2 rfl) fun X22_3 hX22_3 => ?_
  try dsimp only
  refine Wp.ld H12 (R4 · X12_3 ((k0_t1.val + 1) % 2) k0_t6.val 0 384) (r4 (o93 k0_t1 k0_t6)) fun v773 hv773 => ?_
  refine Wp.ld H21 (R2 · s.a21 0 0) (r2 rfl) fun v775 hv775 => ?_
  refine Wp.ld H12 (R4 · X12_3 ((k0_t1.val + 1) % 2) k0_t6.val 0 384) (r4 (o93 k0_t1 k0_t6)) fun v780 hv780 => ?_
  refine Wp.st H12 (W4 · X12_3 (k0_pay324 (F := Ideal) v773 v775) ((k0_t1.val + 1) % 2) k0_t6.val 0 384) (w4 (o93 k0_t1 k0_t6)) fun X12_4 hX12_4 => ?_
  try dsimp only
  refine Wp.ld H20 (R2 · X20_3 0 0) (r2 rfl) fun v783 hv783 => ?_
  refine Wp.ld H20 (R2 · X20_3 0 0) (r2 rfl) fun v785 hv785 => ?_
  refine Wp.st H20 (W2 · X20_3 (k0_pay325 (F := Ideal) v773 v775 v783) 0 0) (w2 rfl) fun X20_4 hX20_4 => ?_
  try dsimp only
  refine Wp.ld H22 (R2 · X22_3 0 0) (r2 rfl) fun v788 hv788 => ?_
  refine Wp.ld H13 (R4 · s.a13 ((k0_t1.val + 1) % 2) k0_t6.val 0 384) (r4 (o93 k0_t1 k0_t6)) fun v791 hv791 => ?_
  refine Wp.pure ?_
  try dsimp only
  refine Wp.bind ?_
  rw [k0_part47_eq_skeleton]; unfold k0_part47_skel; try dsimp only
  refine Wp.ld H22 (R2 · X22_3 0 0) (r2 rfl) fun v795 hv795 => ?_
  refine Wp.st H22 (W2 · X22_3 (k0_pay327 (F := Ideal) (k0_pay326 (F := Ideal) v773 v775 v788 v791)) 0 0) (w2 rfl) fun X22_4 hX22_4 => ?_
  try dsimp only
  refine Wp.ld H12 (R4 · X12_4 ((k0_t1.val + 1) % 2) k0_t6.val 256 0) (r4 (o94 k0_t1 k0_t6)) fun v800 hv800 => ?_
  refine Wp.ld H21 (R2 · s.a21 256 0) (r2 rfl) fun v802 hv802 => ?_
  refine Wp.ld H12 (R4 · X12_4 ((k0_t1.val + 1) % 2) k0_t6.val 256 0) (r4 (o94 k0_t1 k0_t6)) fun v807 hv807 => ?_
  refine Wp.st H12 (W4 · X12_4 (k0_pay329 (F := Ideal) v800 v802) ((k0_t1.val + 1) % 2) k0_t6.val 256 0) (w4 (o94 k0_t1 k0_t6)) fun X12_5 hX12_5 => ?_
  try dsimp only
  refine Wp.ld H20 (R2 · X20_4 256 0) (r2 rfl) fun v810 hv810 => ?_
  refine Wp.ld H20 (R2 · X20_4 256 0) (r2 rfl) fun v812 hv812 => ?_
  refine Wp.st H20 (W2 · X20_4 (k0_pay330 (F := Ideal) v800 v802 v810) 256 0) (w2 rfl) fun X20_5 hX20_5 => ?_
  try dsimp only
  refine Wp.ld H22 (R2 · X22_4 256 0) (r2 rfl) fun v815 hv815 => ?_
  refine Wp.ld H13 (R4 · s.a13 ((k0_t1.val + 1) % 2) k0_t6.val 256 0) (r4 (o94 k0_t1 k0_t6)) fun v818 hv818 => ?_
  refine Wp.ld H22 (R2 · X22_4 256 0) (r2 rfl) fun v822 hv822 => ?_
  refine Wp.st H22 (W2 · X22_4 (k0_pay331 (F := Ideal) v800 v802 v815 v818) 256 0) (w2 rfl) fun X22_5 hX22_5 => ?_
  try dsimp only
  refine Wp.ld H12 (R4 · X12_5 ((k0_t1.val + 1) % 2) k0_t6.val 256 128) (r4 (o95 k0_t1 k0_t6)) fun v827 hv827 => ?_
  refine Wp.ld H21 (R2 · s.a21 256 0) (r2 rfl) fun v829 hv829 => ?_
  refine Wp.pure ?_
  try dsimp only
  refine Wp.bind ?_
  rw [k0_part48_eq_skeleton]; unfold k0_part48_skel; try dsimp only
  refine Wp.ld H12 (R4 · X12_5 ((k0_t1.val + 1) % 2) k0_t6.val 256 128) (r4 (o95 k0_t1 k0_t6)) fun v834 hv834 => ?_
  refine Wp.st H12 (W4 · X12_5 (k0_pay334 (F := Ideal) (k0_pay332 (F := Ideal) v827) v829) ((k0_t1.val + 1) % 2) k0_t6.val 256 128) (w4 (o95 k0_t1 k0_t6)) fun X12_6 hX12_6 => ?_
  try dsimp only
  refine Wp.ld H20 (R2 · X20_5 256 0) (r2 rfl) fun v837 hv837 => ?_
  refine Wp.ld H20 (R2 · X20_5 256 0) (r2 rfl) fun v839 hv839 => ?_
  refine Wp.st H20 (W2 · X20_5 (k0_pay335 (F := Ideal) (k0_pay332 (F := Ideal) v827) v829 v837) 256 0) (w2 rfl) fun X20_6 hX20_6 => ?_
  try dsimp only
  refine Wp.ld H22 (R2 · X22_5 256 0) (r2 rfl) fun v842 hv842 => ?_
  refine Wp.ld H13 (R4 · s.a13 ((k0_t1.val + 1) % 2) k0_t6.val 256 128) (r4 (o95 k0_t1 k0_t6)) fun v845 hv845 => ?_
  refine Wp.ld H22 (R2 · X22_5 256 0) (r2 rfl) fun v849 hv849 => ?_
  refine Wp.st H22 (W2 · X22_5 (k0_pay336 (F := Ideal) (k0_pay332 (F := Ideal) v827) v829 v842 v845) 256 0) (w2 rfl) fun X22_6 hX22_6 => ?_
  try dsimp only
  refine Wp.ld H12 (R4 · X12_6 ((k0_t1.val + 1) % 2) k0_t6.val 256 256) (r4 (o96 k0_t1 k0_t6)) fun v854 hv854 => ?_
  refine Wp.ld H21 (R2 · s.a21 256 0) (r2 rfl) fun v856 hv856 => ?_
  refine Wp.ld H12 (R4 · X12_6 ((k0_t1.val + 1) % 2) k0_t6.val 256 256) (r4 (o96 k0_t1 k0_t6)) fun v861 hv861 => ?_
  refine Wp.st H12 (W4 · X12_6 (k0_pay338 (F := Ideal) v854 v856) ((k0_t1.val + 1) % 2) k0_t6.val 256 256) (w4 (o96 k0_t1 k0_t6)) fun X12_7 hX12_7 => ?_
  try dsimp only
  refine Wp.ld H20 (R2 · X20_6 256 0) (r2 rfl) fun v864 hv864 => ?_
  refine Wp.pure ?_
  try dsimp only
  refine Wp.bind ?_
  rw [k0_part49_eq_skeleton]; unfold k0_part49_skel; try dsimp only
  refine Wp.ld H20 (R2 · X20_6 256 0) (r2 rfl) fun v866 hv866 => ?_
  refine Wp.st H20 (W2 · X20_6 (k0_pay340 (F := Ideal) (k0_pay339 (F := Ideal) v854 v856 v864)) 256 0) (w2 rfl) fun X20_7 hX20_7 => ?_
  try dsimp only
  refine Wp.ld H22 (R2 · X22_6 256 0) (r2 rfl) fun v869 hv869 => ?_
  refine Wp.ld H13 (R4 · s.a13 ((k0_t1.val + 1) % 2) k0_t6.val 256 256) (r4 (o96 k0_t1 k0_t6)) fun v872 hv872 => ?_
  refine Wp.ld H22 (R2 · X22_6 256 0) (r2 rfl) fun v876 hv876 => ?_
  refine Wp.st H22 (W2 · X22_6 (k0_pay341 (F := Ideal) (k0_pay337 (F := Ideal) v854 v856) v869 v872) 256 0) (w2 rfl) fun X22_7 hX22_7 => ?_
  try dsimp only
  refine Wp.ld H12 (R4 · X12_7 ((k0_t1.val + 1) % 2) k0_t6.val 256 384) (r4 (o97 k0_t1 k0_t6)) fun v881 hv881 => ?_
  refine Wp.ld H21 (R2 · s.a21 256 0) (r2 rfl) fun v883 hv883 => ?_
  refine Wp.ld H12 (R4 · X12_7 ((k0_t1.val + 1) % 2) k0_t6.val 256 384) (r4 (o97 k0_t1 k0_t6)) fun v888 hv888 => ?_
  refine Wp.st H12 (W4 · X12_7 (k0_pay343 (F := Ideal) v881 v883) ((k0_t1.val + 1) % 2) k0_t6.val 256 384) (w4 (o97 k0_t1 k0_t6)) fun X12_8 hX12_8 => ?_
  try dsimp only
  refine Wp.ld H20 (R2 · X20_7 256 0) (r2 rfl) fun v891 hv891 => ?_
  refine Wp.ld H20 (R2 · X20_7 256 0) (r2 rfl) fun v893 hv893 => ?_
  refine Wp.st H20 (W2 · X20_7 (k0_pay344 (F := Ideal) v881 v883 v891) 256 0) (w2 rfl) fun X20_8 hX20_8 => ?_
  try dsimp only
  refine Wp.ld H22 (R2 · X22_7 256 0) (r2 rfl) fun v896 hv896 => ?_
  refine Wp.ld H13 (R4 · s.a13 ((k0_t1.val + 1) % 2) k0_t6.val 256 384) (r4 (o97 k0_t1 k0_t6)) fun v899 hv899 => ?_
  refine Wp.pure ?_
  try dsimp only
  refine Wp.ld H22 (R2 · X22_7 256 0) (r2 rfl) fun v903 hv903 => ?_
  refine Wp.st H22 (W2 · X22_7 (k0_pay10 (F := Ideal) (k0_pay342 (F := Ideal) v881 v883) v896 v899) 256 0) (w2 rfl) fun X22_8 hX22_8 => ?_
  try dsimp only
  refine Wp.pure ?_
  try dsimp only
  exact ⟨t6_ce_e (s := s) (k0_t1 := k0_t1) (k0_t6 := k0_t6) v692 hv692 v694 hv694 X12_1 hX12_1 v719 hv719 v721 hv721 X12_2 hX12_2 v746 hv746 v748 hv748 X12_3 hX12_3 v773 hv773 v775 hv775 X12_4 hX12_4 v800 hv800 v802 hv802 X12_5 hX12_5 v827 hv827 v829 hv829 X12_6 hX12_6 v854 hv854 v856 hv856 X12_7 hX12_7 v881 hv881 v883 hv883 X12_8 hX12_8, t6_ce_l (s := s) (k0_t1 := k0_t1) (k0_t6 := k0_t6) v692 hv692 v694 hv694 X12_1 hX12_1 v702 hv702 X20_1 hX20_1 v719 hv719 v721 hv721 X12_2 hX12_2 v729 hv729 X20_2 hX20_2 v746 hv746 v748 hv748 X12_3 hX12_3 v756 hv756 X20_3 hX20_3 v773 hv773 v775 hv775 X12_4 hX12_4 v783 hv783 X20_4 hX20_4 v800 hv800 v802 hv802 X12_5 hX12_5 v810 hv810 X20_5 hX20_5 v827 hv827 v829 hv829 X12_6 hX12_6 v837 hv837 X20_6 hX20_6 v854 hv854 v856 hv856 X12_7 hX12_7 v864 hv864 X20_7 hX20_7 v881 hv881 v883 hv883 v891 hv891 X20_8 hX20_8, t6_ce_d (s := s) (k0_t1 := k0_t1) (k0_t6 := k0_t6) v692 hv692 v694 hv694 X12_1 hX12_1 v707 hv707 v710 hv710 X22_1 hX22_1 v719 hv719 v721 hv721 X12_2 hX12_2 v734 hv734 v737 hv737 X22_2 hX22_2 v746 hv746 v748 hv748 X12_3 hX12_3 v761 hv761 v764 hv764 X22_3 hX22_3 v773 hv773 v775 hv775 X12_4 hX12_4 v788 hv788 v791 hv791 X22_4 hX22_4 v800 hv800 v802 hv802 X12_5 hX12_5 v815 hv815 v818 hv818 X22_5 hX22_5 v827 hv827 v829 hv829 X12_6 hX12_6 v842 hv842 v845 hv845 X22_6 hX22_6 v854 hv854 v856 hv856 X12_7 hX12_7 v869 hv869 v872 hv872 X22_7 hX22_7 v881 hv881 v883 hv883 v896 hv896 v899 hv899 X22_8 hX22_8, rfl⟩

theorem t4_wp {arg0 v622 : BitVec 32} {k0_t1 : Fin k0_t1_loop.trips} (k0_t4 : Fin (k0_t4_loop k0_t1).trips) (acc : BitVec 32) (s : St Ideal) :
    Wp (defs₀ (F := Ideal)) c O (k0_t4_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 k0_t1 (Scf.iv 1#32 1#32 k0_t1) v622 k0_t4 acc) s fun _ s' =>
      CScore (i 0).val ((k0_t1.val + 1) % 2) (k0_t1.val + 1) k0_t4.val s s' := by
  unfold k0_t4_body
  try dsimp only
  refine Wp.bind ?_
  rw [k0_part32_eq_skeleton]; unfold k0_part32_skel; try dsimp only
  refine Wp.ld H7 (R3 · s.a7 0 k0_t4.val 0) (r3 (o66 k0_t1 k0_t4)) fun v691 hv691 => ?_
  refine Wp.ld H3 (R3 · s.a3 0 (512 * k0_t1.val + 512) 0) (r3 (o67_0 k0_t1)) fun v696 hv696 => ?_
  refine Wp.ld H4 (R3 · s.a4 0 (512 * k0_t4.val) 0) (r3 (o68 k0_t1 k0_t4)) fun v700 hv700 => ?_
  refine Wp.bind (Wp.smemLoad' H1 (fun _ => rfl) (fun v => v = g2 s.a1 ((i 0).val) 5) (fun x => g2_cell (o69 i) _ _ x) fun v714 hv714 => ?_)
  refine Wp.ld H20 (R2 · s.a20 0 0) (r2 rfl) fun v717 hv717 => ?_
  refine Wp.pure ?_
  try dsimp only
  refine Wp.bind ?_
  rw [k0_part33_eq_skeleton]; unfold k0_part33_skel; try dsimp only
  refine Wp.ld H12 (R4 · s.a12 ((k0_t1.val + 1) % 2) k0_t4.val 0 0) (r4 (o70 k0_t1 k0_t4)) fun v729 hv729 => ?_
  refine Wp.st H12 (W4 · s.a12 (k0_pay251 (F := Ideal) (k0_pay250 (F := Ideal) k0_t1 (Scf.iv 1#32 1#32 k0_t1) 0#32 1#32 k0_t4 v691 v696 v700 v714 v717)) ((k0_t1.val + 1) % 2) k0_t4.val 0 0) (w4 (o70 k0_t1 k0_t4)) fun X12_1 hX12_1 => ?_
  try dsimp only
  refine Wp.ld H21 (R2 · s.a21 0 0) (r2 rfl) fun v732 hv732 => ?_
  refine Wp.ld H21 (R2 · s.a21 0 0) (r2 rfl) fun v734 hv734 => ?_
  refine Wp.st H21 (W2 · s.a21 (k0_pay252 (F := Ideal) (k0_pay250 (F := Ideal) k0_t1 (Scf.iv 1#32 1#32 k0_t1) 0#32 1#32 k0_t4 v691 v696 v700 v714 v717) v732) 0 0) (w2 rfl) fun X21_1 hX21_1 => ?_
  try dsimp only
  refine Wp.bind (Wp.smemLoad' H1 (fun _ => rfl) (fun v => v = g2 s.a1 ((i 0).val) 5) (fun x => g2_cell (o69 i) _ _ x) fun v739 hv739 => ?_)
  refine Wp.ld H20 (R2 · s.a20 0 0) (r2 rfl) fun v742 hv742 => ?_
  refine Wp.ld H12 (R4 · X12_1 ((k0_t1.val + 1) % 2) k0_t4.val 0 128) (r4 (o71 k0_t1 k0_t4)) fun v754 hv754 => ?_
  refine Wp.st H12 (W4 · X12_1 (k0_pay254 (F := Ideal) (k0_pay246 (F := Ideal) v691) (k0_pay247 (F := Ideal) v696 v700) (k0_pay248 (Scf.iv 1#32 1#32 k0_t1)) (k0_pay249 k0_t1 0#32 1#32 k0_t4) v739 v742) ((k0_t1.val + 1) % 2) k0_t4.val 0 128) (w4 (o71 k0_t1 k0_t4)) fun X12_2 hX12_2 => ?_
  try dsimp only
  refine Wp.ld H21 (R2 · X21_1 0 0) (r2 rfl) fun v757 hv757 => ?_
  refine Wp.ld H21 (R2 · X21_1 0 0) (r2 rfl) fun v759 hv759 => ?_
  refine Wp.st H21 (W2 · X21_1 (k0_pay255 (F := Ideal) (k0_pay246 (F := Ideal) v691) (k0_pay247 (F := Ideal) v696 v700) (k0_pay248 (Scf.iv 1#32 1#32 k0_t1)) (k0_pay249 k0_t1 0#32 1#32 k0_t4) v739 v742 v757) 0 0) (w2 rfl) fun X21_2 hX21_2 => ?_
  try dsimp only
  refine Wp.bind (Wp.smemLoad' H1 (fun _ => rfl) (fun v => v = g2 s.a1 ((i 0).val) 5) (fun x => g2_cell (o69 i) _ _ x) fun v764 hv764 => ?_)
  refine Wp.pure ?_
  try dsimp only
  refine Wp.bind ?_
  rw [k0_part34_eq_skeleton]; unfold k0_part34_skel; try dsimp only
  refine Wp.ld H20 (R2 · s.a20 0 0) (r2 rfl) fun v767 hv767 => ?_
  refine Wp.ld H12 (R4 · X12_2 ((k0_t1.val + 1) % 2) k0_t4.val 0 256) (r4 (o72 k0_t1 k0_t4)) fun v779 hv779 => ?_
  refine Wp.st H12 (W4 · X12_2 (k0_pay258 (F := Ideal) (k0_pay246 (F := Ideal) v691) (k0_pay248 (Scf.iv 1#32 1#32 k0_t1)) (k0_pay249 k0_t1 0#32 1#32 k0_t4) (k0_pay256 (F := Ideal) (k0_pay247 (F := Ideal) v696 v700) v764) v767) ((k0_t1.val + 1) % 2) k0_t4.val 0 256) (w4 (o72 k0_t1 k0_t4)) fun X12_3 hX12_3 => ?_
  try dsimp only
  refine Wp.ld H21 (R2 · X21_2 0 0) (r2 rfl) fun v782 hv782 => ?_
  refine Wp.ld H21 (R2 · X21_2 0 0) (r2 rfl) fun v784 hv784 => ?_
  refine Wp.st H21 (W2 · X21_2 (k0_pay259 (F := Ideal) (k0_pay246 (F := Ideal) v691) (k0_pay248 (Scf.iv 1#32 1#32 k0_t1)) (k0_pay249 k0_t1 0#32 1#32 k0_t4) (k0_pay256 (F := Ideal) (k0_pay247 (F := Ideal) v696 v700) v764) v767 v782) 0 0) (w2 rfl) fun X21_3 hX21_3 => ?_
  try dsimp only
  refine Wp.bind (Wp.smemLoad' H1 (fun _ => rfl) (fun v => v = g2 s.a1 ((i 0).val) 5) (fun x => g2_cell (o69 i) _ _ x) fun v789 hv789 => ?_)
  refine Wp.ld H20 (R2 · s.a20 0 0) (r2 rfl) fun v792 hv792 => ?_
  refine Wp.ld H12 (R4 · X12_3 ((k0_t1.val + 1) % 2) k0_t4.val 0 384) (r4 (o73 k0_t1 k0_t4)) fun v804 hv804 => ?_
  refine Wp.st H12 (W4 · X12_3 (k0_pay261 (F := Ideal) (k0_pay246 (F := Ideal) v691) (k0_pay247 (F := Ideal) v696 v700) (k0_pay248 (Scf.iv 1#32 1#32 k0_t1)) (k0_pay249 k0_t1 0#32 1#32 k0_t4) v789 v792) ((k0_t1.val + 1) % 2) k0_t4.val 0 384) (w4 (o73 k0_t1 k0_t4)) fun X12_4 hX12_4 => ?_
  try dsimp only
  refine Wp.pure ?_
  try dsimp only
  refine Wp.bind ?_
  rw [k0_part35_eq_skeleton]; unfold k0_part35_skel; try dsimp only
  refine Wp.ld H21 (R2 · X21_3 0 0) (r2 rfl) fun v807 hv807 => ?_
  refine Wp.ld H21 (R2 · X21_3 0 0) (r2 rfl) fun v809 hv809 => ?_
  refine Wp.st H21 (W2 · X21_3 (k0_pay262 (F := Ideal) (k0_pay260 (F := Ideal) (k0_pay246 (F := Ideal) v691) (k0_pay247 (F := Ideal) v696 v700) (k0_pay248 (Scf.iv 1#32 1#32 k0_t1)) (k0_pay249 k0_t1 0#32 1#32 k0_t4) v789 v792) v807) 0 0) (w2 rfl) fun X21_4 hX21_4 => ?_
  try dsimp only
  refine Wp.ld H3 (R3 · s.a3 0 (512 * k0_t1.val + 768) 0) (r3 (o67_256 k0_t1)) fun v815 hv815 => ?_
  refine Wp.ld H4 (R3 · s.a4 0 (512 * k0_t4.val) 0) (r3 (o68 k0_t1 k0_t4)) fun v819 hv819 => ?_
  refine Wp.bind (Wp.smemLoad' H1 (fun _ => rfl) (fun v => v = g2 s.a1 ((i 0).val) 5) (fun x => g2_cell (o69 i) _ _ x) fun v833 hv833 => ?_)
  refine Wp.ld H20 (R2 · s.a20 256 0) (r2 rfl) fun v836 hv836 => ?_
  refine Wp.pure ?_
  try dsimp only
  refine Wp.bind ?_
  rw [k0_part36_eq_skeleton]; unfold k0_part36_skel; try dsimp only
  refine Wp.ld H12 (R4 · X12_4 ((k0_t1.val + 1) % 2) k0_t4.val 256 0) (r4 (o74 k0_t1 k0_t4)) fun v848 hv848 => ?_
  refine Wp.st H12 (W4 · X12_4 (k0_pay267 (F := Ideal) (k0_pay266 (F := Ideal) (Scf.iv 1#32 1#32 k0_t1) (Scf.iv 0#32 1#32 k0_t4) (k0_pay246 (F := Ideal) v691) v815 v819 v833 v836)) ((k0_t1.val + 1) % 2) k0_t4.val 256 0) (w4 (o74 k0_t1 k0_t4)) fun X12_5 hX12_5 => ?_
  try dsimp only
  refine Wp.ld H21 (R2 · X21_4 256 0) (r2 rfl) fun v851 hv851 => ?_
  refine Wp.ld H21 (R2 · X21_4 256 0) (r2 rfl) fun v853 hv853 => ?_
  refine Wp.st H21 (W2 · X21_4 (k0_pay268 (F := Ideal) (k0_pay266 (F := Ideal) (Scf.iv 1#32 1#32 k0_t1) (Scf.iv 0#32 1#32 k0_t4) (k0_pay246 (F := Ideal) v691) v815 v819 v833 v836) v851) 256 0) (w2 rfl) fun X21_5 hX21_5 => ?_
  try dsimp only
  refine Wp.bind (Wp.smemLoad' H1 (fun _ => rfl) (fun v => v = g2 s.a1 ((i 0).val) 5) (fun x => g2_cell (o69 i) _ _ x) fun v858 hv858 => ?_)
  refine Wp.ld H20 (R2 · s.a20 256 0) (r2 rfl) fun v861 hv861 => ?_
  refine Wp.ld H12 (R4 · X12_5 ((k0_t1.val + 1) % 2) k0_t4.val 256 128) (r4 (o75 k0_t1 k0_t4)) fun v873 hv873 => ?_
  refine Wp.st H12 (W4 · X12_5 (k0_pay270 (F := Ideal) (k0_pay246 (F := Ideal) v691) (k0_pay263 (F := Ideal) v815 v819) (k0_pay264 (Scf.iv 1#32 1#32 k0_t1)) (k0_pay265 (Scf.iv 0#32 1#32 k0_t4)) v858 v861) ((k0_t1.val + 1) % 2) k0_t4.val 256 128) (w4 (o75 k0_t1 k0_t4)) fun X12_6 hX12_6 => ?_
  try dsimp only
  refine Wp.ld H21 (R2 · X21_5 256 0) (r2 rfl) fun v876 hv876 => ?_
  refine Wp.ld H21 (R2 · X21_5 256 0) (r2 rfl) fun v878 hv878 => ?_
  refine Wp.st H21 (W2 · X21_5 (k0_pay271 (F := Ideal) (k0_pay246 (F := Ideal) v691) (k0_pay263 (F := Ideal) v815 v819) (k0_pay264 (Scf.iv 1#32 1#32 k0_t1)) (k0_pay265 (Scf.iv 0#32 1#32 k0_t4)) v858 v861 v876) 256 0) (w2 rfl) fun X21_6 hX21_6 => ?_
  try dsimp only
  refine Wp.bind (Wp.smemLoad' H1 (fun _ => rfl) (fun v => v = g2 s.a1 ((i 0).val) 5) (fun x => g2_cell (o69 i) _ _ x) fun v883 hv883 => ?_)
  refine Wp.pure ?_
  try dsimp only
  refine Wp.bind ?_
  rw [k0_part37_eq_skeleton]; unfold k0_part37_skel; try dsimp only
  refine Wp.ld H20 (R2 · s.a20 256 0) (r2 rfl) fun v886 hv886 => ?_
  refine Wp.ld H12 (R4 · X12_6 ((k0_t1.val + 1) % 2) k0_t4.val 256 256) (r4 (o76 k0_t1 k0_t4)) fun v898 hv898 => ?_
  refine Wp.st H12 (W4 · X12_6 (k0_pay274 (F := Ideal) (k0_pay246 (F := Ideal) v691) (k0_pay264 (Scf.iv 1#32 1#32 k0_t1)) (k0_pay265 (Scf.iv 0#32 1#32 k0_t4)) (k0_pay272 (F := Ideal) (k0_pay263 (F := Ideal) v815 v819) v883) v886) ((k0_t1.val + 1) % 2) k0_t4.val 256 256) (w4 (o76 k0_t1 k0_t4)) fun X12_7 hX12_7 => ?_
  try dsimp only
  refine Wp.ld H21 (R2 · X21_6 256 0) (r2 rfl) fun v901 hv901 => ?_
  refine Wp.ld H21 (R2 · X21_6 256 0) (r2 rfl) fun v903 hv903 => ?_
  refine Wp.st H21 (W2 · X21_6 (k0_pay275 (F := Ideal) (k0_pay246 (F := Ideal) v691) (k0_pay264 (Scf.iv 1#32 1#32 k0_t1)) (k0_pay265 (Scf.iv 0#32 1#32 k0_t4)) (k0_pay272 (F := Ideal) (k0_pay263 (F := Ideal) v815 v819) v883) v886 v901) 256 0) (w2 rfl) fun X21_7 hX21_7 => ?_
  try dsimp only
  refine Wp.bind (Wp.smemLoad' H1 (fun _ => rfl) (fun v => v = g2 s.a1 ((i 0).val) 5) (fun x => g2_cell (o69 i) _ _ x) fun v908 hv908 => ?_)
  refine Wp.ld H20 (R2 · s.a20 256 0) (r2 rfl) fun v911 hv911 => ?_
  refine Wp.ld H12 (R4 · X12_7 ((k0_t1.val + 1) % 2) k0_t4.val 256 384) (r4 (o77 k0_t1 k0_t4)) fun v923 hv923 => ?_
  refine Wp.st H12 (W4 · X12_7 (k0_pay277 (F := Ideal) (k0_pay246 (F := Ideal) v691) (k0_pay263 (F := Ideal) v815 v819) (k0_pay264 (Scf.iv 1#32 1#32 k0_t1)) (k0_pay265 (Scf.iv 0#32 1#32 k0_t4)) v908 v911) ((k0_t1.val + 1) % 2) k0_t4.val 256 384) (w4 (o77 k0_t1 k0_t4)) fun X12_8 hX12_8 => ?_
  try dsimp only
  refine Wp.pure ?_
  try dsimp only
  refine Wp.ld H21 (R2 · X21_7 256 0) (r2 rfl) fun v926 hv926 => ?_
  refine Wp.ld H21 (R2 · X21_7 256 0) (r2 rfl) fun v928 hv928 => ?_
  refine Wp.st H21 (W2 · X21_7 (k0_pay383 (F := Ideal) (k0_pay276 (F := Ideal) (k0_pay246 (F := Ideal) v691) (k0_pay263 (F := Ideal) v815 v819) (k0_pay264 (Scf.iv 1#32 1#32 k0_t1)) (k0_pay265 (Scf.iv 0#32 1#32 k0_t4)) v908 v911) v926) 256 0) (w2 rfl) fun X21_8 hX21_8 => ?_
  try dsimp only
  refine Wp.pure ?_
  try dsimp only
  exact ⟨t4_cs_e (s := s) (i := i) (k0_t1 := k0_t1) (k0_t4 := k0_t4) v691 hv691 v696 hv696 v700 hv700 v714 hv714 v717 hv717 X12_1 hX12_1 v739 hv739 v742 hv742 X12_2 hX12_2 v764 hv764 v767 hv767 X12_3 hX12_3 v789 hv789 v792 hv792 X12_4 hX12_4 v815 hv815 v819 hv819 v833 hv833 v836 hv836 X12_5 hX12_5 v858 hv858 v861 hv861 X12_6 hX12_6 v883 hv883 v886 hv886 X12_7 hX12_7 v908 hv908 v911 hv911 X12_8 hX12_8, t4_cs_m (s := s) (i := i) (k0_t1 := k0_t1) (k0_t4 := k0_t4) v691 hv691 v696 hv696 v700 hv700 v714 hv714 v717 hv717 v732 hv732 X21_1 hX21_1 v739 hv739 v742 hv742 v757 hv757 X21_2 hX21_2 v764 hv764 v767 hv767 v782 hv782 X21_3 hX21_3 v789 hv789 v792 hv792 v807 hv807 X21_4 hX21_4 v815 hv815 v819 hv819 v833 hv833 v836 hv836 v851 hv851 X21_5 hX21_5 v858 hv858 v861 hv861 v876 hv876 X21_6 hX21_6 v883 hv883 v886 hv886 v901 hv901 X21_7 hX21_7 v908 hv908 v911 hv911 v926 hv926 X21_8 hX21_8, rfl⟩

theorem t2_wp {arg0 : BitVec 32} {v2 : EReal} {k0_t1 : Fin k0_t1_loop.trips} {arg25 : BitVec 32} {v555 : FVec Ideal S128x512 .bf16} (k0_t2 : Fin (k0_t2_loop k0_t1).trips) (acc : BitVec 32) (s : St Ideal) :
    Wp (defs₀ (F := Ideal)) c O (k0_t2_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 v2 k0_t1 arg25 v555 k0_t2 acc) s fun _ s' =>
      Keep s s' ∧ FwdPost v2 (i 0).val ((k0_t1.val + 1) % 2) (k0_t1.val + 1) k0_t2.val s s' ∧ BwdPost (k0_t1.val % 2) k0_t2.val s s' ∧
      s' = { s with a12 := s'.a12, a13 := s'.a13, a14 := s'.a14, a15 := s'.a15, a16 := s'.a16, a17 := s'.a17, a21 := s'.a21, a22 := s'.a22 } := by
  unfold k0_t2_body
  try dsimp only
  refine Wp.bind ?_
  rw [k0_part14_eq_skeleton]; unfold k0_part14_skel; try dsimp only
  refine Wp.bind (Wp.smemLoad' H2 (fun _ => rfl) (fun v => v = g2 s.a2 ((i 0).val) (k0_t1.val + 1)) (fun x => g2_cell (o12 i k0_t1) _ _ x) fun v625 hv625 => ?_)
  refine Wp.ld H7 (R3 · s.a7 0 k0_t2.val 0) (r3 (o13 k0_t1 k0_t2)) fun v627 hv627 => ?_
  refine Wp.ld H3 (R3 · s.a3 0 (512 * k0_t1.val + 512) 0) (r3 (o14_0 k0_t1)) fun v636 hv636 => ?_
  refine Wp.ld H4 (R3 · s.a4 0 (512 * k0_t2.val) 0) (r3 (o15 k0_t1 k0_t2)) fun v640 hv640 => ?_
  refine Wp.ld H6 (R3 · s.a6 0 (512 * k0_t1.val + 512) 0) (r3 (o14_0 k0_t1)) fun v646 hv646 => ?_
  refine Wp.ld H5 (R3 · s.a5 0 (512 * k0_t2.val) 0) (r3 (o15 k0_t1 k0_t2)) fun v650 hv650 => ?_
  refine Wp.ld H20 (R2 · s.a20 0 0) (r2 rfl) fun v653 hv653 => ?_
  refine Wp.ld H21 (R2 · s.a21 0 0) (r2 rfl) fun v654 hv654 => ?_
  refine Wp.pure ?_
  try dsimp only
  refine Wp.bind ?_
  rw [k0_part15_eq_skeleton]; unfold k0_part15_skel; try dsimp only
  refine Wp.ld H22 (R2 · s.a22 0 0) (r2 rfl) fun v655 hv655 => ?_
  refine Wp.ld H12 (R4 · s.a12 ((k0_t1.val + 1) % 2) k0_t2.val 0 0) (r4 (o16 k0_t1 k0_t2)) fun v670 hv670 => ?_
  refine Wp.st H12 (W4 · s.a12 (k0_pay103 (F := Ideal) v2 (k0_pay98 (F := Ideal) v625 v627) (k0_pay99 (F := Ideal) v636 v640) v653) ((k0_t1.val + 1) % 2) k0_t2.val 0 0) (w4 (o16 k0_t1 k0_t2)) fun X12_1 hX12_1 => ?_
  try dsimp only
  refine Wp.ld H13 (R4 · s.a13 ((k0_t1.val + 1) % 2) k0_t2.val 0 0) (r4 (o16 k0_t1 k0_t2)) fun v675 hv675 => ?_
  refine Wp.st H13 (W4 · s.a13 (k0_pay104 (F := Ideal) (k0_pay100 (F := Ideal) v646 v650)) ((k0_t1.val + 1) % 2) k0_t2.val 0 0) (w4 (o16 k0_t1 k0_t2)) fun X13_1 hX13_1 => ?_
  try dsimp only
  refine Wp.ld H12 (R4 · X12_1 ((k0_t1.val + 1) % 2) k0_t2.val 0 128) (r4 (o17 k0_t1 k0_t2)) fun v692 hv692 => ?_
  refine Wp.st H12 (W4 · X12_1 (k0_pay109 (F := Ideal) v2 (k0_pay98 (F := Ideal) v625 v627) (k0_pay99 (F := Ideal) v636 v640) v653) ((k0_t1.val + 1) % 2) k0_t2.val 0 128) (w4 (o17 k0_t1 k0_t2)) fun X12_2 hX12_2 => ?_
  try dsimp only
  refine Wp.ld H13 (R4 · X13_1 ((k0_t1.val + 1) % 2) k0_t2.val 0 128) (r4 (o17 k0_t1 k0_t2)) fun v697 hv697 => ?_
  refine Wp.st H13 (W4 · X13_1 (k0_pay110 (F := Ideal) (k0_pay100 (F := Ideal) v646 v650)) ((k0_t1.val + 1) % 2) k0_t2.val 0 128) (w4 (o17 k0_t1 k0_t2)) fun X13_2 hX13_2 => ?_
  try dsimp only
  refine Wp.pure ?_
  try dsimp only
  refine Wp.bind ?_
  rw [k0_part16_eq_skeleton]; unfold k0_part16_skel; try dsimp only
  refine Wp.ld H12 (R4 · X12_2 ((k0_t1.val + 1) % 2) k0_t2.val 0 256) (r4 (o18 k0_t1 k0_t2)) fun v714 hv714 => ?_
  refine Wp.st H12 (W4 · X12_2 (k0_pay114 (F := Ideal) (k0_pay98 (F := Ideal) v625 v627) v653 (k0_pay111 (F := Ideal) v2 (k0_pay99 (F := Ideal) v636 v640))) ((k0_t1.val + 1) % 2) k0_t2.val 0 256) (w4 (o18 k0_t1 k0_t2)) fun X12_3 hX12_3 => ?_
  try dsimp only
  refine Wp.ld H13 (R4 · X13_2 ((k0_t1.val + 1) % 2) k0_t2.val 0 256) (r4 (o18 k0_t1 k0_t2)) fun v719 hv719 => ?_
  refine Wp.st H13 (W4 · X13_2 (k0_pay115 (F := Ideal) (k0_pay100 (F := Ideal) v646 v650)) ((k0_t1.val + 1) % 2) k0_t2.val 0 256) (w4 (o18 k0_t1 k0_t2)) fun X13_3 hX13_3 => ?_
  try dsimp only
  refine Wp.ld H12 (R4 · X12_3 ((k0_t1.val + 1) % 2) k0_t2.val 0 384) (r4 (o19 k0_t1 k0_t2)) fun v736 hv736 => ?_
  refine Wp.st H12 (W4 · X12_3 (k0_pay119 (F := Ideal) v2 (k0_pay98 (F := Ideal) v625 v627) (k0_pay99 (F := Ideal) v636 v640) v653) ((k0_t1.val + 1) % 2) k0_t2.val 0 384) (w4 (o19 k0_t1 k0_t2)) fun X12_4 hX12_4 => ?_
  try dsimp only
  refine Wp.ld H13 (R4 · X13_3 ((k0_t1.val + 1) % 2) k0_t2.val 0 384) (r4 (o19 k0_t1 k0_t2)) fun v741 hv741 => ?_
  refine Wp.st H13 (W4 · X13_3 (k0_pay120 (F := Ideal) (k0_pay100 (F := Ideal) v646 v650)) ((k0_t1.val + 1) % 2) k0_t2.val 0 384) (w4 (o19 k0_t1 k0_t2)) fun X13_4 hX13_4 => ?_
  try dsimp only
  refine Wp.ld H21 (R2 · s.a21 0 0) (r2 rfl) fun v744 hv744 => ?_
  refine Wp.st H21 (W2 · s.a21 (k0_pay121 (F := Ideal) v2 (k0_pay98 (F := Ideal) v625 v627) (k0_pay99 (F := Ideal) v636 v640) v653 (k0_pay107 (F := Ideal) v2 (k0_pay98 (F := Ideal) v625 v627) (k0_pay99 (F := Ideal) v636 v640) v653 v654) (k0_pay111 (F := Ideal) v2 (k0_pay99 (F := Ideal) v636 v640))) 0 0) (w2 rfl) fun X21_1 hX21_1 => ?_
  try dsimp only
  refine Wp.pure ?_
  try dsimp only
  refine Wp.bind ?_
  rw [k0_part17_eq_skeleton]; unfold k0_part17_skel; try dsimp only
  refine Wp.ld H22 (R2 · s.a22 0 0) (r2 rfl) fun v747 hv747 => ?_
  refine Wp.st H22 (W2 · s.a22 (k0_pay122 (F := Ideal) (k0_pay118 (F := Ideal) v2 (k0_pay98 (F := Ideal) v625 v627) (k0_pay99 (F := Ideal) v636 v640) (k0_pay100 (F := Ideal) v646 v650) v653 (k0_pay108 (F := Ideal) v2 (k0_pay98 (F := Ideal) v625 v627) (k0_pay99 (F := Ideal) v636 v640) (k0_pay100 (F := Ideal) v646 v650) v653 v655) (k0_pay111 (F := Ideal) v2 (k0_pay99 (F := Ideal) v636 v640)))) 0 0) (w2 rfl) fun X22_1 hX22_1 => ?_
  try dsimp only
  refine Wp.ld H3 (R3 · s.a3 0 (512 * k0_t1.val + 768) 0) (r3 (o14_256 k0_t1)) fun v753 hv753 => ?_
  refine Wp.ld H4 (R3 · s.a4 0 (512 * k0_t2.val) 0) (r3 (o15 k0_t1 k0_t2)) fun v757 hv757 => ?_
  refine Wp.ld H6 (R3 · s.a6 0 (512 * k0_t1.val + 768) 0) (r3 (o14_256 k0_t1)) fun v763 hv763 => ?_
  refine Wp.ld H5 (R3 · s.a5 0 (512 * k0_t2.val) 0) (r3 (o15 k0_t1 k0_t2)) fun v767 hv767 => ?_
  refine Wp.ld H20 (R2 · s.a20 256 0) (r2 rfl) fun v770 hv770 => ?_
  refine Wp.ld H21 (R2 · X21_1 256 0) (r2 rfl) fun v771 hv771 => ?_
  refine Wp.ld H22 (R2 · X22_1 256 0) (r2 rfl) fun v772 hv772 => ?_
  refine Wp.pure ?_
  try dsimp only
  refine Wp.bind ?_
  rw [k0_part18_eq_skeleton]; unfold k0_part18_skel; try dsimp only
  refine Wp.ld H12 (R4 · X12_4 ((k0_t1.val + 1) % 2) k0_t2.val 256 0) (r4 (o20 k0_t1 k0_t2)) fun v787 hv787 => ?_
  refine Wp.st H12 (W4 · X12_4 (k0_pay128 (F := Ideal) (k0_pay125 (F := Ideal) v2 (k0_pay98 (F := Ideal) v625 v627) v753 v757 v770)) ((k0_t1.val + 1) % 2) k0_t2.val 256 0) (w4 (o20 k0_t1 k0_t2)) fun X12_5 hX12_5 => ?_
  try dsimp only
  refine Wp.ld H13 (R4 · X13_4 ((k0_t1.val + 1) % 2) k0_t2.val 256 0) (r4 (o20 k0_t1 k0_t2)) fun v792 hv792 => ?_
  refine Wp.st H13 (W4 · X13_4 (k0_pay129 (F := Ideal) (k0_pay126 (F := Ideal) v763 v767)) ((k0_t1.val + 1) % 2) k0_t2.val 256 0) (w4 (o20 k0_t1 k0_t2)) fun X13_5 hX13_5 => ?_
  try dsimp only
  refine Wp.ld H12 (R4 · X12_5 ((k0_t1.val + 1) % 2) k0_t2.val 256 128) (r4 (o21 k0_t1 k0_t2)) fun v809 hv809 => ?_
  refine Wp.st H12 (W4 · X12_5 (k0_pay132 (F := Ideal) v2 (k0_pay98 (F := Ideal) v625 v627) (k0_pay123 (F := Ideal) v753 v757) v770) ((k0_t1.val + 1) % 2) k0_t2.val 256 128) (w4 (o21 k0_t1 k0_t2)) fun X12_6 hX12_6 => ?_
  try dsimp only
  refine Wp.ld H13 (R4 · X13_5 ((k0_t1.val + 1) % 2) k0_t2.val 256 128) (r4 (o21 k0_t1 k0_t2)) fun v814 hv814 => ?_
  refine Wp.st H13 (W4 · X13_5 (k0_pay133 (F := Ideal) (k0_pay124 (F := Ideal) v763 v767)) ((k0_t1.val + 1) % 2) k0_t2.val 256 128) (w4 (o21 k0_t1 k0_t2)) fun X13_6 hX13_6 => ?_
  try dsimp only
  refine Wp.pure ?_
  try dsimp only
  refine Wp.bind ?_
  rw [k0_part19_eq_skeleton]; unfold k0_part19_skel; try dsimp only
  refine Wp.ld H12 (R4 · X12_6 ((k0_t1.val + 1) % 2) k0_t2.val 256 256) (r4 (o22 k0_t1 k0_t2)) fun v831 hv831 => ?_
  refine Wp.st H12 (W4 · X12_6 (k0_pay138 (F := Ideal) (k0_pay134 (F := Ideal) v2 (k0_pay98 (F := Ideal) v625 v627) (k0_pay123 (F := Ideal) v753 v757) v770)) ((k0_t1.val + 1) % 2) k0_t2.val 256 256) (w4 (o22 k0_t1 k0_t2)) fun X12_7 hX12_7 => ?_
  try dsimp only
  refine Wp.ld H13 (R4 · X13_6 ((k0_t1.val + 1) % 2) k0_t2.val 256 256) (r4 (o22 k0_t1 k0_t2)) fun v836 hv836 => ?_
  refine Wp.st H13 (W4 · X13_6 (k0_pay139 (F := Ideal) (k0_pay135 (F := Ideal) (k0_pay124 (F := Ideal) v763 v767))) ((k0_t1.val + 1) % 2) k0_t2.val 256 256) (w4 (o22 k0_t1 k0_t2)) fun X13_7 hX13_7 => ?_
  try dsimp only
  refine Wp.ld H12 (R4 · X12_7 ((k0_t1.val + 1) % 2) k0_t2.val 256 384) (r4 (o23 k0_t1 k0_t2)) fun v853 hv853 => ?_
  refine Wp.st H12 (W4 · X12_7 (k0_pay142 (F := Ideal) v2 (k0_pay98 (F := Ideal) v625 v627) (k0_pay123 (F := Ideal) v753 v757) v770) ((k0_t1.val + 1) % 2) k0_t2.val 256 384) (w4 (o23 k0_t1 k0_t2)) fun X12_8 hX12_8 => ?_
  try dsimp only
  refine Wp.ld H13 (R4 · X13_7 ((k0_t1.val + 1) % 2) k0_t2.val 256 384) (r4 (o23 k0_t1 k0_t2)) fun v858 hv858 => ?_
  refine Wp.st H13 (W4 · X13_7 (k0_pay143 (F := Ideal) (k0_pay124 (F := Ideal) v763 v767)) ((k0_t1.val + 1) % 2) k0_t2.val 256 384) (w4 (o23 k0_t1 k0_t2)) fun X13_8 hX13_8 => ?_
  try dsimp only
  refine Wp.ld H21 (R2 · X21_1 256 0) (r2 rfl) fun v861 hv861 => ?_
  refine Wp.st H21 (W2 · X21_1 (k0_pay144 (F := Ideal) v2 (k0_pay98 (F := Ideal) v625 v627) (k0_pay123 (F := Ideal) v753 v757) v770 (k0_pay136 (F := Ideal) v2 (k0_pay98 (F := Ideal) v625 v627) (k0_pay123 (F := Ideal) v753 v757) v770 (k0_pay127 (F := Ideal) v2 (k0_pay98 (F := Ideal) v625 v627) v753 v757 v770 v771))) 256 0) (w2 rfl) fun X21_2 hX21_2 => ?_
  try dsimp only
  refine Wp.ld H22 (R2 · X22_1 256 0) (r2 rfl) fun v864 hv864 => ?_
  refine Wp.st H22 (W2 · X22_1 (k0_pay145 (F := Ideal) v2 (k0_pay98 (F := Ideal) v625 v627) (k0_pay123 (F := Ideal) v753 v757) (k0_pay124 (F := Ideal) v763 v767) v770 (k0_pay137 (F := Ideal) v2 (k0_pay98 (F := Ideal) v625 v627) (k0_pay123 (F := Ideal) v753 v757) (k0_pay124 (F := Ideal) v763 v767) v770 v772 (k0_pay125 (F := Ideal) v2 (k0_pay98 (F := Ideal) v625 v627) v753 v757 v770) (k0_pay126 (F := Ideal) v763 v767))) 256 0) (w2 rfl) fun X22_2 hX22_2 => ?_
  try dsimp only
  refine Wp.pure ?_
  try dsimp only
  refine Wp.bind ?_
  rw [k0_part20_eq_skeleton]; unfold k0_part20_skel; try dsimp only
  refine Wp.ld H23 (R3 · s.a23 ((k0_t1.val % 2)) 0 0) (r3 (o24 k0_t1)) fun v870 hv870 => ?_
  refine Wp.ld H24 (R3 · s.a24 ((k0_t1.val % 2)) 0 0) (r3 (o24 k0_t1)) fun v873 hv873 => ?_
  refine Wp.ld H12 (R4 · X12_8 ((k0_t1.val % 2)) k0_t2.val 0 0) (r4 (o25 k0_t1 k0_t2)) fun v877 hv877 => ?_
  refine Wp.ld H13 (R4 · X13_8 ((k0_t1.val % 2)) k0_t2.val 0 0) (r4 (o25 k0_t1 k0_t2)) fun v882 hv882 => ?_
  refine Wp.ld H12 (R4 · X12_8 ((k0_t1.val % 2)) k0_t2.val 0 128) (r4 (o26 k0_t1 k0_t2)) fun v888 hv888 => ?_
  refine Wp.ld H13 (R4 · X13_8 ((k0_t1.val % 2)) k0_t2.val 0 128) (r4 (o26 k0_t1 k0_t2)) fun v893 hv893 => ?_
  refine Wp.ld H12 (R4 · X12_8 ((k0_t1.val % 2)) k0_t2.val 0 256) (r4 (o27 k0_t1 k0_t2)) fun v899 hv899 => ?_
  refine Wp.ld H13 (R4 · X13_8 ((k0_t1.val % 2)) k0_t2.val 0 256) (r4 (o27 k0_t1 k0_t2)) fun v904 hv904 => ?_
  refine Wp.ld H12 (R4 · X12_8 ((k0_t1.val % 2)) k0_t2.val 0 384) (r4 (o28 k0_t1 k0_t2)) fun v910 hv910 => ?_
  refine Wp.pure ?_
  try dsimp only
  refine Wp.bind ?_
  rw [k0_part21_eq_skeleton]; unfold k0_part21_skel; try dsimp only
  refine Wp.ld H13 (R4 · X13_8 ((k0_t1.val % 2)) k0_t2.val 0 384) (r4 (o28 k0_t1 k0_t2)) fun v915 hv915 => ?_
  refine Wp.ld H23 (R3 · s.a23 ((k0_t1.val % 2)) 256 0) (r3 (o29 k0_t1)) fun v926 hv926 => ?_
  refine Wp.ld H24 (R3 · s.a24 ((k0_t1.val % 2)) 256 0) (r3 (o29 k0_t1)) fun v929 hv929 => ?_
  refine Wp.ld H12 (R4 · X12_8 ((k0_t1.val % 2)) k0_t2.val 256 0) (r4 (o30 k0_t1 k0_t2)) fun v933 hv933 => ?_
  refine Wp.ld H13 (R4 · X13_8 ((k0_t1.val % 2)) k0_t2.val 256 0) (r4 (o30 k0_t1 k0_t2)) fun v938 hv938 => ?_
  refine Wp.ld H12 (R4 · X12_8 ((k0_t1.val % 2)) k0_t2.val 256 128) (r4 (o31 k0_t1 k0_t2)) fun v944 hv944 => ?_
  refine Wp.ld H13 (R4 · X13_8 ((k0_t1.val % 2)) k0_t2.val 256 128) (r4 (o31 k0_t1 k0_t2)) fun v949 hv949 => ?_
  refine Wp.ld H12 (R4 · X12_8 ((k0_t1.val % 2)) k0_t2.val 256 256) (r4 (o32 k0_t1 k0_t2)) fun v955 hv955 => ?_
  refine Wp.pure ?_
  try dsimp only
  refine Wp.bind ?_
  rw [k0_part22_eq_skeleton]; unfold k0_part22_skel; try dsimp only
  refine Wp.ld H13 (R4 · X13_8 ((k0_t1.val % 2)) k0_t2.val 256 256) (r4 (o32 k0_t1 k0_t2)) fun v960 hv960 => ?_
  refine Wp.ld H12 (R4 · X12_8 ((k0_t1.val % 2)) k0_t2.val 256 384) (r4 (o33 k0_t1 k0_t2)) fun v966 hv966 => ?_
  refine Wp.ld H13 (R4 · X13_8 ((k0_t1.val % 2)) k0_t2.val 256 384) (r4 (o33 k0_t1 k0_t2)) fun v971 hv971 => ?_
  refine Wp.ld H15 (R3 · s.a15 k0_t2.val 0 0) (r3 (o34 k0_t1 k0_t2)) fun v985 hv985 => ?_
  refine Wp.ld H19 (R3 · s.a19 ((k0_t1.val % 2)) 0 0) (r3 (o35 k0_t1)) fun v988 hv988 => ?_
  refine Wp.ld H15 (R3 · s.a15 k0_t2.val 0 0) (r3 (o34 k0_t1 k0_t2)) fun v993 hv993 => ?_
  refine Wp.st H15 (W3 · s.a15 (k0_pay170 (F := Ideal) (k0_pay157 (F := Ideal) (k0_pay148 (F := Ideal) v870 v877) (k0_pay150 (F := Ideal) v870 v888) (k0_pay152 (F := Ideal) v870 v899) (k0_pay154 (F := Ideal) v870 v910)) (k0_pay159 (F := Ideal) v926) (k0_pay161 (F := Ideal) v926 v933) (k0_pay163 (F := Ideal) v926 v944) v955 v966 v985 v988) k0_t2.val 0 0) (w3 (o34 k0_t1 k0_t2)) fun X15_1 hX15_1 => ?_
  try dsimp only
  refine Wp.ld H14 (R3 · s.a14 k0_t2.val 0 0) (r3 (o34 k0_t1 k0_t2)) fun v997 hv997 => ?_
  refine Wp.pure ?_
  try dsimp only
  refine Wp.ld H18 (R3 · s.a18 ((k0_t1.val % 2)) 0 0) (r3 (o35 k0_t1)) fun v1000 hv1000 => ?_
  refine Wp.ld H14 (R3 · s.a14 k0_t2.val 0 0) (r3 (o34 k0_t1 k0_t2)) fun v1005 hv1005 => ?_
  refine Wp.st H14 (W3 · s.a14 (k0_pay430 (F := Ideal) (k0_pay169 (F := Ideal) (k0_pay158 (F := Ideal) (k0_pay147 (F := Ideal) v873) (k0_pay149 (F := Ideal) v870 v873 v877 v882) (k0_pay151 (F := Ideal) v870 v873 v888 v893) (k0_pay153 (F := Ideal) v870 v873 v899 v904) (k0_pay154 (F := Ideal) v870 v910) v915) (k0_pay159 (F := Ideal) v926) (k0_pay160 (F := Ideal) v929) (k0_pay162 (F := Ideal) v926 v929 v933 v938) (k0_pay164 (F := Ideal) v926 v929 v944 v949) v955 v960 v966 v971) (k0_pay171 (F := Ideal) v997) v1000) k0_t2.val 0 0) (w3 (o34 k0_t1 k0_t2)) fun X14_1 hX14_1 => ?_
  try dsimp only
  refine Wp.ld H4 (R3 · s.a4 0 (512 * k0_t2.val) 0) (r3 (o15 k0_t1 k0_t2)) fun v1010 hv1010 => ?_
  refine Wp.ld H16 (R2 · s.a16 0 0) (r2 rfl) fun v1013 hv1013 => ?_
  refine Wp.ld H16 (R2 · s.a16 0 0) (r2 rfl) fun v1016 hv1016 => ?_
  refine Wp.st H16 (W2 · s.a16 (k0_pay431 (F := Ideal) (k0_pay169 (F := Ideal) (k0_pay158 (F := Ideal) (k0_pay147 (F := Ideal) v873) (k0_pay149 (F := Ideal) v870 v873 v877 v882) (k0_pay151 (F := Ideal) v870 v873 v888 v893) (k0_pay153 (F := Ideal) v870 v873 v899 v904) (k0_pay154 (F := Ideal) v870 v910) v915) (k0_pay159 (F := Ideal) v926) (k0_pay160 (F := Ideal) v929) (k0_pay162 (F := Ideal) v926 v929 v933 v938) (k0_pay164 (F := Ideal) v926 v929 v944 v949) v955 v960 v966 v971) v1010 v1013) 0 0) (w2 rfl) fun X16_1 hX16_1 => ?_
  try dsimp only
  refine Wp.ld H17 (R3 · s.a17 k0_t2.val 0 0) (r3 (o36 k0_t1 k0_t2)) fun v1020 hv1020 => ?_
  refine Wp.ld H17 (R3 · s.a17 k0_t2.val 0 0) (r3 (o36 k0_t1 k0_t2)) fun v1024 hv1024 => ?_
  refine Wp.st H17 (W3 · s.a17 (k0_pay432 (F := Ideal) (k0_pay168 (F := Ideal) (k0_pay156 (F := Ideal) (k0_pay147 (F := Ideal) v873) (k0_pay149 (F := Ideal) v870 v873 v877 v882) (k0_pay151 (F := Ideal) v870 v873 v888 v893) (k0_pay153 (F := Ideal) v870 v873 v899 v904) (k0_pay154 (F := Ideal) v870 v910) v915) (k0_pay159 (F := Ideal) v926) (k0_pay160 (F := Ideal) v929) (k0_pay162 (F := Ideal) v926 v929 v933 v938) (k0_pay164 (F := Ideal) v926 v929 v944 v949) v955 v960 v966 v971) v1020) k0_t2.val 0 0) (w3 (o36 k0_t1 k0_t2)) fun X17_1 hX17_1 => ?_
  try dsimp only
  refine Wp.pure ?_
  try dsimp only
  have hE := t2_e (s := s) (v2 := v2) (i := i) (k0_t1 := k0_t1) (k0_t2 := k0_t2) v625 hv625 v627 hv627 v636 hv636 v640 hv640 v653 hv653 X12_1 hX12_1 X12_2 hX12_2 X12_3 hX12_3 X12_4 hX12_4 v753 hv753 v757 hv757 v770 hv770 X12_5 hX12_5 X12_6 hX12_6 X12_7 hX12_7 X12_8 hX12_8
  have hD := t2_d (s := s) (v2 := v2) (i := i) (k0_t1 := k0_t1) (k0_t2 := k0_t2) v646 hv646 v650 hv650 X13_1 hX13_1 X13_2 hX13_2 X13_3 hX13_3 X13_4 hX13_4 v763 hv763 v767 hv767 X13_5 hX13_5 X13_6 hX13_6 X13_7 hX13_7 X13_8 hX13_8
  refine ⟨⟨rfl, rfl, rfl, rfl, rfl, rfl, rfl, rfl, rfl, rfl, rfl, rfl⟩, ⟨?_, ?_, ?_, ?_⟩, ⟨?_, ?_, ?_, ?_⟩, rfl⟩
  · first | exact hE | fail "e"
  · first | exact hD | fail "d"
  · first | exact t2_l (s := s) (v2 := v2) (i := i) (k0_t1 := k0_t1) (k0_t2 := k0_t2) v625 hv625 v627 hv627 v636 hv636 v640 hv640 v653 hv653 v654 hv654 X21_1 hX21_1 v753 hv753 v757 hv757 v770 hv770 v771 hv771 X21_2 hX21_2 | fail "l"
  · first | exact t2_dl (s := s) (v2 := v2) (i := i) (k0_t1 := k0_t1) (k0_t2 := k0_t2) v625 hv625 v627 hv627 v636 hv636 v640 hv640 v646 hv646 v650 hv650 v653 hv653 v655 hv655 X22_1 hX22_1 v753 hv753 v757 hv757 v763 hv763 v767 hv767 v770 hv770 v772 hv772 X22_2 hX22_2 | fail "dl"
  · first | exact t2_v (s := s) (v2 := v2) (i := i) (k0_t1 := k0_t1) (k0_t2 := k0_t2) X12_8 (fun p' j' r c hp hr hc => (hE p' j' r c hr hc).trans (if_neg (by omega))) v870 hv870 v877 hv877 v888 hv888 v899 hv899 v910 hv910 v926 hv926 v933 hv933 v944 hv944 v955 hv955 v966 hv966 v985 hv985 v988 hv988 X15_1 hX15_1 | fail "v"
  · first | exact t2_k (s := s) (v2 := v2) (i := i) (k0_t1 := k0_t1) (k0_t2 := k0_t2) X12_8 (fun p' j' r c hp hr hc => (hE p' j' r c hr hc).trans (if_neg (by omega))) X13_8 (fun p' j' r c hp hr hc => (hD p' j' r c hr hc).trans (if_neg (by omega))) v870 hv870 v873 hv873 v877 hv877 v882 hv882 v888 hv888 v893 hv893 v899 hv899 v904 hv904 v910 hv910 v915 hv915 v926 hv926 v929 hv929 v933 hv933 v938 hv938 v944 hv944 v949 hv949 v955 hv955 v960 hv960 v966 hv966 v971 hv971 v997 hv997 v1000 hv1000 X14_1 hX14_1 | fail "k"
  · first | exact t2_q (s := s) (v2 := v2) (i := i) (k0_t1 := k0_t1) (k0_t2 := k0_t2) X12_8 (fun p' j' r c hp hr hc => (hE p' j' r c hr hc).trans (if_neg (by omega))) X13_8 (fun p' j' r c hp hr hc => (hD p' j' r c hr hc).trans (if_neg (by omega))) v870 hv870 v873 hv873 v877 hv877 v882 hv882 v888 hv888 v893 hv893 v899 hv899 v904 hv904 v910 hv910 v915 hv915 v926 hv926 v929 hv929 v933 hv933 v938 hv938 v944 hv944 v949 hv949 v955 hv955 v960 hv960 v966 hv966 v971 hv971 v1010 hv1010 v1013 hv1013 X16_1 hX16_1 | fail "q"
  · first | exact t2_cs (s := s) (v2 := v2) (i := i) (k0_t1 := k0_t1) (k0_t2 := k0_t2) X12_8 (fun p' j' r c hp hr hc => (hE p' j' r c hr hc).trans (if_neg (by omega))) X13_8 (fun p' j' r c hp hr hc => (hD p' j' r c hr hc).trans (if_neg (by omega))) v870 hv870 v873 hv873 v877 hv877 v882 hv882 v888 hv888 v893 hv893 v899 hv899 v904 hv904 v910 hv910 v915 hv915 v926 hv926 v929 hv929 v933 hv933 v938 hv938 v944 hv944 v949 hv949 v955 hv955 v960 hv960 v966 hv966 v971 hv971 v1020 hv1020 X17_1 hX17_1 | fail "cs"

theorem t1_wp {arg0 : BitVec 32} {v2 : EReal} (k0_t1 : Fin k0_t1_loop.trips) (acc : PUnit) (s : St Ideal) :
    Wp (defs₀ (F := Ideal)) c O (k0_t1_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 v2 k0_t1 acc) s fun _ s' => Step v2 (i 0).val k0_t1.val s s' := by
  unfold k0_t1_body
  try dsimp only
  refine Wp.bind ?_
  rw [k0_part57_eq_skeleton]; unfold k0_part57_skel; try dsimp only
  refine Wp.bind (Wp.smemLoad' H2 (fun _ => rfl) (fun v => v = g2 s.a2 ((i 0).val) (k0_t1.val + 1)) (fun x => g2_cell (o5 i k0_t1) _ _ x) fun v298 hv298 => ?_)
  refine Wp.ld H7 (R3 · s.a7 0 (k0_t1.val + 1) 0) (r3 (o6 k0_t1)) fun v300 hv300 => ?_
  refine Wp.ld H3 (R3 · s.a3 0 (512 * k0_t1.val + 512) 0) (r3 (o7_0 k0_t1)) fun v309 hv309 => ?_
  refine Wp.ld H4 (R3 · s.a4 0 (512 * k0_t1.val + 512) 0) (r3 (o8 k0_t1)) fun v313 hv313 => ?_
  refine Wp.ld H6 (R3 · s.a6 0 (512 * k0_t1.val + 512) 0) (r3 (o7_0 k0_t1)) fun v319 hv319 => ?_
  refine Wp.ld H5 (R3 · s.a5 0 (512 * k0_t1.val + 512) 0) (r3 (o8 k0_t1)) fun v323 hv323 => ?_
  refine Wp.pure ?_
  try dsimp only
  refine Wp.bind ?_
  rw [k0_part58_eq_skeleton]; unfold k0_part58_skel; try dsimp only
  refine Wp.ld H20 (R2 · s.a20 0 0) (r2 rfl) fun v381 hv381 => ?_
  refine Wp.pure ?_
  try dsimp only
  refine Wp.bind ?_
  rw [k0_part59_eq_skeleton]; unfold k0_part59_skel; try dsimp only
  refine Wp.st H20 (W2 · s.a20 (k0_pay396 (F := Ideal) (k0_pay395 (F := Ideal) v2 (k0_pay386 (F := Ideal) v298 v300) (k0_pay387 (F := Ideal) v309 v313) k0_pay389 (iota .tc S256x128 32 [1] iota_S256x128_d1_w32) (k0_pay390 (F := Ideal) v2 v309 v313))) 0 0) (w2 rfl) fun X20_1 hX20_1 => ?_
  try dsimp only
  refine Wp.ld H21 (R2 · s.a21 0 0) (r2 rfl) fun v395 hv395 => ?_
  refine Wp.st H21 (W2 · s.a21 (k0_pay401 (F := Ideal) (k0_pay391 (F := Ideal) (k0_pay386 (F := Ideal) v298 v300) k0_pay389 (iota .tc S256x128 32 [1] iota_S256x128_d1_w32) (k0_pay390 (F := Ideal) v2 v309 v313)) (k0_pay392 (F := Ideal) v2 (k0_pay386 (F := Ideal) v298 v300) (k0_pay387 (F := Ideal) v309 v313) k0_pay389 (iota .tc S256x128 32 [1] iota_S256x128_d1_w32)) (k0_pay393 (F := Ideal) v2 (k0_pay386 (F := Ideal) v298 v300) (k0_pay387 (F := Ideal) v309 v313) k0_pay389 (iota .tc S256x128 32 [1] iota_S256x128_d1_w32)) (k0_pay394 (F := Ideal) v2 (k0_pay386 (F := Ideal) v298 v300) (k0_pay387 (F := Ideal) v309 v313) k0_pay389 (iota .tc S256x128 32 [1] iota_S256x128_d1_w32)) (k0_pay395 (F := Ideal) v2 (k0_pay386 (F := Ideal) v298 v300) (k0_pay387 (F := Ideal) v309 v313) k0_pay389 (iota .tc S256x128 32 [1] iota_S256x128_d1_w32) (k0_pay390 (F := Ideal) v2 v309 v313))) 0 0) (w2 rfl) fun X21_1 hX21_1 => ?_
  try dsimp only
  refine Wp.ld H22 (R2 · s.a22 0 0) (r2 rfl) fun v409 hv409 => ?_
  refine Wp.st H22 (W2 · s.a22 (k0_pay402 (F := Ideal) (k0_pay388 (F := Ideal) v319 v323) (k0_pay391 (F := Ideal) (k0_pay386 (F := Ideal) v298 v300) k0_pay389 (iota .tc S256x128 32 [1] iota_S256x128_d1_w32) (k0_pay390 (F := Ideal) v2 v309 v313)) (k0_pay392 (F := Ideal) v2 (k0_pay386 (F := Ideal) v298 v300) (k0_pay387 (F := Ideal) v309 v313) k0_pay389 (iota .tc S256x128 32 [1] iota_S256x128_d1_w32)) (k0_pay393 (F := Ideal) v2 (k0_pay386 (F := Ideal) v298 v300) (k0_pay387 (F := Ideal) v309 v313) k0_pay389 (iota .tc S256x128 32 [1] iota_S256x128_d1_w32)) (k0_pay394 (F := Ideal) v2 (k0_pay386 (F := Ideal) v298 v300) (k0_pay387 (F := Ideal) v309 v313) k0_pay389 (iota .tc S256x128 32 [1] iota_S256x128_d1_w32)) (k0_pay395 (F := Ideal) v2 (k0_pay386 (F := Ideal) v298 v300) (k0_pay387 (F := Ideal) v309 v313) k0_pay389 (iota .tc S256x128 32 [1] iota_S256x128_d1_w32) (k0_pay390 (F := Ideal) v2 v309 v313))) 0 0) (w2 rfl) fun X22_1 hX22_1 => ?_
  try dsimp only
  refine Wp.ld H12 (R4 · s.a12 ((k0_t1.val + 1) % 2) (k0_t1.val + 1) 0 0) (r4 (o9 k0_t1)) fun v415 hv415 => ?_
  refine Wp.st H12 (W4 · s.a12 (k0_pay403 (F := Ideal) (k0_pay391 (F := Ideal) (k0_pay386 (F := Ideal) v298 v300) k0_pay389 (iota .tc S256x128 32 [1] iota_S256x128_d1_w32) (k0_pay390 (F := Ideal) v2 v309 v313)) (k0_pay392 (F := Ideal) v2 (k0_pay386 (F := Ideal) v298 v300) (k0_pay387 (F := Ideal) v309 v313) k0_pay389 (iota .tc S256x128 32 [1] iota_S256x128_d1_w32)) (k0_pay393 (F := Ideal) v2 (k0_pay386 (F := Ideal) v298 v300) (k0_pay387 (F := Ideal) v309 v313) k0_pay389 (iota .tc S256x128 32 [1] iota_S256x128_d1_w32)) (k0_pay394 (F := Ideal) v2 (k0_pay386 (F := Ideal) v298 v300) (k0_pay387 (F := Ideal) v309 v313) k0_pay389 (iota .tc S256x128 32 [1] iota_S256x128_d1_w32)) (k0_pay395 (F := Ideal) v2 (k0_pay386 (F := Ideal) v298 v300) (k0_pay387 (F := Ideal) v309 v313) k0_pay389 (iota .tc S256x128 32 [1] iota_S256x128_d1_w32) (k0_pay390 (F := Ideal) v2 v309 v313))) ((k0_t1.val + 1) % 2) (k0_t1.val + 1) 0 0) (w4 (o9 k0_t1)) fun X12_1 hX12_1 => ?_
  try dsimp only
  refine Wp.ld H13 (R4 · s.a13 ((k0_t1.val + 1) % 2) (k0_t1.val + 1) 0 0) (r4 (o9 k0_t1)) fun v420 hv420 => ?_
  refine Wp.st H13 (W4 · s.a13 (k0_pay404 (F := Ideal) (k0_pay388 (F := Ideal) v319 v323)) ((k0_t1.val + 1) % 2) (k0_t1.val + 1) 0 0) (w4 (o9 k0_t1)) fun X13_1 hX13_1 => ?_
  try dsimp only
  refine Wp.pure ?_
  try dsimp only
  refine Wp.bind ?_
  rw [k0_part60_eq_skeleton]; unfold k0_part60_skel; try dsimp only
  refine Wp.ld H3 (R3 · s.a3 0 (512 * k0_t1.val + 768) 0) (r3 (o7_256 k0_t1)) fun v426 hv426 => ?_
  refine Wp.ld H4 (R3 · s.a4 0 (512 * k0_t1.val + 512) 0) (r3 (o8 k0_t1)) fun v430 hv430 => ?_
  refine Wp.ld H6 (R3 · s.a6 0 (512 * k0_t1.val + 768) 0) (r3 (o7_256 k0_t1)) fun v436 hv436 => ?_
  refine Wp.ld H5 (R3 · s.a5 0 (512 * k0_t1.val + 512) 0) (r3 (o8 k0_t1)) fun v440 hv440 => ?_
  refine Wp.pure ?_
  try dsimp only
  refine Wp.bind ?_
  rw [k0_part61_eq_skeleton]; unfold k0_part61_skel; try dsimp only
  refine Wp.ld H20 (R2 · X20_1 256 0) (r2 rfl) fun v498 hv498 => ?_
  refine Wp.st H20 (W2 · X20_1 (k0_pay416 (F := Ideal) v2 (k0_pay386 (F := Ideal) v298 v300) (k0_pay405 (F := Ideal) v426 v430) k0_pay407 (iota .tc S256x128 32 [1] iota_S256x128_d1_w32) (k0_pay408 (F := Ideal) v2 (k0_pay386 (F := Ideal) v298 v300) v426 v430) (k0_pay409 (F := Ideal) v2 (k0_pay386 (F := Ideal) v298 v300) v426 v430) k0_pay410 (k0_pay411 (F := Ideal))) 256 0) (w2 rfl) fun X20_2 hX20_2 => ?_
  try dsimp only
  refine Wp.ld H21 (R2 · X21_1 256 0) (r2 rfl) fun v512 hv512 => ?_
  refine Wp.st H21 (W2 · X21_1 (k0_pay421 (F := Ideal) v2 (k0_pay386 (F := Ideal) v298 v300) (k0_pay405 (F := Ideal) v426 v430) k0_pay407 (iota .tc S256x128 32 [1] iota_S256x128_d1_w32) (k0_pay408 (F := Ideal) v2 (k0_pay386 (F := Ideal) v298 v300) v426 v430) (k0_pay409 (F := Ideal) v2 (k0_pay386 (F := Ideal) v298 v300) v426 v430) k0_pay410 (k0_pay411 (F := Ideal))) 256 0) (w2 rfl) fun X21_2 hX21_2 => ?_
  try dsimp only
  refine Wp.pure ?_
  try dsimp only
  refine Wp.bind ?_
  rw [k0_part62_eq_skeleton]; unfold k0_part62_skel; try dsimp only
  refine Wp.ld H22 (R2 · X22_1 256 0) (r2 rfl) fun v526 hv526 => ?_
  refine Wp.st H22 (W2 · X22_1 (k0_pay423 (F := Ideal) (k0_pay406 (F := Ideal) v436 v440) (k0_pay418 (F := Ideal) v2 (k0_pay386 (F := Ideal) v298 v300) (k0_pay405 (F := Ideal) v426 v430) k0_pay407 (iota .tc S256x128 32 [1] iota_S256x128_d1_w32) (k0_pay408 (F := Ideal) v2 (k0_pay386 (F := Ideal) v298 v300) v426 v430) (k0_pay409 (F := Ideal) v2 (k0_pay386 (F := Ideal) v298 v300) v426 v430) k0_pay410 (k0_pay411 (F := Ideal))) (k0_pay419 (F := Ideal) v2 (k0_pay386 (F := Ideal) v298 v300) (k0_pay405 (F := Ideal) v426 v430) k0_pay407 (iota .tc S256x128 32 [1] iota_S256x128_d1_w32) (k0_pay408 (F := Ideal) v2 (k0_pay386 (F := Ideal) v298 v300) v426 v430) (k0_pay409 (F := Ideal) v2 (k0_pay386 (F := Ideal) v298 v300) v426 v430) k0_pay410 (k0_pay411 (F := Ideal))) (k0_pay420 (F := Ideal) v2 (k0_pay386 (F := Ideal) v298 v300) (k0_pay405 (F := Ideal) v426 v430) k0_pay407 (iota .tc S256x128 32 [1] iota_S256x128_d1_w32) (k0_pay408 (F := Ideal) v2 (k0_pay386 (F := Ideal) v298 v300) v426 v430) (k0_pay409 (F := Ideal) v2 (k0_pay386 (F := Ideal) v298 v300) v426 v430) k0_pay410 (k0_pay411 (F := Ideal))) (k0_pay422 (F := Ideal) v2 (k0_pay386 (F := Ideal) v298 v300) (k0_pay405 (F := Ideal) v426 v430) (k0_pay406 (F := Ideal) v436 v440) k0_pay407 (iota .tc S256x128 32 [1] iota_S256x128_d1_w32) (k0_pay408 (F := Ideal) v2 (k0_pay386 (F := Ideal) v298 v300) v426 v430) (k0_pay409 (F := Ideal) v2 (k0_pay386 (F := Ideal) v298 v300) v426 v430) k0_pay410 (k0_pay411 (F := Ideal)))) 256 0) (w2 rfl) fun X22_2 hX22_2 => ?_
  try dsimp only
  refine Wp.ld H12 (R4 · X12_1 ((k0_t1.val + 1) % 2) (k0_t1.val + 1) 256 0) (r4 (o10 k0_t1)) fun v532 hv532 => ?_
  refine Wp.st H12 (W4 · X12_1 (k0_pay424 (F := Ideal) (k0_pay417 (F := Ideal) v2 (k0_pay386 (F := Ideal) v298 v300) (k0_pay405 (F := Ideal) v426 v430) k0_pay407 (iota .tc S256x128 32 [1] iota_S256x128_d1_w32) (k0_pay408 (F := Ideal) v2 (k0_pay386 (F := Ideal) v298 v300) v426 v430) (k0_pay409 (F := Ideal) v2 (k0_pay386 (F := Ideal) v298 v300) v426 v430) k0_pay410 (k0_pay411 (F := Ideal))) (k0_pay418 (F := Ideal) v2 (k0_pay386 (F := Ideal) v298 v300) (k0_pay405 (F := Ideal) v426 v430) k0_pay407 (iota .tc S256x128 32 [1] iota_S256x128_d1_w32) (k0_pay408 (F := Ideal) v2 (k0_pay386 (F := Ideal) v298 v300) v426 v430) (k0_pay409 (F := Ideal) v2 (k0_pay386 (F := Ideal) v298 v300) v426 v430) k0_pay410 (k0_pay411 (F := Ideal))) (k0_pay419 (F := Ideal) v2 (k0_pay386 (F := Ideal) v298 v300) (k0_pay405 (F := Ideal) v426 v430) k0_pay407 (iota .tc S256x128 32 [1] iota_S256x128_d1_w32) (k0_pay408 (F := Ideal) v2 (k0_pay386 (F := Ideal) v298 v300) v426 v430) (k0_pay409 (F := Ideal) v2 (k0_pay386 (F := Ideal) v298 v300) v426 v430) k0_pay410 (k0_pay411 (F := Ideal))) (k0_pay420 (F := Ideal) v2 (k0_pay386 (F := Ideal) v298 v300) (k0_pay405 (F := Ideal) v426 v430) k0_pay407 (iota .tc S256x128 32 [1] iota_S256x128_d1_w32) (k0_pay408 (F := Ideal) v2 (k0_pay386 (F := Ideal) v298 v300) v426 v430) (k0_pay409 (F := Ideal) v2 (k0_pay386 (F := Ideal) v298 v300) v426 v430) k0_pay410 (k0_pay411 (F := Ideal)))) ((k0_t1.val + 1) % 2) (k0_t1.val + 1) 256 0) (w4 (o10 k0_t1)) fun X12_2 hX12_2 => ?_
  try dsimp only
  refine Wp.ld H13 (R4 · X13_1 ((k0_t1.val + 1) % 2) (k0_t1.val + 1) 256 0) (r4 (o10 k0_t1)) fun v537 hv537 => ?_
  refine Wp.st H13 (W4 · X13_1 (k0_pay425 (F := Ideal) (k0_pay406 (F := Ideal) v436 v440)) ((k0_t1.val + 1) % 2) (k0_t1.val + 1) 256 0) (w4 (o10 k0_t1)) fun X13_2 hX13_2 => ?_
  try dsimp only
  refine Wp.ld H3 (R3 · s.a3 0 (512 * k0_t1.val + 512) 0) (r3 (o8 k0_t1)) fun v542 hv542 => ?_
  refine Wp.ld H18 (R3 · s.a18 ((k0_t1.val + 1) % 2) 0 0) (r3 (o11 k0_t1)) fun v547 hv547 => ?_
  refine Wp.st H18 (W3 · s.a18 (k0_pay426 (F := Ideal) v542) ((k0_t1.val + 1) % 2) 0 0) (w3 (o11 k0_t1)) fun X18_1 hX18_1 => ?_
  try dsimp only
  refine Wp.ld H6 (R3 · s.a6 0 (512 * k0_t1.val + 512) 0) (r3 (o8 k0_t1)) fun v552 hv552 => ?_
  refine Wp.pure ?_
  try dsimp only
  refine Wp.bind ?_
  rw [k0_part63_eq_skeleton]; unfold k0_part63_skel; try dsimp only
  refine Wp.ld H19 (R3 · s.a19 ((k0_t1.val + 1) % 2) 0 0) (r3 (o11 k0_t1)) fun v557 hv557 => ?_
  refine Wp.st H19 (W3 · s.a19 (k0_pay428 (F := Ideal) (k0_pay427 (F := Ideal) v552)) ((k0_t1.val + 1) % 2) 0 0) (w3 (o11 k0_t1)) fun X19_1 hX19_1 => ?_
  try dsimp only
  refine Wp.rebase (P := fun x => DiagPost v2 (i 0).val ((k0_t1.val + 1) % 2) (k0_t1.val + 1) s x) ?_ fun s1 h1 => ?_
  · exact ⟨t1_m (i := i) (v2 := v2) (k0_t1 := k0_t1) v298 hv298 v300 hv300 v309 hv309 v313 hv313 X20_1 hX20_1 v426 hv426 v430 hv430 X20_2 hX20_2, t1_e (i := i) (v2 := v2) (k0_t1 := k0_t1) v298 hv298 v300 hv300 v309 hv309 v313 hv313 X12_1 hX12_1 v426 hv426 v430 hv430 X12_2 hX12_2, t1_d (i := i) (v2 := v2) (k0_t1 := k0_t1) v319 hv319 v323 hv323 X13_1 hX13_1 v436 hv436 v440 hv440 X13_2 hX13_2, t1_l (i := i) (v2 := v2) (k0_t1 := k0_t1) v298 hv298 v300 hv300 v309 hv309 v313 hv313 X21_1 hX21_1 v426 hv426 v430 hv430 X21_2 hX21_2, t1_dl (i := i) (v2 := v2) (k0_t1 := k0_t1) v298 hv298 v300 hv300 v309 hv309 v313 hv313 v319 hv319 v323 hv323 X22_1 hX22_1 v426 hv426 v430 hv430 v436 hv436 v440 hv440 X22_2 hX22_2, t1_qt (i := i) (v2 := v2) (k0_t1 := k0_t1) v542 hv542 X18_1 hX18_1, t1_dt (i := i) (v2 := v2) (k0_t1 := k0_t1) v552 hv552 X19_1 hX19_1, rfl⟩
  refine Wp.ld H16 (R2 · s1.a16 0 0) (r2 rfl) fun v561 hv561 => ?_
  refine Wp.st H16 (W2 · s1.a16 (k0_pay429 (F := Ideal)) 0 0) (w2 rfl) fun X16_1 hX16_1 => ?_
  try dsimp only
  refine Wp.rebase (P := fun x => ZeroPost s1 x) ?_ fun s2 h2 => ?_
  · exact ⟨t1_z (i := i) (v2 := v2) (k0_t1 := k0_t1) X16_1 hX16_1, rfl⟩
  refine Wp.bind ?_
  refine Wp.forChain (fun j => FwdBwd v2 (i 0).val ((k0_t1.val + 1) % 2) (k0_t1.val + 1) (k0_t1.val % 2) j) (fun k0_t2 acc x => Wp.mono (t2_wp H1 H2 H3 H4 H5 H6 H7 H8 H9 H10 H11 H12 H13 H14 H15 H16 H17 H18 H19 H20 H21 H22 H23 H24 k0_t2 acc x) fun _ _ h => h.2) fun _ s3 h3 => ?_
  rw [trips2] at h3
  try dsimp only
  refine Wp.bind ?_
  refine Wp.forNone (none3 _) fun _ => ?_
  try dsimp only
  refine Wp.ld H16 (R2 · s3.a16 0 0) (r2 rfl) fun v572 hv572 => ?_
  refine Wp.bind (Wp.smemLoad' H1 (fun _ => rfl) (fun v => v = g2 s3.a1 ((i 0).val) 1) (fun x => g2_cell (o62 i) _ _ x) fun v574 hv574 => ?_)
  refine Wp.ld H8 (R3 · s3.a8 0 (512 * k0_t1.val) 0) (r3 (o63 k0_t1)) fun v580 hv580 => ?_
  refine Wp.st H8 (W3 · s3.a8 (k0_pay436 (F := Ideal) v572 v574) 0 (512 * k0_t1.val) 0) (w3 (o63 k0_t1)) fun X8_1 hX8_1 => ?_
  try dsimp only
  refine Wp.rebase (P := fun x => DqPost (i 0).val k0_t1.val s3 x) ?_ fun s4 h4 => ?_
  · exact ⟨t1_dq (i := i) (v2 := v2) (k0_t1 := k0_t1) v572 hv572 v574 hv574 X8_1 hX8_1, rfl⟩
  refine Wp.ld H21 (R2 · s4.a21 0 0) (r2 rfl) fun v584 hv584 => ?_
  refine Wp.ld H22 (R2 · s4.a22 0 0) (r2 rfl) fun v587 hv587 => ?_
  refine Wp.pure ?_
  try dsimp only
  refine Wp.ld H23 (R3 · s4.a23 ((k0_t1.val + 1) % 2) 0 0) (r3 (o64 k0_t1)) fun v595 hv595 => ?_
  refine Wp.st H23 (W3 · s4.a23 (k0_pay5 (F := Ideal) (k0_pay437 (F := Ideal) v584) (k0_pay439 (F := Ideal))) ((k0_t1.val + 1) % 2) 0 0) (w3 (o64 k0_t1)) fun X23_1 hX23_1 => ?_
  try dsimp only
  refine Wp.ld H24 (R3 · s4.a24 ((k0_t1.val + 1) % 2) 0 0) (r3 (o64 k0_t1)) fun v602 hv602 => ?_
  refine Wp.st H24 (W3 · s4.a24 (k0_pay6 (F := Ideal) (k0_pay437 (F := Ideal) v584) (k0_pay438 (F := Ideal) v587) (k0_pay439 (F := Ideal))) ((k0_t1.val + 1) % 2) 0 0) (w3 (o64 k0_t1)) fun X24_1 hX24_1 => ?_
  try dsimp only
  refine Wp.ld H21 (R2 · s4.a21 0 0) (r2 rfl) fun v605 hv605 => ?_
  refine Wp.ld H20 (R2 · s4.a20 0 0) (r2 rfl) fun v611 hv611 => ?_
  refine Wp.rebase (P := fun x => FinPost ((k0_t1.val + 1) % 2) s4 x) ?_ fun s5 h5 => ?_
  · exact ⟨t1_fin_r (i := i) (v2 := v2) (k0_t1 := k0_t1) v584 hv584 X23_1 hX23_1, t1_fin_d (i := i) (v2 := v2) (k0_t1 := k0_t1) v584 hv584 v587 hv587 X24_1 hX24_1, rfl⟩
  refine Wp.mono (Q := fun _ x => Finish (i 0).val ((k0_t1.val + 1) % 2) (k0_t1.val + 1) s4 x) ?_ fun _ sE hE => ?_
  · refine Wp.ite (fun hc => ?_) fun hc => ?_
    · refine Wp.bind ?_
      rw [k0_part56_eq_skeleton]; unfold k0_part56_skel; try dsimp only
      refine Wp.ld H7 (fun v => R3 v s5.a7 0 (k0_t1.val + 1) 0) (r3 (o65 k0_t1)) fun v624 hv624 => ?_
      refine Wp.ld H20 (fun v => R2 v s5.a20 0 0) (r2 rfl) fun v629 hv629 => ?_
      refine Wp.st H20 (fun X => W2 X s5.a20 (k0_pay380 (F := Ideal) v624) 0 0) (w2 rfl) fun X20_3 hX20_3 => ?_
      try dsimp only
      refine Wp.ld H21 (fun v => R2 v s5.a21 0 0) (r2 rfl) fun v633 hv633 => ?_
      refine Wp.st H21 (fun X => W2 X s5.a21 (k0_pay381 (F := Ideal)) 0 0) (w2 rfl) fun X21_3 hX21_3 => ?_
      try dsimp only
      refine Wp.ld H22 (fun v => R2 v s5.a22 0 0) (r2 rfl) fun v637 hv637 => ?_
      refine Wp.st H22 (fun X => W2 X s5.a22 (k0_pay382 (F := Ideal)) 0 0) (w2 rfl) fun X22_3 hX22_3 => ?_
      try dsimp only
      refine Wp.rebase (P := fun x => CInit (k0_t1.val + 1) s5 x) ?_ fun s6 h6 => ?_
      · exact ⟨t1_ci_c (i := i) (v2 := v2) (k0_t1 := k0_t1) v624 hv624 X20_3 hX20_3, t1_ci_m (i := i) (v2 := v2) (k0_t1 := k0_t1) X21_3 hX21_3, t1_ci_d (i := i) (v2 := v2) (k0_t1 := k0_t1) X22_3 hX22_3, rfl⟩
      refine Wp.bind ?_
      refine Wp.forChain (fun j => CScore (i 0).val ((k0_t1.val + 1) % 2) (k0_t1.val + 1) j) (fun k0_t4 acc x => t4_wp H1 H2 H3 H4 H5 H6 H7 H8 H9 H10 H11 H12 H13 H14 H15 H16 H17 H18 H19 H20 H21 H22 H23 H24 k0_t4 acc x) fun _ s7 h7 => ?_
      rw [trips4] at h7
      try dsimp only
      refine Wp.bind ?_
      refine Wp.forNone (none5 _) fun _ => ?_
      try dsimp only
      refine Wp.ld H21 (fun v => R2 v s7.a21 0 0) (r2 rfl) fun v648 hv648 => ?_
      refine Wp.ld H21 (fun v => R2 v s7.a21 0 0) (r2 rfl) fun v653 hv653 => ?_
      refine Wp.st H21 (fun X => W2 X s7.a21 (k0_pay385 (F := Ideal) v648) 0 0) (w2 rfl) fun X21_4 hX21_4 => ?_
      try dsimp only
      refine Wp.pure ?_
      try dsimp only
      refine Wp.ld H20 (fun v => R2 v s7.a20 0 0) (r2 rfl) fun v657 hv657 => ?_
      refine Wp.st H20 (fun X => W2 X s7.a20 (k0_pay9 (F := Ideal)) 0 0) (w2 rfl) fun X20_4 hX20_4 => ?_
      try dsimp only
      refine Wp.rebase (P := fun x => CMid s7 x) ?_ fun s8 h8 => ?_
      · exact ⟨t1_cm_m (i := i) (v2 := v2) (k0_t1 := k0_t1) v648 hv648 X21_4 hX21_4, t1_cm_l (i := i) (v2 := v2) (k0_t1 := k0_t1) X20_4 hX20_4, rfl⟩
      refine Wp.bind ?_
      refine Wp.forChain (fun j => CExp ((k0_t1.val + 1) % 2) j) (fun k0_t6 acc x => t6_wp H1 H2 H3 H4 H5 H6 H7 H8 H9 H10 H11 H12 H13 H14 H15 H16 H17 H18 H19 H20 H21 H22 H23 H24 k0_t6 acc x) fun _ s9 h9 => ?_
      rw [trips6] at h9
      try dsimp only
      refine Wp.bind ?_
      refine Wp.forNone (none7 _) fun _ => ?_
      try dsimp only
      refine Wp.ld H21 (fun v => R2 v s9.a21 0 0) (r2 rfl) fun v668 hv668 => ?_
      refine Wp.ld H20 (fun v => R2 v s9.a20 0 0) (r2 rfl) fun v669 hv669 => ?_
      refine Wp.ld H23 (fun v => R3 v s9.a23 ((k0_t1.val + 1) % 2) 0 0) (r3 (o106 k0_t1)) fun v678 hv678 => ?_
      refine Wp.st H23 (fun X => W3 X s9.a23 (k0_pay13 (F := Ideal) v668 v669) ((k0_t1.val + 1) % 2) 0 0) (w3 (o106 k0_t1)) fun X23_2 hX23_2 => ?_
      try dsimp only
      refine Wp.ld H22 (fun v => R2 v s9.a22 0 0) (r2 rfl) fun v681 hv681 => ?_
      refine Wp.ld H24 (fun v => R3 v s9.a24 ((k0_t1.val + 1) % 2) 0 0) (r3 (o106 k0_t1)) fun v687 hv687 => ?_
      refine Wp.st H24 (fun X => W3 X s9.a24 (k0_pay14 (F := Ideal) v668 v669 v681) ((k0_t1.val + 1) % 2) 0 0) (w3 (o106 k0_t1)) fun X24_2 hX24_2 => ?_
      try dsimp only
      refine Wp.pure ?_
      try dsimp only
      exact ⟨s5, h5, .inr ⟨s6, s7, s8, s9, h6, h7, h8, h9, ⟨t1_cf_r (i := i) (v2 := v2) (k0_t1 := k0_t1) v668 hv668 v669 hv669 X23_2 hX23_2, t1_cf_d (i := i) (v2 := v2) (k0_t1 := k0_t1) v668 hv668 v669 hv669 v681 hv681 X24_2 hX24_2, rfl⟩⟩⟩
    · refine Wp.pure ?_
      exact ⟨s5, h5, .inl ⟨usual_rd _ _ hv605 hv611 hc, rfl⟩⟩
  exact ⟨s1, s2, s3, s4, h1, h2, h3, h4, hE⟩

set_option maxRecDepth 8000 in
theorem body_whole (s : St Ideal) :
    Wp (defs₀ (F := Ideal)) c O (cc0_fox_bwd (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) s fun _ s' => Whole (i 0).val s s' := by
  rw [cc0_fox_bwd_eq_skeleton]; unfold cc0_fox_bwd_skel
  try dsimp only
  refine Wp.bind ?_
  rw [k0_part68_eq_skeleton]; unfold k0_part68_skel; try dsimp only
  refine Wp.bind (Wp.smemLoad' H1 (fun _ => rfl) (fun v => v = g2 s.a1 ((i 0).val) 0) (fun x => g2_cell (o1 i) _ _ x) fun v1 hv1 => ?_)
  refine Wp.ld H14 (R3 · s.a14 0 0 0) (r3 rfl) fun v4 hv4 => ?_
  refine Wp.st H14 (W3 · s.a14 (k0_pay469 (F := Ideal)) 0 0 0) (w3 rfl) fun X14_1 hX14_1 => ?_
  try dsimp only
  refine Wp.ld H15 (R3 · s.a15 0 0 0) (r3 rfl) fun v8 hv8 => ?_
  refine Wp.st H15 (W3 · s.a15 (k0_pay470 (F := Ideal)) 0 0 0) (w3 rfl) fun X15_1 hX15_1 => ?_
  try dsimp only
  refine Wp.ld H17 (R3 · s.a17 0 0 0) (r3 rfl) fun v12 hv12 => ?_
  refine Wp.st H17 (W3 · s.a17 (k0_pay471 (F := Ideal)) 0 0 0) (w3 rfl) fun X17_1 hX17_1 => ?_
  try dsimp only
  refine Wp.rebase (P := fun x => ClearPost s x) ?_ fun s1 h1 => ?_
  · exact ⟨t0_ck (i := i) (v2 := 0) X14_1 hX14_1, t0_cv (i := i) (v2 := 0) X15_1 hX15_1, t0_cc (i := i) (v2 := 0) X17_1 hX17_1, rfl⟩
  refine Wp.bind (Wp.smemLoad' H2 (fun _ => rfl) (fun v => v = g2 s1.a2 ((i 0).val) 0) (fun x => g2_cell (o2 i) _ _ x) fun v16 hv16 => ?_)
  refine Wp.ld H7 (R3 · s1.a7 0 0 0) (r3 rfl) fun v17 hv17 => ?_
  refine Wp.ld H3 (R3 · s1.a3 0 0 0) (r3 rfl) fun v23 hv23 => ?_
  refine Wp.ld H4 (R3 · s1.a4 0 0 0) (r3 rfl) fun v25 hv25 => ?_
  refine Wp.pure ?_
  try dsimp only
  generalize hv2 : k0_pay468 (F := Ideal) v1 = v2
  refine Wp.bind ?_
  rw [k0_part69_eq_skeleton]; unfold k0_part69_skel; try dsimp only
  refine Wp.ld H6 (R3 · s1.a6 0 0 0) (r3 rfl) fun v28 hv28 => ?_
  refine Wp.ld H5 (R3 · s1.a5 0 0 0) (r3 rfl) fun v30 hv30 => ?_
  refine Wp.pure ?_
  try dsimp only
  refine Wp.bind ?_
  rw [k0_part70_eq_skeleton]; unfold k0_part70_skel; try dsimp only
  refine Wp.ld H20 (R2 · s1.a20 0 0) (r2 rfl) fun v88 hv88 => ?_
  refine Wp.st H20 (W2 · s1.a20 (k0_pay482 (F := Ideal) k0_pay475 (iota .tc S256x128 32 [1] iota_S256x128_d1_w32) (k0_pay476 (F := Ideal) v2 (k0_pay472 (F := Ideal) v16 v17) (k0_pay473 (F := Ideal) v23 v25)) (k0_pay477 (F := Ideal) v2 (k0_pay472 (F := Ideal) v16 v17) (k0_pay473 (F := Ideal) v23 v25)) (k0_pay478 (F := Ideal) v2 (k0_pay472 (F := Ideal) v16 v17) (k0_pay473 (F := Ideal) v23 v25)) (k0_pay479 (F := Ideal) v2 (k0_pay472 (F := Ideal) v16 v17) (k0_pay473 (F := Ideal) v23 v25))) 0 0) (w2 rfl) fun X20_1 hX20_1 => ?_
  try dsimp only
  refine Wp.ld H21 (R2 · s1.a21 0 0) (r2 rfl) fun v102 hv102 => ?_
  refine Wp.st H21 (W2 · s1.a21 (k0_pay487 (F := Ideal) k0_pay475 (iota .tc S256x128 32 [1] iota_S256x128_d1_w32) (k0_pay476 (F := Ideal) v2 (k0_pay472 (F := Ideal) v16 v17) (k0_pay473 (F := Ideal) v23 v25)) (k0_pay477 (F := Ideal) v2 (k0_pay472 (F := Ideal) v16 v17) (k0_pay473 (F := Ideal) v23 v25)) (k0_pay478 (F := Ideal) v2 (k0_pay472 (F := Ideal) v16 v17) (k0_pay473 (F := Ideal) v23 v25)) (k0_pay479 (F := Ideal) v2 (k0_pay472 (F := Ideal) v16 v17) (k0_pay473 (F := Ideal) v23 v25))) 0 0) (w2 rfl) fun X21_1 hX21_1 => ?_
  try dsimp only
  refine Wp.ld H22 (R2 · s1.a22 0 0) (r2 rfl) fun v116 hv116 => ?_
  refine Wp.st H22 (W2 · s1.a22 (k0_pay488 (F := Ideal) (k0_pay474 (F := Ideal) v28 v30) k0_pay475 (iota .tc S256x128 32 [1] iota_S256x128_d1_w32) (k0_pay476 (F := Ideal) v2 (k0_pay472 (F := Ideal) v16 v17) (k0_pay473 (F := Ideal) v23 v25)) (k0_pay477 (F := Ideal) v2 (k0_pay472 (F := Ideal) v16 v17) (k0_pay473 (F := Ideal) v23 v25)) (k0_pay478 (F := Ideal) v2 (k0_pay472 (F := Ideal) v16 v17) (k0_pay473 (F := Ideal) v23 v25)) (k0_pay479 (F := Ideal) v2 (k0_pay472 (F := Ideal) v16 v17) (k0_pay473 (F := Ideal) v23 v25))) 0 0) (w2 rfl) fun X22_1 hX22_1 => ?_
  try dsimp only
  refine Wp.pure ?_
  try dsimp only
  refine Wp.bind ?_
  rw [k0_part71_eq_skeleton]; unfold k0_part71_skel; try dsimp only
  refine Wp.ld H12 (R4 · s1.a12 0 0 0 0) (r4 rfl) fun v120 hv120 => ?_
  refine Wp.st H12 (W4 · s1.a12 (k0_pay490 (F := Ideal) (k0_pay489 (F := Ideal) k0_pay475 (iota .tc S256x128 32 [1] iota_S256x128_d1_w32) (k0_pay476 (F := Ideal) v2 (k0_pay472 (F := Ideal) v16 v17) (k0_pay473 (F := Ideal) v23 v25)) (k0_pay477 (F := Ideal) v2 (k0_pay472 (F := Ideal) v16 v17) (k0_pay473 (F := Ideal) v23 v25)) (k0_pay478 (F := Ideal) v2 (k0_pay472 (F := Ideal) v16 v17) (k0_pay473 (F := Ideal) v23 v25)) (k0_pay479 (F := Ideal) v2 (k0_pay472 (F := Ideal) v16 v17) (k0_pay473 (F := Ideal) v23 v25)))) 0 0 0 0) (w4 rfl) fun X12_1 hX12_1 => ?_
  try dsimp only
  refine Wp.ld H13 (R4 · s1.a13 0 0 0 0) (r4 rfl) fun v123 hv123 => ?_
  refine Wp.st H13 (W4 · s1.a13 (k0_pay491 (F := Ideal) (k0_pay474 (F := Ideal) v28 v30)) 0 0 0 0) (w4 rfl) fun X13_1 hX13_1 => ?_
  try dsimp only
  refine Wp.ld H3 (R3 · s1.a3 0 256 0) (r3 rfl) fun v126 hv126 => ?_
  refine Wp.ld H4 (R3 · s1.a4 0 0 0) (r3 rfl) fun v128 hv128 => ?_
  refine Wp.ld H6 (R3 · s1.a6 0 256 0) (r3 rfl) fun v131 hv131 => ?_
  refine Wp.ld H5 (R3 · s1.a5 0 0 0) (r3 rfl) fun v133 hv133 => ?_
  refine Wp.pure ?_
  try dsimp only
  refine Wp.bind ?_
  rw [k0_part72_eq_skeleton]; unfold k0_part72_skel; try dsimp only
  refine Wp.ld H20 (R2 · X20_1 256 0) (r2 rfl) fun v191 hv191 => ?_
  refine Wp.st H20 (W2 · X20_1 (k0_pay501 (F := Ideal) v2 (k0_pay472 (F := Ideal) v16 v17) (k0_pay492 (F := Ideal) v126 v128) k0_pay494 (iota .tc S256x128 32 [1] iota_S256x128_d1_w32) (k0_pay495 (F := Ideal) v2 (k0_pay472 (F := Ideal) v16 v17) v126 v128) (k0_pay496 (F := Ideal) v2 (k0_pay472 (F := Ideal) v16 v17) v126 v128)) 256 0) (w2 rfl) fun X20_2 hX20_2 => ?_
  try dsimp only
  refine Wp.pure ?_
  try dsimp only
  refine Wp.bind ?_
  rw [k0_part73_eq_skeleton]; unfold k0_part73_skel; try dsimp only
  refine Wp.ld H21 (R2 · X21_1 256 0) (r2 rfl) fun v205 hv205 => ?_
  refine Wp.st H21 (W2 · X21_1 (k0_pay507 (F := Ideal) (k0_pay506 (F := Ideal) v2 (k0_pay472 (F := Ideal) v16 v17) (k0_pay492 (F := Ideal) v126 v128) k0_pay494 (iota .tc S256x128 32 [1] iota_S256x128_d1_w32) (k0_pay495 (F := Ideal) v2 (k0_pay472 (F := Ideal) v16 v17) v126 v128) (k0_pay496 (F := Ideal) v2 (k0_pay472 (F := Ideal) v16 v17) v126 v128))) 256 0) (w2 rfl) fun X21_2 hX21_2 => ?_
  try dsimp only
  refine Wp.ld H22 (R2 · X22_1 256 0) (r2 rfl) fun v219 hv219 => ?_
  refine Wp.st H22 (W2 · X22_1 (k0_pay508 (F := Ideal) (k0_pay493 (F := Ideal) v131 v133) (k0_pay502 (F := Ideal) v2 (k0_pay472 (F := Ideal) v16 v17) (k0_pay492 (F := Ideal) v126 v128) k0_pay494 (iota .tc S256x128 32 [1] iota_S256x128_d1_w32) (k0_pay495 (F := Ideal) v2 (k0_pay472 (F := Ideal) v16 v17) v126 v128) (k0_pay496 (F := Ideal) v2 (k0_pay472 (F := Ideal) v16 v17) v126 v128)) (k0_pay503 (F := Ideal) v2 (k0_pay472 (F := Ideal) v16 v17) (k0_pay492 (F := Ideal) v126 v128) k0_pay494 (iota .tc S256x128 32 [1] iota_S256x128_d1_w32) (k0_pay495 (F := Ideal) v2 (k0_pay472 (F := Ideal) v16 v17) v126 v128) (k0_pay496 (F := Ideal) v2 (k0_pay472 (F := Ideal) v16 v17) v126 v128)) (k0_pay504 (F := Ideal) v2 (k0_pay472 (F := Ideal) v16 v17) (k0_pay492 (F := Ideal) v126 v128) k0_pay494 (iota .tc S256x128 32 [1] iota_S256x128_d1_w32) (k0_pay495 (F := Ideal) v2 (k0_pay472 (F := Ideal) v16 v17) v126 v128) (k0_pay496 (F := Ideal) v2 (k0_pay472 (F := Ideal) v16 v17) v126 v128)) (k0_pay505 (F := Ideal) v2 (k0_pay472 (F := Ideal) v16 v17) (k0_pay492 (F := Ideal) v126 v128) k0_pay494 (iota .tc S256x128 32 [1] iota_S256x128_d1_w32) (k0_pay495 (F := Ideal) v2 (k0_pay472 (F := Ideal) v16 v17) v126 v128) (k0_pay496 (F := Ideal) v2 (k0_pay472 (F := Ideal) v16 v17) v126 v128))) 256 0) (w2 rfl) fun X22_2 hX22_2 => ?_
  try dsimp only
  refine Wp.ld H12 (R4 · X12_1 0 0 256 0) (r4 rfl) fun v223 hv223 => ?_
  refine Wp.st H12 (W4 · X12_1 (k0_pay509 (F := Ideal) (k0_pay502 (F := Ideal) v2 (k0_pay472 (F := Ideal) v16 v17) (k0_pay492 (F := Ideal) v126 v128) k0_pay494 (iota .tc S256x128 32 [1] iota_S256x128_d1_w32) (k0_pay495 (F := Ideal) v2 (k0_pay472 (F := Ideal) v16 v17) v126 v128) (k0_pay496 (F := Ideal) v2 (k0_pay472 (F := Ideal) v16 v17) v126 v128)) (k0_pay503 (F := Ideal) v2 (k0_pay472 (F := Ideal) v16 v17) (k0_pay492 (F := Ideal) v126 v128) k0_pay494 (iota .tc S256x128 32 [1] iota_S256x128_d1_w32) (k0_pay495 (F := Ideal) v2 (k0_pay472 (F := Ideal) v16 v17) v126 v128) (k0_pay496 (F := Ideal) v2 (k0_pay472 (F := Ideal) v16 v17) v126 v128)) (k0_pay504 (F := Ideal) v2 (k0_pay472 (F := Ideal) v16 v17) (k0_pay492 (F := Ideal) v126 v128) k0_pay494 (iota .tc S256x128 32 [1] iota_S256x128_d1_w32) (k0_pay495 (F := Ideal) v2 (k0_pay472 (F := Ideal) v16 v17) v126 v128) (k0_pay496 (F := Ideal) v2 (k0_pay472 (F := Ideal) v16 v17) v126 v128)) (k0_pay505 (F := Ideal) v2 (k0_pay472 (F := Ideal) v16 v17) (k0_pay492 (F := Ideal) v126 v128) k0_pay494 (iota .tc S256x128 32 [1] iota_S256x128_d1_w32) (k0_pay495 (F := Ideal) v2 (k0_pay472 (F := Ideal) v16 v17) v126 v128) (k0_pay496 (F := Ideal) v2 (k0_pay472 (F := Ideal) v16 v17) v126 v128))) 0 0 256 0) (w4 rfl) fun X12_2 hX12_2 => ?_
  try dsimp only
  refine Wp.ld H13 (R4 · X13_1 0 0 256 0) (r4 rfl) fun v226 hv226 => ?_
  refine Wp.st H13 (W4 · X13_1 (k0_pay510 (F := Ideal) (k0_pay493 (F := Ideal) v131 v133)) 0 0 256 0) (w4 rfl) fun X13_2 hX13_2 => ?_
  try dsimp only
  refine Wp.ld H3 (R3 · s1.a3 0 0 0) (r3 rfl) fun v229 hv229 => ?_
  refine Wp.ld H18 (R3 · s1.a18 0 0 0) (r3 rfl) fun v233 hv233 => ?_
  refine Wp.st H18 (W3 · s1.a18 (k0_pay511 (F := Ideal) v229) 0 0 0) (w3 rfl) fun X18_1 hX18_1 => ?_
  try dsimp only
  refine Wp.ld H6 (R3 · s1.a6 0 0 0) (r3 rfl) fun v236 hv236 => ?_
  refine Wp.pure ?_
  try dsimp only
  refine Wp.bind ?_
  rw [k0_part74_eq_skeleton]; unfold k0_part74_skel; try dsimp only
  refine Wp.ld H19 (R3 · s1.a19 0 0 0) (r3 rfl) fun v240 hv240 => ?_
  refine Wp.st H19 (W3 · s1.a19 (k0_pay513 (F := Ideal) (k0_pay512 (F := Ideal) v236)) 0 0 0) (w3 rfl) fun X19_1 hX19_1 => ?_
  try dsimp only
  refine Wp.rebase (P := fun x => DiagPost v2 (i 0).val 0 0 s1 x) ?_ fun s2 h2 => ?_
  · exact ⟨t0_m (i := i) (v2 := v2) v16 hv16 v17 hv17 v23 hv23 v25 hv25 X20_1 hX20_1 v126 hv126 v128 hv128 X20_2 hX20_2, t0_e (i := i) (v2 := v2) v16 hv16 v17 hv17 v23 hv23 v25 hv25 X12_1 hX12_1 v126 hv126 v128 hv128 X12_2 hX12_2, t0_d (i := i) (v2 := v2) v28 hv28 v30 hv30 X13_1 hX13_1 v131 hv131 v133 hv133 X13_2 hX13_2, t0_l (i := i) (v2 := v2) v16 hv16 v17 hv17 v23 hv23 v25 hv25 X21_1 hX21_1 v126 hv126 v128 hv128 X21_2 hX21_2, t0_dl (i := i) (v2 := v2) v16 hv16 v17 hv17 v23 hv23 v25 hv25 v28 hv28 v30 hv30 X22_1 hX22_1 v126 hv126 v128 hv128 v131 hv131 v133 hv133 X22_2 hX22_2, t0_qt (i := i) (v2 := v2) v229 hv229 X18_1 hX18_1, t0_dt (i := i) (v2 := v2) v236 hv236 X19_1 hX19_1, rfl⟩
  refine Wp.ld H21 (R2 · s2.a21 0 0) (r2 rfl) fun v243 hv243 => ?_
  refine Wp.ld H22 (R2 · s2.a22 0 0) (r2 rfl) fun v246 hv246 => ?_
  refine Wp.ld H23 (R3 · s2.a23 0 0 0) (r3 rfl) fun v253 hv253 => ?_
  refine Wp.st H23 (W3 · s2.a23 (k0_pay515 (F := Ideal) v243) 0 0 0) (w3 rfl) fun X23_1 hX23_1 => ?_
  try dsimp only
  refine Wp.ld H24 (R3 · s2.a24 0 0 0) (r3 rfl) fun v259 hv259 => ?_
  refine Wp.st H24 (W3 · s2.a24 (k0_pay516 (F := Ideal) v243 v246) 0 0 0) (w3 rfl) fun X24_1 hX24_1 => ?_
  try dsimp only
  refine Wp.ld H21 (R2 · s2.a21 0 0) (r2 rfl) fun v262 hv262 => ?_
  refine Wp.ld H20 (R2 · s2.a20 0 0) (r2 rfl) fun v268 hv268 => ?_
  refine Wp.pure ?_
  try dsimp only
  refine Wp.rebase (P := fun x => FinPost 0 s2 x) ?_ fun s3 h3 => ?_
  · exact ⟨t0_fin_r (i := i) (v2 := v2) v243 hv243 X23_1 hX23_1, t0_fin_d (i := i) (v2 := v2) v243 hv243 v246 hv246 X24_1 hX24_1, rfl⟩
  with_reducible refine Wp.ite ?_ ?_
  · intro hc
    refine Wp.bind ?_
    rw [k0_part1_eq_skeleton]; unfold k0_part1_skel; try dsimp only
    refine Wp.ld H7 (fun v => R3 v s3.a7 0 0 0) (r3 rfl) fun v295 hv295 => ?_
    refine Wp.ld H20 (fun v => R2 v s3.a20 0 0) (r2 rfl) fun v300 hv300 => ?_
    refine Wp.st H20 (fun X => W2 X s3.a20 (k0_pay21 (F := Ideal) v295) 0 0) (w2 rfl) fun X20_3 hX20_3 => ?_
    try dsimp only
    refine Wp.ld H21 (fun v => R2 v s3.a21 0 0) (r2 rfl) fun v304 hv304 => ?_
    refine Wp.st H21 (fun X => W2 X s3.a21 (k0_pay22 (F := Ideal)) 0 0) (w2 rfl) fun X21_3 hX21_3 => ?_
    try dsimp only
    refine Wp.ld H22 (fun v => R2 v s3.a22 0 0) (r2 rfl) fun v308 hv308 => ?_
    refine Wp.st H22 (fun X => W2 X s3.a22 (k0_pay23 (F := Ideal)) 0 0) (w2 rfl) fun X22_3 hX22_3 => ?_
    try dsimp only
    refine Wp.rebase (P := fun x => CInit 0 s3 x) ?_ fun c1 k1 => ?_
    · exact ⟨t0_ci_c (i := i) (v2 := v2) v295 hv295 X20_3 hX20_3, t0_ci_m (i := i) (v2 := v2) X21_3 hX21_3, t0_ci_d (i := i) (v2 := v2) X22_3 hX22_3, rfl⟩
    refine Wp.ld H7 (fun v => R3 v c1.a7 0 0 0) (r3 rfl) fun v312 hv312 => ?_
    refine Wp.ld H3 (fun v => R3 v c1.a3 0 0 0) (r3 rfl) fun v314 hv314 => ?_
    refine Wp.ld H4 (fun v => R3 v c1.a4 0 0 0) (r3 rfl) fun v318 hv318 => ?_
    refine Wp.pure ?_
    try dsimp only
    refine Wp.bind ?_
    rw [k0_part2_eq_skeleton]; unfold k0_part2_skel; try dsimp only
    refine Wp.bind (Wp.smemLoad' H1 (fun _ => rfl) (fun v => v = g2 c1.a1 ((i 0).val) 5) (fun x => g2_cell (o4 i) _ _ x) fun v330 hv330 => ?_)
    refine Wp.ld H20 (fun v => R2 v c1.a20 0 0) (r2 rfl) fun v333 hv333 => ?_
    refine Wp.ld H12 (fun v => R4 v c1.a12 0 0 0 0) (r4 rfl) fun v344 hv344 => ?_
    refine Wp.st H12 (fun X => W4 X c1.a12 (k0_pay30 (F := Ideal) (k0_pay24 (F := Ideal) v312) k0_pay26 k0_pay27 (k0_pay28 (F := Ideal) v314 v318) v330 v333) 0 0 0 0) (w4 rfl) fun X12_3 hX12_3 => ?_
    try dsimp only
    refine Wp.ld H21 (fun v => R2 v c1.a21 0 0) (r2 rfl) fun v347 hv347 => ?_
    refine Wp.ld H21 (fun v => R2 v c1.a21 0 0) (r2 rfl) fun v349 hv349 => ?_
    refine Wp.st H21 (fun X => W2 X c1.a21 (k0_pay31 (F := Ideal) (k0_pay24 (F := Ideal) v312) k0_pay26 k0_pay27 (k0_pay28 (F := Ideal) v314 v318) v330 v333 v347) 0 0) (w2 rfl) fun X21_4 hX21_4 => ?_
    try dsimp only
    refine Wp.bind (Wp.smemLoad' H1 (fun _ => rfl) (fun v => v = g2 c1.a1 ((i 0).val) 5) (fun x => g2_cell (o4 i) _ _ x) fun v354 hv354 => ?_)
    refine Wp.ld H20 (fun v => R2 v c1.a20 0 0) (r2 rfl) fun v357 hv357 => ?_
    refine Wp.pure ?_
    try dsimp only
    refine Wp.bind ?_
    rw [k0_part3_eq_skeleton]; unfold k0_part3_skel; try dsimp only
    refine Wp.ld H12 (fun v => R4 v X12_3 0 0 0 128) (r4 rfl) fun v368 hv368 => ?_
    refine Wp.st H12 (fun X => W4 X X12_3 (k0_pay33 (F := Ideal) (k0_pay32 (F := Ideal) (k0_pay24 (F := Ideal) v312) (k0_pay25 (F := Ideal) v314 v318) k0_pay26 k0_pay27 v354 v357)) 0 0 0 128) (w4 rfl) fun X12_4 hX12_4 => ?_
    try dsimp only
    refine Wp.ld H21 (fun v => R2 v X21_4 0 0) (r2 rfl) fun v371 hv371 => ?_
    refine Wp.ld H21 (fun v => R2 v X21_4 0 0) (r2 rfl) fun v373 hv373 => ?_
    refine Wp.st H21 (fun X => W2 X X21_4 (k0_pay34 (F := Ideal) (k0_pay32 (F := Ideal) (k0_pay24 (F := Ideal) v312) (k0_pay25 (F := Ideal) v314 v318) k0_pay26 k0_pay27 v354 v357) v371) 0 0) (w2 rfl) fun X21_5 hX21_5 => ?_
    try dsimp only
    refine Wp.bind (Wp.smemLoad' H1 (fun _ => rfl) (fun v => v = g2 c1.a1 ((i 0).val) 5) (fun x => g2_cell (o4 i) _ _ x) fun v378 hv378 => ?_)
    refine Wp.ld H20 (fun v => R2 v c1.a20 0 0) (r2 rfl) fun v381 hv381 => ?_
    refine Wp.ld H12 (fun v => R4 v X12_4 0 0 0 256) (r4 rfl) fun v392 hv392 => ?_
    refine Wp.st H12 (fun X => W4 X X12_4 (k0_pay36 (F := Ideal) (k0_pay24 (F := Ideal) v312) (k0_pay25 (F := Ideal) v314 v318) k0_pay26 k0_pay27 v378 v381) 0 0 0 256) (w4 rfl) fun X12_5 hX12_5 => ?_
    try dsimp only
    refine Wp.ld H21 (fun v => R2 v X21_5 0 0) (r2 rfl) fun v395 hv395 => ?_
    refine Wp.ld H21 (fun v => R2 v X21_5 0 0) (r2 rfl) fun v397 hv397 => ?_
    refine Wp.st H21 (fun X => W2 X X21_5 (k0_pay37 (F := Ideal) (k0_pay24 (F := Ideal) v312) (k0_pay25 (F := Ideal) v314 v318) k0_pay26 k0_pay27 v378 v381 v395) 0 0) (w2 rfl) fun X21_6 hX21_6 => ?_
    try dsimp only
    refine Wp.bind (Wp.smemLoad' H1 (fun _ => rfl) (fun v => v = g2 c1.a1 ((i 0).val) 5) (fun x => g2_cell (o4 i) _ _ x) fun v402 hv402 => ?_)
    refine Wp.pure ?_
    try dsimp only
    refine Wp.bind ?_
    rw [k0_part4_eq_skeleton]; unfold k0_part4_skel; try dsimp only
    refine Wp.ld H20 (fun v => R2 v c1.a20 0 0) (r2 rfl) fun v405 hv405 => ?_
    refine Wp.ld H12 (fun v => R4 v X12_5 0 0 0 384) (r4 rfl) fun v416 hv416 => ?_
    refine Wp.st H12 (fun X => W4 X X12_5 (k0_pay40 (F := Ideal) (k0_pay24 (F := Ideal) v312) k0_pay26 k0_pay27 (k0_pay38 (F := Ideal) (k0_pay25 (F := Ideal) v314 v318) v402) v405) 0 0 0 384) (w4 rfl) fun X12_6 hX12_6 => ?_
    try dsimp only
    refine Wp.ld H21 (fun v => R2 v X21_6 0 0) (r2 rfl) fun v419 hv419 => ?_
    refine Wp.ld H21 (fun v => R2 v X21_6 0 0) (r2 rfl) fun v421 hv421 => ?_
    refine Wp.st H21 (fun X => W2 X X21_6 (k0_pay41 (F := Ideal) (k0_pay24 (F := Ideal) v312) k0_pay26 k0_pay27 (k0_pay38 (F := Ideal) (k0_pay25 (F := Ideal) v314 v318) v402) v405 v419) 0 0) (w2 rfl) fun X21_7 hX21_7 => ?_
    try dsimp only
    refine Wp.ld H3 (fun v => R3 v c1.a3 0 256 0) (r3 rfl) fun v424 hv424 => ?_
    refine Wp.ld H4 (fun v => R3 v c1.a4 0 0 0) (r3 rfl) fun v428 hv428 => ?_
    refine Wp.bind (Wp.smemLoad' H1 (fun _ => rfl) (fun v => v = g2 c1.a1 ((i 0).val) 5) (fun x => g2_cell (o4 i) _ _ x) fun v440 hv440 => ?_)
    refine Wp.pure ?_
    try dsimp only
    refine Wp.bind ?_
    rw [k0_part5_eq_skeleton]; unfold k0_part5_skel; try dsimp only
    refine Wp.ld H20 (fun v => R2 v c1.a20 256 0) (r2 rfl) fun v443 hv443 => ?_
    refine Wp.ld H12 (fun v => R4 v X12_6 0 0 256 0) (r4 rfl) fun v454 hv454 => ?_
    refine Wp.st H12 (fun X => W4 X X12_6 (k0_pay47 (F := Ideal) (k0_pay24 (F := Ideal) v312) k0_pay43 (k0_pay44 0#32) (k0_pay45 (F := Ideal) v424 v428 v440) v443) 0 0 256 0) (w4 rfl) fun X12_7 hX12_7 => ?_
    try dsimp only
    refine Wp.ld H21 (fun v => R2 v X21_7 256 0) (r2 rfl) fun v457 hv457 => ?_
    refine Wp.ld H21 (fun v => R2 v X21_7 256 0) (r2 rfl) fun v459 hv459 => ?_
    refine Wp.st H21 (fun X => W2 X X21_7 (k0_pay48 (F := Ideal) (k0_pay24 (F := Ideal) v312) k0_pay43 (k0_pay44 0#32) (k0_pay45 (F := Ideal) v424 v428 v440) v443 v457) 256 0) (w2 rfl) fun X21_8 hX21_8 => ?_
    try dsimp only
    refine Wp.bind (Wp.smemLoad' H1 (fun _ => rfl) (fun v => v = g2 c1.a1 ((i 0).val) 5) (fun x => g2_cell (o4 i) _ _ x) fun v464 hv464 => ?_)
    refine Wp.ld H20 (fun v => R2 v c1.a20 256 0) (r2 rfl) fun v467 hv467 => ?_
    refine Wp.ld H12 (fun v => R4 v X12_7 0 0 256 128) (r4 rfl) fun v478 hv478 => ?_
    refine Wp.st H12 (fun X => W4 X X12_7 (k0_pay50 (F := Ideal) (k0_pay24 (F := Ideal) v312) (k0_pay42 (F := Ideal) v424 v428) k0_pay43 (k0_pay44 0#32) v464 v467) 0 0 256 128) (w4 rfl) fun X12_8 hX12_8 => ?_
    try dsimp only
    refine Wp.pure ?_
    try dsimp only
    refine Wp.bind ?_
    rw [k0_part6_eq_skeleton]; unfold k0_part6_skel; try dsimp only
    refine Wp.ld H21 (fun v => R2 v X21_8 256 0) (r2 rfl) fun v481 hv481 => ?_
    refine Wp.ld H21 (fun v => R2 v X21_8 256 0) (r2 rfl) fun v483 hv483 => ?_
    refine Wp.st H21 (fun X => W2 X X21_8 (k0_pay51 (F := Ideal) (k0_pay49 (F := Ideal) (k0_pay24 (F := Ideal) v312) (k0_pay42 (F := Ideal) v424 v428) k0_pay43 (k0_pay44 0#32) v464 v467) v481) 256 0) (w2 rfl) fun X21_9 hX21_9 => ?_
    try dsimp only
    refine Wp.bind (Wp.smemLoad' H1 (fun _ => rfl) (fun v => v = g2 c1.a1 ((i 0).val) 5) (fun x => g2_cell (o4 i) _ _ x) fun v488 hv488 => ?_)
    refine Wp.ld H20 (fun v => R2 v c1.a20 256 0) (r2 rfl) fun v491 hv491 => ?_
    refine Wp.ld H12 (fun v => R4 v X12_8 0 0 256 256) (r4 rfl) fun v502 hv502 => ?_
    refine Wp.st H12 (fun X => W4 X X12_8 (k0_pay53 (F := Ideal) (k0_pay24 (F := Ideal) v312) (k0_pay42 (F := Ideal) v424 v428) k0_pay43 (k0_pay44 0#32) v488 v491) 0 0 256 256) (w4 rfl) fun X12_9 hX12_9 => ?_
    try dsimp only
    refine Wp.ld H21 (fun v => R2 v X21_9 256 0) (r2 rfl) fun v505 hv505 => ?_
    refine Wp.ld H21 (fun v => R2 v X21_9 256 0) (r2 rfl) fun v507 hv507 => ?_
    refine Wp.st H21 (fun X => W2 X X21_9 (k0_pay54 (F := Ideal) (k0_pay24 (F := Ideal) v312) (k0_pay42 (F := Ideal) v424 v428) k0_pay43 (k0_pay44 0#32) v488 v491 v505) 256 0) (w2 rfl) fun X21_10 hX21_10 => ?_
    try dsimp only
    refine Wp.bind (Wp.smemLoad' H1 (fun _ => rfl) (fun v => v = g2 c1.a1 ((i 0).val) 5) (fun x => g2_cell (o4 i) _ _ x) fun v512 hv512 => ?_)
    refine Wp.ld H20 (fun v => R2 v c1.a20 256 0) (r2 rfl) fun v515 hv515 => ?_
    refine Wp.pure ?_
    try dsimp only
    refine Wp.bind ?_
    rw [k0_part7_eq_skeleton]; unfold k0_part7_skel; try dsimp only
    refine Wp.ld H12 (fun v => R4 v X12_9 0 0 256 384) (r4 rfl) fun v526 hv526 => ?_
    refine Wp.st H12 (fun X => W4 X X12_9 (k0_pay58 (F := Ideal) k0_pay43 (k0_pay44 0#32) (k0_pay55 (F := Ideal) (k0_pay42 (F := Ideal) v424 v428) v512 v515) (k0_pay56 (F := Ideal) (k0_pay24 (F := Ideal) v312))) 0 0 256 384) (w4 rfl) fun X12_10 hX12_10 => ?_
    try dsimp only
    refine Wp.ld H21 (fun v => R2 v X21_10 256 0) (r2 rfl) fun v529 hv529 => ?_
    refine Wp.ld H21 (fun v => R2 v X21_10 256 0) (r2 rfl) fun v531 hv531 => ?_
    refine Wp.st H21 (fun X => W2 X X21_10 (k0_pay59 (F := Ideal) k0_pay43 (k0_pay44 0#32) (k0_pay55 (F := Ideal) (k0_pay42 (F := Ideal) v424 v428) v512 v515) (k0_pay56 (F := Ideal) (k0_pay24 (F := Ideal) v312)) v529) 256 0) (w2 rfl) fun X21_11 hX21_11 => ?_
    try dsimp only
    refine Wp.rebase (P := fun x => CScore (i 0).val 0 0 0 c1 x) ?_ fun c2 k2 => ?_
    · exact ⟨t0_cs_e (i := i) (v2 := v2) v312 hv312 v314 hv314 v318 hv318 v330 hv330 v333 hv333 X12_3 hX12_3 v354 hv354 v357 hv357 X12_4 hX12_4 v378 hv378 v381 hv381 X12_5 hX12_5 v402 hv402 v405 hv405 X12_6 hX12_6 v424 hv424 v428 hv428 v440 hv440 v443 hv443 X12_7 hX12_7 v464 hv464 v467 hv467 X12_8 hX12_8 v488 hv488 v491 hv491 X12_9 hX12_9 v512 hv512 v515 hv515 X12_10 hX12_10, t0_cs_m (i := i) (v2 := v2) v312 hv312 v314 hv314 v318 hv318 v330 hv330 v333 hv333 v347 hv347 X21_4 hX21_4 v354 hv354 v357 hv357 v371 hv371 X21_5 hX21_5 v378 hv378 v381 hv381 v395 hv395 X21_6 hX21_6 v402 hv402 v405 hv405 v419 hv419 X21_7 hX21_7 v424 hv424 v428 hv428 v440 hv440 v443 hv443 v457 hv457 X21_8 hX21_8 v464 hv464 v467 hv467 v481 hv481 X21_9 hX21_9 v488 hv488 v491 hv491 v505 hv505 X21_10 hX21_10 v512 hv512 v515 hv515 v529 hv529 X21_11 hX21_11, rfl⟩
    refine Wp.ld H21 (fun v => R2 v c2.a21 0 0) (r2 rfl) fun v534 hv534 => ?_
    refine Wp.ld H21 (fun v => R2 v c2.a21 0 0) (r2 rfl) fun v539 hv539 => ?_
    refine Wp.st H21 (fun X => W2 X c2.a21 (k0_pay60 (F := Ideal) v534) 0 0) (w2 rfl) fun X21_12 hX21_12 => ?_
    try dsimp only
    refine Wp.ld H20 (fun v => R2 v c2.a20 0 0) (r2 rfl) fun v543 hv543 => ?_
    refine Wp.st H20 (fun X => W2 X c2.a20 (k0_pay61 (F := Ideal)) 0 0) (w2 rfl) fun X20_4 hX20_4 => ?_
    try dsimp only
    refine Wp.rebase (P := fun x => CMid c2 x) ?_ fun c3 k3 => ?_
    · exact ⟨t0_cm_m (i := i) (v2 := v2) v534 hv534 X21_12 hX21_12, t0_cm_l (i := i) (v2 := v2) X20_4 hX20_4, rfl⟩
    refine Wp.ld H12 (fun v => R4 v c3.a12 0 0 0 0) (r4 rfl) fun v547 hv547 => ?_
    refine Wp.ld H21 (fun v => R2 v c3.a21 0 0) (r2 rfl) fun v549 hv549 => ?_
    refine Wp.pure ?_
    try dsimp only
    refine Wp.bind ?_
    rw [k0_part8_eq_skeleton]; unfold k0_part8_skel; try dsimp only
    refine Wp.ld H12 (fun v => R4 v c3.a12 0 0 0 0) (r4 rfl) fun v553 hv553 => ?_
    refine Wp.st H12 (fun X => W4 X c3.a12 (k0_pay64 (F := Ideal) (k0_pay62 (F := Ideal) v547 v549)) 0 0 0 0) (w4 rfl) fun X12_11 hX12_11 => ?_
    try dsimp only
    refine Wp.ld H20 (fun v => R2 v c3.a20 0 0) (r2 rfl) fun v556 hv556 => ?_
    refine Wp.ld H20 (fun v => R2 v c3.a20 0 0) (r2 rfl) fun v558 hv558 => ?_
    refine Wp.st H20 (fun X => W2 X c3.a20 (k0_pay65 (F := Ideal) (k0_pay62 (F := Ideal) v547 v549) v556) 0 0) (w2 rfl) fun X20_5 hX20_5 => ?_
    try dsimp only
    refine Wp.ld H22 (fun v => R2 v c3.a22 0 0) (r2 rfl) fun v561 hv561 => ?_
    refine Wp.ld H13 (fun v => R4 v c3.a13 0 0 0 0) (r4 rfl) fun v563 hv563 => ?_
    refine Wp.ld H22 (fun v => R2 v c3.a22 0 0) (r2 rfl) fun v567 hv567 => ?_
    refine Wp.st H22 (fun X => W2 X c3.a22 (k0_pay66 (F := Ideal) (k0_pay62 (F := Ideal) v547 v549) v561 v563) 0 0) (w2 rfl) fun X22_4 hX22_4 => ?_
    try dsimp only
    refine Wp.ld H12 (fun v => R4 v X12_11 0 0 0 128) (r4 rfl) fun v571 hv571 => ?_
    refine Wp.ld H21 (fun v => R2 v c3.a21 0 0) (r2 rfl) fun v573 hv573 => ?_
    refine Wp.ld H12 (fun v => R4 v X12_11 0 0 0 128) (r4 rfl) fun v577 hv577 => ?_
    refine Wp.st H12 (fun X => W4 X X12_11 (k0_pay68 (F := Ideal) v571 v573) 0 0 0 128) (w4 rfl) fun X12_12 hX12_12 => ?_
    try dsimp only
    refine Wp.ld H20 (fun v => R2 v X20_5 0 0) (r2 rfl) fun v580 hv580 => ?_
    refine Wp.pure ?_
    try dsimp only
    refine Wp.bind ?_
    rw [k0_part9_eq_skeleton]; unfold k0_part9_skel; try dsimp only
    refine Wp.ld H20 (fun v => R2 v X20_5 0 0) (r2 rfl) fun v582 hv582 => ?_
    refine Wp.st H20 (fun X => W2 X X20_5 (k0_pay70 (F := Ideal) (k0_pay69 (F := Ideal) v571 v573 v580)) 0 0) (w2 rfl) fun X20_6 hX20_6 => ?_
    try dsimp only
    refine Wp.ld H22 (fun v => R2 v X22_4 0 0) (r2 rfl) fun v585 hv585 => ?_
    refine Wp.ld H13 (fun v => R4 v c3.a13 0 0 0 128) (r4 rfl) fun v587 hv587 => ?_
    refine Wp.ld H22 (fun v => R2 v X22_4 0 0) (r2 rfl) fun v591 hv591 => ?_
    refine Wp.st H22 (fun X => W2 X X22_4 (k0_pay71 (F := Ideal) (k0_pay67 (F := Ideal) v571 v573) v585 v587) 0 0) (w2 rfl) fun X22_5 hX22_5 => ?_
    try dsimp only
    refine Wp.ld H12 (fun v => R4 v X12_12 0 0 0 256) (r4 rfl) fun v595 hv595 => ?_
    refine Wp.ld H21 (fun v => R2 v c3.a21 0 0) (r2 rfl) fun v597 hv597 => ?_
    refine Wp.ld H12 (fun v => R4 v X12_12 0 0 0 256) (r4 rfl) fun v601 hv601 => ?_
    refine Wp.st H12 (fun X => W4 X X12_12 (k0_pay73 (F := Ideal) v595 v597) 0 0 0 256) (w4 rfl) fun X12_13 hX12_13 => ?_
    try dsimp only
    refine Wp.ld H20 (fun v => R2 v X20_6 0 0) (r2 rfl) fun v604 hv604 => ?_
    refine Wp.ld H20 (fun v => R2 v X20_6 0 0) (r2 rfl) fun v606 hv606 => ?_
    refine Wp.st H20 (fun X => W2 X X20_6 (k0_pay74 (F := Ideal) v595 v597 v604) 0 0) (w2 rfl) fun X20_7 hX20_7 => ?_
    try dsimp only
    refine Wp.ld H22 (fun v => R2 v X22_5 0 0) (r2 rfl) fun v609 hv609 => ?_
    refine Wp.ld H13 (fun v => R4 v c3.a13 0 0 0 256) (r4 rfl) fun v611 hv611 => ?_
    refine Wp.pure ?_
    try dsimp only
    refine Wp.bind ?_
    rw [k0_part10_eq_skeleton]; unfold k0_part10_skel; try dsimp only
    refine Wp.ld H22 (fun v => R2 v X22_5 0 0) (r2 rfl) fun v615 hv615 => ?_
    refine Wp.st H22 (fun X => W2 X X22_5 (k0_pay76 (F := Ideal) (k0_pay72 (F := Ideal) v595 v597) v609 (k0_pay75 (F := Ideal) v611)) 0 0) (w2 rfl) fun X22_6 hX22_6 => ?_
    try dsimp only
    refine Wp.ld H12 (fun v => R4 v X12_13 0 0 0 384) (r4 rfl) fun v619 hv619 => ?_
    refine Wp.ld H21 (fun v => R2 v c3.a21 0 0) (r2 rfl) fun v621 hv621 => ?_
    refine Wp.ld H12 (fun v => R4 v X12_13 0 0 0 384) (r4 rfl) fun v625 hv625 => ?_
    refine Wp.st H12 (fun X => W4 X X12_13 (k0_pay78 (F := Ideal) v619 v621) 0 0 0 384) (w4 rfl) fun X12_14 hX12_14 => ?_
    try dsimp only
    refine Wp.ld H20 (fun v => R2 v X20_7 0 0) (r2 rfl) fun v628 hv628 => ?_
    refine Wp.ld H20 (fun v => R2 v X20_7 0 0) (r2 rfl) fun v630 hv630 => ?_
    refine Wp.st H20 (fun X => W2 X X20_7 (k0_pay79 (F := Ideal) v619 v621 v628) 0 0) (w2 rfl) fun X20_8 hX20_8 => ?_
    try dsimp only
    refine Wp.ld H22 (fun v => R2 v X22_6 0 0) (r2 rfl) fun v633 hv633 => ?_
    refine Wp.ld H13 (fun v => R4 v c3.a13 0 0 0 384) (r4 rfl) fun v635 hv635 => ?_
    refine Wp.ld H22 (fun v => R2 v X22_6 0 0) (r2 rfl) fun v639 hv639 => ?_
    refine Wp.st H22 (fun X => W2 X X22_6 (k0_pay80 (F := Ideal) v619 v621 v633 v635) 0 0) (w2 rfl) fun X22_7 hX22_7 => ?_
    try dsimp only
    refine Wp.ld H12 (fun v => R4 v X12_14 0 0 256 0) (r4 rfl) fun v643 hv643 => ?_
    refine Wp.pure ?_
    try dsimp only
    refine Wp.bind ?_
    rw [k0_part11_eq_skeleton]; unfold k0_part11_skel; try dsimp only
    refine Wp.ld H21 (fun v => R2 v c3.a21 256 0) (r2 rfl) fun v645 hv645 => ?_
    refine Wp.ld H12 (fun v => R4 v X12_14 0 0 256 0) (r4 rfl) fun v649 hv649 => ?_
    refine Wp.st H12 (fun X => W4 X X12_14 (k0_pay83 (F := Ideal) (k0_pay81 (F := Ideal) v643) v645) 0 0 256 0) (w4 rfl) fun X12_15 hX12_15 => ?_
    try dsimp only
    refine Wp.ld H20 (fun v => R2 v X20_8 256 0) (r2 rfl) fun v652 hv652 => ?_
    refine Wp.ld H20 (fun v => R2 v X20_8 256 0) (r2 rfl) fun v654 hv654 => ?_
    refine Wp.st H20 (fun X => W2 X X20_8 (k0_pay84 (F := Ideal) (k0_pay81 (F := Ideal) v643) v645 v652) 256 0) (w2 rfl) fun X20_9 hX20_9 => ?_
    try dsimp only
    refine Wp.ld H22 (fun v => R2 v X22_7 256 0) (r2 rfl) fun v657 hv657 => ?_
    refine Wp.ld H13 (fun v => R4 v c3.a13 0 0 256 0) (r4 rfl) fun v659 hv659 => ?_
    refine Wp.ld H22 (fun v => R2 v X22_7 256 0) (r2 rfl) fun v663 hv663 => ?_
    refine Wp.st H22 (fun X => W2 X X22_7 (k0_pay85 (F := Ideal) (k0_pay81 (F := Ideal) v643) v645 v657 v659) 256 0) (w2 rfl) fun X22_8 hX22_8 => ?_
    try dsimp only
    refine Wp.ld H12 (fun v => R4 v X12_15 0 0 256 128) (r4 rfl) fun v667 hv667 => ?_
    refine Wp.ld H21 (fun v => R2 v c3.a21 256 0) (r2 rfl) fun v669 hv669 => ?_
    refine Wp.ld H12 (fun v => R4 v X12_15 0 0 256 128) (r4 rfl) fun v673 hv673 => ?_
    refine Wp.st H12 (fun X => W4 X X12_15 (k0_pay87 (F := Ideal) v667 v669) 0 0 256 128) (w4 rfl) fun X12_16 hX12_16 => ?_
    try dsimp only
    refine Wp.pure ?_
    try dsimp only
    refine Wp.bind ?_
    rw [k0_part12_eq_skeleton]; unfold k0_part12_skel; try dsimp only
    refine Wp.ld H20 (fun v => R2 v X20_9 256 0) (r2 rfl) fun v676 hv676 => ?_
    refine Wp.ld H20 (fun v => R2 v X20_9 256 0) (r2 rfl) fun v678 hv678 => ?_
    refine Wp.st H20 (fun X => W2 X X20_9 (k0_pay88 (F := Ideal) (k0_pay86 (F := Ideal) v667 v669) v676) 256 0) (w2 rfl) fun X20_10 hX20_10 => ?_
    try dsimp only
    refine Wp.ld H22 (fun v => R2 v X22_8 256 0) (r2 rfl) fun v681 hv681 => ?_
    refine Wp.ld H13 (fun v => R4 v c3.a13 0 0 256 128) (r4 rfl) fun v683 hv683 => ?_
    refine Wp.ld H22 (fun v => R2 v X22_8 256 0) (r2 rfl) fun v687 hv687 => ?_
    refine Wp.st H22 (fun X => W2 X X22_8 (k0_pay89 (F := Ideal) (k0_pay86 (F := Ideal) v667 v669) v681 v683) 256 0) (w2 rfl) fun X22_9 hX22_9 => ?_
    try dsimp only
    refine Wp.ld H12 (fun v => R4 v X12_16 0 0 256 256) (r4 rfl) fun v691 hv691 => ?_
    refine Wp.ld H21 (fun v => R2 v c3.a21 256 0) (r2 rfl) fun v693 hv693 => ?_
    refine Wp.ld H12 (fun v => R4 v X12_16 0 0 256 256) (r4 rfl) fun v697 hv697 => ?_
    refine Wp.st H12 (fun X => W4 X X12_16 (k0_pay91 (F := Ideal) v691 v693) 0 0 256 256) (w4 rfl) fun X12_17 hX12_17 => ?_
    try dsimp only
    refine Wp.ld H20 (fun v => R2 v X20_10 256 0) (r2 rfl) fun v700 hv700 => ?_
    refine Wp.ld H20 (fun v => R2 v X20_10 256 0) (r2 rfl) fun v702 hv702 => ?_
    refine Wp.st H20 (fun X => W2 X X20_10 (k0_pay92 (F := Ideal) v691 v693 v700) 256 0) (w2 rfl) fun X20_11 hX20_11 => ?_
    try dsimp only
    refine Wp.ld H22 (fun v => R2 v X22_9 256 0) (r2 rfl) fun v705 hv705 => ?_
    refine Wp.pure ?_
    try dsimp only
    refine Wp.bind ?_
    rw [k0_part13_eq_skeleton]; unfold k0_part13_skel; try dsimp only
    refine Wp.ld H13 (fun v => R4 v c3.a13 0 0 256 256) (r4 rfl) fun v707 hv707 => ?_
    refine Wp.ld H22 (fun v => R2 v X22_9 256 0) (r2 rfl) fun v711 hv711 => ?_
    refine Wp.st H22 (fun X => W2 X X22_9 (k0_pay93 (F := Ideal) (k0_pay90 (F := Ideal) v691 v693) v705 v707) 256 0) (w2 rfl) fun X22_10 hX22_10 => ?_
    try dsimp only
    refine Wp.ld H12 (fun v => R4 v X12_17 0 0 256 384) (r4 rfl) fun v715 hv715 => ?_
    refine Wp.ld H21 (fun v => R2 v c3.a21 256 0) (r2 rfl) fun v717 hv717 => ?_
    refine Wp.ld H12 (fun v => R4 v X12_17 0 0 256 384) (r4 rfl) fun v721 hv721 => ?_
    refine Wp.st H12 (fun X => W4 X X12_17 (k0_pay95 (F := Ideal) v715 v717) 0 0 256 384) (w4 rfl) fun X12_18 hX12_18 => ?_
    try dsimp only
    refine Wp.ld H20 (fun v => R2 v X20_11 256 0) (r2 rfl) fun v724 hv724 => ?_
    refine Wp.ld H20 (fun v => R2 v X20_11 256 0) (r2 rfl) fun v726 hv726 => ?_
    refine Wp.st H20 (fun X => W2 X X20_11 (k0_pay96 (F := Ideal) v715 v717 v724) 256 0) (w2 rfl) fun X20_12 hX20_12 => ?_
    try dsimp only
    refine Wp.ld H22 (fun v => R2 v X22_10 256 0) (r2 rfl) fun v729 hv729 => ?_
    refine Wp.ld H13 (fun v => R4 v c3.a13 0 0 256 384) (r4 rfl) fun v731 hv731 => ?_
    refine Wp.ld H22 (fun v => R2 v X22_10 256 0) (r2 rfl) fun v735 hv735 => ?_
    refine Wp.st H22 (fun X => W2 X X22_10 (k0_pay97 (F := Ideal) v715 v717 v729 v731) 256 0) (w2 rfl) fun X22_11 hX22_11 => ?_
    try dsimp only
    refine Wp.pure ?_
    try dsimp only
    refine Wp.rebase (P := fun x => CExp 0 0 c3 x) ?_ fun c4 k4 => ?_
    · exact ⟨t0_ce_e (i := i) (v2 := v2) v547 hv547 v549 hv549 X12_11 hX12_11 v571 hv571 v573 hv573 X12_12 hX12_12 v595 hv595 v597 hv597 X12_13 hX12_13 v619 hv619 v621 hv621 X12_14 hX12_14 v643 hv643 v645 hv645 X12_15 hX12_15 v667 hv667 v669 hv669 X12_16 hX12_16 v691 hv691 v693 hv693 X12_17 hX12_17 v715 hv715 v717 hv717 X12_18 hX12_18, t0_ce_l (i := i) (v2 := v2) v547 hv547 v549 hv549 X12_11 hX12_11 v556 hv556 X20_5 hX20_5 v571 hv571 v573 hv573 X12_12 hX12_12 v580 hv580 X20_6 hX20_6 v595 hv595 v597 hv597 X12_13 hX12_13 v604 hv604 X20_7 hX20_7 v619 hv619 v621 hv621 X12_14 hX12_14 v628 hv628 X20_8 hX20_8 v643 hv643 v645 hv645 X12_15 hX12_15 v652 hv652 X20_9 hX20_9 v667 hv667 v669 hv669 X12_16 hX12_16 v676 hv676 X20_10 hX20_10 v691 hv691 v693 hv693 X12_17 hX12_17 v700 hv700 X20_11 hX20_11 v715 hv715 v717 hv717 v724 hv724 X20_12 hX20_12, t0_ce_d (i := i) (v2 := v2) v547 hv547 v549 hv549 X12_11 hX12_11 v561 hv561 v563 hv563 X22_4 hX22_4 v571 hv571 v573 hv573 X12_12 hX12_12 v585 hv585 v587 hv587 X22_5 hX22_5 v595 hv595 v597 hv597 X12_13 hX12_13 v609 hv609 v611 hv611 X22_6 hX22_6 v619 hv619 v621 hv621 X12_14 hX12_14 v633 hv633 v635 hv635 X22_7 hX22_7 v643 hv643 v645 hv645 X12_15 hX12_15 v657 hv657 v659 hv659 X22_8 hX22_8 v667 hv667 v669 hv669 X12_16 hX12_16 v681 hv681 v683 hv683 X22_9 hX22_9 v691 hv691 v693 hv693 X12_17 hX12_17 v705 hv705 v707 hv707 X22_10 hX22_10 v715 hv715 v717 hv717 v729 hv729 v731 hv731 X22_11 hX22_11, rfl⟩
    refine Wp.ld H21 (fun v => R2 v c4.a21 0 0) (r2 rfl) fun v738 hv738 => ?_
    refine Wp.ld H20 (fun v => R2 v c4.a20 0 0) (r2 rfl) fun v739 hv739 => ?_
    refine Wp.ld H23 (fun v => R3 v c4.a23 0 0 0) (r3 rfl) fun v747 hv747 => ?_
    refine Wp.st H23 (fun X => W3 X c4.a23 (k0_pay2 (F := Ideal) v738 v739) 0 0 0) (w3 rfl) fun X23_2 hX23_2 => ?_
    try dsimp only
    refine Wp.ld H22 (fun v => R2 v c4.a22 0 0) (r2 rfl) fun v750 hv750 => ?_
    refine Wp.ld H24 (fun v => R3 v c4.a24 0 0 0) (r3 rfl) fun v755 hv755 => ?_
    refine Wp.st H24 (fun X => W3 X c4.a24 (k0_pay3 (F := Ideal) v738 v739 v750) 0 0 0) (w3 rfl) fun X24_2 hX24_2 => ?_
    try dsimp only
    refine Wp.rebase (P := fun x => Finish (i 0).val 0 0 s2 x) ⟨s3, h3, .inr ⟨c1, c2, c3, c4, k1, Chain.one k2, k3, Chain.one k4, ⟨t0_cf_r (i := i) (v2 := v2) v738 hv738 v739 hv739 X23_2 hX23_2, t0_cf_d (i := i) (v2 := v2) v738 hv738 v739 hv739 v750 hv750 X24_2 hX24_2, rfl⟩⟩⟩ fun s4 h4 => ?_
    refine Wp.bind ?_
    refine Wp.forChain (fun j => Step v2 (i 0).val j) (fun k0_t1 acc x => t1_wp H1 H2 H3 H4 H5 H6 H7 H8 H9 H10 H11 H12 H13 H14 H15 H16 H17 H18 H19 H20 H21 H22 H23 H24 k0_t1 acc x) fun _ s5 h5 => ?_
    rw [trips1] at h5
    try dsimp only
    refine Wp.ld H16 (fun v => R2 v s5.a16 0 0) (r2 rfl) fun v281 hv281 => ?_
    refine Wp.st H16 (fun X => W2 X s5.a16 (k0_pay15 (F := Ideal)) 0 0) (w2 rfl) fun X16_1 hX16_1 => ?_
    try dsimp only
    refine Wp.rebase (P := fun x => ZeroPost s5 x) ?_ fun s6 h6 => ?_
    · exact ⟨t0_z0 (i := i) (v2 := v2) X16_1 hX16_1, rfl⟩
    refine Wp.bind ?_
    refine Wp.forChain (fun j => LastBwd j) (fun k0_t8 acc x => Wp.mono (t8_wp H1 H2 H3 H4 H5 H6 H7 H8 H9 H10 H11 H12 H13 H14 H15 H16 H17 H18 H19 H20 H21 H22 H23 H24 k0_t8 x) fun _ _ h => h.2) fun _ s7 h7 => ?_
    rw [trips8] at h7
    try dsimp only
    refine Wp.ld H16 (fun v => R2 v s7.a16 0 0) (r2 rfl) fun v285 hv285 => ?_
    refine Wp.bind (Wp.smemLoad' H1 (fun _ => rfl) (fun v => v = g2 s7.a1 ((i 0).val) 1) (fun x => g2_cell (o118 i) _ _ x) fun v287 hv287 => ?_)
    refine Wp.ld H8 (fun v => R3 v s7.a8 0 3584 0) (r3 rfl) fun v291 hv291 => ?_
    refine Wp.st H8 (fun X => W3 X s7.a8 (k0_pay19 (F := Ideal) v285 v287) 0 3584 0) (w3 rfl) fun X8_1 hX8_1 => ?_
    try dsimp only
    refine Wp.rebase (P := fun x => DqPost (i 0).val 7 s7 x) ?_ fun s8 h8 => ?_
    · exact ⟨t0_dq (i := i) (v2 := v2) v285 hv285 v287 hv287 X8_1 hX8_1, rfl⟩
    refine Wp.bind ?_
    refine Wp.forChain (fun j => OutPost (i 0).val j) (fun k0_t9 acc x => t9_wp H1 H2 H3 H4 H5 H6 H7 H8 H9 H10 H11 H12 H13 H14 H15 H16 H17 H18 H19 H20 H21 H22 H23 H24 k0_t9 x) fun _ s9 h9 => ?_
    rw [trips9] at h9
    try dsimp only
    refine Wp.pure ?_
    try dsimp only
    exact ⟨v2, pay468 hv1 hv2, s1, s2, s4, s5, s6, s7, s8, h1, h2, h4, h5, h6, h7, h8, h9⟩
  · intro hc
    refine Wp.rebase (P := fun x => Finish (i 0).val 0 0 s2 x) (⟨s3, h3, .inl ⟨usual_rd _ _ hv262 hv268 hc, rfl⟩⟩) fun s4 h4 => ?_
    refine Wp.bind ?_
    refine Wp.forChain (fun j => Step v2 (i 0).val j) (fun k0_t1 acc x => t1_wp H1 H2 H3 H4 H5 H6 H7 H8 H9 H10 H11 H12 H13 H14 H15 H16 H17 H18 H19 H20 H21 H22 H23 H24 k0_t1 acc x) fun _ s5 h5 => ?_
    rw [trips1] at h5
    try dsimp only
    refine Wp.ld H16 (fun v => R2 v s5.a16 0 0) (r2 rfl) fun v281' hv281' => ?_
    refine Wp.st H16 (fun X => W2 X s5.a16 (k0_pay15 (F := Ideal)) 0 0) (w2 rfl) fun X16_2 hX16_2 => ?_
    try dsimp only
    refine Wp.rebase (P := fun x => ZeroPost s5 x) ?_ fun s6 h6 => ?_
    · exact ⟨t0_z0 (i := i) (v2 := v2) X16_2 hX16_2, rfl⟩
    refine Wp.bind ?_
    refine Wp.forChain (fun j => LastBwd j) (fun k0_t8 acc x => Wp.mono (t8_wp H1 H2 H3 H4 H5 H6 H7 H8 H9 H10 H11 H12 H13 H14 H15 H16 H17 H18 H19 H20 H21 H22 H23 H24 k0_t8 x) fun _ _ h => h.2) fun _ s7 h7 => ?_
    rw [trips8] at h7
    try dsimp only
    refine Wp.ld H16 (fun v => R2 v s7.a16 0 0) (r2 rfl) fun v285' hv285' => ?_
    refine Wp.bind (Wp.smemLoad' H1 (fun _ => rfl) (fun v => v = g2 s7.a1 ((i 0).val) 1) (fun x => g2_cell (o118 i) _ _ x) fun v287' hv287' => ?_)
    refine Wp.ld H8 (fun v => R3 v s7.a8 0 3584 0) (r3 rfl) fun v291' hv291' => ?_
    refine Wp.st H8 (fun X => W3 X s7.a8 (k0_pay19 (F := Ideal) v285' v287') 0 3584 0) (w3 rfl) fun X8_2 hX8_2 => ?_
    try dsimp only
    refine Wp.rebase (P := fun x => DqPost (i 0).val 7 s7 x) ?_ fun s8 h8 => ?_
    · exact ⟨t0_dq (i := i) (v2 := v2) v285' hv285' v287' hv287' X8_2 hX8_2, rfl⟩
    refine Wp.bind ?_
    refine Wp.forChain (fun j => OutPost (i 0).val j) (fun k0_t9 acc x => t9_wp H1 H2 H3 H4 H5 H6 H7 H8 H9 H10 H11 H12 H13 H14 H15 H16 H17 H18 H19 H20 H21 H22 H23 H24 k0_t9 x) fun _ s9 h9 => ?_
    rw [trips9] at h9
    try dsimp only
    refine Wp.pure ?_
    try dsimp only
    exact ⟨v2, pay468 hv1 hv2, s1, s2, s4, s5, s6, s7, s8, h1, h2, h4, h5, h6, h7, h8, h9⟩

end Cert.Proof.KernelIdeal
-- ==== Proof.KernelIdealFrame.lean ====
/-
  The frame of `Cert.KernelIdeal`: the program runs to its end from any arguments and leaves the arguments as they were.
  Every window's contents are forgotten here; the body obligation is the walk `body_whole` at every grid point.
-/
module

public import proofs.«01_k».proof.Proof.Walks

@[expose] public section

set_option maxRecDepth 16384

noncomputable section

namespace Cert.Proof.KernelIdeal

open Cert.KernelIdeal Cert.KernelIdeal.Gen Cert.Hoare
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable (m : (ℓ : Loc nD τ sig) → Buf (Elt Ideal) ℓ) (ρ : Dev nD → PrngReg)

/-- The proof data of the frame: the arrays as the region finds them, nothing said of what the body leaves. -/
def dat (c : Dev nD) : Dat τ (Elt Ideal) Unit ℕ (UR sig nD τ) ℕ cfg0 c where
  A w := V m c (Pipeline.arrRef spec0 w)
  after := Dat.unnamed
  Φ _ := Pipeline.ΦA spec0 c
  q _ := fullShare
  owed _ := 0

def dats : (p : Fin 1) → (c : Dev nD) → Dat τ (Elt Ideal) Unit ℕ (UR sig nD τ) ℕ (cfgs p) c := fun | 0 => fun c => dat m c

theorem hbody (c : Dev nD) : BodyObligationLoose (dat m c) (defs₀ (F := Ideal)) Variants.none () Set.univ (fun _ => true) := fun t => by
  change iprop(Pipeline.ΦA spec0 c ∗ (dat m c).owesAt () t.castSucc
        ∗ bigSep (Finset.univ : Finset (Fin 11)) fun w => iprop(∃ X, owns (c : Thread nD τ) ((cfg0.win w).stage (cfg0.slots t w)) fullShare X))
      ⊢ wp frame (wpE (defs₀ (F := Ideal)) Variants.none (c : Thread nD τ) none) Set.univ (bodyAt0 t) fun _ =>
        iprop(Pipeline.ΦA spec0 c ∗ (dat m c).owesAt () t.castSucc
          ∗ bigSep (Finset.univ : Finset (Fin 11)) fun w => iprop(∃ X, owns (c : Thread nD τ) ((cfg0.win w).stage (cfg0.slots t w)) fullShare X))
  rw [bigSep_W0]
  iintro ⟨HΦ, Ho, ⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩⟩
  iapply (wp_wand_r frame _ Set.univ)
  isplitr [Ho]
  · iapply (body_wp c t (⟨f0, f1, f2, f3, f4, f5, f6, f7, f8, f9, f10, constant (F := Ideal) S2x8x512x512 .f32 0, constant (F := Ideal) S2x8x512x512 .f32 0, constant (F := Ideal) S8x128x512 .f32 0, constant (F := Ideal) S8x128x512 .f32 0, constant (F := Ideal) S512x128 .f32 0, constant (F := Ideal) S8x8x512 .f32 0, constant (F := Ideal) S2x128x512 .bf16 0, constant (F := Ideal) S2x128x512 .bf16 0, constant (F := Ideal) S512x128 .f32 0, constant (F := Ideal) S512x128 .f32 0, constant (F := Ideal) S512x128 .f32 0, constant (F := Ideal) S2x512x128 .f32 0, constant (F := Ideal) S2x512x128 .f32 0⟩ : St Ideal) (fun _ => True)
      (fun s' _ _ _ _ _ _ _ _ _ _ _ => Wp.mono (body_whole acc1 acc2 acc3 acc4 acc5 acc6 acc7 acc8 acc9 acc10 acc11 acc12 acc13 acc14 acc15 acc16 acc17 acc18 acc19 acc20 acc21 acc22 acc23 acc24 s') fun _ _ _ => trivial))
    isplitl [HΦ]
    · iexact HΦ
    · unfold Win
      isplitl [H0]
      · iexact H0
      isplitl [H1]
      · iexact H1
      isplitl [H2]
      · iexact H2
      isplitl [H3]
      · iexact H3
      isplitl [H4]
      · iexact H4
      isplitl [H5]
      · iexact H5
      isplitl [H6]
      · iexact H6
      isplitl [H7]
      · iexact H7
      isplitl [H8]
      · iexact H8
      isplitl [H9]
      · iexact H9
      iexact H10
  · iintro %_ ⟨%s2, -, HΦ, H0, H1, H2, H3, H4, H5, H6, H7, H8, H9, H10⟩
    isplitl [HΦ]
    · iexact HΦ
    isplitl [Ho]
    · iexact Ho
    isplitl [H0]
    · iexists _; iexact H0
    isplitl [H1]
    · iexists _; iexact H1
    isplitl [H2]
    · iexists _; iexact H2
    isplitl [H3]
    · iexists _; iexact H3
    isplitl [H4]
    · iexists _; iexact H4
    isplitl [H5]
    · iexists _; iexact H5
    isplitl [H6]
    · iexists _; iexact H6
    isplitl [H7]
    · iexists _; iexact H7
    isplitl [H8]
    · iexists _; iexact H8
    isplitl [H9]
    · iexists _; iexact H9
    iexists _; iexact H10

/-- The buffers the host operations after the region write. -/
def T : Finset (Ref sig .tc) := {main_v35, main_v36, main_call1_cst, main_call1_v0, main_v37, main_c, main_v38, main_cst_3, main_v39, main_v40, main_v41, main_v42, main_v43, main_v44, main_v45, main_v46}

theorem sfx_T : ∀ ops ∈ ([hostOps1, hostOps1_1, hostOps1_2] : List (List (HloOp τ sig (Elt Ideal)))), ∀ op ∈ ops,
    ∀ b : Ref sig .tc, Proc.devRef .tc b ∈ op.writes → b ∈ T := by
  intro ops hops op hop b hb
  simp only [List.mem_cons, List.mem_nil_iff, or_false] at hops
  rcases hops with rfl | rfl | rfl
  · simp only [hostOps1, List.mem_cons, List.mem_nil_iff, or_false] at hop
    rcases hop with rfl | rfl
    all_goals simp only [StableHlo.nullary_writes, StableHlo.unary_writes, StableHlo.binary_writes, StableHlo.ternary_writes, StableHlo.reshape_writes, Finset.mem_singleton] at hb; obtain rfl := Proc.devRef_injective _ hb; decide
  · simp only [hostOps1_1, List.mem_cons, List.mem_nil_iff, or_false] at hop
    rcases hop with rfl | rfl | rfl
    all_goals simp only [StableHlo.nullary_writes, StableHlo.unary_writes, StableHlo.binary_writes, StableHlo.ternary_writes, StableHlo.reshape_writes, Finset.mem_singleton] at hb; obtain rfl := Proc.devRef_injective _ hb; decide
  · simp only [hostOps1_2, List.mem_cons, List.mem_nil_iff, or_false] at hop
    rcases hop with rfl | rfl | rfl | rfl | rfl | rfl | rfl | rfl | rfl | rfl | rfl
    all_goals simp only [StableHlo.nullary_writes, StableHlo.unary_writes, StableHlo.binary_writes, StableHlo.ternary_writes, StableHlo.reshape_writes, Finset.mem_singleton] at hb; obtain rfl := Proc.devRef_injective _ hb; decide

/-- The frame: the program runs, and its nine arguments end as they were, every semaphore at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c),
      ((h.1 c).2 main_arg3 (Finset.mem_sdiff.mpr ⟨Pipeline.mem_restRefs_of main_arg3 (by decide) (by decide), by decide⟩)).trans (V_main_arg3 m c),
      ((h.1 c).2 main_arg4 (Finset.mem_sdiff.mpr ⟨Pipeline.mem_restRefs_of main_arg4 (by decide) (by decide), by decide⟩)).trans (V_main_arg4 m c),
      ((h.1 c).2 main_arg5 (Finset.mem_sdiff.mpr ⟨Pipeline.mem_restRefs_of main_arg5 (by decide) (by decide), by decide⟩)).trans (V_main_arg5 m c),
      ((h.1 c).2 main_arg6 (Finset.mem_sdiff.mpr ⟨Pipeline.mem_restRefs_of main_arg6 (by decide) (by decide), by decide⟩)).trans (V_main_arg6 m c),
      ((h.1 c).2 main_arg7 (Finset.mem_sdiff.mpr ⟨Pipeline.mem_restRefs_of main_arg7 (by decide) (by decide), by decide⟩)).trans (V_main_arg7 m c),
      ((h.1 c).2 main_arg8 (Finset.mem_sdiff.mpr ⟨Pipeline.mem_restRefs_of main_arg8 (by decide) (by decide), by decide⟩)).trans (V_main_arg8 m c)⟩, h.2⟩)
    (Pipeline.θ_run_frame_around_T_forget cfgs (dats m) 0 launch0 defs₀ Variants.none (fun _ => true) T m ρ main (fun c => hbody m c)
      (fun c w => (dat m c).share_full (fun _ => rfl) w) (fun _ _ => rfl) (V0 m) [hostOps1, hostOps1_1, hostOps1_2] sfx_sub sfx_fresh sfx_keeps sfx_T (hmain m Variants.none)
      (fun _ _ => rfl) (fun _ _ => rfl)
      (fun r => Pipeline.RDat.FramePostR cfg0 (fun c => (dats m 0 c).toRForget (fun _ => true)) T (fun c b => V0 m c (Proc.devRef .tc b)) r ∧ r.2.sem = fun _ => 0)
      (fun _ h => h))

end Cert.Proof.KernelIdeal

end
-- ==== Proof.Math.lean ====
/-
  The softmax of one row over the extended reals: the row taken relative to any real shift is the row taken relative to
  its maximum.
-/
module

public import Idealize.ShloMosaic.PureOps.Ideal

@[expose] public section

noncomputable section

namespace Cert.Row

open Idealize.ShloMosaic

/-- The largest of the first `n` scores. -/
def mx (n : ℕ) (S : ℕ → EReal) : EReal := (Finset.range n).sup S
/-- The shift: the maximum, or zero where it is infinite. -/
def sh (n : ℕ) (S : ℕ → EReal) : EReal := if max (mx n S) (-mx n S) < ⊤ then mx n S else 0
/-- The logarithm of the sum of the exponentials. -/
def lse (n : ℕ) (S : ℕ → EReal) : EReal := Ideal.log (∑ u ∈ Finset.range n, Ideal.exp (S u - sh n S)) + sh n S
/-- The softmax weight. -/
def P (n : ℕ) (S : ℕ → EReal) (u : ℕ) : EReal := Ideal.exp (S u - lse n S)

theorem P_congr {n : ℕ} {S T : ℕ → EReal} (h : ∀ u < n, S u = T u) {u : ℕ} (hu : u < n) : P n S u = P n T u := by
  have e : mx n S = mx n T := Finset.sup_congr rfl fun w hw => h w (Finset.mem_range.1 hw)
  have e' : sh n S = sh n T := by rw [sh, sh, e]
  rw [P, P, lse, lse, e', h u hu, Finset.sum_congr rfl fun w hw => by rw [h w (Finset.mem_range.1 hw)]]

theorem exp_nonneg (x : EReal) : 0 ≤ Ideal.exp x := by
  induction x with
  | bot => simp
  | top => simp
  | coe r => simp only [Ideal.exp_coe]; exact_mod_cast (Real.exp_pos r).le

theorem exp_sub_add (x : EReal) (a b : ℝ) : Ideal.exp (x - ((a + b : ℝ) : EReal)) = Ideal.exp (x - (a : EReal)) * ((Real.exp (-b) : ℝ) : EReal) := by
  induction x with
  | bot => simp [EReal.bot_sub]
  | top => rw [EReal.top_sub_coe, EReal.top_sub_coe, Ideal.exp_top, EReal.top_mul_coe_of_pos (Real.exp_pos _)]
  | coe r =>
    rw [← EReal.coe_sub, ← EReal.coe_sub, Ideal.exp_coe, Ideal.exp_coe, ← EReal.coe_mul, ← Real.exp_add]
    congr 2; ring

theorem sum_mul {ι : Type} (s : Finset ι) (f : ι → EReal) (a : ℝ) (ha : 0 ≤ a) : (∑ i ∈ s, f i) * (a : EReal) = ∑ i ∈ s, f i * (a : EReal) := by
  classical
  induction s using Finset.induction_on with
  | empty => simp
  | insert i s hi ih =>
    rw [Finset.sum_insert hi, Finset.sum_insert hi, EReal.right_distrib_of_nonneg_of_ne_top (by exact_mod_cast ha) (EReal.coe_ne_top _), ih]

theorem sub_mul' (x y : EReal) (a : ℝ) (ha : 0 ≤ a) : (x - y) * (a : EReal) = x * (a : EReal) - y * (a : EReal) := by
  rw [sub_eq_add_neg, EReal.right_distrib_of_nonneg_of_ne_top (by exact_mod_cast ha) (EReal.coe_ne_top _), EReal.neg_mul, sub_eq_add_neg]

theorem le_sum {ι : Type} (s : Finset ι) (f : ι → EReal) (hf : ∀ i, 0 ≤ f i) (i : ι) (hi : i ∈ s) : f i ≤ ∑ j ∈ s, f j :=
  Finset.single_le_sum (fun j _ => hf j) hi

theorem sum_lt_top {ι : Type} (s : Finset ι) (f : ι → EReal) (hf : ∀ i ∈ s, f i ≠ ⊤) : ∑ j ∈ s, f j ≠ ⊤ := by
  classical
  induction s using Finset.induction_on with
  | empty => simp
  | insert i s hi ih =>
    rw [Finset.sum_insert hi]
    exact EReal.add_ne_top (hf i (Finset.mem_insert_self _ _)) (ih fun j hj => hf j (Finset.mem_insert_of_mem hj))

/-- A real shift: the row of exponentials over their sum is the softmax. -/
theorem softmax (n : ℕ) (S : ℕ → EReal) (μ : ℝ) (L : EReal) (hL : L = ∑ u ∈ Finset.range n, Ideal.exp (S u - (μ : EReal)))
    (h0 : 0 < L) (h1 : L < ⊤) (u : ℕ) : Ideal.exp (S u - (μ : EReal)) * Ideal.div 1 L = P n S u := by
  have hex : ∃ v ∈ Finset.range n, S v ≠ ⊥ := by
    by_contra hc
    push Not at hc
    rw [hL, Finset.sum_congr rfl fun v hv => by rw [hc v hv, EReal.bot_sub, Ideal.exp_bot]] at h0
    simp at h0
  have htop : ∀ v ∈ Finset.range n, S v ≠ ⊤ := by
    intro v hv he
    have := le_sum (Finset.range n) (fun u => Ideal.exp (S u - (μ : EReal))) (fun _ => exp_nonneg _) v hv
    rw [← hL] at this
    simp only [he, EReal.top_sub_coe, Ideal.exp_top, top_le_iff] at this
    exact absurd this h1.ne
  obtain ⟨v, hv, hvb⟩ := hex
  have hne : (Finset.range n).Nonempty := ⟨v, hv⟩
  obtain ⟨w, hw, hwm⟩ := Finset.exists_mem_eq_sup _ hne S
  have hmb : mx n S ≠ ⊥ := fun hb => hvb (le_bot_iff.mp (hb ▸ Finset.le_sup (f := S) hv))
  have hmt : mx n S ≠ ⊤ := by rw [mx, hwm]; exact htop w hw
  lift mx n S to ℝ using ⟨hmt, hmb⟩ with M hM
  have hsh : sh n S = (M : EReal) := by
    rw [sh, ← hM, if_pos]
    exact max_lt (EReal.coe_lt_top _) (by rw [← EReal.coe_neg]; exact EReal.coe_lt_top _)
  lift L to ℝ using ⟨h1.ne, (lt_of_le_of_lt bot_le h0).ne'⟩ with l
  have hl : 0 < l := by exact_mod_cast h0
  have hs : ∑ u ∈ Finset.range n, Ideal.exp (S u - sh n S) = ((l * Real.exp (μ - M) : ℝ) : EReal) := by
    rw [hsh, EReal.coe_mul, hL, sum_mul _ _ _ (Real.exp_pos _).le]
    refine Finset.sum_congr rfl fun x _ => ?_
    have := exp_sub_add (S x) μ (M - μ)
    rw [show μ + (M - μ) = M by ring, show -(M - μ) = μ - M by ring] at this
    exact this
  have hlse : lse n S = ((μ + Real.log l : ℝ) : EReal) := by
    rw [lse, hs, hsh, Ideal.log_coe, if_neg (by have := Real.exp_pos (μ - M); exact not_le.mpr (by positivity)), ← EReal.coe_add,
      Real.log_mul hl.ne' (Real.exp_pos _).ne', Real.log_exp]
    congr 1; ring
  rw [P, hlse, exp_sub_add, Ideal.div_coe hl.ne', one_mul, Real.exp_neg, Real.exp_log hl, one_div]

theorem real_sum (n : ℕ) (S : ℕ → EReal) (w : ℕ) (hw : w ∈ Finset.range n) (hwm : mx n S = S w) (hle : ∀ v ∈ Finset.range n, S v ≤ mx n S)
    (ht : mx n S ≠ ⊤) (hb : mx n S ≠ ⊥) : ∃ l : ℝ, 0 < l ∧ ∑ u ∈ Finset.range n, Ideal.exp (S u - mx n S) = (l : EReal) := by
  generalize hM' : mx n S = M' at *
  lift M' to ℝ using ⟨ht, hb⟩ with M
  have hpos : 0 < ∑ u ∈ Finset.range n, Ideal.exp (S u - (M : EReal)) := by
    refine lt_of_lt_of_le ?_ (le_sum (Finset.range n) (fun u => Ideal.exp (S u - (M : EReal))) (fun _ => exp_nonneg _) w hw)
    rw [← hwm, ← EReal.coe_sub, sub_self, Ideal.exp_coe, Real.exp_zero]; exact_mod_cast one_pos
  have hlt : ∑ u ∈ Finset.range n, Ideal.exp (S u - (M : EReal)) < ⊤ := by
    refine lt_top_iff_ne_top.mpr (sum_lt_top _ _ fun v hv => ?_)
    have := hle v hv
    generalize S v = x at this
    induction x with
    | bot => simp [EReal.bot_sub]
    | top => exact absurd (top_le_iff.mp this) (EReal.coe_ne_top _)
    | coe r => rw [← EReal.coe_sub, Ideal.exp_coe]; exact EReal.coe_ne_top _
  generalize ∑ u ∈ Finset.range n, Ideal.exp (S u - (M : EReal)) = L at hpos hlt
  lift L to ℝ using ⟨hlt.ne, (lt_of_le_of_lt bot_le hpos).ne'⟩ with l
  exact ⟨l, by exact_mod_cast hpos, rfl⟩

/-- The maximum as the shift, in every case: `f` is the factor that the row of exponentials is multiplied by. -/
theorem careful (n : ℕ) (S : ℕ → EReal) (u : ℕ) (hu : u < n) :
    Ideal.exp (S u - mx n S) * Ideal.exp (mx n S - (mx n S + Ideal.log (∑ u ∈ Finset.range n, Ideal.exp (S u - mx n S)))) = P n S u := by
  have hne : (Finset.range n).Nonempty := ⟨u, Finset.mem_range.mpr hu⟩
  obtain ⟨w, hw, hwm⟩ := Finset.exists_mem_eq_sup _ hne S
  change mx n S = S w at hwm
  have hle : ∀ v ∈ Finset.range n, S v ≤ mx n S := fun v hv => Finset.le_sup (f := S) hv
  rcases eq_or_ne (mx n S) ⊥ with hb | hb
  · have : S u = ⊥ := le_bot_iff.mp (hb ▸ hle u (Finset.mem_range.mpr hu))
    rw [P, this, EReal.bot_sub, EReal.bot_sub, Ideal.exp_bot, zero_mul]
  rcases eq_or_ne (mx n S) ⊤ with ht | ht
  · have hsh : sh n S = 0 := by rw [sh, ht, if_neg]; simp
    have hsum : ∑ u ∈ Finset.range n, Ideal.exp (S u - sh n S) = ⊤ := by
      have := le_sum (Finset.range n) (fun u => Ideal.exp (S u - sh n S)) (fun _ => exp_nonneg _) w hw
      rw [← hwm, ht, hsh, sub_zero, Ideal.exp_top, top_le_iff] at this
      rw [hsh]; exact this
    have hlse : lse n S = ⊤ := by rw [lse, hsum, hsh, Ideal.log_top, add_zero]
    rw [P, hlse, ht, sub_eq_add_neg, EReal.neg_top, EReal.add_bot, Ideal.exp_bot, zero_mul]
  obtain ⟨l, hl, h⟩ := real_sum n S w hw hwm hle ht hb
  generalize hM' : mx n S = M' at *
  lift M' to ℝ using ⟨ht, hb⟩ with M
  rw [← softmax n S M _ rfl (by rw [h]; exact_mod_cast hl) (by rw [h]; exact EReal.coe_lt_top _) u, h]
  congr 1
  rw [Ideal.log_coe, if_neg (not_le.mpr hl), ← EReal.coe_add, ← EReal.coe_sub, Ideal.exp_coe, Ideal.div_coe hl.ne', one_mul,
    show M - (M + Real.log l) = -Real.log l by ring, Real.exp_neg, Real.exp_log hl, one_div]

/-- The careful factor is a nonnegative real, or every exponential of the row is zero. -/
theorem factor (n : ℕ) (S : ℕ → EReal) (hn : 0 < n) :
    (∃ x : ℝ, 0 ≤ x ∧ Ideal.exp (mx n S - (mx n S + Ideal.log (∑ u ∈ Finset.range n, Ideal.exp (S u - mx n S)))) = (x : EReal))
      ∨ ∀ u < n, Ideal.exp (S u - mx n S) = 0 := by
  have hne : (Finset.range n).Nonempty := ⟨0, Finset.mem_range.mpr hn⟩
  obtain ⟨w, hw, hwm⟩ := Finset.exists_mem_eq_sup _ hne S
  change mx n S = S w at hwm
  have hle : ∀ v ∈ Finset.range n, S v ≤ mx n S := fun v hv => Finset.le_sup (f := S) hv
  rcases eq_or_ne (mx n S) ⊥ with hb | hb
  · refine .inr fun u hu => ?_
    have : S u = ⊥ := le_bot_iff.mp (hb ▸ hle u (Finset.mem_range.mpr hu))
    rw [this, EReal.bot_sub, Ideal.exp_bot]
  rcases eq_or_ne (mx n S) ⊤ with ht | ht
  · refine .inr fun u hu => ?_
    rw [ht, sub_eq_add_neg, EReal.neg_top, EReal.add_bot, Ideal.exp_bot]
  obtain ⟨l, hl, h⟩ := real_sum n S w hw hwm hle ht hb
  refine .inl ⟨1 / l, by positivity, ?_⟩
  rw [h, one_div]
  generalize mx n S = M' at *
  lift M' to ℝ using ⟨ht, hb⟩ with M
  rw [Ideal.log_coe, if_neg (not_le.mpr hl), ← EReal.coe_add, ← EReal.coe_sub, Ideal.exp_coe,
    show M - (M + Real.log l) = -Real.log l by ring, Real.exp_neg, Real.exp_log hl]

/-- A base-two exponential of scaled scores, as a natural exponential of the scores shifted. -/
theorem exp2_eq (x : EReal) (q c b m : ℝ) (d : ℝ) :
    Ideal.exp2 (x * ((q : EReal) * (((Real.log 2)⁻¹ : ℝ) : EReal)) + ((b : EReal) - (d : EReal)) * (((Real.log 2)⁻¹ : ℝ) : EReal) - (m : EReal))
      = Ideal.exp ((x * (q : EReal) + (c : EReal) - (d : EReal)) - ((m * Real.log 2 + c - b : ℝ) : EReal)) := by
  have h2 : 0 < Real.log 2 := Real.log_pos (by norm_num)
  have hi : 0 < (Real.log 2)⁻¹ := inv_pos.mpr h2
  rw [← mul_assoc]
  generalize x * (q : EReal) = y
  induction y with
  | bot =>
    rw [EReal.bot_mul_coe_of_pos hi]
    simp [EReal.bot_sub]
  | top =>
    rw [EReal.top_mul_coe_of_pos hi, ← EReal.coe_sub, ← EReal.coe_mul, EReal.top_add_coe, EReal.top_add_coe, EReal.top_sub_coe,
      EReal.top_sub_coe, EReal.top_sub_coe, Ideal.exp2_top, Ideal.exp_top]
  | coe y =>
    norm_cast
    rw [Ideal.exp2_coe, Ideal.exp_coe]
    congr 1
    rw [Real.rpow_eq_pow, Real.rpow_def_of_pos (by norm_num)]
    congr 1
    field_simp
    ring

end Cert.Row
-- ==== Proof.Spec.lean ====
/-
  The results as plain sums over the arguments, read at natural-number coordinates.
-/
module

public import proofs.«01_k».proof.Proof.Math
public import proofs.«01_k».proof.Proof.Grid

@[expose] public section

noncomputable section

namespace Cert.Spec

open Cert.Grid Idealize.ShloMosaic Finset

abbrev X4 := (⟨4, ![3, 4096, 20, 128]⟩ : Shape).Idx → EReal
abbrev X3 := (⟨3, ![3, 4096, 20]⟩ : Shape).Idx → EReal
abbrev X2 := (⟨2, ![3, 20]⟩ : Shape).Idx → EReal

/-- One over the square root of the head size, as rounded to thirty-two bits. -/
def SM : EReal := Ideal.ofBits .f32 0x3DB504F3#32

/-- Running sums along the second axis. -/
def cum (x : X3) : X3 :=
  Host.reduceWindowAdd (F := Ideal) (φ := .f32) (s := ⟨3, ![3, 4096, 20]⟩) (t := ⟨3, ![3, 4096, 20]⟩) (u := ⟨0, ![]⟩) ![1, 4096, 1] ![1, 1, 1] ![0, 4095, 0] ![0, 0, 0] x
    (broadcastInDim (s := ⟨0, ![]⟩) ⟨0, ![]⟩ ![] (by decide) (constant ⟨0, ![]⟩ .f32 0#32))

variable (q k v g : X4) (qs ks vs gs : X2) (C : X3) (b h : ℕ)

/-- The masked scores of row `t`. -/
def S (t u : ℕ) : EReal :=
  if u ≤ t then (∑ d ∈ range 128, g4 q b t h d * g4 k b u h d) * (SM * g2 qs b h * g2 ks b h) + g3 C b t h - g3 C b u h else ⊥
/-- The softmax weights. -/
def P (t u : ℕ) : EReal := Row.P 4096 (S q k qs ks C b h t) u
/-- Their gradient. -/
def Dp (t u : ℕ) : EReal := (∑ d ∈ range 128, g4 g b t h d * g4 v b u h d) * (g2 gs b h * g2 vs b h)
/-- The gradient of the scores. -/
def DS (t u : ℕ) : EReal :=
  P q k qs ks C b h t u * (Dp v g vs gs b h t u - ∑ w ∈ range 4096, P q k qs ks C b h t w * Dp v g vs gs b h t w)

/-- The same gradients before the scales of the output gradient and of the values. -/
def Dp0 (t u : ℕ) : EReal := ∑ d ∈ range 128, g4 g b t h d * g4 v b u h d
def DS0 (t u : ℕ) : EReal :=
  P q k qs ks C b h t u * (Dp0 v g b h t u - ∑ w ∈ range 4096, P q k qs ks C b h t w * Dp0 v g b h t w)

theorem DS_eq (a : ℝ) (ha : 0 ≤ a) (e : g2 gs b h * g2 vs b h = (a : EReal)) (t u : ℕ) :
    DS q k v g qs ks vs gs C b h t u = DS0 q k v g qs ks C b h t u * (a : EReal) := by
  have hD (w : ℕ) : Dp v g vs gs b h t w = Dp0 v g b h t w * (a : EReal) := by rw [Dp, e]; rfl
  rw [DS, DS0, mul_assoc, Row.sub_mul' _ _ a ha, Row.sum_mul _ _ a ha, hD]
  simp only [hD, mul_assoc]

theorem sum_scale (f x : ℕ → EReal) (a : ℝ) (ha : 0 ≤ a) (z : EReal) (n : ℕ) :
    (∑ u ∈ range n, f u * (a : EReal) * x u) * z = (∑ u ∈ range n, f u * x u) * (z * (a : EReal)) := by
  rw [mul_comm z, ← mul_assoc, Row.sum_mul _ _ a ha]
  exact congrArg (· * z) (sum_congr rfl fun u _ => by rw [mul_right_comm])

end Cert.Spec
end
-- ==== Proof.Fin.lean ====
/-
  What the condition on the arguments gives: finite running sums and finite scales.
-/
module

public import proofs.«01_k».proof.Defs
public import proofs.«01_k».proof.Proof.Spec
public import Idealize.ShloMosaic.Lib.ReduceAll
public import Idealize.ShloMosaic.Lib.IdealHost
public import Idealize.ShloMosaic.Lib.Affine

@[expose] public section

noncomputable section

namespace Cert.Spec

open Cert.Grid Idealize.ShloMosaic

def Fin' (x : EReal) : Prop := ∃ r : ℝ, x = (r : EReal)

theorem fin_add {x y : EReal} : Fin' x → Fin' y → Fin' (x + y) := fun ⟨a, ha⟩ ⟨b, hb⟩ => ⟨a + b, by rw [ha, hb, EReal.coe_add]⟩
theorem fin_mul {x y : EReal} : Fin' x → Fin' y → Fin' (x * y) := fun ⟨a, ha⟩ ⟨b, hb⟩ => ⟨a * b, by rw [ha, hb, EReal.coe_mul]⟩
theorem fin_zero : Fin' 0 := ⟨0, rfl⟩
theorem fin_abs {x : EReal} (h : max x (-x) < ⊤) : Fin' x := by
  induction x with
  | bot => simp at h
  | top => simp at h
  | coe r => exact ⟨r, rfl⟩

theorem fin_SM : Fin' SM := by
  unfold Fin' SM Ideal.ofBits Ideal.ieee
  simp
  exact ⟨11863283 * ((2 ^ 27 : ℝ))⁻¹, by rw [EReal.coe_mul]⟩

theorem fin_fold {ι : Type} (l : List ι) (f : ι → EReal) (hf : ∀ i, Fin' (f i)) (v : EReal) (hv : Fin' v) : Fin' (l.foldl (fun r n => r + f n) v) := by
  induction l generalizing v with
  | nil => exact hv
  | cons a l ih => exact ih _ (fin_add hv (hf a))

theorem fin_win {s u t : Shape} (w st lo hi : Fin s.rank → ℕ) (x : FVec Ideal s .f32) (z : FVec Ideal u .f32) (h : s.ReduceWindows w st lo hi t) (hu : 0 < u.numel)
    (hx : ∀ i, Fin' (x i)) (hz : ∀ i, Fin' (z i)) (i : t.Idx) : Fin' (Host.reduceWindowAdd w st lo hi x z h hu i) := by
  refine fin_fold _ _ (fun n => ?_) _ (hz _)
  split
  · exact hx _
  · exact hz _

theorem fin_cum (x : X3) (hx : ∀ i, Fin' (x i)) (i) : Fin' (cum x i) :=
  fin_win _ _ _ _ x _ _ _ hx (fun _ => ⟨0, Ideal.ofBits_zero_f32⟩) i

theorem fin_g3 (x : X3) (hx : ∀ i, Fin' (x i)) (b i h : ℕ) : Fin' (g3 x b i h) := by
  unfold g3; split
  · exact hx _
  · exact fin_zero
theorem fin_g2 (x : X2) (hx : ∀ i, Fin' (x i)) (b h : ℕ) : Fin' (g2 x b h) := by
  unfold g2; split
  · exact hx _
  · exact fin_zero
theorem nonneg_g2 (x : X2) (hx : ∀ i, 0 ≤ x i) (b h : ℕ) : 0 ≤ g2 x b h := by
  unfold g2; split
  · exact hx _
  · exact le_rfl

theorem inf_top : Ideal.ofBits .f32 2139095040#32 = ⊤ := by
  unfold Ideal.ofBits Ideal.ieee
  simp
theorem lt_of {x y : EReal} (h : BitVec.ofBool (decide (x < y)) = 1#1) : x < y := by
  by_contra c
  rw [decide_eq_false c] at h
  exact absurd h (by decide)
theorem le_of {x y : EReal} (h : BitVec.ofBool (decide (x ≤ y)) = 1#1) : x ≤ y := by
  by_contra c
  rw [decide_eq_false c] at h
  exact absurd h (by decide)
theorem fin_of {x : EReal} (h : max x (-x) < Ideal.ofBits .f32 2139095040#32) : Fin' x := fin_abs (h.trans_eq inf_top)
theorem pos_of {x : EReal} (h0 : Ideal.ofBits .f32 0#32 ≤ x) (h : x < Ideal.ofBits .f32 2139095040#32) : 0 ≤ x ∧ Fin' x := by
  rw [Ideal.ofBits_zero_f32] at h0
  rw [inf_top] at h
  lift x to ℝ using ⟨h.ne, fun e => absurd (e ▸ h0) (by simp)⟩
  exact ⟨h0, x, rfl⟩

theorem facts : Cert.Pre_finite_scales.Facts := by
  constructor <;> decide

variable [Cert.Pre_finite_scales.Facts]

theorem pre (q : FVec Ideal ⟨4, ![3, 4096, 20, 128]⟩ .fp8e4m3) (qs : X2) (k : FVec Ideal ⟨4, ![3, 4096, 20, 128]⟩ .fp8e4m3) (ks : X2) (v : FVec Ideal ⟨4, ![3, 4096, 20, 128]⟩ .fp8e4m3) (vs : X2)
    (g : FVec Ideal ⟨4, ![3, 4096, 20, 128]⟩ .fp8e5m2) (gs : X2) (f : X3)
    (h : Cert.Pre_finite_scales.fn (F := Ideal) q qs k ks v vs g gs f = fun _ => 1#1) :
    (∀ i, Fin' (f i)) ∧ (∀ i, Fin' (qs i)) ∧ (∀ i, Fin' (ks i)) ∧ (∀ i, 0 ≤ vs i ∧ Fin' (vs i)) ∧ (∀ i, 0 ≤ gs i ∧ Fin' (gs i)) := by
  have e := congrFun h ValueIdx.ix0
  dsimp only [Cert.Pre_finite_scales.fn, Cert.Pre_finite_scales.fn_part1, andi] at e
  obtain ⟨e, e5⟩ := IntOp.andi_eq_one.1 e
  obtain ⟨e, e4⟩ := IntOp.andi_eq_one.1 e
  obtain ⟨e, e3⟩ := IntOp.andi_eq_one.1 e
  obtain ⟨e1, e2⟩ := IntOp.andi_eq_one.1 e
  refine ⟨fun i => fin_of (lt_of (Host.reduce_andi_all _ _ _ _ _ e1 i)), fun i => fin_of (lt_of (Host.reduce_andi_all _ _ _ _ _ e2 i)),
    fun i => fin_of (lt_of (Host.reduce_andi_all _ _ _ _ _ e3 i)), fun i => ?_, fun i => ?_⟩
  · obtain ⟨a, b⟩ := IntOp.andi_eq_one.1 (Host.reduce_andi_all _ _ _ _ _ e4 i)
    exact pos_of (le_of a) (lt_of b)
  · obtain ⟨a, b⟩ := IntOp.andi_eq_one.1 (Host.reduce_andi_all _ _ _ _ _ e5 i)
    exact pos_of (le_of a) (lt_of b)

end Cert.Spec
end
-- ==== Proof.Inv.lean ====
/-
  One row tile: after its normalisers are written, the slot holds the softmax weights, the products and the row constants
  of the plain formulas.
-/
module

public import proofs.«01_k».proof.Proof.Rel
public import proofs.«01_k».proof.Proof.Math

@[expose] public section

noncomputable section

namespace Cert.Proof.KernelIdeal

open Cert.KernelIdeal Cert.KernelIdeal.Gen Cert.Hoare Cert.Grid
open Idealize.ShloMosaic hiding ix1 ix2 ix3 ix4 eq_ix1 eq_ix2 eq_ix3 eq_ix4

theorem LG_eq : LG = (((Real.log 2)⁻¹ : ℝ) : EReal) := rfl

/-! ## Sums by tiles -/

def blk (f : ℕ → EReal) (z : ℕ) : EReal := f z + f (128 + z) + f (256 + z) + f (384 + z)

theorem sum_blk (f : ℕ → EReal) : ∑ z ∈ Finset.range 128, blk f z = ∑ c ∈ Finset.range 512, f c := by
  rw [show 512 = 128 + 128 + 128 + 128 from rfl, Finset.sum_range_add, Finset.sum_range_add, Finset.sum_range_add]
  simp only [blk, Finset.sum_add_distrib]

theorem sum_tiles (g : ℕ → EReal) (n : ℕ) : ∑ j ∈ Finset.range n, ∑ c ∈ Finset.range 512, g (512 * j + c) = ∑ u ∈ Finset.range (512 * n), g u := by
  induction n with
  | zero => simp
  | succ n ih => rw [Finset.sum_range_succ, ih, show 512 * (n + 1) = 512 * n + 512 by ring, Finset.sum_range_add]

theorem sum_ext (g : ℕ → EReal) (m n : ℕ) (h : m ≤ n) (hz : ∀ u, m ≤ u → g u = 0) : ∑ u ∈ Finset.range m, g u = ∑ u ∈ Finset.range n, g u :=
  Finset.sum_subset (Finset.range_mono h) fun u _ hu => hz u (Nat.le_of_not_lt fun h => hu (Finset.mem_range.mpr h))

theorem rowsum (g : ℕ → EReal) (i : ℕ) (hi : i < 8) (hz : ∀ u, 512 * (i + 1) ≤ u → g u = 0) :
    ∑ z ∈ Finset.range 128, (blk (fun c => g (512 * i + c)) z + ∑ j ∈ Finset.range i, blk (fun c => g (512 * j + c)) z)
      = ∑ u ∈ Finset.range 4096, g u := by
  rw [Finset.sum_add_distrib, Finset.sum_comm, sum_blk, Finset.sum_congr rfl fun j _ => sum_blk fun c => g (512 * j + c), add_comm,
    ← Finset.sum_range_succ (fun j => ∑ c ∈ Finset.range 512, g (512 * j + c)), sum_tiles, sum_ext g _ 4096 (by omega) hz]

theorem rowsum' (g : ℕ → EReal) (i : ℕ) (hi : i < 8) (hz : ∀ u, 512 * (i + 1) ≤ u → g u = 0) :
    ∑ z ∈ Finset.range 128, (∑ j ∈ Finset.range (i + 1), blk (fun c => g (512 * j + c)) z) = ∑ u ∈ Finset.range 4096, g u := by
  rw [Finset.sum_comm, Finset.sum_congr rfl fun j _ => sum_blk fun c => g (512 * j + c), sum_tiles, sum_ext g _ 4096 (by omega) hz]

theorem sum_eights (f : ℕ → EReal) : ∑ z ∈ Finset.range 8, ((∑ a ∈ Finset.range 32, f (8 * a + z)) + ∑ a ∈ Finset.range 32, f (256 + (8 * a + z)))
    = ∑ r ∈ Finset.range 512, f r := by
  have key : ∀ (g : ℕ → EReal) (n : ℕ), ∑ a ∈ Finset.range n, ∑ z ∈ Finset.range 8, g (8 * a + z) = ∑ u ∈ Finset.range (8 * n), g u := by
    intro g n
    induction n with
    | zero => simp
    | succ n ih => rw [Finset.sum_range_succ, ih, show 8 * (n + 1) = 8 * n + 8 by ring, Finset.sum_range_add]
  rw [Finset.sum_add_distrib, Finset.sum_comm, key f 32, Finset.sum_comm, key (fun u => f (256 + u)) 32, show 512 = 256 + 256 from rfl,
    Finset.sum_range_add]

/-! ## The inputs -/

/-- The staged inputs are those of `s₀`. -/
structure Same (s₀ s : St Ideal) : Prop where
  a1 : s.a1 = s₀.a1
  a2 : s.a2 = s₀.a2
  a3 : s.a3 = s₀.a3
  a4 : s.a4 = s₀.a4
  a5 : s.a5 = s₀.a5
  a6 : s.a6 = s₀.a6
  a7 : s.a7 = s₀.a7

theorem Same.trans {s₀ s s' : St Ideal} (H : Same s₀ s) (H' : Same s s') : Same s₀ s' :=
  ⟨H'.a1.trans H.a1, H'.a2.trans H.a2, H'.a3.trans H.a3, H'.a4.trans H.a4, H'.a5.trans H.a5, H'.a6.trans H.a6, H'.a7.trans H.a7⟩

theorem Same.sc {s₀ s : St Ideal} (H : Same s₀ s) (t u : ℕ) : Sc s t u = Sc s₀ t u := by rw [Sc, Sc, H.a3, H.a4]
theorem Same.dp {s₀ s : St Ideal} (H : Same s₀ s) (t u : ℕ) : Dp s t u = Dp s₀ t u := by rw [Dp, Dp, H.a5, H.a6]
theorem Same.xs {s₀ s : St Ideal} (H : Same s₀ s) (v2 : EReal) (b i r j c : ℕ) : Xs s v2 b i r j c = Xs s₀ v2 b i r j c := by
  rw [Xs, Xs, H.sc, H.a2, H.a7]
theorem Same.mx {s₀ s : St Ideal} (H : Same s₀ s) (v2 : EReal) (b i r : ℕ) : Mx s v2 b i r = Mx s₀ v2 b i r := by
  simp only [Mx, Xd, H.xs]

/-- The scales and the decays are finite. -/
structure Hyp (b : ℕ) (s : St Ideal) : Prop where
  q : ∃ q : ℝ, g2 s.a1 b 0 = (q : EReal) ∧ g2 s.a1 b 5 = (q : EReal)
  c : ∀ j z, j < 8 → z < 512 → ∃ x : ℝ, g3 s.a7 0 j z = (x : EReal)
  cb : ∀ j, j < 8 → ∃ x : ℝ, g2 s.a2 b j = (x : EReal)

/-- The cumulated decay of row `t`. -/
def cc (s : St Ideal) (t : ℕ) : EReal := g3 s.a7 0 (t / 512) (t % 512)

theorem cc_at (s : St Ideal) (j z : ℕ) (hz : z < 512) : cc s (512 * j + z) = g3 s.a7 0 j z := by
  rw [cc, show (512 * j + z) / 512 = j by omega, show (512 * j + z) % 512 = z by omega]

/-- The masked score of row `t` against column `u`. -/
def SS (s : St Ideal) (b t u : ℕ) : EReal := if u ≤ t then Sc s t u * g2 s.a1 b 5 + cc s t - cc s u else ⊥
/-- The softmax weight. -/
def PP (s : St Ideal) (b t u : ℕ) : EReal := Row.P 4096 (SS s b t) u
/-- The row constant of the softmax gradient. -/
def DL (s : St Ideal) (b t : ℕ) : EReal := ∑ u ∈ Finset.range 4096, PP s b t u * Dp s t u
/-- The gradient of the score. -/
def DS (s : St Ideal) (b t u : ℕ) : EReal := PP s b t u * (Dp s t u - DL s b t)

theorem PP_zero (s : St Ideal) (b t u : ℕ) (h : t < u) : PP s b t u = 0 := by
  rw [PP, Row.P, SS, if_neg (by omega), EReal.bot_sub, Ideal.exp_bot]
theorem DS_zero (s : St Ideal) (b t u : ℕ) (h : t < u) : DS s b t u = 0 := by rw [DS, PP_zero s b t u h, zero_mul]

/-- Slot `p` is finished for row tile `i`. -/
structure Fin0 (s₀ : St Ideal) (b p i : ℕ) (s : St Ideal) : Prop where
  pw : ∀ j r c, j < i + 1 → r < 512 → c < 512 → Pw s p j r c = PP s₀ b (512 * i + r) (512 * j + c)
  dp : ∀ j r c, j < i + 1 → r < 512 → c < 512 → g4 s.a13 p j r c = Dp s₀ (512 * i + r) (512 * j + c)
  dl : ∀ r z, r < 512 → z < 128 → g3 s.a24 p r z = DL s₀ b (512 * i + r)

theorem Fin0.ds {s₀ : St Ideal} {b p i : ℕ} {s : St Ideal} (H : Fin0 s₀ b p i s) (j r c : ℕ) (hj : j < i + 1) (hr : r < 512) (hc : c < 512) :
    Ds s p j r c = DS s₀ b (512 * i + r) (512 * j + c) := by
  rw [Ds, DS, H.pw j r c hj hr hc, H.dp j r c hj hr hc, H.dl r _ hr (by omega)]

/-! ## The fast pass -/

/-- The fast exponential of row `512 i + r` against column `u`. -/
def GE (s : St Ideal) (v2 : EReal) (b i r u : ℕ) : EReal :=
  Ideal.exp2 ((if u ≤ 512 * i + r then Sc s (512 * i + r) u * v2 + (g2 s.a2 b i - cc s u) * LG else ⊥) - Mx s v2 b i r)

theorem GE_zero (s : St Ideal) (v2 : EReal) (b i r u : ℕ) (h : 512 * i + r < u) : GE s v2 b i r u = 0 := by
  rw [GE, if_neg (by omega), EReal.bot_sub, Ideal.exp2_bot]

theorem Ed_GE {s₀ s : St Ideal} (H : Same s₀ s) (v2 : EReal) (b i r c : ℕ) (hc : c < 512) : Ed s v2 b i r c = GE s₀ v2 b i r (512 * i + c) := by
  rw [Ed, GE, Xd, H.mx, H.xs, Xs, cc_at s₀ i c hc]
  by_cases h : c ≤ r
  · rw [if_pos h, if_pos (by omega)]
  · rw [if_neg h, if_neg (by omega)]

/-- The fast pass of row tile `i`, after `n` column tiles and the diagonal one. -/
structure Fwd (s₀ : St Ideal) (v2 : EReal) (b p i n : ℕ) (s : St Ideal) : Prop where
  same : Same s₀ s
  m : ∀ r z, r < 512 → z < 128 → g2 s.a20 r z = Mx s₀ v2 b i r
  e : ∀ j r c, (j = i ∨ j < n) → r < 512 → c < 512 → g4 s.a12 p j r c = GE s₀ v2 b i r (512 * j + c)
  d : ∀ j r c, (j = i ∨ j < n) → r < 512 → c < 512 → g4 s.a13 p j r c = Dp s₀ (512 * i + r) (512 * j + c)
  l : ∀ r z, r < 512 → z < 128 → g2 s.a21 r z
    = blk (fun c => GE s₀ v2 b i r (512 * i + c)) z + ∑ j ∈ Finset.range n, blk (fun c => GE s₀ v2 b i r (512 * j + c)) z
  dl : ∀ r z, r < 512 → z < 128 → g2 s.a22 r z
    = blk (fun c => GE s₀ v2 b i r (512 * i + c) * Dp s₀ (512 * i + r) (512 * i + c)) z
      + ∑ j ∈ Finset.range n, blk (fun c => GE s₀ v2 b i r (512 * j + c) * Dp s₀ (512 * i + r) (512 * j + c)) z
  qt : ∀ d r, d < 128 → r < 512 → g3 s.a18 p d r = g3 s₀.a3 0 (512 * i + r) d
  dt : ∀ d r, d < 128 → r < 512 → g3 s.a19 p d r = g3 s₀.a6 0 (512 * i + r) d

theorem DiagPost.same {v2 : EReal} {b p i : ℕ} {s s' : St Ideal} (h : DiagPost v2 b p i s s') : Same s s' := by
  constructor <;> rw [h.fr]

theorem Fwd.start {s₀ s s' : St Ideal} {v2 : EReal} {b p i : ℕ} (H : Same s₀ s) (h : DiagPost v2 b p i s s') : Fwd s₀ v2 b p i 0 s' where
  same := H.trans h.same
  m := fun r z hr hz => by rw [h.m r z hr hz, H.mx]
  e := fun j r c hj hr hc => by
    obtain rfl : j = i := by omega
    rw [h.e _ _ _ _ hr hc, if_pos ⟨rfl, rfl⟩, Ed_GE H _ _ _ _ _ hc]
  d := fun j r c hj hr hc => by
    obtain rfl : j = i := by omega
    rw [h.d _ _ _ _ hr hc, if_pos ⟨rfl, rfl⟩, H.dp]
  l := fun r z hr hz => by
    rw [h.l r z hr hz, Finset.sum_range_zero, add_zero, blk, Ed_GE H _ _ _ _ _ (by omega), Ed_GE H _ _ _ _ _ (by omega),
      Ed_GE H _ _ _ _ _ (by omega), Ed_GE H _ _ _ _ _ (by omega)]
  dl := fun r z hr hz => by
    rw [h.dl r z hr hz, Finset.sum_range_zero, add_zero, blk, Ed_GE H _ _ _ _ _ (by omega), Ed_GE H _ _ _ _ _ (by omega),
      Ed_GE H _ _ _ _ _ (by omega), Ed_GE H _ _ _ _ _ (by omega), H.dp, H.dp, H.dp, H.dp]
  qt := fun d r hd hr => by rw [h.qt _ _ _ hd hr, if_pos rfl, H.a3]
  dt := fun d r hd hr => by rw [h.dt _ _ _ hd hr, if_pos rfl, H.a6]

theorem Fwd.en {s₀ s : St Ideal} {v2 : EReal} {b p i n : ℕ} (H : Fwd s₀ v2 b p i n s) (hn : n < i) (r c : ℕ) (hr : r < 512) (hc : c < 512) :
    En s v2 b i r n c = GE s₀ v2 b i r (512 * n + c) := by
  rw [En, GE, H.m r _ hr (by omega), H.same.xs, Xs, cc_at s₀ n c hc, if_pos (by omega)]

theorem Fwd.step {s₀ s s' : St Ideal} {v2 : EReal} {b p i n : ℕ} (H : Fwd s₀ v2 b p i n s) (hn : n < i) (h : FwdPost v2 b p i n s s')
    (hs : Same s s') (h20 : s'.a20 = s.a20) (h18 : s'.a18 = s.a18) (h19 : s'.a19 = s.a19) : Fwd s₀ v2 b p i (n + 1) s' where
  same := H.same.trans hs
  m := fun r z hr hz => by rw [h20, H.m r z hr hz]
  e := fun j r c hj hr hc => by
    rw [h.e _ _ _ _ hr hc]
    by_cases hjn : j = n
    · subst hjn; rw [if_pos ⟨rfl, rfl⟩, H.en hn r c hr hc]
    · rw [if_neg (by tauto), H.e j r c (by omega) hr hc]
  d := fun j r c hj hr hc => by
    rw [h.d _ _ _ _ hr hc]
    by_cases hjn : j = n
    · subst hjn; rw [if_pos ⟨rfl, rfl⟩, H.same.dp]
    · rw [if_neg (by tauto), H.d j r c (by omega) hr hc]
  l := fun r z hr hz => by
    rw [h.l r z hr hz, H.l r z hr hz, Finset.sum_range_succ, H.en hn r _ hr (by omega), H.en hn r _ hr (by omega), H.en hn r _ hr (by omega),
      H.en hn r _ hr (by omega)]
    simp only [blk, add_assoc]
  dl := fun r z hr hz => by
    rw [h.dl r z hr hz, H.dl r z hr hz, Finset.sum_range_succ, H.en hn r _ hr (by omega), H.en hn r _ hr (by omega), H.en hn r _ hr (by omega),
      H.en hn r _ hr (by omega), H.same.dp, H.same.dp, H.same.dp, H.same.dp]
    simp only [blk, add_assoc]
  qt := fun d r hd hr => by rw [h18, H.qt d r hd hr]
  dt := fun d r hd hr => by rw [h19, H.dt d r hd hr]

theorem GE_nonneg (s : St Ideal) (v2 : EReal) (b i r u : ℕ) : 0 ≤ GE s v2 b i r u := by
  rw [GE]
  generalize (_ : EReal) - (_ : EReal) = x
  induction x with
  | bot => simp
  | top => simp
  | coe y => rw [Ideal.exp2_coe, Real.rpow_eq_pow]; exact_mod_cast (Real.rpow_pos_of_pos (by norm_num) y).le

/-- The fast exponential as a natural exponential of the score, shifted by a real. -/
theorem GE_exp {s : St Ideal} {b i r : ℕ} (hi : i < 8) (hr : r < 512) (H : Hyp b s) {v2 : EReal} (hv : v2 = g2 s.a1 b 0 * LG) (m : ℝ)
    (hm : Mx s v2 b i r = (m : EReal)) : ∃ μ : ℝ, ∀ u < 4096, GE s v2 b i r u = Ideal.exp (SS s b (512 * i + r) u - (μ : EReal)) := by
  obtain ⟨q, hq0, hq5⟩ := H.q
  obtain ⟨x, hx⟩ := H.cb i hi
  obtain ⟨y, hy⟩ := H.c i r hi hr
  refine ⟨m * Real.log 2 + y - x, fun u hu => ?_⟩
  obtain ⟨z, hz⟩ := H.c (u / 512) (u % 512) (by omega) (by omega)
  rw [GE, SS, hm]
  by_cases h : u ≤ 512 * i + r
  · rw [if_pos h, if_pos h, hv, hq0, hq5, hx, cc_at s i r hr, hy, cc, hz, LG_eq, Row.exp2_eq _ q y x m z]
  · rw [if_neg h, if_neg h, EReal.bot_sub, EReal.bot_sub, Ideal.exp2_bot, Ideal.exp_bot]

/-- The largest fast exponent is taken, so that one exponential is one. -/
theorem GE_one {s : St Ideal} {b i r : ℕ} {v2 : EReal} (hi : i < 8) (m : ℝ) (hm : Mx s v2 b i r = (m : EReal)) :
    ∃ u < 4096, GE s v2 b i r u = 1 := by
  have key : ∃ c < 512, Xd s v2 b i r c = Mx s v2 b i r := by
    obtain ⟨z, hz, hm⟩ := Finset.exists_mem_eq_sup (Finset.range 128) ⟨0, by simp⟩
      fun z => max (max (max (Xd s v2 b i r z) (Xd s v2 b i r (128 + z))) (Xd s v2 b i r (256 + z))) (Xd s v2 b i r (384 + z))
    have hz := Finset.mem_range.mp hz
    change Mx s v2 b i r = _ at hm
    rw [hm]
    rcases max_choice (max (max (Xd s v2 b i r z) (Xd s v2 b i r (128 + z))) (Xd s v2 b i r (256 + z))) (Xd s v2 b i r (384 + z)) with h | h <;> rw [h]
    · rcases max_choice (max (Xd s v2 b i r z) (Xd s v2 b i r (128 + z))) (Xd s v2 b i r (256 + z)) with h | h <;> rw [h]
      · rcases max_choice (Xd s v2 b i r z) (Xd s v2 b i r (128 + z)) with h | h <;> rw [h]
        · exact ⟨z, by omega, rfl⟩
        · exact ⟨128 + z, by omega, rfl⟩
      · exact ⟨256 + z, by omega, rfl⟩
    · exact ⟨384 + z, by omega, rfl⟩
  obtain ⟨c, hc, h⟩ := key
  refine ⟨512 * i + c, by omega, ?_⟩
  rw [← Ed_GE ⟨rfl, rfl, rfl, rfl, rfl, rfl, rfl⟩ v2 b i r c hc, Ed, h, hm, ← EReal.coe_sub, sub_self, Ideal.exp2_coe, Real.rpow_eq_pow,
    Real.rpow_zero, EReal.coe_one]

/-- The row constant, from the unnormalised row. -/
theorem DL_of {s : St Ideal} {b t : ℕ} (e : ℕ → EReal) (f : EReal) (h : ∀ u < 4096, e u * f = PP s b t u)
    (hf : (∃ x : ℝ, 0 ≤ x ∧ f = (x : EReal)) ∨ ∀ u < 4096, e u = 0) :
    (∑ u ∈ Finset.range 4096, e u * Dp s t u) * f = DL s b t := by
  rw [DL]
  rcases hf with ⟨x, hx, rfl⟩ | h0
  · rw [Row.sum_mul _ _ _ hx]
    refine Finset.sum_congr rfl fun u hu => ?_
    rw [← h u (Finset.mem_range.mp hu), mul_right_comm]
  · rw [Finset.sum_eq_zero fun u hu => by rw [h0 u (Finset.mem_range.mp hu), zero_mul], zero_mul, Finset.sum_eq_zero fun u hu => by
      rw [← h u (Finset.mem_range.mp hu), h0 u (Finset.mem_range.mp hu), zero_mul, zero_mul]]

theorem Fwd.usual {s₀ s s' : St Ideal} {v2 : EReal} {b p i : ℕ} (hi : i < 8) (H : Hyp b s₀) (hv : v2 = g2 s₀.a1 b 0 * LG)
    (W : Fwd s₀ v2 b p i i s) (h : FinPost p s s') (hU : Usual s) : Fin0 s₀ b p i s' := by
  have hL : ∀ r, r < 512 → ∑ u ∈ Finset.range 128, g2 (a := 512) (b := 128) s.a21 r u = ∑ u ∈ Finset.range 4096, GE s₀ v2 b i r u := fun r hr => by
    rw [Finset.sum_congr rfl fun z hz => W.l r z hr (Finset.mem_range.mp hz)]
    exact rowsum (GE s₀ v2 b i r) i hi fun u hu => GE_zero _ _ _ _ _ _ (by omega)
  have hD : ∀ r, r < 512 → ∑ u ∈ Finset.range 128, g2 (a := 512) (b := 128) s.a22 r u
      = ∑ u ∈ Finset.range 4096, GE s₀ v2 b i r u * Dp s₀ (512 * i + r) u := fun r hr => by
    rw [Finset.sum_congr rfl fun z hz => W.dl r z hr (Finset.mem_range.mp hz)]
    exact rowsum (fun u => GE s₀ v2 b i r u * Dp s₀ (512 * i + r) u) i hi fun u hu => by
      rw [GE_zero _ _ _ _ _ _ (by omega), zero_mul]
  have key : ∀ r, r < 512 → (∀ u < 4096, GE s₀ v2 b i r u * Ideal.div 1 (∑ u ∈ Finset.range 4096, GE s₀ v2 b i r u) = PP s₀ b (512 * i + r) u)
      ∧ ∃ x : ℝ, 0 ≤ x ∧ Ideal.div 1 (∑ u ∈ Finset.range 4096, GE s₀ v2 b i r u) = (x : EReal) := by
    intro r hr
    obtain ⟨h1, h2⟩ := hU.2 r 0 hr (by norm_num)
    rw [W.m r 0 hr (by norm_num)] at h1 h2
    obtain ⟨m, hm⟩ : ∃ m : ℝ, Mx s₀ v2 b i r = (m : EReal) := by
      lift Mx s₀ v2 b i r to ℝ using ⟨h1.ne, h2.ne'⟩ with m
      exact ⟨m, rfl⟩
    obtain ⟨μ, hμ⟩ := GE_exp hi hr H hv m hm
    obtain ⟨w, hw, hw1⟩ := GE_one hi m hm
    have h0 : 0 < ∑ u ∈ Finset.range 4096, GE s₀ v2 b i r u := by
      refine lt_of_lt_of_le ?_ (Row.le_sum (Finset.range 4096) _ (fun u => GE_nonneg _ _ _ _ _ _) w (Finset.mem_range.mpr hw))
      rw [hw1]; exact zero_lt_one
    have ht : ∑ u ∈ Finset.range 4096, GE s₀ v2 b i r u < ⊤ := by
      rw [← hL r hr]
      exact lt_top_iff_ne_top.mpr (Row.sum_lt_top _ _ fun z hz => (hU.1 r z hr (Finset.mem_range.mp hz)).ne)
    constructor
    · intro u hu
      rw [hμ u hu, PP]
      exact Row.softmax 4096 _ μ _ (Finset.sum_congr rfl fun u hu => hμ u (Finset.mem_range.mp hu)) h0 ht u
    · generalize ∑ u ∈ Finset.range 4096, GE s₀ v2 b i r u = L at h0 ht
      lift L to ℝ using ⟨ht.ne, (lt_of_le_of_lt bot_le h0).ne'⟩ with l
      have hl : 0 < l := by exact_mod_cast h0
      exact ⟨1 / l, by positivity, by rw [Ideal.div_coe hl.ne', one_mul]⟩
  refine ⟨fun j r c hj hr hc => ?_, fun j r c hj hr hc => ?_, fun r z hr hz => ?_⟩
  · rw [Pw, h.r _ _ _ hr (by omega), if_pos rfl, hL r hr, show s'.a12 = s.a12 by rw [h.fr], W.e j r c (by omega) hr hc]
    exact (key r hr).1 _ (by omega)
  · rw [show s'.a13 = s.a13 by rw [h.fr], W.d j r c (by omega) hr hc]
  · rw [h.d _ _ _ hr hz, if_pos rfl, hL r hr, hD r hr]
    exact DL_of _ _ (key r hr).1 (.inl (key r hr).2)

/-! ## The careful pass -/

theorem FinPost.fwd {s₀ s s' : St Ideal} {v2 : EReal} {b p i n : ℕ} (W : Fwd s₀ v2 b p i n s) (h : FinPost p s s') : Fwd s₀ v2 b p i n s' := by
  obtain ⟨⟨h1, h2, h3, h4, h5, h6, h7⟩, hm, he, hd, hl, hdl, hq, ht⟩ := W
  rw [h.fr]
  exact ⟨⟨h1, h2, h3, h4, h5, h6, h7⟩, hm, he, hd, hl, hdl, hq, ht⟩

/-- The scores of the careful pass. -/
structure CS (s₀ : St Ideal) (b p i n : ℕ) (s : St Ideal) : Prop where
  same : Same s₀ s
  c : ∀ r z, r < 512 → z < 128 → g2 s.a20 r z = cc s₀ (512 * i + r)
  e : ∀ j r c, j < n → r < 512 → c < 512 → g4 s.a12 p j r c = SS s₀ b (512 * i + r) (512 * j + c)
  m : ∀ r z, r < 512 → z < 128 → ∀ a : EReal, g2 (a := 512) (b := 128) s.a21 r z ≤ a ↔
    ∀ j < n, ∀ k < 4, SS s₀ b (512 * i + r) (512 * j + (128 * k + z)) ≤ a
  d : ∀ j r c, j < i + 1 → r < 512 → c < 512 → g4 s.a13 p j r c = Dp s₀ (512 * i + r) (512 * j + c)
  dl : ∀ r z, r < 512 → z < 128 → g2 s.a22 r z = 0

theorem CS.xc {s₀ s : St Ideal} {b p i n : ℕ} (H : CS s₀ b p i n s) (r c : ℕ) (hr : r < 512) (hc : c < 512) :
    Xc s b i r n c = SS s₀ b (512 * i + r) (512 * n + c) := by
  rw [Xc, SS, H.c r _ hr (by omega), H.same.sc, H.same.a1, H.same.a7, cc_at s₀ n c hc]

theorem CS.step {s₀ s s' : St Ideal} {b p i n : ℕ} (H : CS s₀ b p i n s) (h : CScore b p i n s s') : CS s₀ b p i (n + 1) s' where
  same := H.same.trans (by constructor <;> rw [h.fr])
  c := fun r z hr hz => by rw [show s'.a20 = s.a20 by rw [h.fr], H.c r z hr hz]
  e := fun j r c hj hr hc => by
    rw [h.e _ _ _ _ hr hc]
    by_cases hjn : j = n
    · subst hjn; rw [if_pos ⟨rfl, rfl⟩, H.xc r c hr hc]
    · rw [if_neg (by tauto), H.e j r c (by omega) hr hc]
  m := fun r z hr hz a => by
    rw [h.m r z hr hz, max_le_iff, max_le_iff, max_le_iff, max_le_iff, H.m r z hr hz, H.xc r _ hr (by omega), H.xc r _ hr (by omega),
      H.xc r _ hr (by omega), H.xc r _ hr (by omega)]
    constructor
    · rintro ⟨⟨⟨⟨h1, h2⟩, h3⟩, h4⟩, h5⟩ j hj k hk
      rcases Nat.lt_or_ge j n with hj' | hj'
      · exact h1 j hj' k hk
      · obtain rfl : j = n := by omega
        obtain rfl | rfl | rfl | rfl : k = 0 ∨ k = 1 ∨ k = 2 ∨ k = 3 := by omega
        · simpa using h2
        · exact h3
        · exact h4
        · exact h5
    · intro hh
      exact ⟨⟨⟨⟨fun j hj => hh j (by omega), by simpa using hh n (by omega) 0 (by omega)⟩, hh n (by omega) 1 (by omega)⟩,
        hh n (by omega) 2 (by omega)⟩, hh n (by omega) 3 (by omega)⟩
  d := fun j r c hj hr hc => by rw [show s'.a13 = s.a13 by rw [h.fr], H.d j r c hj hr hc]
  dl := fun r z hr hz => by rw [show s'.a22 = s.a22 by rw [h.fr], H.dl r z hr hz]

/-- The exponentials of the careful pass. -/
structure CE (s₀ : St Ideal) (b p i n : ℕ) (s : St Ideal) : Prop where
  same : Same s₀ s
  m : ∀ r z, r < 512 → z < 128 → g2 s.a21 r z = Row.mx 4096 (SS s₀ b (512 * i + r))
  e : ∀ j r c, j < i + 1 → r < 512 → c < 512 → g4 s.a12 p j r c
    = if j < n then Ideal.exp (SS s₀ b (512 * i + r) (512 * j + c) - Row.mx 4096 (SS s₀ b (512 * i + r))) else SS s₀ b (512 * i + r) (512 * j + c)
  d : ∀ j r c, j < i + 1 → r < 512 → c < 512 → g4 s.a13 p j r c = Dp s₀ (512 * i + r) (512 * j + c)
  l : ∀ r z, r < 512 → z < 128 → g2 s.a20 r z
    = ∑ j ∈ Finset.range n, blk (fun c => Ideal.exp (SS s₀ b (512 * i + r) (512 * j + c) - Row.mx 4096 (SS s₀ b (512 * i + r)))) z
  dl : ∀ r z, r < 512 → z < 128 → g2 s.a22 r z
    = ∑ j ∈ Finset.range n, blk (fun c => Ideal.exp (SS s₀ b (512 * i + r) (512 * j + c) - Row.mx 4096 (SS s₀ b (512 * i + r)))
        * Dp s₀ (512 * i + r) (512 * j + c)) z

theorem CS.mid {s₀ s s' : St Ideal} {b p i : ℕ} (hi : i < 8) (H : CS s₀ b p i (i + 1) s) (h : CMid s s') : CE s₀ b p i 0 s' where
  same := H.same.trans (by constructor <;> rw [h.fr])
  m := fun r z hr hz => by
    rw [h.m r z hr hz, Row.mx]
    refine eq_of_forall_ge_iff fun a => ?_
    rw [Finset.sup_le_iff, Finset.sup_le_iff]
    constructor
    · intro hh u hu
      have hu := Finset.mem_range.mp hu
      by_cases hu' : u ≤ 512 * i + r
      · have := (H.m r (u % 128) hr (by omega) a).1 (hh _ (Finset.mem_range.mpr (by omega))) (u / 512) (by omega) (u % 512 / 128) (by omega)
        rwa [show 512 * (u / 512) + (128 * (u % 512 / 128) + u % 128) = u by omega] at this
      · rw [SS, if_neg hu']; exact bot_le
    · intro hh z hz
      have hz := Finset.mem_range.mp hz
      exact (H.m r z hr hz a).2 fun j hj k hk => hh _ (Finset.mem_range.mpr (by omega))
  e := fun j r c hj hr hc => by rw [show s'.a12 = s.a12 by rw [h.fr], H.e j r c hj hr hc, if_neg (by omega)]
  d := fun j r c hj hr hc => by rw [show s'.a13 = s.a13 by rw [h.fr], H.d j r c hj hr hc]
  l := fun r z hr hz => by rw [h.l r z hr hz, Finset.sum_range_zero]
  dl := fun r z hr hz => by rw [show s'.a22 = s.a22 by rw [h.fr], H.dl r z hr hz, Finset.sum_range_zero]

theorem CE.ec {s₀ s : St Ideal} {b p i n : ℕ} (H : CE s₀ b p i n s) (hn : n < i + 1) (r c : ℕ) (hr : r < 512) (hc : c < 512) :
    Ec s p n r c = Ideal.exp (SS s₀ b (512 * i + r) (512 * n + c) - Row.mx 4096 (SS s₀ b (512 * i + r))) := by
  rw [Ec, H.e n r c hn hr hc, if_neg (by omega), H.m r _ hr (by omega)]

theorem CE.fc {s₀ s : St Ideal} {b p i n : ℕ} (H : CE s₀ b p i n s) (hn : n < i + 1) (r c : ℕ) (hr : r < 512) (hc : c < 512) :
    Fc s p n r c = Ideal.exp (SS s₀ b (512 * i + r) (512 * n + c) - Row.mx 4096 (SS s₀ b (512 * i + r))) * Dp s₀ (512 * i + r) (512 * n + c) := by
  rw [Fc, H.ec hn r c hr hc, H.d n r c hn hr hc]

theorem CE.step {s₀ s s' : St Ideal} {b p i n : ℕ} (hn : n < i + 1) (H : CE s₀ b p i n s) (h : CExp p n s s') : CE s₀ b p i (n + 1) s' where
  same := H.same.trans (by constructor <;> rw [h.fr])
  m := fun r z hr hz => by rw [show s'.a21 = s.a21 by rw [h.fr], H.m r z hr hz]
  e := fun j r c hj hr hc => by
    rw [h.e _ _ _ _ hr hc]
    by_cases hjn : j = n
    · subst hjn; rw [if_pos ⟨rfl, rfl⟩, H.ec hn r c hr hc, if_pos (by omega)]
    · rw [if_neg (by tauto), H.e j r c hj hr hc]
      by_cases hl : j < n
      · rw [if_pos hl, if_pos (by omega)]
      · rw [if_neg hl, if_neg (by omega)]
  d := fun j r c hj hr hc => by rw [show s'.a13 = s.a13 by rw [h.fr], H.d j r c hj hr hc]
  l := fun r z hr hz => by
    rw [h.l r z hr hz, H.l r z hr hz, Finset.sum_range_succ, H.ec hn r _ hr (by omega), H.ec hn r _ hr (by omega), H.ec hn r _ hr (by omega),
      H.ec hn r _ hr (by omega)]
    simp only [blk, add_assoc]
  dl := fun r z hr hz => by
    rw [h.dl r z hr hz, H.dl r z hr hz, Finset.sum_range_succ, H.fc hn r _ hr (by omega), H.fc hn r _ hr (by omega), H.fc hn r _ hr (by omega),
      H.fc hn r _ hr (by omega)]
    simp only [blk, add_assoc]

theorem CE.fin {s₀ s s' : St Ideal} {b p i : ℕ} (hi : i < 8) (H : CE s₀ b p i (i + 1) s) (h : CFin p s s') : Fin0 s₀ b p i s' := by
  have hz : ∀ r u, 512 * (i + 1) ≤ u → r < 512 → Ideal.exp (SS s₀ b (512 * i + r) u - Row.mx 4096 (SS s₀ b (512 * i + r))) = 0 := fun r u hu hr => by
    rw [SS, if_neg (by omega), EReal.bot_sub, Ideal.exp_bot]
  have hL : ∀ r, r < 512 → ∑ u ∈ Finset.range 128, g2 (a := 512) (b := 128) s.a20 r u
      = ∑ u ∈ Finset.range 4096, Ideal.exp (SS s₀ b (512 * i + r) u - Row.mx 4096 (SS s₀ b (512 * i + r))) := fun r hr => by
    rw [Finset.sum_congr rfl fun z hz => H.l r z hr (Finset.mem_range.mp hz)]
    exact rowsum' (fun u => Ideal.exp (SS s₀ b (512 * i + r) u - Row.mx 4096 (SS s₀ b (512 * i + r)))) i hi fun u hu => hz r u hu hr
  have hD : ∀ r, r < 512 → ∑ u ∈ Finset.range 128, g2 (a := 512) (b := 128) s.a22 r u
      = ∑ u ∈ Finset.range 4096, Ideal.exp (SS s₀ b (512 * i + r) u - Row.mx 4096 (SS s₀ b (512 * i + r))) * Dp s₀ (512 * i + r) u := fun r hr => by
    rw [Finset.sum_congr rfl fun z hz => H.dl r z hr (Finset.mem_range.mp hz)]
    exact rowsum' (fun u => Ideal.exp (SS s₀ b (512 * i + r) u - Row.mx 4096 (SS s₀ b (512 * i + r))) * Dp s₀ (512 * i + r) u) i hi fun u hu => by
      rw [hz r u hu hr, zero_mul]
  have key := fun r (hr : r < 512) (u : ℕ) (hu : u < 4096) => Row.careful 4096 (SS s₀ b (512 * i + r)) u hu
  refine ⟨fun j r c hj hr hc => ?_, fun j r c hj hr hc => ?_, fun r z hr hz => ?_⟩
  · rw [Pw, h.r _ _ _ hr (by omega), if_pos rfl, hL r hr, show s'.a12 = s.a12 by rw [h.fr], H.e j r c hj hr hc, if_pos hj, H.m r _ hr (by omega)]
    exact key r hr _ (by omega)
  · rw [show s'.a13 = s.a13 by rw [h.fr], H.d j r c hj hr hc]
  · rw [h.d _ _ _ hr hz, if_pos rfl, hL r hr, hD r hr, H.m r _ hr hz, mul_comm]
    exact DL_of _ _ (key r hr) (Row.factor 4096 _ (by norm_num))

theorem Finish.fin {s₀ s s' : St Ideal} {v2 : EReal} {b p i : ℕ} (hi : i < 8) (H : Hyp b s₀) (hv : v2 = g2 s₀.a1 b 0 * LG)
    (W : Fwd s₀ v2 b p i i s) (h : Finish b p i s s') : Fin0 s₀ b p i s' := by
  obtain ⟨s1, h1, ⟨hU, rfl⟩ | ⟨s2, s3, s4, s5, hi1, hc1, hm1, hc2, hf⟩⟩ := h
  · exact W.usual hi H hv h1 hU
  · have W1 := h1.fwd W
    have hs : Same s1 s2 := by constructor <;> rw [hi1.fr]
    have C0 : CS s₀ b p i 0 s2 := {
      same := W1.same.trans hs
      c := fun r z hr hz => by rw [hi1.c r z hr hz, W1.same.a7, cc_at s₀ i r hr]
      e := fun j _ _ hj => absurd hj (Nat.not_lt_zero _)
      m := fun r z hr hz a => by
        rw [hi1.m r z hr hz]
        exact ⟨fun _ j hj => absurd hj (Nat.not_lt_zero _), fun _ => bot_le⟩
      d := fun j r c hj hr hc => by rw [show s2.a13 = s1.a13 by rw [hi1.fr], W1.d j r c (by omega) hr hc]
      dl := hi1.d }
    have C1 := hc1.ind (fun n => CS s₀ b p i n) C0 fun j a c _ H h => H.step h
    have C2 := C1.mid hi hm1
    have C3 := hc2.ind (fun n => CE s₀ b p i n) C2 fun j a c hj H h => H.step hj h
    exact C3.fin hi hf

end Cert.Proof.KernelIdeal
-- ==== Proof.Inv2.lean ====
/-
  The kernel's results at one grid point, as the plain sums over rows and columns.
-/
module

public import proofs.«01_k».proof.Proof.Inv

@[expose] public section

noncomputable section

namespace Cert.Proof.KernelIdeal

open Cert.KernelIdeal Cert.KernelIdeal.Gen Cert.Hoare Cert.Grid
open Idealize.ShloMosaic hiding ix1 ix2 ix3 ix4 eq_ix1 eq_ix2 eq_ix3 eq_ix4

/-- The sums over the rows below `N` that the column tiles hold, and the query gradients of the rows below `M`. -/
structure Acc0 (s₀ : St Ideal) (b : ℕ) (N : ℕ → ℕ) (M : ℕ) (s : St Ideal) : Prop where
  v : ∀ j d c, j < 8 → d < 128 → c < 512 → g3 s.a15 j d c = ∑ t ∈ Finset.range (N j), g3 s₀.a6 0 t d * PP s₀ b t (512 * j + c)
  k : ∀ j d c, j < 8 → d < 128 → c < 512 → g3 s.a14 j d c = ∑ t ∈ Finset.range (N j), g3 s₀.a3 0 t d * DS s₀ b t (512 * j + c)
  c : ∀ j c, j < 8 → c < 512 → ∑ z ∈ Finset.range 8, g3 s.a17 j z c = ∑ t ∈ Finset.range (N j), DS s₀ b t (512 * j + c)
  q : ∀ t d, t < M → d < 128 → g3 s.a8 0 t d = (∑ u ∈ Finset.range 4096, DS s₀ b t u * g3 s₀.a4 0 u d) * g2 s₀.a1 b 1

/-- Row tile `n` is finished in slot `p`, with its transposed rows. -/
structure Ready (s₀ : St Ideal) (b p n : ℕ) (s : St Ideal) : Prop where
  same : Same s₀ s
  f : Fin0 s₀ b p n s
  qt : ∀ d r, d < 128 → r < 512 → g3 s.a18 p d r = g3 s₀.a3 0 (512 * n + r) d
  dt : ∀ d r, d < 128 → r < 512 → g3 s.a19 p d r = g3 s₀.a6 0 (512 * n + r) d

theorem Ready.keep {s₀ s s' : St Ideal} {b p n : ℕ} (H : Ready s₀ b p n s) (hs : Same s s')
    (h12 : ∀ j r c, r < 512 → c < 512 → g4 s'.a12 p j r c = g4 s.a12 p j r c) (h13 : ∀ j r c, r < 512 → c < 512 → g4 s'.a13 p j r c = g4 s.a13 p j r c)
    (h18 : ∀ d r, d < 128 → r < 512 → g3 s'.a18 p d r = g3 s.a18 p d r) (h19 : ∀ d r, d < 128 → r < 512 → g3 s'.a19 p d r = g3 s.a19 p d r)
    (h23 : s'.a23 = s.a23) (h24 : s'.a24 = s.a24) : Ready s₀ b p n s' where
  same := H.same.trans hs
  f := ⟨fun j r c hj hr hc => by rw [← H.f.pw j r c hj hr hc, Pw, Pw, h12 j r c hr hc, h23],
    fun j r c hj hr hc => by rw [h13 j r c hr hc, H.f.dp j r c hj hr hc], fun r z hr hz => by rw [h24, H.f.dl r z hr hz]⟩
  qt := fun d r hd hr => by rw [h18 d r hd hr, H.qt d r hd hr]
  dt := fun d r hd hr => by rw [h19 d r hd hr, H.dt d r hd hr]

/-- The number of rows that column tile `j` has summed, within row tile `n`, after `k` column tiles. -/
def rows (n k j : ℕ) : ℕ := if j < k then 512 * (n + 1) else 512 * n

theorem rows_ne {n k j : ℕ} (h : j ≠ k) : rows n (k + 1) j = rows n k j := by
  unfold rows
  by_cases h1 : j < k
  · rw [if_pos h1, if_pos (by omega)]
  · rw [if_neg h1, if_neg (by omega)]

theorem rows_add (n k : ℕ) (f : ℕ → EReal) : (∑ t ∈ Finset.range (rows n k k), f t) + ∑ r ∈ Finset.range 512, f (512 * n + r)
    = ∑ t ∈ Finset.range (rows n (k + 1) k), f t := by
  rw [rows, rows, if_neg (by omega), if_pos (by omega), show 512 * (n + 1) = 512 * n + 512 by ring, Finset.sum_range_add]

/-- The gradient pass of row tile `n`, after `k` column tiles. -/
structure Bw (s₀ : St Ideal) (b n k : ℕ) (s : St Ideal) : Prop where
  r : Ready s₀ b (n % 2) n s
  a : Acc0 s₀ b (rows n k) (512 * n) s
  q : ∀ r d, r < 512 → d < 128 → g2 s.a16 r d = ∑ u ∈ Finset.range (512 * k), DS s₀ b (512 * n + r) u * g3 s₀.a4 0 u d

theorem Bw.step {s₀ s s' : St Ideal} {b n k : ℕ} (hk : k < n + 1) (H : Bw s₀ b n k s) (h : BwdPost (n % 2) k s s') (h8 : s'.a8 = s.a8)
    (R : Ready s₀ b (n % 2) n s') : Bw s₀ b n (k + 1) s' where
  r := R
  a := {
    v := fun j d c hj hd hc => by
      rw [h.v j d c hd hc]
      by_cases hjk : j = k
      · subst hjk
        rw [if_pos rfl, H.a.v j d c hj hd hc, ← rows_add n j]
        congr 1
        refine Finset.sum_congr rfl fun r hr => ?_
        rw [H.r.dt d r hd (Finset.mem_range.mp hr), H.r.f.pw j r c hk (Finset.mem_range.mp hr) hc]
      · rw [if_neg hjk, H.a.v j d c hj hd hc, rows_ne hjk]
    k := fun j d c hj hd hc => by
      rw [h.k j d c hd hc]
      by_cases hjk : j = k
      · subst hjk
        rw [if_pos rfl, H.a.k j d c hj hd hc, ← rows_add n j]
        congr 1
        refine Finset.sum_congr rfl fun r hr => ?_
        rw [H.r.qt d r hd (Finset.mem_range.mp hr), H.r.f.ds j r c hk (Finset.mem_range.mp hr) hc]
      · rw [if_neg hjk, H.a.k j d c hj hd hc, rows_ne hjk]
    c := fun j c hj hc => by
      rw [Finset.sum_congr rfl fun z hz => h.cs j z c (Finset.mem_range.mp hz) hc]
      by_cases hjk : j = k
      · subst hjk
        simp only [if_true]
        rw [Finset.sum_add_distrib, H.a.c j c hj hc, ← rows_add n j, sum_eights fun r => Ds s (n % 2) j r c]
        congr 1
        refine Finset.sum_congr rfl fun r hr => ?_
        rw [H.r.f.ds j r c hk (Finset.mem_range.mp hr) hc]
      · simp only [if_neg hjk]
        rw [H.a.c j c hj hc, rows_ne hjk]
    q := fun t d ht hd => by rw [h8, H.a.q t d ht hd] }
  q := fun r d hr hd => by
    rw [h.q r d hr hd, H.q r d hr hd, show 512 * (k + 1) = 512 * k + 512 by ring, Finset.sum_range_add]
    congr 1
    refine Finset.sum_congr rfl fun c hc => ?_
    rw [H.r.f.ds k r c hk hr (Finset.mem_range.mp hc), H.r.same.a4]

theorem rows_zero (n : ℕ) : rows n 0 = fun _ => 512 * n := by
  funext j; rw [rows, if_neg (by omega)]

theorem rows_end (n j : ℕ) (hj : j < 8) (f : ℕ → EReal) (hz : ∀ r, r < 512 → n < j → f (512 * n + r) = 0) :
    ∑ t ∈ Finset.range (rows n (n + 1) j), f t = ∑ t ∈ Finset.range (512 * (n + 1)), f t := by
  rw [rows]
  by_cases h : j < n + 1
  · rw [if_pos h]
  · rw [if_neg h, show 512 * (n + 1) = 512 * n + 512 by ring, Finset.sum_range_add, Finset.sum_eq_zero (s := Finset.range 512)
      fun r hr => hz r (Finset.mem_range.mp hr) (by omega), add_zero]

/-- All column tiles of row tile `n` done: the rows below `512 (n + 1)` are summed. -/
theorem Bw.finish {s₀ s s' : St Ideal} {b n : ℕ} (hn : n < 8) (H : Bw s₀ b n (n + 1) s) (h : DqPost b n s s') :
    Acc0 s₀ b (fun _ => 512 * (n + 1)) (512 * (n + 1)) s' where
  v := fun j d c hj hd hc => by
    rw [show s'.a15 = s.a15 by rw [h.fr], H.a.v j d c hj hd hc,
      rows_end n j hj _ fun r hr hl => by rw [PP_zero _ _ _ _ (by omega), mul_zero]]
  k := fun j d c hj hd hc => by
    rw [show s'.a14 = s.a14 by rw [h.fr], H.a.k j d c hj hd hc,
      rows_end n j hj _ fun r hr hl => by rw [DS_zero _ _ _ _ (by omega), mul_zero]]
  c := fun j c hj hc => by
    rw [show s'.a17 = s.a17 by rw [h.fr], H.a.c j c hj hc]
    exact rows_end n j hj (fun t => DS s₀ b t (512 * j + c)) fun r hr hl => DS_zero _ _ _ _ (by omega)
  q := fun t d ht hd => by
    rw [h.q t d (by omega) hd]
    by_cases hl : 512 * n ≤ t
    · rw [if_pos ⟨hl, by omega⟩, H.q _ d (by omega) hd, H.r.same.a1, show 512 * n + (t - 512 * n) = t by omega,
        sum_ext _ _ 4096 (by omega) fun u hu => by rw [DS_zero _ _ _ _ (by omega), zero_mul]]
    · rw [if_neg (by omega), H.a.q t d (by omega) hd]

theorem Acc0.keep {s₀ s s' : St Ideal} {b M : ℕ} {N : ℕ → ℕ} (H : Acc0 s₀ b N M s) (h8 : s'.a8 = s.a8) (h14 : s'.a14 = s.a14) (h15 : s'.a15 = s.a15)
    (h17 : s'.a17 = s.a17) : Acc0 s₀ b N M s' := by
  obtain ⟨hv, hk, hc, hq⟩ := H
  exact ⟨h15 ▸ hv, h14 ▸ hk, h17 ▸ hc, h8 ▸ hq⟩

/-- What `Finish` leaves alone. -/
theorem Finish.fr {b p i : ℕ} {s s' : St Ideal} (h : Finish b p i s s') :
    s' = { s with a12 := s'.a12, a20 := s'.a20, a21 := s'.a21, a22 := s'.a22, a23 := s'.a23, a24 := s'.a24 } := by
  obtain ⟨s1, h1, ⟨hU, rfl⟩ | ⟨s2, s3, s4, s5, hi1, hc1, hm1, hc2, hf⟩⟩ := h
  · conv_lhs => rw [h1.fr]
    rw [h1.fr]
  · have e3 := hc1.ind (fun _ a => a = { s2 with a12 := a.a12, a21 := a.a21 }) rfl fun j a c _ H h => by
      rw [h.fr, H]
    have e5 := hc2.ind (fun _ a => a = { s4 with a12 := a.a12, a20 := a.a20, a22 := a.a22 }) rfl fun j a c _ H h => by
      rw [h.fr, H]
    rw [hf.fr, e5, hm1.fr, e3, hi1.fr, h1.fr]

/-- Row tile `n` is ready and the rows before it are summed. -/
structure Inv (s₀ : St Ideal) (b n : ℕ) (s : St Ideal) : Prop where
  r : Ready s₀ b (n % 2) n s
  a : Acc0 s₀ b (fun _ => 512 * n) (512 * n) s

theorem Finish.ready {s₀ s s' : St Ideal} {v2 : EReal} {b p i : ℕ} (hi : i < 8) (H : Hyp b s₀) (hv : v2 = g2 s₀.a1 b 0 * LG)
    (W : Fwd s₀ v2 b p i i s) (h : Finish b p i s s') : Ready s₀ b p i s' where
  same := W.same.trans (by constructor <;> rw [h.fr])
  f := h.fin hi H hv W
  qt := fun d r hd hr => by rw [show s'.a18 = s.a18 by rw [h.fr], W.qt d r hd hr]
  dt := fun d r hd hr => by rw [show s'.a19 = s.a19 by rw [h.fr], W.dt d r hd hr]

theorem Fwd.keep {s₀ s s' : St Ideal} {v2 : EReal} {b p i n : ℕ} (W : Fwd s₀ v2 b p i n s) (hs : Same s s') (h12 : s'.a12 = s.a12)
    (h13 : s'.a13 = s.a13) (h18 : s'.a18 = s.a18) (h19 : s'.a19 = s.a19) (h20 : s'.a20 = s.a20) (h21 : s'.a21 = s.a21) (h22 : s'.a22 = s.a22) :
    Fwd s₀ v2 b p i n s' := by
  obtain ⟨h, hm, he, hd, hl, hdl, hq, ht⟩ := W
  exact ⟨h.trans hs, h20 ▸ hm, h12 ▸ he, h13 ▸ hd, h21 ▸ hl, h22 ▸ hdl, h18 ▸ hq, h19 ▸ ht⟩

theorem Inv.step {s₀ s s' : St Ideal} {v2 : EReal} {b n : ℕ} (hn : n < 7) (H : Hyp b s₀) (hv : v2 = g2 s₀.a1 b 0 * LG) (I : Inv s₀ b n s)
    (h : Step v2 b n s s') : Inv s₀ b (n + 1) s' := by
  obtain ⟨s1, s2, s3, s4, hd, hz, hc, hq, hf⟩ := h
  have hne : n % 2 ≠ (n + 1) % 2 := by omega
  have W1 := Fwd.start I.r.same hd
  have R1 : Ready s₀ b (n % 2) n s1 := I.r.keep hd.same
    (fun j r c hr hc => by rw [hd.e _ _ _ _ hr hc, if_neg (by tauto)]) (fun j r c hr hc => by rw [hd.d _ _ _ _ hr hc, if_neg (by tauto)])
    (fun d r hd' hr => by rw [hd.qt _ _ _ hd' hr, if_neg hne]) (fun d r hd' hr => by rw [hd.dt _ _ _ hd' hr, if_neg hne])
    (by rw [hd.fr]) (by rw [hd.fr])
  have W2 : Fwd s₀ v2 b ((n + 1) % 2) (n + 1) 0 s2 := W1.keep (by constructor <;> rw [hz.fr]) (by rw [hz.fr]) (by rw [hz.fr]) (by rw [hz.fr])
    (by rw [hz.fr]) (by rw [hz.fr]) (by rw [hz.fr]) (by rw [hz.fr])
  have B2 : Bw s₀ b n 0 s2 := {
    r := R1.keep (by constructor <;> rw [hz.fr]) (by rw [hz.fr]; intros; rfl) (by rw [hz.fr]; intros; rfl) (by rw [hz.fr]; intros; rfl)
      (by rw [hz.fr]; intros; rfl) (by rw [hz.fr]) (by rw [hz.fr])
    a := by rw [rows_zero]; exact I.a.keep (by rw [hz.fr, hd.fr]) (by rw [hz.fr, hd.fr]) (by rw [hz.fr, hd.fr]) (by rw [hz.fr, hd.fr])
    q := fun r d hr hd => by rw [hz.z r d hr hd, Nat.mul_zero, Finset.sum_range_zero] }
  have C := hc.ind (fun k a => Fwd s₀ v2 b ((n + 1) % 2) (n + 1) k a ∧ Bw s₀ b n k a) ⟨W2, B2⟩ fun k a c hk ⟨W, B⟩ ⟨h1, h2, h3⟩ => by
    have hs : Same a c := by constructor <;> rw [h3]
    refine ⟨W.step hk h1 hs (by rw [h3]) (by rw [h3]) (by rw [h3]), B.step hk h2 (by rw [h3]) (B.r.keep hs
      (fun j r c hr hc => by rw [h1.e _ _ _ _ hr hc, if_neg (by tauto)]) (fun j r c hr hc => by rw [h1.d _ _ _ _ hr hc, if_neg (by tauto)])
      (by rw [h3]; intros; rfl) (by rw [h3]; intros; rfl) (by rw [h3]) (by rw [h3]))⟩
  have W4 : Fwd s₀ v2 b ((n + 1) % 2) (n + 1) (n + 1) s4 := C.1.keep (by constructor <;> rw [hq.fr]) (by rw [hq.fr]) (by rw [hq.fr]) (by rw [hq.fr])
    (by rw [hq.fr]) (by rw [hq.fr]) (by rw [hq.fr]) (by rw [hq.fr])
  exact ⟨hf.ready (by omega) H hv W4, (C.2.finish (by omega) hq).keep (by rw [hf.fr]) (by rw [hf.fr]) (by rw [hf.fr]) (by rw [hf.fr])⟩

/-- The results of the grid point. -/
structure Res (s₀ : St Ideal) (b : ℕ) (s : St Ideal) : Prop where
  same : Same s₀ s
  q : ∀ t d, t < 4096 → d < 128 → g3 s.a8 0 t d = (∑ u ∈ Finset.range 4096, DS s₀ b t u * g3 s₀.a4 0 u d) * g2 s₀.a1 b 1
  k : ∀ u d, u < 4096 → d < 128 → g3 s.a9 0 u d = (∑ t ∈ Finset.range 4096, g3 s₀.a3 0 t d * DS s₀ b t u) * g2 s₀.a1 b 2
  v : ∀ u d, u < 4096 → d < 128 → g3 s.a10 0 u d = (∑ t ∈ Finset.range 4096, g3 s₀.a6 0 t d * PP s₀ b t u) * g2 s₀.a1 b 3
  c : ∀ j c, j < 8 → c < 512 → g3 s.a11 0 j c = (0 - ∑ t ∈ Finset.range 4096, DS s₀ b t (512 * j + c)) * g2 s₀.a1 b 4

/-- The output loop, after `n` column tiles. -/
structure Out (s₀ : St Ideal) (b n : ℕ) (s : St Ideal) : Prop where
  same : Same s₀ s
  a : Acc0 s₀ b (fun _ => 4096) 4096 s
  k : ∀ u d, u < 512 * n → d < 128 → g3 s.a9 0 u d = (∑ t ∈ Finset.range 4096, g3 s₀.a3 0 t d * DS s₀ b t u) * g2 s₀.a1 b 2
  v : ∀ u d, u < 512 * n → d < 128 → g3 s.a10 0 u d = (∑ t ∈ Finset.range 4096, g3 s₀.a6 0 t d * PP s₀ b t u) * g2 s₀.a1 b 3
  c : ∀ j c, j < n → c < 512 → g3 s.a11 0 j c = (0 - ∑ t ∈ Finset.range 4096, DS s₀ b t (512 * j + c)) * g2 s₀.a1 b 4

theorem Out.step {s₀ s s' : St Ideal} {b n : ℕ} (hn : n < 8) (H : Out s₀ b n s) (h : OutPost b n s s') : Out s₀ b (n + 1) s' where
  same := H.same.trans (by constructor <;> rw [h.fr])
  a := H.a.keep (by rw [h.fr]) (by rw [h.fr]) (by rw [h.fr]) (by rw [h.fr])
  k := fun u d hu hd => by
    rw [h.k u d (by omega) hd]
    by_cases hl : 512 * n ≤ u
    · rw [if_pos ⟨hl, by omega⟩, H.a.k n d _ hn hd (by omega), H.same.a1, show 512 * n + (u - 512 * n) = u by omega]
    · rw [if_neg (by omega), H.k u d (by omega) hd]
  v := fun u d hu hd => by
    rw [h.v u d (by omega) hd]
    by_cases hl : 512 * n ≤ u
    · rw [if_pos ⟨hl, by omega⟩, H.a.v n d _ hn hd (by omega), H.same.a1, show 512 * n + (u - 512 * n) = u by omega]
    · rw [if_neg (by omega), H.v u d (by omega) hd]
  c := fun j c hj hc => by
    rw [h.c j c (by omega) hc]
    by_cases hl : j = n
    · subst hl; rw [if_pos rfl, H.a.c j c hn hc, H.same.a1]
    · rw [if_neg hl, H.c j c (by omega) hc]

theorem Whole.res {b : ℕ} {s s' : St Ideal} (H : Hyp b s) (h : Whole b s s') : Res s b s' := by
  obtain ⟨v2, hv, s1, s2, s3, s4, s5, s6, s7, h1, h2, h3, h4, h5, h6, h7, h8⟩ := h
  have S1 : Same s s1 := by constructor <;> rw [h1.fr]
  have A1 : Acc0 s b (fun _ => 512 * 0) (512 * 0) s1 := {
    v := fun j d c hj hd hc => by rw [h1.v j d c hj hd hc, Nat.mul_zero, Finset.sum_range_zero]
    k := fun j d c hj hd hc => by rw [h1.k j d c hj hd hc, Nat.mul_zero, Finset.sum_range_zero]
    c := fun j c hj hc => by
      rw [Nat.mul_zero, Finset.sum_range_zero]
      exact Finset.sum_eq_zero fun z hz => h1.c j z c hj (Finset.mem_range.mp hz) hc
    q := fun t d ht => absurd ht (by omega) }
  have W2 := Fwd.start S1 h2
  have I3 : Inv s b 0 s3 := ⟨h3.ready (by omega) H hv W2, A1.keep (by rw [h3.fr, h2.fr]) (by rw [h3.fr, h2.fr]) (by rw [h3.fr, h2.fr]) (by rw [h3.fr, h2.fr])⟩
  have I4 := h4.ind (fun n a => Inv s b n a) I3 fun n a c hn I h => I.step hn H hv h
  have B5 : Bw s b 7 0 s5 := {
    r := I4.r.keep (by constructor <;> rw [h5.fr]) (by rw [h5.fr]; intros; rfl) (by rw [h5.fr]; intros; rfl) (by rw [h5.fr]; intros; rfl)
      (by rw [h5.fr]; intros; rfl) (by rw [h5.fr]) (by rw [h5.fr])
    a := by rw [rows_zero]; exact I4.a.keep (by rw [h5.fr]) (by rw [h5.fr]) (by rw [h5.fr]) (by rw [h5.fr])
    q := fun r d hr hd => by rw [h5.z r d hr hd, Nat.mul_zero, Finset.sum_range_zero] }
  have B6 := h6.ind (fun k a => Bw s b 7 k a) B5 fun k a c hk B ⟨h, h'⟩ =>
    B.step hk h (by rw [h']) (B.r.keep (by constructor <;> rw [h']) (by rw [h']; intros; rfl) (by rw [h']; intros; rfl) (by rw [h']; intros; rfl)
      (by rw [h']; intros; rfl) (by rw [h']) (by rw [h']))
  have A7 := B6.finish (by omega) h7
  have O8 := h8.ind (fun n a => Out s b n a) ⟨B6.r.same.trans (by constructor <;> rw [h7.fr]), A7, fun u d hu => absurd hu (by omega),
    fun u d hu => absurd hu (by omega), fun j c hj => absurd hj (by omega)⟩ fun n a c hn I h => I.step hn h
  exact ⟨O8.same, O8.a.q, O8.k, O8.v, O8.c⟩

end Cert.Proof.KernelIdeal
-- ==== Proof.Value.lean ====
/-
  The exact run of `Cert.KernelIdeal`: every result array ends at the plain sums over the staged inputs.
-/
module

public import proofs.«01_k».proof.Proof.Inv2
public import proofs.«01_k».proof.Proof.Walks
public import Idealize.ShloMosaic.Lib.Pipeline.ValueKit.Geometry

@[expose] public section

set_option maxRecDepth 16384

noncomputable section

namespace Cert.Proof.KernelIdeal

open Cert.KernelIdeal Cert.KernelIdeal.Gen Cert.Hoare Cert.Grid
open Idealize.ShloMosaic hiding ix1 ix2 ix3 ix4 eq_ix1 eq_ix2 eq_ix3 eq_ix4
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable (m : (ℓ : Loc nD τ sig) → Buf (Elt Ideal) ℓ) (ρ : Dev nD → PrngReg)

/-- The state with inputs `x1`–`x7` and results `x8`–`x11`. -/
abbrev st11 (x1 : Vec Ideal S60x6 .f32) (x2 : Vec Ideal S60x8 .f32) (x3 x4 x5 : Vec Ideal S1x4096x128 .fp8e4m3) (x6 : Vec Ideal S1x4096x128 .fp8e5m2)
    (x7 : Vec Ideal S1x8x512 .f32) (x8 x9 x10 : Vec Ideal S1x4096x128 .bf16) (x11 : Vec Ideal S1x8x512 .f32) : St Ideal :=
  ⟨x1, x2, x3, x4, x5, x6, x7, x8, x9, x10, x11, fun _ => (0 : EReal), fun _ => (0 : EReal), fun _ => (0 : EReal), fun _ => (0 : EReal), fun _ => (0 : EReal), fun _ => (0 : EReal), fun _ => (0 : EReal), fun _ => (0 : EReal), fun _ => (0 : EReal), fun _ => (0 : EReal), fun _ => (0 : EReal), fun _ => (0 : EReal), fun _ => (0 : EReal)⟩

/-- The staged inputs at grid point `t`. -/
def sin (c : Dev nD) (t : Fin cfg0.N) : St Ideal :=
  st11 (iblk m c 0 t) (iblk m c 1 t) (iblk m c 2 t) (iblk m c 3 t) (iblk m c 4 t) (iblk m c 5 t) (iblk m c 6 t)
    (fun _ => (0 : EReal)) (fun _ => (0 : EReal)) (fun _ => (0 : EReal)) (fun _ => (0 : EReal))

theorem sin1 (c : Dev nD) (t : Fin cfg0.N) : (sin m c t).a1 = iblk m c 0 t := by rw [sin]
theorem sin2 (c : Dev nD) (t : Fin cfg0.N) : (sin m c t).a2 = iblk m c 1 t := by rw [sin]
theorem sin3 (c : Dev nD) (t : Fin cfg0.N) : (sin m c t).a3 = iblk m c 2 t := by rw [sin]
theorem sin4 (c : Dev nD) (t : Fin cfg0.N) : (sin m c t).a4 = iblk m c 3 t := by rw [sin]
theorem sin5 (c : Dev nD) (t : Fin cfg0.N) : (sin m c t).a5 = iblk m c 4 t := by rw [sin]
theorem sin6 (c : Dev nD) (t : Fin cfg0.N) : (sin m c t).a6 = iblk m c 5 t := by rw [sin]
theorem sin7 (c : Dev nD) (t : Fin cfg0.N) : (sin m c t).a7 = iblk m c 6 t := by rw [sin]

def ov7 (s : St Ideal) (b : ℕ) : Vec Ideal S1x4096x128 .bf16 := fun y =>
  (∑ u ∈ Finset.range 4096, DS s b (y 1).val u * g3 s.a4 0 u (y 2).val) * g2 s.a1 b 1
def ov8 (s : St Ideal) (b : ℕ) : Vec Ideal S1x4096x128 .bf16 := fun y =>
  (∑ t ∈ Finset.range 4096, g3 s.a3 0 t (y 2).val * DS s b t (y 1).val) * g2 s.a1 b 2
def ov9 (s : St Ideal) (b : ℕ) : Vec Ideal S1x4096x128 .bf16 := fun y =>
  (∑ t ∈ Finset.range 4096, g3 s.a6 0 t (y 2).val * PP s b t (y 1).val) * g2 s.a1 b 3
def ov10 (s : St Ideal) (b : ℕ) : Vec Ideal S1x8x512 .f32 := fun y =>
  (0 - ∑ t ∈ Finset.range 4096, DS s b t (512 * (y 1).val + (y 2).val)) * g2 s.a1 b 4

theorem Same.ss {s₀ s : St Ideal} (H : Same s₀ s) (b : ℕ) : SS s b = SS s₀ b := by
  funext t u; rw [SS, SS, H.sc, H.a1, cc, cc, cc, cc, H.a7]
theorem Same.pp {s₀ s : St Ideal} (H : Same s₀ s) (b : ℕ) : PP s b = PP s₀ b := by
  funext t u; rw [PP, PP, H.ss]
theorem Same.ds {s₀ s : St Ideal} (H : Same s₀ s) (b : ℕ) : DS s b = DS s₀ b := by
  funext t u; simp only [DS, DL, H.pp, H.dp]
theorem Same.hyp {s₀ s : St Ideal} (H : Same s₀ s) {b : ℕ} (h : Hyp b s₀) : Hyp b s := by
  obtain ⟨h1, h2, h3⟩ := h
  exact ⟨H.a1 ▸ h1, H.a7 ▸ h2, H.a2 ▸ h3⟩

theorem ov7_same {s₀ s : St Ideal} (H : Same s₀ s) (b : ℕ) : ov7 s b = ov7 s₀ b := by funext y; rw [ov7, ov7, H.ds, H.a4, H.a1]
theorem ov8_same {s₀ s : St Ideal} (H : Same s₀ s) (b : ℕ) : ov8 s b = ov8 s₀ b := by funext y; rw [ov8, ov8, H.ds, H.a3, H.a1]
theorem ov9_same {s₀ s : St Ideal} (H : Same s₀ s) (b : ℕ) : ov9 s b = ov9 s₀ b := by funext y; rw [ov9, ov9, H.pp, H.a6, H.a1]
theorem ov10_same {s₀ s : St Ideal} (H : Same s₀ s) (b : ℕ) : ov10 s b = ov10 s₀ b := by funext y; rw [ov10, ov10, H.ds, H.a1]

theorem one (y : Fin 1) : y.val = 0 := by omega

/-- What the results are, as arrays. -/
theorem Res.outs {s s' : St Ideal} {b : ℕ} (h : Res s b s') : s'.a8 = ov7 s b ∧ s'.a9 = ov8 s b ∧ s'.a10 = ov9 s b ∧ s'.a11 = ov10 s b :=
  ⟨funext fun y => by rw [g3_val s'.a8 y, one (y 0), h.q _ _ (y 1).isLt (y 2).isLt]; rfl,
    funext fun y => by rw [g3_val s'.a9 y, one (y 0), h.k _ _ (y 1).isLt (y 2).isLt]; rfl,
    funext fun y => by rw [g3_val s'.a10 y, one (y 0), h.v _ _ (y 1).isLt (y 2).isLt]; rfl,
    funext fun y => by rw [g3_val s'.a11 y, one (y 0), h.c _ _ (y 1).isLt (y 2).isLt]; rfl⟩

/-- The batch and head of grid point `t`. -/
abbrev bh (t : Fin cfg0.N) : ℕ := (grid0.coords t 0).val

/-- The proof data: each input's buffer at its block, each result's at the sums over the inputs. -/
def datV (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => ov7 (sin m c t) (bh t)
    | ⟨8, _⟩ => ov8 (sin m c t) (bh t)
    | ⟨9, _⟩ => ov9 (sin m c t) (bh t)
    | ⟨10, _⟩ => ov10 (sin m c t) (bh t)
  Φ _ := Pipeline.ΦA spec0 c
  q _ := fullShare
  owed _ := 0

def datsV : (p : Fin 1) → (c : Dev nD) → Dat τ (Elt Ideal) Unit ℕ (UR sig nD τ) ℕ (cfgs p) c := fun | 0 => fun c => datV m c

theorem A_eqV (c : Dev nD) (w : Fin cfg0.W) : (datV m c).A w = V m c (Pipeline.arrRef spec0 w) := by dsimp only [datV]
theorem af0 (c : Dev nD) (t : Fin cfg0.N) : (datV m c).after 0 t = iblk m c 0 t := by dsimp only [datV]
theorem af1 (c : Dev nD) (t : Fin cfg0.N) : (datV m c).after 1 t = iblk m c 1 t := by dsimp only [datV]
theorem af2 (c : Dev nD) (t : Fin cfg0.N) : (datV m c).after 2 t = iblk m c 2 t := by dsimp only [datV]
theorem af3 (c : Dev nD) (t : Fin cfg0.N) : (datV m c).after 3 t = iblk m c 3 t := by dsimp only [datV]
theorem af4 (c : Dev nD) (t : Fin cfg0.N) : (datV m c).after 4 t = iblk m c 4 t := by dsimp only [datV]
theorem af5 (c : Dev nD) (t : Fin cfg0.N) : (datV m c).after 5 t = iblk m c 5 t := by dsimp only [datV]
theorem af6 (c : Dev nD) (t : Fin cfg0.N) : (datV m c).after 6 t = iblk m c 6 t := by dsimp only [datV]
theorem af7 (c : Dev nD) (t : Fin cfg0.N) : (datV m c).after 7 t = ov7 (sin m c t) (bh t) := by dsimp only [datV]
theorem af8 (c : Dev nD) (t : Fin cfg0.N) : (datV m c).after 8 t = ov8 (sin m c t) (bh t) := by dsimp only [datV]
theorem af9 (c : Dev nD) (t : Fin cfg0.N) : (datV m c).after 9 t = ov9 (sin m c t) (bh t) := by dsimp only [datV]
theorem af10 (c : Dev nD) (t : Fin cfg0.N) : (datV m c).after 10 t = ov10 (sin m c t) (bh t) := by dsimp only [datV]
theorem be0 (c : Dev nD) (t : Fin cfg0.N) (d) : (datV m c).before 0 t d = iblk m c 0 t := before0_0_of m (datV m c) (A_eqV m c 0) (af0 m c) t d
theorem be1 (c : Dev nD) (t : Fin cfg0.N) (d) : (datV m c).before 1 t d = iblk m c 1 t := before0_1_of m (datV m c) (A_eqV m c 1) (af1 m c) t d
theorem be2 (c : Dev nD) (t : Fin cfg0.N) (d) : (datV m c).before 2 t d = iblk m c 2 t := before0_2_of m (datV m c) (A_eqV m c 2) (af2 m c) t d
theorem be3 (c : Dev nD) (t : Fin cfg0.N) (d) : (datV m c).before 3 t d = iblk m c 3 t := before0_3_of m (datV m c) (A_eqV m c 3) (af3 m c) t d
theorem be4 (c : Dev nD) (t : Fin cfg0.N) (d) : (datV m c).before 4 t d = iblk m c 4 t := before0_4_of m (datV m c) (A_eqV m c 4) (af4 m c) t d
theorem be5 (c : Dev nD) (t : Fin cfg0.N) (d) : (datV m c).before 5 t d = iblk m c 5 t := before0_5_of m (datV m c) (A_eqV m c 5) (af5 m c) t d
theorem be6 (c : Dev nD) (t : Fin cfg0.N) (d) : (datV m c).before 6 t d = iblk m c 6 t := before0_6_of m (datV m c) (A_eqV m c 6) (af6 m c) t d

def bodyPre (c : Dev nD) (t : Fin cfg0.N) : sProp (MT nD τ sig Unit (Elt Ideal) ℕ (UR sig nD τ) ℕ) :=
  iprop((datV m c).Φ t.castSucc ∗ (datV m c).owesAt () t.castSucc ∗ (∃ d, owns (c : Thread nD τ) (st0_0 t) fullShare ((datV m c).before 0 t d)) ∗ (∃ d, owns (c : Thread nD τ) (st0_1 t) fullShare ((datV m c).before 1 t d)) ∗ (∃ d, owns (c : Thread nD τ) (st0_2 t) fullShare ((datV m c).before 2 t d)) ∗ (∃ d, owns (c : Thread nD τ) (st0_3 t) fullShare ((datV m c).before 3 t d)) ∗ (∃ d, owns (c : Thread nD τ) (st0_4 t) fullShare ((datV m c).before 4 t d)) ∗ (∃ d, owns (c : Thread nD τ) (st0_5 t) fullShare ((datV m c).before 5 t d)) ∗ (∃ d, owns (c : Thread nD τ) (st0_6 t) fullShare ((datV m c).before 6 t d)) ∗ (∃ d, owns (c : Thread nD τ) (st0_7 t) fullShare ((datV m c).before 7 t d)) ∗ (∃ d, owns (c : Thread nD τ) (st0_8 t) fullShare ((datV m c).before 8 t d)) ∗ (∃ d, owns (c : Thread nD τ) (st0_9 t) fullShare ((datV m c).before 9 t d)) ∗ (∃ d, owns (c : Thread nD τ) (st0_10 t) fullShare ((datV m c).before 10 t d)))

def bodyPost (c : Dev nD) (t : Fin cfg0.N) : sProp (MT nD τ sig Unit (Elt Ideal) ℕ (UR sig nD τ) ℕ) :=
  iprop((datV m c).Φ t.succ ∗ (datV m c).owesAt () t.succ ∗ owns (c : Thread nD τ) (st0_0 t) fullShare ((datV m c).after 0 t) ∗ owns (c : Thread nD τ) (st0_1 t) fullShare ((datV m c).after 1 t) ∗ owns (c : Thread nD τ) (st0_2 t) fullShare ((datV m c).after 2 t) ∗ owns (c : Thread nD τ) (st0_3 t) fullShare ((datV m c).after 3 t) ∗ owns (c : Thread nD τ) (st0_4 t) fullShare ((datV m c).after 4 t) ∗ owns (c : Thread nD τ) (st0_5 t) fullShare ((datV m c).after 5 t) ∗ owns (c : Thread nD τ) (st0_6 t) fullShare ((datV m c).after 6 t) ∗ owns (c : Thread nD τ) (st0_7 t) fullShare ((datV m c).after 7 t) ∗ owns (c : Thread nD τ) (st0_8 t) fullShare ((datV m c).after 8 t) ∗ owns (c : Thread nD τ) (st0_9 t) fullShare ((datV m c).after 9 t) ∗ owns (c : Thread nD τ) (st0_10 t) fullShare ((datV m c).after 10 t))

/-- The body at point `t` from the inputs in `sin`: it leaves the results. -/
theorem body_res (c : Dev nD) (t : Fin cfg0.N) (H : Hyp (bh t) (sin m c t)) (x8 x9 x10 : Vec Ideal S1x4096x128 .bf16) (x11 : Vec Ideal S1x8x512 .f32) :
    (iprop(Pipeline.ΦA spec0 c ∗ Win c t (st11 (iblk m c 0 t) (iblk m c 1 t) (iblk m c 2 t) (iblk m c 3 t) (iblk m c 4 t) (iblk m c 5 t) (iblk m c 6 t) x8 x9 x10 x11)) : sProp (MT nD τ sig Unit (Elt Ideal) ℕ (UR sig nD τ) ℕ))
      ⊢ wp frame (wpE (Ix := Unit) (Name := ℕ) (U := UR sig nD τ) (Lvl := ℕ) (defs₀ (F := Ideal)) Variants.none (c : Thread nD τ) none) Set.univ (bodyAt0 t) fun _ =>
        iprop(∃ s' : St Ideal, ⌜Same (sin m c t) s' ∧ s'.a8 = ov7 (sin m c t) (bh t) ∧ s'.a9 = ov8 (sin m c t) (bh t) ∧ s'.a10 = ov9 (sin m c t) (bh t) ∧ s'.a11 = ov10 (sin m c t) (bh t)⌝ ∗ Pipeline.ΦA spec0 c ∗ Win c t s') := by
  refine body_wp c t _ _ fun s' h1 h2 h3 h4 h5 h6 h7 _ _ _ _ => ?_
  have S : Same (sin m c t) s' := ⟨h1, h2, h3, h4, h5, h6, h7⟩
  refine Wp.mono (body_whole acc1 acc2 acc3 acc4 acc5 acc6 acc7 acc8 acc9 acc10 acc11 acc12 acc13 acc14 acc15 acc16 acc17 acc18 acc19 acc20 acc21 acc22 acc23 acc24 s') fun _ s'' hw => ?_
  have R := hw.res (S.hyp H)
  obtain ⟨e8, e9, e10, e11⟩ := R.outs
  exact ⟨S.trans R.same, e8.trans (ov7_same S _), e9.trans (ov8_same S _), e10.trans (ov9_same S _), e11.trans (ov10_same S _)⟩

set_option maxHeartbeats 1000000 in
theorem sound_body (c : Dev nD) (t : Fin cfg0.N) (H : Hyp (bh t) (sin m c t)) :
    bodyPre m c t ⊢ wp frame (wpE (defs₀ (F := Ideal)) Variants.none (c : Thread nD τ) none) Set.univ (bodyAt0 t) (fun _ => bodyPost m c t) := by
  unfold bodyPre bodyPost
  simp only [be0, be1, be2, be3, be4, be5, be6]
  rw [show (datV m c).Φ t.succ = Pipeline.ΦA spec0 c from rfl, show (datV m c).Φ t.castSucc = Pipeline.ΦA spec0 c from rfl,
    show (datV m c).owesAt () t.succ = (datV m c).owesAt () t.castSucc from rfl,
    af0, af1, af2, af3, af4, af5, af6, af7, af8, af9, af10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (wp_wand_r frame _ Set.univ)
  isplitr [Ho]
  · iapply (body_res m c t H ((datV m c).before 7 t d7) ((datV m c).before 8 t d8) ((datV m c).before 9 t d9) ((datV m c).before 10 t d10))
    isplitl [HΦ]
    · iexact HΦ
    · unfold Win
      isplitl [H0]
      · iexact H0
      isplitl [H1]
      · iexact H1
      isplitl [H2]
      · iexact H2
      isplitl [H3]
      · iexact H3
      isplitl [H4]
      · iexact H4
      isplitl [H5]
      · iexact H5
      isplitl [H6]
      · iexact H6
      isplitl [H7]
      · iexact H7
      isplitl [H8]
      · iexact H8
      isplitl [H9]
      · iexact H9
      iexact H10
  · iintro %_ ⟨%s2, %hs, HΦ, H0, H1, H2, H3, H4, H5, H6, H7, H8, H9, H10⟩
    obtain ⟨⟨e1, e2, e3, e4, e5, e6, e7⟩, e8, e9, e10, e11⟩ := hs
    rw [e1, e2, e3, e4, e5, e6, e7, e8, e9, e10, e11, sin1, sin2, sin3, sin4, sin5, sin6, sin7]
    isplitl [HΦ]
    · iexact HΦ
    isplitl [Ho]
    · iexact Ho
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    iexact H10

theorem defs_row (t : Fin cfg0.N) : defs₀ (F := Ideal) .tc cfg0.body (cfg0.bodyArgs t (cfg0.slots t)) = bodyAt0 t := by
  unfold defs₀; rw [Defs.onTc_tc]

theorem body_obl (c : Dev nD) (H : ∀ t, Hyp (bh t) (sin m c t)) : BodyObligation (datV m c) (defs₀ (F := Ideal)) Variants.none () Set.univ := fun t => by
  rw [bigSep_W0, bigSep_W0, defs_row]
  exact triple_restated (sound_body m c t (H t)) rfl .rfl fun _ => .rfl

set_option backward.isDefEq.respectTransparency.types false in
set_option maxHeartbeats 800000 in
theorem run_value (H : ∀ c t, Hyp (bh t) (sin m c t)) : θ_run defs (onTc (τ := τ) (main (F := Ideal))) (s₀ m ρ)
    (Pipeline.FramePost cfgs (datsV m) 0 (Pipeline.afterTail₀ cfgs (datsV m) 0 (V0 m) [hostOps1, hostOps1_1, hostOps1_2])) :=
  Pipeline.θ_run_frame_around (Q' := _) cfgs (datsV m) (0 : Fin 1) launch0 defs₀ Variants.none m ρ main
    (hbody := fun c => (body_obl m c (H c)).loose) (hshare := fun c => (datsV m 0 c).share_full fun _ => rfl)
    (howed := fun _ _ => rfl) (V₀ := V0 m) (opss := [hostOps1, hostOps1_1, hostOps1_2]) (hsub := sfx_sub) (hfresh := sfx_fresh) (hkeep := sfx_keeps)
    (hmain := hmain m Variants.none) (hA := A_eqV m) (hΦ := fun _ _ => rfl)

end Cert.Proof.KernelIdeal

end
-- ==== Proof.KerRead.lean ====
/-
  What the host lines of `Cert.KernelIdeal` leave in each array.
-/
module

public import proofs.«01_k».proof.Proof.Gen.KernelIdeal.Frame
public import proofs.«01_k».proof.Proof.Spec
public import proofs.«01_k».proof.Proof.Mask
public import Idealize.ShloMosaic.Lib.StableHlo.ReadAt
public import Idealize.ShloMosaic.Lib.IdealHost
public import Idealize.ShloMosaic.Lib.Pointwise.Contract

@[expose] public section

noncomputable section

namespace Cert.Proof.KerRead

open Cert.Grid
open Idealize.ShloMosaic hiding ix1 ix2 ix3 ix4 eq_ix1 eq_ix2 eq_ix3 eq_ix4
open Idealize.ShloMosaic.ValueIdx
open Idealize.ShloMosaic.TcCoe Idealize.ShloMosaic.Tactic
open Idealize.ShloMosaic.StableHlo (after)
open Cert.KernelIdeal Cert.KernelIdeal.Gen

variable (V : Valuation τ sig (Elt Ideal))

abbrev A1 : List (HloOp τ sig (Elt Ideal)) := hostOps0 ++ hostOps0_1
abbrev w33 (f : S60x4096x128.Idx → EReal) (y : S60x4096x128.Idx) : EReal := f y
abbrev w26 (f : S60x6.Idx → EReal) (y : S60x6.Idx) : EReal := f y
abbrev w85 (f : S60x8x512.Idx → EReal) (y : S60x8x512.Idx) : EReal := f y
abbrev w8 (f : S60x8.Idx → EReal) (y : S60x8.Idx) : EReal := f y

abbrev w21 (f : S3x20x1.Idx → EReal) (y : S3x20x1.Idx) : EReal := f y

theorem cum_eq (x : FVec Ideal S3x4096x20 .f32) : Spec.cum x = (Host.reduceWindowAdd ![1, 4096, 1] ![1, 1, 1] ![0, 4095, 0] ![0, 0, 0] x
      (broadcastInDim S_ ![] bcast_S_S_ (constant S_ FTy.f32 0#32)) reduceWindows_S3x4096x20_S3x4096x20_w1s1p0_0_w4096s1p4095_0_w1s1p0_0 h_S_) := by
  rw [Spec.cum]

theorem r27 (y : S60x4096x128.Idx) : w33 (after A1 V (Proc.devRef .tc main_v27)) y
    = g4 (V (Proc.devRef .tc main_arg0) : Spec.X4) ((y 0).val / 20) (y 1).val ((y 0).val % 20) (y 2).val := by
  have h : (y 0).val < 60 := (y 0).isLt
  after_reads_at
  exact (g4_of _ (by omega) (y 1).isLt (by omega) (y 2).isLt).symm
theorem r29 (y : S60x4096x128.Idx) : w33 (after A1 V (Proc.devRef .tc main_v29)) y
    = g4 (V (Proc.devRef .tc main_arg2) : Spec.X4) ((y 0).val / 20) (y 1).val ((y 0).val % 20) (y 2).val := by
  have h : (y 0).val < 60 := (y 0).isLt
  after_reads_at
  exact (g4_of _ (by omega) (y 1).isLt (by omega) (y 2).isLt).symm
theorem r31 (y : S60x4096x128.Idx) : w33 (after A1 V (Proc.devRef .tc main_v31)) y
    = g4 (V (Proc.devRef .tc main_arg4) : Spec.X4) ((y 0).val / 20) (y 1).val ((y 0).val % 20) (y 2).val := by
  have h : (y 0).val < 60 := (y 0).isLt
  after_reads_at
  exact (g4_of _ (by omega) (y 1).isLt (by omega) (y 2).isLt).symm
theorem r33 (y : S60x4096x128.Idx) : w33 (after A1 V (Proc.devRef .tc main_v33)) y
    = g4 (V (Proc.devRef .tc main_arg6) : Spec.X4) ((y 0).val / 20) (y 1).val ((y 0).val % 20) (y 2).val := by
  have h : (y 0).val < 60 := (y 0).isLt
  after_reads_at
  exact (g4_of _ (by omega) (y 1).isLt (by omega) (y 2).isLt).symm
theorem r2 (y : S60x8x512.Idx) : w85 (after A1 V (Proc.devRef .tc main_v2)) y
    = g3 (Spec.cum (V (Proc.devRef .tc main_arg8))) ((y 0).val / 20) ((y 1).val * 512 + (y 2).val) ((y 0).val % 20) := by
  have h : (y 0).val < 60 := (y 0).isLt
  have h1 : (y 1).val < 8 := (y 1).isLt
  have h2 : (y 2).val < 512 := (y 2).isLt
  after_reads_at
  rw [← cum_eq (V (Proc.devRef .tc main_arg8))]
  generalize Spec.cum (V (Proc.devRef .tc main_arg8)) = C
  exact (g3_of _ (by omega) (by omega) (by omega)).symm
theorem r4 (y : S60x8.Idx) : w8 (after A1 V (Proc.devRef .tc main_v4)) y
    = g3 (Spec.cum (V (Proc.devRef .tc main_arg8))) ((y 0).val / 20) ((y 1).val * 512) ((y 0).val % 20) := by
  have h : (y 0).val < 60 := (y 0).isLt
  have h1 : (y 1).val < 8 := (y 1).isLt
  after_reads_at
  rw [← cum_eq (V (Proc.devRef .tc main_arg8))]
  generalize Spec.cum (V (Proc.devRef .tc main_arg8)) = C
  exact (g3_of _ (by omega) (by omega) (by omega)).symm

abbrev qs : Spec.X2 := V (Proc.devRef .tc main_arg1)
abbrev ks : Spec.X2 := V (Proc.devRef .tc main_arg3)
abbrev vs : Spec.X2 := V (Proc.devRef .tc main_arg5)
abbrev gs : Spec.X2 := V (Proc.devRef .tc main_arg7)

/-- The scales as the call reads them. -/
def scl (b h : ℕ) : ℕ → EReal
  | 1 => Spec.SM * g2 (ks V) b h * (g2 (gs V) b h * g2 (vs V) b h)
  | 2 => Spec.SM * g2 (qs V) b h * (g2 (gs V) b h * g2 (vs V) b h)
  | 3 => g2 (gs V) b h
  | 4 => g2 (gs V) b h * g2 (vs V) b h
  | _ => Spec.SM * g2 (qs V) b h * g2 (ks V) b h

theorem c18 (y : S3x20x1.Idx) : w21 (StableHlo.upto A1 V 30 (Proc.devRef .tc main_v18)) y = scl V (y 0).val (y 1).val 0 := by
  change w21 (after (A1.take 30) V (Proc.devRef .tc main_v18)) y = _
  after_reads_at
  exact congrArg₂ (· * ·) (congrArg (Spec.SM * ·) (g2_of _ (y 0).isLt (y 1).isLt).symm) (g2_of _ (y 0).isLt (y 1).isLt).symm
theorem c19 (y : S3x20x1.Idx) : w21 (StableHlo.upto A1 V 30 (Proc.devRef .tc main_v19)) y = scl V (y 0).val (y 1).val 1 := by
  change w21 (after (A1.take 30) V (Proc.devRef .tc main_v19)) y = _
  after_reads_at
  exact congrArg₂ (· * ·) (congrArg (Spec.SM * ·) (g2_of _ (y 0).isLt (y 1).isLt).symm) (congrArg₂ (· * ·) (g2_of _ (y 0).isLt (y 1).isLt).symm (g2_of _ (y 0).isLt (y 1).isLt).symm)
theorem c20 (y : S3x20x1.Idx) : w21 (StableHlo.upto A1 V 30 (Proc.devRef .tc main_v20)) y = scl V (y 0).val (y 1).val 2 := by
  change w21 (after (A1.take 30) V (Proc.devRef .tc main_v20)) y = _
  after_reads_at
  exact congrArg₂ (· * ·) (congrArg (Spec.SM * ·) (g2_of _ (y 0).isLt (y 1).isLt).symm) (congrArg₂ (· * ·) (g2_of _ (y 0).isLt (y 1).isLt).symm (g2_of _ (y 0).isLt (y 1).isLt).symm)
theorem c21 (y : S3x20x1.Idx) : w21 (StableHlo.upto A1 V 30 (Proc.devRef .tc main_v21)) y = scl V (y 0).val (y 1).val 3 := by
  change w21 (after (A1.take 30) V (Proc.devRef .tc main_v21)) y = _
  after_reads_at
  exact (g2_of _ (y 0).isLt (y 1).isLt).symm
theorem c22 (y : S3x20x1.Idx) : w21 (StableHlo.upto A1 V 30 (Proc.devRef .tc main_v22)) y = scl V (y 0).val (y 1).val 4 := by
  change w21 (after (A1.take 30) V (Proc.devRef .tc main_v22)) y = _
  after_reads_at
  exact congrArg₂ (· * ·) (g2_of _ (y 0).isLt (y 1).isLt).symm (g2_of _ (y 0).isLt (y 1).isLt).symm
theorem c23 (y : S3x20x1.Idx) : w21 (StableHlo.upto A1 V 30 (Proc.devRef .tc main_v23)) y = scl V (y 0).val (y 1).val 5 := by
  change w21 (after (A1.take 30) V (Proc.devRef .tc main_v23)) y = _
  after_reads_at
  exact congrArg₂ (· * ·) (congrArg (Spec.SM * ·) (g2_of _ (y 0).isLt (y 1).isLt).symm) (g2_of _ (y 0).isLt (y 1).isLt).symm

theorem r25 (y : S60x6.Idx) : w26 (after A1 V (Proc.devRef .tc main_v25)) y = scl V ((y 0).val / 20) ((y 0).val % 20) (y 1).val := by
  have h : (y 0).val < 60 := (y 0).isLt
  have h1 : (y 1).val < 6 := (y 1).isLt
  after_reads_at
  dsimp only [w26]
  by_cases g0 : (y 1).val < 1
  · refine (dif_pos g0).trans ?_
    exact (c18 V (Idealize.ShloMosaic.ix3 (⟨(y 0).val / 20, by omega⟩ : Fin 3) (⟨(y 0).val % 20, by omega⟩ : Fin 20) (⟨(y 1).val, by omega⟩ : Fin 1))).trans
      (congrArg (scl V ((y 0).val / 20) ((y 0).val % 20)) (show 0 = (y 1).val by omega))
  refine (dif_neg g0).trans ?_
  by_cases g1 : (y 1).val - 1 < 1
  · refine (dif_pos g1).trans ?_
    exact (c19 V (Idealize.ShloMosaic.ix3 (⟨(y 0).val / 20, by omega⟩ : Fin 3) (⟨(y 0).val % 20, by omega⟩ : Fin 20) (⟨(y 1).val - 1, by omega⟩ : Fin 1))).trans
      (congrArg (scl V ((y 0).val / 20) ((y 0).val % 20)) (show 1 = (y 1).val by omega))
  refine (dif_neg g1).trans ?_
  by_cases g2 : (y 1).val - 1 - 1 < 1
  · refine (dif_pos g2).trans ?_
    exact (c20 V (Idealize.ShloMosaic.ix3 (⟨(y 0).val / 20, by omega⟩ : Fin 3) (⟨(y 0).val % 20, by omega⟩ : Fin 20) (⟨(y 1).val - 1 - 1, by omega⟩ : Fin 1))).trans
      (congrArg (scl V ((y 0).val / 20) ((y 0).val % 20)) (show 2 = (y 1).val by omega))
  refine (dif_neg g2).trans ?_
  by_cases g3 : (y 1).val - 1 - 1 - 1 < 1
  · refine (dif_pos g3).trans ?_
    exact (c21 V (Idealize.ShloMosaic.ix3 (⟨(y 0).val / 20, by omega⟩ : Fin 3) (⟨(y 0).val % 20, by omega⟩ : Fin 20) (⟨(y 1).val - 1 - 1 - 1, by omega⟩ : Fin 1))).trans
      (congrArg (scl V ((y 0).val / 20) ((y 0).val % 20)) (show 3 = (y 1).val by omega))
  refine (dif_neg g3).trans ?_
  by_cases g4 : (y 1).val - 1 - 1 - 1 - 1 < 1
  · refine (dif_pos g4).trans ?_
    exact (c22 V (Idealize.ShloMosaic.ix3 (⟨(y 0).val / 20, by omega⟩ : Fin 3) (⟨(y 0).val % 20, by omega⟩ : Fin 20) (⟨(y 1).val - 1 - 1 - 1 - 1, by omega⟩ : Fin 1))).trans
      (congrArg (scl V ((y 0).val / 20) ((y 0).val % 20)) (show 4 = (y 1).val by omega))
  refine (dif_neg g4).trans ?_
  exact (c23 V (Idealize.ShloMosaic.ix3 (⟨(y 0).val / 20, by omega⟩ : Fin 3) (⟨(y 0).val % 20, by omega⟩ : Fin 20) (⟨(y 1).val - 1 - 1 - 1 - 1 - 1, by omega⟩ : Fin 1))).trans
      (congrArg (scl V ((y 0).val / 20) ((y 0).val % 20)) (show 5 = (y 1).val by omega))

abbrev B1 : List (HloOp τ sig (Elt Ideal)) := hostOps1 ++ hostOps1_1 ++ hostOps1_2
abbrev w41 (f : S3x4096x20x128.Idx → EReal) (y : S3x4096x20x128.Idx) : EReal := f y
abbrev w3 (f : S3x4096x20.Idx → EReal) (y : S3x4096x20.Idx) : EReal := f y

theorem r42 (y : S3x4096x20x128.Idx) : w41 (after B1 V (Proc.devRef .tc main_v42)) y
    = g3 (V (Proc.devRef .tc main_v34_0) : S60x4096x128.Idx → EReal) ((y 0).val * 20 + (y 2).val) (y 1).val (y 3).val := by
  have h : (y 0).val < 3 := (y 0).isLt
  have h1 : (y 2).val < 20 := (y 2).isLt
  have h2 : (y 0).val * 20 + (y 2).val < 60 := by omega
  after_reads_at
  exact (g3_of _ h2 (y 1).isLt (y 3).isLt).symm
theorem r44 (y : S3x4096x20x128.Idx) : w41 (after B1 V (Proc.devRef .tc main_v44)) y
    = g3 (V (Proc.devRef .tc main_v34_1) : S60x4096x128.Idx → EReal) ((y 0).val * 20 + (y 2).val) (y 1).val (y 3).val := by
  have h : (y 0).val < 3 := (y 0).isLt
  have h1 : (y 2).val < 20 := (y 2).isLt
  have h2 : (y 0).val * 20 + (y 2).val < 60 := by omega
  after_reads_at
  exact (g3_of _ h2 (y 1).isLt (y 3).isLt).symm
theorem r46 (y : S3x4096x20x128.Idx) : w41 (after B1 V (Proc.devRef .tc main_v46)) y
    = g3 (V (Proc.devRef .tc main_v34_2) : S60x4096x128.Idx → EReal) ((y 0).val * 20 + (y 2).val) (y 1).val (y 3).val := by
  have h : (y 0).val < 3 := (y 0).isLt
  have h1 : (y 2).val < 20 := (y 2).isLt
  have h2 : (y 0).val * 20 + (y 2).val < 60 := by omega
  after_reads_at
  exact (g3_of _ h2 (y 1).isLt (y 3).isLt).symm
theorem r36 (y : S3x4096x20.Idx) : w3 (after B1 V (Proc.devRef .tc main_v36)) y
    = g3 (V (Proc.devRef .tc main_v34_3) : S60x8x512.Idx → EReal) ((y 0).val * 20 + (y 2).val) ((y 1).val / 512) ((y 1).val % 512) := by
  have h : (y 0).val < 3 := (y 0).isLt
  have h1 : (y 2).val < 20 := (y 2).isLt
  have h2 : (y 1).val < 4096 := (y 1).isLt
  have h3 : (y 0).val * 20 + (y 2).val < 60 := by omega
  have h4 : (y 1).val / 512 < 8 := by omega
  have h5 : (y 1).val % 512 < 512 := by omega
  after_reads_at
  exact (g3_of _ h3 h4 h5).symm

/-- The running sums from the end, the first row set to zero. -/
def dl (x : FVec Ideal S3x4096x20 .f32) : FVec Ideal S3x4096x20 .f32 :=
  Host.scatter scatter_S3x4096x20_S1_S3x20_01_1_1_0 (fun _ b => b)
    (Host.reduceWindowAdd ![1, 4096, 1] ![1, 1, 1] ![0, 0, 0] ![0, 4095, 0] x
      (broadcastInDim S_ ![] bcast_S_S_ (constant S_ .f32 0x00000000#32)) reduceWindows_S3x4096x20_S3x4096x20_w1s1p0_0_w4096s1p0_4095_w1s1p0_0 h_S_)
    (broadcastInDim S1 ![] bcast_S_S1 (constantI S_ 32 0#32)) (broadcastInDim S3x20 ![] bcast_S_S3x20 (constant S_ .f32 0x00000000#32))

theorem r40 : after B1 V (Proc.devRef .tc main_v40) = dl (after B1 V (Proc.devRef .tc main_v36)) := by
  simp only [B1, StableHlo.after_append]
  generalize after hostOps1 V = V'
  have e : after hostOps1_2 (after hostOps1_1 V') (Proc.devRef .tc main_v36) = V' (Proc.devRef .tc main_v36) := by after_reads_simp
  rw [e, dl]
  after_reads_simp
  rfl

end Cert.Proof.KerRead
end
-- ==== Proof.KerVal.lean ====
/-
  What the call of `Cert.KernelIdeal` leaves in its arrays.
-/
module

public import proofs.«01_k».proof.Proof.Value
public import proofs.«01_k».proof.Proof.KerRead
public import Idealize.ShloMosaic.Lib.Pipeline.ValueKit

@[expose] public section

noncomputable section

namespace Cert.Proof.KerVal

open Cert.Grid Cert.Proof.KernelIdeal Cert.Proof.KerRead
open Idealize.ShloMosaic hiding ix1 ix2 ix3 ix4 eq_ix1 eq_ix2 eq_ix3 eq_ix4
open Idealize.ShloMosaic.ValueIdx
open Idealize.ShloMosaic.TcCoe Idealize.ShloMosaic.Tactic Idealize.SL.Sem
open Idealize.ShloMosaic.StableHlo (after)
open Idealize.ShloMosaic.Pipeline (Dat)
open Cert.KernelIdeal Cert.KernelIdeal.Gen

variable (m : (ℓ : Loc nD τ sig) → Buf (Elt Ideal) ℓ) (ρ : Dev nD → PrngReg) (c : Dev nD) (t : Fin cfg0.N)

/-- The arguments on device `c`. -/
abbrev M : Valuation τ sig (Elt Ideal) := fun b => m (c, b)
abbrev q0 : Spec.X4 := M m c (Proc.devRef .tc main_arg0)
abbrev k0 : Spec.X4 := M m c (Proc.devRef .tc main_arg2)
abbrev v0 : Spec.X4 := M m c (Proc.devRef .tc main_arg4)
abbrev g0 : Spec.X4 := M m c (Proc.devRef .tc main_arg6)
abbrev C0 : Spec.X3 := Spec.cum (M m c (Proc.devRef .tc main_arg8))

theorem bh_lt : ∀ t : Fin cfg0.N, bh t < 60 := (by decide +kernel : ∀ t : Fin grid0.N, _)

theorem e0 : ∀ t : Fin cfg0.N, win0_0.index t = ![0, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![bh t, 0, 0] := (by decide +kernel : ∀ t : Fin grid0.N, _)
theorem e3 : ∀ t : Fin cfg0.N, win0_3.index t = ![bh t, 0, 0] := (by decide +kernel : ∀ t : Fin grid0.N, _)
theorem e4 : ∀ t : Fin cfg0.N, win0_4.index t = ![bh t, 0, 0] := (by decide +kernel : ∀ t : Fin grid0.N, _)
theorem e5 : ∀ t : Fin cfg0.N, win0_5.index t = ![bh t, 0, 0] := (by decide +kernel : ∀ t : Fin grid0.N, _)
theorem e6 : ∀ t : Fin cfg0.N, win0_6.index t = ![bh t, 0, 0] := (by decide +kernel : ∀ t : Fin grid0.N, _)
theorem e7 : ∀ t : Fin cfg0.N, win0_7.index t = ![bh t, 0, 0] := (by decide +kernel : ∀ t : Fin grid0.N, _)
theorem e8 : ∀ t : Fin cfg0.N, win0_8.index t = ![bh t, 0, 0] := (by decide +kernel : ∀ t : Fin grid0.N, _)
theorem e9 : ∀ t : Fin cfg0.N, win0_9.index t = ![bh t, 0, 0] := (by decide +kernel : ∀ t : Fin grid0.N, _)
theorem e10 : ∀ t : Fin cfg0.N, win0_10.index t = ![bh t, 0, 0] := (by decide +kernel : ∀ t : Fin grid0.N, _)

theorem i0 : iblk m c 0 t = V m c main_v25 := by blk_ext! [iblk, e0 t]
theorem i1 : iblk m c 1 t = V m c main_v4 := by
  funext y
  blk_simp [iblk]
  refine congrArg (V m c main_v4) ?_
  blk_ext [e1 t]
theorem i2 (y : S1x4096x128.Idx) : iblk m c 2 t y = V m c main_v27 (ix3 ⟨bh t, bh_lt t⟩ (y 1) (y 2)) := by
  blk_simp [iblk]
  refine congrArg (V m c main_v27) ?_
  have := (y 0).isLt
  blk_ext [e2 t]
theorem b2 (i d : ℕ) (hi : i < 4096) (hd : d < 128) : g3 (sin m c t).a3 0 i d = g4 (q0 m c) (bh t / 20) i (bh t % 20) d := by
  rw [sin3, g3_of _ (by norm_num) hi hd]
  exact (i2 m c t (ix3 ⟨0, by norm_num⟩ ⟨i, hi⟩ ⟨d, hd⟩)).trans (r27 (M m c) (ix3 ⟨bh t, bh_lt t⟩ ⟨i, hi⟩ ⟨d, hd⟩))
theorem i3 (y : S1x4096x128.Idx) : iblk m c 3 t y = V m c main_v29 (ix3 ⟨bh t, bh_lt t⟩ (y 1) (y 2)) := by
  blk_simp [iblk]
  refine congrArg (V m c main_v29) ?_
  have := (y 0).isLt
  blk_ext [e3 t]
theorem b3 (i d : ℕ) (hi : i < 4096) (hd : d < 128) : g3 (sin m c t).a4 0 i d = g4 (k0 m c) (bh t / 20) i (bh t % 20) d := by
  rw [sin4, g3_of _ (by norm_num) hi hd]
  exact (i3 m c t (ix3 ⟨0, by norm_num⟩ ⟨i, hi⟩ ⟨d, hd⟩)).trans (r29 (M m c) (ix3 ⟨bh t, bh_lt t⟩ ⟨i, hi⟩ ⟨d, hd⟩))
theorem i4 (y : S1x4096x128.Idx) : iblk m c 4 t y = V m c main_v31 (ix3 ⟨bh t, bh_lt t⟩ (y 1) (y 2)) := by
  blk_simp [iblk]
  refine congrArg (V m c main_v31) ?_
  have := (y 0).isLt
  blk_ext [e4 t]
theorem b4 (i d : ℕ) (hi : i < 4096) (hd : d < 128) : g3 (sin m c t).a5 0 i d = g4 (v0 m c) (bh t / 20) i (bh t % 20) d := by
  rw [sin5, g3_of _ (by norm_num) hi hd]
  exact (i4 m c t (ix3 ⟨0, by norm_num⟩ ⟨i, hi⟩ ⟨d, hd⟩)).trans (r31 (M m c) (ix3 ⟨bh t, bh_lt t⟩ ⟨i, hi⟩ ⟨d, hd⟩))
theorem i5 (y : S1x4096x128.Idx) : iblk m c 5 t y = V m c main_v33 (ix3 ⟨bh t, bh_lt t⟩ (y 1) (y 2)) := by
  blk_simp [iblk]
  refine congrArg (V m c main_v33) ?_
  have := (y 0).isLt
  blk_ext [e5 t]
theorem b5 (i d : ℕ) (hi : i < 4096) (hd : d < 128) : g3 (sin m c t).a6 0 i d = g4 (g0 m c) (bh t / 20) i (bh t % 20) d := by
  rw [sin6, g3_of _ (by norm_num) hi hd]
  exact (i5 m c t (ix3 ⟨0, by norm_num⟩ ⟨i, hi⟩ ⟨d, hd⟩)).trans (r33 (M m c) (ix3 ⟨bh t, bh_lt t⟩ ⟨i, hi⟩ ⟨d, hd⟩))
theorem i6 (y : S1x8x512.Idx) : iblk m c 6 t y = V m c main_v2 (ix3 ⟨bh t, bh_lt t⟩ (y 1) (y 2)) := by
  blk_simp [iblk]
  refine congrArg (V m c main_v2) ?_
  have := (y 0).isLt
  blk_ext [e6 t]
theorem b6 (i d : ℕ) (hi : i < 8) (hd : d < 512) : g3 (sin m c t).a7 0 i d = g3 (C0 m c) (bh t / 20) (i * 512 + d) (bh t % 20) := by
  rw [sin7, g3_of _ (by norm_num) hi hd]
  exact (i6 m c t (ix3 ⟨0, by norm_num⟩ ⟨i, hi⟩ ⟨d, hd⟩)).trans (r2 (M m c) (ix3 ⟨bh t, bh_lt t⟩ ⟨i, hi⟩ ⟨d, hd⟩))
theorem b0 (j : ℕ) (hj : j < 6) : g2 (sin m c t).a1 (bh t) j = scl (M m c) (bh t / 20) (bh t % 20) j := by
  rw [sin1, i0, g2_of _ (bh_lt t) hj]; exact r25 (M m c) (ix2 ⟨bh t, bh_lt t⟩ ⟨j, hj⟩)
theorem b1 (j : ℕ) (hj : j < 8) : g2 (sin m c t).a2 (bh t) j = g3 (C0 m c) (bh t / 20) (j * 512) (bh t % 20) := by
  rw [sin2, i1, g2_of _ (bh_lt t) hj]; exact r4 (M m c) (ix2 ⟨bh t, bh_lt t⟩ ⟨j, hj⟩)

/-- The exactness conditions, from finite running sums and finite scales. -/
theorem hyp (hC : ∀ b i h, ∃ x : ℝ, g3 (C0 m c) b i h = (x : EReal)) (hq : ∀ b h, ∃ x : ℝ, scl (M m c) b h 0 = (x : EReal)) : Hyp (bh t) (sin m c t) where
  q := by
    obtain ⟨x, hx⟩ := hq (bh t / 20) (bh t % 20)
    exact ⟨x, (b0 m c t 0 (by norm_num)).trans hx, (b0 m c t 5 (by norm_num)).trans hx⟩
  c j z hj hz := by rw [b6 m c t j z hj hz]; exact hC _ _ _
  cb j hj := by rw [b1 m c t j hj]; exact hC _ _ _

abbrev PR (b h t u : ℕ) : EReal := Spec.P (q0 m c) (k0 m c) (qs (M m c)) (ks (M m c)) (C0 m c) b h t u
abbrev DR (b h t u : ℕ) : EReal := Spec.DS0 (q0 m c) (k0 m c) (v0 m c) (g0 m c) (qs (M m c)) (ks (M m c)) (C0 m c) b h t u

theorem ccE {u : ℕ} (hu : u < 4096) : cc (sin m c t) u = g3 (C0 m c) (bh t / 20) u (bh t % 20) := by
  rw [cc, b6 m c t _ _ (by omega) (by omega), show u / 512 * 512 + u % 512 = u by omega]
theorem ssE {r u : ℕ} (hr : r < 4096) (hu : u < 4096) :
    SS (sin m c t) (bh t) r u = Spec.S (q0 m c) (k0 m c) (qs (M m c)) (ks (M m c)) (C0 m c) (bh t / 20) (bh t % 20) r u := by
  rw [SS, Spec.S, b0 m c t 5 (by norm_num), ccE m c t hr, ccE m c t hu, Sc]
  have e : (∑ q ∈ Finset.range 128, g3 (a := 1) (b := 4096) (c := 128) (sin m c t).a3 0 r q * g3 (a := 1) (b := 4096) (c := 128) (sin m c t).a4 0 u q)
      = ∑ d ∈ Finset.range 128, g4 (q0 m c) (bh t / 20) r (bh t % 20) d * g4 (k0 m c) (bh t / 20) u (bh t % 20) d :=
    Finset.sum_congr rfl fun d hd => by rw [b2 m c t r d hr (Finset.mem_range.1 hd), b3 m c t u d hu (Finset.mem_range.1 hd)]
  rw [e]
  rfl
theorem ppE {r u : ℕ} (hr : r < 4096) (hu : u < 4096) : PP (sin m c t) (bh t) r u = PR m c (bh t / 20) (bh t % 20) r u :=
  Row.P_congr (fun _ hw => ssE m c t hr hw) hu
theorem dpE {r u : ℕ} (hr : r < 4096) (hu : u < 4096) : Dp (sin m c t) r u = Spec.Dp0 (v0 m c) (g0 m c) (bh t / 20) (bh t % 20) r u :=
  Finset.sum_congr rfl fun d hd => by rw [b5 m c t r d hr (Finset.mem_range.1 hd), b4 m c t u d hu (Finset.mem_range.1 hd)]
theorem dsE {r u : ℕ} (hr : r < 4096) (hu : u < 4096) : DS (sin m c t) (bh t) r u = DR m c (bh t / 20) (bh t % 20) r u := by
  rw [DS, DL, ppE m c t hr hu, dpE m c t hr hu]
  refine congrArg (fun z => PR m c (bh t / 20) (bh t % 20) r u * (_ - z)) (Finset.sum_congr rfl fun w hw => ?_)
  rw [ppE m c t hr (Finset.mem_range.1 hw), dpE m c t hr (Finset.mem_range.1 hw)]

/-- The results of the call. -/
def G7 : S60x4096x128.Idx → EReal := fun y =>
  (∑ u ∈ Finset.range 4096, DR m c ((y 0).val / 20) ((y 0).val % 20) (y 1).val u * g4 (k0 m c) ((y 0).val / 20) u ((y 0).val % 20) (y 2).val) * scl (M m c) ((y 0).val / 20) ((y 0).val % 20) 1
def G8 : S60x4096x128.Idx → EReal := fun y =>
  (∑ i ∈ Finset.range 4096, DR m c ((y 0).val / 20) ((y 0).val % 20) i (y 1).val * g4 (q0 m c) ((y 0).val / 20) i ((y 0).val % 20) (y 2).val) * scl (M m c) ((y 0).val / 20) ((y 0).val % 20) 2
def G9 : S60x4096x128.Idx → EReal := fun y =>
  (∑ i ∈ Finset.range 4096, PR m c ((y 0).val / 20) ((y 0).val % 20) i (y 1).val * g4 (g0 m c) ((y 0).val / 20) i ((y 0).val % 20) (y 2).val) * scl (M m c) ((y 0).val / 20) ((y 0).val % 20) 3
def G10 : S60x8x512.Idx → EReal := fun y =>
  (0 - ∑ i ∈ Finset.range 4096, DR m c ((y 0).val / 20) ((y 0).val % 20) i (512 * (y 1).val + (y 2).val)) * scl (M m c) ((y 0).val / 20) ((y 0).val % 20) 4

theorem o7 (y : S1x4096x128.Idx) : ov7 (sin m c t) (bh t) y = G7 m c (ix3 ⟨bh t, bh_lt t⟩ (y 1) (y 2)) := by
  rw [ov7, b0 m c t 1 (by norm_num)]
  refine congrArg (· * _) (Finset.sum_congr rfl fun u hu => ?_)
  rw [dsE m c t (y 1).isLt (Finset.mem_range.1 hu), b3 m c t u _ (Finset.mem_range.1 hu) (y 2).isLt]
theorem o8 (y : S1x4096x128.Idx) : ov8 (sin m c t) (bh t) y = G8 m c (ix3 ⟨bh t, bh_lt t⟩ (y 1) (y 2)) := by
  rw [ov8, b0 m c t 2 (by norm_num)]
  refine congrArg (· * _) (Finset.sum_congr rfl fun u hu => ?_)
  rw [dsE m c t (Finset.mem_range.1 hu) (y 1).isLt, b2 m c t u _ (Finset.mem_range.1 hu) (y 2).isLt, mul_comm]
theorem o9 (y : S1x4096x128.Idx) : ov9 (sin m c t) (bh t) y = G9 m c (ix3 ⟨bh t, bh_lt t⟩ (y 1) (y 2)) := by
  rw [ov9, b0 m c t 3 (by norm_num)]
  refine congrArg (· * _) (Finset.sum_congr rfl fun u hu => ?_)
  rw [ppE m c t (Finset.mem_range.1 hu) (y 1).isLt, b5 m c t u _ (Finset.mem_range.1 hu) (y 2).isLt, mul_comm]
theorem o10 (y : S1x8x512.Idx) : ov10 (sin m c t) (bh t) y = G10 m c (ix3 ⟨bh t, bh_lt t⟩ (y 1) (y 2)) := by
  have h1 : (y 1).val < 8 := (y 1).isLt
  have h2 : (y 2).val < 512 := (y 2).isLt
  rw [ov10, b0 m c t 4 (by norm_num)]
  refine congrArg (fun z => (0 - z) * _) (Finset.sum_congr rfl fun u hu => ?_)
  rw [dsE m c t (Finset.mem_range.1 hu) (by omega)]

theorem fin7 : (datV m c).arrAt 7 cfg0.N = G7 m c := by
  refine (datV m c).arrAt_eq_of_covers 7 _ (by decide +kernel) fun t hf y => ?_
  blk_simp
  rw [af7, o7]
  refine congrArg (G7 m c) ?_
  have := (y 0).isLt
  blk_ext [e7 t]
theorem fin8 : (datV m c).arrAt 8 cfg0.N = G8 m c := by
  refine (datV m c).arrAt_eq_of_covers 8 _ (by decide +kernel) fun t hf y => ?_
  blk_simp
  rw [af8, o8]
  refine congrArg (G8 m c) ?_
  have := (y 0).isLt
  blk_ext [e8 t]
theorem fin9 : (datV m c).arrAt 9 cfg0.N = G9 m c := by
  refine (datV m c).arrAt_eq_of_covers 9 _ (by decide +kernel) fun t hf y => ?_
  blk_simp
  rw [af9, o9]
  refine congrArg (G9 m c) ?_
  have := (y 0).isLt
  blk_ext [e9 t]
theorem fin10 : (datV m c).arrAt 10 cfg0.N = G10 m c := by
  refine (datV m c).arrAt_eq_of_covers 10 _ (by decide +kernel) fun t hf y => ?_
  blk_simp
  rw [af10, o10]
  refine congrArg (G10 m c) ?_
  have := (y 0).isLt
  blk_ext [e10 t]

/-- The arrays as the lines after the call find them. -/
abbrev W : Valuation τ sig (Elt Ideal) := Pipeline.withArrays spec0 c (V0 m c) fun w => (datsV m 0 c).arrAt w cfg0.N

theorem inj : Function.Injective (Pipeline.arrRef spec0) := by decide

theorem W0 : W m c (Proc.devRef .tc main_v34_0) = G7 m c := (Pipeline.withArrays_arr spec0 inj c _ _ 7).trans (fin7 m c)
theorem W1 : W m c (Proc.devRef .tc main_v34_1) = G8 m c := (Pipeline.withArrays_arr spec0 inj c _ _ 8).trans (fin8 m c)
theorem W2 : W m c (Proc.devRef .tc main_v34_2) = G9 m c := (Pipeline.withArrays_arr spec0 inj c _ _ 9).trans (fin9 m c)
theorem W3 : W m c (Proc.devRef .tc main_v34_3) = G10 m c := (Pipeline.withArrays_arr spec0 inj c _ _ 10).trans (fin10 m c)

theorem all_eq (V : Valuation τ sig (Elt Ideal)) : after (List.flatten [hostOps1, hostOps1_1, hostOps1_2]) V = after B1 V := rfl
theorem tail (b : Ref sig .tc) : Pipeline.afterTail₀ cfgs (datsV m) 0 (V0 m) [hostOps1, hostOps1_1, hostOps1_2] c b
    = after B1 (W m c) (Proc.devRef .tc b) := congrFun (all_eq (W m c)) _

/-- The run, and what each result holds. -/
theorem run (hC : ∀ c b i h, ∃ x : ℝ, g3 (C0 m c) b i h = (x : EReal)) (hq : ∀ c b h, ∃ x : ℝ, scl (M m c) b h 0 = (x : EReal)) :
    θ_run defs (onTc (τ := τ) (main (F := Ideal))) ⟨m, fun _ => 0, ρ⟩ (fun r => ∀ c : Dev nD,
      r.2.mem ((c.tc : Thread nD τ).loc main_v42) = after B1 (W m c) (Proc.devRef .tc main_v42)
      ∧ r.2.mem ((c.tc : Thread nD τ).loc main_v44) = after B1 (W m c) (Proc.devRef .tc main_v44)
      ∧ r.2.mem ((c.tc : Thread nD τ).loc main_v46) = after B1 (W m c) (Proc.devRef .tc main_v46)
      ∧ r.2.mem ((c.tc : Thread nD τ).loc main_v36) = after B1 (W m c) (Proc.devRef .tc main_v36)
      ∧ r.2.mem ((c.tc : Thread nD τ).loc main_v40) = dl (after B1 (W m c) (Proc.devRef .tc main_v36))) :=
  (θ_run defs _ _).mono (fun r h c => by
    exact ⟨((h c).2 main_v42 (Pipeline.mem_restRefs_of main_v42 (by decide) (by decide))).trans (tail m c main_v42),
      ((h c).2 main_v44 (Pipeline.mem_restRefs_of main_v44 (by decide) (by decide))).trans (tail m c main_v44),
      ((h c).2 main_v46 (Pipeline.mem_restRefs_of main_v46 (by decide) (by decide))).trans (tail m c main_v46),
      ((h c).2 main_v36 (Pipeline.mem_restRefs_of main_v36 (by decide) (by decide))).trans (tail m c main_v36),
      (((h c).2 main_v40 (Pipeline.mem_restRefs_of main_v40 (by decide) (by decide))).trans (tail m c main_v40)).trans (r40 _)⟩)
    (run_value m ρ fun c t => hyp m c t (hC c) (hq c))

end Cert.Proof.KerVal
end
-- ==== Proof.RefRead.lean ====
/-
  What the host lines of `Cert.ReferenceIdeal` leave in each array.
-/
module

public import proofs.«01_k».proof.Proof.Gen.ReferenceIdeal.Frame
public import proofs.«01_k».proof.Proof.Math
public import proofs.«01_k».proof.Proof.Spec
public import proofs.«01_k».proof.Proof.Mask
public import Idealize.ShloMosaic.Lib.StableHlo.ReadAt
public import Idealize.ShloMosaic.Lib.IdealHost
public import Idealize.ShloMosaic.Lib.Pointwise.Contract

@[expose] public section

set_option maxRecDepth 16384

noncomputable section

namespace Cert.Proof.RefRead

open Cert.ReferenceIdeal Cert.ReferenceIdeal.Gen
open Cert.Grid
open Idealize.ShloMosaic hiding ix1 ix2 ix3 ix4 eq_ix1 eq_ix2 eq_ix3 eq_ix4
open Idealize.ShloMosaic.ValueIdx
open Idealize.ShloMosaic.TcCoe Idealize.ShloMosaic.Tactic Idealize.ShloMosaic.StableHlo

/-- Arrays of the shapes met here. -/
abbrev T44 := S3x20x4096x4096.Idx → EReal
abbrev T41 := S3x20x4096x128.Idx → EReal
abbrev T3 := S3x20x4096.Idx → EReal
abbrev T4 := S3x20x1x1.Idx → EReal

/-- An array at an index, as an ideal number. -/
abbrev v44 (f : T44) (y : S3x20x4096x4096.Idx) : EReal := f y
abbrev v3 (f : T3) (y : S3x20x4096.Idx) : EReal := f y
abbrev v41 (f : T41) (y : S3x20x4096x128.Idx) : EReal := f y
abbrev v4 (f : T4) (y : S3x20x1x1.Idx) : EReal := f y

theorem lift3 (h : S3x20x4096x4096.Reduces [3] S3x20x4096) (y : S3x20x4096.Idx) (k : Fin 4096) : h.lift y k = ix4 (y 0) (y 1) (y 2) k := by
  funext c; fin_cases c <;> rfl
theorem lift2 (h : S3x20x4096x4096.Reduces [2] S3x20x4096) (y : S3x20x4096.Idx) (k : Fin 4096) : h.lift y k = ix4 (y 0) (y 1) k (y 2) := by
  funext c; fin_cases c <;> rfl

theorem ofBits_inf : Ideal.ofBits .f32 0x7F800000#32 = ⊤ := by
  unfold Ideal.ofBits Ideal.ieee
  simp

/-- A maximum over the last axis. -/
theorem host_max (x : T44) (h' h) (y : S3x20x4096.Idx) : Host.reduce (FloatOps.maximumf (F := Ideal) (φ := .f32)) x (constant S_ .f32 0xFF800000#32) (axes := [3]) h' h y
    = Row.mx 4096 fun u => g4 x (y 0).val (y 1).val (y 2).val u := by
  have hr : S3x20x4096x4096.Reduces [3] S3x20x4096 := by decide
  refine (Host.reduce_eq_fold_single (FloatOps.maximumf (F := Ideal) (φ := .f32)) x _ h' hr h y).trans ?_
  rw [show constant (F := Ideal) S_ .f32 0xFF800000#32 (Shape.Idx.first h) = (⊥ : EReal) from ofBits_neginf, Row.mx]
  show (Finset.univ : Finset (Fin 4096)).sup (x ∘ hr.lift y) = _
  apply le_antisymm
  · refine Finset.sup_le fun k _ => ?_
    refine (le_of_eq ((congrArg x (lift3 hr y k)).trans (g4_of x (y 0).isLt (y 1).isLt (y 2).isLt k.isLt).symm)).trans ?_
    exact Finset.le_sup (f := fun u => g4 x (y 0).val (y 1).val (y 2).val u) (Finset.mem_range.2 k.isLt)
  · refine Finset.sup_le fun u hu => ?_
    rw [g4_of x (y 0).isLt (y 1).isLt (y 2).isLt (Finset.mem_range.1 hu)]
    exact (le_of_eq (congrArg x (lift3 hr y ⟨u, Finset.mem_range.1 hu⟩).symm)).trans (Finset.le_sup (f := x ∘ hr.lift y) (Finset.mem_univ (⟨u, Finset.mem_range.1 hu⟩ : Fin 4096)))

/-- A sum over the last axis. -/
theorem host_sum3 (x : T44) (h' h) (y : S3x20x4096.Idx) : Host.reduceAdd (F := Ideal) (φ := .f32) x (constant S_ .f32 0#32) (axes := [3]) h' h y
    = ∑ u ∈ Finset.range 4096, g4 x (y 0).val (y 1).val (y 2).val u := by
  have hr : S3x20x4096x4096.Reduces [3] S3x20x4096 := by decide
  rw [hostReduceAdd_apply, Ideal.hostReduceAdd_single h' hr, show constant (F := Ideal) S_ .f32 0#32 (Shape.Idx.first h) = (0 : EReal) from Ideal.ofBits_zero_f32, zero_add, Finset.sum_range]
  exact Finset.sum_congr rfl fun k _ => (congrArg x (lift3 hr y k)).trans (g4_of x (y 0).isLt (y 1).isLt (y 2).isLt k.isLt).symm

/-- A sum over the rows. -/
theorem host_sum2 (x : T44) (h' h) (y : S3x20x4096.Idx) : Host.reduceAdd (F := Ideal) (φ := .f32) x (constant S_ .f32 0#32) (axes := [2]) h' h y
    = ∑ t ∈ Finset.range 4096, g4 x (y 0).val (y 1).val t (y 2).val := by
  have hr : S3x20x4096x4096.Reduces [2] S3x20x4096 := by decide
  rw [hostReduceAdd_apply, Ideal.hostReduceAdd_single h' hr, show constant (F := Ideal) S_ .f32 0#32 (Shape.Idx.first h) = (0 : EReal) from Ideal.ofBits_zero_f32, zero_add, Finset.sum_range]
  exact Finset.sum_congr rfl fun k _ => (congrArg x (lift2 hr y k)).trans (g4_of x (y 0).isLt (y 1).isLt k.isLt (y 2).isLt).symm

theorem row4 (x : T44) (y : S3x20x4096.Idx) {u : ℕ} (hu : u ∈ Finset.range 4096) :
    g4 x (y 0).val (y 1).val (y 2).val u = v44 x (ix4 (y 0) (y 1) (y 2) ⟨u, Finset.mem_range.1 hu⟩) :=
  g4_of x (y 0).isLt (y 1).isLt (y 2).isLt (Finset.mem_range.1 hu)

/-- The product of rows with rows, batched over the first two axes. -/
theorem dot33 (l r : T41) (y : S3x20x4096x4096.Idx) : ∑ k : Fin 128, v41 l (ix4 (y 0) (y 1) (y 2) k) * v41 r (ix4 (y 0) (y 1) (y 3) k)
    = ∑ d ∈ Finset.range 128, g4 l (y 0).val (y 1).val (y 2).val d * g4 r (y 0).val (y 1).val (y 3).val d := by
  rw [Finset.sum_range]
  refine Finset.sum_congr rfl fun k _ => ?_
  rw [g4_of l (y 0).isLt (y 1).isLt (y 2).isLt k.isLt, g4_of r (y 0).isLt (y 1).isLt (y 3).isLt k.isLt]; rfl
/-- The product of rows with columns. -/
theorem dot32 (l : T44) (r : T41) (b : Fin 3) (h : Fin 20) (t : Fin 4096) (d : Fin 128) : ∑ k : Fin 4096, v44 l (ix4 b h t k) * v41 r (ix4 b h k d)
    = ∑ u ∈ Finset.range 4096, g4 l b.val h.val t.val u * g4 r b.val h.val u d.val := by
  rw [Finset.sum_range]
  refine Finset.sum_congr rfl fun k _ => ?_
  rw [g4_of l b.isLt h.isLt t.isLt k.isLt, g4_of r b.isLt h.isLt k.isLt d.isLt]
/-- The product of columns with columns. -/
theorem dot22 (l : T44) (r : T41) (b : Fin 3) (h : Fin 20) (u : Fin 4096) (d : Fin 128) : ∑ k : Fin 4096, v44 l (ix4 b h k u) * v41 r (ix4 b h k d)
    = ∑ t ∈ Finset.range 4096, g4 l b.val h.val t u.val * g4 r b.val h.val t d.val := by
  rw [Finset.sum_range]
  refine Finset.sum_congr rfl fun k _ => ?_
  rw [g4_of l b.isLt h.isLt k.isLt u.isLt, g4_of r b.isLt h.isLt k.isLt d.isLt]

variable (V : Valuation τ sig (Elt Ideal))

/-- The lines up to the masked scores. -/
abbrev A1 : List (HloOp τ sig (Elt Ideal)) := hostOps1 ++ hostOps1_1 ++ hostOps1_2
/-- The maximum of each row. -/
abbrev A2a : List (HloOp τ sig (Elt Ideal)) := hostOps1_3.take 2
/-- The shift of each row. -/
abbrev A2b : List (HloOp τ sig (Elt Ideal)) := hostOps1_3.drop 2 ++ hostOps1_4
/-- The logarithm of each row's sum. -/
abbrev A3 : List (HloOp τ sig (Elt Ideal)) := hostOps1_5.take 8
/-- The softmax weights. -/
abbrev A4 : List (HloOp τ sig (Elt Ideal)) := (hostOps1_5.drop 8).take 4
/-- Their gradient and its row sum. -/
abbrev A5 : List (HloOp τ sig (Elt Ideal)) := (hostOps1_5.drop 12).take 6
/-- The gradient of the scores. -/
abbrev A6 : List (HloOp τ sig (Elt Ideal)) := (hostOps1_5.drop 18).take 4
/-- The lines from there to the first three results. -/
abbrev A7 : List (HloOp τ sig (Elt Ideal)) := hostOps1_5.drop 22 ++ hostOps1_6 ++ hostOps1_7

theorem r38 (y : S3x20x4096.Idx) : v3 (after A2a V (Proc.devRef .tc main_v38)) y
    = Row.mx 4096 fun u => g4 (V (Proc.devRef .tc main_v37) : T44) (y 0).val (y 1).val (y 2).val u := by
  after_reads_simp
  exact host_max _ _ _ y
theorem r42 (y : S3x20x4096.Idx) : v3 (after A2b V (Proc.devRef .tc main_v42)) y
    = if max (v3 (V (Proc.devRef .tc main_v38)) y) (-v3 (V (Proc.devRef .tc main_v38)) y) < ⊤ then v3 (V (Proc.devRef .tc main_v38)) y else 0 := by
  after_reads_at
  show Scalar.select (Ideal.cmp .olt (max (v3 (V (Proc.devRef .tc main_v38)) y) (-(v3 (V (Proc.devRef .tc main_v38)) y))) (Ideal.ofBits .f32 0x7F800000#32)) (v3 (V (Proc.devRef .tc main_v38)) y) (Ideal.ofBits .f32 0#32) = _
  rw [ofBits_inf, Ideal.ofBits_zero_f32]
  by_cases h : max (v3 (V (Proc.devRef .tc main_v38)) y) (-(v3 (V (Proc.devRef .tc main_v38)) y)) < ⊤
  · rw [if_pos h]; simp [Scalar.select, Ideal.cmp, h]
  · rw [if_neg h]; simp [Scalar.select, Ideal.cmp, h]
theorem r49 (y : S3x20x4096.Idx) : v3 (after A3 V (Proc.devRef .tc main_v49)) y
    = Ideal.log (∑ u ∈ Finset.range 4096, Ideal.exp (g4 (V (Proc.devRef .tc main_v37) : T44) (y 0).val (y 1).val (y 2).val u - v3 (V (Proc.devRef .tc main_v42)) y))
      + v3 (V (Proc.devRef .tc main_v42)) y := by
  after_reads_simp
  refine congrArg (fun z => Ideal.log z + v3 (V (Proc.devRef .tc main_v42)) y) ((host_sum3 _ _ _ y).trans ?_)
  refine Finset.sum_congr rfl fun u hu => ?_
  refine (row4 _ y hu).trans ?_
  rw [row4 _ y hu, v44, v44, v3]
  pointwise
  exact congrArg (fun z => Ideal.exp (_ - V (Proc.devRef .tc main_v42) z)) (eq_ix3 y).symm
theorem r53 (y : S3x20x4096x4096.Idx) : v44 (after A4 V (Proc.devRef .tc main_v53)) y
    = Ideal.exp (v44 (V (Proc.devRef .tc main_v37)) y - v3 (V (Proc.devRef .tc main_v49)) (ix3 (y 0) (y 1) (y 2))) := by
  after_reads_at
  rfl
theorem r56 (y : S3x20x4096x4096.Idx) : v44 (after A5 V (Proc.devRef .tc main_v56)) y
    = (∑ d ∈ Finset.range 128, g4 (V (Proc.devRef .tc main_v19) : T41) (y 0).val (y 1).val (y 2).val d * g4 (V (Proc.devRef .tc main_v18) : T41) (y 0).val (y 1).val (y 3).val d)
      * v4 (V (Proc.devRef .tc main_v8)) (ix4 (y 0) (y 1) 0 0) := by
  after_reads_at
  exact congrArg (· * _) (dot33 _ _ y)
theorem r58 (y : S3x20x4096.Idx) : v3 (after A5 V (Proc.devRef .tc main_v58)) y
    = ∑ u ∈ Finset.range 4096, g4 (V (Proc.devRef .tc main_v53) : T44) (y 0).val (y 1).val (y 2).val u * g4 (after A5 V (Proc.devRef .tc main_v56) : T44) (y 0).val (y 1).val (y 2).val u := by
  after_reads_simp
  refine (host_sum3 _ _ _ y).trans ?_
  refine Finset.sum_congr rfl fun u hu => ?_
  refine (row4 _ y hu).trans ?_
  rw [row4 _ y hu, row4 _ y hu]
  rfl
theorem r62 (y : S3x20x4096x4096.Idx) : v44 (after A6 V (Proc.devRef .tc main_v62)) y
    = v44 (V (Proc.devRef .tc main_v53)) y * (v44 (V (Proc.devRef .tc main_v56)) y - v3 (V (Proc.devRef .tc main_v58)) (ix3 (y 0) (y 1) (y 2))) := by
  after_reads_at
  rfl

/-- An array of shape `[3, 4096, 20, 128]` at an index. -/
abbrev w41 (f : S3x4096x20x128.Idx → EReal) (y : S3x4096x20x128.Idx) : EReal := f y
abbrev w3 (f : S3x4096x20.Idx → EReal) (y : S3x4096x20.Idx) : EReal := f y

theorem r80 (y : S3x4096x20x128.Idx) : w41 (after A7 V (Proc.devRef .tc main_v80)) y
    = (∑ u ∈ Finset.range 4096, g4 (V (Proc.devRef .tc main_v62) : T44) (y 0).val (y 2).val (y 1).val u * g4 (V (Proc.devRef .tc main_v17) : T41) (y 0).val (y 2).val u (y 3).val)
      * v4 (V (Proc.devRef .tc main_v11)) (ix4 (y 0) (y 2) 0 0) := by
  after_reads_at
  exact congrArg (· * _) (dot32 _ _ (y 0) (y 2) (y 1) (y 3))
theorem r81 (y : S3x4096x20x128.Idx) : w41 (after A7 V (Proc.devRef .tc main_v81)) y
    = (∑ t ∈ Finset.range 4096, g4 (V (Proc.devRef .tc main_v62) : T44) (y 0).val (y 2).val t (y 1).val * g4 (V (Proc.devRef .tc main_v16) : T41) (y 0).val (y 2).val t (y 3).val)
      * v4 (V (Proc.devRef .tc main_v14)) (ix4 (y 0) (y 2) 0 0) := by
  after_reads_at
  exact congrArg (· * _) (dot22 _ _ (y 0) (y 2) (y 1) (y 3))
theorem r82 (y : S3x4096x20x128.Idx) : w41 (after A7 V (Proc.devRef .tc main_v82)) y
    = (∑ t ∈ Finset.range 4096, g4 (V (Proc.devRef .tc main_v53) : T44) (y 0).val (y 2).val t (y 1).val * g4 (V (Proc.devRef .tc main_v19) : T41) (y 0).val (y 2).val t (y 3).val)
      * v4 (V (Proc.devRef .tc main_v15)) (ix4 (y 0) (y 2) 0 0) := by
  after_reads_at
  exact congrArg (· * _) (dot22 _ _ (y 0) (y 2) (y 1) (y 3))
theorem r83 (y : S3x4096x20.Idx) : w3 (after A7 V (Proc.devRef .tc main_v83)) y
    = -(∑ t ∈ Finset.range 4096, g4 (V (Proc.devRef .tc main_v62) : T44) (y 0).val (y 2).val t (y 1).val) := by
  after_reads_simp
  refine (congrFun (show _ = fun x => -(v3 (Host.reduceAdd (F := Ideal) (φ := .f32) (V (Proc.devRef .tc main_v62)) (constant S_ .f32 0#32) reducesTo_S3x20x4096x4096_S3x20x4096_d2 h_S_) (ix3 (x 0) (x 2) (x 1))) from ?_) y).trans ?_
  · funext x; pointwise
    rfl
  · exact congrArg (- ·) (host_sum2 _ _ _ _)

theorem sel_le {m n : ℕ} (hm : m < 2 ^ 30) (hn : n < 2 ^ 30) (x y : EReal) :
    Scalar.select (IntOp.cmpi .sle (BitVec.ofNat 32 m) (BitVec.ofNat 32 n)) x y = if m ≤ n then x else y := by
  by_cases h : m ≤ n
  · rw [if_pos h]; exact if_pos ((Cert.Proof.KernelIdeal.sle_nat hm hn).2 h)
  · rw [if_neg h]; exact if_neg (fun e => h ((Cert.Proof.KernelIdeal.sle_nat hm hn).1 e))

theorem congr_add {a b c d : EReal} (h : a = b) (k : c = d) : a + c = b + d := by rw [h, k]
theorem congr_sub {a b c d : EReal} (h : a = b) (k : c = d) : a - c = b - d := by rw [h, k]

theorem cum_eq (x : FVec Ideal S3x4096x20 .f32) : Spec.cum x = (Host.reduceWindowAdd ![1, 4096, 1] ![1, 1, 1] ![0, 4095, 0] ![0, 0, 0] x
      (broadcastInDim S_ ![] bcast_S_S_ (constant S_ FTy.f32 0#32)) reduceWindows_S3x4096x20_S3x4096x20_w1s1p0_0_w4096s1p4095_0_w1s1p0_0 h_S_) := by
  rw [Spec.cum]

/-- The masked scores. -/
theorem r37 (y : S3x20x4096x4096.Idx) : v44 (after A1 V (Proc.devRef .tc main_v37)) y
    = Spec.S (V (Proc.devRef .tc main_v0_0)) (V (Proc.devRef .tc main_v0_1)) (V (Proc.devRef .tc main_arg1)) (V (Proc.devRef .tc main_arg3))
      (Spec.cum (V (Proc.devRef .tc main_arg8))) (y 0).val (y 1).val (y 2).val (y 3).val := by
  after_reads_at
  have h2 : (y 2).val < 4096 := (y 2).isLt
  have h3 : (y 3).val < 4096 := (y 3).isLt
  refine (sel_le (by omega) (by omega) _ _).trans ?_
  rw [← cum_eq (V (Proc.devRef .tc main_arg8))]
  generalize Spec.cum (V (Proc.devRef .tc main_arg8)) = C
  rw [Spec.S, Finset.sum_range]
  refine if_congr Iff.rfl ?_ ofBits_neginf
  exact congr_sub (congr_add (congrArg₂ (· * ·) (Finset.sum_congr rfl fun k _ => congrArg₂ (· * ·) (g4_of _ (y 0).isLt (y 2).isLt (y 1).isLt k.isLt).symm
      (g4_of _ (y 0).isLt (y 3).isLt (y 1).isLt k.isLt).symm)
    (congrArg₂ (· * ·) (congrArg (Spec.SM * ·) (g2_of _ (y 0).isLt (y 1).isLt).symm) (g2_of _ (y 0).isLt (y 1).isLt).symm))
    (g3_of _ (y 0).isLt h2 (y 1).isLt).symm) (g3_of _ (y 0).isLt h3 (y 1).isLt).symm

theorem r8 (y : S3x20x1x1.Idx) : v4 (after A1 V (Proc.devRef .tc main_v8)) y
    = g2 (V (Proc.devRef .tc main_arg7) : Spec.X2) (y 0).val (y 1).val * g2 (V (Proc.devRef .tc main_arg5) : Spec.X2) (y 0).val (y 1).val := by
  after_reads_at
  exact congrArg₂ (· * ·) (g2_of _ (y 0).isLt (y 1).isLt).symm (g2_of _ (y 0).isLt (y 1).isLt).symm
theorem r11 (y : S3x20x1x1.Idx) : v4 (after A1 V (Proc.devRef .tc main_v11)) y
    = Spec.SM * g2 (V (Proc.devRef .tc main_arg3) : Spec.X2) (y 0).val (y 1).val := by
  after_reads_at
  exact congrArg (Spec.SM * ·) (g2_of _ (y 0).isLt (y 1).isLt).symm
theorem r14 (y : S3x20x1x1.Idx) : v4 (after A1 V (Proc.devRef .tc main_v14)) y
    = Spec.SM * g2 (V (Proc.devRef .tc main_arg1) : Spec.X2) (y 0).val (y 1).val := by
  after_reads_at
  exact congrArg (Spec.SM * ·) (g2_of _ (y 0).isLt (y 1).isLt).symm
theorem r15 (y : S3x20x1x1.Idx) : v4 (after A1 V (Proc.devRef .tc main_v15)) y
    = g2 (V (Proc.devRef .tc main_arg7) : Spec.X2) (y 0).val (y 1).val := by
  after_reads_at
  exact (g2_of _ (y 0).isLt (y 1).isLt).symm

theorem g4_swap (X : T41) (Y : Spec.X4) (h : ∀ b h t d, X (ix4 b h t d) = Y (ix4 b t h d)) (b h' t d : ℕ) : g4 X b h' t d = g4 Y b t h' d := by
  unfold g4
  by_cases c : b < 3 ∧ h' < 20 ∧ t < 4096 ∧ d < 128
  · rw [dif_pos c, dif_pos ⟨c.1, c.2.2.1, c.2.1, c.2.2.2⟩]; exact h _ _ _ _
  · rw [dif_neg c, dif_neg (fun e => c ⟨e.1, e.2.2.1, e.2.1, e.2.2.2⟩)]

theorem r16 (b h t d : ℕ) : g4 (after A1 V (Proc.devRef .tc main_v16) : T41) b h t d = g4 (V (Proc.devRef .tc main_v0_0) : Spec.X4) b t h d :=
  g4_swap _ _ (fun b h t d => by after_reads_at; rfl) _ _ _ _
theorem r17 (b h t d : ℕ) : g4 (after A1 V (Proc.devRef .tc main_v17) : T41) b h t d = g4 (V (Proc.devRef .tc main_v0_1) : Spec.X4) b t h d :=
  g4_swap _ _ (fun b h t d => by after_reads_at; rfl) _ _ _ _
theorem r18 (b h t d : ℕ) : g4 (after A1 V (Proc.devRef .tc main_v18) : T41) b h t d = g4 (V (Proc.devRef .tc main_v0_2) : Spec.X4) b t h d :=
  g4_swap _ _ (fun b h t d => by after_reads_at; rfl) _ _ _ _
theorem r19 (b h t d : ℕ) : g4 (after A1 V (Proc.devRef .tc main_v19) : T41) b h t d = g4 (V (Proc.devRef .tc main_v0_3) : Spec.X4) b t h d :=
  g4_swap _ _ (fun b h t d => by after_reads_at; rfl) _ _ _ _

/-- The lines from the scores to the weights. -/
abbrev toP : Valuation τ sig (Elt Ideal) := after A4 (after A3 (after A2b (after A2a V)))
/-- The lines from the scores to their gradient. -/
abbrev toDS : Valuation τ sig (Elt Ideal) := after A6 (after A5 (toP V))

theorem keep37 : after A3 (after A2b (after A2a V)) (Proc.devRef .tc main_v37) = V (Proc.devRef .tc main_v37)
    ∧ after A2b (after A2a V) (Proc.devRef .tc main_v37) = V (Proc.devRef .tc main_v37) := by
  constructor <;> after_reads_simp

theorem rP (y : S3x20x4096x4096.Idx) : v44 (toP V (Proc.devRef .tc main_v53)) y
    = Row.P 4096 (fun u => g4 (V (Proc.devRef .tc main_v37) : T44) (y 0).val (y 1).val (y 2).val u) (y 3).val := by
  have k := keep37 V
  rw [r53, k.1, r49, k.2, r42, r38, v44, g4_val (V (Proc.devRef .tc main_v37) : T44) y]
  rfl

theorem keepP : toP V (Proc.devRef .tc main_v8) = V (Proc.devRef .tc main_v8) ∧ toP V (Proc.devRef .tc main_v18) = V (Proc.devRef .tc main_v18)
    ∧ toP V (Proc.devRef .tc main_v19) = V (Proc.devRef .tc main_v19) := by
  refine ⟨?_, ?_, ?_⟩ <;> after_reads_simp

theorem keepDS : toDS V (Proc.devRef .tc main_v16) = V (Proc.devRef .tc main_v16) ∧ toDS V (Proc.devRef .tc main_v17) = V (Proc.devRef .tc main_v17)
    ∧ toDS V (Proc.devRef .tc main_v19) = V (Proc.devRef .tc main_v19) ∧ toDS V (Proc.devRef .tc main_v11) = V (Proc.devRef .tc main_v11)
    ∧ toDS V (Proc.devRef .tc main_v14) = V (Proc.devRef .tc main_v14) ∧ toDS V (Proc.devRef .tc main_v15) = V (Proc.devRef .tc main_v15) := by
  refine ⟨?_, ?_, ?_, ?_, ?_, ?_⟩ <;> after_reads_simp

theorem keep53 : after A6 (after A5 V) (Proc.devRef .tc main_v53) = V (Proc.devRef .tc main_v53) ∧ after A5 V (Proc.devRef .tc main_v53) = V (Proc.devRef .tc main_v53) := by
  constructor <;> after_reads_simp

abbrev q0 : Spec.X4 := V (Proc.devRef .tc main_v0_0)
abbrev k0 : Spec.X4 := V (Proc.devRef .tc main_v0_1)
abbrev v0 : Spec.X4 := V (Proc.devRef .tc main_v0_2)
abbrev g0 : Spec.X4 := V (Proc.devRef .tc main_v0_3)
abbrev qs : Spec.X2 := V (Proc.devRef .tc main_arg1)
abbrev ks : Spec.X2 := V (Proc.devRef .tc main_arg3)
abbrev vs : Spec.X2 := V (Proc.devRef .tc main_arg5)
abbrev gs : Spec.X2 := V (Proc.devRef .tc main_arg7)
abbrev C0 : Spec.X3 := Spec.cum (V (Proc.devRef .tc main_arg8))
/-- The gradient of the scores in the arrays of `V`. -/
abbrev DSr (b h t u : ℕ) : EReal := Spec.DS (q0 V) (k0 V) (v0 V) (g0 V) (qs V) (ks V) (vs V) (gs V) (C0 V) b h t u
abbrev Pr (b h t u : ℕ) : EReal := Spec.P (q0 V) (k0 V) (qs V) (ks V) (C0 V) b h t u

section
variable {b h t u : ℕ} (hb : b < 3) (hh : h < 20) (ht : t < 4096) (hu : u < 4096)
include hb hh ht hu

theorem gS : g4 (after A1 V (Proc.devRef .tc main_v37) : T44) b h t u = Spec.S (q0 V) (k0 V) (qs V) (ks V) (C0 V) b h t u := by
  rw [g4_of _ hb hh ht hu]; exact r37 V (ix4 ⟨b, hb⟩ ⟨h, hh⟩ ⟨t, ht⟩ ⟨u, hu⟩)

theorem gP : g4 (toP (after A1 V) (Proc.devRef .tc main_v53) : T44) b h t u = Pr V b h t u := by
  rw [g4_of _ hb hh ht hu]
  refine (rP (after A1 V) (ix4 ⟨b, hb⟩ ⟨h, hh⟩ ⟨t, ht⟩ ⟨u, hu⟩)).trans ?_
  exact Row.P_congr (fun w hw => gS V hb hh ht hw) hu

theorem gDp : g4 (after A5 (toP (after A1 V)) (Proc.devRef .tc main_v56) : T44) b h t u = Spec.Dp (v0 V) (g0 V) (vs V) (gs V) b h t u := by
  have k := keepP (after A1 V)
  rw [g4_of _ hb hh ht hu]
  refine (r56 (toP (after A1 V)) (ix4 ⟨b, hb⟩ ⟨h, hh⟩ ⟨t, ht⟩ ⟨u, hu⟩)).trans ?_
  rw [k.1, k.2.1, k.2.2, r8]
  refine congrArg (· * _) (Finset.sum_congr rfl fun d _ => ?_)
  rw [r18, r19]

theorem gDS : g4 (toDS (after A1 V) (Proc.devRef .tc main_v62) : T44) b h t u = DSr V b h t u := by
  have k := keep53 (toP (after A1 V))
  rw [g4_of _ hb hh ht hu]
  refine (r62 (after A5 (toP (after A1 V))) (ix4 ⟨b, hb⟩ ⟨h, hh⟩ ⟨t, ht⟩ ⟨u, hu⟩)).trans ?_
  rw [k.2, r58]
  refine congrArg₂ (· * ·) ((g4_of (toP (after A1 V) (Proc.devRef .tc main_v53) : T44) hb hh ht hu).symm.trans (gP V hb hh ht hu)) (congr_sub
    ((g4_of (after A5 (toP (after A1 V)) (Proc.devRef .tc main_v56) : T44) hb hh ht hu).symm.trans (gDp V hb hh ht hu)) (Finset.sum_congr rfl fun w hw => ?_))
  exact congrArg₂ (· * ·) (gP V hb hh ht (Finset.mem_range.1 hw)) (gDp V hb hh ht (Finset.mem_range.1 hw))
end

/-- All the lines. -/
abbrev All : Valuation τ sig (Elt Ideal) := after A7 (toDS (after A1 V))

theorem e80 (y : S3x4096x20x128.Idx) : w41 (All V (Proc.devRef .tc main_v80)) y
    = (∑ u ∈ Finset.range 4096, DSr V (y 0).val (y 2).val (y 1).val u * g4 (k0 V) (y 0).val u (y 2).val (y 3).val) * (Spec.SM * g2 (ks V) (y 0).val (y 2).val) := by
  have k := keepDS (after A1 V)
  rw [r80, k.2.1, k.2.2.2.1, r11]
  refine congrArg (· * _) (Finset.sum_congr rfl fun u hu => ?_)
  rw [gDS V (y 0).isLt (y 2).isLt (y 1).isLt (Finset.mem_range.1 hu), r17]

theorem e81 (y : S3x4096x20x128.Idx) : w41 (All V (Proc.devRef .tc main_v81)) y
    = (∑ t ∈ Finset.range 4096, DSr V (y 0).val (y 2).val t (y 1).val * g4 (q0 V) (y 0).val t (y 2).val (y 3).val) * (Spec.SM * g2 (qs V) (y 0).val (y 2).val) := by
  have k := keepDS (after A1 V)
  rw [r81, k.1, k.2.2.2.2.1, r14]
  refine congrArg (· * _) (Finset.sum_congr rfl fun t ht => ?_)
  rw [gDS V (y 0).isLt (y 2).isLt (Finset.mem_range.1 ht) (y 1).isLt, r16]

theorem e82 (y : S3x4096x20x128.Idx) : w41 (All V (Proc.devRef .tc main_v82)) y
    = (∑ t ∈ Finset.range 4096, Pr V (y 0).val (y 2).val t (y 1).val * g4 (g0 V) (y 0).val t (y 2).val (y 3).val) * g2 (gs V) (y 0).val (y 2).val := by
  have k := keepDS (after A1 V)
  rw [r82, k.2.2.1, k.2.2.2.2.2, r15, show toDS (after A1 V) (Proc.devRef .tc main_v53) = _ from (keep53 (toP (after A1 V))).1]
  refine congrArg (· * _) (Finset.sum_congr rfl fun t ht => ?_)
  rw [gP V (y 0).isLt (y 2).isLt (Finset.mem_range.1 ht) (y 1).isLt, r19]

theorem e83 (y : S3x4096x20.Idx) : w3 (All V (Proc.devRef .tc main_v83)) y
    = -(∑ t ∈ Finset.range 4096, DSr V (y 0).val (y 2).val t (y 1).val) := by
  rw [r83]
  refine congrArg (- ·) (Finset.sum_congr rfl fun t ht => ?_)
  rw [gDS V (y 0).isLt (y 2).isLt (Finset.mem_range.1 ht) (y 1).isLt]

theorem all_eq : after (List.flatten [hostOps1, hostOps1_1, hostOps1_2, hostOps1_3, hostOps1_4, hostOps1_5, hostOps1_6, hostOps1_7]) V = All V := by
  simp only [All, toDS, toP, ← StableHlo.after_append]
  rfl

end Cert.Proof.RefRead
end
-- ==== Proof.RefVal.lean ====
/-
  What `Cert.ReferenceIdeal` leaves in its results.
-/
module

public import proofs.«01_k».proof.Proof.RefRead
public import Idealize.ShloMosaic.Lib.Pipeline.ValueKit

@[expose] public section

noncomputable section

namespace Cert.Proof.RefRead

open Idealize.ShloMosaic Idealize.ShloMosaic.TcCoe Idealize.SL.Sem
open Idealize.ShloMosaic.Pipeline (Dat)
open Idealize.ShloMosaic.StableHlo (after)
open Cert.ReferenceIdeal Cert.ReferenceIdeal.Gen

variable (m : (ℓ : Loc nD τ sig) → Buf (Elt Ideal) ℓ) (ρ : Dev nD → PrngReg) (c : Dev nD)

theorem idx : ∀ t : Fin cfg0.N, win0_0.index t = ![0, 0, 0, 0] ∧ win0_1.index t = ![0, 0, 0, 0] ∧ win0_2.index t = ![0, 0, 0, 0] ∧ win0_3.index t = ![0, 0, 0, 0]
    ∧ win0_4.index t = ![0, 0, 0, 0] ∧ win0_5.index t = ![0, 0, 0, 0] ∧ win0_6.index t = ![0, 0, 0, 0] ∧ win0_7.index t = ![0, 0, 0, 0] :=
  (by decide +kernel : ∀ t : Fin grid0.N, _)

theorem iblk0 : iblk m c 0 t0_0 = m ((c : Thread nD τ).loc main_arg0) := by blk_ext! [iblk, V, idx t0_0]
theorem iblk1 : iblk m c 1 t0_0 = m ((c : Thread nD τ).loc main_arg2) := by blk_ext! [iblk, V, idx t0_0]
theorem iblk2 : iblk m c 2 t0_0 = m ((c : Thread nD τ).loc main_arg4) := by blk_ext! [iblk, V, idx t0_0]
theorem iblk3 : iblk m c 3 t0_0 = m ((c : Thread nD τ).loc main_arg6) := by blk_ext! [iblk, V, idx t0_0]

theorem fin4 : (dats m 0 c).arrAt 4 cfg0.N = m ((c : Thread nD τ).loc main_arg0) := by
  refine (dats m 0 c).arrAt_eq_of_after_last 4 t0_0 (by decide +kernel) _ fun j => ?_
  blk_simp
  rw [after0_4]
  unfold out0_4
  frame_out
  rw [iblk0]
  rfl
theorem fin5 : (dats m 0 c).arrAt 5 cfg0.N = m ((c : Thread nD τ).loc main_arg2) := by
  refine (dats m 0 c).arrAt_eq_of_after_last 5 t0_0 (by decide +kernel) _ fun j => ?_
  blk_simp
  rw [after0_5]
  unfold out0_5
  frame_out
  rw [iblk1]
  rfl
theorem fin6 : (dats m 0 c).arrAt 6 cfg0.N = m ((c : Thread nD τ).loc main_arg4) := by
  refine (dats m 0 c).arrAt_eq_of_after_last 6 t0_0 (by decide +kernel) _ fun j => ?_
  blk_simp
  rw [after0_6]
  unfold out0_6
  frame_out
  rw [iblk2]
  rfl
theorem fin7 : (dats m 0 c).arrAt 7 cfg0.N = m ((c : Thread nD τ).loc main_arg6) := by
  refine (dats m 0 c).arrAt_eq_of_after_last 7 t0_0 (by decide +kernel) _ fun j => ?_
  blk_simp
  rw [after0_7]
  unfold out0_7
  frame_out
  rw [iblk3]
  rfl

/-- The running sums from the end, the first row set to zero. -/
def dl (x : FVec Ideal S3x4096x20 .f32) : FVec Ideal S3x4096x20 .f32 :=
  Host.scatter scatter_S3x4096x20_S1_S3x20_01_1_1_0 (fun _ b => b)
    (Host.reduceWindowAdd ![1, 4096, 1] ![1, 1, 1] ![0, 0, 0] ![0, 4095, 0] x
      (broadcastInDim S_ ![] bcast_S_S_ (constant S_ .f32 0x00000000#32)) reduceWindows_S3x4096x20_S3x4096x20_w1s1p0_0_w4096s1p0_4095_w1s1p0_0 h_S_)
    (broadcastInDim S1 ![] bcast_S_S1 (constantI S_ 32 0#32)) (broadcastInDim S3x20 ![] bcast_S_S3x20 (constant S_ .f32 0x00000000#32))

theorem r87 (V : Valuation τ sig (Elt Ideal)) : after A7 V (Proc.devRef .tc main_v87) = dl (after A7 V (Proc.devRef .tc main_v83)) := by
  simp only [A7, StableHlo.after_append]
  generalize after (List.drop 22 hostOps1_5) V = V'
  have e : after hostOps1_7 (after hostOps1_6 V') (Proc.devRef .tc main_v83) = V' (Proc.devRef .tc main_v83) := by after_reads_simp
  rw [e, dl]
  after_reads_simp
  rfl

/-- The arrays as the lines after the call find them. -/
abbrev W : Valuation τ sig (Elt Ideal) := Pipeline.withArrays spec0 c (V0 m c) fun w => (dats m 0 c).arrAt w cfg0.N

theorem inj : Function.Injective (Pipeline.arrRef spec0) := by decide

theorem W0 : W m c (Proc.devRef .tc main_v0_0) = m ((c : Thread nD τ).loc main_arg0) := (Pipeline.withArrays_arr spec0 inj c _ _ 4).trans (fin4 m c)
theorem W2 : W m c (Proc.devRef .tc main_v0_1) = m ((c : Thread nD τ).loc main_arg2) := (Pipeline.withArrays_arr spec0 inj c _ _ 5).trans (fin5 m c)
theorem W4 : W m c (Proc.devRef .tc main_v0_2) = m ((c : Thread nD τ).loc main_arg4) := (Pipeline.withArrays_arr spec0 inj c _ _ 6).trans (fin6 m c)
theorem W6 : W m c (Proc.devRef .tc main_v0_3) = m ((c : Thread nD τ).loc main_arg6) := (Pipeline.withArrays_arr spec0 inj c _ _ 7).trans (fin7 m c)
theorem W1 : W m c (Proc.devRef .tc main_arg1) = m ((c : Thread nD τ).loc main_arg1) := Pipeline.withArrays_of_ne spec0 c _ _ main_arg1 (by decide)
theorem W3 : W m c (Proc.devRef .tc main_arg3) = m ((c : Thread nD τ).loc main_arg3) := Pipeline.withArrays_of_ne spec0 c _ _ main_arg3 (by decide)
theorem W5 : W m c (Proc.devRef .tc main_arg5) = m ((c : Thread nD τ).loc main_arg5) := Pipeline.withArrays_of_ne spec0 c _ _ main_arg5 (by decide)
theorem W7 : W m c (Proc.devRef .tc main_arg7) = m ((c : Thread nD τ).loc main_arg7) := Pipeline.withArrays_of_ne spec0 c _ _ main_arg7 (by decide)
theorem W8 : W m c (Proc.devRef .tc main_arg8) = m ((c : Thread nD τ).loc main_arg8) := Pipeline.withArrays_of_ne spec0 c _ _ main_arg8 (by decide)

theorem tail (b : Ref sig .tc) : Pipeline.afterTail₀ cfgs (dats m) 0 (V0 m) [hostOps1, hostOps1_1, hostOps1_2, hostOps1_3, hostOps1_4, hostOps1_5, hostOps1_6, hostOps1_7] c b
    = All (W m c) (Proc.devRef .tc b) := congrFun (all_eq (W m c)) _

/-- The run, and what each result holds. -/
theorem run : θ_run defs (onTc (τ := τ) (main (F := Ideal))) ⟨m, fun _ => 0, ρ⟩ (fun r => ∀ c : Dev nD,
    r.2.mem ((c.tc : Thread nD τ).loc main_v80) = All (W m c) (Proc.devRef .tc main_v80)
    ∧ r.2.mem ((c.tc : Thread nD τ).loc main_v81) = All (W m c) (Proc.devRef .tc main_v81)
    ∧ r.2.mem ((c.tc : Thread nD τ).loc main_v82) = All (W m c) (Proc.devRef .tc main_v82)
    ∧ r.2.mem ((c.tc : Thread nD τ).loc main_v83) = All (W m c) (Proc.devRef .tc main_v83)
    ∧ r.2.mem ((c.tc : Thread nD τ).loc main_v87) = dl (All (W m c) (Proc.devRef .tc main_v83))) :=
  (θ_run defs _ _).mono (fun r h c => by
    exact ⟨((h c).2 main_v80 (Pipeline.mem_restRefs_of main_v80 (by decide) (by decide))).trans (tail m c main_v80),
      ((h c).2 main_v81 (Pipeline.mem_restRefs_of main_v81 (by decide) (by decide))).trans (tail m c main_v81),
      ((h c).2 main_v82 (Pipeline.mem_restRefs_of main_v82 (by decide) (by decide))).trans (tail m c main_v82),
      ((h c).2 main_v83 (Pipeline.mem_restRefs_of main_v83 (by decide) (by decide))).trans (tail m c main_v83),
      (((h c).2 main_v87 (Pipeline.mem_restRefs_of main_v87 (by decide) (by decide))).trans (tail m c main_v87)).trans (r87 _)⟩) (run_main m ρ)

end Cert.Proof.RefRead
end
-- ==== Proof.End.lean ====
/-
  The two programs leave the same results.
-/
module

public import proofs.«01_k».proof.Proof.Fin
public import proofs.«01_k».proof.Proof.KerVal
public import proofs.«01_k».proof.Proof.RefVal

@[expose] public section

noncomputable section

namespace Cert.Spec

open Cert.Grid Idealize.ShloMosaic Finset

variable (q k v g : X4) (qs ks vs gs : X2) (C : X3) (b h : ℕ) (a : ℝ) (ha : 0 ≤ a) (e : g2 gs b h * g2 vs b h = (a : EReal))
include ha e

/-- Scaling inside the sums or after them. -/
theorem scaled (T U : ℕ → ℕ) (x : ℕ → EReal) (z : EReal) :
    (∑ u ∈ range 4096, DS q k v g qs ks vs gs C b h (T u) (U u) * x u) * z
      = (∑ u ∈ range 4096, DS0 q k v g qs ks C b h (T u) (U u) * x u) * (z * (g2 gs b h * g2 vs b h)) := by
  simp only [DS_eq q k v g qs ks vs gs C b h a ha e]
  rw [e]
  exact sum_scale (fun u => DS0 q k v g qs ks C b h (T u) (U u)) x a ha z 4096

theorem summed (u : ℕ) : -(∑ t ∈ range 4096, DS q k v g qs ks vs gs C b h t u)
    = (0 - ∑ t ∈ range 4096, DS0 q k v g qs ks C b h t u) * (g2 gs b h * g2 vs b h) := by
  simp only [DS_eq q k v g qs ks vs gs C b h a ha e]
  rw [e, ← Row.sum_mul _ _ a ha, sub_eq_add_neg, zero_add, EReal.neg_mul]

end Cert.Spec

namespace Cert.Proof.End

open Cert.Grid Cert.Spec Idealize.ShloMosaic Idealize.ShloMosaic.TcCoe Idealize.ShloMosaic.StableHlo Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The two programs start from the same arguments on device `c`. -/
def Agree (c : Dev Cert.KernelIdeal.nD) : Prop :=
  RefRead.q0 (RefRead.W m' c) = KerVal.q0 m c ∧ RefRead.k0 (RefRead.W m' c) = KerVal.k0 m c ∧ RefRead.v0 (RefRead.W m' c) = KerVal.v0 m c
  ∧ RefRead.g0 (RefRead.W m' c) = KerVal.g0 m c ∧ RefRead.qs (RefRead.W m' c) = KerRead.qs (KerVal.M m c) ∧ RefRead.ks (RefRead.W m' c) = KerRead.ks (KerVal.M m c)
  ∧ RefRead.vs (RefRead.W m' c) = KerRead.vs (KerVal.M m c) ∧ RefRead.gs (RefRead.W m' c) = KerRead.gs (KerVal.M m c)
  ∧ RefRead.C0 (RefRead.W m' c) = KerVal.C0 m c

variable (c : Dev Cert.KernelIdeal.nD) (H : Agree m m' c)
  (hv : ∀ i, 0 ≤ KerRead.vs (KerVal.M m c) i ∧ Fin' (KerRead.vs (KerVal.M m c) i)) (hg : ∀ i, 0 ≤ KerRead.gs (KerVal.M m c) i ∧ Fin' (KerRead.gs (KerVal.M m c) i))

include hv hg in
theorem scale (b h : ℕ) : ∃ a : ℝ, 0 ≤ a ∧ g2 (KerRead.gs (KerVal.M m c)) b h * g2 (KerRead.vs (KerVal.M m c)) b h = (a : EReal) := by
  obtain ⟨x, hx⟩ := fin_g2 _ (fun i => (hg i).2) b h
  obtain ⟨y, hy⟩ := fin_g2 _ (fun i => (hv i).2) b h
  have h1 := nonneg_g2 _ (fun i => (hg i).1) b h
  have h2 := nonneg_g2 _ (fun i => (hv i).1) b h
  rw [hx] at h1; rw [hy] at h2
  exact ⟨x * y, mul_nonneg (by exact_mod_cast h1) (by exact_mod_cast h2), by rw [hx, hy, EReal.coe_mul]⟩

theorem k7 {b h t d : ℕ} (hb : b < 3) (hh : h < 20) (ht : t < 4096) (hd : d < 128) :
    g3 (KerVal.G7 m c) (b * 20 + h) t d = (∑ u ∈ Finset.range 4096, KerVal.DR m c b h t u * g4 (KerVal.k0 m c) b u h d) * KerRead.scl (KerVal.M m c) b h 1 := by
  refine (g3_of (KerVal.G7 m c) (show b * 20 + h < 60 by omega) ht hd).trans ?_
  have h1 : (b * 20 + h) / 20 = b := by omega
  have h2 : (b * 20 + h) % 20 = h := by omega
  change (∑ u ∈ Finset.range 4096, KerVal.DR m c ((b * 20 + h) / 20) ((b * 20 + h) % 20) t u * g4 (KerVal.k0 m c) ((b * 20 + h) / 20) u ((b * 20 + h) % 20) d)
    * KerRead.scl (KerVal.M m c) ((b * 20 + h) / 20) ((b * 20 + h) % 20) 1 = _
  rw [h1, h2]
theorem k8 {b h t d : ℕ} (hb : b < 3) (hh : h < 20) (ht : t < 4096) (hd : d < 128) :
    g3 (KerVal.G8 m c) (b * 20 + h) t d = (∑ u ∈ Finset.range 4096, KerVal.DR m c b h u t * g4 (KerVal.q0 m c) b u h d) * KerRead.scl (KerVal.M m c) b h 2 := by
  refine (g3_of (KerVal.G8 m c) (show b * 20 + h < 60 by omega) ht hd).trans ?_
  have h1 : (b * 20 + h) / 20 = b := by omega
  have h2 : (b * 20 + h) % 20 = h := by omega
  change (∑ u ∈ Finset.range 4096, KerVal.DR m c ((b * 20 + h) / 20) ((b * 20 + h) % 20) u t * g4 (KerVal.q0 m c) ((b * 20 + h) / 20) u ((b * 20 + h) % 20) d)
    * KerRead.scl (KerVal.M m c) ((b * 20 + h) / 20) ((b * 20 + h) % 20) 2 = _
  rw [h1, h2]
theorem k9 {b h t d : ℕ} (hb : b < 3) (hh : h < 20) (ht : t < 4096) (hd : d < 128) :
    g3 (KerVal.G9 m c) (b * 20 + h) t d = (∑ u ∈ Finset.range 4096, KerVal.PR m c b h u t * g4 (KerVal.g0 m c) b u h d) * KerRead.scl (KerVal.M m c) b h 3 := by
  refine (g3_of (KerVal.G9 m c) (show b * 20 + h < 60 by omega) ht hd).trans ?_
  have h1 : (b * 20 + h) / 20 = b := by omega
  have h2 : (b * 20 + h) % 20 = h := by omega
  change (∑ u ∈ Finset.range 4096, KerVal.PR m c ((b * 20 + h) / 20) ((b * 20 + h) % 20) u t * g4 (KerVal.g0 m c) ((b * 20 + h) / 20) u ((b * 20 + h) % 20) d)
    * KerRead.scl (KerVal.M m c) ((b * 20 + h) / 20) ((b * 20 + h) % 20) 3 = _
  rw [h1, h2]
theorem k10 {b h t : ℕ} (hb : b < 3) (hh : h < 20) (ht : t < 4096) :
    g3 (KerVal.G10 m c) (b * 20 + h) (t / 512) (t % 512) = (0 - ∑ u ∈ Finset.range 4096, KerVal.DR m c b h u t) * KerRead.scl (KerVal.M m c) b h 4 := by
  refine (g3_of (KerVal.G10 m c) (show b * 20 + h < 60 by omega) (show t / 512 < 8 by omega) (show t % 512 < 512 by omega)).trans ?_
  have h1 : (b * 20 + h) / 20 = b := by omega
  have h2 : (b * 20 + h) % 20 = h := by omega
  have h3 : 512 * (t / 512) + t % 512 = t := by omega
  change (0 - ∑ u ∈ Finset.range 4096, KerVal.DR m c ((b * 20 + h) / 20) ((b * 20 + h) % 20) u (512 * (t / 512) + t % 512))
    * KerRead.scl (KerVal.M m c) ((b * 20 + h) / 20) ((b * 20 + h) % 20) 4 = _
  rw [h1, h2, h3]

include H hv hg

theorem dq (y : Cert.KernelIdeal.S3x4096x20x128.Idx) :
    KerRead.w41 (after KerRead.B1 (KerVal.W m c) (Proc.devRef .tc Cert.KernelIdeal.main_v42)) y
      = RefRead.w41 (RefRead.All (RefRead.W m' c) (Proc.devRef .tc Cert.ReferenceIdeal.main_v80)) y := by
  obtain ⟨h1, h2, h3, h4, h5, h6, h7, h8, h9⟩ := H
  obtain ⟨a, ha, e⟩ := scale m c hv hg (y 0).val (y 2).val
  rw [KerRead.r42, KerVal.W0, RefRead.e80]
  refine (k7 m c (y 0).isLt (y 2).isLt (y 1).isLt (y 3).isLt).trans ?_
  simp only [RefRead.DSr, h1, h2, h3, h4, h5, h6, h7, h8, h9]
  exact (scaled _ _ _ _ _ _ _ _ _ _ _ a ha e (fun _ => (y 1).val) (fun u => u) _ _).symm
theorem dk (y : Cert.KernelIdeal.S3x4096x20x128.Idx) :
    KerRead.w41 (after KerRead.B1 (KerVal.W m c) (Proc.devRef .tc Cert.KernelIdeal.main_v44)) y
      = RefRead.w41 (RefRead.All (RefRead.W m' c) (Proc.devRef .tc Cert.ReferenceIdeal.main_v81)) y := by
  obtain ⟨h1, h2, h3, h4, h5, h6, h7, h8, h9⟩ := H
  obtain ⟨a, ha, e⟩ := scale m c hv hg (y 0).val (y 2).val
  rw [KerRead.r44, KerVal.W1, RefRead.e81]
  refine (k8 m c (y 0).isLt (y 2).isLt (y 1).isLt (y 3).isLt).trans ?_
  simp only [RefRead.DSr, h1, h2, h3, h4, h5, h6, h7, h8, h9]
  exact (scaled _ _ _ _ _ _ _ _ _ _ _ a ha e (fun u => u) (fun _ => (y 1).val) _ _).symm
theorem dv (y : Cert.KernelIdeal.S3x4096x20x128.Idx) :
    KerRead.w41 (after KerRead.B1 (KerVal.W m c) (Proc.devRef .tc Cert.KernelIdeal.main_v46)) y
      = RefRead.w41 (RefRead.All (RefRead.W m' c) (Proc.devRef .tc Cert.ReferenceIdeal.main_v82)) y := by
  obtain ⟨h1, h2, h3, h4, h5, h6, h7, h8, h9⟩ := H
  obtain ⟨a, ha, e⟩ := scale m c hv hg (y 0).val (y 2).val
  rw [KerRead.r46, KerVal.W2, RefRead.e82]
  refine (k9 m c (y 0).isLt (y 2).isLt (y 1).isLt (y 3).isLt).trans ?_
  simp only [RefRead.Pr, h1, h2, h3, h4, h5, h6, h7, h8, h9]
  rfl
theorem dc (y : Cert.KernelIdeal.S3x4096x20.Idx) :
    KerRead.w3 (after KerRead.B1 (KerVal.W m c) (Proc.devRef .tc Cert.KernelIdeal.main_v36)) y
      = RefRead.w3 (RefRead.All (RefRead.W m' c) (Proc.devRef .tc Cert.ReferenceIdeal.main_v83)) y := by
  obtain ⟨h1, h2, h3, h4, h5, h6, h7, h8, h9⟩ := H
  obtain ⟨a, ha, e⟩ := scale m c hv hg (y 0).val (y 2).val
  rw [KerRead.r36, KerVal.W3, RefRead.e83]
  refine (k10 m c (y 0).isLt (y 2).isLt (y 1).isLt).trans ?_
  simp only [RefRead.DSr, h1, h2, h3, h4, h5, h6, h7, h8, h9]
  exact (summed _ _ _ _ _ _ _ _ _ _ _ a ha e (y 1).val).symm

end Cert.Proof.End
end
-- ==== Proof.lean ====
/-
  The certificate's claims, each from its module: the frames of the kernel (at bits and over the reals) and of the
  reference, the kernel's idealization, and the equality of all five results over the reals.
-/
module

public import proofs.«01_k».proof.Defs
public import proofs.«01_k».proof.Proof.KernelFrame
public import proofs.«01_k».proof.Proof.KernelIdealFrame
public import proofs.«01_k».proof.Proof.End
public import Idealize.ShloMosaic.Lib.Claim

@[expose] public section

noncomputable section

namespace Cert.Proof

open Idealize.ShloMosaic Idealize.ShloMosaic.TcCoe Idealize.ShloMosaic.StableHlo Cert.Spec

theorem algebraic : Cert.algebraic_KernelIdeal_ReferenceIdeal_pre_finite_scales (hKernelIdeal := Cert.KernelIdeal.Gen.facts)
    (hReferenceIdeal := Cert.ReferenceIdeal.Gen.facts) (hPre_finite_scales := Cert.Spec.facts) := by
  letI := Cert.Spec.facts
  intro m g m' g' hp h
  have P c := pre _ _ _ _ _ _ _ _ _ (hp c)
  have A : ∀ c, End.Agree m m' c := fun c => by
    obtain ⟨h0, h1, h2, h3, h4, h5, h6, h7, h8⟩ := h c
    exact ⟨(RefRead.W0 m' c).trans h0, (RefRead.W2 m' c).trans h2, (RefRead.W4 m' c).trans h4, (RefRead.W6 m' c).trans h6,
      (RefRead.W1 m' c).trans h1, (RefRead.W3 m' c).trans h3, (RefRead.W5 m' c).trans h5, (RefRead.W7 m' c).trans h7,
      congrArg cum ((RefRead.W8 m' c).trans h8)⟩
  have hC c b i h : Fin' (Cert.Grid.g3 (KerVal.C0 m c) b i h) := fin_g3 _ (fin_cum _ (P c).1) b i h
  have hq c b h : Fin' (KerRead.scl (KerVal.M m c) b h 0) :=
    fin_mul (fin_mul fin_SM (fin_g2 _ (P c).2.1 b h)) (fin_g2 _ (P c).2.2.1 b h)
  have hdc c := funext (End.dc m m' c (A c) (P c).2.2.2.1 (P c).2.2.2.2)
  refine ⟨fun c => RefRead.All (RefRead.W m' c) (Proc.devRef .tc Cert.ReferenceIdeal.main_v80), fun c => RefRead.All (RefRead.W m' c) (Proc.devRef .tc Cert.ReferenceIdeal.main_v81),
    fun c => RefRead.All (RefRead.W m' c) (Proc.devRef .tc Cert.ReferenceIdeal.main_v82), fun c => RefRead.All (RefRead.W m' c) (Proc.devRef .tc Cert.ReferenceIdeal.main_v83),
    fun c => RefRead.dl (RefRead.All (RefRead.W m' c) (Proc.devRef .tc Cert.ReferenceIdeal.main_v83)), ?_, ?_⟩
  · refine (θ_run _ _ _).mono (fun r hr c => ?_) (θ_run_and (KerVal.run m g hC hq) (Cert.Proof.KernelIdeal.frame m g))
    obtain ⟨r1, r2, r3, r4, r5⟩ := hr.1 c
    exact ⟨r1.trans (funext (End.dq m m' c (A c) (P c).2.2.2.1 (P c).2.2.2.2)), r2.trans (funext (End.dk m m' c (A c) (P c).2.2.2.1 (P c).2.2.2.2)),
      r3.trans (funext (End.dv m m' c (A c) (P c).2.2.2.1 (P c).2.2.2.2)), r4.trans (hdc c), r5.trans (congrArg RefRead.dl (hdc c)), hr.2.1 c⟩
  · refine (θ_run _ _ _).mono (fun r hr c => ?_) (θ_run_and (RefRead.run m' g') (Cert.ReferenceIdeal.Gen.frame m' g'))
    obtain ⟨r1, r2, r3, r4, r5⟩ := hr.1 c
    exact ⟨r1, r2, r3, r4, r5, hr.2.1 c⟩

theorem claim : Cert.Claim :=
  ⟨Cert.Kernel.Gen.facts, Cert.KernelIdeal.Gen.facts, Cert.ReferenceIdeal.Gen.facts, Cert.Spec.facts,
    fun m ρ _ => Cert.Proof.Kernel.frame m ρ, fun m ρ _ => Cert.Proof.KernelIdeal.frame m ρ, fun m ρ _ => Cert.Proof.KernelIdeal.frame m ρ,
    fun m ρ _ => Cert.ReferenceIdeal.Gen.frame m ρ, fun m ρ _ => Cert.ReferenceIdeal.Gen.frame m ρ,
    ⟨IdealRules.named_const.statement _ _ _ _ _ rfl, IdealRules.named_const.statement _ _ _ _ _ rfl⟩, algebraic⟩

end Cert.Proof

end
